-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjRefIdeal (m : (ℓ : Loc Cert.UpProjRefIdeal.nD Cert.UpProjRefIdeal.τ Cert.UpProjRefIdeal.sig) → Buf (Elt Ideal) ℓ) : Prop :=
  True

def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownBwdRefIdeal (m : (ℓ : Loc Cert.DownBwdRefIdeal.nD Cert.DownBwdRefIdeal.τ Cert.DownBwdRefIdeal.sig) → Buf (Elt Ideal) ℓ) : Prop :=
  True

def Pre_DownWgrad (m : (ℓ : Loc Cert.DownWgrad.nD Cert.DownWgrad.τ Cert.DownWgrad.sig) → Buf (Elt Bits) ℓ) : Prop :=
  True

def Pre_DownWgradIdeal (m : (ℓ : Loc Cert.DownWgradIdeal.nD Cert.DownWgradIdeal.τ Cert.DownWgradIdeal.sig) → Buf (Elt Ideal) ℓ) : Prop :=
  True

def Pre_DownWgradRefIdeal (m : (ℓ : Loc Cert.DownWgradRefIdeal.nD Cert.DownWgradRefIdeal.τ Cert.DownWgradRefIdeal.sig) → Buf (Elt Ideal) ℓ) : Prop :=
  True

def Pre_UpWgrad (m : (ℓ : Loc Cert.UpWgrad.nD Cert.UpWgrad.τ Cert.UpWgrad.sig) → Buf (Elt Bits) ℓ) : Prop :=
  True

def Pre_UpWgradIdeal (m : (ℓ : Loc Cert.UpWgradIdeal.nD Cert.UpWgradIdeal.τ Cert.UpWgradIdeal.sig) → Buf (Elt Ideal) ℓ) : Prop :=
  True

def Pre_UpWgradRefIdeal (m : (ℓ : Loc Cert.UpWgradRefIdeal.nD Cert.UpWgradRefIdeal.τ Cert.UpWgradRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_OutWgrad (m : (ℓ : Loc Cert.OutWgrad.nD Cert.OutWgrad.τ Cert.OutWgrad.sig) → Buf (Elt Bits) ℓ) : Prop :=
  True

def Pre_OutWgradIdeal (m : (ℓ : Loc Cert.OutWgradIdeal.nD Cert.OutWgradIdeal.τ Cert.OutWgradIdeal.sig) → Buf (Elt Ideal) ℓ) : Prop :=
  True

def Pre_OutWgradRefIdeal (m : (ℓ : Loc Cert.OutWgradRefIdeal.nD Cert.OutWgradRefIdeal.τ Cert.OutWgradRefIdeal.sig) → Buf (Elt Ideal) ℓ) : Prop :=
  True

def Pre_InWgrad (m : (ℓ : Loc Cert.InWgrad.nD Cert.InWgrad.τ Cert.InWgrad.sig) → Buf (Elt Bits) ℓ) : Prop :=
  True

def Pre_InWgradIdeal (m : (ℓ : Loc Cert.InWgradIdeal.nD Cert.InWgradIdeal.τ Cert.InWgradIdeal.sig) → Buf (Elt Ideal) ℓ) : Prop :=
  True

def Pre_InWgradRefIdeal (m : (ℓ : Loc Cert.InWgradRefIdeal.nD Cert.InWgradRefIdeal.τ Cert.InWgradRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjRefIdeal (m : (ℓ : Loc Cert.DownProjRefIdeal.nD Cert.DownProjRefIdeal.τ Cert.DownProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_AdaStep (m : (ℓ : Loc Cert.AdaStep.nD Cert.AdaStep.τ Cert.AdaStep.sig) → Buf (Elt Bits) ℓ) : Prop :=
  True

def Pre_AdaStepIdeal (m : (ℓ : Loc Cert.AdaStepIdeal.nD Cert.AdaStepIdeal.τ Cert.AdaStepIdeal.sig) → Buf (Elt Ideal) ℓ) : Prop :=
  True

def Pre_AdaStepRefIdeal (m : (ℓ : Loc Cert.AdaStepRefIdeal.nD Cert.AdaStepRefIdeal.τ Cert.AdaStepRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ r.2.sem = fun _ => 0)

def quiescent_UpProjRefIdeal [hUpProjRefIdeal : Cert.UpProjRefIdeal.Facts] : Prop :=
  ∀ (m : (ℓ : Loc Cert.UpProjRefIdeal.nD Cert.UpProjRefIdeal.τ Cert.UpProjRefIdeal.sig) → Buf (Elt Ideal) ℓ) (g : Dev Cert.UpProjRefIdeal.nD → PrngReg), Pre_UpProjRefIdeal m →
    θ_run (Cert.UpProjRefIdeal.defs (F := Ideal)) (onTc (τ := Cert.UpProjRefIdeal.τ) (Cert.UpProjRefIdeal.main (F := Ideal))) ⟨m, fun _ => 0, g⟩ (fun r => (∀ c : Dev Cert.UpProjRefIdeal.nD,
      r.2.mem ((c.tc : Thread Cert.UpProjRefIdeal.nD Cert.UpProjRefIdeal.τ).loc Cert.UpProjRefIdeal.main_arg0) = m ((c.tc : Thread Cert.UpProjRefIdeal.nD Cert.UpProjRefIdeal.τ).loc Cert.UpProjRefIdeal.main_arg0)
      ∧ r.2.mem ((c.tc : Thread Cert.UpProjRefIdeal.nD Cert.UpProjRefIdeal.τ).loc Cert.UpProjRefIdeal.main_arg1) = m ((c.tc : Thread Cert.UpProjRefIdeal.nD Cert.UpProjRefIdeal.τ).loc Cert.UpProjRefIdeal.main_arg1))
      ∧ r.2.sem = fun _ => 0)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1)
      ∧ r.2.mem ((c.tc : Thread Cert.DownBwd.nD Cert.DownBwd.τ).loc Cert.DownBwd.main_arg2) = m ((c.tc : Thread Cert.DownBwd.nD Cert.DownBwd.τ).loc Cert.DownBwd.main_arg2))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2))
      ∧ r.2.sem = fun _ => 0)

def quiescent_DownBwdRefIdeal [hDownBwdRefIdeal : Cert.DownBwdRefIdeal.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1)
      ∧ r.2.mem ((c.tc : Thread Cert.DownBwdRefIdeal.nD Cert.DownBwdRefIdeal.τ).loc Cert.DownBwdRefIdeal.main_arg2) = m ((c.tc : Thread Cert.DownBwdRefIdeal.nD Cert.DownBwdRefIdeal.τ).loc Cert.DownBwdRefIdeal.main_arg2))
      ∧ r.2.sem = fun _ => 0)

def quiescent_DownWgrad [hDownWgrad : Cert.DownWgrad.Facts] : Prop :=
  ∀ (m : (ℓ : Loc Cert.DownWgrad.nD Cert.DownWgrad.τ Cert.DownWgrad.sig) → Buf (Elt Bits) ℓ) (g : Dev Cert.DownWgrad.nD → PrngReg), Pre_DownWgrad m →
    θ_run (Cert.DownWgrad.defs (F := Bits)) (onTc (τ := Cert.DownWgrad.τ) (Cert.DownWgrad.main (F := Bits))) ⟨m, fun _ => 0, g⟩ (fun r => (∀ c : Dev Cert.DownWgrad.nD,
      r.2.mem ((c.tc : Thread Cert.DownWgrad.nD Cert.DownWgrad.τ).loc Cert.DownWgrad.main_arg0) = m ((c.tc : Thread Cert.DownWgrad.nD Cert.DownWgrad.τ).loc Cert.DownWgrad.main_arg0)
      ∧ r.2.mem ((c.tc : Thread Cert.DownWgrad.nD Cert.DownWgrad.τ).loc Cert.DownWgrad.main_arg1) = m ((c.tc : Thread Cert.DownWgrad.nD Cert.DownWgrad.τ).loc Cert.DownWgrad.main_arg1))
      ∧ r.2.sem = fun _ => 0)

def quiescent_DownWgradIdeal [hDownWgradIdeal : Cert.DownWgradIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg), Pre_DownWgradIdeal m →
    θ_run (Cert.DownWgradIdeal.defs (F := Ideal)) (onTc (τ := Cert.DownWgradIdeal.τ) (Cert.DownWgradIdeal.main (F := Ideal))) ⟨m, fun _ => 0, g⟩ (fun r => (∀ c : Dev Cert.DownWgradIdeal.nD,
      r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
      ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1))
      ∧ r.2.sem = fun _ => 0)

def quiescent_DownWgradRefIdeal [hDownWgradRefIdeal : Cert.DownWgradRefIdeal.Facts] : Prop :=
  ∀ (m : (ℓ : Loc Cert.DownWgradRefIdeal.nD Cert.DownWgradRefIdeal.τ Cert.DownWgradRefIdeal.sig) → Buf (Elt Ideal) ℓ) (g : Dev Cert.DownWgradRefIdeal.nD → PrngReg), Pre_DownWgradRefIdeal m →
    θ_run (Cert.DownWgradRefIdeal.defs (F := Ideal)) (onTc (τ := Cert.DownWgradRefIdeal.τ) (Cert.DownWgradRefIdeal.main (F := Ideal))) ⟨m, fun _ => 0, g⟩ (fun r => (∀ c : Dev Cert.DownWgradRefIdeal.nD,
      r.2.mem ((c.tc : Thread Cert.DownWgradRefIdeal.nD Cert.DownWgradRefIdeal.τ).loc Cert.DownWgradRefIdeal.main_arg0) = m ((c.tc : Thread Cert.DownWgradRefIdeal.nD Cert.DownWgradRefIdeal.τ).loc Cert.DownWgradRefIdeal.main_arg0)
      ∧ r.2.mem ((c.tc : Thread Cert.DownWgradRefIdeal.nD Cert.DownWgradRefIdeal.τ).loc Cert.DownWgradRefIdeal.main_arg1) = m ((c.tc : Thread Cert.DownWgradRefIdeal.nD Cert.DownWgradRefIdeal.τ).loc Cert.DownWgradRefIdeal.main_arg1))
      ∧ r.2.sem = fun _ => 0)

def quiescent_UpWgrad [hUpWgrad : Cert.UpWgrad.Facts] : Prop :=
  ∀ (m : (ℓ : Loc Cert.UpWgrad.nD Cert.UpWgrad.τ Cert.UpWgrad.sig) → Buf (Elt Bits) ℓ) (g : Dev Cert.UpWgrad.nD → PrngReg), Pre_UpWgrad m →
    θ_run (Cert.UpWgrad.defs (F := Bits)) (onTc (τ := Cert.UpWgrad.τ) (Cert.UpWgrad.main (F := Bits))) ⟨m, fun _ => 0, g⟩ (fun r => (∀ c : Dev Cert.UpWgrad.nD,
      r.2.mem ((c.tc : Thread Cert.UpWgrad.nD Cert.UpWgrad.τ).loc Cert.UpWgrad.main_arg0) = m ((c.tc : Thread Cert.UpWgrad.nD Cert.UpWgrad.τ).loc Cert.UpWgrad.main_arg0)
      ∧ r.2.mem ((c.tc : Thread Cert.UpWgrad.nD Cert.UpWgrad.τ).loc Cert.UpWgrad.main_arg1) = m ((c.tc : Thread Cert.UpWgrad.nD Cert.UpWgrad.τ).loc Cert.UpWgrad.main_arg1))
      ∧ r.2.sem = fun _ => 0)

def quiescent_UpWgradIdeal [hUpWgradIdeal : Cert.UpWgradIdeal.Facts] : Prop :=
  ∀ (m : (ℓ : Loc Cert.UpWgradIdeal.nD Cert.UpWgradIdeal.τ Cert.UpWgradIdeal.sig) → Buf (Elt Ideal) ℓ) (g : Dev Cert.UpWgradIdeal.nD → PrngReg), Pre_UpWgradIdeal m →
    θ_run (Cert.UpWgradIdeal.defs (F := Ideal)) (onTc (τ := Cert.UpWgradIdeal.τ) (Cert.UpWgradIdeal.main (F := Ideal))) ⟨m, fun _ => 0, g⟩ (fun r => (∀ c : Dev Cert.UpWgradIdeal.nD,
      r.2.mem ((c.tc : Thread Cert.UpWgradIdeal.nD Cert.UpWgradIdeal.τ).loc Cert.UpWgradIdeal.main_arg0) = m ((c.tc : Thread Cert.UpWgradIdeal.nD Cert.UpWgradIdeal.τ).loc Cert.UpWgradIdeal.main_arg0)
      ∧ r.2.mem ((c.tc : Thread Cert.UpWgradIdeal.nD Cert.UpWgradIdeal.τ).loc Cert.UpWgradIdeal.main_arg1) = m ((c.tc : Thread Cert.UpWgradIdeal.nD Cert.UpWgradIdeal.τ).loc Cert.UpWgradIdeal.main_arg1))
      ∧ r.2.sem = fun _ => 0)

def quiescent_UpWgradRefIdeal [hUpWgradRefIdeal : Cert.UpWgradRefIdeal.Facts] : Prop :=
  ∀ (m : (ℓ : Loc Cert.UpWgradRefIdeal.nD Cert.UpWgradRefIdeal.τ Cert.UpWgradRefIdeal.sig) → Buf (Elt Ideal) ℓ) (g : Dev Cert.UpWgradRefIdeal.nD → PrngReg), Pre_UpWgradRefIdeal m →
    θ_run (Cert.UpWgradRefIdeal.defs (F := Ideal)) (onTc (τ := Cert.UpWgradRefIdeal.τ) (Cert.UpWgradRefIdeal.main (F := Ideal))) ⟨m, fun _ => 0, g⟩ (fun r => (∀ c : Dev Cert.UpWgradRefIdeal.nD,
      r.2.mem ((c.tc : Thread Cert.UpWgradRefIdeal.nD Cert.UpWgradRefIdeal.τ).loc Cert.UpWgradRefIdeal.main_arg0) = m ((c.tc : Thread Cert.UpWgradRefIdeal.nD Cert.UpWgradRefIdeal.τ).loc Cert.UpWgradRefIdeal.main_arg0)
      ∧ r.2.mem ((c.tc : Thread Cert.UpWgradRefIdeal.nD Cert.UpWgradRefIdeal.τ).loc Cert.UpWgradRefIdeal.main_arg1) = m ((c.tc : Thread Cert.UpWgradRefIdeal.nD Cert.UpWgradRefIdeal.τ).loc Cert.UpWgradRefIdeal.main_arg1))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1))
      ∧ r.2.sem = fun _ => 0)

def quiescent_OutWgrad [hOutWgrad : Cert.OutWgrad.Facts] : Prop :=
  ∀ (m : (ℓ : Loc Cert.OutWgrad.nD Cert.OutWgrad.τ Cert.OutWgrad.sig) → Buf (Elt Bits) ℓ) (g : Dev Cert.OutWgrad.nD → PrngReg), Pre_OutWgrad m →
    θ_run (Cert.OutWgrad.defs (F := Bits)) (onTc (τ := Cert.OutWgrad.τ) (Cert.OutWgrad.main (F := Bits))) ⟨m, fun _ => 0, g⟩ (fun r => (∀ c : Dev Cert.OutWgrad.nD,
      r.2.mem ((c.tc : Thread Cert.OutWgrad.nD Cert.OutWgrad.τ).loc Cert.OutWgrad.main_arg0) = m ((c.tc : Thread Cert.OutWgrad.nD Cert.OutWgrad.τ).loc Cert.OutWgrad.main_arg0)
      ∧ r.2.mem ((c.tc : Thread Cert.OutWgrad.nD Cert.OutWgrad.τ).loc Cert.OutWgrad.main_arg1) = m ((c.tc : Thread Cert.OutWgrad.nD Cert.OutWgrad.τ).loc Cert.OutWgrad.main_arg1))
      ∧ r.2.sem = fun _ => 0)

def quiescent_OutWgradIdeal [hOutWgradIdeal : Cert.OutWgradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg), Pre_OutWgradIdeal m →
    θ_run (Cert.OutWgradIdeal.defs (F := Ideal)) (onTc (τ := Cert.OutWgradIdeal.τ) (Cert.OutWgradIdeal.main (F := Ideal))) ⟨m, fun _ => 0, g⟩ (fun r => (∀ c : Dev Cert.OutWgradIdeal.nD,
      r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
      ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ r.2.sem = fun _ => 0)

def quiescent_OutWgradRefIdeal [hOutWgradRefIdeal : Cert.OutWgradRefIdeal.Facts] : Prop :=
  ∀ (m : (ℓ : Loc Cert.OutWgradRefIdeal.nD Cert.OutWgradRefIdeal.τ Cert.OutWgradRefIdeal.sig) → Buf (Elt Ideal) ℓ) (g : Dev Cert.OutWgradRefIdeal.nD → PrngReg), Pre_OutWgradRefIdeal m →
    θ_run (Cert.OutWgradRefIdeal.defs (F := Ideal)) (onTc (τ := Cert.OutWgradRefIdeal.τ) (Cert.OutWgradRefIdeal.main (F := Ideal))) ⟨m, fun _ => 0, g⟩ (fun r => (∀ c : Dev Cert.OutWgradRefIdeal.nD,
      r.2.mem ((c.tc : Thread Cert.OutWgradRefIdeal.nD Cert.OutWgradRefIdeal.τ).loc Cert.OutWgradRefIdeal.main_arg0) = m ((c.tc : Thread Cert.OutWgradRefIdeal.nD Cert.OutWgradRefIdeal.τ).loc Cert.OutWgradRefIdeal.main_arg0)
      ∧ r.2.mem ((c.tc : Thread Cert.OutWgradRefIdeal.nD Cert.OutWgradRefIdeal.τ).loc Cert.OutWgradRefIdeal.main_arg1) = m ((c.tc : Thread Cert.OutWgradRefIdeal.nD Cert.OutWgradRefIdeal.τ).loc Cert.OutWgradRefIdeal.main_arg1))
      ∧ r.2.sem = fun _ => 0)

def quiescent_InWgrad [hInWgrad : Cert.InWgrad.Facts] : Prop :=
  ∀ (m : (ℓ : Loc Cert.InWgrad.nD Cert.InWgrad.τ Cert.InWgrad.sig) → Buf (Elt Bits) ℓ) (g : Dev Cert.InWgrad.nD → PrngReg), Pre_InWgrad m →
    θ_run (Cert.InWgrad.defs (F := Bits)) (onTc (τ := Cert.InWgrad.τ) (Cert.InWgrad.main (F := Bits))) ⟨m, fun _ => 0, g⟩ (fun r => (∀ c : Dev Cert.InWgrad.nD,
      r.2.mem ((c.tc : Thread Cert.InWgrad.nD Cert.InWgrad.τ).loc Cert.InWgrad.main_arg0) = m ((c.tc : Thread Cert.InWgrad.nD Cert.InWgrad.τ).loc Cert.InWgrad.main_arg0)
      ∧ r.2.mem ((c.tc : Thread Cert.InWgrad.nD Cert.InWgrad.τ).loc Cert.InWgrad.main_arg1) = m ((c.tc : Thread Cert.InWgrad.nD Cert.InWgrad.τ).loc Cert.InWgrad.main_arg1))
      ∧ r.2.sem = fun _ => 0)

def quiescent_InWgradIdeal [hInWgradIdeal : Cert.InWgradIdeal.Facts] : Prop :=
  ∀ (m : (ℓ : Loc Cert.InWgradIdeal.nD Cert.InWgradIdeal.τ Cert.InWgradIdeal.sig) → Buf (Elt Ideal) ℓ) (g : Dev Cert.InWgradIdeal.nD → PrngReg), Pre_InWgradIdeal m →
    θ_run (Cert.InWgradIdeal.defs (F := Ideal)) (onTc (τ := Cert.InWgradIdeal.τ) (Cert.InWgradIdeal.main (F := Ideal))) ⟨m, fun _ => 0, g⟩ (fun r => (∀ c : Dev Cert.InWgradIdeal.nD,
      r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
      ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1))
      ∧ r.2.sem = fun _ => 0)

def quiescent_InWgradRefIdeal [hInWgradRefIdeal : Cert.InWgradRefIdeal.Facts] : Prop :=
  ∀ (m : (ℓ : Loc Cert.InWgradRefIdeal.nD Cert.InWgradRefIdeal.τ Cert.InWgradRefIdeal.sig) → Buf (Elt Ideal) ℓ) (g : Dev Cert.InWgradRefIdeal.nD → PrngReg), Pre_InWgradRefIdeal m →
    θ_run (Cert.InWgradRefIdeal.defs (F := Ideal)) (onTc (τ := Cert.InWgradRefIdeal.τ) (Cert.InWgradRefIdeal.main (F := Ideal))) ⟨m, fun _ => 0, g⟩ (fun r => (∀ c : Dev Cert.InWgradRefIdeal.nD,
      r.2.mem ((c.tc : Thread Cert.InWgradRefIdeal.nD Cert.InWgradRefIdeal.τ).loc Cert.InWgradRefIdeal.main_arg0) = m ((c.tc : Thread Cert.InWgradRefIdeal.nD Cert.InWgradRefIdeal.τ).loc Cert.InWgradRefIdeal.main_arg0)
      ∧ r.2.mem ((c.tc : Thread Cert.InWgradRefIdeal.nD Cert.InWgradRefIdeal.τ).loc Cert.InWgradRefIdeal.main_arg1) = m ((c.tc : Thread Cert.InWgradRefIdeal.nD Cert.InWgradRefIdeal.τ).loc Cert.InWgradRefIdeal.main_arg1))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1)
      ∧ r.2.mem ((c.tc : Thread Cert.DownProj.nD Cert.DownProj.τ).loc Cert.DownProj.main_arg2) = m ((c.tc : Thread Cert.DownProj.nD Cert.DownProj.τ).loc Cert.DownProj.main_arg2)
      ∧ r.2.mem ((c.tc : Thread Cert.DownProj.nD Cert.DownProj.τ).loc Cert.DownProj.main_arg3) = m ((c.tc : Thread Cert.DownProj.nD Cert.DownProj.τ).loc Cert.DownProj.main_arg3)
      ∧ r.2.mem ((c.tc : Thread Cert.DownProj.nD Cert.DownProj.τ).loc Cert.DownProj.main_arg4) = m ((c.tc : Thread Cert.DownProj.nD Cert.DownProj.τ).loc Cert.DownProj.main_arg4)
      ∧ r.2.mem ((c.tc : Thread Cert.DownProj.nD Cert.DownProj.τ).loc Cert.DownProj.main_arg5) = m ((c.tc : Thread Cert.DownProj.nD Cert.DownProj.τ).loc Cert.DownProj.main_arg5))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2)
      ∧ r.2.mem ((c.tc : Thread Cert.DownProjIdeal.nD Cert.DownProjIdeal.τ).loc Cert.DownProjIdeal.main_arg3) = m ((c.tc : Thread Cert.DownProjIdeal.nD Cert.DownProjIdeal.τ).loc Cert.DownProjIdeal.main_arg3)
      ∧ r.2.mem ((c.tc : Thread Cert.DownProjIdeal.nD Cert.DownProjIdeal.τ).loc Cert.DownProjIdeal.main_arg4) = m ((c.tc : Thread Cert.DownProjIdeal.nD Cert.DownProjIdeal.τ).loc Cert.DownProjIdeal.main_arg4)
      ∧ r.2.mem ((c.tc : Thread Cert.DownProjIdeal.nD Cert.DownProjIdeal.τ).loc Cert.DownProjIdeal.main_arg5) = m ((c.tc : Thread Cert.DownProjIdeal.nD Cert.DownProjIdeal.τ).loc Cert.DownProjIdeal.main_arg5))
      ∧ r.2.sem = fun _ => 0)

def quiescent_DownProjRefIdeal [hDownProjRefIdeal : Cert.DownProjRefIdeal.Facts] : Prop :=
  ∀ (m : (ℓ : Loc Cert.DownProjRefIdeal.nD Cert.DownProjRefIdeal.τ Cert.DownProjRefIdeal.sig) → Buf (Elt Ideal) ℓ) (g : Dev Cert.DownProjRefIdeal.nD → PrngReg), Pre_DownProjRefIdeal m →
    θ_run (Cert.DownProjRefIdeal.defs (F := Ideal)) (onTc (τ := Cert.DownProjRefIdeal.τ) (Cert.DownProjRefIdeal.main (F := Ideal))) ⟨m, fun _ => 0, g⟩ (fun r => (∀ c : Dev Cert.DownProjRefIdeal.nD,
      r.2.mem ((c.tc : Thread Cert.DownProjRefIdeal.nD Cert.DownProjRefIdeal.τ).loc Cert.DownProjRefIdeal.main_arg0) = m ((c.tc : Thread Cert.DownProjRefIdeal.nD Cert.DownProjRefIdeal.τ).loc Cert.DownProjRefIdeal.main_arg0)
      ∧ r.2.mem ((c.tc : Thread Cert.DownProjRefIdeal.nD Cert.DownProjRefIdeal.τ).loc Cert.DownProjRefIdeal.main_arg1) = m ((c.tc : Thread Cert.DownProjRefIdeal.nD Cert.DownProjRefIdeal.τ).loc Cert.DownProjRefIdeal.main_arg1)
      ∧ r.2.mem ((c.tc : Thread Cert.DownProjRefIdeal.nD Cert.DownProjRefIdeal.τ).loc Cert.DownProjRefIdeal.main_arg2) = m ((c.tc : Thread Cert.DownProjRefIdeal.nD Cert.DownProjRefIdeal.τ).loc Cert.DownProjRefIdeal.main_arg2)
      ∧ r.2.mem ((c.tc : Thread Cert.DownProjRefIdeal.nD Cert.DownProjRefIdeal.τ).loc Cert.DownProjRefIdeal.main_arg3) = m ((c.tc : Thread Cert.DownProjRefIdeal.nD Cert.DownProjRefIdeal.τ).loc Cert.DownProjRefIdeal.main_arg3)
      ∧ r.2.mem ((c.tc : Thread Cert.DownProjRefIdeal.nD Cert.DownProjRefIdeal.τ).loc Cert.DownProjRefIdeal.main_arg4) = m ((c.tc : Thread Cert.DownProjRefIdeal.nD Cert.DownProjRefIdeal.τ).loc Cert.DownProjRefIdeal.main_arg4)
      ∧ r.2.mem ((c.tc : Thread Cert.DownProjRefIdeal.nD Cert.DownProjRefIdeal.τ).loc Cert.DownProjRefIdeal.main_arg5) = m ((c.tc : Thread Cert.DownProjRefIdeal.nD Cert.DownProjRefIdeal.τ).loc Cert.DownProjRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def quiescent_AdaStep [hAdaStep : Cert.AdaStep.Facts] : Prop :=
  ∀ (m : (ℓ : Loc Cert.AdaStep.nD Cert.AdaStep.τ Cert.AdaStep.sig) → Buf (Elt Bits) ℓ) (g : Dev Cert.AdaStep.nD → PrngReg), Pre_AdaStep m →
    θ_run (Cert.AdaStep.defs (F := Bits)) (onTc (τ := Cert.AdaStep.τ) (Cert.AdaStep.main (F := Bits))) ⟨m, fun _ => 0, g⟩ (fun r => (∀ c : Dev Cert.AdaStep.nD,
      r.2.mem ((c.tc : Thread Cert.AdaStep.nD Cert.AdaStep.τ).loc Cert.AdaStep.main_arg0) = m ((c.tc : Thread Cert.AdaStep.nD Cert.AdaStep.τ).loc Cert.AdaStep.main_arg0)
      ∧ r.2.mem ((c.tc : Thread Cert.AdaStep.nD Cert.AdaStep.τ).loc Cert.AdaStep.main_arg1) = m ((c.tc : Thread Cert.AdaStep.nD Cert.AdaStep.τ).loc Cert.AdaStep.main_arg1)
      ∧ r.2.mem ((c.tc : Thread Cert.AdaStep.nD Cert.AdaStep.τ).loc Cert.AdaStep.main_arg2) = m ((c.tc : Thread Cert.AdaStep.nD Cert.AdaStep.τ).loc Cert.AdaStep.main_arg2)
      ∧ r.2.mem ((c.tc : Thread Cert.AdaStep.nD Cert.AdaStep.τ).loc Cert.AdaStep.main_arg3) = m ((c.tc : Thread Cert.AdaStep.nD Cert.AdaStep.τ).loc Cert.AdaStep.main_arg3)
      ∧ r.2.mem ((c.tc : Thread Cert.AdaStep.nD Cert.AdaStep.τ).loc Cert.AdaStep.main_arg4) = m ((c.tc : Thread Cert.AdaStep.nD Cert.AdaStep.τ).loc Cert.AdaStep.main_arg4))
      ∧ r.2.sem = fun _ => 0)

def quiescent_AdaStepIdeal [hAdaStepIdeal : Cert.AdaStepIdeal.Facts] : Prop :=
  ∀ (m : (ℓ : Loc Cert.AdaStepIdeal.nD Cert.AdaStepIdeal.τ Cert.AdaStepIdeal.sig) → Buf (Elt Ideal) ℓ) (g : Dev Cert.AdaStepIdeal.nD → PrngReg), Pre_AdaStepIdeal m →
    θ_run (Cert.AdaStepIdeal.defs (F := Ideal)) (onTc (τ := Cert.AdaStepIdeal.τ) (Cert.AdaStepIdeal.main (F := Ideal))) ⟨m, fun _ => 0, g⟩ (fun r => (∀ c : Dev Cert.AdaStepIdeal.nD,
      r.2.mem ((c.tc : Thread Cert.AdaStepIdeal.nD Cert.AdaStepIdeal.τ).loc Cert.AdaStepIdeal.main_arg0) = m ((c.tc : Thread Cert.AdaStepIdeal.nD Cert.AdaStepIdeal.τ).loc Cert.AdaStepIdeal.main_arg0)
      ∧ r.2.mem ((c.tc : Thread Cert.AdaStepIdeal.nD Cert.AdaStepIdeal.τ).loc Cert.AdaStepIdeal.main_arg1) = m ((c.tc : Thread Cert.AdaStepIdeal.nD Cert.AdaStepIdeal.τ).loc Cert.AdaStepIdeal.main_arg1)
      ∧ r.2.mem ((c.tc : Thread Cert.AdaStepIdeal.nD Cert.AdaStepIdeal.τ).loc Cert.AdaStepIdeal.main_arg2) = m ((c.tc : Thread Cert.AdaStepIdeal.nD Cert.AdaStepIdeal.τ).loc Cert.AdaStepIdeal.main_arg2)
      ∧ r.2.mem ((c.tc : Thread Cert.AdaStepIdeal.nD Cert.AdaStepIdeal.τ).loc Cert.AdaStepIdeal.main_arg3) = m ((c.tc : Thread Cert.AdaStepIdeal.nD Cert.AdaStepIdeal.τ).loc Cert.AdaStepIdeal.main_arg3)
      ∧ r.2.mem ((c.tc : Thread Cert.AdaStepIdeal.nD Cert.AdaStepIdeal.τ).loc Cert.AdaStepIdeal.main_arg4) = m ((c.tc : Thread Cert.AdaStepIdeal.nD Cert.AdaStepIdeal.τ).loc Cert.AdaStepIdeal.main_arg4))
      ∧ r.2.sem = fun _ => 0)

def quiescent_AdaStepRefIdeal [hAdaStepRefIdeal : Cert.AdaStepRefIdeal.Facts] : Prop :=
  ∀ (m : (ℓ : Loc Cert.AdaStepRefIdeal.nD Cert.AdaStepRefIdeal.τ Cert.AdaStepRefIdeal.sig) → Buf (Elt Ideal) ℓ) (g : Dev Cert.AdaStepRefIdeal.nD → PrngReg), Pre_AdaStepRefIdeal m →
    θ_run (Cert.AdaStepRefIdeal.defs (F := Ideal)) (onTc (τ := Cert.AdaStepRefIdeal.τ) (Cert.AdaStepRefIdeal.main (F := Ideal))) ⟨m, fun _ => 0, g⟩ (fun r => (∀ c : Dev Cert.AdaStepRefIdeal.nD,
      r.2.mem ((c.tc : Thread Cert.AdaStepRefIdeal.nD Cert.AdaStepRefIdeal.τ).loc Cert.AdaStepRefIdeal.main_arg0) = m ((c.tc : Thread Cert.AdaStepRefIdeal.nD Cert.AdaStepRefIdeal.τ).loc Cert.AdaStepRefIdeal.main_arg0)
      ∧ r.2.mem ((c.tc : Thread Cert.AdaStepRefIdeal.nD Cert.AdaStepRefIdeal.τ).loc Cert.AdaStepRefIdeal.main_arg1) = m ((c.tc : Thread Cert.AdaStepRefIdeal.nD Cert.AdaStepRefIdeal.τ).loc Cert.AdaStepRefIdeal.main_arg1)
      ∧ r.2.mem ((c.tc : Thread Cert.AdaStepRefIdeal.nD Cert.AdaStepRefIdeal.τ).loc Cert.AdaStepRefIdeal.main_arg2) = m ((c.tc : Thread Cert.AdaStepRefIdeal.nD Cert.AdaStepRefIdeal.τ).loc Cert.AdaStepRefIdeal.main_arg2)
      ∧ r.2.mem ((c.tc : Thread Cert.AdaStepRefIdeal.nD Cert.AdaStepRefIdeal.τ).loc Cert.AdaStepRefIdeal.main_arg3) = m ((c.tc : Thread Cert.AdaStepRefIdeal.nD Cert.AdaStepRefIdeal.τ).loc Cert.AdaStepRefIdeal.main_arg3)
      ∧ r.2.mem ((c.tc : Thread Cert.AdaStepRefIdeal.nD Cert.AdaStepRefIdeal.τ).loc Cert.AdaStepRefIdeal.main_arg4) = m ((c.tc : Thread Cert.AdaStepRefIdeal.nD Cert.AdaStepRefIdeal.τ).loc Cert.AdaStepRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v248_0)) (v1 : (c : Dev Cert.KernelIdeal.nD) → Buf (Elt Ideal) ((c.tc : Thread Cert.KernelIdeal.nD Cert.KernelIdeal.τ).loc Cert.KernelIdeal.main_v248_1)) (v2 : (c : Dev Cert.KernelIdeal.nD) → Buf (Elt Ideal) ((c.tc : Thread Cert.KernelIdeal.nD Cert.KernelIdeal.τ).loc Cert.KernelIdeal.main_v248_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v248_0) = v0 c
          ∧ r.2.mem ((c.tc : Thread Cert.KernelIdeal.nD Cert.KernelIdeal.τ).loc Cert.KernelIdeal.main_v248_1) = v1 c
          ∧ r.2.mem ((c.tc : Thread Cert.KernelIdeal.nD Cert.KernelIdeal.τ).loc Cert.KernelIdeal.main_v248_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v318) = v0 c
          ∧ r.2.mem ((c.tc : Thread Cert.ReferenceIdeal.nD Cert.ReferenceIdeal.τ).loc Cert.ReferenceIdeal.main_v212) = v1 c
          ∧ r.2.mem ((c.tc : Thread Cert.ReferenceIdeal.nD Cert.ReferenceIdeal.τ).loc Cert.ReferenceIdeal.main_v273) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_UpProj_UpProjIdeal : Prop :=
  True

def algebraic_UpProjIdeal_UpProjRefIdeal [hUpProjIdeal : Cert.UpProjIdeal.Facts] [hUpProjRefIdeal : Cert.UpProjRefIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjRefIdeal.nD Cert.UpProjRefIdeal.τ Cert.UpProjRefIdeal.sig) → Buf (Elt Ideal) ℓ) (g' : Dev Cert.UpProjRefIdeal.nD → PrngReg), Pre_UpProjIdeal m →
    (∀ c : Dev Cert.UpProjIdeal.nD,
      m' ((c.tc : Thread Cert.UpProjRefIdeal.nD Cert.UpProjRefIdeal.τ).loc Cert.UpProjRefIdeal.main_arg0) = m ((c.tc : Thread Cert.UpProjIdeal.nD Cert.UpProjIdeal.τ).loc Cert.UpProjIdeal.main_arg0)
      ∧ m' ((c.tc : Thread Cert.UpProjRefIdeal.nD Cert.UpProjRefIdeal.τ).loc Cert.UpProjRefIdeal.main_arg1) = m ((c.tc : Thread Cert.UpProjIdeal.nD Cert.UpProjIdeal.τ).loc Cert.UpProjIdeal.main_arg1)) →
    ∃ (v0 : (c : Dev Cert.UpProjIdeal.nD) → Buf (Elt Ideal) ((c.tc : Thread Cert.UpProjIdeal.nD Cert.UpProjIdeal.τ).loc Cert.UpProjIdeal.main_v4)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v4) = v0 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ θ_run (Cert.UpProjRefIdeal.defs (F := Ideal)) (onTc (τ := Cert.UpProjRefIdeal.τ) (Cert.UpProjRefIdeal.main (F := Ideal))) ⟨m', fun _ => 0, g'⟩ (fun r => ∀ c : Dev Cert.UpProjRefIdeal.nD,
          r.2.mem ((c.tc : Thread Cert.UpProjRefIdeal.nD Cert.UpProjRefIdeal.τ).loc Cert.UpProjRefIdeal.main_v2) = v0 c
          ∧ r.2.mem ((c.tc : Thread Cert.UpProjRefIdeal.nD Cert.UpProjRefIdeal.τ).loc Cert.UpProjRefIdeal.main_arg0) = m' ((c.tc : Thread Cert.UpProjRefIdeal.nD Cert.UpProjRefIdeal.τ).loc Cert.UpProjRefIdeal.main_arg0)
          ∧ r.2.mem ((c.tc : Thread Cert.UpProjRefIdeal.nD Cert.UpProjRefIdeal.τ).loc Cert.UpProjRefIdeal.main_arg1) = m' ((c.tc : Thread Cert.UpProjRefIdeal.nD Cert.UpProjRefIdeal.τ).loc Cert.UpProjRefIdeal.main_arg1))

def preserves_DownBwd_DownBwdIdeal : Prop :=
  True

def algebraic_DownBwdIdeal_DownBwdRefIdeal [hDownBwdIdeal : Cert.DownBwdIdeal.Facts] [hDownBwdRefIdeal : Cert.DownBwdRefIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownBwdRefIdeal.nD Cert.DownBwdRefIdeal.τ Cert.DownBwdRefIdeal.sig) → Buf (Elt Ideal) ℓ) (g' : Dev Cert.DownBwdRefIdeal.nD → PrngReg), Pre_DownBwdIdeal m →
    (∀ c : Dev Cert.DownBwdIdeal.nD,
      m' ((c.tc : Thread Cert.DownBwdRefIdeal.nD Cert.DownBwdRefIdeal.τ).loc Cert.DownBwdRefIdeal.main_arg0) = m ((c.tc : Thread Cert.DownBwdIdeal.nD Cert.DownBwdIdeal.τ).loc Cert.DownBwdIdeal.main_arg0)
      ∧ m' ((c.tc : Thread Cert.DownBwdRefIdeal.nD Cert.DownBwdRefIdeal.τ).loc Cert.DownBwdRefIdeal.main_arg1) = m ((c.tc : Thread Cert.DownBwdIdeal.nD Cert.DownBwdIdeal.τ).loc Cert.DownBwdIdeal.main_arg1)
      ∧ m' ((c.tc : Thread Cert.DownBwdRefIdeal.nD Cert.DownBwdRefIdeal.τ).loc Cert.DownBwdRefIdeal.main_arg2) = m ((c.tc : Thread Cert.DownBwdIdeal.nD Cert.DownBwdIdeal.τ).loc Cert.DownBwdIdeal.main_arg2)) →
    ∃ (v0 : (c : Dev Cert.DownBwdIdeal.nD) → Buf (Elt Ideal) ((c.tc : Thread Cert.DownBwdIdeal.nD Cert.DownBwdIdeal.τ).loc Cert.DownBwdIdeal.main_v4)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v4) = v0 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
          ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2))
      ∧ θ_run (Cert.DownBwdRefIdeal.defs (F := Ideal)) (onTc (τ := Cert.DownBwdRefIdeal.τ) (Cert.DownBwdRefIdeal.main (F := Ideal))) ⟨m', fun _ => 0, g'⟩ (fun r => ∀ c : Dev Cert.DownBwdRefIdeal.nD,
          r.2.mem ((c.tc : Thread Cert.DownBwdRefIdeal.nD Cert.DownBwdRefIdeal.τ).loc Cert.DownBwdRefIdeal.main_v12) = v0 c
          ∧ r.2.mem ((c.tc : Thread Cert.DownBwdRefIdeal.nD Cert.DownBwdRefIdeal.τ).loc Cert.DownBwdRefIdeal.main_arg0) = m' ((c.tc : Thread Cert.DownBwdRefIdeal.nD Cert.DownBwdRefIdeal.τ).loc Cert.DownBwdRefIdeal.main_arg0)
          ∧ r.2.mem ((c.tc : Thread Cert.DownBwdRefIdeal.nD Cert.DownBwdRefIdeal.τ).loc Cert.DownBwdRefIdeal.main_arg1) = m' ((c.tc : Thread Cert.DownBwdRefIdeal.nD Cert.DownBwdRefIdeal.τ).loc Cert.DownBwdRefIdeal.main_arg1)
          ∧ r.2.mem ((c.tc : Thread Cert.DownBwdRefIdeal.nD Cert.DownBwdRefIdeal.τ).loc Cert.DownBwdRefIdeal.main_arg2) = m' ((c.tc : Thread Cert.DownBwdRefIdeal.nD Cert.DownBwdRefIdeal.τ).loc Cert.DownBwdRefIdeal.main_arg2))

def preserves_DownWgrad_DownWgradIdeal : Prop :=
  True

def algebraic_DownWgradIdeal_DownWgradRefIdeal [hDownWgradIdeal : Cert.DownWgradIdeal.Facts] [hDownWgradRefIdeal : Cert.DownWgradRefIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg)
    (m' : (ℓ : Loc Cert.DownWgradRefIdeal.nD Cert.DownWgradRefIdeal.τ Cert.DownWgradRefIdeal.sig) → Buf (Elt Ideal) ℓ) (g' : Dev Cert.DownWgradRefIdeal.nD → PrngReg), Pre_DownWgradIdeal m →
    (∀ c : Dev Cert.DownWgradIdeal.nD,
      m' ((c.tc : Thread Cert.DownWgradRefIdeal.nD Cert.DownWgradRefIdeal.τ).loc Cert.DownWgradRefIdeal.main_arg0) = m ((c.tc : Thread Cert.DownWgradIdeal.nD Cert.DownWgradIdeal.τ).loc Cert.DownWgradIdeal.main_arg0)
      ∧ m' ((c.tc : Thread Cert.DownWgradRefIdeal.nD Cert.DownWgradRefIdeal.τ).loc Cert.DownWgradRefIdeal.main_arg1) = m ((c.tc : Thread Cert.DownWgradIdeal.nD Cert.DownWgradIdeal.τ).loc Cert.DownWgradIdeal.main_arg1)) →
    ∃ (v0 : (c : Dev Cert.DownWgradIdeal.nD) → Buf (Elt Ideal) ((c.tc : Thread Cert.DownWgradIdeal.nD Cert.DownWgradIdeal.τ).loc Cert.DownWgradIdeal.main_v3)),
      θ_run (Cert.DownWgradIdeal.defs (F := Ideal)) (onTc (τ := Cert.DownWgradIdeal.τ) (Cert.DownWgradIdeal.main (F := Ideal))) ⟨m, fun _ => 0, g⟩ (fun r => ∀ c : Dev Cert.DownWgradIdeal.nD,
          r.2.mem ((c.tc : Thread Cert.DownWgradIdeal.nD Cert.DownWgradIdeal.τ).loc Cert.DownWgradIdeal.main_v3) = v0 c
          ∧ r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
          ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1))
      ∧ θ_run (Cert.DownWgradRefIdeal.defs (F := Ideal)) (onTc (τ := Cert.DownWgradRefIdeal.τ) (Cert.DownWgradRefIdeal.main (F := Ideal))) ⟨m', fun _ => 0, g'⟩ (fun r => ∀ c : Dev Cert.DownWgradRefIdeal.nD,
          r.2.mem ((c.tc : Thread Cert.DownWgradRefIdeal.nD Cert.DownWgradRefIdeal.τ).loc Cert.DownWgradRefIdeal.main_v7) = v0 c
          ∧ r.2.mem ((c.tc : Thread Cert.DownWgradRefIdeal.nD Cert.DownWgradRefIdeal.τ).loc Cert.DownWgradRefIdeal.main_arg0) = m' ((c.tc : Thread Cert.DownWgradRefIdeal.nD Cert.DownWgradRefIdeal.τ).loc Cert.DownWgradRefIdeal.main_arg0)
          ∧ r.2.mem ((c.tc : Thread Cert.DownWgradRefIdeal.nD Cert.DownWgradRefIdeal.τ).loc Cert.DownWgradRefIdeal.main_arg1) = m' ((c.tc : Thread Cert.DownWgradRefIdeal.nD Cert.DownWgradRefIdeal.τ).loc Cert.DownWgradRefIdeal.main_arg1))

def preserves_UpWgrad_UpWgradIdeal : Prop :=
  True

def algebraic_UpWgradIdeal_UpWgradRefIdeal [hUpWgradIdeal : Cert.UpWgradIdeal.Facts] [hUpWgradRefIdeal : Cert.UpWgradRefIdeal.Facts] : Prop :=
  ∀ (m : (ℓ : Loc Cert.UpWgradIdeal.nD Cert.UpWgradIdeal.τ Cert.UpWgradIdeal.sig) → Buf (Elt Ideal) ℓ) (g : Dev Cert.UpWgradIdeal.nD → PrngReg)
    (m' : (ℓ : Loc Cert.UpWgradRefIdeal.nD Cert.UpWgradRefIdeal.τ Cert.UpWgradRefIdeal.sig) → Buf (Elt Ideal) ℓ) (g' : Dev Cert.UpWgradRefIdeal.nD → PrngReg), Pre_UpWgradIdeal m →
    (∀ c : Dev Cert.UpWgradIdeal.nD,
      m' ((c.tc : Thread Cert.UpWgradRefIdeal.nD Cert.UpWgradRefIdeal.τ).loc Cert.UpWgradRefIdeal.main_arg0) = m ((c.tc : Thread Cert.UpWgradIdeal.nD Cert.UpWgradIdeal.τ).loc Cert.UpWgradIdeal.main_arg0)
      ∧ m' ((c.tc : Thread Cert.UpWgradRefIdeal.nD Cert.UpWgradRefIdeal.τ).loc Cert.UpWgradRefIdeal.main_arg1) = m ((c.tc : Thread Cert.UpWgradIdeal.nD Cert.UpWgradIdeal.τ).loc Cert.UpWgradIdeal.main_arg1)) →
    ∃ (v0 : (c : Dev Cert.UpWgradIdeal.nD) → Buf (Elt Ideal) ((c.tc : Thread Cert.UpWgradIdeal.nD Cert.UpWgradIdeal.τ).loc Cert.UpWgradIdeal.main_v2)),
      θ_run (Cert.UpWgradIdeal.defs (F := Ideal)) (onTc (τ := Cert.UpWgradIdeal.τ) (Cert.UpWgradIdeal.main (F := Ideal))) ⟨m, fun _ => 0, g⟩ (fun r => ∀ c : Dev Cert.UpWgradIdeal.nD,
          r.2.mem ((c.tc : Thread Cert.UpWgradIdeal.nD Cert.UpWgradIdeal.τ).loc Cert.UpWgradIdeal.main_v2) = v0 c
          ∧ r.2.mem ((c.tc : Thread Cert.UpWgradIdeal.nD Cert.UpWgradIdeal.τ).loc Cert.UpWgradIdeal.main_arg0) = m ((c.tc : Thread Cert.UpWgradIdeal.nD Cert.UpWgradIdeal.τ).loc Cert.UpWgradIdeal.main_arg0)
          ∧ r.2.mem ((c.tc : Thread Cert.UpWgradIdeal.nD Cert.UpWgradIdeal.τ).loc Cert.UpWgradIdeal.main_arg1) = m ((c.tc : Thread Cert.UpWgradIdeal.nD Cert.UpWgradIdeal.τ).loc Cert.UpWgradIdeal.main_arg1))
      ∧ θ_run (Cert.UpWgradRefIdeal.defs (F := Ideal)) (onTc (τ := Cert.UpWgradRefIdeal.τ) (Cert.UpWgradRefIdeal.main (F := Ideal))) ⟨m', fun _ => 0, g'⟩ (fun r => ∀ c : Dev Cert.UpWgradRefIdeal.nD,
          r.2.mem ((c.tc : Thread Cert.UpWgradRefIdeal.nD Cert.UpWgradRefIdeal.τ).loc Cert.UpWgradRefIdeal.main_v5) = v0 c
          ∧ r.2.mem ((c.tc : Thread Cert.UpWgradRefIdeal.nD Cert.UpWgradRefIdeal.τ).loc Cert.UpWgradRefIdeal.main_arg0) = m' ((c.tc : Thread Cert.UpWgradRefIdeal.nD Cert.UpWgradRefIdeal.τ).loc Cert.UpWgradRefIdeal.main_arg0)
          ∧ r.2.mem ((c.tc : Thread Cert.UpWgradRefIdeal.nD Cert.UpWgradRefIdeal.τ).loc Cert.UpWgradRefIdeal.main_arg1) = m' ((c.tc : Thread Cert.UpWgradRefIdeal.nD Cert.UpWgradRefIdeal.τ).loc Cert.UpWgradRefIdeal.main_arg1))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v2)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v2) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v2) = v0 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1))

def preserves_OutWgrad_OutWgradIdeal : Prop :=
  True

def algebraic_OutWgradIdeal_OutWgradRefIdeal [hOutWgradIdeal : Cert.OutWgradIdeal.Facts] [hOutWgradRefIdeal : Cert.OutWgradRefIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg)
    (m' : (ℓ : Loc Cert.OutWgradRefIdeal.nD Cert.OutWgradRefIdeal.τ Cert.OutWgradRefIdeal.sig) → Buf (Elt Ideal) ℓ) (g' : Dev Cert.OutWgradRefIdeal.nD → PrngReg), Pre_OutWgradIdeal m →
    (∀ c : Dev Cert.OutWgradIdeal.nD,
      m' ((c.tc : Thread Cert.OutWgradRefIdeal.nD Cert.OutWgradRefIdeal.τ).loc Cert.OutWgradRefIdeal.main_arg0) = m ((c.tc : Thread Cert.OutWgradIdeal.nD Cert.OutWgradIdeal.τ).loc Cert.OutWgradIdeal.main_arg0)
      ∧ m' ((c.tc : Thread Cert.OutWgradRefIdeal.nD Cert.OutWgradRefIdeal.τ).loc Cert.OutWgradRefIdeal.main_arg1) = m ((c.tc : Thread Cert.OutWgradIdeal.nD Cert.OutWgradIdeal.τ).loc Cert.OutWgradIdeal.main_arg1)) →
    ∃ (v0 : (c : Dev Cert.OutWgradIdeal.nD) → Buf (Elt Ideal) ((c.tc : Thread Cert.OutWgradIdeal.nD Cert.OutWgradIdeal.τ).loc Cert.OutWgradIdeal.main_v2)),
      θ_run (Cert.OutWgradIdeal.defs (F := Ideal)) (onTc (τ := Cert.OutWgradIdeal.τ) (Cert.OutWgradIdeal.main (F := Ideal))) ⟨m, fun _ => 0, g⟩ (fun r => ∀ c : Dev Cert.OutWgradIdeal.nD,
          r.2.mem ((c.tc : Thread Cert.OutWgradIdeal.nD Cert.OutWgradIdeal.τ).loc Cert.OutWgradIdeal.main_v2) = v0 c
          ∧ r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
          ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ θ_run (Cert.OutWgradRefIdeal.defs (F := Ideal)) (onTc (τ := Cert.OutWgradRefIdeal.τ) (Cert.OutWgradRefIdeal.main (F := Ideal))) ⟨m', fun _ => 0, g'⟩ (fun r => ∀ c : Dev Cert.OutWgradRefIdeal.nD,
          r.2.mem ((c.tc : Thread Cert.OutWgradRefIdeal.nD Cert.OutWgradRefIdeal.τ).loc Cert.OutWgradRefIdeal.main_v5) = v0 c
          ∧ r.2.mem ((c.tc : Thread Cert.OutWgradRefIdeal.nD Cert.OutWgradRefIdeal.τ).loc Cert.OutWgradRefIdeal.main_arg0) = m' ((c.tc : Thread Cert.OutWgradRefIdeal.nD Cert.OutWgradRefIdeal.τ).loc Cert.OutWgradRefIdeal.main_arg0)
          ∧ r.2.mem ((c.tc : Thread Cert.OutWgradRefIdeal.nD Cert.OutWgradRefIdeal.τ).loc Cert.OutWgradRefIdeal.main_arg1) = m' ((c.tc : Thread Cert.OutWgradRefIdeal.nD Cert.OutWgradRefIdeal.τ).loc Cert.OutWgradRefIdeal.main_arg1))

def preserves_InWgrad_InWgradIdeal : Prop :=
  True

def algebraic_InWgradIdeal_InWgradRefIdeal [hInWgradIdeal : Cert.InWgradIdeal.Facts] [hInWgradRefIdeal : Cert.InWgradRefIdeal.Facts] : Prop :=
  ∀ (m : (ℓ : Loc Cert.InWgradIdeal.nD Cert.InWgradIdeal.τ Cert.InWgradIdeal.sig) → Buf (Elt Ideal) ℓ) (g : Dev Cert.InWgradIdeal.nD → PrngReg)
    (m' : (ℓ : Loc Cert.InWgradRefIdeal.nD Cert.InWgradRefIdeal.τ Cert.InWgradRefIdeal.sig) → Buf (Elt Ideal) ℓ) (g' : Dev Cert.InWgradRefIdeal.nD → PrngReg), Pre_InWgradIdeal m →
    (∀ c : Dev Cert.InWgradIdeal.nD,
      m' ((c.tc : Thread Cert.InWgradRefIdeal.nD Cert.InWgradRefIdeal.τ).loc Cert.InWgradRefIdeal.main_arg0) = m ((c.tc : Thread Cert.InWgradIdeal.nD Cert.InWgradIdeal.τ).loc Cert.InWgradIdeal.main_arg0)
      ∧ m' ((c.tc : Thread Cert.InWgradRefIdeal.nD Cert.InWgradRefIdeal.τ).loc Cert.InWgradRefIdeal.main_arg1) = m ((c.tc : Thread Cert.InWgradIdeal.nD Cert.InWgradIdeal.τ).loc Cert.InWgradIdeal.main_arg1)) →
    ∃ (v0 : (c : Dev Cert.InWgradIdeal.nD) → Buf (Elt Ideal) ((c.tc : Thread Cert.InWgradIdeal.nD Cert.InWgradIdeal.τ).loc Cert.InWgradIdeal.main_v2)),
      θ_run (Cert.InWgradIdeal.defs (F := Ideal)) (onTc (τ := Cert.InWgradIdeal.τ) (Cert.InWgradIdeal.main (F := Ideal))) ⟨m, fun _ => 0, g⟩ (fun r => ∀ c : Dev Cert.InWgradIdeal.nD,
          r.2.mem ((c.tc : Thread Cert.InWgradIdeal.nD Cert.InWgradIdeal.τ).loc Cert.InWgradIdeal.main_v2) = v0 c
          ∧ r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
          ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1))
      ∧ θ_run (Cert.InWgradRefIdeal.defs (F := Ideal)) (onTc (τ := Cert.InWgradRefIdeal.τ) (Cert.InWgradRefIdeal.main (F := Ideal))) ⟨m', fun _ => 0, g'⟩ (fun r => ∀ c : Dev Cert.InWgradRefIdeal.nD,
          r.2.mem ((c.tc : Thread Cert.InWgradRefIdeal.nD Cert.InWgradRefIdeal.τ).loc Cert.InWgradRefIdeal.main_v4) = v0 c
          ∧ r.2.mem ((c.tc : Thread Cert.InWgradRefIdeal.nD Cert.InWgradRefIdeal.τ).loc Cert.InWgradRefIdeal.main_arg0) = m' ((c.tc : Thread Cert.InWgradRefIdeal.nD Cert.InWgradRefIdeal.τ).loc Cert.InWgradRefIdeal.main_arg0)
          ∧ r.2.mem ((c.tc : Thread Cert.InWgradRefIdeal.nD Cert.InWgradRefIdeal.τ).loc Cert.InWgradRefIdeal.main_arg1) = m' ((c.tc : Thread Cert.InWgradRefIdeal.nD Cert.InWgradRefIdeal.τ).loc Cert.InWgradRefIdeal.main_arg1))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)) →
    ∃ (v0 : (c : Dev Cert.InBwdIdeal.nD) → Buf (Elt Ideal) ((c.tc : Thread Cert.InBwdIdeal.nD Cert.InBwdIdeal.τ).loc Cert.InBwdIdeal.main_v3)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v3) = v0 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v2) = v0 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1))

def preserves_DownProj_DownProjIdeal : Prop :=
  True

def algebraic_DownProjIdeal_DownProjRefIdeal [hDownProjIdeal : Cert.DownProjIdeal.Facts] [hDownProjRefIdeal : Cert.DownProjRefIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjRefIdeal.nD Cert.DownProjRefIdeal.τ Cert.DownProjRefIdeal.sig) → Buf (Elt Ideal) ℓ) (g' : Dev Cert.DownProjRefIdeal.nD → PrngReg), Pre_DownProjIdeal m →
    (∀ c : Dev Cert.DownProjIdeal.nD,
      m' ((c.tc : Thread Cert.DownProjRefIdeal.nD Cert.DownProjRefIdeal.τ).loc Cert.DownProjRefIdeal.main_arg0) = m ((c.tc : Thread Cert.DownProjIdeal.nD Cert.DownProjIdeal.τ).loc Cert.DownProjIdeal.main_arg0)
      ∧ m' ((c.tc : Thread Cert.DownProjRefIdeal.nD Cert.DownProjRefIdeal.τ).loc Cert.DownProjRefIdeal.main_arg1) = m ((c.tc : Thread Cert.DownProjIdeal.nD Cert.DownProjIdeal.τ).loc Cert.DownProjIdeal.main_arg1)
      ∧ m' ((c.tc : Thread Cert.DownProjRefIdeal.nD Cert.DownProjRefIdeal.τ).loc Cert.DownProjRefIdeal.main_arg2) = m ((c.tc : Thread Cert.DownProjIdeal.nD Cert.DownProjIdeal.τ).loc Cert.DownProjIdeal.main_arg2)
      ∧ m' ((c.tc : Thread Cert.DownProjRefIdeal.nD Cert.DownProjRefIdeal.τ).loc Cert.DownProjRefIdeal.main_arg3) = m ((c.tc : Thread Cert.DownProjIdeal.nD Cert.DownProjIdeal.τ).loc Cert.DownProjIdeal.main_arg3)
      ∧ m' ((c.tc : Thread Cert.DownProjRefIdeal.nD Cert.DownProjRefIdeal.τ).loc Cert.DownProjRefIdeal.main_arg4) = m ((c.tc : Thread Cert.DownProjIdeal.nD Cert.DownProjIdeal.τ).loc Cert.DownProjIdeal.main_arg4)
      ∧ m' ((c.tc : Thread Cert.DownProjRefIdeal.nD Cert.DownProjRefIdeal.τ).loc Cert.DownProjRefIdeal.main_arg5) = m ((c.tc : Thread Cert.DownProjIdeal.nD Cert.DownProjIdeal.τ).loc Cert.DownProjIdeal.main_arg5)) →
    ∃ (v0 : (c : Dev Cert.DownProjIdeal.nD) → Buf (Elt Ideal) ((c.tc : Thread Cert.DownProjIdeal.nD Cert.DownProjIdeal.τ).loc Cert.DownProjIdeal.main_v3_1)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v3_1) = v0 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
          ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2)
          ∧ r.2.mem ((c.tc : Thread Cert.DownProjIdeal.nD Cert.DownProjIdeal.τ).loc Cert.DownProjIdeal.main_arg3) = m ((c.tc : Thread Cert.DownProjIdeal.nD Cert.DownProjIdeal.τ).loc Cert.DownProjIdeal.main_arg3)
          ∧ r.2.mem ((c.tc : Thread Cert.DownProjIdeal.nD Cert.DownProjIdeal.τ).loc Cert.DownProjIdeal.main_arg4) = m ((c.tc : Thread Cert.DownProjIdeal.nD Cert.DownProjIdeal.τ).loc Cert.DownProjIdeal.main_arg4)
          ∧ r.2.mem ((c.tc : Thread Cert.DownProjIdeal.nD Cert.DownProjIdeal.τ).loc Cert.DownProjIdeal.main_arg5) = m ((c.tc : Thread Cert.DownProjIdeal.nD Cert.DownProjIdeal.τ).loc Cert.DownProjIdeal.main_arg5))
      ∧ θ_run (Cert.DownProjRefIdeal.defs (F := Ideal)) (onTc (τ := Cert.DownProjRefIdeal.τ) (Cert.DownProjRefIdeal.main (F := Ideal))) ⟨m', fun _ => 0, g'⟩ (fun r => ∀ c : Dev Cert.DownProjRefIdeal.nD,
          r.2.mem ((c.tc : Thread Cert.DownProjRefIdeal.nD Cert.DownProjRefIdeal.τ).loc Cert.DownProjRefIdeal.main_v34) = v0 c
          ∧ r.2.mem ((c.tc : Thread Cert.DownProjRefIdeal.nD Cert.DownProjRefIdeal.τ).loc Cert.DownProjRefIdeal.main_arg0) = m' ((c.tc : Thread Cert.DownProjRefIdeal.nD Cert.DownProjRefIdeal.τ).loc Cert.DownProjRefIdeal.main_arg0)
          ∧ r.2.mem ((c.tc : Thread Cert.DownProjRefIdeal.nD Cert.DownProjRefIdeal.τ).loc Cert.DownProjRefIdeal.main_arg1) = m' ((c.tc : Thread Cert.DownProjRefIdeal.nD Cert.DownProjRefIdeal.τ).loc Cert.DownProjRefIdeal.main_arg1)
          ∧ r.2.mem ((c.tc : Thread Cert.DownProjRefIdeal.nD Cert.DownProjRefIdeal.τ).loc Cert.DownProjRefIdeal.main_arg2) = m' ((c.tc : Thread Cert.DownProjRefIdeal.nD Cert.DownProjRefIdeal.τ).loc Cert.DownProjRefIdeal.main_arg2)
          ∧ r.2.mem ((c.tc : Thread Cert.DownProjRefIdeal.nD Cert.DownProjRefIdeal.τ).loc Cert.DownProjRefIdeal.main_arg3) = m' ((c.tc : Thread Cert.DownProjRefIdeal.nD Cert.DownProjRefIdeal.τ).loc Cert.DownProjRefIdeal.main_arg3)
          ∧ r.2.mem ((c.tc : Thread Cert.DownProjRefIdeal.nD Cert.DownProjRefIdeal.τ).loc Cert.DownProjRefIdeal.main_arg4) = m' ((c.tc : Thread Cert.DownProjRefIdeal.nD Cert.DownProjRefIdeal.τ).loc Cert.DownProjRefIdeal.main_arg4)
          ∧ r.2.mem ((c.tc : Thread Cert.DownProjRefIdeal.nD Cert.DownProjRefIdeal.τ).loc Cert.DownProjRefIdeal.main_arg5) = m' ((c.tc : Thread Cert.DownProjRefIdeal.nD Cert.DownProjRefIdeal.τ).loc Cert.DownProjRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)) (v2 : (c : Dev Cert.OutProjIdeal.nD) → Buf (Elt Ideal) ((c.tc : Thread Cert.OutProjIdeal.nD Cert.OutProjIdeal.τ).loc Cert.OutProjIdeal.main_v2_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_v2_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v0) = v0 c
          ∧ r.2.mem ((c.tc : Thread Cert.OutProjRefIdeal.nD Cert.OutProjRefIdeal.τ).loc Cert.OutProjRefIdeal.main_v17) = v1 c
          ∧ r.2.mem ((c.tc : Thread Cert.OutProjRefIdeal.nD Cert.OutProjRefIdeal.τ).loc Cert.OutProjRefIdeal.main_v38) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v36_0)) (v1 : (c : Dev Cert.InProjIdeal.nD) → Buf (Elt Ideal) ((c.tc : Thread Cert.InProjIdeal.nD Cert.InProjIdeal.τ).loc Cert.InProjIdeal.main_v36_1)) (v2 : (c : Dev Cert.InProjIdeal.nD) → Buf (Elt Ideal) ((c.tc : Thread Cert.InProjIdeal.nD Cert.InProjIdeal.τ).loc Cert.InProjIdeal.main_v36_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v36_0) = v0 c
          ∧ r.2.mem ((c.tc : Thread Cert.InProjIdeal.nD Cert.InProjIdeal.τ).loc Cert.InProjIdeal.main_v36_1) = v1 c
          ∧ r.2.mem ((c.tc : Thread Cert.InProjIdeal.nD Cert.InProjIdeal.τ).loc Cert.InProjIdeal.main_v36_4) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v27) = v0 c
          ∧ r.2.mem ((c.tc : Thread Cert.InProjRefIdeal.nD Cert.InProjRefIdeal.τ).loc Cert.InProjRefIdeal.main_v23) = v1 c
          ∧ r.2.mem ((c.tc : Thread Cert.InProjRefIdeal.nD Cert.InProjRefIdeal.τ).loc Cert.InProjRefIdeal.main_v28) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v3) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def preserves_AdaStep_AdaStepIdeal : Prop :=
  True

def algebraic_AdaStepIdeal_AdaStepRefIdeal [hAdaStepIdeal : Cert.AdaStepIdeal.Facts] [hAdaStepRefIdeal : Cert.AdaStepRefIdeal.Facts] : Prop :=
  ∀ (m : (ℓ : Loc Cert.AdaStepIdeal.nD Cert.AdaStepIdeal.τ Cert.AdaStepIdeal.sig) → Buf (Elt Ideal) ℓ) (g : Dev Cert.AdaStepIdeal.nD → PrngReg)
    (m' : (ℓ : Loc Cert.AdaStepRefIdeal.nD Cert.AdaStepRefIdeal.τ Cert.AdaStepRefIdeal.sig) → Buf (Elt Ideal) ℓ) (g' : Dev Cert.AdaStepRefIdeal.nD → PrngReg), Pre_AdaStepIdeal m →
    (∀ c : Dev Cert.AdaStepIdeal.nD,
      m' ((c.tc : Thread Cert.AdaStepRefIdeal.nD Cert.AdaStepRefIdeal.τ).loc Cert.AdaStepRefIdeal.main_arg0) = m ((c.tc : Thread Cert.AdaStepIdeal.nD Cert.AdaStepIdeal.τ).loc Cert.AdaStepIdeal.main_arg0)
      ∧ m' ((c.tc : Thread Cert.AdaStepRefIdeal.nD Cert.AdaStepRefIdeal.τ).loc Cert.AdaStepRefIdeal.main_arg1) = m ((c.tc : Thread Cert.AdaStepIdeal.nD Cert.AdaStepIdeal.τ).loc Cert.AdaStepIdeal.main_arg1)
      ∧ m' ((c.tc : Thread Cert.AdaStepRefIdeal.nD Cert.AdaStepRefIdeal.τ).loc Cert.AdaStepRefIdeal.main_arg2) = m ((c.tc : Thread Cert.AdaStepIdeal.nD Cert.AdaStepIdeal.τ).loc Cert.AdaStepIdeal.main_arg2)
      ∧ m' ((c.tc : Thread Cert.AdaStepRefIdeal.nD Cert.AdaStepRefIdeal.τ).loc Cert.AdaStepRefIdeal.main_arg3) = m ((c.tc : Thread Cert.AdaStepIdeal.nD Cert.AdaStepIdeal.τ).loc Cert.AdaStepIdeal.main_arg3)
      ∧ m' ((c.tc : Thread Cert.AdaStepRefIdeal.nD Cert.AdaStepRefIdeal.τ).loc Cert.AdaStepRefIdeal.main_arg4) = m ((c.tc : Thread Cert.AdaStepIdeal.nD Cert.AdaStepIdeal.τ).loc Cert.AdaStepIdeal.main_arg4)) →
    ∃ (v0 : (c : Dev Cert.AdaStepIdeal.nD) → Buf (Elt Ideal) ((c.tc : Thread Cert.AdaStepIdeal.nD Cert.AdaStepIdeal.τ).loc Cert.AdaStepIdeal.main_v0_0)) (v1 : (c : Dev Cert.AdaStepIdeal.nD) → Buf (Elt Ideal) ((c.tc : Thread Cert.AdaStepIdeal.nD Cert.AdaStepIdeal.τ).loc Cert.AdaStepIdeal.main_v0_1)) (v2 : (c : Dev Cert.AdaStepIdeal.nD) → Buf (Elt Ideal) ((c.tc : Thread Cert.AdaStepIdeal.nD Cert.AdaStepIdeal.τ).loc Cert.AdaStepIdeal.main_v0_2)) (v3 : (c : Dev Cert.AdaStepIdeal.nD) → Buf (Elt Ideal) ((c.tc : Thread Cert.AdaStepIdeal.nD Cert.AdaStepIdeal.τ).loc Cert.AdaStepIdeal.main_v0_3)),
      θ_run (Cert.AdaStepIdeal.defs (F := Ideal)) (onTc (τ := Cert.AdaStepIdeal.τ) (Cert.AdaStepIdeal.main (F := Ideal))) ⟨m, fun _ => 0, g⟩ (fun r => ∀ c : Dev Cert.AdaStepIdeal.nD,
          r.2.mem ((c.tc : Thread Cert.AdaStepIdeal.nD Cert.AdaStepIdeal.τ).loc Cert.AdaStepIdeal.main_v0_0) = v0 c
          ∧ r.2.mem ((c.tc : Thread Cert.AdaStepIdeal.nD Cert.AdaStepIdeal.τ).loc Cert.AdaStepIdeal.main_v0_1) = v1 c
          ∧ r.2.mem ((c.tc : Thread Cert.AdaStepIdeal.nD Cert.AdaStepIdeal.τ).loc Cert.AdaStepIdeal.main_v0_2) = v2 c
          ∧ r.2.mem ((c.tc : Thread Cert.AdaStepIdeal.nD Cert.AdaStepIdeal.τ).loc Cert.AdaStepIdeal.main_v0_3) = v3 c
          ∧ r.2.mem ((c.tc : Thread Cert.AdaStepIdeal.nD Cert.AdaStepIdeal.τ).loc Cert.AdaStepIdeal.main_arg0) = m ((c.tc : Thread Cert.AdaStepIdeal.nD Cert.AdaStepIdeal.τ).loc Cert.AdaStepIdeal.main_arg0)
          ∧ r.2.mem ((c.tc : Thread Cert.AdaStepIdeal.nD Cert.AdaStepIdeal.τ).loc Cert.AdaStepIdeal.main_arg1) = m ((c.tc : Thread Cert.AdaStepIdeal.nD Cert.AdaStepIdeal.τ).loc Cert.AdaStepIdeal.main_arg1)
          ∧ r.2.mem ((c.tc : Thread Cert.AdaStepIdeal.nD Cert.AdaStepIdeal.τ).loc Cert.AdaStepIdeal.main_arg2) = m ((c.tc : Thread Cert.AdaStepIdeal.nD Cert.AdaStepIdeal.τ).loc Cert.AdaStepIdeal.main_arg2)
          ∧ r.2.mem ((c.tc : Thread Cert.AdaStepIdeal.nD Cert.AdaStepIdeal.τ).loc Cert.AdaStepIdeal.main_arg3) = m ((c.tc : Thread Cert.AdaStepIdeal.nD Cert.AdaStepIdeal.τ).loc Cert.AdaStepIdeal.main_arg3)
          ∧ r.2.mem ((c.tc : Thread Cert.AdaStepIdeal.nD Cert.AdaStepIdeal.τ).loc Cert.AdaStepIdeal.main_arg4) = m ((c.tc : Thread Cert.AdaStepIdeal.nD Cert.AdaStepIdeal.τ).loc Cert.AdaStepIdeal.main_arg4))
      ∧ θ_run (Cert.AdaStepRefIdeal.defs (F := Ideal)) (onTc (τ := Cert.AdaStepRefIdeal.τ) (Cert.AdaStepRefIdeal.main (F := Ideal))) ⟨m', fun _ => 0, g'⟩ (fun r => ∀ c : Dev Cert.AdaStepRefIdeal.nD,
          r.2.mem ((c.tc : Thread Cert.AdaStepRefIdeal.nD Cert.AdaStepRefIdeal.τ).loc Cert.AdaStepRefIdeal.main_v3) = v0 c
          ∧ r.2.mem ((c.tc : Thread Cert.AdaStepRefIdeal.nD Cert.AdaStepRefIdeal.τ).loc Cert.AdaStepRefIdeal.main_v27) = v1 c
          ∧ r.2.mem ((c.tc : Thread Cert.AdaStepRefIdeal.nD Cert.AdaStepRefIdeal.τ).loc Cert.AdaStepRefIdeal.main_v8) = v2 c
          ∧ r.2.mem ((c.tc : Thread Cert.AdaStepRefIdeal.nD Cert.AdaStepRefIdeal.τ).loc Cert.AdaStepRefIdeal.main_v14) = v3 c
          ∧ r.2.mem ((c.tc : Thread Cert.AdaStepRefIdeal.nD Cert.AdaStepRefIdeal.τ).loc Cert.AdaStepRefIdeal.main_arg0) = m' ((c.tc : Thread Cert.AdaStepRefIdeal.nD Cert.AdaStepRefIdeal.τ).loc Cert.AdaStepRefIdeal.main_arg0)
          ∧ r.2.mem ((c.tc : Thread Cert.AdaStepRefIdeal.nD Cert.AdaStepRefIdeal.τ).loc Cert.AdaStepRefIdeal.main_arg1) = m' ((c.tc : Thread Cert.AdaStepRefIdeal.nD Cert.AdaStepRefIdeal.τ).loc Cert.AdaStepRefIdeal.main_arg1)
          ∧ r.2.mem ((c.tc : Thread Cert.AdaStepRefIdeal.nD Cert.AdaStepRefIdeal.τ).loc Cert.AdaStepRefIdeal.main_arg2) = m' ((c.tc : Thread Cert.AdaStepRefIdeal.nD Cert.AdaStepRefIdeal.τ).loc Cert.AdaStepRefIdeal.main_arg2)
          ∧ r.2.mem ((c.tc : Thread Cert.AdaStepRefIdeal.nD Cert.AdaStepRefIdeal.τ).loc Cert.AdaStepRefIdeal.main_arg3) = m' ((c.tc : Thread Cert.AdaStepRefIdeal.nD Cert.AdaStepRefIdeal.τ).loc Cert.AdaStepRefIdeal.main_arg3)
          ∧ r.2.mem ((c.tc : Thread Cert.AdaStepRefIdeal.nD Cert.AdaStepRefIdeal.τ).loc Cert.AdaStepRefIdeal.main_arg4) = m' ((c.tc : Thread Cert.AdaStepRefIdeal.nD Cert.AdaStepRefIdeal.τ).loc Cert.AdaStepRefIdeal.main_arg4))

def Claim : Prop :=
  ∃ (hKernel : Cert.Kernel.Facts) (hKernelIdeal : Cert.KernelIdeal.Facts) (hReferenceIdeal : Cert.ReferenceIdeal.Facts) (hUpProj : Cert.UpProj.Facts) (hUpProjIdeal : Cert.UpProjIdeal.Facts) (hUpProjRefIdeal : Cert.UpProjRefIdeal.Facts) (hDownBwd : Cert.DownBwd.Facts) (hDownBwdIdeal : Cert.DownBwdIdeal.Facts) (hDownBwdRefIdeal : Cert.DownBwdRefIdeal.Facts) (hDownWgrad : Cert.DownWgrad.Facts) (hDownWgradIdeal : Cert.DownWgradIdeal.Facts) (hDownWgradRefIdeal : Cert.DownWgradRefIdeal.Facts) (hUpWgrad : Cert.UpWgrad.Facts) (hUpWgradIdeal : Cert.UpWgradIdeal.Facts) (hUpWgradRefIdeal : Cert.UpWgradRefIdeal.Facts) (hOutBwd : Cert.OutBwd.Facts) (hOutBwdIdeal : Cert.OutBwdIdeal.Facts) (hOutBwdRefIdeal : Cert.OutBwdRefIdeal.Facts) (hOutWgrad : Cert.OutWgrad.Facts) (hOutWgradIdeal : Cert.OutWgradIdeal.Facts) (hOutWgradRefIdeal : Cert.OutWgradRefIdeal.Facts) (hInWgrad : Cert.InWgrad.Facts) (hInWgradIdeal : Cert.InWgradIdeal.Facts) (hInWgradRefIdeal : Cert.InWgradRefIdeal.Facts) (hInBwd : Cert.InBwd.Facts) (hInBwdIdeal : Cert.InBwdIdeal.Facts) (hInBwdRefIdeal : Cert.InBwdRefIdeal.Facts) (hDownProj : Cert.DownProj.Facts) (hDownProjIdeal : Cert.DownProjIdeal.Facts) (hDownProjRefIdeal : Cert.DownProjRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hAdaFwd : Cert.AdaFwd.Facts) (hAdaFwdIdeal : Cert.AdaFwdIdeal.Facts) (hAdaFwdRefIdeal : Cert.AdaFwdRefIdeal.Facts) (hAdaStep : Cert.AdaStep.Facts) (hAdaStepIdeal : Cert.AdaStepIdeal.Facts) (hAdaStepRefIdeal : Cert.AdaStepRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpProj (hUpProj := hUpProj)
    ∧ quiescent_UpProjIdeal (hUpProjIdeal := hUpProjIdeal)
    ∧ quiescent_UpProjRefIdeal (hUpProjRefIdeal := hUpProjRefIdeal)
    ∧ quiescent_DownBwd (hDownBwd := hDownBwd)
    ∧ quiescent_DownBwdIdeal (hDownBwdIdeal := hDownBwdIdeal)
    ∧ quiescent_DownBwdRefIdeal (hDownBwdRefIdeal := hDownBwdRefIdeal)
    ∧ quiescent_DownWgrad (hDownWgrad := hDownWgrad)
    ∧ quiescent_DownWgradIdeal (hDownWgradIdeal := hDownWgradIdeal)
    ∧ quiescent_DownWgradRefIdeal (hDownWgradRefIdeal := hDownWgradRefIdeal)
    ∧ quiescent_UpWgrad (hUpWgrad := hUpWgrad)
    ∧ quiescent_UpWgradIdeal (hUpWgradIdeal := hUpWgradIdeal)
    ∧ quiescent_UpWgradRefIdeal (hUpWgradRefIdeal := hUpWgradRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_OutWgrad (hOutWgrad := hOutWgrad)
    ∧ quiescent_OutWgradIdeal (hOutWgradIdeal := hOutWgradIdeal)
    ∧ quiescent_OutWgradRefIdeal (hOutWgradRefIdeal := hOutWgradRefIdeal)
    ∧ quiescent_InWgrad (hInWgrad := hInWgrad)
    ∧ quiescent_InWgradIdeal (hInWgradIdeal := hInWgradIdeal)
    ∧ quiescent_InWgradRefIdeal (hInWgradRefIdeal := hInWgradRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_DownProj (hDownProj := hDownProj)
    ∧ quiescent_DownProjIdeal (hDownProjIdeal := hDownProjIdeal)
    ∧ quiescent_DownProjRefIdeal (hDownProjRefIdeal := hDownProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_AdaStep (hAdaStep := hAdaStep)
    ∧ quiescent_AdaStepIdeal (hAdaStepIdeal := hAdaStepIdeal)
    ∧ quiescent_AdaStepRefIdeal (hAdaStepRefIdeal := hAdaStepRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpProj_UpProjIdeal
    ∧ algebraic_UpProjIdeal_UpProjRefIdeal (hUpProjIdeal := hUpProjIdeal) (hUpProjRefIdeal := hUpProjRefIdeal)
    ∧ preserves_DownBwd_DownBwdIdeal
    ∧ algebraic_DownBwdIdeal_DownBwdRefIdeal (hDownBwdIdeal := hDownBwdIdeal) (hDownBwdRefIdeal := hDownBwdRefIdeal)
    ∧ preserves_DownWgrad_DownWgradIdeal
    ∧ algebraic_DownWgradIdeal_DownWgradRefIdeal (hDownWgradIdeal := hDownWgradIdeal) (hDownWgradRefIdeal := hDownWgradRefIdeal)
    ∧ preserves_UpWgrad_UpWgradIdeal
    ∧ algebraic_UpWgradIdeal_UpWgradRefIdeal (hUpWgradIdeal := hUpWgradIdeal) (hUpWgradRefIdeal := hUpWgradRefIdeal)
    ∧ preserves_OutBwd_OutBwdIdeal
    ∧ algebraic_OutBwdIdeal_OutBwdRefIdeal (hOutBwdIdeal := hOutBwdIdeal) (hOutBwdRefIdeal := hOutBwdRefIdeal)
    ∧ preserves_OutWgrad_OutWgradIdeal
    ∧ algebraic_OutWgradIdeal_OutWgradRefIdeal (hOutWgradIdeal := hOutWgradIdeal) (hOutWgradRefIdeal := hOutWgradRefIdeal)
    ∧ preserves_InWgrad_InWgradIdeal
    ∧ algebraic_InWgradIdeal_InWgradRefIdeal (hInWgradIdeal := hInWgradIdeal) (hInWgradRefIdeal := hInWgradRefIdeal)
    ∧ preserves_InBwd_InBwdIdeal
    ∧ algebraic_InBwdIdeal_InBwdRefIdeal (hInBwdIdeal := hInBwdIdeal) (hInBwdRefIdeal := hInBwdRefIdeal)
    ∧ preserves_DownProj_DownProjIdeal
    ∧ algebraic_DownProjIdeal_DownProjRefIdeal (hDownProjIdeal := hDownProjIdeal) (hDownProjRefIdeal := hDownProjRefIdeal)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_AdaStep_AdaStepIdeal
    ∧ algebraic_AdaStepIdeal_AdaStepRefIdeal (hAdaStepIdeal := hAdaStepIdeal) (hAdaStepRefIdeal := hAdaStepRefIdeal)
-- ==== Pre_finite.lean ====
abbrev S2x2048x512 : Shape := ⟨3, ![2, 2048, 512]⟩
abbrev S2x2048x128 : Shape := ⟨3, ![2, 2048, 128]⟩
abbrev S1x8 : Shape := ⟨2, ![1, 8]⟩
abbrev S1x512 : Shape := ⟨2, ![1, 512]⟩
abbrev S2x2048x1024 : Shape := ⟨3, ![2, 2048, 1024]⟩
abbrev S2x2048x2816 : Shape := ⟨3, ![2, 2048, 2816]⟩
abbrev S_ : Shape := ⟨0, ![]⟩

class Facts : Prop where
  bcast_S_S2x2048x512 : S_.BroadcastsInDim S2x2048x512 (![] : Fin 0 → Fin S2x2048x512.rank)
  bcast_S_S2x2048x128 : S_.BroadcastsInDim S2x2048x128 (![] : Fin 0 → Fin S2x2048x128.rank)
  bcast_S_S1x8 : S_.BroadcastsInDim S1x8 (![] : Fin 0 → Fin S1x8.rank)
  bcast_S_S1x512 : S_.BroadcastsInDim S1x512 (![] : Fin 0 → Fin S1x512.rank)
  bcast_S_S2x2048x1024 : S_.BroadcastsInDim S2x2048x1024 (![] : Fin 0 → Fin S2x2048x1024.rank)

variable [Facts]

def fn {F : FTy → Type} [FloatOps F] (main_arg0 : FVec F S2x2048x512 .f32) (main_arg1 : FVec F S2x2048x128 .f32) (main_arg2 : FVec F S2x2048x128 .f32) (main_arg3 : FVec F S1x8 .f32) (main_arg4 : FVec F S1x512 .f32) (main_arg5 : FVec F S2x2048x1024 .f32) (main_arg6 : FVec F S2x2048x2816 .bf16) : IVec S2x2048x512 1 × IVec S2x2048x128 1 × IVec S2x2048x128 1 × IVec S1x8 1 × IVec S1x512 1 × IVec S2x2048x1024 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_v3 : FVec F S2x2048x128 .f32 := Host.absf main_arg1
  let main_cst_0 : FVec F S_ .f32 := constant S_ .f32 0x7F800000#32
  let main_v4 : FVec F S2x2048x128 .f32 := broadcastInDim S2x2048x128 ![] bcast_S_S2x2048x128 main_cst_0
  let main_v5 : IVec S2x2048x128 1 := cmpf .olt main_v3 main_v4
  let main_v6 : FVec F S2x2048x128 .f32 := Host.absf main_arg2
  let main_cst_1 : FVec F S_ .f32 := constant S_ .f32 0x7F800000#32
  let main_v7 : FVec F S2x2048x128 .f32 := broadcastInDim S2x2048x128 ![] bcast_S_S2x2048x128 main_cst_1
  let main_v8 : IVec S2x2048x128 1 := cmpf .olt main_v6 main_v7
  let main_v9 : FVec F S1x8 .f32 := Host.absf main_arg3
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_v12 : FVec F S1x512 .f32 := Host.absf main_arg4
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  let main_v15 : FVec F S2x2048x1024 .f32 := Host.absf main_arg5
  let main_cst_4 : FVec F S_ .f32 := constant S_ .f32 0x7F800000#32
  let main_v16 : FVec F S2x2048x1024 .f32 := broadcastInDim S2x2048x1024 ![] bcast_S_S2x2048x1024 main_cst_4
  let main_v17 : IVec S2x2048x1024 1 := cmpf .olt main_v15 main_v16
  (main_v2, main_v5, main_v8, main_v11, main_v14, main_v17)
-- ==== Kernel.lean ====
abbrev S2x2048x512 : Shape := ⟨3, ![2, 2048, 512]⟩
abbrev S2x2048x128 : Shape := ⟨3, ![2, 2048, 128]⟩
abbrev S1x8 : Shape := ⟨2, ![1, 8]⟩
abbrev S1x512 : Shape := ⟨2, ![1, 512]⟩
abbrev S2x2048x1024 : Shape := ⟨3, ![2, 2048, 1024]⟩
abbrev S2x2048x2816 : Shape := ⟨3, ![2, 2048, 2816]⟩
abbrev S2x2048x8x64 : Shape := ⟨4, ![2, 2048, 8, 64]⟩
abbrev S8 : Shape := ⟨1, ![8]⟩
abbrev S_ : Shape := ⟨0, ![]⟩
abbrev S2048 : Shape := ⟨1, ![2048]⟩
abbrev S2048x1 : Shape := ⟨2, ![2048, 1]⟩
abbrev S2048x8 : Shape := ⟨2, ![2048, 8]⟩
abbrev S1x2048x1x8 : Shape := ⟨4, ![1, 2048, 1, 8]⟩
abbrev S2x2048x8x8 : Shape := ⟨4, ![2, 2048, 8, 8]⟩
abbrev S2x2048x8x48 : Shape := ⟨4, ![2, 2048, 8, 48]⟩
abbrev S2x2048x2x64 : Shape := ⟨4, ![2, 2048, 2, 64]⟩
abbrev S2x2048x2x8 : Shape := ⟨4, ![2, 2048, 2, 8]⟩
abbrev S2x2048x2x48 : Shape := ⟨4, ![2, 2048, 2, 48]⟩
abbrev S2x16x128x2x4x64 : Shape := ⟨6, ![2, 16, 128, 2, 4, 64]⟩
abbrev S2x16x128x2x64 : Shape := ⟨5, ![2, 16, 128, 2, 64]⟩
abbrev S2x1x128x2x64 : Shape := ⟨5, ![2, 1, 128, 2, 64]⟩
abbrev S2x15x128x2x64 : Shape := ⟨5, ![2, 15, 128, 2, 64]⟩
abbrev S2x16x256x2x64 : Shape := ⟨5, ![2, 16, 256, 2, 64]⟩
abbrev S2x16x2x256x128x4 : Shape := ⟨6, ![2, 16, 2, 256, 128, 4]⟩
abbrev S2x16x2x4x128x256 : Shape := ⟨6, ![2, 16, 2, 4, 128, 256]⟩
abbrev S16 : Shape := ⟨1, ![16]⟩
abbrev S16x1 : Shape := ⟨2, ![16, 1]⟩
abbrev S128 : Shape := ⟨1, ![128]⟩
abbrev S1x128 : Shape := ⟨2, ![1, 128]⟩
abbrev S16x128 : Shape := ⟨2, ![16, 128]⟩
abbrev S256 : Shape := ⟨1, ![256]⟩
abbrev S1x256 : Shape := ⟨2, ![1, 256]⟩
abbrev S16x256 : Shape := ⟨2, ![16, 256]⟩
abbrev S16x128x1 : Shape := ⟨3, ![16, 128, 1]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S2x4 : Shape := ⟨2, ![2, 4]⟩
abbrev S1x1x2x4x1x1 : Shape := ⟨6, ![1, 1, 2, 4, 1, 1]⟩
abbrev S2x16x2x4x128 : Shape := ⟨5, ![2, 16, 2, 4, 128]⟩
abbrev S2x16x2x4x128x1 : Shape := ⟨6, ![2, 16, 2, 4, 128, 1]⟩
abbrev S2x16x2x64x4x128 : Shape := ⟨6, ![2, 16, 2, 64, 4, 128]⟩
abbrev S2x16x2x4x128x64 : Shape := ⟨6, ![2, 16, 2, 4, 128, 64]⟩
abbrev S2x16x2x512x64 : Shape := ⟨5, ![2, 16, 2, 512, 64]⟩
abbrev S2x2x2048x64 : Shape := ⟨4, ![2, 2, 2048, 64]⟩
abbrev S2x16x128x2x4x1 : Shape := ⟨6, ![2, 16, 128, 2, 4, 1]⟩
abbrev S2x2048x8 : Shape := ⟨3, ![2, 2048, 8]⟩
abbrev S2x2048x120 : Shape := ⟨3, ![2, 2048, 120]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S512 : Shape := ⟨1, ![512]⟩
abbrev S512x1 : Shape := ⟨2, ![512, 1]⟩
abbrev S512x256 : Shape := ⟨2, ![512, 256]⟩
abbrev S256x512 : Shape := ⟨2, ![256, 512]⟩
abbrev S1x256x512 : Shape := ⟨3, ![1, 256, 512]⟩
abbrev S1x2x2x512x64 : Shape := ⟨5, ![1, 2, 2, 512, 64]⟩
abbrev S1x2x256x64 : Shape := ⟨4, ![1, 2, 256, 64]⟩
abbrev S1x2x128x64 : Shape := ⟨4, ![1, 2, 128, 64]⟩
abbrev S1x256x128 : Shape := ⟨3, ![1, 256, 128]⟩
abbrev S256x128 : Shape := ⟨2, ![256, 128]⟩
abbrev S1x256x768 : Shape := ⟨3, ![1, 256, 768]⟩
abbrev S128x128 : Shape := ⟨2, ![128, 128]⟩
abbrev S256x1 : Shape := ⟨2, ![256, 1]⟩
abbrev S16x512 : Shape := ⟨2, ![16, 512]⟩
abbrev S128x512 : Shape := ⟨2, ![128, 512]⟩
abbrev S1x128x128 : Shape := ⟨3, ![1, 128, 128]⟩
abbrev S1x128x512 : Shape := ⟨3, ![1, 128, 512]⟩
abbrev S1x1x1x512x64 : Shape := ⟨5, ![1, 1, 1, 512, 64]⟩
abbrev S512x64 : Shape := ⟨2, ![512, 64]⟩
abbrev S1x1x128x64 : Shape := ⟨4, ![1, 1, 128, 64]⟩
abbrev S128x64 : Shape := ⟨2, ![128, 64]⟩
abbrev S256x64 : Shape := ⟨2, ![256, 64]⟩
abbrev S1x1 : Shape := ⟨2, ![1, 1]⟩
abbrev S1 : Shape := ⟨1, ![1]⟩

abbrev nBuf : Space → Nat
  | .hbm => 333
  | .vmem => 31
  | .smem => 1
  | _ => 0

abbrev hbmTy0_0 (i : Nat) : BufTy := match i % 128 with
  | 0 => ⟨S2x2048x512, .f32⟩
  | 1 => ⟨S2x2048x128, .f32⟩
  | 2 => ⟨S2x2048x128, .f32⟩
  | 3 => ⟨S1x8, .f32⟩
  | 4 => ⟨S1x512, .f32⟩
  | 5 => ⟨S2x2048x1024, .f32⟩
  | 6 => ⟨S2x2048x2816, .bf16⟩
  | 7 => ⟨S2x2048x8x64, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S2048, .f32⟩
  | 23 => ⟨S2048x1, .f32⟩
  | 24 => ⟨S1x8, .f32⟩
  | 25 => ⟨S2048x8, .f32⟩
  | 26 => ⟨S2048x8, .f32⟩
  | 27 => ⟨S2048x8, .f32⟩
  | 28 => ⟨S2048x8, .f32⟩
  | 29 => ⟨S1x2048x1x8, .f32⟩
  | 30 => ⟨S2048x8, .f32⟩
  | 31 => ⟨S1x2048x1x8, .f32⟩
  | 32 => ⟨S2x2048x8x8, .f32⟩
  | 33 => ⟨S2x2048x8x8, .f32⟩
  | 34 => ⟨S2x2048x8x48, .f32⟩
  | 35 => ⟨S2x2048x8x8, .f32⟩
  | 36 => ⟨S2x2048x8x8, .f32⟩
  | 37 => ⟨S2x2048x8x8, .f32⟩
  | 38 => ⟨S2x2048x8x8, .f32⟩
  | 39 => ⟨S2x2048x8x8, .f32⟩
  | 40 => ⟨S2x2048x8x8, .f32⟩
  | 41 => ⟨S2x2048x8x8, .f32⟩
  | 42 => ⟨S2x2048x8x8, .f32⟩
  | 43 => ⟨S2x2048x8x8, .f32⟩
  | 44 => ⟨S2x2048x8x8, .f32⟩
  | 45 => ⟨S2x2048x8x64, .f32⟩
  | 46 => ⟨S2x2048x2x64, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S2048, .f32⟩
  | 62 => ⟨S2048x1, .f32⟩
  | 63 => ⟨S1x8, .f32⟩
  | 64 => ⟨S2048x8, .f32⟩
  | 65 => ⟨S2048x8, .f32⟩
  | 66 => ⟨S2048x8, .f32⟩
  | 67 => ⟨S2048x8, .f32⟩
  | 68 => ⟨S1x2048x1x8, .f32⟩
  | 69 => ⟨S2048x8, .f32⟩
  | 70 => ⟨S1x2048x1x8, .f32⟩
  | 71 => ⟨S2x2048x2x8, .f32⟩
  | 72 => ⟨S2x2048x2x8, .f32⟩
  | 73 => ⟨S2x2048x2x48, .f32⟩
  | 74 => ⟨S2x2048x2x8, .f32⟩
  | 75 => ⟨S2x2048x2x8, .f32⟩
  | 76 => ⟨S2x2048x2x8, .f32⟩
  | 77 => ⟨S2x2048x2x8, .f32⟩
  | 78 => ⟨S2x2048x2x8, .f32⟩
  | 79 => ⟨S2x2048x2x8, .f32⟩
  | 80 => ⟨S2x2048x2x8, .f32⟩
  | 81 => ⟨S2x2048x2x8, .f32⟩
  | 82 => ⟨S2x2048x2x8, .f32⟩
  | 83 => ⟨S2x2048x2x8, .f32⟩
  | 84 => ⟨S2x2048x2x64, .f32⟩
  | 85 => ⟨S2x2048x2x64, .f32⟩
  | 86 => ⟨S8, .f32⟩
  | 87 => ⟨S2x16x128x2x4x64, .f32⟩
  | 88 => ⟨S2x16x128x2x64, .f32⟩
  | 89 => ⟨S2x1x128x2x64, .f32⟩
  | 90 => ⟨S_, .f32⟩
  | 91 => ⟨S2x1x128x2x64, .f32⟩
  | 92 => ⟨S2x15x128x2x64, .f32⟩
  | 93 => ⟨S2x16x128x2x64, .f32⟩
  | 94 => ⟨S_, .f32⟩
  | 95 => ⟨S2x1x128x2x64, .f32⟩
  | 96 => ⟨S2x16x256x2x64, .f32⟩
  | 97 => ⟨S2x16x128x2x64, .f32⟩
  | 98 => ⟨S2x1x128x2x64, .f32⟩
  | 99 => ⟨S_, .f32⟩
  | 100 => ⟨S2x1x128x2x64, .f32⟩
  | 101 => ⟨S2x15x128x2x64, .f32⟩
  | 102 => ⟨S2x16x128x2x64, .f32⟩
  | 103 => ⟨S_, .f32⟩
  | 104 => ⟨S2x1x128x2x64, .f32⟩
  | 105 => ⟨S2x16x256x2x64, .f32⟩
  | 106 => ⟨S2x16x2x256x128x4, .f32⟩
  | 107 => ⟨S2x16x2x4x128x256, .f32⟩
  | 108 => ⟨S_, .f32⟩
  | 109 => ⟨S2x16x2x4x128x256, .f32⟩
  | 110 => ⟨S2x16x2x4x128x256, .f32⟩
  | 111 => ⟨S16, .i32⟩
  | 112 => ⟨S16x1, .i32⟩
  | 113 => ⟨S_, .i32⟩
  | 114 => ⟨S16x1, .i32⟩
  | 115 => ⟨S16x1, .i32⟩
  | 116 => ⟨S128, .i32⟩
  | 117 => ⟨S1x128, .i32⟩
  | 118 => ⟨S16x128, .i32⟩
  | 119 => ⟨S16x128, .i32⟩
  | 120 => ⟨S16x128, .i32⟩
  | 121 => ⟨S_, .i32⟩
  | 122 => ⟨S16x1, .i32⟩
  | 123 => ⟨S16x1, .i32⟩
  | 124 => ⟨S_, .i32⟩
  | 125 => ⟨S16x1, .i32⟩
  | 126 => ⟨S16x1, .i32⟩
  | 127 => ⟨S256, .i32⟩
  | _ => ⟨S2x2048x512, .f32⟩

abbrev hbmTy0_1 (i : Nat) : BufTy := match i % 128 with
  | 0 => ⟨S1x256, .i32⟩
  | 1 => ⟨S16x256, .i32⟩
  | 2 => ⟨S16x256, .i32⟩
  | 3 => ⟨S16x256, .i32⟩
  | 4 => ⟨S16x128x1, .i32⟩
  | 5 => ⟨S16x1x256, .i32⟩
  | 6 => ⟨S16x128x256, .i32⟩
  | 7 => ⟨S16x128x256, .i32⟩
  | 8 => ⟨S16x128x256, .i32⟩
  | 9 => ⟨S_, .i32⟩
  | 10 => ⟨S16x128x256, .i32⟩
  | 11 => ⟨S16x128x256, .i1⟩
  | 12 => ⟨S_, .i32⟩
  | 13 => ⟨S16x128x256, .i32⟩
  | 14 => ⟨S16x128x256, .i1⟩
  | 15 => ⟨S16x128x256, .i1⟩
  | 16 => ⟨S16x1x256, .i32⟩
  | 17 => ⟨S_, .i32⟩
  | 18 => ⟨S16x1x256, .i32⟩
  | 19 => ⟨S16x1x256, .i1⟩
  | 20 => ⟨S16x128x256, .i1⟩
  | 21 => ⟨S16x128x256, .i1⟩
  | 22 => ⟨S1x16x1x1x128x256, .i1⟩
  | 23 => ⟨S_, .f32⟩
  | 24 => ⟨S_, .f32⟩
  | 25 => ⟨S2x16x2x4x128x256, .i1⟩
  | 26 => ⟨S2x16x2x4x128x256, .f32⟩
  | 27 => ⟨S2x16x2x4x128x256, .f32⟩
  | 28 => ⟨S_, .f32⟩
  | 29 => ⟨S2x16x2x4x128x256, .f32⟩
  | 30 => ⟨S2x4, .f32⟩
  | 31 => ⟨S1x1x2x4x1x1, .f32⟩
  | 32 => ⟨S_, .f32⟩
  | 33 => ⟨S2x16x2x4x128, .f32⟩
  | 34 => ⟨S2x16x2x4x128x1, .f32⟩
  | 35 => ⟨S2x16x2x4x128x256, .f32⟩
  | 36 => ⟨S2x16x2x4x128x256, .i1⟩
  | 37 => ⟨S2x16x2x4x128x256, .f32⟩
  | 38 => ⟨S_, .f32⟩
  | 39 => ⟨S2x16x2x4x128, .f32⟩
  | 40 => ⟨S2x16x2x4x128x1, .f32⟩
  | 41 => ⟨S2x16x2x4x128x1, .f32⟩
  | 42 => ⟨S2x16x2x4x128x1, .f32⟩
  | 43 => ⟨S2x16x2x4x128x1, .f32⟩
  | 44 => ⟨S2x16x2x4x128x1, .i1⟩
  | 45 => ⟨S2x16x2x4x128x1, .f32⟩
  | 46 => ⟨S2x16x2x4x128x1, .i1⟩
  | 47 => ⟨S_, .f32⟩
  | 48 => ⟨S2x16x2x4x128x1, .f32⟩
  | 49 => ⟨S_, .f32⟩
  | 50 => ⟨S2x16x2x4x128x1, .f32⟩
  | 51 => ⟨S_, .f32⟩
  | 52 => ⟨S2x16x2x4x128x1, .f32⟩
  | 53 => ⟨S2x16x2x4x128x1, .f32⟩
  | 54 => ⟨S2x16x2x4x128x1, .f32⟩
  | 55 => ⟨S2x16x2x4x128x1, .f32⟩
  | 56 => ⟨S2x16x2x4x128x1, .i1⟩
  | 57 => ⟨S2x16x2x4x128x1, .f32⟩
  | 58 => ⟨S2x16x2x4x128x1, .i1⟩
  | 59 => ⟨S_, .f32⟩
  | 60 => ⟨S2x16x2x4x128x1, .f32⟩
  | 61 => ⟨S_, .f32⟩
  | 62 => ⟨S2x16x2x4x128x1, .f32⟩
  | 63 => ⟨S_, .f32⟩
  | 64 => ⟨S2x16x2x4x128x1, .f32⟩
  | 65 => ⟨S2x16x2x4x128x1, .f32⟩
  | 66 => ⟨S2x16x2x4x128x1, .f32⟩
  | 67 => ⟨S2x16x2x4x128x256, .f32⟩
  | 68 => ⟨S2x16x2x4x128x256, .f32⟩
  | 69 => ⟨S2x16x2x4x128x256, .f32⟩
  | 70 => ⟨S_, .f32⟩
  | 71 => ⟨S2x16x2x4x128, .f32⟩
  | 72 => ⟨S2x16x2x4x128x1, .f32⟩
  | 73 => ⟨S2x16x2x4x128x1, .f32⟩
  | 74 => ⟨S2x16x2x4x128x1, .f32⟩
  | 75 => ⟨S2x16x2x4x128x1, .f32⟩
  | 76 => ⟨S2x16x2x4x128x1, .f32⟩
  | 77 => ⟨S2x16x2x4x128x256, .f32⟩
  | 78 => ⟨S2x16x2x4x128x256, .f32⟩
  | 79 => ⟨S2x16x2x4x128x1, .f32⟩
  | 80 => ⟨S_, .f32⟩
  | 81 => ⟨S2x16x2x4x128x1, .f32⟩
  | 82 => ⟨S2x16x2x4x128x1, .f32⟩
  | 83 => ⟨S2x16x2x64x4x128, .f32⟩
  | 84 => ⟨S2x16x128x2x4x64, .f32⟩
  | 85 => ⟨S2x2048x512, .f32⟩
  | 86 => ⟨S2x16x2x4x128x1, .f32⟩
  | 87 => ⟨S2x16x2x4x128x1, .f32⟩
  | 88 => ⟨S2x2048x8x64, .bf16⟩
  | 89 => ⟨S2x16x128x2x4x64, .bf16⟩
  | 90 => ⟨S2x16x2x4x128x64, .bf16⟩
  | 91 => ⟨S2x16x2x512x64, .bf16⟩
  | 92 => ⟨S2x2048x2x64, .bf16⟩
  | 93 => ⟨S2x2x2048x64, .bf16⟩
  | 94 => ⟨S2x2048x2x64, .bf16⟩
  | 95 => ⟨S2x2x2048x64, .bf16⟩
  | 96 => ⟨S2x16x128x2x4x1, .f32⟩
  | 97 => ⟨S2x2048x8, .f32⟩
  | 98 => ⟨S_, .f32⟩
  | 99 => ⟨S2x2048x120, .f32⟩
  | 100 => ⟨S2x2048x128, .f32⟩
  | 101 => ⟨S8, .f32⟩
  | 102 => ⟨S_, .f32⟩
  | 103 => ⟨S8, .f32⟩
  | 104 => ⟨S8, .f32⟩
  | 105 => ⟨S_, .f32⟩
  | 106 => ⟨S8, .f32⟩
  | 107 => ⟨S8, .f32⟩
  | 108 => ⟨S8, .f32⟩
  | 109 => ⟨S_, .f32⟩
  | 110 => ⟨S8, .f32⟩
  | 111 => ⟨S8, .f32⟩
  | 112 => ⟨S_, .f32⟩
  | 113 => ⟨S8, .f32⟩
  | 114 => ⟨S8, .f32⟩
  | 115 => ⟨S2048, .f32⟩
  | 116 => ⟨S2048x1, .f32⟩
  | 117 => ⟨S1x8, .f32⟩
  | 118 => ⟨S2048x8, .f32⟩
  | 119 => ⟨S2048x8, .f32⟩
  | 120 => ⟨S2048x8, .f32⟩
  | 121 => ⟨S2048x8, .f32⟩
  | 122 => ⟨S2048x8, .f32⟩
  | 123 => ⟨S_, .f32⟩
  | 124 => ⟨S2048x48, .f32⟩
  | 125 => ⟨S_, .f32⟩
  | 126 => ⟨S2048x48, .f32⟩
  | 127 => ⟨S_, .f32⟩
  | _ => ⟨S2x2048x512, .f32⟩

abbrev hbmTy0_2 (i : Nat) : BufTy := match i % 128 with
  | 0 => ⟨S2048x8, .f32⟩
  | 1 => ⟨S2048x64, .f32⟩
  | 2 => ⟨S1x2048x1x64, .f32⟩
  | 3 => ⟨S1x2048x2x64, .f32⟩
  | 4 => ⟨S2048x128, .f32⟩
  | 5 => ⟨S2048x64, .f32⟩
  | 6 => ⟨S1x2048x1x64, .f32⟩
  | 7 => ⟨S1x2048x2x64, .f32⟩
  | 8 => ⟨S2048x128, .f32⟩
  | 9 => ⟨S2048x8, .f32⟩
  | 10 => ⟨S2048x64, .f32⟩
  | 11 => ⟨S1x2048x1x64, .f32⟩
  | 12 => ⟨S1x2048x2x64, .f32⟩
  | 13 => ⟨S2048x128, .f32⟩
  | 14 => ⟨S512, .i32⟩
  | 15 => ⟨S512x1, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S512x1, .i32⟩
  | 23 => ⟨S512x1, .i32⟩
  | 24 => ⟨S_, .i32⟩
  | 25 => ⟨S512x1, .i32⟩
  | 26 => ⟨S512x1, .i1⟩
  | 27 => ⟨S_, .i32⟩
  | 28 => ⟨S512x1, .i32⟩
  | 29 => ⟨S512x1, .i1⟩
  | 30 => ⟨S_, .i32⟩
  | 31 => ⟨S_, .i1⟩
  | 32 => ⟨S512x1, .i1⟩
  | 33 => ⟨S512x1, .i1⟩
  | 34 => ⟨S512x1, .i1⟩
  | 35 => ⟨S512x1, .i32⟩
  | 36 => ⟨S512x1, .i32⟩
  | 37 => ⟨S512x1, .i32⟩
  | 38 => ⟨S256, .i32⟩
  | 39 => ⟨S1x256, .i32⟩
  | 40 => ⟨S_, .i32⟩
  | 41 => ⟨S1x256, .i32⟩
  | 42 => ⟨S1x256, .i1⟩
  | 43 => ⟨S_, .i32⟩
  | 44 => ⟨S1x256, .i32⟩
  | 45 => ⟨S1x256, .i32⟩
  | 46 => ⟨S512x256, .i32⟩
  | 47 => ⟨S512x256, .i32⟩
  | 48 => ⟨S512x256, .i1⟩
  | 49 => ⟨S512x256, .i1⟩
  | 50 => ⟨S512x256, .i1⟩
  | 51 => ⟨S_, .i32⟩
  | 52 => ⟨S1x256, .i32⟩
  | 53 => ⟨S1x256, .i1⟩
  | 54 => ⟨S512x256, .i32⟩
  | 55 => ⟨S512x256, .i32⟩
  | 56 => ⟨S512x256, .i1⟩
  | 57 => ⟨S512x256, .i1⟩
  | 58 => ⟨S512x256, .i1⟩
  | 59 => ⟨S512x256, .i1⟩
  | 60 => ⟨S_, .f32⟩
  | 61 => ⟨S_, .f32⟩
  | 62 => ⟨S512x256, .f32⟩
  | 63 => ⟨S512x256, .f32⟩
  | 64 => ⟨S512x256, .f32⟩
  | 65 => ⟨S512x256, .f32⟩
  | 66 => ⟨S_, .f32⟩
  | 67 => ⟨S_, .f32⟩
  | 68 => ⟨S512x256, .f32⟩
  | 69 => ⟨S512x256, .f32⟩
  | 70 => ⟨S512x256, .f32⟩
  | 71 => ⟨S512x256, .f32⟩
  | 72 => ⟨S256x512, .f32⟩
  | 73 => ⟨S256x512, .f32⟩
  | 74 => ⟨S2x2048x2816, .bf16⟩
  | 75 => ⟨S1x512, .f32⟩
  | 76 => ⟨S1x8, .f32⟩
  | _ => ⟨S2x2048x512, .f32⟩

abbrev hbmTy (i : Nat) : BufTy := match i / 128 with
  | 0 => hbmTy0_0 i
  | 1 => hbmTy0_1 i
  | 2 => hbmTy0_2 i
  | _ => ⟨S2x2048x512, .f32⟩

abbrev bufTy : (tb : Table) → Fin (tcTables nBuf tb) → BufTy
  | .hbm, ⟨i, _⟩ => hbmTy i
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x512, .f32⟩
  | .local _ .vmem, ⟨5, _⟩ => ⟨S1x2x2x512x64, .bf16⟩
  | .local _ .vmem, ⟨6, _⟩ => ⟨S1x2x2x512x64, .bf16⟩
  | .local _ .vmem, ⟨7, _⟩ => ⟨S1x2x256x64, .bf16⟩
  | .local _ .vmem, ⟨8, _⟩ => ⟨S1x2x256x64, .bf16⟩
  | .local _ .vmem, ⟨9, _⟩ => ⟨S1x2x128x64, .bf16⟩
  | .local _ .vmem, ⟨10, _⟩ => ⟨S1x2x128x64, .bf16⟩
  | .local _ .vmem, ⟨11, _⟩ => ⟨S1x2x256x64, .bf16⟩
  | .local _ .vmem, ⟨12, _⟩ => ⟨S1x2x256x64, .bf16⟩
  | .local _ .vmem, ⟨13, _⟩ => ⟨S1x2x128x64, .bf16⟩
  | .local _ .vmem, ⟨14, _⟩ => ⟨S1x2x128x64, .bf16⟩
  | .local _ .vmem, ⟨15, _⟩ => ⟨S1x256x128, .f32⟩
  | .local _ .vmem, ⟨16, _⟩ => ⟨S1x256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x512, .f32⟩
  | .local _ .vmem, ⟨24, _⟩ => ⟨S256x512, .f32⟩
  | .local _ .vmem, ⟨25, _⟩ => ⟨S1x256x768, .bf16⟩
  | .local _ .vmem, ⟨26, _⟩ => ⟨S1x256x768, .bf16⟩
  | .local _ .vmem, ⟨27, _⟩ => ⟨S1x512, .f32⟩
  | .local _ .vmem, ⟨28, _⟩ => ⟨S1x8, .f32⟩
  | .local _ .vmem, ⟨29, _⟩ => ⟨S128x128, .f32⟩
  | .local _ .vmem, ⟨30, _⟩ => ⟨S128x128, .f32⟩
  | .local _ .smem, ⟨0, _⟩ => ⟨S1x8, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_7 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_8 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_9 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_10 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_cst_11 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_c : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_c_12 : Ref sig .tc := ⟨.hbm, 121, rfl⟩
abbrev main_v100 : Ref sig .tc := ⟨.hbm, 122, rfl⟩
abbrev main_v101 : Ref sig .tc := ⟨.hbm, 123, rfl⟩
abbrev main_c_13 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_c_14 : Ref sig .tc := ⟨.hbm, 137, rfl⟩
abbrev main_v114 : Ref sig .tc := ⟨.hbm, 138, rfl⟩
abbrev main_v115 : Ref sig .tc := ⟨.hbm, 139, rfl⟩
abbrev main_c_15 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_c_16 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_cst_17 : Ref sig .tc := ⟨.hbm, 151, rfl⟩
abbrev main_call0_v0 : Ref sig .tc := ⟨.hbm, 152, rfl⟩
abbrev main_v125_1 : Ref sig .tc := ⟨.hbm, 153, rfl⟩
abbrev main_call0_v2 : Ref sig .tc := ⟨.hbm, 154, rfl⟩
abbrev main_v125_0 : Ref sig .tc := ⟨.hbm, 155, rfl⟩
abbrev main_call0_cst : Ref sig .tc := ⟨.hbm, 156, rfl⟩
abbrev main_v125_2 : Ref sig .tc := ⟨.hbm, 157, rfl⟩
abbrev main_v126 : Ref sig .tc := ⟨.hbm, 158, rfl⟩
abbrev main_v127 : Ref sig .tc := ⟨.hbm, 159, rfl⟩
abbrev main_cst_18 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_19 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_cst_20 : Ref sig .tc := ⟨.hbm, 175, rfl⟩
abbrev main_v141 : Ref sig .tc := ⟨.hbm, 176, rfl⟩
abbrev main_cst_21 : Ref sig .tc := ⟨.hbm, 177, rfl⟩
abbrev main_v142 : Ref sig .tc := ⟨.hbm, 178, rfl⟩
abbrev main_cst_22 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_cst_23 : Ref sig .tc := ⟨.hbm, 187, rfl⟩
abbrev main_v150 : Ref sig .tc := ⟨.hbm, 188, rfl⟩
abbrev main_cst_24 : Ref sig .tc := ⟨.hbm, 189, rfl⟩
abbrev main_v151 : Ref sig .tc := ⟨.hbm, 190, rfl⟩
abbrev main_cst_25 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_cst_26 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_cst_27 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_cst_28 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_cst_29 : Ref sig .tc := ⟨.hbm, 230, rfl⟩
abbrev main_v187 : Ref sig .tc := ⟨.hbm, 231, rfl⟩
abbrev main_v188 : Ref sig .tc := ⟨.hbm, 232, rfl⟩
abbrev main_cst_30 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_cst_31 : Ref sig .tc := ⟨.hbm, 237, rfl⟩
abbrev main_v192 : Ref sig .tc := ⟨.hbm, 238, rfl⟩
abbrev main_v193 : Ref sig .tc := ⟨.hbm, 239, rfl⟩
abbrev main_cst_32 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_cst_33 : Ref sig .tc := ⟨.hbm, 251, rfl⟩
abbrev main_v204 : Ref sig .tc := ⟨.hbm, 252, rfl⟩
abbrev main_cst_34 : Ref sig .tc := ⟨.hbm, 253, rfl⟩
abbrev main_v205 : Ref sig .tc := ⟨.hbm, 254, rfl⟩
abbrev main_cst_35 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_c_36 : Ref sig .tc := ⟨.hbm, 272, rfl⟩
abbrev main_call1_v0 : Ref sig .tc := ⟨.hbm, 273, rfl⟩
abbrev main_call1_c : Ref sig .tc := ⟨.hbm, 274, rfl⟩
abbrev main_call1_v1 : Ref sig .tc := ⟨.hbm, 275, rfl⟩
abbrev main_call1_c_0 : Ref sig .tc := ⟨.hbm, 276, rfl⟩
abbrev main_call1_v2 : Ref sig .tc := ⟨.hbm, 277, rfl⟩
abbrev main_call1_v3 : Ref sig .tc := ⟨.hbm, 278, rfl⟩
abbrev main_call1_v4 : Ref sig .tc := ⟨.hbm, 279, rfl⟩
abbrev main_call1_c_1 : Ref sig .tc := ⟨.hbm, 280, rfl⟩
abbrev main_call1_v5 : Ref sig .tc := ⟨.hbm, 281, rfl⟩
abbrev main_call1_v6 : Ref sig .tc := ⟨.hbm, 282, rfl⟩
abbrev main_call1_c_2 : Ref sig .tc := ⟨.hbm, 283, rfl⟩
abbrev main_call1_v7 : Ref sig .tc := ⟨.hbm, 284, rfl⟩
abbrev main_call1_v8 : Ref sig .tc := ⟨.hbm, 285, rfl⟩
abbrev main_call1_c_3 : Ref sig .tc := ⟨.hbm, 286, rfl⟩
abbrev main_call1_v9 : Ref sig .tc := ⟨.hbm, 287, rfl⟩
abbrev main_call1_v10 : Ref sig .tc := ⟨.hbm, 288, rfl⟩
abbrev main_call1_v11 : Ref sig .tc := ⟨.hbm, 289, rfl⟩
abbrev main_call1_v12 : Ref sig .tc := ⟨.hbm, 290, rfl⟩
abbrev main_call1_v13 : Ref sig .tc := ⟨.hbm, 291, rfl⟩
abbrev main_call1_v14 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_c_37 : Ref sig .tc := ⟨.hbm, 296, rfl⟩
abbrev main_v225 : Ref sig .tc := ⟨.hbm, 297, rfl⟩
abbrev main_v226 : Ref sig .tc := ⟨.hbm, 298, rfl⟩
abbrev main_c_38 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_c_39 : Ref sig .tc := ⟨.hbm, 307, rfl⟩
abbrev main_v234 : Ref sig .tc := ⟨.hbm, 308, rfl⟩
abbrev main_v235 : Ref sig .tc := ⟨.hbm, 309, rfl⟩
abbrev main_v236 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_cst_40 : Ref sig .tc := ⟨.hbm, 316, rfl⟩
abbrev main_cst_41 : Ref sig .tc := ⟨.hbm, 317, rfl⟩
abbrev main_call2_v0 : Ref sig .tc := ⟨.hbm, 318, rfl⟩
abbrev main_call2_v1 : Ref sig .tc := ⟨.hbm, 319, rfl⟩
abbrev main_v242 : Ref sig .tc := ⟨.hbm, 320, rfl⟩
abbrev main_v243 : Ref sig .tc := ⟨.hbm, 321, rfl⟩
abbrev main_cst_42 : Ref sig .tc := ⟨.hbm, 322, rfl⟩
abbrev main_cst_43 : Ref sig .tc := ⟨.hbm, 323, rfl⟩
abbrev main_call3_v0 : Ref sig .tc := ⟨.hbm, 324, rfl⟩
abbrev main_call3_v1 : Ref sig .tc := ⟨.hbm, 325, rfl⟩
abbrev main_v244 : Ref sig .tc := ⟨.hbm, 326, rfl⟩
abbrev main_v245 : Ref sig .tc := ⟨.hbm, 327, rfl⟩
abbrev main_v246 : Ref sig .tc := ⟨.hbm, 328, rfl⟩
abbrev main_v247 : Ref sig .tc := ⟨.hbm, 329, rfl⟩
abbrev main_v248_0 : Ref sig .tc := ⟨.hbm, 330, rfl⟩
abbrev main_v248_1 : Ref sig .tc := ⟨.hbm, 331, rfl⟩
abbrev main_v248_2 : Ref sig .tc := ⟨.hbm, 332, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_scratch0 : Ref sig .tc := ⟨.vmem, 29, rfl⟩
abbrev cc0_scratch1 : Ref sig .tc := ⟨.vmem, 30, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem15_0 : DmaSem sig := 26
abbrev cc0_sem15_1 : DmaSem sig := 27
abbrev cc0_sem16_0 : DmaSem sig := 28
abbrev cc0_sem17_0 : DmaSem sig := 29

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v36 : BitVec 32 := Scalar.extui v2
  let c0_i32_15 : BitVec 32 := 0#32
  let v37 : BitVec 1 := Scalar.cmpi .ne v36 c0_i32_15
  v37

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v38 : BitVec 1 := Scalar.xori v2 v_true
  let v39 : BitVec 32 := Scalar.extui v38
  let c0_i32_16 : BitVec 32 := 0#32
  let v40 : BitVec 1 := Scalar.cmpi .ne v39 c0_i32_16
  v40

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v703 : BitVec 32 := Scalar.extui v2
  let c0_i32_296 : BitVec 32 := 0#32
  let v704 : BitVec 1 := Scalar.cmpi .ne v703 c0_i32_296
  v704

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let true_297 : BitVec 1 := 1#1
  let v705 : BitVec 1 := Scalar.xori v2 true_297
  let v706 : BitVec 32 := Scalar.extui v705
  let c0_i32_298 : BitVec 32 := 0#32
  let v707 : BitVec 1 := Scalar.cmpi .ne v706 c0_i32_298
  v707

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_6 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c2_i32 : BitVec 32 := 2#32
  let v1 : BitVec 32 := Scalar.muli c2_i32 v0
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![arg0.toNat, c0_i32_0.toNat, v3.toNat, c0_i32_1.toNat]

def cc0_transform_7 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_8 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c2_i32 : BitVec 32 := 2#32
  let v1 : BitVec 32 := Scalar.muli c2_i32 v0
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![arg0.toNat, c0_i32_0.toNat, v3.toNat, c0_i32_1.toNat]

def cc0_transform_9 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_10 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2x2x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x128x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x256x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x128x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x768 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== ReferenceIdeal.lean ====
abbrev S2x2048x512 : Shape := ⟨3, ![2, 2048, 512]⟩
abbrev S2x2048x128 : Shape := ⟨3, ![2, 2048, 128]⟩
abbrev S1x8 : Shape := ⟨2, ![1, 8]⟩
abbrev S1x512 : Shape := ⟨2, ![1, 512]⟩
abbrev S2x2048x1024 : Shape := ⟨3, ![2, 2048, 1024]⟩
abbrev S2x2048x2816 : Shape := ⟨3, ![2, 2048, 2816]⟩
abbrev S2x2048x8x64 : Shape := ⟨4, ![2, 2048, 8, 64]⟩
abbrev S8 : Shape := ⟨1, ![8]⟩
abbrev S_ : Shape := ⟨0, ![]⟩
abbrev S2048 : Shape := ⟨1, ![2048]⟩
abbrev S2048x1 : Shape := ⟨2, ![2048, 1]⟩
abbrev S2048x8 : Shape := ⟨2, ![2048, 8]⟩
abbrev S1x2048x1x8 : Shape := ⟨4, ![1, 2048, 1, 8]⟩
abbrev S2x2048x8x8 : Shape := ⟨4, ![2, 2048, 8, 8]⟩
abbrev S2x2048x8x48 : Shape := ⟨4, ![2, 2048, 8, 48]⟩
abbrev S2x2048x2x64 : Shape := ⟨4, ![2, 2048, 2, 64]⟩
abbrev S2x2048x2x8 : Shape := ⟨4, ![2, 2048, 2, 8]⟩
abbrev S2x2048x2x48 : Shape := ⟨4, ![2, 2048, 2, 48]⟩
abbrev S2x16x128x2x4x64 : Shape := ⟨6, ![2, 16, 128, 2, 4, 64]⟩
abbrev S2x16x128x2x64 : Shape := ⟨5, ![2, 16, 128, 2, 64]⟩
abbrev S2x1x128x2x64 : Shape := ⟨5, ![2, 1, 128, 2, 64]⟩
abbrev S2x15x128x2x64 : Shape := ⟨5, ![2, 15, 128, 2, 64]⟩
abbrev S2x16x256x2x64 : Shape := ⟨5, ![2, 16, 256, 2, 64]⟩
abbrev S2x16x2x256x128x4 : Shape := ⟨6, ![2, 16, 2, 256, 128, 4]⟩
abbrev S2x16x2x4x128x256 : Shape := ⟨6, ![2, 16, 2, 4, 128, 256]⟩
abbrev S16 : Shape := ⟨1, ![16]⟩
abbrev S16x1 : Shape := ⟨2, ![16, 1]⟩
abbrev S128 : Shape := ⟨1, ![128]⟩
abbrev S1x128 : Shape := ⟨2, ![1, 128]⟩
abbrev S16x128 : Shape := ⟨2, ![16, 128]⟩
abbrev S256 : Shape := ⟨1, ![256]⟩
abbrev S1x256 : Shape := ⟨2, ![1, 256]⟩
abbrev S16x256 : Shape := ⟨2, ![16, 256]⟩
abbrev S16x128x1 : Shape := ⟨3, ![16, 128, 1]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S2x4 : Shape := ⟨2, ![2, 4]⟩
abbrev S1x1x2x4x1x1 : Shape := ⟨6, ![1, 1, 2, 4, 1, 1]⟩
abbrev S2x16x2x4x128 : Shape := ⟨5, ![2, 16, 2, 4, 128]⟩
abbrev S2x16x2x4x128x1 : Shape := ⟨6, ![2, 16, 2, 4, 128, 1]⟩
abbrev S2x16x2x64x4x128 : Shape := ⟨6, ![2, 16, 2, 64, 4, 128]⟩
abbrev S512 : Shape := ⟨1, ![512]⟩
abbrev S2x2048 : Shape := ⟨2, ![2, 2048]⟩
abbrev S2x2048x1 : Shape := ⟨3, ![2, 2048, 1]⟩
abbrev S1x1x512 : Shape := ⟨3, ![1, 1, 512]⟩
abbrev S2x16x2x64x256 : Shape := ⟨5, ![2, 16, 2, 64, 256]⟩
abbrev S2x4x1 : Shape := ⟨3, ![2, 4, 1]⟩
abbrev S2x16x2x128x4x64 : Shape := ⟨6, ![2, 16, 2, 128, 4, 64]⟩
abbrev S2x16x2x256x64 : Shape := ⟨5, ![2, 16, 2, 256, 64]⟩
abbrev S2x2048x768 : Shape := ⟨3, ![2, 2048, 768]⟩
abbrev S2x2048x2048 : Shape := ⟨3, ![2, 2048, 2048]⟩

abbrev nBuf : Space → Nat
  | .hbm => 388
  | .vmem => 0
  | .smem => 0
  | _ => 0

abbrev hbmTy0_0 (i : Nat) : BufTy := match i % 128 with
  | 0 => ⟨S2x2048x512, .f32⟩
  | 1 => ⟨S2x2048x128, .f32⟩
  | 2 => ⟨S2x2048x128, .f32⟩
  | 3 => ⟨S1x8, .f32⟩
  | 4 => ⟨S1x512, .f32⟩
  | 5 => ⟨S2x2048x1024, .f32⟩
  | 6 => ⟨S2x2048x2816, .bf16⟩
  | 7 => ⟨S2x2048x8x64, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S2048, .f32⟩
  | 23 => ⟨S2048x1, .f32⟩
  | 24 => ⟨S1x8, .f32⟩
  | 25 => ⟨S2048x8, .f32⟩
  | 26 => ⟨S2048x8, .f32⟩
  | 27 => ⟨S2048x8, .f32⟩
  | 28 => ⟨S2048x8, .f32⟩
  | 29 => ⟨S1x2048x1x8, .f32⟩
  | 30 => ⟨S2048x8, .f32⟩
  | 31 => ⟨S1x2048x1x8, .f32⟩
  | 32 => ⟨S2x2048x8x8, .f32⟩
  | 33 => ⟨S2x2048x8x8, .f32⟩
  | 34 => ⟨S2x2048x8x48, .f32⟩
  | 35 => ⟨S2x2048x8x8, .f32⟩
  | 36 => ⟨S2x2048x8x8, .f32⟩
  | 37 => ⟨S2x2048x8x8, .f32⟩
  | 38 => ⟨S2x2048x8x8, .f32⟩
  | 39 => ⟨S2x2048x8x8, .f32⟩
  | 40 => ⟨S2x2048x8x8, .f32⟩
  | 41 => ⟨S2x2048x8x8, .f32⟩
  | 42 => ⟨S2x2048x8x8, .f32⟩
  | 43 => ⟨S2x2048x8x8, .f32⟩
  | 44 => ⟨S2x2048x8x8, .f32⟩
  | 45 => ⟨S2x2048x8x64, .f32⟩
  | 46 => ⟨S2x2048x2x64, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S2048, .f32⟩
  | 62 => ⟨S2048x1, .f32⟩
  | 63 => ⟨S1x8, .f32⟩
  | 64 => ⟨S2048x8, .f32⟩
  | 65 => ⟨S2048x8, .f32⟩
  | 66 => ⟨S2048x8, .f32⟩
  | 67 => ⟨S2048x8, .f32⟩
  | 68 => ⟨S1x2048x1x8, .f32⟩
  | 69 => ⟨S2048x8, .f32⟩
  | 70 => ⟨S1x2048x1x8, .f32⟩
  | 71 => ⟨S2x2048x2x8, .f32⟩
  | 72 => ⟨S2x2048x2x8, .f32⟩
  | 73 => ⟨S2x2048x2x48, .f32⟩
  | 74 => ⟨S2x2048x2x8, .f32⟩
  | 75 => ⟨S2x2048x2x8, .f32⟩
  | 76 => ⟨S2x2048x2x8, .f32⟩
  | 77 => ⟨S2x2048x2x8, .f32⟩
  | 78 => ⟨S2x2048x2x8, .f32⟩
  | 79 => ⟨S2x2048x2x8, .f32⟩
  | 80 => ⟨S2x2048x2x8, .f32⟩
  | 81 => ⟨S2x2048x2x8, .f32⟩
  | 82 => ⟨S2x2048x2x8, .f32⟩
  | 83 => ⟨S2x2048x2x8, .f32⟩
  | 84 => ⟨S2x2048x2x64, .f32⟩
  | 85 => ⟨S2x2048x2x64, .f32⟩
  | 86 => ⟨S8, .f32⟩
  | 87 => ⟨S2x16x128x2x4x64, .f32⟩
  | 88 => ⟨S2x16x128x2x64, .f32⟩
  | 89 => ⟨S2x1x128x2x64, .f32⟩
  | 90 => ⟨S_, .f32⟩
  | 91 => ⟨S2x1x128x2x64, .f32⟩
  | 92 => ⟨S2x15x128x2x64, .f32⟩
  | 93 => ⟨S2x16x128x2x64, .f32⟩
  | 94 => ⟨S_, .f32⟩
  | 95 => ⟨S2x1x128x2x64, .f32⟩
  | 96 => ⟨S2x16x256x2x64, .f32⟩
  | 97 => ⟨S2x16x128x2x64, .f32⟩
  | 98 => ⟨S2x1x128x2x64, .f32⟩
  | 99 => ⟨S_, .f32⟩
  | 100 => ⟨S2x1x128x2x64, .f32⟩
  | 101 => ⟨S2x15x128x2x64, .f32⟩
  | 102 => ⟨S2x16x128x2x64, .f32⟩
  | 103 => ⟨S_, .f32⟩
  | 104 => ⟨S2x1x128x2x64, .f32⟩
  | 105 => ⟨S2x16x256x2x64, .f32⟩
  | 106 => ⟨S2x16x2x256x128x4, .f32⟩
  | 107 => ⟨S2x16x2x4x128x256, .f32⟩
  | 108 => ⟨S_, .f32⟩
  | 109 => ⟨S2x16x2x4x128x256, .f32⟩
  | 110 => ⟨S2x16x2x4x128x256, .f32⟩
  | 111 => ⟨S16, .i32⟩
  | 112 => ⟨S16x1, .i32⟩
  | 113 => ⟨S_, .i32⟩
  | 114 => ⟨S16x1, .i32⟩
  | 115 => ⟨S16x1, .i32⟩
  | 116 => ⟨S128, .i32⟩
  | 117 => ⟨S1x128, .i32⟩
  | 118 => ⟨S16x128, .i32⟩
  | 119 => ⟨S16x128, .i32⟩
  | 120 => ⟨S16x128, .i32⟩
  | 121 => ⟨S_, .i32⟩
  | 122 => ⟨S16x1, .i32⟩
  | 123 => ⟨S16x1, .i32⟩
  | 124 => ⟨S_, .i32⟩
  | 125 => ⟨S16x1, .i32⟩
  | 126 => ⟨S16x1, .i32⟩
  | 127 => ⟨S256, .i32⟩
  | _ => ⟨S2x2048x512, .f32⟩

abbrev hbmTy0_1 (i : Nat) : BufTy := match i % 128 with
  | 0 => ⟨S1x256, .i32⟩
  | 1 => ⟨S16x256, .i32⟩
  | 2 => ⟨S16x256, .i32⟩
  | 3 => ⟨S16x256, .i32⟩
  | 4 => ⟨S16x128x1, .i32⟩
  | 5 => ⟨S16x1x256, .i32⟩
  | 6 => ⟨S16x128x256, .i32⟩
  | 7 => ⟨S16x128x256, .i32⟩
  | 8 => ⟨S16x128x256, .i32⟩
  | 9 => ⟨S_, .i32⟩
  | 10 => ⟨S16x128x256, .i32⟩
  | 11 => ⟨S16x128x256, .i1⟩
  | 12 => ⟨S_, .i32⟩
  | 13 => ⟨S16x128x256, .i32⟩
  | 14 => ⟨S16x128x256, .i1⟩
  | 15 => ⟨S16x128x256, .i1⟩
  | 16 => ⟨S16x1x256, .i32⟩
  | 17 => ⟨S_, .i32⟩
  | 18 => ⟨S16x1x256, .i32⟩
  | 19 => ⟨S16x1x256, .i1⟩
  | 20 => ⟨S16x128x256, .i1⟩
  | 21 => ⟨S16x128x256, .i1⟩
  | 22 => ⟨S1x16x1x1x128x256, .i1⟩
  | 23 => ⟨S_, .f32⟩
  | 24 => ⟨S_, .f32⟩
  | 25 => ⟨S2x16x2x4x128x256, .i1⟩
  | 26 => ⟨S2x16x2x4x128x256, .f32⟩
  | 27 => ⟨S2x16x2x4x128x256, .f32⟩
  | 28 => ⟨S_, .f32⟩
  | 29 => ⟨S2x16x2x4x128x256, .f32⟩
  | 30 => ⟨S2x4, .f32⟩
  | 31 => ⟨S1x1x2x4x1x1, .f32⟩
  | 32 => ⟨S_, .f32⟩
  | 33 => ⟨S2x16x2x4x128, .f32⟩
  | 34 => ⟨S2x16x2x4x128x1, .f32⟩
  | 35 => ⟨S2x16x2x4x128x256, .f32⟩
  | 36 => ⟨S2x16x2x4x128x256, .i1⟩
  | 37 => ⟨S2x16x2x4x128x256, .f32⟩
  | 38 => ⟨S_, .f32⟩
  | 39 => ⟨S2x16x2x4x128, .f32⟩
  | 40 => ⟨S2x16x2x4x128x1, .f32⟩
  | 41 => ⟨S2x16x2x4x128x1, .f32⟩
  | 42 => ⟨S2x16x2x4x128x1, .f32⟩
  | 43 => ⟨S2x16x2x4x128x1, .f32⟩
  | 44 => ⟨S2x16x2x4x128x1, .i1⟩
  | 45 => ⟨S2x16x2x4x128x1, .f32⟩
  | 46 => ⟨S2x16x2x4x128x1, .i1⟩
  | 47 => ⟨S_, .f32⟩
  | 48 => ⟨S2x16x2x4x128x1, .f32⟩
  | 49 => ⟨S_, .f32⟩
  | 50 => ⟨S2x16x2x4x128x1, .f32⟩
  | 51 => ⟨S_, .f32⟩
  | 52 => ⟨S2x16x2x4x128x1, .f32⟩
  | 53 => ⟨S2x16x2x4x128x1, .f32⟩
  | 54 => ⟨S2x16x2x4x128x1, .f32⟩
  | 55 => ⟨S2x16x2x4x128x1, .f32⟩
  | 56 => ⟨S2x16x2x4x128x1, .i1⟩
  | 57 => ⟨S2x16x2x4x128x1, .f32⟩
  | 58 => ⟨S2x16x2x4x128x1, .i1⟩
  | 59 => ⟨S_, .f32⟩
  | 60 => ⟨S2x16x2x4x128x1, .f32⟩
  | 61 => ⟨S_, .f32⟩
  | 62 => ⟨S2x16x2x4x128x1, .f32⟩
  | 63 => ⟨S_, .f32⟩
  | 64 => ⟨S2x16x2x4x128x1, .f32⟩
  | 65 => ⟨S2x16x2x4x128x1, .f32⟩
  | 66 => ⟨S2x16x2x4x128x1, .f32⟩
  | 67 => ⟨S2x16x2x4x128x256, .f32⟩
  | 68 => ⟨S2x16x2x4x128x256, .f32⟩
  | 69 => ⟨S2x16x2x4x128x256, .f32⟩
  | 70 => ⟨S_, .f32⟩
  | 71 => ⟨S2x16x2x4x128, .f32⟩
  | 72 => ⟨S2x16x2x4x128x1, .f32⟩
  | 73 => ⟨S2x16x2x4x128x1, .f32⟩
  | 74 => ⟨S2x16x2x4x128x1, .f32⟩
  | 75 => ⟨S2x16x2x4x128x1, .f32⟩
  | 76 => ⟨S2x16x2x4x128x1, .f32⟩
  | 77 => ⟨S2x16x2x4x128x256, .f32⟩
  | 78 => ⟨S2x16x2x4x128x256, .f32⟩
  | 79 => ⟨S2x16x2x4x128x1, .f32⟩
  | 80 => ⟨S_, .f32⟩
  | 81 => ⟨S2x16x2x4x128x1, .f32⟩
  | 82 => ⟨S2x16x2x4x128x1, .f32⟩
  | 83 => ⟨S2x16x2x64x4x128, .f32⟩
  | 84 => ⟨S2x16x128x2x4x64, .f32⟩
  | 85 => ⟨S2x2048x512, .f32⟩
  | 86 => ⟨S2x16x2x4x128x1, .f32⟩
  | 87 => ⟨S2x16x2x4x128x1, .f32⟩
  | 88 => ⟨S512, .f32⟩
  | 89 => ⟨S2x2048x512, .f32⟩
  | 90 => ⟨S_, .f32⟩
  | 91 => ⟨S2x2048, .f32⟩
  | 92 => ⟨S2x2048x1, .f32⟩
  | 93 => ⟨S_, .f32⟩
  | 94 => ⟨S2x2048x1, .f32⟩
  | 95 => ⟨S2x2048x1, .f32⟩
  | 96 => ⟨S_, .f32⟩
  | 97 => ⟨S2x2048x1, .f32⟩
  | 98 => ⟨S2x2048x1, .f32⟩
  | 99 => ⟨S2x2048x1, .f32⟩
  | 100 => ⟨S2x2048x1, .f32⟩
  | 101 => ⟨S_, .f32⟩
  | 102 => ⟨S2x2048x1, .f32⟩
  | 103 => ⟨S2x2048x1, .f32⟩
  | 104 => ⟨S2x2048x512, .f32⟩
  | 105 => ⟨S2x2048x512, .f32⟩
  | 106 => ⟨S1x1x512, .f32⟩
  | 107 => ⟨S2x2048x512, .f32⟩
  | 108 => ⟨S2x2048x512, .f32⟩
  | 109 => ⟨S2x2048x512, .f32⟩
  | 110 => ⟨S2x2048x512, .f32⟩
  | 111 => ⟨S_, .f32⟩
  | 112 => ⟨S512, .f32⟩
  | 113 => ⟨S1x1x512, .f32⟩
  | 114 => ⟨S2x2048x512, .f32⟩
  | 115 => ⟨S2x2048x512, .f32⟩
  | 116 => ⟨S_, .f32⟩
  | 117 => ⟨S512, .f32⟩
  | 118 => ⟨S2x2048x512, .f32⟩
  | 119 => ⟨S_, .f32⟩
  | 120 => ⟨S2x2048, .f32⟩
  | 121 => ⟨S2x2048x1, .f32⟩
  | 122 => ⟨S2x2048x512, .f32⟩
  | 123 => ⟨S2x2048x512, .f32⟩
  | 124 => ⟨S2x2048x1, .f32⟩
  | 125 => ⟨S_, .f32⟩
  | 126 => ⟨S2x2048x1, .f32⟩
  | 127 => ⟨S2x2048x1, .f32⟩
  | _ => ⟨S2x2048x512, .f32⟩

abbrev hbmTy0_2 (i : Nat) : BufTy := match i % 128 with
  | 0 => ⟨S_, .f32⟩
  | 1 => ⟨S2x2048, .f32⟩
  | 2 => ⟨S2x2048x512, .f32⟩
  | 3 => ⟨S2x2048x512, .f32⟩
  | 4 => ⟨S2x2048x512, .f32⟩
  | 5 => ⟨S2x2048x512, .f32⟩
  | 6 => ⟨S2x2048x512, .f32⟩
  | 7 => ⟨S1x512, .f32⟩
  | 8 => ⟨S2x16x128x2x4x64, .f32⟩
  | 9 => ⟨S2x16x2x64x4x128, .f32⟩
  | 10 => ⟨S2x16x2x4x128x256, .f32⟩
  | 11 => ⟨S2x16x2x64x256, .f32⟩
  | 12 => ⟨S2x16x256x2x64, .f32⟩
  | 13 => ⟨S2x16x2x4x128x256, .f32⟩
  | 14 => ⟨S2x16x2x4x128x256, .f32⟩
  | 15 => ⟨S2x16x2x4x128x256, .f32⟩
  | 16 => ⟨S_, .f32⟩
  | 17 => ⟨S2x16x2x4x128, .f32⟩
  | 18 => ⟨S2x16x2x4x128x1, .f32⟩
  | 19 => ⟨S2x16x2x4x128x1, .f32⟩
  | 20 => ⟨S2x16x2x4x128x256, .f32⟩
  | 21 => ⟨S2x16x2x4x128x256, .f32⟩
  | 22 => ⟨S2x16x2x4x128x1, .f32⟩
  | 23 => ⟨S_, .f32⟩
  | 24 => ⟨S2x4x1, .f32⟩
  | 25 => ⟨S1x1x2x4x1x1, .f32⟩
  | 26 => ⟨S2x16x2x4x128x1, .f32⟩
  | 27 => ⟨S_, .f32⟩
  | 28 => ⟨S2x16x2x4x128, .f32⟩
  | 29 => ⟨S2x16x2x4x128x256, .f32⟩
  | 30 => ⟨S2x16x2x4x128x256, .f32⟩
  | 31 => ⟨S2x16x2x4x128x256, .f32⟩
  | 32 => ⟨S2x16x2x4x128x256, .f32⟩
  | 33 => ⟨S_, .f32⟩
  | 34 => ⟨S2x16x2x4x128, .f32⟩
  | 35 => ⟨S2x16x2x4x128x1, .f32⟩
  | 36 => ⟨S2x16x2x4x128x1, .f32⟩
  | 37 => ⟨S2x16x2x4x128x1, .f32⟩
  | 38 => ⟨S_, .f32⟩
  | 39 => ⟨S2x4x1, .f32⟩
  | 40 => ⟨S1x1x2x4x1x1, .f32⟩
  | 41 => ⟨S1x1x2x4x1x1, .f32⟩
  | 42 => ⟨S2x16x2x4x128x1, .f32⟩
  | 43 => ⟨S_, .f32⟩
  | 44 => ⟨S2x16x2x4x128, .f32⟩
  | 45 => ⟨S2x16x2x4x128, .f32⟩
  | 46 => ⟨S2x16x2x4x128x256, .f32⟩
  | 47 => ⟨S2x16x2x4x128x256, .f32⟩
  | 48 => ⟨S2x16x2x4x128x256, .f32⟩
  | 49 => ⟨S_, .f32⟩
  | 50 => ⟨S2x4, .f32⟩
  | 51 => ⟨S8, .f32⟩
  | 52 => ⟨S_, .f32⟩
  | 53 => ⟨S2x16x2x4x128x256, .f32⟩
  | 54 => ⟨S2x16x2x4x128x256, .f32⟩
  | 55 => ⟨S_, .f32⟩
  | 56 => ⟨S2x16x2x4x128x256, .f32⟩
  | 57 => ⟨S2x16x2x4x128x256, .f32⟩
  | 58 => ⟨S2x16x2x256x128x4, .f32⟩
  | 59 => ⟨S2x16x2x128x4x64, .f32⟩
  | 60 => ⟨S2x16x128x2x4x64, .f32⟩
  | 61 => ⟨S2x16x2x256x64, .f32⟩
  | 62 => ⟨S2x16x256x2x64, .f32⟩
  | 63 => ⟨S2x16x128x2x64, .f32⟩
  | 64 => ⟨S2x16x128x2x64, .f32⟩
  | 65 => ⟨S2x1x128x2x64, .f32⟩
  | 66 => ⟨S2x15x128x2x64, .f32⟩
  | 67 => ⟨S_, .f32⟩
  | 68 => ⟨S2x16x128x2x64, .f32⟩
  | 69 => ⟨S2x16x128x2x64, .f32⟩
  | 70 => ⟨S2x2048x2x64, .f32⟩
  | 71 => ⟨S2x16x128x2x64, .f32⟩
  | 72 => ⟨S2x16x128x2x64, .f32⟩
  | 73 => ⟨S2x1x128x2x64, .f32⟩
  | 74 => ⟨S2x15x128x2x64, .f32⟩
  | 75 => ⟨S_, .f32⟩
  | 76 => ⟨S2x16x128x2x64, .f32⟩
  | 77 => ⟨S2x16x128x2x64, .f32⟩
  | 78 => ⟨S2x2048x2x64, .f32⟩
  | 79 => ⟨S2x2048x8x64, .f32⟩
  | 80 => ⟨S1x8, .f32⟩
  | 81 => ⟨S2x2048x128, .f32⟩
  | 82 => ⟨S2x2048x2x8, .f32⟩
  | 83 => ⟨S2x2048x2x8, .f32⟩
  | 84 => ⟨S2x2048x2x48, .f32⟩
  | 85 => ⟨S2x2048x2x8, .f32⟩
  | 86 => ⟨S2x2048x2x8, .f32⟩
  | 87 => ⟨S2x2048x2x8, .f32⟩
  | 88 => ⟨S2x2048x2x8, .f32⟩
  | 89 => ⟨S2x2048x2x8, .f32⟩
  | 90 => ⟨S2x2048x2x8, .f32⟩
  | 91 => ⟨S2x2048x2x8, .f32⟩
  | 92 => ⟨S2x2048x2x8, .f32⟩
  | 93 => ⟨S2x2048x2x8, .f32⟩
  | 94 => ⟨S2x2048x2x8, .f32⟩
  | 95 => ⟨S2x2048x2x8, .f32⟩
  | 96 => ⟨S_, .f32⟩
  | 97 => ⟨S2x2048x2x64, .f32⟩
  | 98 => ⟨S_, .f32⟩
  | 99 => ⟨S2x2048x2x64, .f32⟩
  | 100 => ⟨S2x2048x2x64, .f32⟩
  | 101 => ⟨S_, .f32⟩
  | 102 => ⟨S2x2048x2x64, .f32⟩
  | 103 => ⟨S2x2048x2x64, .f32⟩
  | 104 => ⟨S2x2048x128, .f32⟩
  | 105 => ⟨S2x2048x8x8, .f32⟩
  | 106 => ⟨S2x2048x8x8, .f32⟩
  | 107 => ⟨S2x2048x8x48, .f32⟩
  | 108 => ⟨S2x2048x8x8, .f32⟩
  | 109 => ⟨S2x2048x8x8, .f32⟩
  | 110 => ⟨S2x2048x8x8, .f32⟩
  | 111 => ⟨S2x2048x8x8, .f32⟩
  | 112 => ⟨S2x2048x8x8, .f32⟩
  | 113 => ⟨S2x2048x8x8, .f32⟩
  | 114 => ⟨S2x2048x8x8, .f32⟩
  | 115 => ⟨S2x2048x8x8, .f32⟩
  | 116 => ⟨S2x2048x8x8, .f32⟩
  | 117 => ⟨S2x2048x8x8, .f32⟩
  | 118 => ⟨S2x2048x8x8, .f32⟩
  | 119 => ⟨S_, .f32⟩
  | 120 => ⟨S2x2048x8x64, .f32⟩
  | 121 => ⟨S_, .f32⟩
  | 122 => ⟨S2x2048x8x64, .f32⟩
  | 123 => ⟨S2x2048x8x64, .f32⟩
  | 124 => ⟨S_, .f32⟩
  | 125 => ⟨S2x2048x8x64, .f32⟩
  | 126 => ⟨S2x2048x8x64, .f32⟩
  | 127 => ⟨S2x2048x512, .f32⟩
  | _ => ⟨S2x2048x512, .f32⟩

abbrev hbmTy0_3 (i : Nat) : BufTy := match i % 128 with
  | 0 => ⟨S2x2048x768, .f32⟩
  | 1 => ⟨S2x2048x768, .bf16⟩
  | 2 => ⟨S2x2048x2048, .bf16⟩
  | 3 => ⟨S2x2048x2816, .bf16⟩
  | _ => ⟨S2x2048x512, .f32⟩

abbrev hbmTy (i : Nat) : BufTy := match i / 128 with
  | 0 => hbmTy0_0 i
  | 1 => hbmTy0_1 i
  | 2 => hbmTy0_2 i
  | 3 => hbmTy0_3 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_7 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_8 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_9 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_10 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_cst_11 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_c : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_c_12 : Ref sig .tc := ⟨.hbm, 121, rfl⟩
abbrev main_v100 : Ref sig .tc := ⟨.hbm, 122, rfl⟩
abbrev main_v101 : Ref sig .tc := ⟨.hbm, 123, rfl⟩
abbrev main_c_13 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_c_14 : Ref sig .tc := ⟨.hbm, 137, rfl⟩
abbrev main_v114 : Ref sig .tc := ⟨.hbm, 138, rfl⟩
abbrev main_v115 : Ref sig .tc := ⟨.hbm, 139, rfl⟩
abbrev main_c_15 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_c_16 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_cst_17 : Ref sig .tc := ⟨.hbm, 151, rfl⟩
abbrev main_call0_v0 : Ref sig .tc := ⟨.hbm, 152, rfl⟩
abbrev main_v125_1 : Ref sig .tc := ⟨.hbm, 153, rfl⟩
abbrev main_call0_v2 : Ref sig .tc := ⟨.hbm, 154, rfl⟩
abbrev main_v125_0 : Ref sig .tc := ⟨.hbm, 155, rfl⟩
abbrev main_call0_cst : Ref sig .tc := ⟨.hbm, 156, rfl⟩
abbrev main_v125_2 : Ref sig .tc := ⟨.hbm, 157, rfl⟩
abbrev main_v126 : Ref sig .tc := ⟨.hbm, 158, rfl⟩
abbrev main_v127 : Ref sig .tc := ⟨.hbm, 159, rfl⟩
abbrev main_cst_18 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_19 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_cst_20 : Ref sig .tc := ⟨.hbm, 175, rfl⟩
abbrev main_v141 : Ref sig .tc := ⟨.hbm, 176, rfl⟩
abbrev main_cst_21 : Ref sig .tc := ⟨.hbm, 177, rfl⟩
abbrev main_v142 : Ref sig .tc := ⟨.hbm, 178, rfl⟩
abbrev main_cst_22 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_cst_23 : Ref sig .tc := ⟨.hbm, 187, rfl⟩
abbrev main_v150 : Ref sig .tc := ⟨.hbm, 188, rfl⟩
abbrev main_cst_24 : Ref sig .tc := ⟨.hbm, 189, rfl⟩
abbrev main_v151 : Ref sig .tc := ⟨.hbm, 190, rfl⟩
abbrev main_cst_25 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_cst_26 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_cst_27 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_cst_28 : Ref sig .tc := ⟨.hbm, 218, rfl⟩
abbrev main_v176 : Ref sig .tc := ⟨.hbm, 219, rfl⟩
abbrev main_v177 : Ref sig .tc := ⟨.hbm, 220, rfl⟩
abbrev main_cst_29 : Ref sig .tc := ⟨.hbm, 221, rfl⟩
abbrev main_v178 : Ref sig .tc := ⟨.hbm, 222, rfl⟩
abbrev main_v179 : Ref sig .tc := ⟨.hbm, 223, rfl⟩
abbrev main_cst_30 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_cst_31 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_cst_32 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_cst_33 : Ref sig .tc := ⟨.hbm, 244, rfl⟩
abbrev main_v197 : Ref sig .tc := ⟨.hbm, 245, rfl⟩
abbrev main_v198 : Ref sig .tc := ⟨.hbm, 246, rfl⟩
abbrev main_cst_34 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_cst_35 : Ref sig .tc := ⟨.hbm, 253, rfl⟩
abbrev main_v204 : Ref sig .tc := ⟨.hbm, 254, rfl⟩
abbrev main_v205 : Ref sig .tc := ⟨.hbm, 255, rfl⟩
abbrev main_cst_36 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_cst_37 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_cst_38 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_cst_39 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_cst_40 : Ref sig .tc := ⟨.hbm, 289, rfl⟩
abbrev main_v235 : Ref sig .tc := ⟨.hbm, 290, rfl⟩
abbrev main_v236 : Ref sig .tc := ⟨.hbm, 291, rfl⟩
abbrev main_v237 : Ref sig .tc := ⟨.hbm, 292, rfl⟩
abbrev main_v238 : Ref sig .tc := ⟨.hbm, 293, rfl⟩
abbrev main_cst_41 : Ref sig .tc := ⟨.hbm, 294, rfl⟩
abbrev main_v239 : Ref sig .tc := ⟨.hbm, 295, rfl⟩
abbrev main_v240 : Ref sig .tc := ⟨.hbm, 296, rfl⟩
abbrev main_v241 : Ref sig .tc := ⟨.hbm, 297, rfl⟩
abbrev main_v242 : Ref sig .tc := ⟨.hbm, 298, rfl⟩
abbrev main_cst_42 : Ref sig .tc := ⟨.hbm, 299, rfl⟩
abbrev main_v243 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_v247 : Ref sig .tc := ⟨.hbm, 304, rfl⟩
abbrev main_cst_43 : Ref sig .tc := ⟨.hbm, 305, rfl⟩
abbrev main_v248 : Ref sig .tc := ⟨.hbm, 306, rfl⟩
abbrev main_v249 : Ref sig .tc := ⟨.hbm, 307, rfl⟩
abbrev main_call1_cst : Ref sig .tc := ⟨.hbm, 308, rfl⟩
abbrev main_call1_v0 : Ref sig .tc := ⟨.hbm, 309, rfl⟩
abbrev main_v250 : Ref sig .tc := ⟨.hbm, 310, rfl⟩
abbrev main_cst_44 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩
abbrev main_v260 : Ref sig .tc := ⟨.hbm, 321, rfl⟩
abbrev main_v261 : Ref sig .tc := ⟨.hbm, 322, rfl⟩
abbrev main_cst_45 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_v268 : Ref sig .tc := ⟨.hbm, 330, rfl⟩
abbrev main_cst_46 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_v277 : Ref sig .tc := ⟨.hbm, 340, rfl⟩
abbrev main_v278 : Ref sig .tc := ⟨.hbm, 341, rfl⟩
abbrev main_v279 : Ref sig .tc := ⟨.hbm, 342, rfl⟩
abbrev main_v280 : Ref sig .tc := ⟨.hbm, 343, rfl⟩
abbrev main_v281 : Ref sig .tc := ⟨.hbm, 344, rfl⟩
abbrev main_v282 : Ref sig .tc := ⟨.hbm, 345, rfl⟩
abbrev main_v283 : Ref sig .tc := ⟨.hbm, 346, rfl⟩
abbrev main_v284 : Ref sig .tc := ⟨.hbm, 347, rfl⟩
abbrev main_v285 : Ref sig .tc := ⟨.hbm, 348, rfl⟩
abbrev main_v286 : Ref sig .tc := ⟨.hbm, 349, rfl⟩
abbrev main_v287 : Ref sig .tc := ⟨.hbm, 350, rfl⟩
abbrev main_v288 : Ref sig .tc := ⟨.hbm, 351, rfl⟩
abbrev main_cst_47 : Ref sig .tc := ⟨.hbm, 352, rfl⟩
abbrev main_v289 : Ref sig .tc := ⟨.hbm, 353, rfl⟩
abbrev main_cst_48 : Ref sig .tc := ⟨.hbm, 354, rfl⟩
abbrev main_v290 : Ref sig .tc := ⟨.hbm, 355, rfl⟩
abbrev main_v291 : Ref sig .tc := ⟨.hbm, 356, rfl⟩
abbrev main_cst_49 : Ref sig .tc := ⟨.hbm, 357, rfl⟩
abbrev main_v292 : Ref sig .tc := ⟨.hbm, 358, rfl⟩
abbrev main_v293 : Ref sig .tc := ⟨.hbm, 359, rfl⟩
abbrev main_v294 : Ref sig .tc := ⟨.hbm, 360, rfl⟩
abbrev main_v295 : Ref sig .tc := ⟨.hbm, 361, rfl⟩
abbrev main_v296 : Ref sig .tc := ⟨.hbm, 362, rfl⟩
abbrev main_v297 : Ref sig .tc := ⟨.hbm, 363, rfl⟩
abbrev main_v298 : Ref sig .tc := ⟨.hbm, 364, rfl⟩
abbrev main_v299 : Ref sig .tc := ⟨.hbm, 365, rfl⟩
abbrev main_v300 : Ref sig .tc := ⟨.hbm, 366, rfl⟩
abbrev main_v301 : Ref sig .tc := ⟨.hbm, 367, rfl⟩
abbrev main_v302 : Ref sig .tc := ⟨.hbm, 368, rfl⟩
abbrev main_v303 : Ref sig .tc := ⟨.hbm, 369, rfl⟩
abbrev main_v304 : Ref sig .tc := ⟨.hbm, 370, rfl⟩
abbrev main_v305 : Ref sig .tc := ⟨.hbm, 371, rfl⟩
abbrev main_v306 : Ref sig .tc := ⟨.hbm, 372, rfl⟩
abbrev main_v307 : Ref sig .tc := ⟨.hbm, 373, rfl⟩
abbrev main_v308 : Ref sig .tc := ⟨.hbm, 374, rfl⟩
abbrev main_cst_50 : Ref sig .tc := ⟨.hbm, 375, rfl⟩
abbrev main_v309 : Ref sig .tc := ⟨.hbm, 376, rfl⟩
abbrev main_cst_51 : Ref sig .tc := ⟨.hbm, 377, rfl⟩
abbrev main_v310 : Ref sig .tc := ⟨.hbm, 378, rfl⟩
abbrev main_v311 : Ref sig .tc := ⟨.hbm, 379, rfl⟩
abbrev main_cst_52 : Ref sig .tc := ⟨.hbm, 380, rfl⟩
abbrev main_v312 : Ref sig .tc := ⟨.hbm, 381, rfl⟩
abbrev main_v313 : Ref sig .tc := ⟨.hbm, 382, rfl⟩
abbrev main_v314 : Ref sig .tc := ⟨.hbm, 383, rfl⟩
abbrev main_v315 : Ref sig .tc := ⟨.hbm, 384, rfl⟩
abbrev main_v316 : Ref sig .tc := ⟨.hbm, 385, rfl⟩
abbrev main_v317 : Ref sig .tc := ⟨.hbm, 386, rfl⟩
abbrev main_v318 : Ref sig .tc := ⟨.hbm, 387, rfl⟩

abbrev nD : Nat := 1
abbrev τ : Topo := Topo.v7x

variable {F : FTy → Type} [FloatOps F]
-- ==== UpProj.lean ====
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024x4096, .bf16⟩
  | .hbm, ⟨3, _⟩ => ⟨S1024x4x1024, .bf16⟩
  | .hbm, ⟨4, _⟩ => ⟨S4x1024x1024, .bf16⟩
  | .hbm, ⟨5, _⟩ => ⟨S4096x1024, .bf16⟩
  | .hbm, ⟨6, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpProjRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== DownBwd.lean ====
abbrev S4096x4096 : Shape := ⟨2, ![4096, 4096]⟩
abbrev S4096x1024 : Shape := ⟨2, ![4096, 1024]⟩
abbrev S_ : Shape := ⟨0, ![]⟩
abbrev S2048x1024 : Shape := ⟨2, ![2048, 1024]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x1024, .bf16⟩
  | .hbm, ⟨8, _⟩ => ⟨S4096x1024, .bf16⟩
  | .hbm, ⟨9, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownBwdRefIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== DownWgrad.lean ====
abbrev S4096x4096 : Shape := ⟨2, ![4096, 4096]⟩
abbrev S4096x1024 : Shape := ⟨2, ![4096, 1024]⟩
abbrev S_ : Shape := ⟨0, ![]⟩
abbrev S2x4x512x1024 : Shape := ⟨4, ![2, 4, 512, 1024]⟩
abbrev S4096x512 : Shape := ⟨2, ![4096, 512]⟩
abbrev S1x1x512x1024 : Shape := ⟨4, ![1, 1, 512, 1024]⟩
abbrev S512x1024 : Shape := ⟨2, ![512, 1024]⟩

abbrev nBuf : Space → Nat
  | .hbm => 8
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S4096x1024, .bf16⟩
  | .hbm, ⟨7, _⟩ => ⟨S2x4x512x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x1x512x1024, .f32⟩
  | .local _ .vmem, ⟨4, _⟩ => ⟨S1x1x512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownWgradRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x2x512x1024 : Shape := ⟨4, ![4, 2, 512, 1024]⟩
abbrev S2x4x512x1024 : Shape := ⟨4, ![2, 4, 512, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4x2x512x1024, .f32⟩
  | .hbm, ⟨12, _⟩ => ⟨S2x4x512x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== UpWgrad.lean ====
abbrev S4096x1024 : Shape := ⟨2, ![4096, 1024]⟩
abbrev S4096x4096 : Shape := ⟨2, ![4096, 4096]⟩
abbrev S2x4x512x1024 : Shape := ⟨4, ![2, 4, 512, 1024]⟩
abbrev S4096x512 : Shape := ⟨2, ![4096, 512]⟩
abbrev S2x1x512x512 : Shape := ⟨4, ![2, 1, 512, 512]⟩
abbrev S1024x512 : Shape := ⟨2, ![1024, 512]⟩
abbrev S2x512x512 : Shape := ⟨3, ![2, 512, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S2x4x512x1024, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S2x1x512x512, .f32⟩
  | .local _ .vmem, ⟨4, _⟩ => ⟨S2x1x512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== UpWgradRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S2x512x4x1024 : Shape := ⟨4, ![2, 512, 4, 1024]⟩
abbrev S2x4x512x1024 : Shape := ⟨4, ![2, 4, 512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S2x512x4x1024, .f32⟩
  | .hbm, ⟨8, _⟩ => ⟨S2x4x512x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutBwd.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutBwdRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutWgrad.lean ====
abbrev S4096x1024 : Shape := ⟨2, ![4096, 1024]⟩
abbrev S2x4x256x512 : Shape := ⟨4, ![2, 4, 256, 512]⟩
abbrev S4096x512 : Shape := ⟨2, ![4096, 512]⟩
abbrev S1x2x256x512 : Shape := ⟨4, ![1, 2, 256, 512]⟩
abbrev S512x512 : Shape := ⟨2, ![512, 512]⟩
abbrev S2x256x512 : Shape := ⟨3, ![2, 256, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S2x4x256x512, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S1x2x256x512, .f32⟩
  | .local _ .vmem, ⟨5, _⟩ => ⟨S1x2x256x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutWgradRefIdeal.lean ====
abbrev S4096x1024 : Shape := ⟨2, ![4096, 1024]⟩
abbrev S_ : Shape := ⟨0, ![]⟩
abbrev S1024x1024 : Shape := ⟨2, ![1024, 1024]⟩
abbrev S4x256x2x512 : Shape := ⟨4, ![4, 256, 2, 512]⟩
abbrev S2x4x256x512 : Shape := ⟨4, ![2, 4, 256, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S4x256x2x512, .f32⟩
  | .hbm, ⟨8, _⟩ => ⟨S2x4x256x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InWgrad.lean ====
abbrev S4096x1024 : Shape := ⟨2, ![4096, 1024]⟩
abbrev S4096x2816 : Shape := ⟨2, ![4096, 2816]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .bf16⟩
  | .hbm, ⟨3, _⟩ => ⟨S4096x1024, .bf16⟩
  | .hbm, ⟨4, _⟩ => ⟨S2816x1024, .f32⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InWgradRefIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S2816x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InBwd.lean ====
abbrev S4096x2816 : Shape := ⟨2, ![4096, 2816]⟩
abbrev S1024x2816 : Shape := ⟨2, ![1024, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S1024x2816, .f32⟩
  | .hbm, ⟨2, _⟩ => ⟨S4096x2816, .bf16⟩
  | .hbm, ⟨3, _⟩ => ⟨S2816x1024, .f32⟩
  | .hbm, ⟨4, _⟩ => ⟨S2816x1024, .bf16⟩
  | .hbm, ⟨5, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InBwdRefIdeal.lean ====
abbrev S4096x2816 : Shape := ⟨2, ![4096, 2816]⟩
abbrev S1024x2816 : Shape := ⟨2, ![1024, 2816]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S1024x2816, .f32⟩
  | .hbm, ⟨2, _⟩ => ⟨S_, .f32⟩
  | .hbm, ⟨3, _⟩ => ⟨S4096x1024, .f32⟩
  | .hbm, ⟨4, _⟩ => ⟨S4096x2816, .f32⟩
  | .hbm, ⟨5, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DownProj.lean ====
abbrev S2x2048x4096 : Shape := ⟨3, ![2, 2048, 4096]⟩
abbrev S4096x1024 : Shape := ⟨2, ![4096, 1024]⟩
abbrev S2x2048x1024 : Shape := ⟨3, ![2, 2048, 1024]⟩
abbrev S1x1024 : Shape := ⟨2, ![1, 1024]⟩
abbrev S2x1x1024 : Shape := ⟨3, ![2, 1, 1024]⟩
abbrev S_ : Shape := ⟨0, ![]⟩
abbrev S1x128 : Shape := ⟨2, ![1, 128]⟩
abbrev S1x512x4096 : Shape := ⟨3, ![1, 512, 4096]⟩
abbrev S1x512x1024 : Shape := ⟨3, ![1, 512, 1024]⟩
abbrev S1x1x1024 : Shape := ⟨3, ![1, 1, 1024]⟩
abbrev S1x256x4096 : Shape := ⟨3, ![1, 256, 4096]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1 : Shape := ⟨2, ![1, 1]⟩
abbrev S1024 : Shape := ⟨1, ![1024]⟩

abbrev nBuf : Space → Nat
  | .hbm => 16
  | .vmem => 18
  | .smem => 0
  | _ => 0

abbrev bufTy : (tb : Table) → Fin (tcTables nBuf tb) → BufTy
  | .hbm, ⟨0, _⟩ => ⟨S2x2048x4096, .f32⟩
  | .hbm, ⟨1, _⟩ => ⟨S4096x1024, .f32⟩
  | .hbm, ⟨2, _⟩ => ⟨S2x2048x1024, .f32⟩
  | .hbm, ⟨3, _⟩ => ⟨S1x1024, .f32⟩
  | .hbm, ⟨4, _⟩ => ⟨S2x1x1024, .f32⟩
  | .hbm, ⟨5, _⟩ => ⟨S2x2048x1024, .f32⟩
  | .hbm, ⟨6, _⟩ => ⟨S_, .f32⟩
  | .hbm, ⟨7, _⟩ => ⟨S2x2048x4096, .f32⟩
  | .hbm, ⟨8, _⟩ => ⟨S2x2048x4096, .f32⟩
  | .hbm, ⟨9, _⟩ => ⟨S2x2048x4096, .bf16⟩
  | .hbm, ⟨10, _⟩ => ⟨S4096x1024, .bf16⟩
  | .hbm, ⟨11, _⟩ => ⟨S1x128, .f32⟩
  | .hbm, ⟨12, _⟩ => ⟨S2x2048x1024, .f32⟩
  | .hbm, ⟨13, _⟩ => ⟨S2x2048x1024, .bf16⟩
  | .hbm, ⟨14, _⟩ => ⟨S2x1x1024, .f32⟩
  | .hbm, ⟨15, _⟩ => ⟨S1x1024, .f32⟩
  | .local _ .vmem, ⟨0, _⟩ => ⟨S1x512x4096, .bf16⟩
  | .local _ .vmem, ⟨1, _⟩ => ⟨S1x512x4096, .bf16⟩
  | .local _ .vmem, ⟨2, _⟩ => ⟨S4096x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x128, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .bf16⟩
  | .local _ .vmem, ⟨14, _⟩ => ⟨S1x512x1024, .bf16⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== DownProjRefIdeal.lean ====
abbrev S2x2048x4096 : Shape := ⟨3, ![2, 2048, 4096]⟩
abbrev S4096x1024 : Shape := ⟨2, ![4096, 1024]⟩
abbrev S2x2048x1024 : Shape := ⟨3, ![2, 2048, 1024]⟩
abbrev S1x1024 : Shape := ⟨2, ![1, 1024]⟩
abbrev S2x1x1024 : Shape := ⟨3, ![2, 1, 1024]⟩
abbrev S_ : Shape := ⟨0, ![]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x1024, .f32⟩
  | .hbm, ⟨2, _⟩ => ⟨S2x2048x1024, .f32⟩
  | .hbm, ⟨3, _⟩ => ⟨S1x1024, .f32⟩
  | .hbm, ⟨4, _⟩ => ⟨S2x1x1024, .f32⟩
  | .hbm, ⟨5, _⟩ => ⟨S2x2048x1024, .f32⟩
  | .hbm, ⟨6, _⟩ => ⟨S_, .f32⟩
  | .hbm, ⟨7, _⟩ => ⟨S2x2048x4096, .f32⟩
  | .hbm, ⟨8, _⟩ => ⟨S2x2048x4096, .f32⟩
  | .hbm, ⟨9, _⟩ => ⟨S2x2048x4096, .f32⟩
  | .hbm, ⟨10, _⟩ => ⟨S2x2048x1024, .f32⟩
  | .hbm, ⟨11, _⟩ => ⟨S1024, .f32⟩
  | .hbm, ⟨12, _⟩ => ⟨S2x2048x1024, .f32⟩
  | .hbm, ⟨13, _⟩ => ⟨S_, .f32⟩
  | .hbm, ⟨14, _⟩ => ⟨S2x2048, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1, .f32⟩
  | .hbm, ⟨23, _⟩ => ⟨S2x2048x1024, .f32⟩
  | .hbm, ⟨24, _⟩ => ⟨S2x2048x1024, .f32⟩
  | .hbm, ⟨25, _⟩ => ⟨S1x1x1024, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S2x2048x1024, .f32⟩
  | .hbm, ⟨35, _⟩ => ⟨S2x2048x1024, .f32⟩
  | .hbm, ⟨36, _⟩ => ⟨S_, .f32⟩
  | .hbm, ⟨37, _⟩ => ⟨S2x2048, .f32⟩
  | .hbm, ⟨38, _⟩ => ⟨S_, .f32⟩
  | .hbm, ⟨39, _⟩ => ⟨S2x2048, .f32⟩
  | .hbm, ⟨40, _⟩ => ⟨S2x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2x2048, .f32⟩
  | .hbm, ⟨49, _⟩ => ⟨S_, .f32⟩
  | .hbm, ⟨50, _⟩ => ⟨S2x2048, .f32⟩
  | .hbm, ⟨51, _⟩ => ⟨S2x2048, .f32⟩
  | .hbm, ⟨52, _⟩ => ⟨S2x2048x1024, .f32⟩
  | .hbm, ⟨53, _⟩ => ⟨S2x2048x1024, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_cst_7 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]
-- ==== OutProj.lean ====
abbrev S2x2048x1024 : Shape := ⟨3, ![2, 2048, 1024]⟩
abbrev S1024x1024 : Shape := ⟨2, ![1024, 1024]⟩
abbrev S1x1024 : Shape := ⟨2, ![1, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S1x1024, .f32⟩
  | .hbm, ⟨4, _⟩ => ⟨S2x1x1024, .f32⟩
  | .hbm, ⟨5, _⟩ => ⟨S1x1024, .f32⟩
  | .hbm, ⟨6, _⟩ => ⟨S2x1x1024, .f32⟩
  | .hbm, ⟨7, _⟩ => ⟨S2x1x1024, .f32⟩
  | .hbm, ⟨8, _⟩ => ⟨S2x2048x1024, .bf16⟩
  | .hbm, ⟨9, _⟩ => ⟨S1024x1024, .bf16⟩
  | .hbm, ⟨10, _⟩ => ⟨S2x2048x1024, .f32⟩
  | .hbm, ⟨11, _⟩ => ⟨S2x2048x1024, .f32⟩
  | .hbm, ⟨12, _⟩ => ⟨S2x2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .bf16⟩
  | .local _ .vmem, ⟨18, _⟩ => ⟨S1x512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OutProjRefIdeal.lean ====
abbrev S2x2048x1024 : Shape := ⟨3, ![2, 2048, 1024]⟩
abbrev S1024x1024 : Shape := ⟨2, ![1024, 1024]⟩
abbrev S1x1024 : Shape := ⟨2, ![1, 1024]⟩
abbrev S2x1x1024 : Shape := ⟨3, ![2, 1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S1x1024, .f32⟩
  | .hbm, ⟨4, _⟩ => ⟨S2x1x1024, .f32⟩
  | .hbm, ⟨5, _⟩ => ⟨S1x1024, .f32⟩
  | .hbm, ⟨6, _⟩ => ⟨S2x1x1024, .f32⟩
  | .hbm, ⟨7, _⟩ => ⟨S2x1x1024, .f32⟩
  | .hbm, ⟨8, _⟩ => ⟨S2x2048x1024, .f32⟩
  | .hbm, ⟨9, _⟩ => ⟨S1024, .f32⟩
  | .hbm, ⟨10, _⟩ => ⟨S2x2048x1024, .f32⟩
  | .hbm, ⟨11, _⟩ => ⟨S_, .f32⟩
  | .hbm, ⟨12, _⟩ => ⟨S2x2048, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S1024, .f32⟩
  | .hbm, ⟨30, _⟩ => ⟨S2x2048x1024, .f32⟩
  | .hbm, ⟨31, _⟩ => ⟨S_, .f32⟩
  | .hbm, ⟨32, _⟩ => ⟨S2x2048, .f32⟩
  | .hbm, ⟨33, _⟩ => ⟨S2x2048x1, .f32⟩
  | .hbm, ⟨34, _⟩ => ⟨S_, .f32⟩
  | .hbm, ⟨35, _⟩ => ⟨S2x2048x1, .f32⟩
  | .hbm, ⟨36, _⟩ => ⟨S2x2048x1, .f32⟩
  | .hbm, ⟨37, _⟩ => ⟨S_, .f32⟩
  | .hbm, ⟨38, _⟩ => ⟨S2x2048x1, .f32⟩
  | .hbm, ⟨39, _⟩ => ⟨S2x2048x1, .f32⟩
  | .hbm, ⟨40, _⟩ => ⟨S2x2048x1, .f32⟩
  | .hbm, ⟨41, _⟩ => ⟨S2x2048x1024, .f32⟩
  | .hbm, ⟨42, _⟩ => ⟨S2x2048x1024, .f32⟩
  | .hbm, ⟨43, _⟩ => ⟨S1x1x1024, .f32⟩
  | .hbm, ⟨44, _⟩ => ⟨S2x2048x1024, .f32⟩
  | .hbm, ⟨45, _⟩ => ⟨S2x2048x1024, .f32⟩
  | .hbm, ⟨46, _⟩ => ⟨S_, .f32⟩
  | .hbm, ⟨47, _⟩ => ⟨S2x1x1024, .f32⟩
  | .hbm, ⟨48, _⟩ => ⟨S2x1x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== InProj.lean ====
abbrev S2x2048x1024 : Shape := ⟨3, ![2, 2048, 1024]⟩
abbrev S1x1024 : Shape := ⟨2, ![1, 1024]⟩
abbrev S2x1x1024 : Shape := ⟨3, ![2, 1, 1024]⟩
abbrev S1024x2816 : Shape := ⟨2, ![1024, 2816]⟩
abbrev S2816x1024 : Shape := ⟨2, ![2816, 1024]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S2x4x2048x512 : Shape := ⟨4, ![2, 4, 2048, 512]⟩
abbrev S2x16x2x512x64 : Shape := ⟨5, ![2, 16, 2, 512, 64]⟩
abbrev S2x2x2048x64 : Shape := ⟨4, ![2, 2, 2048, 64]⟩
abbrev S1x512x1024 : Shape := ⟨3, ![1, 512, 1024]⟩
abbrev S1x1x1024 : Shape := ⟨3, ![1, 1, 1024]⟩
abbrev S512x128 : Shape := ⟨2, ![512, 128]⟩
abbrev S1x4x512x512 : Shape := ⟨4, ![1, 4, 512, 512]⟩
abbrev S1x4x2x512x64 : Shape := ⟨5, ![1, 4, 2, 512, 64]⟩
abbrev S1x2x512x64 : Shape := ⟨4, ![1, 2, 512, 64]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩
abbrev S512x512 : Shape := ⟨2, ![512, 512]⟩
abbrev S1x1x512x512 : Shape := ⟨4, ![1, 1, 512, 512]⟩
abbrev S512x64 : Shape := ⟨2, ![512, 64]⟩
abbrev S128x64 : Shape := ⟨2, ![128, 64]⟩
abbrev S1x1x1x128x64 : Shape := ⟨5, ![1, 1, 1, 128, 64]⟩
abbrev S1x1x512x64 : Shape := ⟨4, ![1, 1, 512, 64]⟩

abbrev nBuf : Space → Nat
  | .hbm => 53
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S2048, .f32⟩
  | .hbm, ⟨22, _⟩ => ⟨S2048x1, .f32⟩
  | .hbm, ⟨23, _⟩ => ⟨S1x8, .f32⟩
  | .hbm, ⟨24, _⟩ => ⟨S2048x8, .f32⟩
  | .hbm, ⟨25, _⟩ => ⟨S2048x8, .f32⟩
  | .hbm, ⟨26, _⟩ => ⟨S2048x8, .f32⟩
  | .hbm, ⟨27, _⟩ => ⟨S2048x8, .f32⟩
  | .hbm, ⟨28, _⟩ => ⟨S2048x8, .f32⟩
  | .hbm, ⟨29, _⟩ => ⟨S_, .f32⟩
  | .hbm, ⟨30, _⟩ => ⟨S2048x48, .f32⟩
  | .hbm, ⟨31, _⟩ => ⟨S_, .f32⟩
  | .hbm, ⟨32, _⟩ => ⟨S2048x48, .f32⟩
  | .hbm, ⟨33, _⟩ => ⟨S_, .f32⟩
  | .hbm, ⟨34, _⟩ => ⟨S2048x8, .f32⟩
  | .hbm, ⟨35, _⟩ => ⟨S2048x64, .f32⟩
  | .hbm, ⟨36, _⟩ => ⟨S1x2048x1x64, .f32⟩
  | .hbm, ⟨37, _⟩ => ⟨S1x2048x2x64, .f32⟩
  | .hbm, ⟨38, _⟩ => ⟨S2048x128, .f32⟩
  | .hbm, ⟨39, _⟩ => ⟨S2048x64, .f32⟩
  | .hbm, ⟨40, _⟩ => ⟨S1x2048x1x64, .f32⟩
  | .hbm, ⟨41, _⟩ => ⟨S1x2048x2x64, .f32⟩
  | .hbm, ⟨42, _⟩ => ⟨S2048x128, .f32⟩
  | .hbm, ⟨43, _⟩ => ⟨S2048x8, .f32⟩
  | .hbm, ⟨44, _⟩ => ⟨S2048x64, .f32⟩
  | .hbm, ⟨45, _⟩ => ⟨S1x2048x1x64, .f32⟩
  | .hbm, ⟨46, _⟩ => ⟨S1x2048x2x64, .f32⟩
  | .hbm, ⟨47, _⟩ => ⟨S2048x128, .f32⟩
  | .hbm, ⟨48, _⟩ => ⟨S2x2048x1024, .bf16⟩
  | .hbm, ⟨49, _⟩ => ⟨S2x4x2048x512, .f32⟩
  | .hbm, ⟨50, _⟩ => ⟨S2x16x2x512x64, .bf16⟩
  | .hbm, ⟨51, _⟩ => ⟨S2x2x2048x64, .bf16⟩
  | .hbm, ⟨52, _⟩ => ⟨S2x2x2048x64, .bf16⟩
  | .local _ .vmem, ⟨0, _⟩ => ⟨S1x512x1024, .f32⟩
  | .local _ .vmem, ⟨1, _⟩ => ⟨S1x512x1024, .f32⟩
  | .local _ .vmem, ⟨2, _⟩ => ⟨S2816x1024, .bf16⟩
  | .local _ .vmem, ⟨3, _⟩ => ⟨S1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x512x1024, .bf16⟩
  | .local _ .vmem, ⟨15, _⟩ => ⟨S1x512x1024, .bf16⟩
  | .local _ .vmem, ⟨16, _⟩ => ⟨S1x4x512x512, .f32⟩
  | .local _ .vmem, ⟨17, _⟩ => ⟨S1x4x512x512, .f32⟩
  | .local _ .vmem, ⟨18, _⟩ => ⟨S1x4x2x512x64, .bf16⟩
  | .local _ .vmem, ⟨19, _⟩ => ⟨S1x4x2x512x64, .bf16⟩
  | .local _ .vmem, ⟨20, _⟩ => ⟨S1x2x512x64, .bf16⟩
  | .local _ .vmem, ⟨21, _⟩ => ⟨S1x2x512x64, .bf16⟩
  | .local _ .vmem, ⟨22, _⟩ => ⟨S1x2x512x64, .bf16⟩
  | .local _ .vmem, ⟨23, _⟩ => ⟨S1x2x512x64, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36_0 : Ref sig .tc := ⟨.hbm, 48, rfl⟩
abbrev main_v36_1 : Ref sig .tc := ⟨.hbm, 49, rfl⟩
abbrev main_v36_2 : Ref sig .tc := ⟨.hbm, 50, rfl⟩
abbrev main_v36_3 : Ref sig .tc := ⟨.hbm, 51, rfl⟩
abbrev main_v36_4 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x2x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x512x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== InProjRefIdeal.lean ====
abbrev S2x2048x1024 : Shape := ⟨3, ![2, 2048, 1024]⟩
abbrev S1x1024 : Shape := ⟨2, ![1, 1024]⟩
abbrev S2x1x1024 : Shape := ⟨3, ![2, 1, 1024]⟩
abbrev S1024x2816 : Shape := ⟨2, ![1024, 2816]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2816 : Shape := ⟨3, ![2, 2048, 2816]⟩
abbrev S2x2048x2048 : Shape := ⟨3, ![2, 2048, 2048]⟩
abbrev S2x2048x4x512 : Shape := ⟨4, ![2, 2048, 4, 512]⟩
abbrev S2x4x2048x512 : Shape := ⟨4, ![2, 4, 2048, 512]⟩
abbrev S2x2048x128 : Shape := ⟨3, ![2, 2048, 128]⟩
abbrev S2x2048x2x64 : Shape := ⟨4, ![2, 2048, 2, 64]⟩
abbrev S2x2x2048x64 : Shape := ⟨4, ![2, 2, 2048, 64]⟩

abbrev nBuf : Space → Nat
  | .hbm => 38
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S1024x2816, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1024, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S2x2048x2816, .f32⟩
  | .hbm, ⟨30, _⟩ => ⟨S2x2048x2048, .f32⟩
  | .hbm, ⟨31, _⟩ => ⟨S2x2048x4x512, .f32⟩
  | .hbm, ⟨32, _⟩ => ⟨S2x4x2048x512, .f32⟩
  | .hbm, ⟨33, _⟩ => ⟨S2x2048x128, .f32⟩
  | .hbm, ⟨34, _⟩ => ⟨S2x2048x2x64, .f32⟩
  | .hbm, ⟨35, _⟩ => ⟨S2x2x2048x64, .f32⟩
  | .hbm, ⟨36, _⟩ => ⟨S2x2048x1024, .bf16⟩
  | .hbm, ⟨37, _⟩ => ⟨S2x2x2048x64, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== AdaFwd.lean ====
abbrev S16x1024 : Shape := ⟨2, ![16, 1024]⟩
abbrev S1024x1536 : Shape := ⟨2, ![1024, 1536]⟩
abbrev S1x1536 : Shape := ⟨2, ![1, 1536]⟩
abbrev S16x1536 : Shape := ⟨2, ![16, 1536]⟩
abbrev S1024x512 : Shape := ⟨2, ![1024, 512]⟩
abbrev S1x512 : Shape := ⟨2, ![1, 512]⟩
abbrev S16x512 : Shape := ⟨2, ![16, 512]⟩

abbrev nBuf : Space → Nat
  | .hbm => 4
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x1536, .f32⟩
  | .hbm, ⟨2, _⟩ => ⟨S1x1536, .f32⟩
  | .hbm, ⟨3, _⟩ => ⟨S16x1536, .f32⟩
  | .local _ .vmem, ⟨0, _⟩ => ⟨S16x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S16x512, .f32⟩
  | .local _ .vmem, ⟨6, _⟩ => ⟨S16x512, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaFwdRefIdeal.lean ====
abbrev S16x1024 : Shape := ⟨2, ![16, 1024]⟩
abbrev S1024x1536 : Shape := ⟨2, ![1024, 1536]⟩
abbrev S1x1536 : Shape := ⟨2, ![1, 1536]⟩
abbrev S_ : Shape := ⟨0, ![]⟩
abbrev S16x1536 : Shape := ⟨2, ![16, 1536]⟩

abbrev nBuf : Space → Nat
  | .hbm => 15
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x1536, .f32⟩
  | .hbm, ⟨2, _⟩ => ⟨S1x1536, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1536, .f32⟩
  | .hbm, ⟨13, _⟩ => ⟨S16x1536, .f32⟩
  | .hbm, ⟨14, _⟩ => ⟨S16x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== AdaStep.lean ====
abbrev S16x1024 : Shape := ⟨2, ![16, 1024]⟩
abbrev S16x1536 : Shape := ⟨2, ![16, 1536]⟩
abbrev S1024x1536 : Shape := ⟨2, ![1024, 1536]⟩
abbrev S16x256 : Shape := ⟨2, ![16, 256]⟩
abbrev S1024x256 : Shape := ⟨2, ![1024, 256]⟩

abbrev nBuf : Space → Nat
  | .hbm => 9
  | .vmem => 17
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S1024x1536, .f32⟩
  | .hbm, ⟨8, _⟩ => ⟨S1024x1536, .f32⟩
  | .local _ .vmem, ⟨0, _⟩ => ⟨S16x1024, .f32⟩
  | .local _ .vmem, ⟨1, _⟩ => ⟨S16x256, .f32⟩
  | .local _ .vmem, ⟨2, _⟩ => ⟨S16x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdaStepRefIdeal.lean ====
abbrev S16x1024 : Shape := ⟨2, ![16, 1024]⟩
abbrev S16x1536 : Shape := ⟨2, ![16, 1536]⟩
abbrev S1024x1536 : Shape := ⟨2, ![1024, 1536]⟩
abbrev S_ : Shape := ⟨0, ![]⟩
abbrev S1536x1024 : Shape := ⟨2, ![1536, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S16x1536, .f32⟩
  | .hbm, ⟨15, _⟩ => ⟨S1536x1024, .f32⟩
  | .hbm, ⟨16, _⟩ => ⟨S1024x1536, .f32⟩
  | .hbm, ⟨17, _⟩ => ⟨S_, .f32⟩
  | .hbm, ⟨18, _⟩ => ⟨S1024x1536, .f32⟩
  | .hbm, ⟨19, _⟩ => ⟨S1024x1536, .f32⟩
  | .hbm, ⟨20, _⟩ => ⟨S_, .f32⟩
  | .hbm, ⟨21, _⟩ => ⟨S1024x1536, .f32⟩
  | .hbm, ⟨22, _⟩ => ⟨S1024x1536, .f32⟩
  | .hbm, ⟨23, _⟩ => ⟨S1024x1536, .f32⟩
  | .hbm, ⟨24, _⟩ => ⟨S_, .f32⟩
  | .hbm, ⟨25, _⟩ => ⟨S1024x1536, .f32⟩
  | .hbm, ⟨26, _⟩ => ⟨S1024x1536, .f32⟩
  | .hbm, ⟨27, _⟩ => ⟨S1024x1536, .f32⟩
  | .hbm, ⟨28, _⟩ => ⟨S_, .f32⟩
  | .hbm, ⟨29, _⟩ => ⟨S1024x1536, .f32⟩
  | .hbm, ⟨30, _⟩ => ⟨S1024x1536, .f32⟩
  | .hbm, ⟨31, _⟩ => ⟨S1024x1536, .f32⟩
  | .hbm, ⟨32, _⟩ => ⟨S_, .f32⟩
  | .hbm, ⟨33, _⟩ => ⟨S1024x1536, .f32⟩
  | .hbm, ⟨34, _⟩ => ⟨S1024x1536, .f32⟩
  | .hbm, ⟨35, _⟩ => ⟨S_, .f32⟩
  | .hbm, ⟨36, _⟩ => ⟨S1024x1536, .f32⟩
  | .hbm, ⟨37, _⟩ => ⟨S1024x1536, .f32⟩
  | .hbm, ⟨38, _⟩ => ⟨S1024x1536, .f32⟩
  | .hbm, ⟨39, _⟩ => ⟨S_, .f32⟩
  | .hbm, ⟨40, _⟩ => ⟨S1024x1536, .f32⟩
  | .hbm, ⟨41, _⟩ => ⟨S1024x1536, .f32⟩
  | .hbm, ⟨42, _⟩ => ⟨S1024x1536, .f32⟩
  | .hbm, ⟨43, _⟩ => ⟨S_, .f32⟩
  | .hbm, ⟨44, _⟩ => ⟨S1024x1536, .f32⟩
  | .hbm, ⟨45, _⟩ => ⟨S1024x1536, .f32⟩
  | .hbm, ⟨46, _⟩ => ⟨S1024x1536, .f32⟩
  | .hbm, ⟨47, _⟩ => ⟨S_, .f32⟩
  | .hbm, ⟨48, _⟩ => ⟨S1024x1536, .f32⟩
  | .hbm, ⟨49, _⟩ => ⟨S1024x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Proof.HostDefs.lean ====
/- The host values of the kernel's program that are no values of the reference's: each as the function the program writes it as,
   of the program's arguments. -/
module

public import proofs.«01_k».proof.Proof.Gen.KernelIdeal
public import proofs.«01_k».proof.Proof.Gen.ReferenceIdeal.Read

@[expose] public section

noncomputable section

namespace Cert.Host

open Idealize.ShloMosaic Idealize.ShloMosaic.TcCoe Cert.KernelIdeal Cert.KernelIdeal.Gen

variable {F : FTy → Type} [FloatOps F]

/-- The host value `v174`. -/
def kv_v174 (x0 : (⟨S2x2048x512, .f32⟩ : BufTy).Contents (Elt F)) : (⟨S2x2048x8x64, .bf16⟩ : BufTy).Contents (Elt F) :=
  ((truncf .bf16 · bitsLt_bf16_f32)) (Cert.ReferenceIdeal.Read.val_main_v34 (F := F) x0)

/-- The host value `v175`. -/
def kv_v175 (x0 : (⟨S2x2048x512, .f32⟩ : BufTy).Contents (Elt F)) : (⟨S2x16x128x2x4x64, .bf16⟩ : BufTy).Contents (Elt F) :=
  shapeCast _ (kv_v174 (F := F) x0) shapeCasts_S2x2048x8x64_S2x16x128x2x4x64

/-- The host value `v176`. -/
def kv_v176 (x0 : (⟨S2x2048x512, .f32⟩ : BufTy).Contents (Elt F)) : (⟨S2x16x2x4x128x64, .bf16⟩ : BufTy).Contents (Elt F) :=
  ((transpose S2x16x2x4x128x64 [0, 1, 3, 4, 2, 5] · transposes_S2x16x128x2x4x64_S2x16x2x4x128x64_0_1_3_4_2_5)) (kv_v175 (F := F) x0)

/-- The host value `v177`. -/
def kv_v177 (x0 : (⟨S2x2048x512, .f32⟩ : BufTy).Contents (Elt F)) : (⟨S2x16x2x512x64, .bf16⟩ : BufTy).Contents (Elt F) :=
  shapeCast _ (kv_v176 (F := F) x0) shapeCasts_S2x16x2x4x128x64_S2x16x2x512x64

/-- The host value `v178`. -/
def kv_v178 (x1 : (⟨S2x2048x128, .f32⟩ : BufTy).Contents (Elt F)) : (⟨S2x2048x2x64, .bf16⟩ : BufTy).Contents (Elt F) :=
  ((truncf .bf16 · bitsLt_bf16_f32)) (Cert.ReferenceIdeal.Read.val_main_v69 (F := F) x1)

/-- The host value `v179`. -/
def kv_v179 (x1 : (⟨S2x2048x128, .f32⟩ : BufTy).Contents (Elt F)) : (⟨S2x2x2048x64, .bf16⟩ : BufTy).Contents (Elt F) :=
  ((transpose S2x2x2048x64 [0, 2, 1, 3] · transposes_S2x2048x2x64_S2x2x2048x64_0_2_1_3)) (kv_v178 (F := F) x1)

/-- The host value `v180`. -/
def kv_v180 (x2 : (⟨S2x2048x128, .f32⟩ : BufTy).Contents (Elt F)) : (⟨S2x2048x2x64, .bf16⟩ : BufTy).Contents (Elt F) :=
  ((truncf .bf16 · bitsLt_bf16_f32)) (Cert.ReferenceIdeal.Read.val_main_v70 (F := F) x2)

/-- The host value `v181`. -/
def kv_v181 (x2 : (⟨S2x2048x128, .f32⟩ : BufTy).Contents (Elt F)) : (⟨S2x2x2048x64, .bf16⟩ : BufTy).Contents (Elt F) :=
  ((transpose S2x2x2048x64 [0, 2, 1, 3] · transposes_S2x2048x2x64_S2x2x2048x64_0_2_1_3)) (kv_v180 (F := F) x2)

/-- The host value `v182`. -/
def kv_v182 (x0 : (⟨S2x2048x512, .f32⟩ : BufTy).Contents (Elt F)) (x1 : (⟨S2x2048x128, .f32⟩ : BufTy).Contents (Elt F)) (x3 : (⟨S1x8, .f32⟩ : BufTy).Contents (Elt F)) : (⟨S2x16x128x2x4x1, .f32⟩ : BufTy).Contents (Elt F) :=
  ((transpose S2x16x128x2x4x1 [0, 1, 4, 2, 3, 5] · transposes_S2x16x2x4x128x1_S2x16x128x2x4x1_0_1_4_2_3_5)) (Cert.ReferenceIdeal.Read.val_main_v173 (F := F) x0 x1 x3)

/-- The host value `v183`. -/
def kv_v183 (x0 : (⟨S2x2048x512, .f32⟩ : BufTy).Contents (Elt F)) (x1 : (⟨S2x2048x128, .f32⟩ : BufTy).Contents (Elt F)) (x3 : (⟨S1x8, .f32⟩ : BufTy).Contents (Elt F)) : (⟨S2x2048x8, .f32⟩ : BufTy).Contents (Elt F) :=
  shapeCast _ (kv_v182 (F := F) x0 x1 x3) shapeCasts_S2x16x128x2x4x1_S2x2048x8

/-- The host value `v184`. -/
def kv_v184 : (⟨S2x2048x120, .f32⟩ : BufTy).Contents (Elt F) :=
  (broadcastInDim S2x2048x120 ![] bcast_S_S2x2048x120) (Cert.ReferenceIdeal.Read.val_main_cst_0 (F := F))

/-- The host value `v185`. -/
def kv_v185 (x0 : (⟨S2x2048x512, .f32⟩ : BufTy).Contents (Elt F)) (x1 : (⟨S2x2048x128, .f32⟩ : BufTy).Contents (Elt F)) (x3 : (⟨S1x8, .f32⟩ : BufTy).Contents (Elt F)) : (⟨S2x2048x128, .f32⟩ : BufTy).Contents (Elt F) :=
  ((fun a b => concatenate S2x2048x128 2 [⟨S2x2048x8, a⟩, ⟨S2x2048x120, b⟩] concatenates_S2x2048x8_S2x2048x120_S2x2048x128_d2)) (kv_v183 (F := F) x0 x1 x3) (kv_v184 (F := F))

/-- The host value `v204`. -/
def kv_v204 : (⟨S2048x48, .f32⟩ : BufTy).Contents (Elt F) :=
  (broadcastInDim S2048x48 ![] bcast_S_S2048x48) (Cert.ReferenceIdeal.Read.val_main_cst_20 (F := F))

/-- The host value `v205`. -/
def kv_v205 : (⟨S2048x48, .f32⟩ : BufTy).Contents (Elt F) :=
  (broadcastInDim S2048x48 ![] bcast_S_S2048x48) (Cert.ReferenceIdeal.Read.val_main_cst_0 (F := F))

/-- The host value `v206`. -/
def kv_v206 : (⟨S2048x8, .f32⟩ : BufTy).Contents (Elt F) :=
  (broadcastInDim S2048x8 ![] bcast_S_S2048x8) (Cert.ReferenceIdeal.Read.val_main_cst_0 (F := F))

/-- The host value `v207`. -/
def kv_v207 : (⟨S2048x64, .f32⟩ : BufTy).Contents (Elt F) :=
  (concatenate S2048x64 1 [⟨S2048x8, ((Cert.ReferenceIdeal.Read.val_main_v17 (F := F)) : (⟨S2048x8, .f32⟩ : BufTy).Contents (Elt F))⟩, ⟨S2048x8, ((Cert.ReferenceIdeal.Read.val_main_v17 (F := F)) : (⟨S2048x8, .f32⟩ : BufTy).Contents (Elt F))⟩, ⟨S2048x48, ((kv_v204 (F := F)) : (⟨S2048x48, .f32⟩ : BufTy).Contents (Elt F))⟩] concatenates_S2048x8_S2048x8_S2048x48_S2048x64_d1 : (⟨S2048x64, .f32⟩ : BufTy).Contents (Elt F))

/-- The host value `v208`. -/
def kv_v208 : (⟨S1x2048x1x64, .f32⟩ : BufTy).Contents (Elt F) :=
  shapeCast _ (kv_v207 (F := F)) shapeCasts_S2048x64_S1x2048x1x64

/-- The host value `v209`. -/
def kv_v209 : (⟨S1x2048x2x64, .f32⟩ : BufTy).Contents (Elt F) :=
  (broadcastInDim S1x2048x2x64 ![0, 1, 2, 3] bcast_S1x2048x1x64_S1x2048x2x64_0_1_2_3) (kv_v208 (F := F))

/-- The host value `v210`. -/
def kv_v210 : (⟨S2048x128, .f32⟩ : BufTy).Contents (Elt F) :=
  shapeCast _ (kv_v209 (F := F)) shapeCasts_S1x2048x2x64_S2048x128

/-- The host value `v211`. -/
def kv_v211 : (⟨S2048x64, .f32⟩ : BufTy).Contents (Elt F) :=
  (concatenate S2048x64 1 [⟨S2048x8, ((kv_v206 (F := F)) : (⟨S2048x8, .f32⟩ : BufTy).Contents (Elt F))⟩, ⟨S2048x8, ((Cert.ReferenceIdeal.Read.val_main_v19 (F := F)) : (⟨S2048x8, .f32⟩ : BufTy).Contents (Elt F))⟩, ⟨S2048x48, ((kv_v205 (F := F)) : (⟨S2048x48, .f32⟩ : BufTy).Contents (Elt F))⟩] concatenates_S2048x8_S2048x8_S2048x48_S2048x64_d1 : (⟨S2048x64, .f32⟩ : BufTy).Contents (Elt F))

/-- The host value `v212`. -/
def kv_v212 : (⟨S1x2048x1x64, .f32⟩ : BufTy).Contents (Elt F) :=
  shapeCast _ (kv_v211 (F := F)) shapeCasts_S2048x64_S1x2048x1x64

/-- The host value `v213`. -/
def kv_v213 : (⟨S1x2048x2x64, .f32⟩ : BufTy).Contents (Elt F) :=
  (broadcastInDim S1x2048x2x64 ![0, 1, 2, 3] bcast_S1x2048x1x64_S1x2048x2x64_0_1_2_3) (kv_v212 (F := F))

/-- The host value `v214`. -/
def kv_v214 : (⟨S2048x128, .f32⟩ : BufTy).Contents (Elt F) :=
  shapeCast _ (kv_v213 (F := F)) shapeCasts_S1x2048x2x64_S2048x128

/-- The host value `v215`. -/
def kv_v215 : (⟨S2048x8, .f32⟩ : BufTy).Contents (Elt F) :=
  (Host.negf) (Cert.ReferenceIdeal.Read.val_main_v19 (F := F))

/-- The host value `v216`. -/
def kv_v216 : (⟨S2048x64, .f32⟩ : BufTy).Contents (Elt F) :=
  (concatenate S2048x64 1 [⟨S2048x8, ((kv_v215 (F := F)) : (⟨S2048x8, .f32⟩ : BufTy).Contents (Elt F))⟩, ⟨S2048x8, ((kv_v206 (F := F)) : (⟨S2048x8, .f32⟩ : BufTy).Contents (Elt F))⟩, ⟨S2048x48, ((kv_v205 (F := F)) : (⟨S2048x48, .f32⟩ : BufTy).Contents (Elt F))⟩] concatenates_S2048x8_S2048x8_S2048x48_S2048x64_d1 : (⟨S2048x64, .f32⟩ : BufTy).Contents (Elt F))

/-- The host value `v217`. -/
def kv_v217 : (⟨S1x2048x1x64, .f32⟩ : BufTy).Contents (Elt F) :=
  shapeCast _ (kv_v216 (F := F)) shapeCasts_S2048x64_S1x2048x1x64

/-- The host value `v218`. -/
def kv_v218 : (⟨S1x2048x2x64, .f32⟩ : BufTy).Contents (Elt F) :=
  (broadcastInDim S1x2048x2x64 ![0, 1, 2, 3] bcast_S1x2048x1x64_S1x2048x2x64_0_1_2_3) (kv_v217 (F := F))

/-- The host value `v219`. -/
def kv_v219 : (⟨S2048x128, .f32⟩ : BufTy).Contents (Elt F) :=
  shapeCast _ (kv_v218 (F := F)) shapeCasts_S1x2048x2x64_S2048x128

/-- The host value `v220`. -/
def kv_v220 : (⟨S512, .i32⟩ : BufTy).Contents (Elt F) :=
  (iotaInDim S512 32 0)

/-- The host value `v221`. -/
def kv_v221 : (⟨S512x1, .i32⟩ : BufTy).Contents (Elt F) :=
  (broadcastInDim S512x1 ![0] bcast_S512_S512x1_0) (kv_v220 (F := F))

/-- The host value `call1_v1`. -/
def kv_call1_v1 : (⟨S_, .i1⟩ : BufTy).Contents (Elt F) :=
  ((cmpi .eq)) (Cert.ReferenceIdeal.Read.val_main_c (F := F)) (Cert.ReferenceIdeal.Read.val_main_c_14 (F := F))

/-- The host value `call1_v2`. -/
def kv_call1_v2 : (⟨S_, .i32⟩ : BufTy).Contents (Elt F) :=
  (select) (kv_call1_v1 (F := F)) (Cert.ReferenceIdeal.Read.val_main_c_12 (F := F)) (Cert.ReferenceIdeal.Read.val_main_c (F := F))

/-- The host value `call1_v3`. -/
def kv_call1_v3 : (⟨S512x1, .i32⟩ : BufTy).Contents (Elt F) :=
  ((broadcastInDim S512x1 ![] bcast_S_S512x1)) (kv_call1_v2 (F := F))

/-- The host value `call1_v4`. -/
def kv_call1_v4 : (⟨S512x1, .i32⟩ : BufTy).Contents (Elt F) :=
  (Host.remsi) (kv_v221 (F := F)) (kv_call1_v3 (F := F))

/-- The host value `call1_v5`. -/
def kv_call1_v5 : (⟨S512x1, .i32⟩ : BufTy).Contents (Elt F) :=
  ((broadcastInDim S512x1 ![] bcast_S_S512x1)) (Cert.ReferenceIdeal.Read.val_main_c_14 (F := F))

/-- The host value `call1_v6`. -/
def kv_call1_v6 : (⟨S512x1, .i1⟩ : BufTy).Contents (Elt F) :=
  ((cmpi .ne)) (kv_call1_v4 (F := F)) (kv_call1_v5 (F := F))

/-- The host value `call1_v7`. -/
def kv_call1_v7 : (⟨S512x1, .i32⟩ : BufTy).Contents (Elt F) :=
  ((broadcastInDim S512x1 ![] bcast_S_S512x1)) (Cert.ReferenceIdeal.Read.val_main_c_14 (F := F))

/-- The host value `call1_v8`. -/
def kv_call1_v8 : (⟨S512x1, .i1⟩ : BufTy).Contents (Elt F) :=
  ((cmpi .slt)) (kv_call1_v4 (F := F)) (kv_call1_v7 (F := F))

/-- The host value `call1_v9`. -/
def kv_call1_v9 : (⟨S_, .i1⟩ : BufTy).Contents (Elt F) :=
  ((cmpi .slt)) (kv_call1_v2 (F := F)) (Cert.ReferenceIdeal.Read.val_main_c_14 (F := F))

/-- The host value `call1_v10`. -/
def kv_call1_v10 : (⟨S512x1, .i1⟩ : BufTy).Contents (Elt F) :=
  ((broadcastInDim S512x1 ![] bcast_S_S512x1)) (kv_call1_v9 (F := F))

/-- The host value `call1_v11`. -/
def kv_call1_v11 : (⟨S512x1, .i1⟩ : BufTy).Contents (Elt F) :=
  ((cmpi .ne)) (kv_call1_v8 (F := F)) (kv_call1_v10 (F := F))

/-- The host value `call1_v12`. -/
def kv_call1_v12 : (⟨S512x1, .i1⟩ : BufTy).Contents (Elt F) :=
  (andi) (kv_call1_v11 (F := F)) (kv_call1_v6 (F := F))

/-- The host value `call1_v13`. -/
def kv_call1_v13 : (⟨S512x1, .i32⟩ : BufTy).Contents (Elt F) :=
  ((broadcastInDim S512x1 ![] bcast_S_S512x1)) (kv_call1_v2 (F := F))

/-- The host value `call1_v14`. -/
def kv_call1_v14 : (⟨S512x1, .i32⟩ : BufTy).Contents (Elt F) :=
  (addi) (kv_call1_v4 (F := F)) (kv_call1_v13 (F := F))

/-- The host value `v222`. -/
def kv_v222 : (⟨S512x1, .i32⟩ : BufTy).Contents (Elt F) :=
  (select) (kv_call1_v12 (F := F)) (kv_call1_v14 (F := F)) (kv_call1_v4 (F := F))

/-- The host value `v225`. -/
def kv_v225 : (⟨S1x256, .i32⟩ : BufTy).Contents (Elt F) :=
  (broadcastInDim S1x256 ![] bcast_S_S1x256) (Cert.ReferenceIdeal.Read.val_main_c (F := F))

/-- The host value `v226`. -/
def kv_v226 : (⟨S1x256, .i1⟩ : BufTy).Contents (Elt F) :=
  (cmpi .sge) (Cert.ReferenceIdeal.Read.val_main_v105 (F := F)) (kv_v225 (F := F))

/-- The host value `v227`. -/
def kv_v227 : (⟨S1x256, .i32⟩ : BufTy).Contents (Elt F) :=
  (broadcastInDim S1x256 ![] bcast_S_S1x256) (Cert.ReferenceIdeal.Read.val_main_c (F := F))

/-- The host value `v228`. -/
def kv_v228 : (⟨S1x256, .i32⟩ : BufTy).Contents (Elt F) :=
  (subi) (Cert.ReferenceIdeal.Read.val_main_v105 (F := F)) (kv_v227 (F := F))

/-- The host value `v229`. -/
def kv_v229 : (⟨S512x256, .i32⟩ : BufTy).Contents (Elt F) :=
  (broadcastInDim S512x256 ![0, 1] bcast_S1x256_S512x256_0_1) (kv_v228 (F := F))

/-- The host value `v230`. -/
def kv_v230 : (⟨S512x256, .i32⟩ : BufTy).Contents (Elt F) :=
  (broadcastInDim S512x256 ![0, 1] bcast_S512x1_S512x256_0_1) (kv_v222 (F := F))

/-- The host value `v231`. -/
def kv_v231 : (⟨S512x256, .i1⟩ : BufTy).Contents (Elt F) :=
  (cmpi .sle) (kv_v229 (F := F)) (kv_v230 (F := F))

/-- The host value `v232`. -/
def kv_v232 : (⟨S512x256, .i1⟩ : BufTy).Contents (Elt F) :=
  (broadcastInDim S512x256 ![0, 1] bcast_S1x256_S512x256_0_1) (kv_v226 (F := F))

/-- The host value `v233`. -/
def kv_v233 : (⟨S512x256, .i1⟩ : BufTy).Contents (Elt F) :=
  (andi) (kv_v232 (F := F)) (kv_v231 (F := F))

/-- The host value `v234`. -/
def kv_v234 : (⟨S1x256, .i32⟩ : BufTy).Contents (Elt F) :=
  (broadcastInDim S1x256 ![] bcast_S_S1x256) (Cert.ReferenceIdeal.Read.val_main_c (F := F))

/-- The host value `v235`. -/
def kv_v235 : (⟨S1x256, .i1⟩ : BufTy).Contents (Elt F) :=
  (cmpi .slt) (Cert.ReferenceIdeal.Read.val_main_v105 (F := F)) (kv_v234 (F := F))

/-- The host value `v236`. -/
def kv_v236 : (⟨S512x256, .i32⟩ : BufTy).Contents (Elt F) :=
  (broadcastInDim S512x256 ![0, 1] bcast_S1x256_S512x256_0_1) (Cert.ReferenceIdeal.Read.val_main_v105 (F := F))

/-- The host value `v237`. -/
def kv_v237 : (⟨S512x256, .i32⟩ : BufTy).Contents (Elt F) :=
  (broadcastInDim S512x256 ![0, 1] bcast_S512x1_S512x256_0_1) (kv_v222 (F := F))

/-- The host value `v238`. -/
def kv_v238 : (⟨S512x256, .i1⟩ : BufTy).Contents (Elt F) :=
  (cmpi .sgt) (kv_v236 (F := F)) (kv_v237 (F := F))

/-- The host value `v239`. -/
def kv_v239 : (⟨S512x256, .i1⟩ : BufTy).Contents (Elt F) :=
  (broadcastInDim S512x256 ![0, 1] bcast_S1x256_S512x256_0_1) (kv_v235 (F := F))

/-- The host value `v240`. -/
def kv_v240 : (⟨S512x256, .i1⟩ : BufTy).Contents (Elt F) :=
  (andi) (kv_v239 (F := F)) (kv_v238 (F := F))

/-- The host value `v241`. -/
def kv_v241 : (⟨S512x256, .i1⟩ : BufTy).Contents (Elt F) :=
  (ori) (kv_v233 (F := F)) (kv_v240 (F := F))

/-- The host value `call2_v0`. -/
def kv_call2_v0 : (⟨S512x256, .f32⟩ : BufTy).Contents (Elt F) :=
  ((broadcastInDim S512x256 ![] bcast_S_S512x256)) (Cert.ReferenceIdeal.Read.val_main_cst_0 (F := F))

/-- The host value `call2_v1`. -/
def kv_call2_v1 : (⟨S512x256, .f32⟩ : BufTy).Contents (Elt F) :=
  ((broadcastInDim S512x256 ![] bcast_S_S512x256)) (Cert.ReferenceIdeal.Read.val_main_cst_17 (F := F))

/-- The host value `v242`. -/
def kv_v242 : (⟨S512x256, .f32⟩ : BufTy).Contents (Elt F) :=
  (select) (kv_v241 (F := F)) (kv_call2_v0 (F := F)) (kv_call2_v1 (F := F))

/-- The host value `v243`. -/
def kv_v243 : (⟨S512x256, .f32⟩ : BufTy).Contents (Elt F) :=
  (kv_v242 (F := F))

/-- The host value `call3_v0`. -/
def kv_call3_v0 : (⟨S512x256, .f32⟩ : BufTy).Contents (Elt F) :=
  ((broadcastInDim S512x256 ![] bcast_S_S512x256)) (Cert.ReferenceIdeal.Read.val_main_cst_0 (F := F))

/-- The host value `call3_v1`. -/
def kv_call3_v1 : (⟨S512x256, .f32⟩ : BufTy).Contents (Elt F) :=
  ((broadcastInDim S512x256 ![] bcast_S_S512x256)) (Cert.ReferenceIdeal.Read.val_main_cst_17 (F := F))

/-- The host value `v244`. -/
def kv_v244 : (⟨S512x256, .f32⟩ : BufTy).Contents (Elt F) :=
  (select) (kv_v233 (F := F)) (kv_call3_v0 (F := F)) (kv_call3_v1 (F := F))

/-- The host value `v245`. -/
def kv_v245 : (⟨S512x256, .f32⟩ : BufTy).Contents (Elt F) :=
  (kv_v244 (F := F))

/-- The host value `v246`. -/
def kv_v246 : (⟨S256x512, .f32⟩ : BufTy).Contents (Elt F) :=
  ((transpose S256x512 [1, 0] · transposes_S512x256_S256x512_1_0)) (kv_v243 (F := F))

/-- The host value `v247`. -/
def kv_v247 : (⟨S256x512, .f32⟩ : BufTy).Contents (Elt F) :=
  ((transpose S256x512 [1, 0] · transposes_S512x256_S256x512_1_0)) (kv_v245 (F := F))

/-- The host value `v248_0`. -/
def kv_v248_0 (x6 : (⟨S2x2048x2816, .bf16⟩ : BufTy).Contents (Elt F)) : (⟨S2x2048x2816, .bf16⟩ : BufTy).Contents (Elt F) :=
  x6

end Cert.Host
-- ==== Proof.Ssa.lean ====
/- Reading a line of host operations in which every operation writes a buffer of its own, in the order of the buffers'
   numbers: the contents a buffer holds at the end are its operation's function of what its operands hold at the end. -/
module

public import Idealize.ShloMosaic.Lib.StableHlo.Run

@[expose] public section

namespace Cert.Ssa

open Idealize.ShloMosaic Idealize.ShloMosaic.StableHlo Idealize.ShloMosaic.TcCoe

variable {τ : Topo} {sig : RefSig} {Val : EltTy → Type}

/-- A reference's number in its memory. -/
def key (r : Ref sig .tc) : Nat := r.idx.val

/-- Operation `n` of the line writes the buffer `base + n` and no other. -/
structure Line (ops : List (HloOp τ sig Val)) (base : Nat) : Prop where
  out : ∀ n op, ops[n]? = some op → ∃ r : Ref sig .tc, op.writes = {Proc.devRef (τ := τ) .tc r} ∧ key r = base + n

theorem Line.of_map {ops : List (HloOp τ sig Val)} {base : Nat} (W : List (Ref sig .tc))
    (hW : ops.map HloOp.writes = W.map fun r => {Proc.devRef (τ := τ) .tc r})
    (hk : W.map key = List.range' base W.length) : Line ops base := by
  refine ⟨fun n op h => ?_⟩
  have h1 : (ops.map HloOp.writes)[n]? = some op.writes := by rw [List.getElem?_map, h]; rfl
  rw [hW, List.getElem?_map] at h1
  obtain ⟨r, hr, he⟩ := Option.map_eq_some_iff.mp h1
  refine ⟨r, he.symm, ?_⟩
  have h2 : (W.map key)[n]? = some (key r) := by rw [List.getElem?_map, hr]; rfl
  have hn : n < W.length := (List.getElem?_eq_some_iff.mp hr).1
  rw [hk, List.getElem?_range' hn] at h2
  have := Option.some.inj h2
  omega

theorem after_append (l₁ l₂ : List (HloOp τ sig Val)) (V : Valuation τ sig Val) :
    after (l₁ ++ l₂) V = after l₂ (after l₁ V) := by
  induction l₁ generalizing V with
  | nil => rfl
  | cons op l ih => exact ih (op.result V)

variable {ops : List (HloOp τ sig Val)} {base : Nat} (L : Line ops base) (V : Valuation τ sig Val)
include L

/-- What is written before operation `n` stays. -/
theorem Line.after_take (n : Nat) {r : Ref sig .tc} (h : key r < base + n) :
    after ops V (Proc.devRef .tc r) = after (ops.take n) V (Proc.devRef .tc r) := by
  conv_lhs => rw [← List.take_append_drop n ops]
  rw [after_append]
  refine after_of_forall_not_mem _ _ fun op hop hb => ?_
  obtain ⟨k, hk⟩ := List.mem_iff_getElem?.mp hop
  rw [List.getElem?_drop] at hk
  obtain ⟨r', hw, hk'⟩ := L.out _ _ hk
  rw [hw, Finset.mem_singleton] at hb
  have := Proc.devRef_injective _ hb
  subst this
  omega

theorem Line.after_at (n : Nat) {op : HloOp τ sig Val} (hop : ops[n]? = some op) {r : Ref sig .tc} (h : key r < base + (n + 1)) :
    after ops V (Proc.devRef .tc r) = op.result (after (ops.take n) V) (Proc.devRef .tc r) := by
  rw [L.after_take V (n + 1) h]
  obtain ⟨hn, he⟩ := List.getElem?_eq_some_iff.mp hop
  rw [List.take_succ_eq_append_getElem hn, after_append, he]
  rfl

variable {x a b c y : Ref sig .tc}

theorem Line.nullary (n : Nat) {v : y.ty.Contents Val} {hy}
    (hop : ops[n]? = some (StableHlo.nullary (τ := τ) y v hy)) (ky : key y < base + (n + 1)) :
    after ops V (Proc.devRef .tc y) = v := by
  rw [L.after_at V n hop ky, nullary_result]

theorem Line.unary (n : Nat) {f : x.ty.Contents Val → y.ty.Contents Val} {hx hy}
    (hop : ops[n]? = some (StableHlo.unary (τ := τ) x y f hx hy)) (ky : key y < base + (n + 1)) (kx : key x < base + n)
    {u : x.ty.Contents Val} (hu : after ops V (Proc.devRef .tc x) = u) :
    after ops V (Proc.devRef .tc y) = f u := by
  rw [L.after_at V n hop ky, unary_result, ← L.after_take V n kx, hu]

theorem Line.binary (n : Nat) {f : a.ty.Contents Val → b.ty.Contents Val → y.ty.Contents Val} {ha hb hy}
    (hop : ops[n]? = some (StableHlo.binary (τ := τ) a b y f ha hb hy)) (ky : key y < base + (n + 1))
    (ka : key a < base + n) (kb : key b < base + n)
    {u : a.ty.Contents Val} {v : b.ty.Contents Val} (hu : after ops V (Proc.devRef .tc a) = u)
    (hv : after ops V (Proc.devRef .tc b) = v) :
    after ops V (Proc.devRef .tc y) = f u v := by
  rw [L.after_at V n hop ky, binary_result, ← L.after_take V n ka, ← L.after_take V n kb, hu, hv]

theorem Line.ternary (n : Nat) {f : c.ty.Contents Val → a.ty.Contents Val → b.ty.Contents Val → y.ty.Contents Val} {hc ha hb hy}
    (hop : ops[n]? = some (StableHlo.ternary (τ := τ) c a b y f hc ha hb hy)) (ky : key y < base + (n + 1))
    (kc : key c < base + n) (ka : key a < base + n) (kb : key b < base + n)
    {w : c.ty.Contents Val} {u : a.ty.Contents Val} {v : b.ty.Contents Val} (hw : after ops V (Proc.devRef .tc c) = w)
    (hu : after ops V (Proc.devRef .tc a) = u) (hv : after ops V (Proc.devRef .tc b) = v) :
    after ops V (Proc.devRef .tc y) = f w u v := by
  rw [L.after_at V n hop ky, ternary_result, ← L.after_take V n kc, ← L.after_take V n ka, ← L.after_take V n kb, hw, hu, hv]

theorem Line.reshape (n : Nat) {he : x.ty.elt = y.ty.elt} {hn hx hy}
    (hop : ops[n]? = some (StableHlo.reshape (τ := τ) (Val := Val) x y he hn hx hy)) (ky : key y < base + (n + 1)) (kx : key x < base + n)
    {u : x.ty.Contents Val} (hu : after ops V (Proc.devRef .tc x) = u) :
    after ops V (Proc.devRef .tc y) = fun i => he ▸ shapeCast y.ty.shape u hn i := by
  rw [L.after_at V n hop ky, reshape_result, ← L.after_take V n kx, hu]

theorem Line.nary (n : Nat) {k : Nat} {xs : Fin k → Ref sig .tc} {f : ((j : Fin k) → (xs j).ty.Contents Val) → y.ty.Contents Val} {hxs hy}
    (hop : ops[n]? = some (StableHlo.nary (τ := τ) xs y f hxs hy)) (ky : key y < base + (n + 1)) (kx : ∀ j, key (xs j) < base + n)
    {u : (j : Fin k) → (xs j).ty.Contents Val} (hu : ∀ j, after ops V (Proc.devRef .tc (xs j)) = u j) :
    after ops V (Proc.devRef .tc y) = f u := by
  rw [L.after_at V n hop ky, nary_result]
  congr 1; funext j
  rw [← L.after_take V n (kx j), hu j]

theorem Line.arg {r : Ref sig .tc} (h : key r < base) :
    after ops V (Proc.devRef .tc r) = V (Proc.devRef .tc r) := by
  rw [L.after_take V 0 (by omega)]; rfl

end Cert.Ssa
-- ==== Proof.HostLine.lean ====
/- The kernel's host operations as one line, each writing a buffer of its own. -/
module

public import proofs.«01_k».proof.Proof.Gen.KernelIdeal.Frame.Runs
public import proofs.«01_k».proof.Proof.HostDefs
public import proofs.«01_k».proof.Proof.Ssa

@[expose] public section

set_option maxRecDepth 6000

noncomputable section

namespace Cert.Host

open Idealize.ShloMosaic Idealize.ShloMosaic.StableHlo Idealize.ShloMosaic.TcCoe Cert.KernelIdeal Cert.KernelIdeal.Gen

variable {F : FTy → Type} [FloatOps F]

/-- The host operations before the call. -/
abbrev ops : List (HloOp τ sig (Elt F)) :=
  List.flatten [hostOps0, hostOps0_1, hostOps0_2, hostOps0_3, hostOps0_4, hostOps0_5, hostOps0_6, hostOps0_7, hostOps0_8]

/-- What they write, in order. -/
def outs : List (Ref sig .tc) :=
  [main_v0, main_v1, main_cst, main_v2, main_v3, main_cst_0, main_v4, main_v5, main_v6, main_cst_1, main_v7, main_v8, main_cst_2, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_cst_3, main_v37, main_v38, main_cst_4, main_v39, main_v40, main_v41, main_cst_5, main_v42, main_v43, main_cst_6, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_cst_7, main_v75, main_v76, main_v77, main_cst_8, main_v78, main_v79, main_v80, main_v81, main_cst_9, main_v82, main_v83, main_v84, main_cst_10, main_v85, main_v86, main_v87, main_v88, main_cst_11, main_v89, main_v90, main_v91, main_v92, main_c, main_v93, main_v94, main_v95, main_v96, main_v97, main_v98, main_v99, main_c_12, main_v100, main_v101, main_c_13, main_v102, main_v103, main_v104, main_v105, main_v106, main_v107, main_v108, main_v109, main_v110, main_v111, main_v112, main_v113, main_c_14, main_v114, main_v115, main_c_15, main_v116, main_v117, main_v118, main_v119, main_c_16, main_v120, main_v121, main_v122, main_v123, main_v124, main_cst_17, main_call0_v0, main_v125_1, main_call0_v2, main_v125_0, main_call0_cst, main_v125_2, main_v126, main_v127, main_cst_18, main_v128, main_v129, main_v130, main_v131, main_v132, main_cst_19, main_v133, main_v134, main_v135, main_v136, main_v137, main_v138, main_v139, main_v140, main_cst_20, main_v141, main_cst_21, main_v142, main_cst_22, main_v143, main_v144, main_v145, main_v146, main_v147, main_v148, main_v149, main_cst_23, main_v150, main_cst_24, main_v151, main_cst_25, main_v152, main_v153, main_v154, main_v155, main_v156, main_v157, main_cst_26, main_v158, main_v159, main_v160, main_v161, main_v162, main_v163, main_v164, main_v165, main_v166, main_cst_27, main_v167, main_v168, main_v169, main_v170, main_v171, main_v172, main_v173, main_v174, main_v175, main_v176, main_v177, main_v178, main_v179, main_v180, main_v181, main_v182, main_v183, main_cst_28, main_v184, main_v185, main_v186, main_cst_29, main_v187, main_v188, main_cst_30, main_v189, main_v190, main_v191, main_cst_31, main_v192, main_v193, main_cst_32, main_v194, main_v195, main_v196, main_v197, main_v198, main_v199, main_v200, main_v201, main_v202, main_v203, main_cst_33, main_v204, main_cst_34, main_v205, main_cst_35, main_v206, main_v207, main_v208, main_v209, main_v210, main_v211, main_v212, main_v213, main_v214, main_v215, main_v216, main_v217, main_v218, main_v219, main_v220, main_v221, main_c_36, main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v222, main_v223, main_v224, main_c_37, main_v225, main_v226, main_c_38, main_v227, main_v228, main_v229, main_v230, main_v231, main_v232, main_v233, main_c_39, main_v234, main_v235, main_v236, main_v237, main_v238, main_v239, main_v240, main_v241, main_cst_40, main_cst_41, main_call2_v0, main_call2_v1, main_v242, main_v243, main_cst_42, main_cst_43, main_call3_v0, main_call3_v1, main_v244, main_v245, main_v246, main_v247, main_v248_0]

theorem line : Cert.Ssa.Line (ops (F := F)) 7 := .of_map outs rfl (by decide)

/-- The buffers of core `c` at the start. -/
abbrev V0 (m : (ℓ : Loc nD τ sig) → Buf (Elt F) ℓ) (c : Dev nD) : Valuation τ sig (Elt F) := fun b => m (c, b)

theorem concat3 {α : Type} {t s₁ s₂ s₃ : Shape} {d : Fin t.rank} {a a' : s₁.Idx → α} {b b' : s₂.Idx → α} {c c' : s₃.Idx → α}
    (h₁ : a = a') (h₂ : b = b') (h₃ : c = c') {p} :
    concatenate t d [⟨s₁, a⟩, ⟨s₂, b⟩, ⟨s₃, c⟩] p = concatenate t d [⟨s₁, a'⟩, ⟨s₂, b'⟩, ⟨s₃, c'⟩] p := by
  subst h₁ h₂ h₃; rfl

variable (m : (ℓ : Loc nD τ sig) → Buf (Elt F) ℓ) (c : Dev nD)

theorem w_arg0 : after (ops (F := F)) (V0 m c) (Proc.devRef .tc main_arg0) = m (c, Proc.devRef .tc main_arg0) :=
  (line (F := F)).arg _ (by decide)
theorem w_arg1 : after (ops (F := F)) (V0 m c) (Proc.devRef .tc main_arg1) = m (c, Proc.devRef .tc main_arg1) :=
  (line (F := F)).arg _ (by decide)
theorem w_arg2 : after (ops (F := F)) (V0 m c) (Proc.devRef .tc main_arg2) = m (c, Proc.devRef .tc main_arg2) :=
  (line (F := F)).arg _ (by decide)
theorem w_arg3 : after (ops (F := F)) (V0 m c) (Proc.devRef .tc main_arg3) = m (c, Proc.devRef .tc main_arg3) :=
  (line (F := F)).arg _ (by decide)
theorem w_arg4 : after (ops (F := F)) (V0 m c) (Proc.devRef .tc main_arg4) = m (c, Proc.devRef .tc main_arg4) :=
  (line (F := F)).arg _ (by decide)
theorem w_arg5 : after (ops (F := F)) (V0 m c) (Proc.devRef .tc main_arg5) = m (c, Proc.devRef .tc main_arg5) :=
  (line (F := F)).arg _ (by decide)
theorem w_arg6 : after (ops (F := F)) (V0 m c) (Proc.devRef .tc main_arg6) = m (c, Proc.devRef .tc main_arg6) :=
  (line (F := F)).arg _ (by decide)

end Cert.Host
-- ==== Proof.HostA.lean ====
/- The kernel's host values, one operation at a time. -/
module

public import proofs.«01_k».proof.Proof.HostLine

@[expose] public section

set_option maxRecDepth 6000

noncomputable section

namespace Cert.Host

open Idealize.ShloMosaic Idealize.ShloMosaic.StableHlo Idealize.ShloMosaic.TcCoe Cert.KernelIdeal Cert.KernelIdeal.Gen

variable {F : FTy → Type} [FloatOps F]
variable (m : (ℓ : Loc nD τ sig) → Buf (Elt F) ℓ) (c : Dev nD)

theorem w_v0 : after (ops (F := F)) (V0 m c) (Proc.devRef .tc main_v0) = Cert.ReferenceIdeal.Read.val_main_v0 (F := F) (m (c, Proc.devRef .tc main_arg0)) :=
  ((line (F := F)).reshape _ 0 rfl (by decide) (by decide) (w_arg0 m c)).trans rfl

theorem w_v1 : after (ops (F := F)) (V0 m c) (Proc.devRef .tc main_v1) = Cert.ReferenceIdeal.Read.val_main_v1 (F := F) :=
  ((line (F := F)).nullary _ 1 rfl (by decide)).trans rfl

theorem w_cst : after (ops (F := F)) (V0 m c) (Proc.devRef .tc main_cst) = Cert.ReferenceIdeal.Read.val_main_cst (F := F) :=
  ((line (F := F)).nullary _ 2 rfl (by decide)).trans rfl

theorem w_v2 : after (ops (F := F)) (V0 m c) (Proc.devRef .tc main_v2) = Cert.ReferenceIdeal.Read.val_main_v2 (F := F) :=
  ((line (F := F)).unary _ 3 rfl (by decide) (by decide) (w_cst m c)).trans rfl

theorem w_v3 : after (ops (F := F)) (V0 m c) (Proc.devRef .tc main_v3) = Cert.ReferenceIdeal.Read.val_main_v3 (F := F) :=
  ((line (F := F)).binary _ 4 rfl (by decide) (by decide) (by decide) (w_v2 m c) (w_v1 m c)).trans rfl

theorem w_cst_0 : after (ops (F := F)) (V0 m c) (Proc.devRef .tc main_cst_0) = Cert.ReferenceIdeal.Read.val_main_cst_0 (F := F) :=
  ((line (F := F)).nullary _ 5 rfl (by decide)).trans rfl

theorem w_v4 : after (ops (F := F)) (V0 m c) (Proc.devRef .tc main_v4) = Cert.ReferenceIdeal.Read.val_main_v4 (F := F) :=
  ((line (F := F)).unary _ 6 rfl (by decide) (by decide) (w_cst_0 m c)).trans rfl

theorem w_v5 : after (ops (F := F)) (V0 m c) (Proc.devRef .tc main_v5) = Cert.ReferenceIdeal.Read.val_main_v5 (F := F) :=
  ((line (F := F)).binary _ 7 rfl (by decide) (by decide) (by decide) (w_v4 m c) (w_v3 m c)).trans rfl

theorem w_v6 : after (ops (F := F)) (V0 m c) (Proc.devRef .tc main_v6) = Cert.ReferenceIdeal.Read.val_main_v6 (F := F) :=
  ((line (F := F)).unary _ 8 rfl (by decide) (by decide) (w_v5 m c)).trans rfl

theorem w_cst_1 : after (ops (F := F)) (V0 m c) (Proc.devRef .tc main_cst_1) = Cert.ReferenceIdeal.Read.val_main_cst_1 (F := F) :=
  ((line (F := F)).nullary _ 9 rfl (by decide)).trans rfl

theorem w_v7 : after (ops (F := F)) (V0 m c) (Proc.devRef .tc main_v7) = Cert.ReferenceIdeal.Read.val_main_v7 (F := F) :=
  ((line (F := F)).unary _ 10 rfl (by decide) (by decide) (w_cst_1 m c)).trans rfl

theorem w_v8 : after (ops (F := F)) (V0 m c) (Proc.devRef .tc main_v8) = Cert.ReferenceIdeal.Read.val_main_v8 (F := F) :=
  ((line (F := F)).binary _ 11 rfl (by decide) (by decide) (by decide) (w_v6 m c) (w_v7 m c)).trans rfl

theorem w_cst_2 : after (ops (F := F)) (V0 m c) (Proc.devRef .tc main_cst_2) = Cert.ReferenceIdeal.Read.val_main_cst_2 (F := F) :=
  ((line (F := F)).nullary _ 12 rfl (by decide)).trans rfl

theorem w_v9 : after (ops (F := F)) (V0 m c) (Proc.devRef .tc main_v9) = Cert.ReferenceIdeal.Read.val_main_v9 (F := F) :=
  ((line (F := F)).unary _ 13 rfl (by decide) (by decide) (w_cst_2 m c)).trans rfl

theorem w_v10 : after (ops (F := F)) (V0 m c) (Proc.devRef .tc main_v10) = Cert.ReferenceIdeal.Read.val_main_v10 (F := F) :=
  ((line (F := F)).binary _ 14 rfl (by decide) (by decide) (by decide) (w_v9 m c) (w_v8 m c)).trans rfl

theorem w_v11 : after (ops (F := F)) (V0 m c) (Proc.devRef .tc main_v11) = Cert.ReferenceIdeal.Read.val_main_v11 (F := F) :=
  ((line (F := F)).nullary _ 15 rfl (by decide)).trans rfl

theorem w_v12 : after (ops (F := F)) (V0 m c) (Proc.devRef .tc main_v12) = Cert.ReferenceIdeal.Read.val_main_v12 (F := F) :=
  ((line (F := F)).unary _ 16 rfl (by decide) (by decide) (w_v11 m c)).trans rfl

theorem w_v13 : after (ops (F := F)) (V0 m c) (Proc.devRef .tc main_v13) = Cert.ReferenceIdeal.Read.val_main_v13 (F := F) :=
  ((line (F := F)).unary _ 17 rfl (by decide) (by decide) (w_v10 m c)).trans rfl

theorem w_v14 : after (ops (F := F)) (V0 m c) (Proc.devRef .tc main_v14) = Cert.ReferenceIdeal.Read.val_main_v14 (F := F) :=
  ((line (F := F)).unary _ 18 rfl (by decide) (by decide) (w_v12 m c)).trans rfl

theorem w_v15 : after (ops (F := F)) (V0 m c) (Proc.devRef .tc main_v15) = Cert.ReferenceIdeal.Read.val_main_v15 (F := F) :=
  ((line (F := F)).unary _ 19 rfl (by decide) (by decide) (w_v13 m c)).trans rfl

theorem w_v16 : after (ops (F := F)) (V0 m c) (Proc.devRef .tc main_v16) = Cert.ReferenceIdeal.Read.val_main_v16 (F := F) :=
  ((line (F := F)).binary _ 20 rfl (by decide) (by decide) (by decide) (w_v14 m c) (w_v15 m c)).trans rfl

theorem w_v17 : after (ops (F := F)) (V0 m c) (Proc.devRef .tc main_v17) = Cert.ReferenceIdeal.Read.val_main_v17 (F := F) :=
  ((line (F := F)).unary _ 21 rfl (by decide) (by decide) (w_v16 m c)).trans rfl

theorem w_v18 : after (ops (F := F)) (V0 m c) (Proc.devRef .tc main_v18) = Cert.ReferenceIdeal.Read.val_main_v18 (F := F) :=
  ((line (F := F)).unary _ 22 rfl (by decide) (by decide) (w_v17 m c)).trans rfl

theorem w_v19 : after (ops (F := F)) (V0 m c) (Proc.devRef .tc main_v19) = Cert.ReferenceIdeal.Read.val_main_v19 (F := F) :=
  ((line (F := F)).unary _ 23 rfl (by decide) (by decide) (w_v16 m c)).trans rfl

theorem w_v20 : after (ops (F := F)) (V0 m c) (Proc.devRef .tc main_v20) = Cert.ReferenceIdeal.Read.val_main_v20 (F := F) :=
  ((line (F := F)).unary _ 24 rfl (by decide) (by decide) (w_v19 m c)).trans rfl

theorem w_v21 : after (ops (F := F)) (V0 m c) (Proc.devRef .tc main_v21) = Cert.ReferenceIdeal.Read.val_main_v21 (F := F) (m (c, Proc.devRef .tc main_arg0)) :=
  ((line (F := F)).unary _ 25 rfl (by decide) (by decide) (w_v0 m c)).trans rfl

theorem w_v22 : after (ops (F := F)) (V0 m c) (Proc.devRef .tc main_v22) = Cert.ReferenceIdeal.Read.val_main_v22 (F := F) (m (c, Proc.devRef .tc main_arg0)) :=
  ((line (F := F)).unary _ 26 rfl (by decide) (by decide) (w_v0 m c)).trans rfl

theorem w_v23 : after (ops (F := F)) (V0 m c) (Proc.devRef .tc main_v23) = Cert.ReferenceIdeal.Read.val_main_v23 (F := F) (m (c, Proc.devRef .tc main_arg0)) :=
  ((line (F := F)).unary _ 27 rfl (by decide) (by decide) (w_v0 m c)).trans rfl

theorem w_v24 : after (ops (F := F)) (V0 m c) (Proc.devRef .tc main_v24) = Cert.ReferenceIdeal.Read.val_main_v24 (F := F) :=
  ((line (F := F)).unary _ 28 rfl (by decide) (by decide) (w_v18 m c)).trans rfl

theorem w_v25 : after (ops (F := F)) (V0 m c) (Proc.devRef .tc main_v25) = Cert.ReferenceIdeal.Read.val_main_v25 (F := F) (m (c, Proc.devRef .tc main_arg0)) :=
  ((line (F := F)).binary _ 29 rfl (by decide) (by decide) (by decide) (w_v21 m c) (w_v24 m c)).trans rfl

theorem w_v26 : after (ops (F := F)) (V0 m c) (Proc.devRef .tc main_v26) = Cert.ReferenceIdeal.Read.val_main_v26 (F := F) :=
  ((line (F := F)).unary _ 30 rfl (by decide) (by decide) (w_v20 m c)).trans rfl

theorem w_v27 : after (ops (F := F)) (V0 m c) (Proc.devRef .tc main_v27) = Cert.ReferenceIdeal.Read.val_main_v27 (F := F) (m (c, Proc.devRef .tc main_arg0)) :=
  ((line (F := F)).binary _ 31 rfl (by decide) (by decide) (by decide) (w_v22 m c) (w_v26 m c)).trans rfl

theorem w_v28 : after (ops (F := F)) (V0 m c) (Proc.devRef .tc main_v28) = Cert.ReferenceIdeal.Read.val_main_v28 (F := F) (m (c, Proc.devRef .tc main_arg0)) :=
  ((line (F := F)).binary _ 32 rfl (by decide) (by decide) (by decide) (w_v25 m c) (w_v27 m c)).trans rfl

theorem w_v29 : after (ops (F := F)) (V0 m c) (Proc.devRef .tc main_v29) = Cert.ReferenceIdeal.Read.val_main_v29 (F := F) :=
  ((line (F := F)).unary _ 33 rfl (by decide) (by decide) (w_v18 m c)).trans rfl

theorem w_v30 : after (ops (F := F)) (V0 m c) (Proc.devRef .tc main_v30) = Cert.ReferenceIdeal.Read.val_main_v30 (F := F) (m (c, Proc.devRef .tc main_arg0)) :=
  ((line (F := F)).binary _ 34 rfl (by decide) (by decide) (by decide) (w_v22 m c) (w_v29 m c)).trans rfl

theorem w_v31 : after (ops (F := F)) (V0 m c) (Proc.devRef .tc main_v31) = Cert.ReferenceIdeal.Read.val_main_v31 (F := F) :=
  ((line (F := F)).unary _ 35 rfl (by decide) (by decide) (w_v20 m c)).trans rfl

theorem w_v32 : after (ops (F := F)) (V0 m c) (Proc.devRef .tc main_v32) = Cert.ReferenceIdeal.Read.val_main_v32 (F := F) (m (c, Proc.devRef .tc main_arg0)) :=
  ((line (F := F)).binary _ 36 rfl (by decide) (by decide) (by decide) (w_v21 m c) (w_v31 m c)).trans rfl

theorem w_v33 : after (ops (F := F)) (V0 m c) (Proc.devRef .tc main_v33) = Cert.ReferenceIdeal.Read.val_main_v33 (F := F) (m (c, Proc.devRef .tc main_arg0)) :=
  ((line (F := F)).binary _ 37 rfl (by decide) (by decide) (by decide) (w_v30 m c) (w_v32 m c)).trans rfl

theorem w_v34 : after (ops (F := F)) (V0 m c) (Proc.devRef .tc main_v34) = Cert.ReferenceIdeal.Read.val_main_v34 (F := F) (m (c, Proc.devRef .tc main_arg0)) :=
  ((line (F := F)).nary _ 38 rfl (by decide) (by decide) fun _ => rfl).trans (concat3 (w_v28 m c) (w_v33 m c) (w_v23 m c))

theorem w_v35 : after (ops (F := F)) (V0 m c) (Proc.devRef .tc main_v35) = Cert.ReferenceIdeal.Read.val_main_v35 (F := F) (m (c, Proc.devRef .tc main_arg1)) :=
  ((line (F := F)).reshape _ 39 rfl (by decide) (by decide) (w_arg1 m c)).trans rfl

theorem w_v36 : after (ops (F := F)) (V0 m c) (Proc.devRef .tc main_v36) = Cert.ReferenceIdeal.Read.val_main_v36 (F := F) :=
  ((line (F := F)).nullary _ 40 rfl (by decide)).trans rfl

theorem w_cst_3 : after (ops (F := F)) (V0 m c) (Proc.devRef .tc main_cst_3) = Cert.ReferenceIdeal.Read.val_main_cst_3 (F := F) :=
  ((line (F := F)).nullary _ 41 rfl (by decide)).trans rfl

theorem w_v37 : after (ops (F := F)) (V0 m c) (Proc.devRef .tc main_v37) = Cert.ReferenceIdeal.Read.val_main_v37 (F := F) :=
  ((line (F := F)).unary _ 42 rfl (by decide) (by decide) (w_cst_3 m c)).trans rfl

theorem w_v38 : after (ops (F := F)) (V0 m c) (Proc.devRef .tc main_v38) = Cert.ReferenceIdeal.Read.val_main_v38 (F := F) :=
  ((line (F := F)).binary _ 43 rfl (by decide) (by decide) (by decide) (w_v37 m c) (w_v36 m c)).trans rfl

theorem w_cst_4 : after (ops (F := F)) (V0 m c) (Proc.devRef .tc main_cst_4) = Cert.ReferenceIdeal.Read.val_main_cst_4 (F := F) :=
  ((line (F := F)).nullary _ 44 rfl (by decide)).trans rfl

theorem w_v39 : after (ops (F := F)) (V0 m c) (Proc.devRef .tc main_v39) = Cert.ReferenceIdeal.Read.val_main_v39 (F := F) :=
  ((line (F := F)).unary _ 45 rfl (by decide) (by decide) (w_cst_4 m c)).trans rfl

theorem w_v40 : after (ops (F := F)) (V0 m c) (Proc.devRef .tc main_v40) = Cert.ReferenceIdeal.Read.val_main_v40 (F := F) :=
  ((line (F := F)).binary _ 46 rfl (by decide) (by decide) (by decide) (w_v39 m c) (w_v38 m c)).trans rfl

theorem w_v41 : after (ops (F := F)) (V0 m c) (Proc.devRef .tc main_v41) = Cert.ReferenceIdeal.Read.val_main_v41 (F := F) :=
  ((line (F := F)).unary _ 47 rfl (by decide) (by decide) (w_v40 m c)).trans rfl

theorem w_cst_5 : after (ops (F := F)) (V0 m c) (Proc.devRef .tc main_cst_5) = Cert.ReferenceIdeal.Read.val_main_cst_5 (F := F) :=
  ((line (F := F)).nullary _ 48 rfl (by decide)).trans rfl

theorem w_v42 : after (ops (F := F)) (V0 m c) (Proc.devRef .tc main_v42) = Cert.ReferenceIdeal.Read.val_main_v42 (F := F) :=
  ((line (F := F)).unary _ 49 rfl (by decide) (by decide) (w_cst_5 m c)).trans rfl

theorem w_v43 : after (ops (F := F)) (V0 m c) (Proc.devRef .tc main_v43) = Cert.ReferenceIdeal.Read.val_main_v43 (F := F) :=
  ((line (F := F)).binary _ 50 rfl (by decide) (by decide) (by decide) (w_v41 m c) (w_v42 m c)).trans rfl

theorem w_cst_6 : after (ops (F := F)) (V0 m c) (Proc.devRef .tc main_cst_6) = Cert.ReferenceIdeal.Read.val_main_cst_6 (F := F) :=
  ((line (F := F)).nullary _ 51 rfl (by decide)).trans rfl

theorem w_v44 : after (ops (F := F)) (V0 m c) (Proc.devRef .tc main_v44) = Cert.ReferenceIdeal.Read.val_main_v44 (F := F) :=
  ((line (F := F)).unary _ 52 rfl (by decide) (by decide) (w_cst_6 m c)).trans rfl

theorem w_v45 : after (ops (F := F)) (V0 m c) (Proc.devRef .tc main_v45) = Cert.ReferenceIdeal.Read.val_main_v45 (F := F) :=
  ((line (F := F)).binary _ 53 rfl (by decide) (by decide) (by decide) (w_v44 m c) (w_v43 m c)).trans rfl

theorem w_v46 : after (ops (F := F)) (V0 m c) (Proc.devRef .tc main_v46) = Cert.ReferenceIdeal.Read.val_main_v46 (F := F) :=
  ((line (F := F)).nullary _ 54 rfl (by decide)).trans rfl

theorem w_v47 : after (ops (F := F)) (V0 m c) (Proc.devRef .tc main_v47) = Cert.ReferenceIdeal.Read.val_main_v47 (F := F) :=
  ((line (F := F)).unary _ 55 rfl (by decide) (by decide) (w_v46 m c)).trans rfl

theorem w_v48 : after (ops (F := F)) (V0 m c) (Proc.devRef .tc main_v48) = Cert.ReferenceIdeal.Read.val_main_v48 (F := F) :=
  ((line (F := F)).unary _ 56 rfl (by decide) (by decide) (w_v45 m c)).trans rfl

theorem w_v49 : after (ops (F := F)) (V0 m c) (Proc.devRef .tc main_v49) = Cert.ReferenceIdeal.Read.val_main_v49 (F := F) :=
  ((line (F := F)).unary _ 57 rfl (by decide) (by decide) (w_v47 m c)).trans rfl

theorem w_v50 : after (ops (F := F)) (V0 m c) (Proc.devRef .tc main_v50) = Cert.ReferenceIdeal.Read.val_main_v50 (F := F) :=
  ((line (F := F)).unary _ 58 rfl (by decide) (by decide) (w_v48 m c)).trans rfl

theorem w_v51 : after (ops (F := F)) (V0 m c) (Proc.devRef .tc main_v51) = Cert.ReferenceIdeal.Read.val_main_v51 (F := F) :=
  ((line (F := F)).binary _ 59 rfl (by decide) (by decide) (by decide) (w_v49 m c) (w_v50 m c)).trans rfl

theorem w_v52 : after (ops (F := F)) (V0 m c) (Proc.devRef .tc main_v52) = Cert.ReferenceIdeal.Read.val_main_v52 (F := F) :=
  ((line (F := F)).unary _ 60 rfl (by decide) (by decide) (w_v51 m c)).trans rfl

theorem w_v53 : after (ops (F := F)) (V0 m c) (Proc.devRef .tc main_v53) = Cert.ReferenceIdeal.Read.val_main_v53 (F := F) :=
  ((line (F := F)).unary _ 61 rfl (by decide) (by decide) (w_v52 m c)).trans rfl

theorem w_v54 : after (ops (F := F)) (V0 m c) (Proc.devRef .tc main_v54) = Cert.ReferenceIdeal.Read.val_main_v54 (F := F) :=
  ((line (F := F)).unary _ 62 rfl (by decide) (by decide) (w_v51 m c)).trans rfl

theorem w_v55 : after (ops (F := F)) (V0 m c) (Proc.devRef .tc main_v55) = Cert.ReferenceIdeal.Read.val_main_v55 (F := F) :=
  ((line (F := F)).unary _ 63 rfl (by decide) (by decide) (w_v54 m c)).trans rfl

theorem w_v56 : after (ops (F := F)) (V0 m c) (Proc.devRef .tc main_v56) = Cert.ReferenceIdeal.Read.val_main_v56 (F := F) (m (c, Proc.devRef .tc main_arg1)) :=
  ((line (F := F)).unary _ 64 rfl (by decide) (by decide) (w_v35 m c)).trans rfl

theorem w_v57 : after (ops (F := F)) (V0 m c) (Proc.devRef .tc main_v57) = Cert.ReferenceIdeal.Read.val_main_v57 (F := F) (m (c, Proc.devRef .tc main_arg1)) :=
  ((line (F := F)).unary _ 65 rfl (by decide) (by decide) (w_v35 m c)).trans rfl

theorem w_v58 : after (ops (F := F)) (V0 m c) (Proc.devRef .tc main_v58) = Cert.ReferenceIdeal.Read.val_main_v58 (F := F) (m (c, Proc.devRef .tc main_arg1)) :=
  ((line (F := F)).unary _ 66 rfl (by decide) (by decide) (w_v35 m c)).trans rfl

theorem w_v59 : after (ops (F := F)) (V0 m c) (Proc.devRef .tc main_v59) = Cert.ReferenceIdeal.Read.val_main_v59 (F := F) :=
  ((line (F := F)).unary _ 67 rfl (by decide) (by decide) (w_v53 m c)).trans rfl

theorem w_v60 : after (ops (F := F)) (V0 m c) (Proc.devRef .tc main_v60) = Cert.ReferenceIdeal.Read.val_main_v60 (F := F) (m (c, Proc.devRef .tc main_arg1)) :=
  ((line (F := F)).binary _ 68 rfl (by decide) (by decide) (by decide) (w_v56 m c) (w_v59 m c)).trans rfl

theorem w_v61 : after (ops (F := F)) (V0 m c) (Proc.devRef .tc main_v61) = Cert.ReferenceIdeal.Read.val_main_v61 (F := F) :=
  ((line (F := F)).unary _ 69 rfl (by decide) (by decide) (w_v55 m c)).trans rfl

theorem w_v62 : after (ops (F := F)) (V0 m c) (Proc.devRef .tc main_v62) = Cert.ReferenceIdeal.Read.val_main_v62 (F := F) (m (c, Proc.devRef .tc main_arg1)) :=
  ((line (F := F)).binary _ 70 rfl (by decide) (by decide) (by decide) (w_v57 m c) (w_v61 m c)).trans rfl

theorem w_v63 : after (ops (F := F)) (V0 m c) (Proc.devRef .tc main_v63) = Cert.ReferenceIdeal.Read.val_main_v63 (F := F) (m (c, Proc.devRef .tc main_arg1)) :=
  ((line (F := F)).binary _ 71 rfl (by decide) (by decide) (by decide) (w_v60 m c) (w_v62 m c)).trans rfl

theorem w_v64 : after (ops (F := F)) (V0 m c) (Proc.devRef .tc main_v64) = Cert.ReferenceIdeal.Read.val_main_v64 (F := F) :=
  ((line (F := F)).unary _ 72 rfl (by decide) (by decide) (w_v53 m c)).trans rfl

theorem w_v65 : after (ops (F := F)) (V0 m c) (Proc.devRef .tc main_v65) = Cert.ReferenceIdeal.Read.val_main_v65 (F := F) (m (c, Proc.devRef .tc main_arg1)) :=
  ((line (F := F)).binary _ 73 rfl (by decide) (by decide) (by decide) (w_v57 m c) (w_v64 m c)).trans rfl

theorem w_v66 : after (ops (F := F)) (V0 m c) (Proc.devRef .tc main_v66) = Cert.ReferenceIdeal.Read.val_main_v66 (F := F) :=
  ((line (F := F)).unary _ 74 rfl (by decide) (by decide) (w_v55 m c)).trans rfl

theorem w_v67 : after (ops (F := F)) (V0 m c) (Proc.devRef .tc main_v67) = Cert.ReferenceIdeal.Read.val_main_v67 (F := F) (m (c, Proc.devRef .tc main_arg1)) :=
  ((line (F := F)).binary _ 75 rfl (by decide) (by decide) (by decide) (w_v56 m c) (w_v66 m c)).trans rfl

theorem w_v68 : after (ops (F := F)) (V0 m c) (Proc.devRef .tc main_v68) = Cert.ReferenceIdeal.Read.val_main_v68 (F := F) (m (c, Proc.devRef .tc main_arg1)) :=
  ((line (F := F)).binary _ 76 rfl (by decide) (by decide) (by decide) (w_v65 m c) (w_v67 m c)).trans rfl

theorem w_v69 : after (ops (F := F)) (V0 m c) (Proc.devRef .tc main_v69) = Cert.ReferenceIdeal.Read.val_main_v69 (F := F) (m (c, Proc.devRef .tc main_arg1)) :=
  ((line (F := F)).nary _ 77 rfl (by decide) (by decide) fun _ => rfl).trans (concat3 (w_v63 m c) (w_v68 m c) (w_v58 m c))

theorem w_v70 : after (ops (F := F)) (V0 m c) (Proc.devRef .tc main_v70) = Cert.ReferenceIdeal.Read.val_main_v70 (F := F) (m (c, Proc.devRef .tc main_arg2)) :=
  ((line (F := F)).reshape _ 78 rfl (by decide) (by decide) (w_arg2 m c)).trans rfl

theorem w_v71 : after (ops (F := F)) (V0 m c) (Proc.devRef .tc main_v71) = Cert.ReferenceIdeal.Read.val_main_v71 (F := F) (m (c, Proc.devRef .tc main_arg3)) :=
  ((line (F := F)).reshape _ 79 rfl (by decide) (by decide) (w_arg3 m c)).trans rfl

theorem w_v72 : after (ops (F := F)) (V0 m c) (Proc.devRef .tc main_v72) = Cert.ReferenceIdeal.Read.val_main_v72 (F := F) (m (c, Proc.devRef .tc main_arg0)) :=
  ((line (F := F)).reshape _ 80 rfl (by decide) (by decide) (w_v34 m c)).trans rfl

theorem w_v73 : after (ops (F := F)) (V0 m c) (Proc.devRef .tc main_v73) = Cert.ReferenceIdeal.Read.val_main_v73 (F := F) (m (c, Proc.devRef .tc main_arg1)) :=
  ((line (F := F)).reshape _ 81 rfl (by decide) (by decide) (w_v69 m c)).trans rfl

theorem w_v74 : after (ops (F := F)) (V0 m c) (Proc.devRef .tc main_v74) = Cert.ReferenceIdeal.Read.val_main_v74 (F := F) (m (c, Proc.devRef .tc main_arg1)) :=
  ((line (F := F)).unary _ 82 rfl (by decide) (by decide) (w_v73 m c)).trans rfl

theorem w_cst_7 : after (ops (F := F)) (V0 m c) (Proc.devRef .tc main_cst_7) = Cert.ReferenceIdeal.Read.val_main_cst_7 (F := F) :=
  ((line (F := F)).nullary _ 83 rfl (by decide)).trans rfl

theorem w_v75 : after (ops (F := F)) (V0 m c) (Proc.devRef .tc main_v75) = Cert.ReferenceIdeal.Read.val_main_v75 (F := F) :=
  ((line (F := F)).unary _ 84 rfl (by decide) (by decide) (w_cst_7 m c)).trans rfl

theorem w_v76 : after (ops (F := F)) (V0 m c) (Proc.devRef .tc main_v76) = Cert.ReferenceIdeal.Read.val_main_v76 (F := F) (m (c, Proc.devRef .tc main_arg1)) :=
  ((line (F := F)).unary _ 85 rfl (by decide) (by decide) (w_v73 m c)).trans rfl

theorem w_v77 : after (ops (F := F)) (V0 m c) (Proc.devRef .tc main_v77) = Cert.ReferenceIdeal.Read.val_main_v77 (F := F) (m (c, Proc.devRef .tc main_arg1)) :=
  ((line (F := F)).binary _ 86 rfl (by decide) (by decide) (by decide) (w_v75 m c) (w_v76 m c)).trans rfl

theorem w_cst_8 : after (ops (F := F)) (V0 m c) (Proc.devRef .tc main_cst_8) = Cert.ReferenceIdeal.Read.val_main_cst_8 (F := F) :=
  ((line (F := F)).nullary _ 87 rfl (by decide)).trans rfl

theorem w_v78 : after (ops (F := F)) (V0 m c) (Proc.devRef .tc main_v78) = Cert.ReferenceIdeal.Read.val_main_v78 (F := F) :=
  ((line (F := F)).unary _ 88 rfl (by decide) (by decide) (w_cst_8 m c)).trans rfl

theorem w_v79 : after (ops (F := F)) (V0 m c) (Proc.devRef .tc main_v79) = Cert.ReferenceIdeal.Read.val_main_v79 (F := F) (m (c, Proc.devRef .tc main_arg1)) :=
  ((line (F := F)).binary _ 89 rfl (by decide) (by decide) (by decide) (w_v77 m c) (w_v73 m c)).trans rfl

theorem w_v80 : after (ops (F := F)) (V0 m c) (Proc.devRef .tc main_v80) = Cert.ReferenceIdeal.Read.val_main_v80 (F := F) (m (c, Proc.devRef .tc main_arg2)) :=
  ((line (F := F)).reshape _ 90 rfl (by decide) (by decide) (w_v70 m c)).trans rfl

theorem w_v81 : after (ops (F := F)) (V0 m c) (Proc.devRef .tc main_v81) = Cert.ReferenceIdeal.Read.val_main_v81 (F := F) (m (c, Proc.devRef .tc main_arg2)) :=
  ((line (F := F)).unary _ 91 rfl (by decide) (by decide) (w_v80 m c)).trans rfl

theorem w_cst_9 : after (ops (F := F)) (V0 m c) (Proc.devRef .tc main_cst_9) = Cert.ReferenceIdeal.Read.val_main_cst_9 (F := F) :=
  ((line (F := F)).nullary _ 92 rfl (by decide)).trans rfl

theorem w_v82 : after (ops (F := F)) (V0 m c) (Proc.devRef .tc main_v82) = Cert.ReferenceIdeal.Read.val_main_v82 (F := F) :=
  ((line (F := F)).unary _ 93 rfl (by decide) (by decide) (w_cst_9 m c)).trans rfl

theorem w_v83 : after (ops (F := F)) (V0 m c) (Proc.devRef .tc main_v83) = Cert.ReferenceIdeal.Read.val_main_v83 (F := F) (m (c, Proc.devRef .tc main_arg2)) :=
  ((line (F := F)).unary _ 94 rfl (by decide) (by decide) (w_v80 m c)).trans rfl

theorem w_v84 : after (ops (F := F)) (V0 m c) (Proc.devRef .tc main_v84) = Cert.ReferenceIdeal.Read.val_main_v84 (F := F) (m (c, Proc.devRef .tc main_arg2)) :=
  ((line (F := F)).binary _ 95 rfl (by decide) (by decide) (by decide) (w_v82 m c) (w_v83 m c)).trans rfl

theorem w_cst_10 : after (ops (F := F)) (V0 m c) (Proc.devRef .tc main_cst_10) = Cert.ReferenceIdeal.Read.val_main_cst_10 (F := F) :=
  ((line (F := F)).nullary _ 96 rfl (by decide)).trans rfl

theorem w_v85 : after (ops (F := F)) (V0 m c) (Proc.devRef .tc main_v85) = Cert.ReferenceIdeal.Read.val_main_v85 (F := F) :=
  ((line (F := F)).unary _ 97 rfl (by decide) (by decide) (w_cst_10 m c)).trans rfl

theorem w_v86 : after (ops (F := F)) (V0 m c) (Proc.devRef .tc main_v86) = Cert.ReferenceIdeal.Read.val_main_v86 (F := F) (m (c, Proc.devRef .tc main_arg2)) :=
  ((line (F := F)).binary _ 98 rfl (by decide) (by decide) (by decide) (w_v84 m c) (w_v80 m c)).trans rfl

theorem w_v87 : after (ops (F := F)) (V0 m c) (Proc.devRef .tc main_v87) = Cert.ReferenceIdeal.Read.val_main_v87 (F := F) (m (c, Proc.devRef .tc main_arg0)) (m (c, Proc.devRef .tc main_arg1)) :=
  ((line (F := F)).binary _ 99 rfl (by decide) (by decide) (by decide) (w_v79 m c) (w_v72 m c)).trans rfl

theorem w_v88 : after (ops (F := F)) (V0 m c) (Proc.devRef .tc main_v88) = Cert.ReferenceIdeal.Read.val_main_v88 (F := F) (m (c, Proc.devRef .tc main_arg0)) (m (c, Proc.devRef .tc main_arg1)) :=
  ((line (F := F)).unary _ 100 rfl (by decide) (by decide) (w_v87 m c)).trans rfl

theorem w_cst_11 : after (ops (F := F)) (V0 m c) (Proc.devRef .tc main_cst_11) = Cert.ReferenceIdeal.Read.val_main_cst_11 (F := F) :=
  ((line (F := F)).nullary _ 101 rfl (by decide)).trans rfl

theorem w_v89 : after (ops (F := F)) (V0 m c) (Proc.devRef .tc main_v89) = Cert.ReferenceIdeal.Read.val_main_v89 (F := F) :=
  ((line (F := F)).unary _ 102 rfl (by decide) (by decide) (w_cst_11 m c)).trans rfl

theorem w_v90 : after (ops (F := F)) (V0 m c) (Proc.devRef .tc main_v90) = Cert.ReferenceIdeal.Read.val_main_v90 (F := F) (m (c, Proc.devRef .tc main_arg0)) (m (c, Proc.devRef .tc main_arg1)) :=
  ((line (F := F)).binary _ 103 rfl (by decide) (by decide) (by decide) (w_v88 m c) (w_v89 m c)).trans rfl

theorem w_v91 : after (ops (F := F)) (V0 m c) (Proc.devRef .tc main_v91) = Cert.ReferenceIdeal.Read.val_main_v91 (F := F) :=
  ((line (F := F)).nullary _ 104 rfl (by decide)).trans rfl

theorem w_v92 : after (ops (F := F)) (V0 m c) (Proc.devRef .tc main_v92) = Cert.ReferenceIdeal.Read.val_main_v92 (F := F) :=
  ((line (F := F)).unary _ 105 rfl (by decide) (by decide) (w_v91 m c)).trans rfl

theorem w_c : after (ops (F := F)) (V0 m c) (Proc.devRef .tc main_c) = Cert.ReferenceIdeal.Read.val_main_c (F := F) :=
  ((line (F := F)).nullary _ 106 rfl (by decide)).trans rfl

theorem w_v93 : after (ops (F := F)) (V0 m c) (Proc.devRef .tc main_v93) = Cert.ReferenceIdeal.Read.val_main_v93 (F := F) :=
  ((line (F := F)).unary _ 107 rfl (by decide) (by decide) (w_c m c)).trans rfl

theorem w_v94 : after (ops (F := F)) (V0 m c) (Proc.devRef .tc main_v94) = Cert.ReferenceIdeal.Read.val_main_v94 (F := F) :=
  ((line (F := F)).binary _ 108 rfl (by decide) (by decide) (by decide) (w_v92 m c) (w_v93 m c)).trans rfl

theorem w_v95 : after (ops (F := F)) (V0 m c) (Proc.devRef .tc main_v95) = Cert.ReferenceIdeal.Read.val_main_v95 (F := F) :=
  ((line (F := F)).nullary _ 109 rfl (by decide)).trans rfl

theorem w_v96 : after (ops (F := F)) (V0 m c) (Proc.devRef .tc main_v96) = Cert.ReferenceIdeal.Read.val_main_v96 (F := F) :=
  ((line (F := F)).unary _ 110 rfl (by decide) (by decide) (w_v95 m c)).trans rfl

theorem w_v97 : after (ops (F := F)) (V0 m c) (Proc.devRef .tc main_v97) = Cert.ReferenceIdeal.Read.val_main_v97 (F := F) :=
  ((line (F := F)).unary _ 111 rfl (by decide) (by decide) (w_v94 m c)).trans rfl

theorem w_v98 : after (ops (F := F)) (V0 m c) (Proc.devRef .tc main_v98) = Cert.ReferenceIdeal.Read.val_main_v98 (F := F) :=
  ((line (F := F)).unary _ 112 rfl (by decide) (by decide) (w_v96 m c)).trans rfl

theorem w_v99 : after (ops (F := F)) (V0 m c) (Proc.devRef .tc main_v99) = Cert.ReferenceIdeal.Read.val_main_v99 (F := F) :=
  ((line (F := F)).binary _ 113 rfl (by decide) (by decide) (by decide) (w_v97 m c) (w_v98 m c)).trans rfl

theorem w_c_12 : after (ops (F := F)) (V0 m c) (Proc.devRef .tc main_c_12) = Cert.ReferenceIdeal.Read.val_main_c_12 (F := F) :=
  ((line (F := F)).nullary _ 114 rfl (by decide)).trans rfl

theorem w_v100 : after (ops (F := F)) (V0 m c) (Proc.devRef .tc main_v100) = Cert.ReferenceIdeal.Read.val_main_v100 (F := F) :=
  ((line (F := F)).unary _ 115 rfl (by decide) (by decide) (w_c_12 m c)).trans rfl

theorem w_v101 : after (ops (F := F)) (V0 m c) (Proc.devRef .tc main_v101) = Cert.ReferenceIdeal.Read.val_main_v101 (F := F) :=
  ((line (F := F)).binary _ 116 rfl (by decide) (by decide) (by decide) (w_v92 m c) (w_v100 m c)).trans rfl

theorem w_c_13 : after (ops (F := F)) (V0 m c) (Proc.devRef .tc main_c_13) = Cert.ReferenceIdeal.Read.val_main_c_13 (F := F) :=
  ((line (F := F)).nullary _ 117 rfl (by decide)).trans rfl

theorem w_v102 : after (ops (F := F)) (V0 m c) (Proc.devRef .tc main_v102) = Cert.ReferenceIdeal.Read.val_main_v102 (F := F) :=
  ((line (F := F)).unary _ 118 rfl (by decide) (by decide) (w_c_13 m c)).trans rfl

theorem w_v103 : after (ops (F := F)) (V0 m c) (Proc.devRef .tc main_v103) = Cert.ReferenceIdeal.Read.val_main_v103 (F := F) :=
  ((line (F := F)).binary _ 119 rfl (by decide) (by decide) (by decide) (w_v101 m c) (w_v102 m c)).trans rfl

theorem w_v104 : after (ops (F := F)) (V0 m c) (Proc.devRef .tc main_v104) = Cert.ReferenceIdeal.Read.val_main_v104 (F := F) :=
  ((line (F := F)).nullary _ 120 rfl (by decide)).trans rfl

theorem w_v105 : after (ops (F := F)) (V0 m c) (Proc.devRef .tc main_v105) = Cert.ReferenceIdeal.Read.val_main_v105 (F := F) :=
  ((line (F := F)).unary _ 121 rfl (by decide) (by decide) (w_v104 m c)).trans rfl

theorem w_v106 : after (ops (F := F)) (V0 m c) (Proc.devRef .tc main_v106) = Cert.ReferenceIdeal.Read.val_main_v106 (F := F) :=
  ((line (F := F)).unary _ 122 rfl (by decide) (by decide) (w_v103 m c)).trans rfl

theorem w_v107 : after (ops (F := F)) (V0 m c) (Proc.devRef .tc main_v107) = Cert.ReferenceIdeal.Read.val_main_v107 (F := F) :=
  ((line (F := F)).unary _ 123 rfl (by decide) (by decide) (w_v105 m c)).trans rfl

theorem w_v108 : after (ops (F := F)) (V0 m c) (Proc.devRef .tc main_v108) = Cert.ReferenceIdeal.Read.val_main_v108 (F := F) :=
  ((line (F := F)).binary _ 124 rfl (by decide) (by decide) (by decide) (w_v106 m c) (w_v107 m c)).trans rfl

theorem w_v109 : after (ops (F := F)) (V0 m c) (Proc.devRef .tc main_v109) = Cert.ReferenceIdeal.Read.val_main_v109 (F := F) :=
  ((line (F := F)).unary _ 125 rfl (by decide) (by decide) (w_v99 m c)).trans rfl

theorem w_v110 : after (ops (F := F)) (V0 m c) (Proc.devRef .tc main_v110) = Cert.ReferenceIdeal.Read.val_main_v110 (F := F) :=
  ((line (F := F)).unary _ 126 rfl (by decide) (by decide) (w_v108 m c)).trans rfl

theorem w_v111 : after (ops (F := F)) (V0 m c) (Proc.devRef .tc main_v111) = Cert.ReferenceIdeal.Read.val_main_v111 (F := F) :=
  ((line (F := F)).unary _ 127 rfl (by decide) (by decide) (w_v109 m c)).trans rfl

theorem w_v112 : after (ops (F := F)) (V0 m c) (Proc.devRef .tc main_v112) = Cert.ReferenceIdeal.Read.val_main_v112 (F := F) :=
  ((line (F := F)).unary _ 128 rfl (by decide) (by decide) (w_v110 m c)).trans rfl

theorem w_v113 : after (ops (F := F)) (V0 m c) (Proc.devRef .tc main_v113) = Cert.ReferenceIdeal.Read.val_main_v113 (F := F) :=
  ((line (F := F)).binary _ 129 rfl (by decide) (by decide) (by decide) (w_v111 m c) (w_v112 m c)).trans rfl

theorem w_c_14 : after (ops (F := F)) (V0 m c) (Proc.devRef .tc main_c_14) = Cert.ReferenceIdeal.Read.val_main_c_14 (F := F) :=
  ((line (F := F)).nullary _ 130 rfl (by decide)).trans rfl

theorem w_v114 : after (ops (F := F)) (V0 m c) (Proc.devRef .tc main_v114) = Cert.ReferenceIdeal.Read.val_main_v114 (F := F) :=
  ((line (F := F)).unary _ 131 rfl (by decide) (by decide) (w_c_14 m c)).trans rfl

theorem w_v115 : after (ops (F := F)) (V0 m c) (Proc.devRef .tc main_v115) = Cert.ReferenceIdeal.Read.val_main_v115 (F := F) :=
  ((line (F := F)).binary _ 132 rfl (by decide) (by decide) (by decide) (w_v113 m c) (w_v114 m c)).trans rfl

theorem w_c_15 : after (ops (F := F)) (V0 m c) (Proc.devRef .tc main_c_15) = Cert.ReferenceIdeal.Read.val_main_c_15 (F := F) :=
  ((line (F := F)).nullary _ 133 rfl (by decide)).trans rfl

theorem w_v116 : after (ops (F := F)) (V0 m c) (Proc.devRef .tc main_v116) = Cert.ReferenceIdeal.Read.val_main_v116 (F := F) :=
  ((line (F := F)).unary _ 134 rfl (by decide) (by decide) (w_c_15 m c)).trans rfl

theorem w_v117 : after (ops (F := F)) (V0 m c) (Proc.devRef .tc main_v117) = Cert.ReferenceIdeal.Read.val_main_v117 (F := F) :=
  ((line (F := F)).binary _ 135 rfl (by decide) (by decide) (by decide) (w_v113 m c) (w_v116 m c)).trans rfl

theorem w_v118 : after (ops (F := F)) (V0 m c) (Proc.devRef .tc main_v118) = Cert.ReferenceIdeal.Read.val_main_v118 (F := F) :=
  ((line (F := F)).binary _ 136 rfl (by decide) (by decide) (by decide) (w_v115 m c) (w_v117 m c)).trans rfl

theorem w_v119 : after (ops (F := F)) (V0 m c) (Proc.devRef .tc main_v119) = Cert.ReferenceIdeal.Read.val_main_v119 (F := F) :=
  ((line (F := F)).unary _ 137 rfl (by decide) (by decide) (w_v108 m c)).trans rfl

theorem w_c_16 : after (ops (F := F)) (V0 m c) (Proc.devRef .tc main_c_16) = Cert.ReferenceIdeal.Read.val_main_c_16 (F := F) :=
  ((line (F := F)).nullary _ 138 rfl (by decide)).trans rfl

theorem w_v120 : after (ops (F := F)) (V0 m c) (Proc.devRef .tc main_v120) = Cert.ReferenceIdeal.Read.val_main_v120 (F := F) :=
  ((line (F := F)).unary _ 139 rfl (by decide) (by decide) (w_c_16 m c)).trans rfl

theorem w_v121 : after (ops (F := F)) (V0 m c) (Proc.devRef .tc main_v121) = Cert.ReferenceIdeal.Read.val_main_v121 (F := F) :=
  ((line (F := F)).binary _ 140 rfl (by decide) (by decide) (by decide) (w_v119 m c) (w_v120 m c)).trans rfl

theorem w_v122 : after (ops (F := F)) (V0 m c) (Proc.devRef .tc main_v122) = Cert.ReferenceIdeal.Read.val_main_v122 (F := F) :=
  ((line (F := F)).unary _ 141 rfl (by decide) (by decide) (w_v121 m c)).trans rfl

theorem w_v123 : after (ops (F := F)) (V0 m c) (Proc.devRef .tc main_v123) = Cert.ReferenceIdeal.Read.val_main_v123 (F := F) :=
  ((line (F := F)).binary _ 142 rfl (by decide) (by decide) (by decide) (w_v118 m c) (w_v122 m c)).trans rfl

theorem w_v124 : after (ops (F := F)) (V0 m c) (Proc.devRef .tc main_v124) = Cert.ReferenceIdeal.Read.val_main_v124 (F := F) :=
  ((line (F := F)).unary _ 143 rfl (by decide) (by decide) (w_v123 m c)).trans rfl

theorem w_cst_17 : after (ops (F := F)) (V0 m c) (Proc.devRef .tc main_cst_17) = Cert.ReferenceIdeal.Read.val_main_cst_17 (F := F) :=
  ((line (F := F)).nullary _ 144 rfl (by decide)).trans rfl

theorem w_call0_v0 : after (ops (F := F)) (V0 m c) (Proc.devRef .tc main_call0_v0) = Cert.ReferenceIdeal.Read.val_main_call0_v0 (F := F) :=
  ((line (F := F)).unary _ 145 rfl (by decide) (by decide) (w_cst_17 m c)).trans rfl

theorem w_v125_1 : after (ops (F := F)) (V0 m c) (Proc.devRef .tc main_v125_1) = Cert.ReferenceIdeal.Read.val_main_v125_1 (F := F) :=
  ((line (F := F)).unary _ 146 rfl (by decide) (by decide) (w_v124 m c)).trans rfl

theorem w_call0_v2 : after (ops (F := F)) (V0 m c) (Proc.devRef .tc main_call0_v2) = Cert.ReferenceIdeal.Read.val_main_call0_v2 (F := F) :=
  ((line (F := F)).unary _ 147 rfl (by decide) (by decide) (w_call0_v0 m c)).trans rfl

theorem w_v125_0 : after (ops (F := F)) (V0 m c) (Proc.devRef .tc main_v125_0) = Cert.ReferenceIdeal.Read.val_main_v125_0 (F := F) (m (c, Proc.devRef .tc main_arg0)) (m (c, Proc.devRef .tc main_arg1)) :=
  ((line (F := F)).ternary _ 148 rfl (by decide) (by decide) (by decide) (by decide) (w_v125_1 m c) (w_v90 m c) (w_call0_v2 m c)).trans rfl

theorem w_call0_cst : after (ops (F := F)) (V0 m c) (Proc.devRef .tc main_call0_cst) = Cert.ReferenceIdeal.Read.val_main_call0_cst (F := F) :=
  ((line (F := F)).nullary _ 149 rfl (by decide)).trans rfl

theorem w_v125_2 : after (ops (F := F)) (V0 m c) (Proc.devRef .tc main_v125_2) = Cert.ReferenceIdeal.Read.val_main_v125_2 (F := F) :=
  ((line (F := F)).unary _ 150 rfl (by decide) (by decide) (w_call0_cst m c)).trans rfl

theorem w_v126 : after (ops (F := F)) (V0 m c) (Proc.devRef .tc main_v126) = Cert.ReferenceIdeal.Read.val_main_v126 (F := F) (m (c, Proc.devRef .tc main_arg3)) :=
  ((line (F := F)).reshape _ 151 rfl (by decide) (by decide) (w_v71 m c)).trans rfl

theorem w_v127 : after (ops (F := F)) (V0 m c) (Proc.devRef .tc main_v127) = Cert.ReferenceIdeal.Read.val_main_v127 (F := F) (m (c, Proc.devRef .tc main_arg3)) :=
  ((line (F := F)).unary _ 152 rfl (by decide) (by decide) (w_v126 m c)).trans rfl

theorem w_cst_18 : after (ops (F := F)) (V0 m c) (Proc.devRef .tc main_cst_18) = Cert.ReferenceIdeal.Read.val_main_cst_18 (F := F) :=
  ((line (F := F)).nullary _ 153 rfl (by decide)).trans rfl

theorem w_v128 : after (ops (F := F)) (V0 m c) (Proc.devRef .tc main_v128) = Cert.ReferenceIdeal.Read.val_main_v128 (F := F) (m (c, Proc.devRef .tc main_arg0)) (m (c, Proc.devRef .tc main_arg1)) :=
  ((line (F := F)).binary _ 154 rfl (by decide) (by decide) (by decide) (w_v125_0 m c) (w_cst_18 m c)).trans rfl

theorem w_v129 : after (ops (F := F)) (V0 m c) (Proc.devRef .tc main_v129) = Cert.ReferenceIdeal.Read.val_main_v129 (F := F) (m (c, Proc.devRef .tc main_arg0)) (m (c, Proc.devRef .tc main_arg1)) :=
  ((line (F := F)).reshape _ 155 rfl (by decide) (by decide) (w_v128 m c)).trans rfl

theorem w_v130 : after (ops (F := F)) (V0 m c) (Proc.devRef .tc main_v130) = Cert.ReferenceIdeal.Read.val_main_v130 (F := F) (m (c, Proc.devRef .tc main_arg0)) (m (c, Proc.devRef .tc main_arg1)) :=
  ((line (F := F)).unary _ 156 rfl (by decide) (by decide) (w_v129 m c)).trans rfl

theorem w_v131 : after (ops (F := F)) (V0 m c) (Proc.devRef .tc main_v131) = Cert.ReferenceIdeal.Read.val_main_v131 (F := F) (m (c, Proc.devRef .tc main_arg0)) (m (c, Proc.devRef .tc main_arg1)) :=
  ((line (F := F)).binary _ 157 rfl (by decide) (by decide) (by decide) (w_v125_0 m c) (w_v130 m c)).trans rfl

theorem w_v132 : after (ops (F := F)) (V0 m c) (Proc.devRef .tc main_v132) = Cert.ReferenceIdeal.Read.val_main_v132 (F := F) (m (c, Proc.devRef .tc main_arg0)) (m (c, Proc.devRef .tc main_arg1)) :=
  ((line (F := F)).unary _ 158 rfl (by decide) (by decide) (w_v131 m c)).trans rfl

theorem w_cst_19 : after (ops (F := F)) (V0 m c) (Proc.devRef .tc main_cst_19) = Cert.ReferenceIdeal.Read.val_main_cst_19 (F := F) :=
  ((line (F := F)).nullary _ 159 rfl (by decide)).trans rfl

theorem w_v133 : after (ops (F := F)) (V0 m c) (Proc.devRef .tc main_v133) = Cert.ReferenceIdeal.Read.val_main_v133 (F := F) (m (c, Proc.devRef .tc main_arg0)) (m (c, Proc.devRef .tc main_arg1)) :=
  ((line (F := F)).binary _ 160 rfl (by decide) (by decide) (by decide) (w_v132 m c) (w_cst_19 m c)).trans rfl

theorem w_v134 : after (ops (F := F)) (V0 m c) (Proc.devRef .tc main_v134) = Cert.ReferenceIdeal.Read.val_main_v134 (F := F) (m (c, Proc.devRef .tc main_arg0)) (m (c, Proc.devRef .tc main_arg1)) :=
  ((line (F := F)).unary _ 161 rfl (by decide) (by decide) (w_v128 m c)).trans rfl

theorem w_v135 : after (ops (F := F)) (V0 m c) (Proc.devRef .tc main_v135) = Cert.ReferenceIdeal.Read.val_main_v135 (F := F) (m (c, Proc.devRef .tc main_arg3)) :=
  ((line (F := F)).unary _ 162 rfl (by decide) (by decide) (w_v127 m c)).trans rfl

theorem w_v136 : after (ops (F := F)) (V0 m c) (Proc.devRef .tc main_v136) = Cert.ReferenceIdeal.Read.val_main_v136 (F := F) (m (c, Proc.devRef .tc main_arg0)) (m (c, Proc.devRef .tc main_arg1)) (m (c, Proc.devRef .tc main_arg3)) :=
  ((line (F := F)).binary _ 163 rfl (by decide) (by decide) (by decide) (w_v134 m c) (w_v135 m c)).trans rfl

theorem w_v137 : after (ops (F := F)) (V0 m c) (Proc.devRef .tc main_v137) = Cert.ReferenceIdeal.Read.val_main_v137 (F := F) (m (c, Proc.devRef .tc main_arg3)) :=
  ((line (F := F)).unary _ 164 rfl (by decide) (by decide) (w_v127 m c)).trans rfl

theorem w_v138 : after (ops (F := F)) (V0 m c) (Proc.devRef .tc main_v138) = Cert.ReferenceIdeal.Read.val_main_v138 (F := F) (m (c, Proc.devRef .tc main_arg0)) (m (c, Proc.devRef .tc main_arg1)) (m (c, Proc.devRef .tc main_arg3)) :=
  ((line (F := F)).binary _ 165 rfl (by decide) (by decide) (by decide) (w_v134 m c) (w_v137 m c)).trans rfl

theorem w_v139 : after (ops (F := F)) (V0 m c) (Proc.devRef .tc main_v139) = Cert.ReferenceIdeal.Read.val_main_v139 (F := F) (m (c, Proc.devRef .tc main_arg3)) :=
  ((line (F := F)).unary _ 166 rfl (by decide) (by decide) (w_v127 m c)).trans rfl

theorem w_v140 : after (ops (F := F)) (V0 m c) (Proc.devRef .tc main_v140) = Cert.ReferenceIdeal.Read.val_main_v140 (F := F) (m (c, Proc.devRef .tc main_arg0)) (m (c, Proc.devRef .tc main_arg1)) (m (c, Proc.devRef .tc main_arg3)) :=
  ((line (F := F)).binary _ 167 rfl (by decide) (by decide) (by decide) (w_v134 m c) (w_v139 m c)).trans rfl

theorem w_cst_20 : after (ops (F := F)) (V0 m c) (Proc.devRef .tc main_cst_20) = Cert.ReferenceIdeal.Read.val_main_cst_20 (F := F) :=
  ((line (F := F)).nullary _ 168 rfl (by decide)).trans rfl

theorem w_v141 : after (ops (F := F)) (V0 m c) (Proc.devRef .tc main_v141) = Cert.ReferenceIdeal.Read.val_main_v141 (F := F) :=
  ((line (F := F)).unary _ 169 rfl (by decide) (by decide) (w_cst_20 m c)).trans rfl

theorem w_cst_21 : after (ops (F := F)) (V0 m c) (Proc.devRef .tc main_cst_21) = Cert.ReferenceIdeal.Read.val_main_cst_21 (F := F) :=
  ((line (F := F)).nullary _ 170 rfl (by decide)).trans rfl

theorem w_v142 : after (ops (F := F)) (V0 m c) (Proc.devRef .tc main_v142) = Cert.ReferenceIdeal.Read.val_main_v142 (F := F) :=
  ((line (F := F)).unary _ 171 rfl (by decide) (by decide) (w_cst_21 m c)).trans rfl

theorem w_cst_22 : after (ops (F := F)) (V0 m c) (Proc.devRef .tc main_cst_22) = Cert.ReferenceIdeal.Read.val_main_cst_22 (F := F) :=
  ((line (F := F)).nullary _ 172 rfl (by decide)).trans rfl

theorem w_v143 : after (ops (F := F)) (V0 m c) (Proc.devRef .tc main_v143) = Cert.ReferenceIdeal.Read.val_main_v143 (F := F) :=
  ((line (F := F)).unary _ 173 rfl (by decide) (by decide) (w_cst_22 m c)).trans rfl

theorem w_v144 : after (ops (F := F)) (V0 m c) (Proc.devRef .tc main_v144) = Cert.ReferenceIdeal.Read.val_main_v144 (F := F) (m (c, Proc.devRef .tc main_arg0)) (m (c, Proc.devRef .tc main_arg1)) (m (c, Proc.devRef .tc main_arg3)) :=
  ((line (F := F)).ternary _ 174 rfl (by decide) (by decide) (by decide) (by decide) (w_v140 m c) (w_v143 m c) (w_v142 m c)).trans rfl

theorem w_v145 : after (ops (F := F)) (V0 m c) (Proc.devRef .tc main_v145) = Cert.ReferenceIdeal.Read.val_main_v145 (F := F) (m (c, Proc.devRef .tc main_arg0)) (m (c, Proc.devRef .tc main_arg1)) (m (c, Proc.devRef .tc main_arg3)) :=
  ((line (F := F)).ternary _ 175 rfl (by decide) (by decide) (by decide) (by decide) (w_v138 m c) (w_v141 m c) (w_v144 m c)).trans rfl

theorem w_v146 : after (ops (F := F)) (V0 m c) (Proc.devRef .tc main_v146) = Cert.ReferenceIdeal.Read.val_main_v146 (F := F) (m (c, Proc.devRef .tc main_arg3)) :=
  ((line (F := F)).unary _ 176 rfl (by decide) (by decide) (w_v127 m c)).trans rfl

theorem w_v147 : after (ops (F := F)) (V0 m c) (Proc.devRef .tc main_v147) = Cert.ReferenceIdeal.Read.val_main_v147 (F := F) (m (c, Proc.devRef .tc main_arg0)) (m (c, Proc.devRef .tc main_arg1)) (m (c, Proc.devRef .tc main_arg3)) :=
  ((line (F := F)).binary _ 177 rfl (by decide) (by decide) (by decide) (w_v146 m c) (w_v134 m c)).trans rfl

theorem w_v148 : after (ops (F := F)) (V0 m c) (Proc.devRef .tc main_v148) = Cert.ReferenceIdeal.Read.val_main_v148 (F := F) (m (c, Proc.devRef .tc main_arg3)) :=
  ((line (F := F)).unary _ 178 rfl (by decide) (by decide) (w_v127 m c)).trans rfl

theorem w_v149 : after (ops (F := F)) (V0 m c) (Proc.devRef .tc main_v149) = Cert.ReferenceIdeal.Read.val_main_v149 (F := F) (m (c, Proc.devRef .tc main_arg0)) (m (c, Proc.devRef .tc main_arg1)) (m (c, Proc.devRef .tc main_arg3)) :=
  ((line (F := F)).binary _ 179 rfl (by decide) (by decide) (by decide) (w_v148 m c) (w_v134 m c)).trans rfl

theorem w_cst_23 : after (ops (F := F)) (V0 m c) (Proc.devRef .tc main_cst_23) = Cert.ReferenceIdeal.Read.val_main_cst_23 (F := F) :=
  ((line (F := F)).nullary _ 180 rfl (by decide)).trans rfl

theorem w_v150 : after (ops (F := F)) (V0 m c) (Proc.devRef .tc main_v150) = Cert.ReferenceIdeal.Read.val_main_v150 (F := F) :=
  ((line (F := F)).unary _ 181 rfl (by decide) (by decide) (w_cst_23 m c)).trans rfl

theorem w_cst_24 : after (ops (F := F)) (V0 m c) (Proc.devRef .tc main_cst_24) = Cert.ReferenceIdeal.Read.val_main_cst_24 (F := F) :=
  ((line (F := F)).nullary _ 182 rfl (by decide)).trans rfl

theorem w_v151 : after (ops (F := F)) (V0 m c) (Proc.devRef .tc main_v151) = Cert.ReferenceIdeal.Read.val_main_v151 (F := F) :=
  ((line (F := F)).unary _ 183 rfl (by decide) (by decide) (w_cst_24 m c)).trans rfl

theorem w_cst_25 : after (ops (F := F)) (V0 m c) (Proc.devRef .tc main_cst_25) = Cert.ReferenceIdeal.Read.val_main_cst_25 (F := F) :=
  ((line (F := F)).nullary _ 184 rfl (by decide)).trans rfl

theorem w_v152 : after (ops (F := F)) (V0 m c) (Proc.devRef .tc main_v152) = Cert.ReferenceIdeal.Read.val_main_v152 (F := F) :=
  ((line (F := F)).unary _ 185 rfl (by decide) (by decide) (w_cst_25 m c)).trans rfl

theorem w_v153 : after (ops (F := F)) (V0 m c) (Proc.devRef .tc main_v153) = Cert.ReferenceIdeal.Read.val_main_v153 (F := F) (m (c, Proc.devRef .tc main_arg0)) (m (c, Proc.devRef .tc main_arg1)) (m (c, Proc.devRef .tc main_arg3)) :=
  ((line (F := F)).ternary _ 186 rfl (by decide) (by decide) (by decide) (by decide) (w_v149 m c) (w_v152 m c) (w_v151 m c)).trans rfl

theorem w_v154 : after (ops (F := F)) (V0 m c) (Proc.devRef .tc main_v154) = Cert.ReferenceIdeal.Read.val_main_v154 (F := F) (m (c, Proc.devRef .tc main_arg0)) (m (c, Proc.devRef .tc main_arg1)) (m (c, Proc.devRef .tc main_arg3)) :=
  ((line (F := F)).ternary _ 187 rfl (by decide) (by decide) (by decide) (by decide) (w_v147 m c) (w_v150 m c) (w_v153 m c)).trans rfl

theorem w_v155 : after (ops (F := F)) (V0 m c) (Proc.devRef .tc main_v155) = Cert.ReferenceIdeal.Read.val_main_v155 (F := F) (m (c, Proc.devRef .tc main_arg0)) (m (c, Proc.devRef .tc main_arg1)) (m (c, Proc.devRef .tc main_arg3)) :=
  ((line (F := F)).unary _ 188 rfl (by decide) (by decide) (w_v136 m c)).trans rfl

theorem w_v156 : after (ops (F := F)) (V0 m c) (Proc.devRef .tc main_v156) = Cert.ReferenceIdeal.Read.val_main_v156 (F := F) (m (c, Proc.devRef .tc main_arg0)) (m (c, Proc.devRef .tc main_arg1)) (m (c, Proc.devRef .tc main_arg3)) :=
  ((line (F := F)).binary _ 189 rfl (by decide) (by decide) (by decide) (w_v125_0 m c) (w_v155 m c)).trans rfl

theorem w_v157 : after (ops (F := F)) (V0 m c) (Proc.devRef .tc main_v157) = Cert.ReferenceIdeal.Read.val_main_v157 (F := F) (m (c, Proc.devRef .tc main_arg0)) (m (c, Proc.devRef .tc main_arg1)) (m (c, Proc.devRef .tc main_arg3)) :=
  ((line (F := F)).unary _ 190 rfl (by decide) (by decide) (w_v156 m c)).trans rfl

theorem w_cst_26 : after (ops (F := F)) (V0 m c) (Proc.devRef .tc main_cst_26) = Cert.ReferenceIdeal.Read.val_main_cst_26 (F := F) :=
  ((line (F := F)).nullary _ 191 rfl (by decide)).trans rfl

theorem w_v158 : after (ops (F := F)) (V0 m c) (Proc.devRef .tc main_v158) = Cert.ReferenceIdeal.Read.val_main_v158 (F := F) (m (c, Proc.devRef .tc main_arg0)) (m (c, Proc.devRef .tc main_arg1)) (m (c, Proc.devRef .tc main_arg3)) :=
  ((line (F := F)).binary _ 192 rfl (by decide) (by decide) (by decide) (w_v157 m c) (w_cst_26 m c)).trans rfl

theorem w_v159 : after (ops (F := F)) (V0 m c) (Proc.devRef .tc main_v159) = Cert.ReferenceIdeal.Read.val_main_v159 (F := F) (m (c, Proc.devRef .tc main_arg0)) (m (c, Proc.devRef .tc main_arg1)) (m (c, Proc.devRef .tc main_arg3)) :=
  ((line (F := F)).unary _ 193 rfl (by decide) (by decide) (w_v158 m c)).trans rfl

theorem w_v160 : after (ops (F := F)) (V0 m c) (Proc.devRef .tc main_v160) = Cert.ReferenceIdeal.Read.val_main_v160 (F := F) (m (c, Proc.devRef .tc main_arg3)) :=
  ((line (F := F)).unary _ 194 rfl (by decide) (by decide) (w_v127 m c)).trans rfl

theorem w_v161 : after (ops (F := F)) (V0 m c) (Proc.devRef .tc main_v161) = Cert.ReferenceIdeal.Read.val_main_v161 (F := F) (m (c, Proc.devRef .tc main_arg0)) (m (c, Proc.devRef .tc main_arg1)) (m (c, Proc.devRef .tc main_arg3)) :=
  ((line (F := F)).binary _ 195 rfl (by decide) (by decide) (by decide) (w_v160 m c) (w_v136 m c)).trans rfl

theorem w_v162 : after (ops (F := F)) (V0 m c) (Proc.devRef .tc main_v162) = Cert.ReferenceIdeal.Read.val_main_v162 (F := F) (m (c, Proc.devRef .tc main_arg0)) (m (c, Proc.devRef .tc main_arg1)) (m (c, Proc.devRef .tc main_arg3)) :=
  ((line (F := F)).unary _ 196 rfl (by decide) (by decide) (w_v161 m c)).trans rfl

theorem w_v163 : after (ops (F := F)) (V0 m c) (Proc.devRef .tc main_v163) = Cert.ReferenceIdeal.Read.val_main_v163 (F := F) (m (c, Proc.devRef .tc main_arg0)) (m (c, Proc.devRef .tc main_arg1)) (m (c, Proc.devRef .tc main_arg3)) :=
  ((line (F := F)).binary _ 197 rfl (by decide) (by decide) (by decide) (w_v159 m c) (w_v162 m c)).trans rfl

theorem w_v164 : after (ops (F := F)) (V0 m c) (Proc.devRef .tc main_v164) = Cert.ReferenceIdeal.Read.val_main_v164 (F := F) (m (c, Proc.devRef .tc main_arg0)) (m (c, Proc.devRef .tc main_arg1)) (m (c, Proc.devRef .tc main_arg3)) :=
  ((line (F := F)).unary _ 198 rfl (by decide) (by decide) (w_v163 m c)).trans rfl

theorem w_v165 : after (ops (F := F)) (V0 m c) (Proc.devRef .tc main_v165) = Cert.ReferenceIdeal.Read.val_main_v165 (F := F) (m (c, Proc.devRef .tc main_arg0)) (m (c, Proc.devRef .tc main_arg1)) (m (c, Proc.devRef .tc main_arg3)) :=
  ((line (F := F)).binary _ 199 rfl (by decide) (by decide) (by decide) (w_v157 m c) (w_v164 m c)).trans rfl

theorem w_v166 : after (ops (F := F)) (V0 m c) (Proc.devRef .tc main_v166) = Cert.ReferenceIdeal.Read.val_main_v166 (F := F) (m (c, Proc.devRef .tc main_arg0)) (m (c, Proc.devRef .tc main_arg1)) (m (c, Proc.devRef .tc main_arg3)) :=
  ((line (F := F)).binary _ 200 rfl (by decide) (by decide) (by decide) (w_v163 m c) (w_v163 m c)).trans rfl

theorem w_cst_27 : after (ops (F := F)) (V0 m c) (Proc.devRef .tc main_cst_27) = Cert.ReferenceIdeal.Read.val_main_cst_27 (F := F) :=
  ((line (F := F)).nullary _ 201 rfl (by decide)).trans rfl

theorem w_v167 : after (ops (F := F)) (V0 m c) (Proc.devRef .tc main_v167) = Cert.ReferenceIdeal.Read.val_main_v167 (F := F) :=
  ((line (F := F)).unary _ 202 rfl (by decide) (by decide) (w_cst_27 m c)).trans rfl

theorem w_v168 : after (ops (F := F)) (V0 m c) (Proc.devRef .tc main_v168) = Cert.ReferenceIdeal.Read.val_main_v168 (F := F) (m (c, Proc.devRef .tc main_arg0)) (m (c, Proc.devRef .tc main_arg1)) (m (c, Proc.devRef .tc main_arg3)) :=
  ((line (F := F)).binary _ 203 rfl (by decide) (by decide) (by decide) (w_v167 m c) (w_v166 m c)).trans rfl

theorem w_v169 : after (ops (F := F)) (V0 m c) (Proc.devRef .tc main_v169) = Cert.ReferenceIdeal.Read.val_main_v169 (F := F) (m (c, Proc.devRef .tc main_arg0)) (m (c, Proc.devRef .tc main_arg1)) (m (c, Proc.devRef .tc main_arg2)) (m (c, Proc.devRef .tc main_arg3)) :=
  ((line (F := F)).binary _ 204 rfl (by decide) (by decide) (by decide) (w_v86 m c) (w_v165 m c)).trans rfl

theorem w_v170 : after (ops (F := F)) (V0 m c) (Proc.devRef .tc main_v170) = Cert.ReferenceIdeal.Read.val_main_v170 (F := F) (m (c, Proc.devRef .tc main_arg0)) (m (c, Proc.devRef .tc main_arg1)) (m (c, Proc.devRef .tc main_arg2)) (m (c, Proc.devRef .tc main_arg3)) :=
  ((line (F := F)).unary _ 205 rfl (by decide) (by decide) (w_v169 m c)).trans rfl

theorem w_v171 : after (ops (F := F)) (V0 m c) (Proc.devRef .tc main_v171) = Cert.ReferenceIdeal.Read.val_main_v171 (F := F) (m (c, Proc.devRef .tc main_arg0)) (m (c, Proc.devRef .tc main_arg1)) (m (c, Proc.devRef .tc main_arg2)) (m (c, Proc.devRef .tc main_arg3)) :=
  ((line (F := F)).reshape _ 206 rfl (by decide) (by decide) (w_v170 m c)).trans rfl

theorem w_v172 : after (ops (F := F)) (V0 m c) (Proc.devRef .tc main_v172) = Cert.ReferenceIdeal.Read.val_main_v172 (F := F) (m (c, Proc.devRef .tc main_arg0)) (m (c, Proc.devRef .tc main_arg1)) (m (c, Proc.devRef .tc main_arg3)) :=
  ((line (F := F)).unary _ 207 rfl (by decide) (by decide) (w_v163 m c)).trans rfl

theorem w_v173 : after (ops (F := F)) (V0 m c) (Proc.devRef .tc main_v173) = Cert.ReferenceIdeal.Read.val_main_v173 (F := F) (m (c, Proc.devRef .tc main_arg0)) (m (c, Proc.devRef .tc main_arg1)) (m (c, Proc.devRef .tc main_arg3)) :=
  ((line (F := F)).binary _ 208 rfl (by decide) (by decide) (by decide) (w_v136 m c) (w_v172 m c)).trans rfl

theorem w_v174 : after (ops (F := F)) (V0 m c) (Proc.devRef .tc main_v174) = kv_v174 (F := F) (m (c, Proc.devRef .tc main_arg0)) :=
  ((line (F := F)).unary _ 209 rfl (by decide) (by decide) (w_v34 m c)).trans rfl

theorem w_v175 : after (ops (F := F)) (V0 m c) (Proc.devRef .tc main_v175) = kv_v175 (F := F) (m (c, Proc.devRef .tc main_arg0)) :=
  ((line (F := F)).reshape _ 210 rfl (by decide) (by decide) (w_v174 m c)).trans rfl

theorem w_v176 : after (ops (F := F)) (V0 m c) (Proc.devRef .tc main_v176) = kv_v176 (F := F) (m (c, Proc.devRef .tc main_arg0)) :=
  ((line (F := F)).unary _ 211 rfl (by decide) (by decide) (w_v175 m c)).trans rfl

theorem w_v177 : after (ops (F := F)) (V0 m c) (Proc.devRef .tc main_v177) = kv_v177 (F := F) (m (c, Proc.devRef .tc main_arg0)) :=
  ((line (F := F)).reshape _ 212 rfl (by decide) (by decide) (w_v176 m c)).trans rfl

theorem w_v178 : after (ops (F := F)) (V0 m c) (Proc.devRef .tc main_v178) = kv_v178 (F := F) (m (c, Proc.devRef .tc main_arg1)) :=
  ((line (F := F)).unary _ 213 rfl (by decide) (by decide) (w_v69 m c)).trans rfl

theorem w_v179 : after (ops (F := F)) (V0 m c) (Proc.devRef .tc main_v179) = kv_v179 (F := F) (m (c, Proc.devRef .tc main_arg1)) :=
  ((line (F := F)).unary _ 214 rfl (by decide) (by decide) (w_v178 m c)).trans rfl

theorem w_v180 : after (ops (F := F)) (V0 m c) (Proc.devRef .tc main_v180) = kv_v180 (F := F) (m (c, Proc.devRef .tc main_arg2)) :=
  ((line (F := F)).unary _ 215 rfl (by decide) (by decide) (w_v70 m c)).trans rfl

theorem w_v181 : after (ops (F := F)) (V0 m c) (Proc.devRef .tc main_v181) = kv_v181 (F := F) (m (c, Proc.devRef .tc main_arg2)) :=
  ((line (F := F)).unary _ 216 rfl (by decide) (by decide) (w_v180 m c)).trans rfl

theorem w_v182 : after (ops (F := F)) (V0 m c) (Proc.devRef .tc main_v182) = kv_v182 (F := F) (m (c, Proc.devRef .tc main_arg0)) (m (c, Proc.devRef .tc main_arg1)) (m (c, Proc.devRef .tc main_arg3)) :=
  ((line (F := F)).unary _ 217 rfl (by decide) (by decide) (w_v173 m c)).trans rfl

theorem w_v183 : after (ops (F := F)) (V0 m c) (Proc.devRef .tc main_v183) = kv_v183 (F := F) (m (c, Proc.devRef .tc main_arg0)) (m (c, Proc.devRef .tc main_arg1)) (m (c, Proc.devRef .tc main_arg3)) :=
  ((line (F := F)).reshape _ 218 rfl (by decide) (by decide) (w_v182 m c)).trans rfl

theorem w_cst_28 : after (ops (F := F)) (V0 m c) (Proc.devRef .tc main_cst_28) = Cert.ReferenceIdeal.Read.val_main_cst_0 (F := F) :=
  ((line (F := F)).nullary _ 219 rfl (by decide)).trans rfl

theorem w_v184 : after (ops (F := F)) (V0 m c) (Proc.devRef .tc main_v184) = kv_v184 (F := F) :=
  ((line (F := F)).unary _ 220 rfl (by decide) (by decide) (w_cst_28 m c)).trans rfl

theorem w_v185 : after (ops (F := F)) (V0 m c) (Proc.devRef .tc main_v185) = kv_v185 (F := F) (m (c, Proc.devRef .tc main_arg0)) (m (c, Proc.devRef .tc main_arg1)) (m (c, Proc.devRef .tc main_arg3)) :=
  ((line (F := F)).binary _ 221 rfl (by decide) (by decide) (by decide) (w_v183 m c) (w_v184 m c)).trans rfl

theorem w_v186 : after (ops (F := F)) (V0 m c) (Proc.devRef .tc main_v186) = Cert.ReferenceIdeal.Read.val_main_v1 (F := F) :=
  ((line (F := F)).nullary _ 222 rfl (by decide)).trans rfl

theorem w_cst_29 : after (ops (F := F)) (V0 m c) (Proc.devRef .tc main_cst_29) = Cert.ReferenceIdeal.Read.val_main_cst (F := F) :=
  ((line (F := F)).nullary _ 223 rfl (by decide)).trans rfl

theorem w_v187 : after (ops (F := F)) (V0 m c) (Proc.devRef .tc main_v187) = Cert.ReferenceIdeal.Read.val_main_v2 (F := F) :=
  ((line (F := F)).unary _ 224 rfl (by decide) (by decide) (w_cst_29 m c)).trans rfl

theorem w_v188 : after (ops (F := F)) (V0 m c) (Proc.devRef .tc main_v188) = Cert.ReferenceIdeal.Read.val_main_v3 (F := F) :=
  ((line (F := F)).binary _ 225 rfl (by decide) (by decide) (by decide) (w_v187 m c) (w_v186 m c)).trans rfl

theorem w_cst_30 : after (ops (F := F)) (V0 m c) (Proc.devRef .tc main_cst_30) = Cert.ReferenceIdeal.Read.val_main_cst_0 (F := F) :=
  ((line (F := F)).nullary _ 226 rfl (by decide)).trans rfl

theorem w_v189 : after (ops (F := F)) (V0 m c) (Proc.devRef .tc main_v189) = Cert.ReferenceIdeal.Read.val_main_v4 (F := F) :=
  ((line (F := F)).unary _ 227 rfl (by decide) (by decide) (w_cst_30 m c)).trans rfl

theorem w_v190 : after (ops (F := F)) (V0 m c) (Proc.devRef .tc main_v190) = Cert.ReferenceIdeal.Read.val_main_v5 (F := F) :=
  ((line (F := F)).binary _ 228 rfl (by decide) (by decide) (by decide) (w_v189 m c) (w_v188 m c)).trans rfl

theorem w_v191 : after (ops (F := F)) (V0 m c) (Proc.devRef .tc main_v191) = Cert.ReferenceIdeal.Read.val_main_v6 (F := F) :=
  ((line (F := F)).unary _ 229 rfl (by decide) (by decide) (w_v190 m c)).trans rfl

theorem w_cst_31 : after (ops (F := F)) (V0 m c) (Proc.devRef .tc main_cst_31) = Cert.ReferenceIdeal.Read.val_main_cst_1 (F := F) :=
  ((line (F := F)).nullary _ 230 rfl (by decide)).trans rfl

theorem w_v192 : after (ops (F := F)) (V0 m c) (Proc.devRef .tc main_v192) = Cert.ReferenceIdeal.Read.val_main_v7 (F := F) :=
  ((line (F := F)).unary _ 231 rfl (by decide) (by decide) (w_cst_31 m c)).trans rfl

theorem w_v193 : after (ops (F := F)) (V0 m c) (Proc.devRef .tc main_v193) = Cert.ReferenceIdeal.Read.val_main_v8 (F := F) :=
  ((line (F := F)).binary _ 232 rfl (by decide) (by decide) (by decide) (w_v191 m c) (w_v192 m c)).trans rfl

theorem w_cst_32 : after (ops (F := F)) (V0 m c) (Proc.devRef .tc main_cst_32) = Cert.ReferenceIdeal.Read.val_main_cst_2 (F := F) :=
  ((line (F := F)).nullary _ 233 rfl (by decide)).trans rfl

theorem w_v194 : after (ops (F := F)) (V0 m c) (Proc.devRef .tc main_v194) = Cert.ReferenceIdeal.Read.val_main_v9 (F := F) :=
  ((line (F := F)).unary _ 234 rfl (by decide) (by decide) (w_cst_32 m c)).trans rfl

theorem w_v195 : after (ops (F := F)) (V0 m c) (Proc.devRef .tc main_v195) = Cert.ReferenceIdeal.Read.val_main_v10 (F := F) :=
  ((line (F := F)).binary _ 235 rfl (by decide) (by decide) (by decide) (w_v194 m c) (w_v193 m c)).trans rfl

theorem w_v196 : after (ops (F := F)) (V0 m c) (Proc.devRef .tc main_v196) = Cert.ReferenceIdeal.Read.val_main_v11 (F := F) :=
  ((line (F := F)).nullary _ 236 rfl (by decide)).trans rfl

theorem w_v197 : after (ops (F := F)) (V0 m c) (Proc.devRef .tc main_v197) = Cert.ReferenceIdeal.Read.val_main_v12 (F := F) :=
  ((line (F := F)).unary _ 237 rfl (by decide) (by decide) (w_v196 m c)).trans rfl

theorem w_v198 : after (ops (F := F)) (V0 m c) (Proc.devRef .tc main_v198) = Cert.ReferenceIdeal.Read.val_main_v13 (F := F) :=
  ((line (F := F)).unary _ 238 rfl (by decide) (by decide) (w_v195 m c)).trans rfl

theorem w_v199 : after (ops (F := F)) (V0 m c) (Proc.devRef .tc main_v199) = Cert.ReferenceIdeal.Read.val_main_v14 (F := F) :=
  ((line (F := F)).unary _ 239 rfl (by decide) (by decide) (w_v197 m c)).trans rfl

theorem w_v200 : after (ops (F := F)) (V0 m c) (Proc.devRef .tc main_v200) = Cert.ReferenceIdeal.Read.val_main_v15 (F := F) :=
  ((line (F := F)).unary _ 240 rfl (by decide) (by decide) (w_v198 m c)).trans rfl

theorem w_v201 : after (ops (F := F)) (V0 m c) (Proc.devRef .tc main_v201) = Cert.ReferenceIdeal.Read.val_main_v16 (F := F) :=
  ((line (F := F)).binary _ 241 rfl (by decide) (by decide) (by decide) (w_v199 m c) (w_v200 m c)).trans rfl

theorem w_v202 : after (ops (F := F)) (V0 m c) (Proc.devRef .tc main_v202) = Cert.ReferenceIdeal.Read.val_main_v17 (F := F) :=
  ((line (F := F)).unary _ 242 rfl (by decide) (by decide) (w_v201 m c)).trans rfl

theorem w_v203 : after (ops (F := F)) (V0 m c) (Proc.devRef .tc main_v203) = Cert.ReferenceIdeal.Read.val_main_v19 (F := F) :=
  ((line (F := F)).unary _ 243 rfl (by decide) (by decide) (w_v201 m c)).trans rfl

theorem w_cst_33 : after (ops (F := F)) (V0 m c) (Proc.devRef .tc main_cst_33) = Cert.ReferenceIdeal.Read.val_main_cst_20 (F := F) :=
  ((line (F := F)).nullary _ 244 rfl (by decide)).trans rfl

theorem w_v204 : after (ops (F := F)) (V0 m c) (Proc.devRef .tc main_v204) = kv_v204 (F := F) :=
  ((line (F := F)).unary _ 245 rfl (by decide) (by decide) (w_cst_33 m c)).trans rfl

theorem w_cst_34 : after (ops (F := F)) (V0 m c) (Proc.devRef .tc main_cst_34) = Cert.ReferenceIdeal.Read.val_main_cst_0 (F := F) :=
  ((line (F := F)).nullary _ 246 rfl (by decide)).trans rfl

theorem w_v205 : after (ops (F := F)) (V0 m c) (Proc.devRef .tc main_v205) = kv_v205 (F := F) :=
  ((line (F := F)).unary _ 247 rfl (by decide) (by decide) (w_cst_34 m c)).trans rfl

theorem w_cst_35 : after (ops (F := F)) (V0 m c) (Proc.devRef .tc main_cst_35) = Cert.ReferenceIdeal.Read.val_main_cst_0 (F := F) :=
  ((line (F := F)).nullary _ 248 rfl (by decide)).trans rfl

theorem w_v206 : after (ops (F := F)) (V0 m c) (Proc.devRef .tc main_v206) = kv_v206 (F := F) :=
  ((line (F := F)).unary _ 249 rfl (by decide) (by decide) (w_cst_35 m c)).trans rfl

theorem w_v207 : after (ops (F := F)) (V0 m c) (Proc.devRef .tc main_v207) = kv_v207 (F := F) :=
  ((line (F := F)).nary _ 250 rfl (by decide) (by decide) fun _ => rfl).trans (concat3 (w_v202 m c) (w_v202 m c) (w_v204 m c))

theorem w_v208 : after (ops (F := F)) (V0 m c) (Proc.devRef .tc main_v208) = kv_v208 (F := F) :=
  ((line (F := F)).reshape _ 251 rfl (by decide) (by decide) (w_v207 m c)).trans rfl

theorem w_v209 : after (ops (F := F)) (V0 m c) (Proc.devRef .tc main_v209) = kv_v209 (F := F) :=
  ((line (F := F)).unary _ 252 rfl (by decide) (by decide) (w_v208 m c)).trans rfl

theorem w_v210 : after (ops (F := F)) (V0 m c) (Proc.devRef .tc main_v210) = kv_v210 (F := F) :=
  ((line (F := F)).reshape _ 253 rfl (by decide) (by decide) (w_v209 m c)).trans rfl

theorem w_v211 : after (ops (F := F)) (V0 m c) (Proc.devRef .tc main_v211) = kv_v211 (F := F) :=
  ((line (F := F)).nary _ 254 rfl (by decide) (by decide) fun _ => rfl).trans (concat3 (w_v206 m c) (w_v203 m c) (w_v205 m c))

theorem w_v212 : after (ops (F := F)) (V0 m c) (Proc.devRef .tc main_v212) = kv_v212 (F := F) :=
  ((line (F := F)).reshape _ 255 rfl (by decide) (by decide) (w_v211 m c)).trans rfl

theorem w_v213 : after (ops (F := F)) (V0 m c) (Proc.devRef .tc main_v213) = kv_v213 (F := F) :=
  ((line (F := F)).unary _ 256 rfl (by decide) (by decide) (w_v212 m c)).trans rfl

theorem w_v214 : after (ops (F := F)) (V0 m c) (Proc.devRef .tc main_v214) = kv_v214 (F := F) :=
  ((line (F := F)).reshape _ 257 rfl (by decide) (by decide) (w_v213 m c)).trans rfl

theorem w_v215 : after (ops (F := F)) (V0 m c) (Proc.devRef .tc main_v215) = kv_v215 (F := F) :=
  ((line (F := F)).unary _ 258 rfl (by decide) (by decide) (w_v203 m c)).trans rfl

theorem w_v216 : after (ops (F := F)) (V0 m c) (Proc.devRef .tc main_v216) = kv_v216 (F := F) :=
  ((line (F := F)).nary _ 259 rfl (by decide) (by decide) fun _ => rfl).trans (concat3 (w_v215 m c) (w_v206 m c) (w_v205 m c))

theorem w_v217 : after (ops (F := F)) (V0 m c) (Proc.devRef .tc main_v217) = kv_v217 (F := F) :=
  ((line (F := F)).reshape _ 260 rfl (by decide) (by decide) (w_v216 m c)).trans rfl

theorem w_v218 : after (ops (F := F)) (V0 m c) (Proc.devRef .tc main_v218) = kv_v218 (F := F) :=
  ((line (F := F)).unary _ 261 rfl (by decide) (by decide) (w_v217 m c)).trans rfl

theorem w_v219 : after (ops (F := F)) (V0 m c) (Proc.devRef .tc main_v219) = kv_v219 (F := F) :=
  ((line (F := F)).reshape _ 262 rfl (by decide) (by decide) (w_v218 m c)).trans rfl

theorem w_v220 : after (ops (F := F)) (V0 m c) (Proc.devRef .tc main_v220) = kv_v220 (F := F) :=
  ((line (F := F)).nullary _ 263 rfl (by decide)).trans rfl

theorem w_v221 : after (ops (F := F)) (V0 m c) (Proc.devRef .tc main_v221) = kv_v221 (F := F) :=
  ((line (F := F)).unary _ 264 rfl (by decide) (by decide) (w_v220 m c)).trans rfl

theorem w_c_36 : after (ops (F := F)) (V0 m c) (Proc.devRef .tc main_c_36) = Cert.ReferenceIdeal.Read.val_main_c (F := F) :=
  ((line (F := F)).nullary _ 265 rfl (by decide)).trans rfl

theorem w_call1_v0 : after (ops (F := F)) (V0 m c) (Proc.devRef .tc main_call1_v0) = Cert.ReferenceIdeal.Read.val_main_c (F := F) :=
  ((line (F := F)).unary _ 266 rfl (by decide) (by decide) (w_c_36 m c)).trans rfl

theorem w_call1_c : after (ops (F := F)) (V0 m c) (Proc.devRef .tc main_call1_c) = Cert.ReferenceIdeal.Read.val_main_c_14 (F := F) :=
  ((line (F := F)).nullary _ 267 rfl (by decide)).trans rfl

theorem w_call1_v1 : after (ops (F := F)) (V0 m c) (Proc.devRef .tc main_call1_v1) = kv_call1_v1 (F := F) :=
  ((line (F := F)).binary _ 268 rfl (by decide) (by decide) (by decide) (w_call1_v0 m c) (w_call1_c m c)).trans rfl

theorem w_call1_c_0 : after (ops (F := F)) (V0 m c) (Proc.devRef .tc main_call1_c_0) = Cert.ReferenceIdeal.Read.val_main_c_12 (F := F) :=
  ((line (F := F)).nullary _ 269 rfl (by decide)).trans rfl

theorem w_call1_v2 : after (ops (F := F)) (V0 m c) (Proc.devRef .tc main_call1_v2) = kv_call1_v2 (F := F) :=
  ((line (F := F)).ternary _ 270 rfl (by decide) (by decide) (by decide) (by decide) (w_call1_v1 m c) (w_call1_c_0 m c) (w_call1_v0 m c)).trans rfl

theorem w_call1_v3 : after (ops (F := F)) (V0 m c) (Proc.devRef .tc main_call1_v3) = kv_call1_v3 (F := F) :=
  ((line (F := F)).unary _ 271 rfl (by decide) (by decide) (w_call1_v2 m c)).trans rfl

theorem w_call1_v4 : after (ops (F := F)) (V0 m c) (Proc.devRef .tc main_call1_v4) = kv_call1_v4 (F := F) :=
  ((line (F := F)).binary _ 272 rfl (by decide) (by decide) (by decide) (w_v221 m c) (w_call1_v3 m c)).trans rfl

theorem w_call1_c_1 : after (ops (F := F)) (V0 m c) (Proc.devRef .tc main_call1_c_1) = Cert.ReferenceIdeal.Read.val_main_c_14 (F := F) :=
  ((line (F := F)).nullary _ 273 rfl (by decide)).trans rfl

theorem w_call1_v5 : after (ops (F := F)) (V0 m c) (Proc.devRef .tc main_call1_v5) = kv_call1_v5 (F := F) :=
  ((line (F := F)).unary _ 274 rfl (by decide) (by decide) (w_call1_c_1 m c)).trans rfl

theorem w_call1_v6 : after (ops (F := F)) (V0 m c) (Proc.devRef .tc main_call1_v6) = kv_call1_v6 (F := F) :=
  ((line (F := F)).binary _ 275 rfl (by decide) (by decide) (by decide) (w_call1_v4 m c) (w_call1_v5 m c)).trans rfl

theorem w_call1_c_2 : after (ops (F := F)) (V0 m c) (Proc.devRef .tc main_call1_c_2) = Cert.ReferenceIdeal.Read.val_main_c_14 (F := F) :=
  ((line (F := F)).nullary _ 276 rfl (by decide)).trans rfl

theorem w_call1_v7 : after (ops (F := F)) (V0 m c) (Proc.devRef .tc main_call1_v7) = kv_call1_v7 (F := F) :=
  ((line (F := F)).unary _ 277 rfl (by decide) (by decide) (w_call1_c_2 m c)).trans rfl

theorem w_call1_v8 : after (ops (F := F)) (V0 m c) (Proc.devRef .tc main_call1_v8) = kv_call1_v8 (F := F) :=
  ((line (F := F)).binary _ 278 rfl (by decide) (by decide) (by decide) (w_call1_v4 m c) (w_call1_v7 m c)).trans rfl

theorem w_call1_c_3 : after (ops (F := F)) (V0 m c) (Proc.devRef .tc main_call1_c_3) = Cert.ReferenceIdeal.Read.val_main_c_14 (F := F) :=
  ((line (F := F)).nullary _ 279 rfl (by decide)).trans rfl

theorem w_call1_v9 : after (ops (F := F)) (V0 m c) (Proc.devRef .tc main_call1_v9) = kv_call1_v9 (F := F) :=
  ((line (F := F)).binary _ 280 rfl (by decide) (by decide) (by decide) (w_call1_v2 m c) (w_call1_c_3 m c)).trans rfl

theorem w_call1_v10 : after (ops (F := F)) (V0 m c) (Proc.devRef .tc main_call1_v10) = kv_call1_v10 (F := F) :=
  ((line (F := F)).unary _ 281 rfl (by decide) (by decide) (w_call1_v9 m c)).trans rfl

theorem w_call1_v11 : after (ops (F := F)) (V0 m c) (Proc.devRef .tc main_call1_v11) = kv_call1_v11 (F := F) :=
  ((line (F := F)).binary _ 282 rfl (by decide) (by decide) (by decide) (w_call1_v8 m c) (w_call1_v10 m c)).trans rfl

theorem w_call1_v12 : after (ops (F := F)) (V0 m c) (Proc.devRef .tc main_call1_v12) = kv_call1_v12 (F := F) :=
  ((line (F := F)).binary _ 283 rfl (by decide) (by decide) (by decide) (w_call1_v11 m c) (w_call1_v6 m c)).trans rfl

theorem w_call1_v13 : after (ops (F := F)) (V0 m c) (Proc.devRef .tc main_call1_v13) = kv_call1_v13 (F := F) :=
  ((line (F := F)).unary _ 284 rfl (by decide) (by decide) (w_call1_v2 m c)).trans rfl

theorem w_call1_v14 : after (ops (F := F)) (V0 m c) (Proc.devRef .tc main_call1_v14) = kv_call1_v14 (F := F) :=
  ((line (F := F)).binary _ 285 rfl (by decide) (by decide) (by decide) (w_call1_v4 m c) (w_call1_v13 m c)).trans rfl

theorem w_v222 : after (ops (F := F)) (V0 m c) (Proc.devRef .tc main_v222) = kv_v222 (F := F) :=
  ((line (F := F)).ternary _ 286 rfl (by decide) (by decide) (by decide) (by decide) (w_call1_v12 m c) (w_call1_v14 m c) (w_call1_v4 m c)).trans rfl

theorem w_v223 : after (ops (F := F)) (V0 m c) (Proc.devRef .tc main_v223) = Cert.ReferenceIdeal.Read.val_main_v104 (F := F) :=
  ((line (F := F)).nullary _ 287 rfl (by decide)).trans rfl

theorem w_v224 : after (ops (F := F)) (V0 m c) (Proc.devRef .tc main_v224) = Cert.ReferenceIdeal.Read.val_main_v105 (F := F) :=
  ((line (F := F)).unary _ 288 rfl (by decide) (by decide) (w_v223 m c)).trans rfl

theorem w_c_37 : after (ops (F := F)) (V0 m c) (Proc.devRef .tc main_c_37) = Cert.ReferenceIdeal.Read.val_main_c (F := F) :=
  ((line (F := F)).nullary _ 289 rfl (by decide)).trans rfl

theorem w_v225 : after (ops (F := F)) (V0 m c) (Proc.devRef .tc main_v225) = kv_v225 (F := F) :=
  ((line (F := F)).unary _ 290 rfl (by decide) (by decide) (w_c_37 m c)).trans rfl

theorem w_v226 : after (ops (F := F)) (V0 m c) (Proc.devRef .tc main_v226) = kv_v226 (F := F) :=
  ((line (F := F)).binary _ 291 rfl (by decide) (by decide) (by decide) (w_v224 m c) (w_v225 m c)).trans rfl

theorem w_c_38 : after (ops (F := F)) (V0 m c) (Proc.devRef .tc main_c_38) = Cert.ReferenceIdeal.Read.val_main_c (F := F) :=
  ((line (F := F)).nullary _ 292 rfl (by decide)).trans rfl

theorem w_v227 : after (ops (F := F)) (V0 m c) (Proc.devRef .tc main_v227) = kv_v227 (F := F) :=
  ((line (F := F)).unary _ 293 rfl (by decide) (by decide) (w_c_38 m c)).trans rfl

theorem w_v228 : after (ops (F := F)) (V0 m c) (Proc.devRef .tc main_v228) = kv_v228 (F := F) :=
  ((line (F := F)).binary _ 294 rfl (by decide) (by decide) (by decide) (w_v224 m c) (w_v227 m c)).trans rfl

theorem w_v229 : after (ops (F := F)) (V0 m c) (Proc.devRef .tc main_v229) = kv_v229 (F := F) :=
  ((line (F := F)).unary _ 295 rfl (by decide) (by decide) (w_v228 m c)).trans rfl

theorem w_v230 : after (ops (F := F)) (V0 m c) (Proc.devRef .tc main_v230) = kv_v230 (F := F) :=
  ((line (F := F)).unary _ 296 rfl (by decide) (by decide) (w_v222 m c)).trans rfl

theorem w_v231 : after (ops (F := F)) (V0 m c) (Proc.devRef .tc main_v231) = kv_v231 (F := F) :=
  ((line (F := F)).binary _ 297 rfl (by decide) (by decide) (by decide) (w_v229 m c) (w_v230 m c)).trans rfl

theorem w_v232 : after (ops (F := F)) (V0 m c) (Proc.devRef .tc main_v232) = kv_v232 (F := F) :=
  ((line (F := F)).unary _ 298 rfl (by decide) (by decide) (w_v226 m c)).trans rfl

theorem w_v233 : after (ops (F := F)) (V0 m c) (Proc.devRef .tc main_v233) = kv_v233 (F := F) :=
  ((line (F := F)).binary _ 299 rfl (by decide) (by decide) (by decide) (w_v232 m c) (w_v231 m c)).trans rfl

theorem w_c_39 : after (ops (F := F)) (V0 m c) (Proc.devRef .tc main_c_39) = Cert.ReferenceIdeal.Read.val_main_c (F := F) :=
  ((line (F := F)).nullary _ 300 rfl (by decide)).trans rfl

theorem w_v234 : after (ops (F := F)) (V0 m c) (Proc.devRef .tc main_v234) = kv_v234 (F := F) :=
  ((line (F := F)).unary _ 301 rfl (by decide) (by decide) (w_c_39 m c)).trans rfl

theorem w_v235 : after (ops (F := F)) (V0 m c) (Proc.devRef .tc main_v235) = kv_v235 (F := F) :=
  ((line (F := F)).binary _ 302 rfl (by decide) (by decide) (by decide) (w_v224 m c) (w_v234 m c)).trans rfl

theorem w_v236 : after (ops (F := F)) (V0 m c) (Proc.devRef .tc main_v236) = kv_v236 (F := F) :=
  ((line (F := F)).unary _ 303 rfl (by decide) (by decide) (w_v224 m c)).trans rfl

theorem w_v237 : after (ops (F := F)) (V0 m c) (Proc.devRef .tc main_v237) = kv_v237 (F := F) :=
  ((line (F := F)).unary _ 304 rfl (by decide) (by decide) (w_v222 m c)).trans rfl

theorem w_v238 : after (ops (F := F)) (V0 m c) (Proc.devRef .tc main_v238) = kv_v238 (F := F) :=
  ((line (F := F)).binary _ 305 rfl (by decide) (by decide) (by decide) (w_v236 m c) (w_v237 m c)).trans rfl

theorem w_v239 : after (ops (F := F)) (V0 m c) (Proc.devRef .tc main_v239) = kv_v239 (F := F) :=
  ((line (F := F)).unary _ 306 rfl (by decide) (by decide) (w_v235 m c)).trans rfl

theorem w_v240 : after (ops (F := F)) (V0 m c) (Proc.devRef .tc main_v240) = kv_v240 (F := F) :=
  ((line (F := F)).binary _ 307 rfl (by decide) (by decide) (by decide) (w_v239 m c) (w_v238 m c)).trans rfl

theorem w_v241 : after (ops (F := F)) (V0 m c) (Proc.devRef .tc main_v241) = kv_v241 (F := F) :=
  ((line (F := F)).binary _ 308 rfl (by decide) (by decide) (by decide) (w_v233 m c) (w_v240 m c)).trans rfl

theorem w_cst_40 : after (ops (F := F)) (V0 m c) (Proc.devRef .tc main_cst_40) = Cert.ReferenceIdeal.Read.val_main_cst_0 (F := F) :=
  ((line (F := F)).nullary _ 309 rfl (by decide)).trans rfl

theorem w_cst_41 : after (ops (F := F)) (V0 m c) (Proc.devRef .tc main_cst_41) = Cert.ReferenceIdeal.Read.val_main_cst_17 (F := F) :=
  ((line (F := F)).nullary _ 310 rfl (by decide)).trans rfl

theorem w_call2_v0 : after (ops (F := F)) (V0 m c) (Proc.devRef .tc main_call2_v0) = kv_call2_v0 (F := F) :=
  ((line (F := F)).unary _ 311 rfl (by decide) (by decide) (w_cst_40 m c)).trans rfl

theorem w_call2_v1 : after (ops (F := F)) (V0 m c) (Proc.devRef .tc main_call2_v1) = kv_call2_v1 (F := F) :=
  ((line (F := F)).unary _ 312 rfl (by decide) (by decide) (w_cst_41 m c)).trans rfl

theorem w_v242 : after (ops (F := F)) (V0 m c) (Proc.devRef .tc main_v242) = kv_v242 (F := F) :=
  ((line (F := F)).ternary _ 313 rfl (by decide) (by decide) (by decide) (by decide) (w_v241 m c) (w_call2_v0 m c) (w_call2_v1 m c)).trans rfl

theorem w_v243 : after (ops (F := F)) (V0 m c) (Proc.devRef .tc main_v243) = kv_v243 (F := F) :=
  ((line (F := F)).unary _ 314 rfl (by decide) (by decide) (w_v242 m c)).trans rfl

theorem w_cst_42 : after (ops (F := F)) (V0 m c) (Proc.devRef .tc main_cst_42) = Cert.ReferenceIdeal.Read.val_main_cst_0 (F := F) :=
  ((line (F := F)).nullary _ 315 rfl (by decide)).trans rfl

theorem w_cst_43 : after (ops (F := F)) (V0 m c) (Proc.devRef .tc main_cst_43) = Cert.ReferenceIdeal.Read.val_main_cst_17 (F := F) :=
  ((line (F := F)).nullary _ 316 rfl (by decide)).trans rfl

theorem w_call3_v0 : after (ops (F := F)) (V0 m c) (Proc.devRef .tc main_call3_v0) = kv_call3_v0 (F := F) :=
  ((line (F := F)).unary _ 317 rfl (by decide) (by decide) (w_cst_42 m c)).trans rfl

theorem w_call3_v1 : after (ops (F := F)) (V0 m c) (Proc.devRef .tc main_call3_v1) = kv_call3_v1 (F := F) :=
  ((line (F := F)).unary _ 318 rfl (by decide) (by decide) (w_cst_43 m c)).trans rfl

theorem w_v244 : after (ops (F := F)) (V0 m c) (Proc.devRef .tc main_v244) = kv_v244 (F := F) :=
  ((line (F := F)).ternary _ 319 rfl (by decide) (by decide) (by decide) (by decide) (w_v233 m c) (w_call3_v0 m c) (w_call3_v1 m c)).trans rfl

theorem w_v245 : after (ops (F := F)) (V0 m c) (Proc.devRef .tc main_v245) = kv_v245 (F := F) :=
  ((line (F := F)).unary _ 320 rfl (by decide) (by decide) (w_v244 m c)).trans rfl

theorem w_v246 : after (ops (F := F)) (V0 m c) (Proc.devRef .tc main_v246) = kv_v246 (F := F) :=
  ((line (F := F)).unary _ 321 rfl (by decide) (by decide) (w_v243 m c)).trans rfl

theorem w_v247 : after (ops (F := F)) (V0 m c) (Proc.devRef .tc main_v247) = kv_v247 (F := F) :=
  ((line (F := F)).unary _ 322 rfl (by decide) (by decide) (w_v245 m c)).trans rfl

theorem w_v248_0 : after (ops (F := F)) (V0 m c) (Proc.devRef .tc main_v248_0) = kv_v248_0 (F := F) (m (c, Proc.devRef .tc main_arg6)) :=
  ((line (F := F)).unary _ 323 rfl (by decide) (by decide) (w_arg6 m c)).trans rfl

end Cert.Host
-- ==== Proof.Blk.lean ====
/-
  One grid point of the kernel over its window blocks: every stage of the body as an array of the point's inputs, in the
  order the body computes them.
-/
module

public import proofs.«01_k».proof.Proof.Gen.KernelIdeal.Frame
public import Idealize.ShloMosaic.Lib.ValueIdx

@[expose] public section

set_option maxRecDepth 16384

noncomputable section

namespace Cert.Body

open Idealize.ShloMosaic Idealize.ShloMosaic.TcCoe Idealize.SL.Sem
open Cert.KernelIdeal Cert.KernelIdeal.Gen

/-- What one grid point reads: its window blocks, its second grid coordinate, and what the previous point carried. -/
structure Blk where
  x0 : Vec Ideal S1x8 .f32
  x1 : Vec Ideal S1x256x512 .f32
  x2 : Vec Ideal S1x256x512 .f32
  x3 : Vec Ideal S1x512 .f32
  x4 : Vec Ideal S1x2x2x512x64 .bf16
  x5 : Vec Ideal S1x2x256x64 .bf16
  x6 : Vec Ideal S1x2x128x64 .bf16
  x7 : Vec Ideal S1x2x256x64 .bf16
  x8 : Vec Ideal S1x2x128x64 .bf16
  x9 : Vec Ideal S1x256x128 .f32
  x10 : Vec Ideal S256x128 .f32
  x11 : Vec Ideal S256x128 .f32
  x12 : Vec Ideal S256x128 .f32
  x13 : Vec Ideal S256x512 .f32
  x14 : Vec Ideal S256x512 .f32
  ii : BitVec 32
  ck : Vec Ideal S128x128 .f32
  cv : Vec Ideal S128x128 .f32
  pw : Vec Ideal S1x512 .f32
  ps : Vec Ideal S1x8 .f32

def e12 (b : Blk) : FVec Ideal S1x512 .f32 := (k0_pay12 b.x2 b.x1)
def e13 (b : Blk) : FVec Ideal S1x512 .f32 := (k0_pay13 (e12 b) b.pw)
def e11 (b : Blk) : FVec Ideal S256x512 .f32 := (k0_pay11 b.x3 b.x2 b.x1)
def e85 (b : Blk) : FVec Ideal S128x512 .f32 := (k0_pay85 (e11 b))
def e90 (b : Blk) : FVec Ideal S16x128 .f32 := (k0_pay90 (k0_pay15 (F := Ideal)) (e85 b) (View.ld b.x2 (Rect.unit ![0, 0, 0] ![1, 128, 512] inb_S1x256x512_S1x128x512_0_0_0)))
def e99 (b : Blk) : FVec Ideal S1x512 .f32 := (k0_pay99 (e90 b))
def e89 (b : Blk) : FVec Ideal S128x128 .f32 := (k0_pay89 (View.ld b.x9 (Rect.unit ![0, 0, 0] ![1, 128, 128] inb_S1x256x128_S1x128x128_0_0_0)))
def e101 (b : Blk) : FVec Ideal S1x512 .f32 := (k0_pay101 (e89 b))
def e120 (b : Blk) : FVec Ideal S1x512 .f32 := (k0_pay120 (e99 b) (e101 b) (View.ld b.x0 (Rect.unit ![0, 4] ![1, 1] inb_S1x8_S1x1_0_4) (Shape.Idx.first (by decide))) (View.ld b.x0 (Rect.unit ![0, 5] ![1, 1] inb_S1x8_S1x1_0_5) (Shape.Idx.first (by decide))) (View.ld b.x0 (Rect.unit ![0, 6] ![1, 1] inb_S1x8_S1x1_0_6) (Shape.Idx.first (by decide))) (View.ld b.x0 (Rect.unit ![0, 7] ![1, 1] inb_S1x8_S1x1_0_7) (Shape.Idx.first (by decide))))
def e17 (b : Blk) : FVec Ideal S128x512 .f32 := (k0_pay17 (e11 b))
def e22 (b : Blk) : FVec Ideal S16x128 .f32 := (k0_pay22 (k0_pay15 (F := Ideal)) (e17 b) (View.ld b.x2 (Rect.unit ![0, 128, 0] ![1, 128, 512] inb_S1x256x512_S1x128x512_0_128_0)))
def e33 (b : Blk) : FVec Ideal S1x128 .f32 := (k0_pay33 (e22 b))
def e34 (b : Blk) : FVec Ideal S1x128 .f32 := (k0_pay34 (e22 b))
def e35 (b : Blk) : FVec Ideal S1x128 .f32 := (k0_pay35 (e22 b))
def e36 (b : Blk) : FVec Ideal S1x128 .f32 := (k0_pay36 (e22 b))
def e37 (b : Blk) : FVec Ideal S1x512 .f32 := (k0_pay37 (e33 b) (e34 b) (e35 b) (e36 b))
def e21 (b : Blk) : FVec Ideal S128x128 .f32 := (k0_pay21 (View.ld b.x9 (Rect.unit ![0, 128, 0] ![1, 128, 128] inb_S1x256x128_S1x128x128_0_128_0)))
def e39 (b : Blk) : FVec Ideal S1x512 .f32 := (k0_pay39 (e21 b))
def e55 (b : Blk) : FVec Ideal S1x512 .f32 := (k0_pay55 (e37 b) (e39 b) (View.ld b.x0 (Rect.unit ![0, 4] ![1, 1] inb_S1x8_S1x1_0_4) (Shape.Idx.first (by decide))) (View.ld b.x0 (Rect.unit ![0, 5] ![1, 1] inb_S1x8_S1x1_0_5) (Shape.Idx.first (by decide))) (View.ld b.x0 (Rect.unit ![0, 6] ![1, 1] inb_S1x8_S1x1_0_6) (Shape.Idx.first (by decide))) (View.ld b.x0 (Rect.unit ![0, 7] ![1, 1] inb_S1x8_S1x1_0_7) (Shape.Idx.first (by decide))))
def e32 (b : Blk) : FVec Ideal S1x512 .f32 := (k0_pay32 (e22 b))
def e38 (b : Blk) : FVec Ideal S1x512 .f32 := (k0_pay38 (e21 b))
def e51 (b : Blk) : FVec Ideal S1x512 .f32 := (k0_pay51 (e32 b) (e38 b) (View.ld b.x0 (Rect.unit ![0, 0] ![1, 1] inb_S1x8_S1x1_0_0) (Shape.Idx.first (by decide))) (View.ld b.x0 (Rect.unit ![0, 1] ![1, 1] inb_S1x8_S1x1_0_1) (Shape.Idx.first (by decide))) (View.ld b.x0 (Rect.unit ![0, 2] ![1, 1] inb_S1x8_S1x1_0_2) (Shape.Idx.first (by decide))) (View.ld b.x0 (Rect.unit ![0, 3] ![1, 1] inb_S1x8_S1x1_0_3) (Shape.Idx.first (by decide))))
def e52 (b : Blk) : FVec Ideal S1x8 .f32 := (k0_pay52 (iota Kind.tc S1x8 32 [1] iota_S1x8_d1_w32) (k0_pay14 (F := Ideal)) (e32 b) (e38 b) (View.ld b.x0 (Rect.unit ![0, 0] ![1, 1] inb_S1x8_S1x1_0_0) (Shape.Idx.first (by decide))) (View.ld b.x0 (Rect.unit ![0, 1] ![1, 1] inb_S1x8_S1x1_0_1) (Shape.Idx.first (by decide))) (View.ld b.x0 (Rect.unit ![0, 2] ![1, 1] inb_S1x8_S1x1_0_2) (Shape.Idx.first (by decide))) (View.ld b.x0 (Rect.unit ![0, 3] ![1, 1] inb_S1x8_S1x1_0_3) (Shape.Idx.first (by decide))))
def e53 (b : Blk) : FVec Ideal S1x1 .f32 := (k0_pay53 (e32 b) (e38 b) (View.ld b.x0 (Rect.unit ![0, 0] ![1, 1] inb_S1x8_S1x1_0_0) (Shape.Idx.first (by decide))) (View.ld b.x0 (Rect.unit ![0, 1] ![1, 1] inb_S1x8_S1x1_0_1) (Shape.Idx.first (by decide))) (View.ld b.x0 (Rect.unit ![0, 2] ![1, 1] inb_S1x8_S1x1_0_2) (Shape.Idx.first (by decide))) (View.ld b.x0 (Rect.unit ![0, 3] ![1, 1] inb_S1x8_S1x1_0_3) (Shape.Idx.first (by decide))))
def e54 (b : Blk) : IVec S1x8 1 := (k0_pay54 (iota Kind.tc S1x8 32 [1] iota_S1x8_d1_w32))
def e56 (b : Blk) : FVec Ideal S1x8 .f32 := (k0_pay56 (iota Kind.tc S1x8 32 [1] iota_S1x8_d1_w32) (e37 b) (e39 b) (e51 b) (e52 b) (e53 b) (e54 b) (View.ld b.x0 (Rect.unit ![0, 4] ![1, 1] inb_S1x8_S1x1_0_4) (Shape.Idx.first (by decide))) (View.ld b.x0 (Rect.unit ![0, 5] ![1, 1] inb_S1x8_S1x1_0_5) (Shape.Idx.first (by decide))) (View.ld b.x0 (Rect.unit ![0, 6] ![1, 1] inb_S1x8_S1x1_0_6) (Shape.Idx.first (by decide))) (View.ld b.x0 (Rect.unit ![0, 7] ![1, 1] inb_S1x8_S1x1_0_7) (Shape.Idx.first (by decide))))
def e57 (b : Blk) : FVec Ideal S1x1 .f32 := (k0_pay57 (e37 b) (e39 b) (View.ld b.x0 (Rect.unit ![0, 4] ![1, 1] inb_S1x8_S1x1_0_4) (Shape.Idx.first (by decide))) (View.ld b.x0 (Rect.unit ![0, 5] ![1, 1] inb_S1x8_S1x1_0_5) (Shape.Idx.first (by decide))) (View.ld b.x0 (Rect.unit ![0, 6] ![1, 1] inb_S1x8_S1x1_0_6) (Shape.Idx.first (by decide))) (View.ld b.x0 (Rect.unit ![0, 7] ![1, 1] inb_S1x8_S1x1_0_7) (Shape.Idx.first (by decide))))
def e58 (b : Blk) : IVec S1x8 1 := (k0_pay58 (iota Kind.tc S1x8 32 [1] iota_S1x8_d1_w32))
def e59 (b : Blk) : FVec Ideal S1x8 .f32 := (k0_pay59 (iota Kind.tc S1x8 32 [1] iota_S1x8_d1_w32) (e55 b) (e56 b) (e57 b) (e58 b) (FloatOps.ofBits (F := Ideal) FTy.f32 0#32))
def e98 (b : Blk) : FVec Ideal S1x512 .f32 := (k0_pay98 (e90 b))
def e100 (b : Blk) : FVec Ideal S1x512 .f32 := (k0_pay100 (e89 b))
def e115 (b : Blk) : FVec Ideal S1x128 .f32 := (k0_pay115 (View.ld b.x0 (Rect.unit ![0, 0] ![1, 1] inb_S1x8_S1x1_0_0) (Shape.Idx.first (by decide))))
def e116 (b : Blk) : FVec Ideal S1x128 .f32 := (k0_pay116 (View.ld b.x0 (Rect.unit ![0, 1] ![1, 1] inb_S1x8_S1x1_0_1) (Shape.Idx.first (by decide))))
def e118 (b : Blk) : FVec Ideal S1x8 .f32 := (k0_pay118 (iota Kind.tc S1x8 32 [1] iota_S1x8_d1_w32) (e59 b) (e98 b) (e100 b) (e115 b) (e116 b) (View.ld b.x0 (Rect.unit ![0, 2] ![1, 1] inb_S1x8_S1x1_0_2) (Shape.Idx.first (by decide))) (View.ld b.x0 (Rect.unit ![0, 3] ![1, 1] inb_S1x8_S1x1_0_3) (Shape.Idx.first (by decide))))
def e119 (b : Blk) : FVec Ideal S1x8 .f32 := (k0_pay119 (iota Kind.tc S1x8 32 [1] iota_S1x8_d1_w32) (e98 b) (e100 b) (e115 b) (e116 b) (View.ld b.x0 (Rect.unit ![0, 2] ![1, 1] inb_S1x8_S1x1_0_2) (Shape.Idx.first (by decide))) (View.ld b.x0 (Rect.unit ![0, 3] ![1, 1] inb_S1x8_S1x1_0_3) (Shape.Idx.first (by decide))))
def e121 (b : Blk) : FVec Ideal S1x8 .f32 := (k0_pay121 (iota Kind.tc S1x8 32 [1] iota_S1x8_d1_w32) (e99 b) (e101 b) (e118 b) (e119 b) (View.ld b.x0 (Rect.unit ![0, 4] ![1, 1] inb_S1x8_S1x1_0_4) (Shape.Idx.first (by decide))) (View.ld b.x0 (Rect.unit ![0, 5] ![1, 1] inb_S1x8_S1x1_0_5) (Shape.Idx.first (by decide))) (View.ld b.x0 (Rect.unit ![0, 6] ![1, 1] inb_S1x8_S1x1_0_6) (Shape.Idx.first (by decide))) (View.ld b.x0 (Rect.unit ![0, 7] ![1, 1] inb_S1x8_S1x1_0_7) (Shape.Idx.first (by decide))))
def e122 (b : Blk) : FVec Ideal S1x8 .f32 := (k0_pay122 (iota Kind.tc S1x8 32 [1] iota_S1x8_d1_w32) (e120 b) (e121 b))
def e4 (b : Blk) : FVec Ideal S1x8 .f32 := (k0_pay4 (e122 b) b.ps)
def e84 (b : Blk) : FVec Ideal S256x512 .f32 := (k0_pay84 (b.ii) b.x13 b.x14)
def e91 (b : Blk) : FVec Ideal S512x64 .bf16 := (k0_pay91 (View.ld b.x4 (Rect.unit ![0, 0, 0, 0, 0] ![1, 1, 1, 512, 64] inb_S1x2x2x512x64_S1x1x1x512x64_0_0_0_0_0)))
def e93 (b : Blk) : FVec Ideal S256x64 .bf16 := (k0_pay93 (View.ld b.x5 (Rect.unit ![0, 0, 0, 0] ![1, 1, 128, 64] inb_S1x2x256x64_S1x1x128x64_0_0_0_0)) (View.ld b.x6 (Rect.unit ![0, 0, 0, 0] ![1, 1, 128, 64] inb_S1x2x128x64_S1x1x128x64_0_0_0_0)))
def e102 (b : Blk) : FVec Ideal S256x512 .f32 := (k0_pay102 (e91 b) (e93 b))
def e104 (b : Blk) : FVec Ideal S256x512 .f32 := (k0_pay104 (e85 b) (View.ld b.x7 (Rect.unit ![0, 0, 0, 0] ![1, 1, 128, 64] inb_S1x2x256x64_S1x1x128x64_0_0_0_0)) (View.ld b.x8 (Rect.unit ![0, 0, 0, 0] ![1, 1, 128, 64] inb_S1x2x128x64_S1x1x128x64_0_0_0_0)))
def e111 (b : Blk) : FVec Ideal S256x64 .f32 := (k0_pay111 (e84 b) (e91 b) (e98 b) (e100 b) (e102 b) (e104 b))
def e127 (b : Blk) : FVec Ideal S128x64 .f32 := (k0_pay127 (e111 b))
def e92 (b : Blk) : FVec Ideal S512x64 .bf16 := (k0_pay92 (View.ld b.x4 (Rect.unit ![0, 0, 1, 0, 0] ![1, 1, 1, 512, 64] inb_S1x2x2x512x64_S1x1x1x512x64_0_0_1_0_0)))
def e95 (b : Blk) : FVec Ideal S256x64 .bf16 := (k0_pay95 (View.ld b.x7 (Rect.unit ![0, 1, 0, 0] ![1, 1, 128, 64] inb_S1x2x256x64_S1x1x128x64_0_1_0_0)) (View.ld b.x8 (Rect.unit ![0, 1, 0, 0] ![1, 1, 128, 64] inb_S1x2x128x64_S1x1x128x64_0_1_0_0)))
def e97 (b : Blk) : FVec Ideal S512x64 .f32 := (k0_pay97 (e85 b))
def e94 (b : Blk) : FVec Ideal S256x64 .bf16 := (k0_pay94 (View.ld b.x5 (Rect.unit ![0, 1, 0, 0] ![1, 1, 128, 64] inb_S1x2x256x64_S1x1x128x64_0_1_0_0)) (View.ld b.x6 (Rect.unit ![0, 1, 0, 0] ![1, 1, 128, 64] inb_S1x2x128x64_S1x1x128x64_0_1_0_0)))
def e103 (b : Blk) : FVec Ideal S256x512 .f32 := (k0_pay103 (e92 b) (e94 b))
def e112 (b : Blk) : FVec Ideal S256x64 .f32 := (k0_pay112 (e84 b) (e92 b) (e95 b) (e97 b) (e99 b) (e101 b) (e103 b))
def e128 (b : Blk) : FVec Ideal S128x64 .f32 := (k0_pay128 (e112 b))
def e2 (b : Blk) : FVec Ideal S128x128 .f32 := (k0_pay2 (e127 b) (e128 b))
def e96 (b : Blk) : FVec Ideal S512x64 .f32 := (k0_pay96 (e85 b))
def e113 (b : Blk) : FVec Ideal S256x64 .f32 := (k0_pay113 (e84 b) (e96 b) (e100 b) (e102 b))
def e131 (b : Blk) : FVec Ideal S128x64 .f32 := (k0_pay131 (e113 b))
def e114 (b : Blk) : FVec Ideal S256x64 .f32 := (k0_pay114 (e84 b) (e97 b) (e101 b) (e103 b))
def e132 (b : Blk) : FVec Ideal S128x64 .f32 := (k0_pay132 (e114 b))
def e3 (b : Blk) : FVec Ideal S128x128 .f32 := (k0_pay3 (e131 b) (e132 b))
def e30 (b : Blk) : FVec Ideal S512x64 .f32 := (k0_pay30 (e17 b))
def e16 (b : Blk) : FVec Ideal S256x512 .f32 := (k0_pay16 b.x13)
def e23 (b : Blk) : FVec Ideal S512x64 .bf16 := (k0_pay23 (View.ld b.x4 (Rect.unit ![0, 1, 0, 0, 0] ![1, 1, 1, 512, 64] inb_S1x2x2x512x64_S1x1x1x512x64_0_1_0_0_0)))
def e25 (b : Blk) : FVec Ideal S128x64 .bf16 := (k0_pay25 (View.ld b.x5 (Rect.unit ![0, 0, 128, 0] ![1, 1, 128, 64] inb_S1x2x256x64_S1x1x128x64_0_0_128_0)))
def e26 (b : Blk) : FVec Ideal S256x64 .bf16 := (k0_pay26 (e25 b) (View.ld b.x5 (Rect.unit ![0, 0, 0, 0] ![1, 1, 128, 64] inb_S1x2x256x64_S1x1x128x64_0_0_0_0)))
def e48 (b : Blk) : FVec Ideal S256x512 .bf16 := (k0_pay48 (e16 b) (e21 b) (e23 b) (e26 b))
def e49 (b : Blk) : FVec Ideal S256x64 .f32 := (k0_pay49 (e30 b) (e48 b))
def e70 (b : Blk) : FVec Ideal S128x64 .f32 := (k0_pay70 (e49 b))
def e31 (b : Blk) : FVec Ideal S512x64 .f32 := (k0_pay31 (e17 b))
def e24 (b : Blk) : FVec Ideal S512x64 .bf16 := (k0_pay24 (View.ld b.x4 (Rect.unit ![0, 1, 1, 0, 0] ![1, 1, 1, 512, 64] inb_S1x2x2x512x64_S1x1x1x512x64_0_1_1_0_0)))
def e27 (b : Blk) : FVec Ideal S256x64 .bf16 := (k0_pay27 (View.ld b.x5 (Rect.unit ![0, 1, 128, 0] ![1, 1, 128, 64] inb_S1x2x256x64_S1x1x128x64_0_1_128_0)) (View.ld b.x5 (Rect.unit ![0, 1, 0, 0] ![1, 1, 128, 64] inb_S1x2x256x64_S1x1x128x64_0_1_0_0)))
def e41 (b : Blk) : FVec Ideal S256x512 .f32 := (k0_pay41 (e16 b) (e21 b) (e24 b) (e27 b))
def e50 (b : Blk) : FVec Ideal S256x64 .f32 := (k0_pay50 (e31 b) (e41 b))
def e71 (b : Blk) : FVec Ideal S128x64 .f32 := (k0_pay71 (e50 b))
def e83 (b : Blk) : FVec Ideal S128x128 .f32 := (k0_pay83 (e70 b) (e71 b))
def e133 (b : Blk) : FVec Ideal S128x64 .f32 := (k0_pay133 (e113 b))
def e134 (b : Blk) : FVec Ideal S128x64 .f32 := (k0_pay134 (e114 b))
def e1 (b : Blk) : FVec Ideal S1x128x128 .bf16 := (k0_pay1 (e83 b) (e133 b) (e134 b))
def e28 (b : Blk) : FVec Ideal S256x64 .bf16 := (k0_pay28 (View.ld b.x7 (Rect.unit ![0, 0, 128, 0] ![1, 1, 128, 64] inb_S1x2x256x64_S1x1x128x64_0_0_128_0)) (View.ld b.x7 (Rect.unit ![0, 0, 0, 0] ![1, 1, 128, 64] inb_S1x2x256x64_S1x1x128x64_0_0_0_0)))
def e46 (b : Blk) : FVec Ideal S256x64 .f32 := (k0_pay46 (e16 b) (e21 b) (e23 b) (e26 b) (e28 b) (e30 b) (e32 b))
def e66 (b : Blk) : FVec Ideal S128x64 .f32 := (k0_pay66 (e46 b))
def e29 (b : Blk) : FVec Ideal S256x64 .bf16 := (k0_pay29 (View.ld b.x7 (Rect.unit ![0, 1, 128, 0] ![1, 1, 128, 64] inb_S1x2x256x64_S1x1x128x64_0_1_128_0)) (View.ld b.x7 (Rect.unit ![0, 1, 0, 0] ![1, 1, 128, 64] inb_S1x2x256x64_S1x1x128x64_0_1_0_0)))
def e47 (b : Blk) : FVec Ideal S256x64 .f32 := (k0_pay47 (e16 b) (e21 b) (e24 b) (e27 b) (e29 b) (e31 b) (e33 b) (e34 b) (e35 b) (e36 b))
def e67 (b : Blk) : FVec Ideal S128x64 .f32 := (k0_pay67 (e47 b))
def e82 (b : Blk) : FVec Ideal S128x128 .f32 := (k0_pay82 (e66 b) (e67 b))
def e86 (b : Blk) : FVec Ideal S128x128 .f32 := (k0_pay86 (View.ld b.x10 (Rect.unit ![0, 0] ![128, 128] inb_S256x128_S128x128_0_0)))
def e87 (b : Blk) : FVec Ideal S128x128 .f32 := (k0_pay87 (View.ld b.x11 (Rect.unit ![0, 0] ![128, 128] inb_S256x128_S128x128_0_0)))
def e88 (b : Blk) : FVec Ideal S128x128 .f32 := (k0_pay88 (View.ld b.x12 (Rect.unit ![0, 0] ![128, 128] inb_S256x128_S128x128_0_0)))
def e129 (b : Blk) : FVec Ideal S128x64 .f32 := (k0_pay129 (e111 b))
def e130 (b : Blk) : FVec Ideal S128x64 .f32 := (k0_pay130 (e112 b))
def e140 (b : Blk) : FVec Ideal S1x128x128 .bf16 := (k0_pay140 (e82 b) (e86 b) (e87 b) (e88 b) (e129 b) (e130 b))
def e110 (b : Blk) : FVec Ideal S512x64 .f32 := (k0_pay110 (e84 b) (e94 b) (e95 b) (e97 b) (e99 b) (e101 b) (e103 b))
def e125 (b : Blk) : FVec Ideal S128x64 .f32 := (k0_pay125 (e110 b))
def e126 (b : Blk) : FVec Ideal S128x64 .f32 := (k0_pay126 (e110 b))
def e139 (b : Blk) : FVec Ideal S1x128x128 .bf16 := (k0_pay139 (e86 b) (e87 b) (e88 b) (e125 b) (e126 b))
def e123 (b : Blk) : FVec Ideal S128x64 .f32 := (k0_pay123 (e110 b))
def e124 (b : Blk) : FVec Ideal S128x64 .f32 := (k0_pay124 (e110 b))
def e138 (b : Blk) : FVec Ideal S1x128x128 .bf16 := (k0_pay138 (e86 b) (e87 b) (e88 b) (e123 b) (e124 b))
def e109 (b : Blk) : FVec Ideal S512x64 .f32 := (k0_pay109 (e84 b) (e93 b) (e98 b) (e100 b) (e102 b) (e104 b))
def e136 (b : Blk) : FVec Ideal S128x128 .bf16 := (k0_pay136 (e86 b) (e87 b) (e88 b) (e109 b))
def e137 (b : Blk) : FVec Ideal S1x128x128 .bf16 := (k0_pay137 (e136 b))
def e135 (b : Blk) : FVec Ideal S1x128x128 .bf16 := (k0_pay135 (e86 b) (e87 b) (e88 b) (e109 b))
def e72 (b : Blk) : FVec Ideal S128x64 .f32 := (k0_pay72 (e49 b))
def e73 (b : Blk) : FVec Ideal S128x64 .f32 := (k0_pay73 (e50 b))
def e81 (b : Blk) : FVec Ideal S1x128x128 .bf16 := (k0_pay81 b.cv (e72 b) (e73 b))
def e18 (b : Blk) : FVec Ideal S128x128 .f32 := (k0_pay18 (View.ld b.x10 (Rect.unit ![128, 0] ![128, 128] inb_S256x128_S128x128_128_0)))
def e19 (b : Blk) : FVec Ideal S128x128 .f32 := (k0_pay19 (View.ld b.x11 (Rect.unit ![128, 0] ![128, 128] inb_S256x128_S128x128_128_0)))
def e20 (b : Blk) : FVec Ideal S128x128 .f32 := (k0_pay20 (View.ld b.x12 (Rect.unit ![128, 0] ![128, 128] inb_S256x128_S128x128_128_0)))
def e68 (b : Blk) : FVec Ideal S128x64 .f32 := (k0_pay68 (e46 b))
def e69 (b : Blk) : FVec Ideal S128x64 .f32 := (k0_pay69 (e47 b))
def e79 (b : Blk) : FVec Ideal S128x128 .f32 := (k0_pay79 (e68 b) (e69 b))
def e80 (b : Blk) : FVec Ideal S1x128x128 .bf16 := (k0_pay80 b.ck (e18 b) (e19 b) (e20 b) (e79 b))
def e45 (b : Blk) : FVec Ideal S512x64 .f32 := (k0_pay45 (e16 b) (e21 b) (e24 b) (e27 b) (e29 b) (e31 b) (e33 b) (e34 b) (e35 b) (e36 b))
def e64 (b : Blk) : FVec Ideal S128x64 .f32 := (k0_pay64 (e45 b))
def e65 (b : Blk) : FVec Ideal S128x64 .f32 := (k0_pay65 (e45 b))
def e78 (b : Blk) : FVec Ideal S1x128x128 .bf16 := (k0_pay78 (e18 b) (e19 b) (e20 b) (e64 b) (e65 b))
def e62 (b : Blk) : FVec Ideal S128x64 .f32 := (k0_pay62 (e45 b))
def e63 (b : Blk) : FVec Ideal S128x64 .f32 := (k0_pay63 (e45 b))
def e77 (b : Blk) : FVec Ideal S1x128x128 .bf16 := (k0_pay77 (e18 b) (e19 b) (e20 b) (e62 b) (e63 b))
def e44 (b : Blk) : FVec Ideal S512x64 .f32 := (k0_pay44 (e16 b) (e21 b) (e23 b) (e26 b) (e28 b) (e30 b) (e32 b))
def e60 (b : Blk) : FVec Ideal S128x64 .f32 := (k0_pay60 (e44 b))
def e61 (b : Blk) : FVec Ideal S128x64 .f32 := (k0_pay61 (e44 b))
def e76 (b : Blk) : FVec Ideal S1x128x128 .bf16 := (k0_pay76 (e18 b) (e19 b) (e20 b) (e60 b) (e61 b))
def e74 (b : Blk) : FVec Ideal S128x128 .bf16 := (k0_pay74 (e18 b) (e19 b) (e20 b) (e44 b))
def e75 (b : Blk) : FVec Ideal S1x128x128 .bf16 := (k0_pay75 (e74 b))

/-- The blocks of grid point `t`, with the carried arrays named. -/
def blkOf (m : (ℓ : Loc nD τ sig) → Buf (Elt Ideal) ℓ) (c : Dev nD) (t : Fin cfg0.N) (ck cv : Vec Ideal S128x128 .f32)
    (pw : Vec Ideal S1x512 .f32) (ps : Vec Ideal S1x8 .f32) : Blk where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  ii := BitVec.ofNat 32 (grid0.coords t 1 : ℕ)
  ck := ck
  cv := cv
  pw := pw
  ps := ps

end Cert.Body
-- ==== Proof.Re.lean ====
/-
  Arrays of real numbers among the extended reals, read by natural coordinates: `R2 x X` says that the rank-two array
  `x` holds the real number `X i j` at `(i, j)`. Each operation of a block body has one lemma that carries such a reading
  from its operands to its result.
-/
module

public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value
public import Idealize.ShloMosaic.Lib.Pipeline.ValueKit.Tiles
public import Idealize.ShloMosaic.PureOps.Ideal.Laws

@[expose] public section

namespace Cert.Re

open Idealize.ShloMosaic Idealize.ShloMosaic.ValueIdx
open scoped BigOperators

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of real entries. -/
theorem sum_fin {n : ℕ} (f : Fin n → EReal) (g : ℕ → ℝ) (h : ∀ k : Fin n, f k = ((g k : ℝ) : EReal)) :
    ∑ k, f k = ((∑ k ∈ Finset.range n, g k : ℝ) : EReal) := by
  rw [Finset.sum_range, coe_sum]; exact Finset.sum_congr rfl fun k _ => h k

variable {a b c d e f : ℕ} {φ ψ : FTy}

/-- A single extended real that is the real number `r`. -/
def R0 (x : EReal) (r : ℝ) : Prop := x = ((r : ℝ) : EReal)
def R1 (x : (⟨1, ![a]⟩ : Shape).Idx → EReal) (X : ℕ → ℝ) : Prop := ∀ i : Fin a, x (ix1 i) = ((X i : ℝ) : EReal)
def R2 (x : (⟨2, ![a, b]⟩ : Shape).Idx → EReal) (X : ℕ → ℕ → ℝ) : Prop :=
  ∀ (i : Fin a) (j : Fin b), x (ix2 i j) = ((X i j : ℝ) : EReal)
def R3 (x : (⟨3, ![a, b, c]⟩ : Shape).Idx → EReal) (X : ℕ → ℕ → ℕ → ℝ) : Prop :=
  ∀ (i : Fin a) (j : Fin b) (k : Fin c), x (ix3 i j k) = ((X i j k : ℝ) : EReal)
def R4 (x : (⟨4, ![a, b, c, d]⟩ : Shape).Idx → EReal) (X : ℕ → ℕ → ℕ → ℕ → ℝ) : Prop :=
  ∀ (i : Fin a) (j : Fin b) (k : Fin c) (l : Fin d), x (ix4 i j k l) = ((X i j k l : ℝ) : EReal)
def R5 (x : (⟨5, ![a, b, c, d, e]⟩ : Shape).Idx → EReal) (X : ℕ → ℕ → ℕ → ℕ → ℕ → ℝ) : Prop :=
  ∀ (i : Fin a) (j : Fin b) (k : Fin c) (l : Fin d) (p : Fin e), x (ix5 i j k l p) = ((X i j k l p : ℝ) : EReal)
/-- A mask that is set where `P` holds. -/
def M2 (x : IVec ⟨2, ![a, b]⟩ 1) (P : ℕ → ℕ → Prop) : Prop := ∀ (i : Fin a) (j : Fin b), x (ix2 i j) = 1#1 ↔ P i j
/-- Words that hold a natural number. -/
def L2 (x : IVec ⟨2, ![a, b]⟩ 32) (N : ℕ → ℕ → ℕ) : Prop := ∀ (i : Fin a) (j : Fin b), x (ix2 i j) = BitVec.ofNat 32 (N i j)

section Two
variable {x y : (⟨2, ![a, b]⟩ : Shape).Idx → EReal} {X Y : ℕ → ℕ → ℝ}

theorem R2.congr (h : R2 x X) (e : ∀ i < a, ∀ j < b, X i j = Y i j) : R2 x Y := fun i j => by
  rw [h i j, e i i.isLt j j.isLt]

theorem R2.mulf {x y : FVec Ideal ⟨2, ![a, b]⟩ φ} (h : R2 x X) (k : R2 y Y) : R2 (mulf x y) fun i j => X i j * Y i j :=
  fun i j => by rw [mulf_apply, h i j, k i j, EReal.coe_mul]

theorem R2.addf {x y : FVec Ideal ⟨2, ![a, b]⟩ φ} (h : R2 x X) (k : R2 y Y) : R2 (addf x y) fun i j => X i j + Y i j :=
  fun i j => by rw [addf_apply, h i j, k i j, EReal.coe_add]

theorem R2.subf {x y : FVec Ideal ⟨2, ![a, b]⟩ φ} (h : R2 x X) (k : R2 y Y) : R2 (subf x y) fun i j => X i j - Y i j :=
  fun i j => by rw [subf_apply, h i j, k i j, EReal.coe_sub]

theorem R2.trunc {x : FVec Ideal ⟨2, ![a, b]⟩ φ} (h : R2 x X) (hb : ψ.bits < φ.bits) :
    R2 (truncf ψ x hb : FVec Ideal ⟨2, ![a, b]⟩ ψ) X := h

theorem R2.ext {x : FVec Ideal ⟨2, ![a, b]⟩ φ} (h : R2 x X) (hb : φ.bits < ψ.bits) :
    R2 (extf ψ x hb : FVec Ideal ⟨2, ![a, b]⟩ ψ) X := h

theorem R2.exp {x : FVec Ideal ⟨2, ![a, b]⟩ φ} (h : R2 x X) : R2 (exp x) fun i j => Real.exp (X i j) :=
  fun i j => by show Ideal.exp (x (ix2 i j)) = _; rw [h i j, Ideal.exp_coe]

theorem R2.rsqrt {x : FVec Ideal ⟨2, ![a, b]⟩ φ} (h : R2 x X) (hp : ∀ i < a, ∀ j < b, 0 < X i j) :
    R2 (rsqrt x) fun i j => (Real.sqrt (X i j))⁻¹ := fun i j => by
  have := hp i i.isLt j j.isLt
  show Ideal.rsqrt (x (ix2 i j)) = _
  rw [h i j, Ideal.rsqrt_coe, if_neg (not_lt.2 this.le), if_neg this.ne']

theorem R2.divf {x y : FVec Ideal ⟨2, ![a, b]⟩ φ} (h : R2 x X) (k : R2 y Y) (hy : ∀ i < a, ∀ j < b, Y i j ≠ 0) :
    R2 (divf x y) fun i j => X i j / Y i j := fun i j => by
  rw [divf_apply, h i j, k i j, Ideal.div_coe (hy i i.isLt j j.isLt), ← EReal.coe_mul, mul_one_div]

theorem R2.bcast {v : EReal} {r : ℝ} (h : v = ((r : ℝ) : EReal)) : R2 (broadcast ⟨2, ![a, b]⟩ v) fun _ _ => r :=
  fun _ _ => h

theorem R2.cast (h : R2 x X) (hc : (⟨2, ![a, b]⟩ : Shape).ShapeCasts ⟨2, ![a, b]⟩) : R2 (shapeCast ⟨2, ![a, b]⟩ x hc) X :=
  fun i j => by rw [shapeCast_apply x hc (ix2 i j) (ix2 i j) rfl, h i j]

theorem R2.lift (h : R2 x X) (hc : (⟨2, ![a, b]⟩ : Shape).ShapeCasts ⟨3, ![1, a, b]⟩) :
    R3 (shapeCast ⟨3, ![1, a, b]⟩ x hc) fun _ i j => X i j :=
  fun u i j => by rw [shapeCast_ab_1ab_apply, h i j]

theorem R2.transpose (h : R2 x X) (ht : (⟨2, ![a, b]⟩ : Shape).Transposes [1, 0] ⟨2, ![b, a]⟩) :
    R2 (transpose ⟨2, ![b, a]⟩ [1, 0] x ht) fun i j => X j i :=
  fun i j => by rw [transpose_ix2_apply, h j i]

theorem R2.slice (h : R2 x X) {o p m n : ℕ} (hs : (⟨2, ![a, b]⟩ : Shape).Slices ![o, p] ⟨2, ![m, n]⟩) :
    R2 (extractStridedSlice ⟨2, ![m, n]⟩ ![o, p] x hs) fun i j => X (o + i) (p + j) := fun i j => by
  have h0 : o + m ≤ a := hs.2 0
  have h1 : p + n ≤ b := hs.2 1
  rw [extractStridedSlice_apply _ _ hs (ix2 i j) (ix2 ⟨o + i, by omega⟩ ⟨p + j, by omega⟩)
    (fun ax => by match ax with | ⟨0, _⟩ => rfl | ⟨1, _⟩ => rfl)]
  exact h _ _

theorem R2.red1 {x : FVec Ideal ⟨2, ![a, b]⟩ φ} (h : R2 x X) {acc : BitVec φ.bits}
    (hr : (⟨2, ![a, b]⟩ : Shape).Reduces [1] ⟨1, ![a]⟩) (hφ : FKind.Formats φ) (hacc : acc = FKind.add.neutral φ hφ) :
    R1 (multiReduction .add [1] ⟨1, ![a]⟩ x acc hr hφ hacc) fun i => ∑ j ∈ Finset.range b, X i j := fun i => by
  rw [Ideal.multiReduction_add_single]
  refine sum_fin _ _ fun k => ?_
  rw [← h i k]; congr 1
  funext ax; apply Fin.ext
  match ax with | ⟨0, _⟩ => rfl | ⟨1, _⟩ => rfl

theorem R2.red0 {x : FVec Ideal ⟨2, ![a, b]⟩ φ} (h : R2 x X) {acc : BitVec φ.bits}
    (hr : (⟨2, ![a, b]⟩ : Shape).Reduces [0] ⟨1, ![b]⟩) (hφ : FKind.Formats φ) (hacc : acc = FKind.add.neutral φ hφ) :
    R1 (multiReduction .add [0] ⟨1, ![b]⟩ x acc hr hφ hacc) fun j => ∑ i ∈ Finset.range a, X i j := fun j => by
  rw [Ideal.multiReduction_add_single]
  refine sum_fin _ _ fun k => ?_
  rw [← h k j]; congr 1
  funext ax; apply Fin.ext
  match ax with | ⟨0, _⟩ => rfl | ⟨1, _⟩ => rfl

theorem R1.col {x : (⟨1, ![a]⟩ : Shape).Idx → EReal} {X : ℕ → ℝ} (h : R1 x X)
    (hc : (⟨1, ![a]⟩ : Shape).ShapeCasts ⟨2, ![a, 1]⟩) : R2 (shapeCast ⟨2, ![a, 1]⟩ x hc) fun i _ => X i :=
  fun i j => by rw [shapeCast_a_a1_apply, h i]

theorem R1.row {x : (⟨1, ![a]⟩ : Shape).Idx → EReal} {X : ℕ → ℝ} (h : R1 x X)
    (hc : (⟨1, ![a]⟩ : Shape).ShapeCasts ⟨2, ![1, a]⟩) : R2 (shapeCast ⟨2, ![1, a]⟩ x hc) fun _ j => X j :=
  fun i j => by rw [shapeCast_a_1a_apply, h j]

theorem R2.bcol {x : (⟨2, ![a, 1]⟩ : Shape).Idx → EReal} (h : R2 x X)
    (hb : (⟨2, ![a, 1]⟩ : Shape).Broadcasts ⟨2, ![a, b]⟩) : R2 (broadcastTo ⟨2, ![a, b]⟩ x hb) fun i _ => X i 0 := fun i j => by
  have e : broadcastTo ⟨2, ![a, b]⟩ x hb (ix2 i j) = x (ix2 i (0 : Fin 1)) := by
    refine broadcastTo_apply x hb (ix2 i j) (ix2 i (0 : Fin 1)) fun ax => ?_
    match ax with
    | ⟨0, _⟩ =>
      show i.val = if a = 1 then 0 else i.val
      by_cases h1 : a = 1
      · have := i.isLt; rw [if_pos h1]; omega
      · rw [if_neg h1]
    | ⟨1, _⟩ => rfl
  rw [e, h i 0]; rfl

theorem R2.brow {x : (⟨2, ![1, b]⟩ : Shape).Idx → EReal} (h : R2 x X)
    (hb : (⟨2, ![1, b]⟩ : Shape).Broadcasts ⟨2, ![a, b]⟩) : R2 (broadcastTo ⟨2, ![a, b]⟩ x hb) fun _ j => X 0 j := fun i j => by
  rw [broadcastTo_1b_ab_apply, h 0 j]; rfl

end Two

section Drop
theorem R3.drop {x : (⟨3, ![1, a, b]⟩ : Shape).Idx → EReal} {X : ℕ → ℕ → ℕ → ℝ} (h : R3 x X)
    (hc : (⟨3, ![1, a, b]⟩ : Shape).ShapeCasts ⟨2, ![a, b]⟩) : R2 (shapeCast ⟨2, ![a, b]⟩ x hc) fun i j => X 0 i j :=
  fun i j => by rw [shapeCast_1ab_ab_apply, h 0 i j]; rfl

theorem R4.drop {x : (⟨4, ![1, 1, a, b]⟩ : Shape).Idx → EReal} {X : ℕ → ℕ → ℕ → ℕ → ℝ} (h : R4 x X)
    (hc : (⟨4, ![1, 1, a, b]⟩ : Shape).ShapeCasts ⟨2, ![a, b]⟩) : R2 (shapeCast ⟨2, ![a, b]⟩ x hc) fun i j => X 0 0 i j :=
  fun i j => by
    rw [shapeCast_apply x hc (ix2 i j) (ix4 (0 : Fin 1) (0 : Fin 1) i j) (by
      rw [Shape.rowMajor_val_four, Shape.rowMajor_val_two]
      show ((0 * 1 + 0) * a + i.val) * b + j.val = i.val * b + j.val
      simp), h 0 0 i j]; rfl

theorem R5.drop {x : (⟨5, ![1, 1, 1, a, b]⟩ : Shape).Idx → EReal} {X : ℕ → ℕ → ℕ → ℕ → ℕ → ℝ} (h : R5 x X)
    (hc : (⟨5, ![1, 1, 1, a, b]⟩ : Shape).ShapeCasts ⟨2, ![a, b]⟩) : R2 (shapeCast ⟨2, ![a, b]⟩ x hc) fun i j => X 0 0 0 i j :=
  fun i j => by
    rw [shapeCast_apply x hc (ix2 i j) (ix5 (0 : Fin 1) (0 : Fin 1) (0 : Fin 1) i j) (by
      rw [Shape.rowMajor_val_five, Shape.rowMajor_val_two]
      show (((0 * 1 + 0) * 1 + 0) * a + i.val) * b + j.val = i.val * b + j.val
      simp), h 0 0 0 i j]; rfl
end Drop

section Loads

theorem R2.ld {x : (⟨2, ![a, b]⟩ : Shape).Idx → EReal} {X : ℕ → ℕ → ℝ} (h : R2 x X) {o0 o1 m0 m1 : ℕ}
    (inb : ∀ ax, (![o0, o1] : Fin 2 → ℕ) ax + (![m0, m1] : Fin 2 → ℕ) ax ≤ (⟨2, ![a, b]⟩ : Shape).size ax) :
    R2 (fun w => x ((Rect.unit (s := ⟨2, ![a, b]⟩) ![o0, o1] ![m0, m1] inb).idx w)) fun i j => X (o0 + i) (o1 + j) := fun i j => by
  have h0 : o0 + m0 ≤ a := inb 0
  have h1 : o1 + m1 ≤ b := inb 1
  rw [← h ⟨o0 + i, by omega⟩ ⟨o1 + j, by omega⟩]
  refine congrArg x (funext fun ax => Fin.ext ?_)
  rw [Rect.idx_unit_val]
  match ax with | ⟨0, _⟩ => rfl | ⟨1, _⟩ => rfl

theorem R3.ld {x : (⟨3, ![a, b, c]⟩ : Shape).Idx → EReal} {X : ℕ → ℕ → ℕ → ℝ} (h : R3 x X) {o0 o1 o2 m0 m1 m2 : ℕ}
    (inb : ∀ ax, (![o0, o1, o2] : Fin 3 → ℕ) ax + (![m0, m1, m2] : Fin 3 → ℕ) ax ≤ (⟨3, ![a, b, c]⟩ : Shape).size ax) :
    R3 (fun w => x ((Rect.unit (s := ⟨3, ![a, b, c]⟩) ![o0, o1, o2] ![m0, m1, m2] inb).idx w)) fun i j k => X (o0 + i) (o1 + j) (o2 + k) := fun i j k => by
  have h0 : o0 + m0 ≤ a := inb 0
  have h1 : o1 + m1 ≤ b := inb 1
  have h2 : o2 + m2 ≤ c := inb 2
  rw [← h ⟨o0 + i, by omega⟩ ⟨o1 + j, by omega⟩ ⟨o2 + k, by omega⟩]
  refine congrArg x (funext fun ax => Fin.ext ?_)
  rw [Rect.idx_unit_val]
  match ax with | ⟨0, _⟩ => rfl | ⟨1, _⟩ => rfl | ⟨2, _⟩ => rfl

theorem R4.ld {x : (⟨4, ![a, b, c, d]⟩ : Shape).Idx → EReal} {X : ℕ → ℕ → ℕ → ℕ → ℝ} (h : R4 x X) {o0 o1 o2 o3 m0 m1 m2 m3 : ℕ}
    (inb : ∀ ax, (![o0, o1, o2, o3] : Fin 4 → ℕ) ax + (![m0, m1, m2, m3] : Fin 4 → ℕ) ax ≤ (⟨4, ![a, b, c, d]⟩ : Shape).size ax) :
    R4 (fun w => x ((Rect.unit (s := ⟨4, ![a, b, c, d]⟩) ![o0, o1, o2, o3] ![m0, m1, m2, m3] inb).idx w)) fun i j k l => X (o0 + i) (o1 + j) (o2 + k) (o3 + l) := fun i j k l => by
  have h0 : o0 + m0 ≤ a := inb 0
  have h1 : o1 + m1 ≤ b := inb 1
  have h2 : o2 + m2 ≤ c := inb 2
  have h3 : o3 + m3 ≤ d := inb 3
  rw [← h ⟨o0 + i, by omega⟩ ⟨o1 + j, by omega⟩ ⟨o2 + k, by omega⟩ ⟨o3 + l, by omega⟩]
  refine congrArg x (funext fun ax => Fin.ext ?_)
  rw [Rect.idx_unit_val]
  match ax with | ⟨0, _⟩ => rfl | ⟨1, _⟩ => rfl | ⟨2, _⟩ => rfl | ⟨3, _⟩ => rfl

theorem R5.ld {x : (⟨5, ![a, b, c, d, e]⟩ : Shape).Idx → EReal} {X : ℕ → ℕ → ℕ → ℕ → ℕ → ℝ} (h : R5 x X) {o0 o1 o2 o3 o4 m0 m1 m2 m3 m4 : ℕ}
    (inb : ∀ ax, (![o0, o1, o2, o3, o4] : Fin 5 → ℕ) ax + (![m0, m1, m2, m3, m4] : Fin 5 → ℕ) ax ≤ (⟨5, ![a, b, c, d, e]⟩ : Shape).size ax) :
    R5 (fun w => x ((Rect.unit (s := ⟨5, ![a, b, c, d, e]⟩) ![o0, o1, o2, o3, o4] ![m0, m1, m2, m3, m4] inb).idx w)) fun i j k l p => X (o0 + i) (o1 + j) (o2 + k) (o3 + l) (o4 + p) := fun i j k l p => by
  have h0 : o0 + m0 ≤ a := inb 0
  have h1 : o1 + m1 ≤ b := inb 1
  have h2 : o2 + m2 ≤ c := inb 2
  have h3 : o3 + m3 ≤ d := inb 3
  have h4 : o4 + m4 ≤ e := inb 4
  rw [← h ⟨o0 + i, by omega⟩ ⟨o1 + j, by omega⟩ ⟨o2 + k, by omega⟩ ⟨o3 + l, by omega⟩ ⟨o4 + p, by omega⟩]
  refine congrArg x (funext fun ax => Fin.ext ?_)
  rw [Rect.idx_unit_val]
  match ax with | ⟨0, _⟩ => rfl | ⟨1, _⟩ => rfl | ⟨2, _⟩ => rfl | ⟨3, _⟩ => rfl | ⟨4, _⟩ => rfl

end Loads

section Products
variable {X Y : ℕ → ℕ → ℝ}

theorem zero_acc {s : Shape} (i : s.Idx) : constant (F := Ideal) s .f32 0x00000000#32 i = 0 := by
  rw [constant_apply]; exact Ideal.ofBits_zero_f32

theorem R2.matNN {x : FVec Ideal ⟨2, ![a, b]⟩ φ} {y : FVec Ideal ⟨2, ![b, c]⟩ ψ} (h : R2 x X) (k : R2 y Y)
    (prec : Option ContractPrecision) :
    R2 (FloatOps.matmul (DotDims.plain a b c) prec x y (constant ⟨2, ![a, c]⟩ .f32 0x00000000#32))
      fun i j => ∑ l ∈ Finset.range b, X i l * Y l j := fun i j => by
  rw [Ideal.matmul_plain_apply, zero_acc, zero_add]
  exact sum_fin _ _ fun l => by rw [h i l, k l j, EReal.coe_mul]

theorem R2.matNT {x : FVec Ideal ⟨2, ![a, b]⟩ φ} {y : FVec Ideal ⟨2, ![c, b]⟩ ψ} (h : R2 x X) (k : R2 y Y)
    (prec : Option ContractPrecision) :
    R2 (FloatOps.matmul (DotDims.transposedRhs a b c) prec x y (constant ⟨2, ![a, c]⟩ .f32 0x00000000#32))
      fun i j => ∑ l ∈ Finset.range b, X i l * Y j l := fun i j => by
  rw [Ideal.matmul_transposedRhs_apply, zero_acc, zero_add]
  exact sum_fin _ _ fun l => by rw [h i l, k j l, EReal.coe_mul]

/-- A product that contracts the leading axis of both operands. -/
def lead (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp,
    (by decide : (([] ++ [1] ++ [0] : List (Fin 2))).Perm (List.finRange 2)),
    (by decide : (([] ++ [1] ++ [0] : List (Fin 2))).Perm (List.finRange 2)),
    rfl, by show 0 < 2; decide, fun a => by fin_cases a <;> rfl⟩

theorem R2.matTN {x : FVec Ideal ⟨2, ![b, a]⟩ φ} {y : FVec Ideal ⟨2, ![b, c]⟩ ψ} (h : R2 x X) (k : R2 y Y)
    (prec : Option ContractPrecision) :
    R2 (FloatOps.matmul (lead a b c) prec x y (constant ⟨2, ![a, c]⟩ .f32 0x00000000#32))
      fun i j => ∑ l ∈ Finset.range b, X l i * Y l j := fun i j => by
  rw [Ideal.matmul_apply, zero_acc, zero_add,
    ← Equiv.sum_comp (contrEquiv1 (lead a b c) b rfl rfl).symm]
  refine sum_fin _ _ fun l => ?_
  have hk := contrEquiv1_symm_val (lead a b c) b rfl rfl l
  have el : (lead a b c).lhsIdx (ix2 i j) ((contrEquiv1 (lead a b c) b rfl rfl).symm l) = ix2 l i := by
    funext ax; apply Fin.ext
    match ax with
    | ⟨0, _⟩ => exact hk
    | ⟨1, _⟩ => rfl
  have er : (lead a b c).rhsIdx (ix2 i j) ((contrEquiv1 (lead a b c) b rfl rfl).symm l) = ix2 l j := by
    funext ax; apply Fin.ext
    match ax with
    | ⟨0, _⟩ => exact hk
    | ⟨1, _⟩ => rfl
  rw [el, er, h l i, k l j, EReal.coe_mul]

end Products

section Pieces

theorem take_sum {t : Shape} (ax : Fin t.rank) (xs : List ((s : Shape) × (s.Idx → EReal))) (n : ℕ)
    (H : ∀ p ∈ xs, (if h : p.1.rank = t.rank then p.1.size (ax.cast h.symm) else 0) = n) (k : ℕ) (hk : k ≤ xs.length) :
    (((xs.take k).map (·.1)).map fun s => if h : s.rank = t.rank then s.size (ax.cast h.symm) else 0).sum = k * n := by
  induction xs generalizing k with
  | nil => have : k = 0 := by simpa using hk
           subst this; simp
  | cons p xs ih =>
    cases k with
    | zero => simp
    | succ k =>
      have h1 := H p (by simp)
      have h2 := ih (fun q hq => H q (by simp [hq])) k (by simpa using hk)
      rw [List.take_succ_cons, List.map_cons, List.map_cons, List.sum_cons, h2]
      rw [show (if h : p.fst.rank = t.rank then p.fst.size (ax.cast h.symm) else 0) = n from h1]
      ring

theorem cat0 {n N : ℕ} (xs : List ((s : Shape) × (s.Idx → EReal))) (hc : Shape.Concatenates (xs.map (·.1)) ⟨2, ![N, b]⟩ 0)
    (G : ℕ → ℕ → ℕ → ℝ) (hN : N = xs.length * n)
    (H : ∀ k (hk : k < xs.length), ∃ x : (⟨2, ![n, b]⟩ : Shape).Idx → EReal, xs[k] = ⟨⟨2, ![n, b]⟩, x⟩ ∧ R2 x (G k)) :
    R2 (concatenate ⟨2, ![N, b]⟩ 0 xs hc) fun i j => G (i / n) (i % n) j := fun i j => by
  have hi := i.isLt
  have hn : 0 < n := by
    rcases Nat.eq_zero_or_pos n with h | h
    · subst h; omega
    · exact h
  have hk : i.val / n < xs.length := (Nat.div_lt_iff_lt_mul hn).2 (by omega)
  obtain ⟨x, hx, hG⟩ := H (i / n) hk
  have hm : i.val % n < n := Nat.mod_lt _ hn
  rw [concatenate_apply_piece (t := ⟨2, ![N, b]⟩) 0 xs hc (ix2 i j) (i / n) hk _ x hx rfl (i / n * n)
      (take_sum _ _ n (fun p hp => by
        obtain ⟨q, hq, rfl⟩ := List.mem_iff_getElem.1 hp
        obtain ⟨y, hy, _⟩ := H q hq
        rw [hy]; rfl) _ hk.le) (ix2 ⟨i % n, hm⟩ j)
      (fun ax => by match ax with | ⟨1, _⟩ => exact fun _ => rfl | ⟨0, _⟩ => exact fun h => absurd rfl h)
      (Nat.div_add_mod' i n)]
  exact hG ⟨i % n, hm⟩ j

theorem cat1 {n N : ℕ} (xs : List ((s : Shape) × (s.Idx → EReal))) (hc : Shape.Concatenates (xs.map (·.1)) ⟨2, ![a, N]⟩ 1)
    (G : ℕ → ℕ → ℕ → ℝ) (hN : N = xs.length * n)
    (H : ∀ k (hk : k < xs.length), ∃ x : (⟨2, ![a, n]⟩ : Shape).Idx → EReal, xs[k] = ⟨⟨2, ![a, n]⟩, x⟩ ∧ R2 x (G k)) :
    R2 (concatenate ⟨2, ![a, N]⟩ 1 xs hc) fun i j => G (j / n) i (j % n) := fun i j => by
  have hi := j.isLt
  have hn : 0 < n := by
    rcases Nat.eq_zero_or_pos n with h | h
    · subst h; omega
    · exact h
  have hk : j.val / n < xs.length := (Nat.div_lt_iff_lt_mul hn).2 (by omega)
  obtain ⟨x, hx, hG⟩ := H (j / n) hk
  have hm : j.val % n < n := Nat.mod_lt _ hn
  rw [concatenate_apply_piece (t := ⟨2, ![a, N]⟩) 1 xs hc (ix2 i j) (j / n) hk _ x hx rfl (j / n * n)
      (take_sum _ _ n (fun p hp => by
        obtain ⟨q, hq, rfl⟩ := List.mem_iff_getElem.1 hp
        obtain ⟨y, hy, _⟩ := H q hq
        rw [hy]; rfl) _ hk.le) (ix2 i ⟨j % n, hm⟩)
      (fun ax => by match ax with | ⟨0, _⟩ => exact fun _ => rfl | ⟨1, _⟩ => exact fun h => absurd rfl h)
      (Nat.div_add_mod' j n)]
  exact hG i ⟨j % n, hm⟩

theorem R2.cat0_2 {n N : ℕ} {x y : (⟨2, ![n, b]⟩ : Shape).Idx → EReal} (G : ℕ → ℕ → ℕ → ℝ)
    (hx : R2 x (G 0)) (hy : R2 y (G 1)) (hN : N = 2 * n)
    (hc : Shape.Concatenates [⟨2, ![n, b]⟩, ⟨2, ![n, b]⟩] ⟨2, ![N, b]⟩ 0) :
    R2 (concatenate ⟨2, ![N, b]⟩ 0 [⟨⟨2, ![n, b]⟩, x⟩, ⟨⟨2, ![n, b]⟩, y⟩] hc) fun i j => G (i / n) (i % n) j :=
  cat0 [⟨⟨2, ![n, b]⟩, x⟩, ⟨⟨2, ![n, b]⟩, y⟩] hc G hN fun k hk => match k, hk with
    | 0, _ => ⟨x, rfl, hx⟩
    | 1, _ => ⟨y, rfl, hy⟩
    | k + 2, hk => absurd hk (by simp)

theorem R2.cat1_2 {n N : ℕ} {x y : (⟨2, ![a, n]⟩ : Shape).Idx → EReal} (G : ℕ → ℕ → ℕ → ℝ)
    (hx : R2 x (G 0)) (hy : R2 y (G 1)) (hN : N = 2 * n)
    (hc : Shape.Concatenates [⟨2, ![a, n]⟩, ⟨2, ![a, n]⟩] ⟨2, ![a, N]⟩ 1) :
    R2 (concatenate ⟨2, ![a, N]⟩ 1 [⟨⟨2, ![a, n]⟩, x⟩, ⟨⟨2, ![a, n]⟩, y⟩] hc) fun i j => G (j / n) i (j % n) :=
  cat1 [⟨⟨2, ![a, n]⟩, x⟩, ⟨⟨2, ![a, n]⟩, y⟩] hc G hN fun k hk => match k, hk with
    | 0, _ => ⟨x, rfl, hx⟩
    | 1, _ => ⟨y, rfl, hy⟩
    | k + 2, hk => absurd hk (by simp)

theorem R2.cat0_4 {n N : ℕ} {x y z w : (⟨2, ![n, b]⟩ : Shape).Idx → EReal} (G : ℕ → ℕ → ℕ → ℝ)
    (hx : R2 x (G 0)) (hy : R2 y (G 1)) (hz : R2 z (G 2)) (hw : R2 w (G 3)) (hN : N = 4 * n)
    (hc : Shape.Concatenates [⟨2, ![n, b]⟩, ⟨2, ![n, b]⟩, ⟨2, ![n, b]⟩, ⟨2, ![n, b]⟩] ⟨2, ![N, b]⟩ 0) :
    R2 (concatenate ⟨2, ![N, b]⟩ 0 [⟨⟨2, ![n, b]⟩, x⟩, ⟨⟨2, ![n, b]⟩, y⟩, ⟨⟨2, ![n, b]⟩, z⟩, ⟨⟨2, ![n, b]⟩, w⟩] hc)
      fun i j => G (i / n) (i % n) j :=
  cat0 [⟨⟨2, ![n, b]⟩, x⟩, ⟨⟨2, ![n, b]⟩, y⟩, ⟨⟨2, ![n, b]⟩, z⟩, ⟨⟨2, ![n, b]⟩, w⟩] hc G hN fun k hk => match k, hk with
    | 0, _ => ⟨x, rfl, hx⟩
    | 1, _ => ⟨y, rfl, hy⟩
    | 2, _ => ⟨z, rfl, hz⟩
    | 3, _ => ⟨w, rfl, hw⟩
    | k + 4, hk => absurd hk (by simp)

theorem R2.cat1_4 {n N : ℕ} {x y z w : (⟨2, ![a, n]⟩ : Shape).Idx → EReal} (G : ℕ → ℕ → ℕ → ℝ)
    (hx : R2 x (G 0)) (hy : R2 y (G 1)) (hz : R2 z (G 2)) (hw : R2 w (G 3)) (hN : N = 4 * n)
    (hc : Shape.Concatenates [⟨2, ![a, n]⟩, ⟨2, ![a, n]⟩, ⟨2, ![a, n]⟩, ⟨2, ![a, n]⟩] ⟨2, ![a, N]⟩ 1) :
    R2 (concatenate ⟨2, ![a, N]⟩ 1 [⟨⟨2, ![a, n]⟩, x⟩, ⟨⟨2, ![a, n]⟩, y⟩, ⟨⟨2, ![a, n]⟩, z⟩, ⟨⟨2, ![a, n]⟩, w⟩] hc)
      fun i j => G (j / n) i (j % n) :=
  cat1 [⟨⟨2, ![a, n]⟩, x⟩, ⟨⟨2, ![a, n]⟩, y⟩, ⟨⟨2, ![a, n]⟩, z⟩, ⟨⟨2, ![a, n]⟩, w⟩] hc G hN fun k hk => match k, hk with
    | 0, _ => ⟨x, rfl, hx⟩
    | 1, _ => ⟨y, rfl, hy⟩
    | 2, _ => ⟨z, rfl, hz⟩
    | 3, _ => ⟨w, rfl, hw⟩
    | k + 4, hk => absurd hk (by simp)

end Pieces

section Rotate
theorem R2.rot {x : (⟨2, ![a, b]⟩ : Shape).Idx → EReal} {X : ℕ → ℕ → ℝ} (h : R2 x X) (n : BitVec 32)
    (hr : (⟨2, ![a, b]⟩ : Shape).Rotates 1 none) :
    R2 (dynamicRotate (s := ⟨2, ![a, b]⟩) 1 n none x hr) fun i j => X i ((j + b - n.toNat % b) % b) := fun i j => by
  have hb : 0 < b := by have := j.isLt; omega
  rw [← h i ⟨(j + b - n.toNat % b) % b, Nat.mod_lt _ hb⟩]
  refine congrArg x (funext fun ax => Fin.ext ?_)
  match ax with | ⟨0, _⟩ => rfl | ⟨1, _⟩ => rfl
end Rotate

section Masks
theorem R2.select {c : IVec ⟨2, ![a, b]⟩ 1} {P : ℕ → ℕ → Prop} [∀ i j, Decidable (P i j)] (hc : M2 c P)
    {x y : (⟨2, ![a, b]⟩ : Shape).Idx → EReal} {X Y : ℕ → ℕ → ℝ} (hx : R2 x X) (hy : R2 y Y) :
    R2 (select c x y) fun i j => if P i j then X i j else Y i j := fun i j => by
  rw [select_apply]
  by_cases h : P i j
  · rw [(hc i j).2 h, hx i j]; simp [Scalar.select, h]
  · have h' : ¬ c (ix2 i j) = 1#1 := fun q => h ((hc i j).1 q)
    rw [hy i j]; simp [Scalar.select, h, h']
end Masks

end Cert.Re
-- ==== Proof.Spec.lean ====
/-
  The backward of one pair of query blocks over real numbers: what one grid point computes of its window blocks.
-/
module

public import proofs.«01_k».proof.Proof.Re

@[expose] public section

noncomputable section

namespace Cert.Spec

open Idealize.ShloMosaic
open scoped BigOperators

/-- The constant the variance is offset by. -/
def eps : ℝ := (Ideal.ofBits .f32 0x358637BD#32).toReal

def rstd (X : ℕ → ℕ → ℝ) (i : ℕ) : ℝ := (Real.sqrt ((∑ j ∈ Finset.range 512, X i j * X i j) / 512 + eps))⁻¹
def on (X : ℕ → ℕ → ℝ) (i j : ℕ) : ℝ := X i j * rstd X i
/-- The gradient of the attention's output before its norm. -/
def gdo (W : ℕ → ℝ) (X A : ℕ → ℕ → ℝ) (i j : ℕ) : ℝ :=
  rstd X i * (A i j * W j - on X i j * ((∑ c ∈ Finset.range 512, A i c * W c * on X i c) / 512))
/-- The dot product of a head's output gradient with its output. -/
def hsum (O X : ℕ → ℕ → ℝ) (i h : ℕ) : ℝ :=
  ∑ c ∈ Finset.range 512, (if c / 64 = h then 1 else 0) * (O i c * X i c)

/-- The real numbers of one grid point's blocks. -/
structure Pt where
  SK : ℕ → ℝ
  DA : ℕ → ℕ → ℝ
  RAW : ℕ → ℕ → ℝ
  W : ℕ → ℝ
  QH : ℕ → ℕ → ℕ → ℕ → ℝ
  KC : ℕ → ℕ → ℕ → ℝ
  KP : ℕ → ℕ → ℕ → ℝ
  VC : ℕ → ℕ → ℕ → ℝ
  VP : ℕ → ℕ → ℕ → ℝ
  LSE : ℕ → ℕ → ℝ
  C : ℕ → ℕ → ℝ
  U : ℕ → ℕ → ℝ
  D : ℕ → ℕ → ℝ
  MF : ℕ → ℕ → Bool
  M0 : ℕ → ℕ → Bool
  n : ℕ
  CK : ℕ → ℕ → ℝ
  CV : ℕ → ℕ → ℝ
  PW : ℕ → ℝ
  PS : ℕ → ℝ

namespace Pt
variable (p : Pt)

def DO (i j : ℕ) : ℝ := gdo p.W p.RAW p.DA i j
def dsm (i h : ℕ) : ℝ := hsum p.DO p.RAW i h
def key (b g j d : ℕ) : ℝ := if b = 1 then p.KC g j d else if j / 128 = 0 then p.KP g (j % 128) d else p.KC g (j % 128) d
def val (b g j d : ℕ) : ℝ := if b = 1 then p.VC g j d else if j / 128 = 0 then p.VP g (j % 128) d else p.VC g (j % 128) d
def dob (b g r d : ℕ) : ℝ := p.DO (128 * b + r % 128) (64 * (4 * g + r / 128) + d)
def lseb (b g r : ℕ) : ℝ := p.LSE (128 * b + r % 128) (4 * g + r / 128)
def dsb (b g r : ℕ) : ℝ := p.dsm (128 * b + r % 128) (4 * g + r / 128)
def msk (b j r : ℕ) : Bool := if b = 1 then p.MF j r else if p.n < 7 then p.MF j r else p.M0 j r
def P (b g j r : ℕ) : ℝ :=
  if p.msk b j r then Real.exp ((∑ d ∈ Finset.range 64, p.key b g j d * p.QH b g r d) * (1 / 8) - p.lseb b g r) else 0
def DS (b g j r : ℕ) : ℝ :=
  p.P b g j r * ((∑ d ∈ Finset.range 64, p.val b g j d * p.dob b g r d) - p.dsb b g r) * (1 / 8)
def DQ (b g r d : ℕ) : ℝ := ∑ j ∈ Finset.range 256, p.DS b g j r * p.key b g j d
def DK (b g j d : ℕ) : ℝ := ∑ r ∈ Finset.range 512, p.DS b g j r * p.QH b g r d
def DV (b g j d : ℕ) : ℝ := ∑ r ∈ Finset.range 512, p.P b g j r * p.dob b g r d
def SP (b g r : ℕ) : ℝ := Real.exp (p.SK (4 * g + r / 128) - p.lseb b g r) * p.dsb b g r
/-- A row of two heads' gradients turned back through the rotary tables. -/
def rope (b : ℕ) (X : ℕ → ℕ → ℝ) (i j : ℕ) : ℝ :=
  X i j * p.C (128 * b + i) j + X i ((j + 8) % 128) * p.U (128 * b + i) ((j + 8) % 128)
    + X i ((j + 120) % 128) * p.D (128 * b + i) ((j + 120) % 128)
/-- The query gradients of heads `2 s` and `2 s + 1`, side by side. -/
def dqs (b s : ℕ) (i j : ℕ) : ℝ := p.DQ b (s / 2) (128 * (2 * (s % 2) + j / 64) + i) (j % 64)
def dkb (b i j : ℕ) : ℝ := p.DK b (j / 64) i (j % 64)
def dvb (b i j : ℕ) : ℝ := p.DV b (j / 64) i (j % 64)
def dw (j : ℕ) : ℝ := ∑ i ∈ Finset.range 256, p.DA i j * on p.RAW i j
def dsk (h : ℕ) : ℝ :=
  - (∑ i ∈ Finset.range 128, p.SP 1 (h / 4) (128 * (h % 4) + i)) - ∑ i ∈ Finset.range 128, p.SP 0 (h / 4) (128 * (h % 4) + i)

end Pt

end Cert.Spec
-- ==== Proof.Head.lean ====
/-
  The head a lane of the attention's output belongs to, as the kernel computes it from the lanes' numbers.
-/
module

public import proofs.«01_k».proof.Proof.Blk
public import proofs.«01_k».proof.Proof.Spec

@[expose] public section

set_option maxRecDepth 16384

noncomputable section

namespace Cert.Body

open Idealize.ShloMosaic Idealize.ShloMosaic.TcCoe Idealize.SL.Sem Idealize.ShloMosaic.ValueIdx
open Cert.KernelIdeal Cert.KernelIdeal.Gen Cert.Re Cert.Spec

theorem c0 : (Scalar.ofBits (F := Ideal) .f32 0x00000000#32 : EReal) = ((0 : ℝ) : EReal) := by
  show Ideal.ofBits .f32 _ = _
  simp [Ideal.ofBits, Ideal.ieee]
theorem c1 : (Scalar.ofBits (F := Ideal) .f32 0x3F800000#32 : EReal) = ((1 : ℝ) : EReal) := by
  show Ideal.ofBits .f32 _ = _
  simp [Ideal.ofBits, Ideal.ieee]; rw [← EReal.coe_mul]; norm_num
theorem f15 : R2 (k0_pay15 (F := Ideal)) fun h c => if c / 64 = h then 1 else 0 := by
  unfold k0_pay15
  refine R2.select (P := fun h c => c / 64 = h) ?_ (R2.bcast c1) (R2.bcast c0)
  unfold M2
  decide +kernel

end Cert.Body
-- ==== Proof.Fact.lean ====
/-
  Every stage of a grid point read as real numbers, from the reading of its window blocks.
-/
module

public import proofs.«01_k».proof.Proof.Head

@[expose] public section

set_option maxRecDepth 16384

noncomputable section

namespace Cert.Body

open Idealize.ShloMosaic Idealize.ShloMosaic.TcCoe Idealize.SL.Sem Idealize.ShloMosaic.ValueIdx
open Cert.KernelIdeal Cert.KernelIdeal.Gen Cert.Re Cert.Spec

/-- A bias: zero where the mask holds and minus infinity elsewhere. -/
def B2 {a b : ℕ} (x : (⟨2, ![a, b]⟩ : Shape).Idx → EReal) (M : ℕ → ℕ → Bool) : Prop :=
  ∀ (i : Fin a) (j : Fin b), x (ix2 i j) = if M i j then 0 else ⊥

/-- The blocks `b` hold the real numbers of `p`. -/
structure Reads (b : Blk) (p : Pt) : Prop where
  h0 : R2 (a := 1) (b := 8) b.x0 fun _ j => p.SK j
  h1 : R3 (a := 1) (b := 256) (c := 512) b.x1 fun _ i j => p.DA i j
  h2 : R3 (a := 1) (b := 256) (c := 512) b.x2 fun _ i j => p.RAW i j
  h3 : R2 (a := 1) (b := 512) b.x3 fun _ j => p.W j
  h4 : R5 (a := 1) (b := 2) (c := 2) (d := 512) (e := 64) b.x4 fun _ k g r d => p.QH k g r d
  h5 : R4 (a := 1) (b := 2) (c := 256) (d := 64) b.x5 fun _ g j d => p.KC g j d
  h6 : R4 (a := 1) (b := 2) (c := 128) (d := 64) b.x6 fun _ g j d => p.KP g j d
  h7 : R4 (a := 1) (b := 2) (c := 256) (d := 64) b.x7 fun _ g j d => p.VC g j d
  h8 : R4 (a := 1) (b := 2) (c := 128) (d := 64) b.x8 fun _ g j d => p.VP g j d
  h9 : R3 (a := 1) (b := 256) (c := 128) b.x9 fun _ i h => p.LSE i h
  h10 : R2 (a := 256) (b := 128) b.x10 p.C
  h11 : R2 (a := 256) (b := 128) b.x11 p.U
  h12 : R2 (a := 256) (b := 128) b.x12 p.D
  h13 : B2 (a := 256) (b := 512) b.x13 p.MF
  h14 : B2 (a := 256) (b := 512) b.x14 p.M0
  hn : p.n < 8
  hi : b.ii = BitVec.ofNat 32 p.n
  hck : R2 (a := 128) (b := 128) b.ck p.CK
  hcv : R2 (a := 128) (b := 128) b.cv p.CV
  hpw : R2 (a := 1) (b := 512) b.pw fun _ j => p.PW j
  hps : R2 (a := 1) (b := 8) b.ps fun _ j => p.PS j

theorem c512 : (Scalar.ofBits (F := Ideal) .f32 0x44000000#32 : EReal) = ((512 : ℝ) : EReal) := by
  show Ideal.ofBits .f32 _ = _
  simp [Ideal.ofBits, Ideal.ieee]; rw [← EReal.coe_mul]; norm_num
theorem c8 : (Scalar.ofBits (F := Ideal) .f32 0x3E000000#32 : EReal) = ((1 / 8 : ℝ) : EReal) := by
  show Ideal.ofBits .f32 _ = _
  simp [Ideal.ofBits, Ideal.ieee]; rw [← EReal.coe_mul]; norm_num
theorem ceps : (Scalar.ofBits (F := Ideal) .f32 0x358637BD#32 : EReal) = ((eps : ℝ) : EReal) ∧ 0 < eps := by
  have h : Ideal.ofBits .f32 0x358637BD#32 = (((2 ^ 23 + 407485 : ℕ) * (2 : ℝ) ^ (-43 : ℤ) : ℝ) : EReal) := by
    simp [Ideal.ofBits, Ideal.ieee]
  unfold eps
  rw [h, EReal.toReal_coe]
  exact ⟨h, by positivity⟩

/-- The probabilities: the exponential of the scaled scores under the bias, less the rows' logarithms. -/
theorem pexp {s bias : FVec Ideal ⟨2, ![256, 512]⟩ .f32} {l : FVec Ideal ⟨2, ![1, 512]⟩ .f32} {S L : ℕ → ℕ → ℝ} {M : ℕ → ℕ → Bool}
    (hs : R2 s S) (hb : B2 bias M) (hl : R2 l L) {v : EReal} (hv : v = ((1 / 8 : ℝ) : EReal))
    (hbr : (⟨2, ![1, 512]⟩ : Shape).Broadcasts ⟨2, ![256, 512]⟩) :
    R2 (exp (subf (addf (mulf s (broadcast ⟨2, ![256, 512]⟩ v)) bias) (broadcastTo ⟨2, ![256, 512]⟩ l hbr)))
      fun j r => if M j r then Real.exp (S j r * (1 / 8) - L 0 r) else 0 := fun j r => by
  have h1 := (hs.mulf (R2.bcast hv)) j r
  have h2 := (hl.brow hbr) j r
  show Ideal.exp (_ + bias (ix2 j r) - _) = _
  rw [h1, h2, hb j r]
  by_cases h : M j r
  · simp only [h, if_true, add_zero]
    rw [← EReal.coe_sub, Ideal.exp_coe]
  · simp only [h]
    simp

variable {b : Blk} {p : Pt} (H : Reads b p)
include H

theorem f7 : R2 (k0_pay7 b.x2) p.RAW := H.h2.drop _
theorem f10 : R2 (k0_pay10 b.x1) p.DA := H.h1.drop _
theorem f8 : R2 (k0_pay8 b.x2) fun i _ => rstd p.RAW i := by
  unfold k0_pay8
  refine R2.rsqrt ((((((f7 H).mulf (f7 H)).red1 _ _ _).col _).divf (R2.bcast c512) fun _ _ _ _ => by norm_num).addf
    (R2.bcast ceps.1)) fun i _ j _ => ?_
  have h : 0 ≤ ∑ j ∈ Finset.range 512, p.RAW i j * p.RAW i j := Finset.sum_nonneg fun _ _ => mul_self_nonneg _
  have := ceps.2
  positivity
theorem f9 : R2 (k0_pay9 b.x2) (on p.RAW) := (f7 H).mulf ((f8 H).bcol _)
theorem f11 : R2 (e11 b) p.DO := by
  unfold e11 k0_pay11
  have h22 := (f10 H).mulf (H.h3.brow broadcasts_S1x512_S256x512)
  exact ((f8 H).bcol _).mulf (h22.subf ((f9 H).mulf
    (((((h22.mulf (f9 H)).red1 _ _ _).col _).divf (R2.bcast c512) fun _ _ _ _ => by norm_num).bcol _)))
theorem f12 : R2 (e12 b) fun _ j => p.dw j := by
  unfold e12 k0_pay12
  exact (((f10 H).mulf (f9 H)).red0 _ _ _).row _
theorem f13 : R2 (e13 b) fun _ j => p.PW j + p.dw j := by
  unfold e13 k0_pay13
  exact (H.hpw.cast _).addf (f12 H)

theorem f17 : R2 (e17 b) fun i j => p.DO (128 + i) j := by
  unfold e17 k0_pay17
  exact R2.congr ((f11 H).slice _) (by intros; simp)
theorem f85 : R2 (e85 b) fun i j => p.DO i j := by
  unfold e85 k0_pay85
  exact R2.congr ((f11 H).slice _) (by intros; simp)
theorem f18 : R2 (e18 b) fun i j => p.C (128 * 1 + i) j := by
  unfold e18 k0_pay18
  exact R2.congr ((H.h10.ld _).cast _) (by intros; simp)
theorem f19 : R2 (e19 b) fun i j => p.U (128 * 1 + i) j := by
  unfold e19 k0_pay19
  exact R2.congr ((H.h11.ld _).cast _) (by intros; simp)
theorem f20 : R2 (e20 b) fun i j => p.D (128 * 1 + i) j := by
  unfold e20 k0_pay20
  exact R2.congr ((H.h12.ld _).cast _) (by intros; simp)
theorem f86 : R2 (e86 b) fun i j => p.C (128 * 0 + i) j := by
  unfold e86 k0_pay86
  exact R2.congr ((H.h10.ld _).cast _) (by intros; simp)
theorem f87 : R2 (e87 b) fun i j => p.U (128 * 0 + i) j := by
  unfold e87 k0_pay87
  exact R2.congr ((H.h11.ld _).cast _) (by intros; simp)
theorem f88 : R2 (e88 b) fun i j => p.D (128 * 0 + i) j := by
  unfold e88 k0_pay88
  exact R2.congr ((H.h12.ld _).cast _) (by intros; simp)
theorem f21 : R2 (e21 b) fun h i => p.LSE (128 * 1 + i) h := by
  unfold e21 k0_pay21
  exact R2.congr (((H.h9.ld _).drop _).transpose _) (by intros; simp)
theorem f89 : R2 (e89 b) fun h i => p.LSE (128 * 0 + i) h := by
  unfold e89 k0_pay89
  exact R2.congr (((H.h9.ld _).drop _).transpose _) (by intros; simp)
theorem f22 : R2 (e22 b) fun h i => p.dsm (128 * 1 + i) h := by
  unfold e22 k0_pay22
  have hx := (f17 H).mulf ((H.h2.ld inb_S1x256x512_S1x128x512_0_128_0).drop shapeCasts_S1x128x512_S128x512)
  exact ((R2.matNT (f15.trunc bitsLt_bf16_f32) (hx.trunc bitsLt_bf16_f32) none).addf
    (R2.matNT (f15.trunc bitsLt_bf16_f32) ((hx.subf ((hx.trunc bitsLt_bf16_f32).ext bitsLt_bf16_f32)).trunc bitsLt_bf16_f32) none)).congr
    (by intros; simp [Pt.dsm, hsum])
theorem f90 : R2 (e90 b) fun h i => p.dsm (128 * 0 + i) h := by
  unfold e90 k0_pay90
  have hx := (f85 H).mulf ((H.h2.ld inb_S1x256x512_S1x128x512_0_0_0).drop shapeCasts_S1x128x512_S128x512)
  exact ((R2.matNT (f15.trunc bitsLt_bf16_f32) (hx.trunc bitsLt_bf16_f32) none).addf
    (R2.matNT (f15.trunc bitsLt_bf16_f32) ((hx.subf ((hx.trunc bitsLt_bf16_f32).ext bitsLt_bf16_f32)).trunc bitsLt_bf16_f32) none)).congr
    (by intros; simp [Pt.dsm, hsum])
theorem f23 : R2 (e23 b) fun r d => p.QH 1 0 r d := by
  unfold e23 k0_pay23
  exact R2.congr ((H.h4.ld _).drop _) (by intros; simp)
theorem f24 : R2 (e24 b) fun r d => p.QH 1 1 r d := by
  unfold e24 k0_pay24
  exact R2.congr ((H.h4.ld _).drop _) (by intros; simp)
theorem f91 : R2 (e91 b) fun r d => p.QH 0 0 r d := by
  unfold e91 k0_pay91
  exact R2.congr ((H.h4.ld _).drop _) (by intros; simp)
theorem f92 : R2 (e92 b) fun r d => p.QH 0 1 r d := by
  unfold e92 k0_pay92
  exact R2.congr ((H.h4.ld _).drop _) (by intros; simp)
theorem f25 : R2 (e25 b) fun j d => p.KC 0 (128 + j) d := by
  unfold e25 k0_pay25
  exact R2.congr ((H.h5.ld _).drop _) (by intros; simp)
theorem f26 : R2 (e26 b) fun j d => p.key 1 0 j d := by
  unfold e26 k0_pay26
  refine R2.congr (R2.cat0_2 (fun k j d => p.KC 0 (128 * k + j) d) ?_ ?_ (by rfl) _) ?_
  · exact R2.congr ((H.h5.ld _).drop _) (by intros; simp)
  · exact (f25 H)
  · intro j hj d hd; simp [Pt.key, Nat.div_add_mod]
theorem f27 : R2 (e27 b) fun j d => p.key 1 1 j d := by
  unfold e27 k0_pay27
  refine R2.congr (R2.cat0_2 (fun k j d => p.KC 1 (128 * k + j) d) ?_ ?_ (by rfl) _) ?_
  · exact R2.congr ((H.h5.ld _).drop _) (by intros; simp)
  · exact R2.congr ((H.h5.ld _).drop _) (by intros; simp)
  · intro j hj d hd; simp [Pt.key, Nat.div_add_mod]
theorem f28 : R2 (e28 b) fun j d => p.val 1 0 j d := by
  unfold e28 k0_pay28
  refine R2.congr (R2.cat0_2 (fun k j d => p.VC 0 (128 * k + j) d) ?_ ?_ (by rfl) _) ?_
  · exact R2.congr ((H.h7.ld _).drop _) (by intros; simp)
  · exact R2.congr ((H.h7.ld _).drop _) (by intros; simp)
  · intro j hj d hd; simp [Pt.val, Nat.div_add_mod]
theorem f29 : R2 (e29 b) fun j d => p.val 1 1 j d := by
  unfold e29 k0_pay29
  refine R2.congr (R2.cat0_2 (fun k j d => p.VC 1 (128 * k + j) d) ?_ ?_ (by rfl) _) ?_
  · exact R2.congr ((H.h7.ld _).drop _) (by intros; simp)
  · exact R2.congr ((H.h7.ld _).drop _) (by intros; simp)
  · intro j hj d hd; simp [Pt.val, Nat.div_add_mod]
theorem f93 : R2 (e93 b) fun j d => p.key 0 0 j d := by
  unfold e93 k0_pay93
  refine R2.congr (R2.cat0_2 (fun k j d => if k = 0 then p.KP 0 j d else p.KC 0 j d) ?_ ?_ (by rfl) _) ?_
  · exact R2.congr ((H.h6.ld _).drop _) (by intros; simp)
  · exact R2.congr ((H.h5.ld _).drop _) (by intros; simp)
  · intro j hj d hd; simp [Pt.key, Nat.div_add_mod]
theorem f94 : R2 (e94 b) fun j d => p.key 0 1 j d := by
  unfold e94 k0_pay94
  refine R2.congr (R2.cat0_2 (fun k j d => if k = 0 then p.KP 1 j d else p.KC 1 j d) ?_ ?_ (by rfl) _) ?_
  · exact R2.congr ((H.h6.ld _).drop _) (by intros; simp)
  · exact R2.congr ((H.h5.ld _).drop _) (by intros; simp)
  · intro j hj d hd; simp [Pt.key, Nat.div_add_mod]
theorem f95 : R2 (e95 b) fun j d => p.val 0 1 j d := by
  unfold e95 k0_pay95
  refine R2.congr (R2.cat0_2 (fun k j d => if k = 0 then p.VP 1 j d else p.VC 1 j d) ?_ ?_ (by rfl) _) ?_
  · exact R2.congr ((H.h8.ld _).drop _) (by intros; simp)
  · exact R2.congr ((H.h7.ld _).drop _) (by intros; simp)
  · intro j hj d hd; simp [Pt.val, Nat.div_add_mod]
theorem f30 : R2 (e30 b) fun r d => p.dob 1 0 r d := by
  unfold e30 k0_pay30
  refine R2.congr (R2.cat0_4 (fun k i d => p.DO (128 + i) (0 + 64 * k + d)) ?_ ?_ ?_ ?_ (by rfl) _) ?_
  · exact R2.congr ((f17 H).slice _) (by intros; simp)
  · exact R2.congr ((f17 H).slice _) (by intros; simp)
  · exact R2.congr ((f17 H).slice _) (by intros; simp)
  · exact R2.congr ((f17 H).slice _) (by intros; simp)
  · intro r hr d hd; simp only [Pt.dob]; congr 1 <;> omega
theorem f31 : R2 (e31 b) fun r d => p.dob 1 1 r d := by
  unfold e31 k0_pay31
  refine R2.congr (R2.cat0_4 (fun k i d => p.DO (128 + i) (256 + 64 * k + d)) ?_ ?_ ?_ ?_ (by rfl) _) ?_
  · exact R2.congr ((f17 H).slice _) (by intros; simp)
  · exact R2.congr ((f17 H).slice _) (by intros; simp)
  · exact R2.congr ((f17 H).slice _) (by intros; simp)
  · exact R2.congr ((f17 H).slice _) (by intros; simp)
  · intro r hr d hd; simp only [Pt.dob]; congr 1 <;> omega
theorem f96 : R2 (e96 b) fun r d => p.dob 0 0 r d := by
  unfold e96 k0_pay96
  refine R2.congr (R2.cat0_4 (fun k i d => p.DO (0 + i) (0 + 64 * k + d)) ?_ ?_ ?_ ?_ (by rfl) _) ?_
  · exact R2.congr ((f85 H).slice _) (by intros; simp)
  · exact R2.congr ((f85 H).slice _) (by intros; simp)
  · exact R2.congr ((f85 H).slice _) (by intros; simp)
  · exact R2.congr ((f85 H).slice _) (by intros; simp)
  · intro r hr d hd; simp only [Pt.dob]; congr 1 <;> omega
theorem f97 : R2 (e97 b) fun r d => p.dob 0 1 r d := by
  unfold e97 k0_pay97
  refine R2.congr (R2.cat0_4 (fun k i d => p.DO (0 + i) (256 + 64 * k + d)) ?_ ?_ ?_ ?_ (by rfl) _) ?_
  · exact R2.congr ((f85 H).slice _) (by intros; simp)
  · exact R2.congr ((f85 H).slice _) (by intros; simp)
  · exact R2.congr ((f85 H).slice _) (by intros; simp)
  · exact R2.congr ((f85 H).slice _) (by intros; simp)
  · intro r hr d hd; simp only [Pt.dob]; congr 1 <;> omega
theorem f32 : R2 (e32 b) fun _ r => p.dsb 1 0 r := by
  unfold e32 k0_pay32
  refine R2.congr (R2.cat1_4 (fun k i j => p.dsm (128 * 1 + j) (0 + k + i)) ?_ ?_ ?_ ?_ (by rfl) _) ?_
  · exact R2.congr ((f22 H).slice _) (by intros; simp)
  · exact R2.congr ((f22 H).slice _) (by intros; simp)
  · exact R2.congr ((f22 H).slice _) (by intros; simp)
  · exact R2.congr ((f22 H).slice _) (by intros; simp)
  · intro i hi r hr; simp only [Pt.dsb]; congr 1 <;> omega
theorem f98 : R2 (e98 b) fun _ r => p.dsb 0 0 r := by
  unfold e98 k0_pay98
  refine R2.congr (R2.cat1_4 (fun k i j => p.dsm (128 * 0 + j) (0 + k + i)) ?_ ?_ ?_ ?_ (by rfl) _) ?_
  · exact R2.congr ((f90 H).slice _) (by intros; simp)
  · exact R2.congr ((f90 H).slice _) (by intros; simp)
  · exact R2.congr ((f90 H).slice _) (by intros; simp)
  · exact R2.congr ((f90 H).slice _) (by intros; simp)
  · intro i hi r hr; simp only [Pt.dsb]; congr 1 <;> omega
theorem f99 : R2 (e99 b) fun _ r => p.dsb 0 1 r := by
  unfold e99 k0_pay99
  refine R2.congr (R2.cat1_4 (fun k i j => p.dsm (128 * 0 + j) (4 + k + i)) ?_ ?_ ?_ ?_ (by rfl) _) ?_
  · exact R2.congr ((f90 H).slice _) (by intros; simp)
  · exact R2.congr ((f90 H).slice _) (by intros; simp)
  · exact R2.congr ((f90 H).slice _) (by intros; simp)
  · exact R2.congr ((f90 H).slice _) (by intros; simp)
  · intro i hi r hr; simp only [Pt.dsb]; congr 1 <;> omega
theorem f38 : R2 (e38 b) fun _ r => p.lseb 1 0 r := by
  unfold e38 k0_pay38
  refine R2.congr (R2.cat1_4 (fun k i j => p.LSE (128 * 1 + j) (0 + k + i)) ?_ ?_ ?_ ?_ (by rfl) _) ?_
  · exact R2.congr ((f21 H).slice _) (by intros; simp)
  · exact R2.congr ((f21 H).slice _) (by intros; simp)
  · exact R2.congr ((f21 H).slice _) (by intros; simp)
  · exact R2.congr ((f21 H).slice _) (by intros; simp)
  · intro i hi r hr; simp only [Pt.lseb]; congr 1 <;> omega
theorem f39 : R2 (e39 b) fun _ r => p.lseb 1 1 r := by
  unfold e39 k0_pay39
  refine R2.congr (R2.cat1_4 (fun k i j => p.LSE (128 * 1 + j) (4 + k + i)) ?_ ?_ ?_ ?_ (by rfl) _) ?_
  · exact R2.congr ((f21 H).slice _) (by intros; simp)
  · exact R2.congr ((f21 H).slice _) (by intros; simp)
  · exact R2.congr ((f21 H).slice _) (by intros; simp)
  · exact R2.congr ((f21 H).slice _) (by intros; simp)
  · intro i hi r hr; simp only [Pt.lseb]; congr 1 <;> omega
theorem f100 : R2 (e100 b) fun _ r => p.lseb 0 0 r := by
  unfold e100 k0_pay100
  refine R2.congr (R2.cat1_4 (fun k i j => p.LSE (128 * 0 + j) (0 + k + i)) ?_ ?_ ?_ ?_ (by rfl) _) ?_
  · exact R2.congr ((f89 H).slice _) (by intros; simp)
  · exact R2.congr ((f89 H).slice _) (by intros; simp)
  · exact R2.congr ((f89 H).slice _) (by intros; simp)
  · exact R2.congr ((f89 H).slice _) (by intros; simp)
  · intro i hi r hr; simp only [Pt.lseb]; congr 1 <;> omega
theorem f101 : R2 (e101 b) fun _ r => p.lseb 0 1 r := by
  unfold e101 k0_pay101
  refine R2.congr (R2.cat1_4 (fun k i j => p.LSE (128 * 0 + j) (4 + k + i)) ?_ ?_ ?_ ?_ (by rfl) _) ?_
  · exact R2.congr ((f89 H).slice _) (by intros; simp)
  · exact R2.congr ((f89 H).slice _) (by intros; simp)
  · exact R2.congr ((f89 H).slice _) (by intros; simp)
  · exact R2.congr ((f89 H).slice _) (by intros; simp)
  · intro i hi r hr; simp only [Pt.lseb]; congr 1 <;> omega
theorem f33 : R2 (e33 b) fun i j => p.dsm (128 * 1 + j) (4 + 0 + i) := by
  unfold e33 k0_pay33
  exact R2.congr ((f22 H).slice _) (by intros; simp)
theorem f34 : R2 (e34 b) fun i j => p.dsm (128 * 1 + j) (4 + 1 + i) := by
  unfold e34 k0_pay34
  exact R2.congr ((f22 H).slice _) (by intros; simp)
theorem f35 : R2 (e35 b) fun i j => p.dsm (128 * 1 + j) (4 + 2 + i) := by
  unfold e35 k0_pay35
  exact R2.congr ((f22 H).slice _) (by intros; simp)
theorem f36 : R2 (e36 b) fun i j => p.dsm (128 * 1 + j) (4 + 3 + i) := by
  unfold e36 k0_pay36
  exact R2.congr ((f22 H).slice _) (by intros; simp)
theorem f37 : R2 (e37 b) fun _ r => p.dsb 1 1 r := by
  unfold e37 k0_pay37
  refine R2.congr (R2.cat1_4 (fun k i j => p.dsm (128 * 1 + j) (4 + k + i)) (f33 H) (f34 H) (f35 H) (f36 H) (by rfl) _) ?_
  intro i hi r hr; simp only [Pt.dsb]; congr 1 <;> omega

end Cert.Body
-- ==== Proof.Win.lean ====
/-
  The window blocks of a grid point read as numbers of the arrays the region finds.
-/
module

public import proofs.«01_k».proof.Proof.Fact
public import Idealize.ShloMosaic.Lib.Pipeline.ValueKit

@[expose] public section

set_option maxRecDepth 16384

noncomputable section

namespace Cert.Body

open Idealize.ShloMosaic Idealize.ShloMosaic.TcCoe Idealize.SL.Sem
open Idealize.ShloMosaic.ValueIdx (eq_ix1 eq_ix2)
open Cert.KernelIdeal Cert.KernelIdeal.Gen Cert.Re Cert.Spec

variable (m0 : (ℓ : Loc nD τ sig) → Buf (Elt Ideal) ℓ) (c : Dev nD) (t : Fin cfg0.N)

def a_arg3 : Vec Ideal S1x8 .f32 := V m0 c main_arg3

theorem i0 : ∀ t : Fin cfg0.N, win0_0.index t = ![0, 0] :=
  (by decide +kernel : ∀ t : Fin grid0.N, win0_0.index t = ![0, 0])

theorem x0 {X : ℕ → ℕ → ℝ} (h : R2 (a_arg3 m0 c) X) :
    R2 (a := 1) (b := 8) (iblk m0 c 0 t) fun i j => X i j := fun i j => by
  have ht : t.val < 16 := t.isLt
  have hi := i.isLt
  have hj := j.isLt
  refine Eq.trans ?_ (h i j)
  unfold a_arg3
  blk_simp [iblk]
  refine congrArg (V m0 c main_arg3) ?_
  blk_ext [i0]

def a_arg5 : Vec Ideal S2x2048x1024 .f32 := V m0 c main_arg5

theorem i1 : ∀ t : Fin cfg0.N, win0_1.index t = ![t.val / 8, 7 - t.val % 8, 0] :=
  (by decide +kernel : ∀ t : Fin grid0.N, win0_1.index t = ![t.val / 8, 7 - t.val % 8, 0])

theorem x1 {X : ℕ → ℕ → ℕ → ℝ} (h : R3 (a_arg5 m0 c) X) :
    R3 (a := 1) (b := 256) (c := 512) (iblk m0 c 1 t) fun _ j k => X (t.val / 8) (256 * (7 - t.val % 8) + j) k := fun i j k => by
  have ht : t.val < 16 := t.isLt
  have hi := i.isLt
  have hj := j.isLt
  have hk := k.isLt
  refine Eq.trans ?_ (h ⟨t.val / 8, by omega⟩ ⟨256 * (7 - t.val % 8) + j.val, by omega⟩ ⟨k.val, by omega⟩)
  unfold a_arg5
  blk_simp [iblk]
  refine congrArg (V m0 c main_arg5) ?_
  blk_ext [i1]
  show _ * 256 + j.val = _
  omega

def a_v171 : Vec Ideal S2x2048x512 .f32 := V m0 c main_v171

theorem i2 : ∀ t : Fin cfg0.N, win0_2.index t = ![t.val / 8, 7 - t.val % 8, 0] :=
  (by decide +kernel : ∀ t : Fin grid0.N, win0_2.index t = ![t.val / 8, 7 - t.val % 8, 0])

theorem x2 {X : ℕ → ℕ → ℕ → ℝ} (h : R3 (a_v171 m0 c) X) :
    R3 (a := 1) (b := 256) (c := 512) (iblk m0 c 2 t) fun _ j k => X (t.val / 8) (256 * (7 - t.val % 8) + j) k := fun i j k => by
  have ht : t.val < 16 := t.isLt
  have hi := i.isLt
  have hj := j.isLt
  have hk := k.isLt
  refine Eq.trans ?_ (h ⟨t.val / 8, by omega⟩ ⟨256 * (7 - t.val % 8) + j.val, by omega⟩ k)
  unfold a_v171
  blk_simp [iblk]
  refine congrArg (V m0 c main_v171) ?_
  blk_ext [i2]
  show _ * 256 + j.val = _
  omega

def a_arg4 : Vec Ideal S1x512 .f32 := V m0 c main_arg4

theorem i3 : ∀ t : Fin cfg0.N, win0_3.index t = ![0, 0] :=
  (by decide +kernel : ∀ t : Fin grid0.N, win0_3.index t = ![0, 0])

theorem x3 {X : ℕ → ℕ → ℝ} (h : R2 (a_arg4 m0 c) X) :
    R2 (a := 1) (b := 512) (iblk m0 c 3 t) fun i j => X i j := fun i j => by
  have ht : t.val < 16 := t.isLt
  have hi := i.isLt
  have hj := j.isLt
  refine Eq.trans ?_ (h i j)
  unfold a_arg4
  blk_simp [iblk]
  refine congrArg (V m0 c main_arg4) ?_
  blk_ext [i3]

def a_v177 : Vec Ideal S2x16x2x512x64 .bf16 := V m0 c main_v177

theorem i4 : ∀ t : Fin cfg0.N, win0_4.index t = ![t.val / 8, 7 - t.val % 8, 0, 0, 0] :=
  (by decide +kernel : ∀ t : Fin grid0.N, win0_4.index t = ![t.val / 8, 7 - t.val % 8, 0, 0, 0])

theorem x4 {X : ℕ → ℕ → ℕ → ℕ → ℕ → ℝ} (h : R5 (a_v177 m0 c) X) :
    R5 (a := 1) (b := 2) (c := 2) (d := 512) (e := 64) (iblk m0 c 4 t) fun _ j k l m => X (t.val / 8) (2 * (7 - t.val % 8) + j) k l m := fun i j k l m => by
  have ht : t.val < 16 := t.isLt
  have hi := i.isLt
  have hj := j.isLt
  have hk := k.isLt
  have hl := l.isLt
  have hm := m.isLt
  refine Eq.trans ?_ (h ⟨t.val / 8, by omega⟩ ⟨2 * (7 - t.val % 8) + j.val, by omega⟩ k l m)
  unfold a_v177
  blk_simp [iblk]
  refine congrArg (V m0 c main_v177) ?_
  blk_ext [i4]
  show _ * 2 + j.val = _
  omega

def a_v179 : Vec Ideal S2x2x2048x64 .bf16 := V m0 c main_v179

theorem i5 : ∀ t : Fin cfg0.N, win0_5.index t = ![t.val / 8, 0, 7 - t.val % 8, 0] :=
  (by decide +kernel : ∀ t : Fin grid0.N, win0_5.index t = ![t.val / 8, 0, 7 - t.val % 8, 0])

theorem x5 {X : ℕ → ℕ → ℕ → ℕ → ℝ} (h : R4 (a_v179 m0 c) X) :
    R4 (a := 1) (b := 2) (c := 256) (d := 64) (iblk m0 c 5 t) fun _ j k l => X (t.val / 8) j (256 * (7 - t.val % 8) + k) l := fun i j k l => by
  have ht : t.val < 16 := t.isLt
  have hi := i.isLt
  have hj := j.isLt
  have hk := k.isLt
  have hl := l.isLt
  refine Eq.trans ?_ (h ⟨t.val / 8, by omega⟩ j ⟨256 * (7 - t.val % 8) + k.val, by omega⟩ l)
  unfold a_v179
  blk_simp [iblk]
  refine congrArg (V m0 c main_v179) ?_
  blk_ext [i5]
  show _ * 256 + k.val = _
  omega

theorem i6 : ∀ t : Fin cfg0.N, win0_6.index t = ![t.val / 8, 0, 2 * (7 - t.val % 8) - 1, 0] :=
  (by decide +kernel : ∀ t : Fin grid0.N, win0_6.index t = ![t.val / 8, 0, 2 * (7 - t.val % 8) - 1, 0])

theorem x6 {X : ℕ → ℕ → ℕ → ℕ → ℝ} (h : R4 (a_v179 m0 c) X) :
    R4 (a := 1) (b := 2) (c := 128) (d := 64) (iblk m0 c 6 t) fun _ j k l => X (t.val / 8) j (128 * (2 * (7 - t.val % 8) - 1) + k) l := fun i j k l => by
  have ht : t.val < 16 := t.isLt
  have hi := i.isLt
  have hj := j.isLt
  have hk := k.isLt
  have hl := l.isLt
  refine Eq.trans ?_ (h ⟨t.val / 8, by omega⟩ j ⟨128 * (2 * (7 - t.val % 8) - 1) + k.val, by omega⟩ l)
  unfold a_v179
  blk_simp [iblk]
  refine congrArg (V m0 c main_v179) ?_
  blk_ext [i6]
  show _ * 128 + k.val = _
  omega

def a_v181 : Vec Ideal S2x2x2048x64 .bf16 := V m0 c main_v181

theorem i7 : ∀ t : Fin cfg0.N, win0_7.index t = ![t.val / 8, 0, 7 - t.val % 8, 0] :=
  (by decide +kernel : ∀ t : Fin grid0.N, win0_7.index t = ![t.val / 8, 0, 7 - t.val % 8, 0])

theorem x7 {X : ℕ → ℕ → ℕ → ℕ → ℝ} (h : R4 (a_v181 m0 c) X) :
    R4 (a := 1) (b := 2) (c := 256) (d := 64) (iblk m0 c 7 t) fun _ j k l => X (t.val / 8) j (256 * (7 - t.val % 8) + k) l := fun i j k l => by
  have ht : t.val < 16 := t.isLt
  have hi := i.isLt
  have hj := j.isLt
  have hk := k.isLt
  have hl := l.isLt
  refine Eq.trans ?_ (h ⟨t.val / 8, by omega⟩ j ⟨256 * (7 - t.val % 8) + k.val, by omega⟩ l)
  unfold a_v181
  blk_simp [iblk]
  refine congrArg (V m0 c main_v181) ?_
  blk_ext [i7]
  show _ * 256 + k.val = _
  omega

theorem i8 : ∀ t : Fin cfg0.N, win0_8.index t = ![t.val / 8, 0, 2 * (7 - t.val % 8) - 1, 0] :=
  (by decide +kernel : ∀ t : Fin grid0.N, win0_8.index t = ![t.val / 8, 0, 2 * (7 - t.val % 8) - 1, 0])

theorem x8 {X : ℕ → ℕ → ℕ → ℕ → ℝ} (h : R4 (a_v181 m0 c) X) :
    R4 (a := 1) (b := 2) (c := 128) (d := 64) (iblk m0 c 8 t) fun _ j k l => X (t.val / 8) j (128 * (2 * (7 - t.val % 8) - 1) + k) l := fun i j k l => by
  have ht : t.val < 16 := t.isLt
  have hi := i.isLt
  have hj := j.isLt
  have hk := k.isLt
  have hl := l.isLt
  refine Eq.trans ?_ (h ⟨t.val / 8, by omega⟩ j ⟨128 * (2 * (7 - t.val % 8) - 1) + k.val, by omega⟩ l)
  unfold a_v181
  blk_simp [iblk]
  refine congrArg (V m0 c main_v181) ?_
  blk_ext [i8]
  show _ * 128 + k.val = _
  omega

def a_v185 : Vec Ideal S2x2048x128 .f32 := V m0 c main_v185

theorem i9 : ∀ t : Fin cfg0.N, win0_9.index t = ![t.val / 8, 7 - t.val % 8, 0] :=
  (by decide +kernel : ∀ t : Fin grid0.N, win0_9.index t = ![t.val / 8, 7 - t.val % 8, 0])

theorem x9 {X : ℕ → ℕ → ℕ → ℝ} (h : R3 (a_v185 m0 c) X) :
    R3 (a := 1) (b := 256) (c := 128) (iblk m0 c 9 t) fun _ j k => X (t.val / 8) (256 * (7 - t.val % 8) + j) k := fun i j k => by
  have ht : t.val < 16 := t.isLt
  have hi := i.isLt
  have hj := j.isLt
  have hk := k.isLt
  refine Eq.trans ?_ (h ⟨t.val / 8, by omega⟩ ⟨256 * (7 - t.val % 8) + j.val, by omega⟩ k)
  unfold a_v185
  blk_simp [iblk]
  refine congrArg (V m0 c main_v185) ?_
  blk_ext [i9]
  show _ * 256 + j.val = _
  omega

def a_v210 : Vec Ideal S2048x128 .f32 := V m0 c main_v210

theorem i10 : ∀ t : Fin cfg0.N, win0_10.index t = ![7 - t.val % 8, 0] :=
  (by decide +kernel : ∀ t : Fin grid0.N, win0_10.index t = ![7 - t.val % 8, 0])

theorem x10 {X : ℕ → ℕ → ℝ} (h : R2 (a_v210 m0 c) X) :
    R2 (a := 256) (b := 128) (iblk m0 c 10 t) fun i j => X (256 * (7 - t.val % 8) + i) j := fun i j => by
  have ht : t.val < 16 := t.isLt
  have hi := i.isLt
  have hj := j.isLt
  refine Eq.trans ?_ (h ⟨256 * (7 - t.val % 8) + i.val, by omega⟩ j)
  unfold a_v210
  blk_simp [iblk]
  refine congrArg (V m0 c main_v210) ?_
  blk_ext [i10]
  show _ * 256 + i.val = _
  omega

def a_v214 : Vec Ideal S2048x128 .f32 := V m0 c main_v214

theorem i11 : ∀ t : Fin cfg0.N, win0_11.index t = ![7 - t.val % 8, 0] :=
  (by decide +kernel : ∀ t : Fin grid0.N, win0_11.index t = ![7 - t.val % 8, 0])

theorem x11 {X : ℕ → ℕ → ℝ} (h : R2 (a_v214 m0 c) X) :
    R2 (a := 256) (b := 128) (iblk m0 c 11 t) fun i j => X (256 * (7 - t.val % 8) + i) j := fun i j => by
  have ht : t.val < 16 := t.isLt
  have hi := i.isLt
  have hj := j.isLt
  refine Eq.trans ?_ (h ⟨256 * (7 - t.val % 8) + i.val, by omega⟩ j)
  unfold a_v214
  blk_simp [iblk]
  refine congrArg (V m0 c main_v214) ?_
  blk_ext [i11]
  show _ * 256 + i.val = _
  omega

def a_v219 : Vec Ideal S2048x128 .f32 := V m0 c main_v219

theorem i12 : ∀ t : Fin cfg0.N, win0_12.index t = ![7 - t.val % 8, 0] :=
  (by decide +kernel : ∀ t : Fin grid0.N, win0_12.index t = ![7 - t.val % 8, 0])

theorem x12 {X : ℕ → ℕ → ℝ} (h : R2 (a_v219 m0 c) X) :
    R2 (a := 256) (b := 128) (iblk m0 c 12 t) fun i j => X (256 * (7 - t.val % 8) + i) j := fun i j => by
  have ht : t.val < 16 := t.isLt
  have hi := i.isLt
  have hj := j.isLt
  refine Eq.trans ?_ (h ⟨256 * (7 - t.val % 8) + i.val, by omega⟩ j)
  unfold a_v219
  blk_simp [iblk]
  refine congrArg (V m0 c main_v219) ?_
  blk_ext [i12]
  show _ * 256 + i.val = _
  omega

def a_v246 : Vec Ideal S256x512 .f32 := V m0 c main_v246

theorem i13 : ∀ t : Fin cfg0.N, win0_13.index t = ![0, 0] :=
  (by decide +kernel : ∀ t : Fin grid0.N, win0_13.index t = ![0, 0])

theorem x13 {M : ℕ → ℕ → Bool} (h : B2 (a_v246 m0 c) M) : B2 (a := 256) (b := 512) (iblk m0 c 13 t) M := fun i j => by
  refine Eq.trans ?_ (h i j)
  unfold a_v246
  blk_simp [iblk]
  refine congrArg (V m0 c main_v246) ?_
  blk_ext [i13]

def a_v247 : Vec Ideal S256x512 .f32 := V m0 c main_v247

theorem i14 : ∀ t : Fin cfg0.N, win0_14.index t = ![0, 0] :=
  (by decide +kernel : ∀ t : Fin grid0.N, win0_14.index t = ![0, 0])

theorem x14 {M : ℕ → ℕ → Bool} (h : B2 (a_v247 m0 c) M) : B2 (a := 256) (b := 512) (iblk m0 c 14 t) M := fun i j => by
  refine Eq.trans ?_ (h i j)
  unfold a_v247
  blk_simp [iblk]
  refine congrArg (V m0 c main_v247) ?_
  blk_ext [i14]

end Cert.Body
-- ==== Proof.Ref0.lean ====
/-
  The reference's host values over real numbers: the arguments, the rotary tables, the turned queries and keys.
-/
module

public import proofs.«01_k».proof.Proof.Gen.ReferenceIdeal.Read
public import proofs.«01_k».proof.Proof.Re
public import Idealize.ShloMosaic.Lib.ValueIdxRank6

@[expose] public section

set_option maxRecDepth 16384

noncomputable section

namespace Cert.Ref

open Idealize.ShloMosaic Idealize.ShloMosaic.TcCoe Idealize.SL.Sem
open Cert.ReferenceIdeal Cert.ReferenceIdeal.Gen Cert.ReferenceIdeal.Read Cert.Re
open scoped BigOperators

/-- An array whose entries are the real numbers `X`. -/
abbrev RN {s : Shape} (x : s.Idx → EReal) (X : s.Idx → ℝ) : Prop := ∀ i, x i = ((X i : ℝ) : EReal)

/-- The arguments' real numbers. -/
structure In where
  Q : ℕ → ℕ → ℕ → ℝ
  K : ℕ → ℕ → ℕ → ℝ
  V : ℕ → ℕ → ℕ → ℝ
  SK : ℕ → ℝ
  W : ℕ → ℝ
  DA : ℕ → ℕ → ℕ → ℝ

abbrev T0 := (⟨S2x2048x512, .f32⟩ : BufTy).Contents (Elt Ideal)
abbrev T1 := (⟨S2x2048x128, .f32⟩ : BufTy).Contents (Elt Ideal)
abbrev T3 := (⟨S1x8, .f32⟩ : BufTy).Contents (Elt Ideal)
abbrev T4 := (⟨S1x512, .f32⟩ : BufTy).Contents (Elt Ideal)
abbrev T5 := (⟨S2x2048x1024, .f32⟩ : BufTy).Contents (Elt Ideal)

structure ArgR (x0 : T0) (x1 x2 : T1) (x3 : T3) (x4 : T4) (x5 : T5) (I : In) : Prop where
  q : RN (s := S2x2048x512) x0 fun i => I.Q (i 0).val (i 1).val (i 2).val
  k : RN (s := S2x2048x128) x1 fun i => I.K (i 0).val (i 1).val (i 2).val
  v : RN (s := S2x2048x128) x2 fun i => I.V (i 0).val (i 1).val (i 2).val
  sk : RN (s := S1x8) x3 fun i => I.SK (i 1).val
  w : RN (s := S1x512) x4 fun i => I.W (i 1).val
  da : RN (s := S2x2048x1024) x5 fun i => I.DA (i 0).val (i 1).val (i 2).val

theorem k0 : Ideal.ofBits .f32 0x00000000#32 = ((0 : ℝ) : EReal) := by simp [Ideal.ofBits, Ideal.ieee]
theorem k2 : Ideal.ofBits .f32 0x40000000#32 = ((2 : ℝ) : EReal) := by
  simp [Ideal.ofBits, Ideal.ieee]; rw [← EReal.coe_mul]; norm_num
theorem k16 : Ideal.ofBits .f32 0x41800000#32 = ((16 : ℝ) : EReal) := by
  simp [Ideal.ofBits, Ideal.ieee]; rw [← EReal.coe_mul]; norm_num
theorem k5e5 : Ideal.ofBits .f32 0x48F42400#32 = ((500000 : ℝ) : EReal) := by
  simp [Ideal.ofBits, Ideal.ieee]; rw [← EReal.coe_mul]; norm_num

/-- The angle of position `t` at frequency `f`. -/
def ang (t f : ℕ) : ℝ :=
  ((BitVec.ofNat 32 t).toInt : ℝ) * Real.rpow 500000 (-(0 + 2 * ((BitVec.ofNat 32 f).toInt : ℝ)) * (1 / 16))
def CS (t f : ℕ) : ℝ := Real.cos (ang t f)
def SN (t f : ℕ) : ℝ := Real.sin (ang t f)

/-- The rotary turn of the first sixteen columns of each head. -/
def rp (A : ℕ → ℕ → ℕ → ℝ) (b t h d : ℕ) : ℝ :=
  if d < 8 then A b t (64 * h + d) * CS t d - A b t (64 * h + (8 + d)) * SN t d
  else if d < 16 then A b t (64 * h + d) * CS t (d - 8) + A b t (64 * h + (d - 8)) * SN t (d - 8)
  else A b t (64 * h + d)

theorem r16 : RN (s := S2048x8) (val_main_v16 (F := Ideal)) fun i => ang (i 0).val (i 1).val := fun i => by
  rw [val_main_v16_apply, val_main_v14_apply, val_main_v12_apply, val_main_v15_apply, val_main_v13_apply,
    val_main_v10_apply, val_main_v9_apply, val_main_v8_apply, val_main_v7_apply, val_main_v6_apply, val_main_v5_apply,
    val_main_v4_apply, val_main_v3_apply, val_main_v2_apply]
  show (((BitVec.ofNat 32 (i 0).val).toInt : ℝ) : EReal) * Ideal.pow (Ideal.ofBits .f32 0x48F42400#32)
    (Ideal.div (-(Ideal.ofBits .f32 0x00000000#32 + Ideal.ofBits .f32 0x40000000#32 * (((BitVec.ofNat 32 (i 1).val).toInt : ℝ) : EReal)))
      (Ideal.ofBits .f32 0x41800000#32)) = _
  rw [k0, k2, k16, k5e5, Ideal.div_coe (by norm_num)]
  simp only [← EReal.coe_mul, ← EReal.coe_add, ← EReal.coe_neg, Ideal.pow_coe_coe]
  rfl

theorem r17 : RN (s := S2048x8) (val_main_v17 (F := Ideal)) fun i => CS (i 0).val (i 1).val := fun i => by
  rw [val_main_v17_apply, r16]; rfl
theorem r19 : RN (s := S2048x8) (val_main_v19 (F := Ideal)) fun i => SN (i 0).val (i 1).val := fun i => by
  rw [val_main_v19_apply, r16]; rfl
theorem e52 : val_main_v52 (F := Ideal) = val_main_v17 := rfl
theorem e54 : val_main_v54 (F := Ideal) = val_main_v19 := rfl

variable {x0 : T0} {x1 x2 : T1} {x3 : T3} {x4 : T4} {x5 : T5} {I : In} (H : ArgR x0 x1 x2 x3 x4 x5 I)
include H

theorem r0 : RN (s := S2x2048x8x64) (val_main_v0 (F := Ideal) x0)
    fun i => I.Q (i 0).val (i 1).val (64 * (i 2).val + (i 3).val) := fun i => by
  have b0 : (i 0).val < 2 := (i 0).isLt
  have b1 : (i 1).val < 2048 := (i 1).isLt
  have b2 : (i 2).val < 8 := (i 2).isLt
  have b3 : (i 3).val < 64 := (i 3).isLt
  rw [val_main_v0_apply, H.q]
  dsimp only [idx_main_v0]
  congr 2 <;> omega

theorem r28 : RN (s := S2x2048x8x8) (val_main_v28 (F := Ideal) x0)
    fun i => I.Q (i 0).val (i 1).val (64 * (i 2).val + (i 3).val) * CS (i 1).val (i 3).val
      - I.Q (i 0).val (i 1).val (64 * (i 2).val + (8 + (i 3).val)) * SN (i 1).val (i 3).val := fun i => by
  rw [val_main_v28_apply, val_main_v25_apply, val_main_v27_apply, val_main_v21_apply, val_main_v22_apply,
    val_main_v24_apply, val_main_v26_apply, val_main_v18_apply, val_main_v20_apply, r17, r19, r0 H, r0 H]
  rfl

theorem r33 : RN (s := S2x2048x8x8) (val_main_v33 (F := Ideal) x0)
    fun i => I.Q (i 0).val (i 1).val (64 * (i 2).val + (8 + (i 3).val)) * CS (i 1).val (i 3).val
      + I.Q (i 0).val (i 1).val (64 * (i 2).val + (i 3).val) * SN (i 1).val (i 3).val := fun i => by
  rw [val_main_v33_apply, val_main_v30_apply, val_main_v32_apply, val_main_v21_apply, val_main_v22_apply,
    val_main_v29_apply, val_main_v31_apply, val_main_v18_apply, val_main_v20_apply, r17, r19, r0 H, r0 H]
  rfl

theorem r23 : RN (s := S2x2048x8x48) (val_main_v23 (F := Ideal) x0)
    fun i => I.Q (i 0).val (i 1).val (64 * (i 2).val + (16 + (i 3).val)) := fun i => by
  rw [val_main_v23_apply, r0 H]

theorem r34 : RN (s := S2x2048x8x64) (val_main_v34 (F := Ideal) x0)
    fun i => rp I.Q (i 0).val (i 1).val (i 2).val (i 3).val := fun i => by
  have b0 : (i 0).val < 2 := (i 0).isLt
  have b1 : (i 1).val < 2048 := (i 1).isLt
  have b2 : (i 2).val < 8 := (i 2).isLt
  have b3 : (i 3).val < 64 := (i 3).isLt
  unfold val_main_v34 rp
  beta_reduce
  by_cases h1 : (i 3).val < 8
  · rw [concatenate_apply_piece (t := S2x2048x8x64) 3 _ _ i 0 (of_decide_eq_true rfl) S2x2048x8x8 _ rfl rfl 0 rfl
      (ValueIdx.ix4 ⟨(i 0).val, b0⟩ ⟨(i 1).val, b1⟩ ⟨(i 2).val, b2⟩ ⟨(i 3).val, h1⟩)
      (fun a => match a with | ⟨0, _⟩ => fun _ => rfl | ⟨1, _⟩ => fun _ => rfl | ⟨2, _⟩ => fun _ => rfl | ⟨3, _⟩ => fun h => absurd rfl h)
      (Nat.zero_add _), r28 H, if_pos h1]
  · rw [if_neg h1]
    by_cases h2 : (i 3).val < 16
    · rw [concatenate_apply_piece (t := S2x2048x8x64) 3 _ _ i 1 (of_decide_eq_true rfl) S2x2048x8x8 _ rfl rfl 8 rfl
        (ValueIdx.ix4 ⟨(i 0).val, b0⟩ ⟨(i 1).val, b1⟩ ⟨(i 2).val, b2⟩ ⟨(i 3).val - 8, (by omega : (i 3).val - 8 < 8)⟩)
        (fun a => match a with | ⟨0, _⟩ => fun _ => rfl | ⟨1, _⟩ => fun _ => rfl | ⟨2, _⟩ => fun _ => rfl | ⟨3, _⟩ => fun h => absurd rfl h)
        (by show 8 + ((i 3).val - 8) = (i 3).val; omega), r33 H, if_pos h2]
      show ((I.Q _ _ (64 * (i 2).val + (8 + ((i 3).val - 8))) * _ + _ : ℝ) : EReal) = _
      rw [show 8 + ((i 3).val - 8) = (i 3).val by omega]
    · rw [concatenate_apply_piece (t := S2x2048x8x64) 3 _ _ i 2 (of_decide_eq_true rfl) S2x2048x8x48 _ rfl rfl 16 rfl
        (ValueIdx.ix4 ⟨(i 0).val, b0⟩ ⟨(i 1).val, b1⟩ ⟨(i 2).val, b2⟩ ⟨(i 3).val - 16, (by omega : (i 3).val - 16 < 48)⟩)
        (fun a => match a with | ⟨0, _⟩ => fun _ => rfl | ⟨1, _⟩ => fun _ => rfl | ⟨2, _⟩ => fun _ => rfl | ⟨3, _⟩ => fun h => absurd rfl h)
        (by show 16 + ((i 3).val - 16) = (i 3).val; omega), r23 H, if_neg h2]
      show ((I.Q _ _ (64 * (i 2).val + (16 + ((i 3).val - 16))) : ℝ) : EReal) = _
      rw [show 16 + ((i 3).val - 16) = (i 3).val by omega]

theorem r35 : RN (s := S2x2048x2x64) (val_main_v35 (F := Ideal) x1)
    fun i => I.K (i 0).val (i 1).val (64 * (i 2).val + (i 3).val) := fun i => by
  have b0 : (i 0).val < 2 := (i 0).isLt
  have b1 : (i 1).val < 2048 := (i 1).isLt
  have b2 : (i 2).val < 2 := (i 2).isLt
  have b3 : (i 3).val < 64 := (i 3).isLt
  rw [val_main_v35_apply, H.k]
  dsimp only [idx_main_v35]
  congr 2 <;> omega

theorem r63 : RN (s := S2x2048x2x8) (val_main_v63 (F := Ideal) x1)
    fun i => I.K (i 0).val (i 1).val (64 * (i 2).val + (i 3).val) * CS (i 1).val (i 3).val
      - I.K (i 0).val (i 1).val (64 * (i 2).val + (8 + (i 3).val)) * SN (i 1).val (i 3).val := fun i => by
  rw [val_main_v63_apply, val_main_v60_apply, val_main_v62_apply, val_main_v56_apply, val_main_v57_apply,
    val_main_v59_apply, val_main_v61_apply, val_main_v53_apply, val_main_v55_apply, e52, e54, r17, r19, r35 H, r35 H]
  rfl

theorem r68 : RN (s := S2x2048x2x8) (val_main_v68 (F := Ideal) x1)
    fun i => I.K (i 0).val (i 1).val (64 * (i 2).val + (8 + (i 3).val)) * CS (i 1).val (i 3).val
      + I.K (i 0).val (i 1).val (64 * (i 2).val + (i 3).val) * SN (i 1).val (i 3).val := fun i => by
  rw [val_main_v68_apply, val_main_v65_apply, val_main_v67_apply, val_main_v56_apply, val_main_v57_apply,
    val_main_v64_apply, val_main_v66_apply, val_main_v53_apply, val_main_v55_apply, e52, e54, r17, r19, r35 H, r35 H]
  rfl

theorem r58 : RN (s := S2x2048x2x48) (val_main_v58 (F := Ideal) x1)
    fun i => I.K (i 0).val (i 1).val (64 * (i 2).val + (16 + (i 3).val)) := fun i => by
  rw [val_main_v58_apply, r35 H]

theorem r69 : RN (s := S2x2048x2x64) (val_main_v69 (F := Ideal) x1)
    fun i => rp I.K (i 0).val (i 1).val (i 2).val (i 3).val := fun i => by
  have b0 : (i 0).val < 2 := (i 0).isLt
  have b1 : (i 1).val < 2048 := (i 1).isLt
  have b2 : (i 2).val < 2 := (i 2).isLt
  have b3 : (i 3).val < 64 := (i 3).isLt
  unfold val_main_v69 rp
  beta_reduce
  by_cases h1 : (i 3).val < 8
  · rw [concatenate_apply_piece (t := S2x2048x2x64) 3 _ _ i 0 (of_decide_eq_true rfl) S2x2048x2x8 _ rfl rfl 0 rfl
      (ValueIdx.ix4 ⟨(i 0).val, b0⟩ ⟨(i 1).val, b1⟩ ⟨(i 2).val, b2⟩ ⟨(i 3).val, h1⟩)
      (fun a => match a with | ⟨0, _⟩ => fun _ => rfl | ⟨1, _⟩ => fun _ => rfl | ⟨2, _⟩ => fun _ => rfl | ⟨3, _⟩ => fun h => absurd rfl h)
      (Nat.zero_add _), r63 H, if_pos h1]
  · rw [if_neg h1]
    by_cases h2 : (i 3).val < 16
    · rw [concatenate_apply_piece (t := S2x2048x2x64) 3 _ _ i 1 (of_decide_eq_true rfl) S2x2048x2x8 _ rfl rfl 8 rfl
        (ValueIdx.ix4 ⟨(i 0).val, b0⟩ ⟨(i 1).val, b1⟩ ⟨(i 2).val, b2⟩ ⟨(i 3).val - 8, (by omega : (i 3).val - 8 < 8)⟩)
        (fun a => match a with | ⟨0, _⟩ => fun _ => rfl | ⟨1, _⟩ => fun _ => rfl | ⟨2, _⟩ => fun _ => rfl | ⟨3, _⟩ => fun h => absurd rfl h)
        (by show 8 + ((i 3).val - 8) = (i 3).val; omega), r68 H, if_pos h2]
      show ((I.K _ _ (64 * (i 2).val + (8 + ((i 3).val - 8))) * _ + _ : ℝ) : EReal) = _
      rw [show 8 + ((i 3).val - 8) = (i 3).val by omega]
    · rw [concatenate_apply_piece (t := S2x2048x2x64) 3 _ _ i 2 (of_decide_eq_true rfl) S2x2048x2x48 _ rfl rfl 16 rfl
        (ValueIdx.ix4 ⟨(i 0).val, b0⟩ ⟨(i 1).val, b1⟩ ⟨(i 2).val, b2⟩ ⟨(i 3).val - 16, (by omega : (i 3).val - 16 < 48)⟩)
        (fun a => match a with | ⟨0, _⟩ => fun _ => rfl | ⟨1, _⟩ => fun _ => rfl | ⟨2, _⟩ => fun _ => rfl | ⟨3, _⟩ => fun h => absurd rfl h)
        (by show 16 + ((i 3).val - 16) = (i 3).val; omega), r58 H, if_neg h2]
      show ((I.K _ _ (64 * (i 2).val + (16 + ((i 3).val - 16))) : ℝ) : EReal) = _
      rw [show 16 + ((i 3).val - 16) = (i 3).val by omega]

theorem r70 : RN (s := S2x2048x2x64) (val_main_v70 (F := Ideal) x2)
    fun i => I.V (i 0).val (i 1).val (64 * (i 2).val + (i 3).val) := fun i => by
  have b0 : (i 0).val < 2 := (i 0).isLt
  have b1 : (i 1).val < 2048 := (i 1).isLt
  have b2 : (i 2).val < 2 := (i 2).isLt
  have b3 : (i 3).val < 64 := (i 3).isLt
  rw [val_main_v70_apply, H.v]
  dsimp only [idx_main_v70]
  congr 2 <;> omega

end Cert.Ref
-- ==== Proof.Ref1.lean ====
/-
  The reference's blocks of keys, values and queries, its mask, and its scores.
-/
module

public import proofs.«01_k».proof.Proof.Ref0
public import Idealize.ShloMosaic.Lib.WordCmp

@[expose] public section

set_option maxRecDepth 16384

noncomputable section

namespace Cert.Ref

open Idealize.ShloMosaic Idealize.ShloMosaic.TcCoe Idealize.SL.Sem
open Cert.ReferenceIdeal Cert.ReferenceIdeal.Gen Cert.ReferenceIdeal.Read Cert.Re
open scoped BigOperators

variable {x0 : T0} {x1 x2 : T1} {x3 : T3} {x4 : T4} {x5 : T5} {I : In} (H : ArgR x0 x1 x2 x3 x4 x5 I)

/-- Row `j` of the two key blocks that block `n` of the queries sees; the block before the first is zero. -/
def two (A : ℕ → ℕ → ℕ → ℕ → ℝ) (b n j g d : ℕ) : ℝ :=
  if j < 128 then (if n = 0 then 0 else A b (128 * (n - 1) + j) g d) else A b (128 * n + (j - 128)) g d

def vh (I : In) (b t g d : ℕ) : ℝ := I.V b t (64 * g + d)
def kc (I : In) : ℕ → ℕ → ℕ → ℕ → ℕ → ℝ := two (rp I.K)
def vc (I : In) : ℕ → ℕ → ℕ → ℕ → ℕ → ℝ := two (vh I)
def qc (I : In) (b n i g h d : ℕ) : ℝ := rp I.Q b (128 * n + i) (4 * g + h) d

/-- Query `i` of block `n` sees key `j` of its two blocks. -/
def msk (n i j : ℕ) : Prop := i < j ∧ j ≤ i + 128 ∧ 128 ≤ 128 * n + j
instance (n i j : ℕ) : Decidable (msk n i j) := by unfold msk; infer_instance

def sc (I : In) (b n g h i j : ℕ) : ℝ := (∑ d ∈ Finset.range 64, kc I b n j g d * qc I b n i g h d) * (1 / 8)

theorem k8 : Ideal.ofBits .f32 0x3E000000#32 = ((1 / 8 : ℝ) : EReal) := by
  simp [Ideal.ofBits, Ideal.ieee]; rw [← EReal.coe_mul]; norm_num
theorem kbot : Ideal.ofBits .f32 0xFF800000#32 = (⊥ : EReal) := by
  simp [Ideal.ofBits, Ideal.ieee]

include H

theorem r73 : RN (s := S2x16x128x2x64) (val_main_v73 (F := Ideal) x1)
    fun i => rp I.K (i 0).val (128 * (i 1).val + (i 2).val) (i 3).val (i 4).val := fun i => by
  have b0 : (i 0).val < 2 := (i 0).isLt
  have b1 : (i 1).val < 16 := (i 1).isLt
  have b2 : (i 2).val < 128 := (i 2).isLt
  have b3 : (i 3).val < 2 := (i 3).isLt
  have b4 : (i 4).val < 64 := (i 4).isLt
  rw [val_main_v73_apply, r69 H]
  dsimp only [idx_main_v73]
  congr 2 <;> omega

theorem r80 : RN (s := S2x16x128x2x64) (val_main_v80 (F := Ideal) x2)
    fun i => vh I (i 0).val (128 * (i 1).val + (i 2).val) (i 3).val (i 4).val := fun i => by
  have b0 : (i 0).val < 2 := (i 0).isLt
  have b1 : (i 1).val < 16 := (i 1).isLt
  have b2 : (i 2).val < 128 := (i 2).isLt
  have b3 : (i 3).val < 2 := (i 3).isLt
  have b4 : (i 4).val < 64 := (i 4).isLt
  rw [val_main_v80_apply, r70 H]
  dsimp only [idx_main_v80, vh]
  congr 2 <;> omega

theorem r77 : RN (s := S2x16x128x2x64) (val_main_v77 (F := Ideal) x1)
    fun i => if (i 1).val = 0 then 0 else rp I.K (i 0).val (128 * ((i 1).val - 1) + (i 2).val) (i 3).val (i 4).val := fun i => by
  have b0 : (i 0).val < 2 := (i 0).isLt
  have b1 : (i 1).val < 16 := (i 1).isLt
  have b2 : (i 2).val < 128 := (i 2).isLt
  have b3 : (i 3).val < 2 := (i 3).isLt
  have b4 : (i 4).val < 64 := (i 4).isLt
  unfold val_main_v77
  beta_reduce
  by_cases h : (i 1).val = 0
  · rw [concatenate_apply_piece (t := S2x16x128x2x64) 1 _ _ i 0 (of_decide_eq_true rfl) S2x1x128x2x64 _ rfl rfl 0 rfl
      (ValueIdx.ix5 ⟨(i 0).val, b0⟩ ⟨0, Nat.one_pos⟩ ⟨(i 2).val, b2⟩ ⟨(i 3).val, b3⟩ ⟨(i 4).val, b4⟩)
      (fun a => match a with | ⟨0, _⟩ => fun _ => rfl | ⟨1, _⟩ => fun h => absurd rfl h | ⟨2, _⟩ => fun _ => rfl | ⟨3, _⟩ => fun _ => rfl | ⟨4, _⟩ => fun _ => rfl)
      (by show 0 + 0 = (i 1).val; omega), if_pos h, val_main_v75_apply]
    exact k0
  · rw [concatenate_apply_piece (t := S2x16x128x2x64) 1 _ _ i 1 (of_decide_eq_true rfl) S2x15x128x2x64 _ rfl rfl 1 rfl
      (ValueIdx.ix5 ⟨(i 0).val, b0⟩ ⟨(i 1).val - 1, (by omega : (i 1).val - 1 < 15)⟩ ⟨(i 2).val, b2⟩ ⟨(i 3).val, b3⟩ ⟨(i 4).val, b4⟩)
      (fun a => match a with | ⟨0, _⟩ => fun _ => rfl | ⟨1, _⟩ => fun h => absurd rfl h | ⟨2, _⟩ => fun _ => rfl | ⟨3, _⟩ => fun _ => rfl | ⟨4, _⟩ => fun _ => rfl)
      (by show 1 + ((i 1).val - 1) = (i 1).val; omega), if_neg h, val_main_v76_apply, r73 H]

theorem r84 : RN (s := S2x16x128x2x64) (val_main_v84 (F := Ideal) x2)
    fun i => if (i 1).val = 0 then 0 else vh I (i 0).val (128 * ((i 1).val - 1) + (i 2).val) (i 3).val (i 4).val := fun i => by
  have b0 : (i 0).val < 2 := (i 0).isLt
  have b1 : (i 1).val < 16 := (i 1).isLt
  have b2 : (i 2).val < 128 := (i 2).isLt
  have b3 : (i 3).val < 2 := (i 3).isLt
  have b4 : (i 4).val < 64 := (i 4).isLt
  unfold val_main_v84
  beta_reduce
  by_cases h : (i 1).val = 0
  · rw [concatenate_apply_piece (t := S2x16x128x2x64) 1 _ _ i 0 (of_decide_eq_true rfl) S2x1x128x2x64 _ rfl rfl 0 rfl
      (ValueIdx.ix5 ⟨(i 0).val, b0⟩ ⟨0, Nat.one_pos⟩ ⟨(i 2).val, b2⟩ ⟨(i 3).val, b3⟩ ⟨(i 4).val, b4⟩)
      (fun a => match a with | ⟨0, _⟩ => fun _ => rfl | ⟨1, _⟩ => fun h => absurd rfl h | ⟨2, _⟩ => fun _ => rfl | ⟨3, _⟩ => fun _ => rfl | ⟨4, _⟩ => fun _ => rfl)
      (by show 0 + 0 = (i 1).val; omega), if_pos h, val_main_v82_apply]
    exact k0
  · rw [concatenate_apply_piece (t := S2x16x128x2x64) 1 _ _ i 1 (of_decide_eq_true rfl) S2x15x128x2x64 _ rfl rfl 1 rfl
      (ValueIdx.ix5 ⟨(i 0).val, b0⟩ ⟨(i 1).val - 1, (by omega : (i 1).val - 1 < 15)⟩ ⟨(i 2).val, b2⟩ ⟨(i 3).val, b3⟩ ⟨(i 4).val, b4⟩)
      (fun a => match a with | ⟨0, _⟩ => fun _ => rfl | ⟨1, _⟩ => fun h => absurd rfl h | ⟨2, _⟩ => fun _ => rfl | ⟨3, _⟩ => fun _ => rfl | ⟨4, _⟩ => fun _ => rfl)
      (by show 1 + ((i 1).val - 1) = (i 1).val; omega), if_neg h, val_main_v83_apply, r80 H]

theorem r79 : RN (s := S2x16x256x2x64) (val_main_v79 (F := Ideal) x1)
    fun i => kc I (i 0).val (i 1).val (i 2).val (i 3).val (i 4).val := fun i => by
  have b0 : (i 0).val < 2 := (i 0).isLt
  have b1 : (i 1).val < 16 := (i 1).isLt
  have b2 : (i 2).val < 256 := (i 2).isLt
  have b3 : (i 3).val < 2 := (i 3).isLt
  have b4 : (i 4).val < 64 := (i 4).isLt
  unfold val_main_v79 kc two
  beta_reduce
  by_cases h : (i 2).val < 128
  · rw [concatenate_apply_piece (t := S2x16x256x2x64) 2 _ _ i 0 (of_decide_eq_true rfl) S2x16x128x2x64 _ rfl rfl 0 rfl
      (ValueIdx.ix5 ⟨(i 0).val, b0⟩ ⟨(i 1).val, b1⟩ ⟨(i 2).val, h⟩ ⟨(i 3).val, b3⟩ ⟨(i 4).val, b4⟩)
      (fun a => match a with | ⟨0, _⟩ => fun _ => rfl | ⟨1, _⟩ => fun _ => rfl | ⟨2, _⟩ => fun h => absurd rfl h | ⟨3, _⟩ => fun _ => rfl | ⟨4, _⟩ => fun _ => rfl)
      (Nat.zero_add _), if_pos h, r77 H]
  · rw [concatenate_apply_piece (t := S2x16x256x2x64) 2 _ _ i 1 (of_decide_eq_true rfl) S2x16x128x2x64 _ rfl rfl 128 rfl
      (ValueIdx.ix5 ⟨(i 0).val, b0⟩ ⟨(i 1).val, b1⟩ ⟨(i 2).val - 128, (by omega : (i 2).val - 128 < 128)⟩ ⟨(i 3).val, b3⟩ ⟨(i 4).val, b4⟩)
      (fun a => match a with | ⟨0, _⟩ => fun _ => rfl | ⟨1, _⟩ => fun _ => rfl | ⟨2, _⟩ => fun h => absurd rfl h | ⟨3, _⟩ => fun _ => rfl | ⟨4, _⟩ => fun _ => rfl)
      (by show 128 + ((i 2).val - 128) = (i 2).val; omega), if_neg h, r73 H]

theorem r86 : RN (s := S2x16x256x2x64) (val_main_v86 (F := Ideal) x2)
    fun i => vc I (i 0).val (i 1).val (i 2).val (i 3).val (i 4).val := fun i => by
  have b0 : (i 0).val < 2 := (i 0).isLt
  have b1 : (i 1).val < 16 := (i 1).isLt
  have b2 : (i 2).val < 256 := (i 2).isLt
  have b3 : (i 3).val < 2 := (i 3).isLt
  have b4 : (i 4).val < 64 := (i 4).isLt
  unfold val_main_v86 vc two
  beta_reduce
  by_cases h : (i 2).val < 128
  · rw [concatenate_apply_piece (t := S2x16x256x2x64) 2 _ _ i 0 (of_decide_eq_true rfl) S2x16x128x2x64 _ rfl rfl 0 rfl
      (ValueIdx.ix5 ⟨(i 0).val, b0⟩ ⟨(i 1).val, b1⟩ ⟨(i 2).val, h⟩ ⟨(i 3).val, b3⟩ ⟨(i 4).val, b4⟩)
      (fun a => match a with | ⟨0, _⟩ => fun _ => rfl | ⟨1, _⟩ => fun _ => rfl | ⟨2, _⟩ => fun h => absurd rfl h | ⟨3, _⟩ => fun _ => rfl | ⟨4, _⟩ => fun _ => rfl)
      (Nat.zero_add _), if_pos h, r84 H]
  · rw [concatenate_apply_piece (t := S2x16x256x2x64) 2 _ _ i 1 (of_decide_eq_true rfl) S2x16x128x2x64 _ rfl rfl 128 rfl
      (ValueIdx.ix5 ⟨(i 0).val, b0⟩ ⟨(i 1).val, b1⟩ ⟨(i 2).val - 128, (by omega : (i 2).val - 128 < 128)⟩ ⟨(i 3).val, b3⟩ ⟨(i 4).val, b4⟩)
      (fun a => match a with | ⟨0, _⟩ => fun _ => rfl | ⟨1, _⟩ => fun _ => rfl | ⟨2, _⟩ => fun h => absurd rfl h | ⟨3, _⟩ => fun _ => rfl | ⟨4, _⟩ => fun _ => rfl)
      (by show 128 + ((i 2).val - 128) = (i 2).val; omega), if_neg h, r80 H]

theorem r72 : RN (s := S2x16x128x2x4x64) (val_main_v72 (F := Ideal) x0)
    fun i => qc I (i 0).val (i 1).val (i 2).val (i 3).val (i 4).val (i 5).val := fun i => by
  have b0 : (i 0).val < 2 := (i 0).isLt
  have b1 : (i 1).val < 16 := (i 1).isLt
  have b2 : (i 2).val < 128 := (i 2).isLt
  have b3 : (i 3).val < 2 := (i 3).isLt
  have b4 : (i 4).val < 4 := (i 4).isLt
  have b5 : (i 5).val < 64 := (i 5).isLt
  unfold val_main_v72
  rw [shapeCast_apply _ _ i (ValueIdx.ix4 (n0 := 2) (n1 := 2048) (n2 := 8) (n3 := 64) ⟨(i 0).val, b0⟩ ⟨128 * (i 1).val + (i 2).val, by omega⟩ ⟨4 * (i 3).val + (i 4).val, by omega⟩ ⟨(i 5).val, b5⟩)
    (by
      rewrite [Shape.rowMajor_val_four, Shape.rowMajor_val_six]
      show (((i 0).val * 2048 + (128 * (i 1).val + (i 2).val)) * 8 + (4 * (i 3).val + (i 4).val)) * 64 + (i 5).val
        = (((((i 0).val * 16 + (i 1).val) * 128 + (i 2).val) * 2 + (i 3).val) * 4 + (i 4).val) * 64 + (i 5).val
      omega)]
  rw [r34 H]
  rfl

theorem r90 : RN (s := S2x16x2x4x128x256) (val_main_v90 (F := Ideal) x0 x1)
    fun i => sc I (i 0).val (i 1).val (i 2).val (i 3).val (i 4).val (i 5).val := fun i => by
  rw [val_main_v90_apply, val_main_v88_apply, val_main_v89_apply, val_main_v87_apply,
    sum_fin _ (fun d => kc I (i 0).val (i 1).val (i 5).val (i 2).val d * qc I (i 0).val (i 1).val (i 4).val (i 2).val (i 3).val d)
      (fun k => by rw [r79 H, r72 H, ← EReal.coe_mul])]
  show (_ : EReal) * Ideal.ofBits .f32 0x3E000000#32 = _
  rw [k8, ← EReal.coe_mul]
  rfl

omit H

theorem wd (n i j : ℕ) (hn : n < 16) (hi : i < 128) (hj : j < 256) :
    IntOp.andi (IntOp.andi
      (IntOp.cmpi .sge (IntOp.subi (IntOp.addi (IntOp.muli (BitVec.ofNat 32 n) 128#32) (BitVec.ofNat 32 i))
        (IntOp.addi (IntOp.muli (IntOp.subi (BitVec.ofNat 32 n) 1#32) 128#32) (BitVec.ofNat 32 j))) 0#32)
      (IntOp.cmpi .slt (IntOp.subi (IntOp.addi (IntOp.muli (BitVec.ofNat 32 n) 128#32) (BitVec.ofNat 32 i))
        (IntOp.addi (IntOp.muli (IntOp.subi (BitVec.ofNat 32 n) 1#32) 128#32) (BitVec.ofNat 32 j))) 128#32))
      (IntOp.cmpi .sge (IntOp.addi (IntOp.muli (IntOp.subi (BitVec.ofNat 32 n) 1#32) 128#32) (BitVec.ofNat 32 j)) 0#32)
      = BitVec.ofBool (decide (msk n i j)) := by
  have e1 : (IntOp.subi (IntOp.addi (IntOp.muli (BitVec.ofNat 32 n) 128#32) (BitVec.ofNat 32 i))
        (IntOp.addi (IntOp.muli (IntOp.subi (BitVec.ofNat 32 n) 1#32) 128#32) (BitVec.ofNat 32 j))).toInt = (i : ℤ) + 128 - j := by
    rw [BitVec.toInt_eq_toNat_cond]
    simp only [IntOp.subi, IntOp.addi, IntOp.muli, BitVec.toNat_sub, BitVec.toNat_add, BitVec.toNat_mul, BitVec.toNat_ofNat]
    split <;> omega
  have e2 : (IntOp.addi (IntOp.muli (IntOp.subi (BitVec.ofNat 32 n) 1#32) 128#32) (BitVec.ofNat 32 j)).toInt = 128 * (n : ℤ) + j - 128 := by
    rw [BitVec.toInt_eq_toNat_cond]
    simp only [IntOp.subi, IntOp.addi, IntOp.muli, BitVec.toNat_sub, BitVec.toNat_add, BitVec.toNat_mul, BitVec.toNat_ofNat]
    split <;> omega
  rw [WordCmp.cmpi_sge_eq, WordCmp.cmpi_sge_eq, WordCmp.cmpi_slt_eq, e1, e2, WordCmp.andi_ofBool, WordCmp.andi_ofBool]
  rw [← Bool.decide_and, ← Bool.decide_and]
  refine congrArg BitVec.ofBool (decide_eq_decide.mpr ?_)
  have z0 : (0#32).toInt = 0 := rfl
  have z1 : (128#32).toInt = 128 := rfl
  rw [z0, z1]
  unfold msk
  omega

theorem r123 (i : S16x128x256.Idx) :
    val_main_v123 (F := Ideal) i = BitVec.ofBool (decide (msk (i 0).val (i 1).val (i 2).val)) := by
  rw [← wd (i 0).val (i 1).val (i 2).val (i 0).isLt (i 1).isLt (i 2).isLt]
  rw [val_main_v123_apply, val_main_v118_apply, val_main_v122_apply, val_main_v115_apply, val_main_v117_apply, val_main_v121_apply,
    val_main_v113_apply, val_main_v119_apply, val_main_v111_apply, val_main_v112_apply, val_main_v109_apply, val_main_v110_apply,
    val_main_v114_apply, val_main_v116_apply, val_main_v120_apply, val_main_v108_apply, val_main_v99_apply,
    val_main_v106_apply, val_main_v107_apply, val_main_v97_apply, val_main_v98_apply, val_main_v94_apply, val_main_v96_apply,
    val_main_v103_apply, val_main_v105_apply, val_main_v101_apply, val_main_v92_apply,
    val_main_v93_apply, val_main_v100_apply, val_main_v102_apply]
  rfl

theorem r125_1 (i : S2x16x2x4x128x256.Idx) :
    val_main_v125_1 (F := Ideal) i = BitVec.ofBool (decide (msk (i 1).val (i 4).val (i 5).val)) := by
  rw [val_main_v125_1_apply, val_main_v124_apply, r123]

include H

theorem r125 (i : S2x16x2x4x128x256.Idx) :
    val_main_v125_0 (F := Ideal) x0 x1 i = if msk (i 1).val (i 4).val (i 5).val then
      ((sc I (i 0).val (i 1).val (i 2).val (i 3).val (i 4).val (i 5).val : ℝ) : EReal) else ⊥ := by
  rw [val_main_v125_0_apply, r125_1, r90 H, val_main_call0_v2_apply, val_main_call0_v0_apply]
  show Scalar.select _ _ (Ideal.ofBits .f32 0xFF800000#32) = _
  rw [kbot, WordCmp.select_ofBool]
  by_cases h : msk (i 1).val (i 4).val (i 5).val
  · rw [if_pos h, if_pos (decide_eq_true h)]
  · rw [if_neg h, if_neg (by simp [h])]

end Cert.Ref
-- ==== Proof.Ref2.lean ====
/-
  The reference's softmax with a sink: the row maximum is a real number and cancels, so that the weights are the
  exponentials of the scores less the logarithm of their sum.
-/
module

public import proofs.«01_k».proof.Proof.Ref1

@[expose] public section

set_option maxRecDepth 16384

noncomputable section

namespace Cert.Ref

open Idealize.ShloMosaic Idealize.ShloMosaic.TcCoe Idealize.SL.Sem
open Cert.ReferenceIdeal Cert.ReferenceIdeal.Gen Cert.ReferenceIdeal.Read Cert.Re
open scoped BigOperators

variable {x0 : T0} {x1 x2 : T1} {x3 : T3} {x4 : T4} {x5 : T5} {I : In} (H : ArgR x0 x1 x2 x3 x4 x5 I)

theorem fold_real {n : ℕ} (f : Fin n → EReal) (h : ∀ k, f k = ⊥ ∨ ∃ r : ℝ, f k = r) (k0 : Fin n) (r0 : ℝ) (e0 : f k0 = r0) :
    ∃ r : ℝ, (Finset.univ : Finset (Fin n)).fold max ⊥ f = r := by
  set c := (Finset.univ : Finset (Fin n)).fold max ⊥ f with hc
  have h1 : c < ⊤ := Finset.fold_max_lt _ |>.mpr ⟨bot_lt_top, fun k _ => by
    rcases h k with e | ⟨r, e⟩
    · rw [e]; exact bot_lt_top
    · rw [e]; exact EReal.coe_lt_top r⟩
  have h2 : (r0 : EReal) ≤ c := (Finset.le_fold_max _).mpr (Or.inr ⟨k0, Finset.mem_univ _, le_of_eq e0.symm⟩)
  refine ⟨c.toReal, (EReal.coe_toReal (ne_of_lt h1) (fun e => ?_)).symm⟩
  rw [e] at h2
  exact absurd h2 (not_le.mpr (EReal.bot_lt_coe r0))

theorem fold_attained {n : ℕ} (f : Fin n → EReal) (r : ℝ) (e : (Finset.univ : Finset (Fin n)).fold max ⊥ f = r) :
    ∃ k, f k = (Finset.univ : Finset (Fin n)).fold max ⊥ f := by
  rcases (Finset.le_fold_max (s := Finset.univ) (b := ⊥) (f := f) _).mp le_rfl with h | ⟨k, _, h⟩
  · rw [e] at h; exact absurd h (not_le.mpr (EReal.bot_lt_coe r))
  · exact ⟨k, le_antisymm ((Finset.le_fold_max _).mpr (Or.inr ⟨k, Finset.mem_univ _, le_rfl⟩)) h⟩

theorem e128 (i : S2x16x2x4x128.Idx) : val_main_v128 (F := Ideal) x0 x1 i
    = (Finset.univ : Finset (Fin 256)).fold max ⊥ fun k => val_main_v125_0 (F := Ideal) x0 x1 (idx_main_v158 i k) := by
  unfold val_main_v128
  rw [Host.reduce_eq_fold_single (a := 5) FloatOps.maximumf _ _ reducesTo_S2x16x2x4x128x256_S2x16x2x4x128_d5 (by decide)]
  have e : (val_main_cst_18 (F := Ideal)) (Shape.Idx.first h_S_) = ⊥ := kbot
  rw [e]
  refine congrArg (Finset.fold max ⊥ · Finset.univ) (funext fun k => ?_)
  exact congrArg (val_main_v125_0 (F := Ideal) x0 x1) (funext fun a => Fin.ext (by
    match a with | ⟨0, _⟩ => rfl | ⟨1, _⟩ => rfl | ⟨2, _⟩ => rfl | ⟨3, _⟩ => rfl | ⟨4, _⟩ => rfl | ⟨5, _⟩ => rfl))

include H

theorem r128 (i : S2x16x2x4x128.Idx) : ∃ r : ℝ, val_main_v128 (F := Ideal) x0 x1 i = r := by
  have b1 : (i 1).val < 16 := (i 1).isLt
  have b4 : (i 4).val < 128 := (i 4).isLt
  rw [e128]
  refine fold_real _ (fun k => ?_) ⟨(i 4).val + 128, by omega⟩
    (sc I (i 0).val (i 1).val (i 2).val (i 3).val (i 4).val ((i 4).val + 128)) ?_
  · rw [r125 H]
    split
    · exact Or.inr ⟨_, rfl⟩
    · exact Or.inl rfl
  · rw [r125 H, if_pos]
    show msk (i 1).val (i 4).val ((i 4).val + 128)
    unfold msk
    omega

theorem r71 : RN (s := S2x4) (val_main_v126 (F := Ideal) x3) fun i => I.SK (4 * (i 0).val + (i 1).val) := fun i => by
  have b0 : (i 0).val < 2 := (i 0).isLt
  have b1 : (i 1).val < 4 := (i 1).isLt
  rw [val_main_v126_apply, val_main_v71_apply, H.sk]
  dsimp only [idx_main_v126, idx_main_v71]
  congr 2; omega

theorem r127 : RN (s := S1x1x2x4x1x1) (val_main_v127 (F := Ideal) x3) fun i => I.SK (4 * (i 2).val + (i 3).val) := fun i => by
  rw [val_main_v127_apply, r71 H]

omit H

/-- The reference's row maximum, a real number. -/
def mx (x0 : T0) (x1 : T1) (x3 : T3) (b n g h i : ℕ) : ℝ :=
  if hh : b < 2 ∧ n < 16 ∧ g < 2 ∧ h < 4 ∧ i < 128 then
    (val_main_v136 (F := Ideal) x0 x1 x3 (ValueIdx.ix6 (n0 := 2) (n1 := 16) (n2 := 2) (n3 := 4) (n4 := 128) (n5 := 1) ⟨b, hh.1⟩ ⟨n, hh.2.1⟩ ⟨g, hh.2.2.1⟩ ⟨h, hh.2.2.2.1⟩ ⟨i, hh.2.2.2.2⟩ ⟨0, Nat.one_pos⟩)).toReal
  else 0

def zz (I : In) (b n g h i : ℕ) : ℝ :=
  (∑ j ∈ Finset.range 256, if msk n i j then Real.exp (sc I b n g h i j) else 0) + Real.exp (I.SK (4 * g + h))
/-- The logarithm of a row's sum of exponentials. -/
def lse (I : In) (b n g h i : ℕ) : ℝ := Real.log (zz I b n g h i)
/-- The attention's weights. -/
def pr (I : In) (b n g h i j : ℕ) : ℝ := if msk n i j then Real.exp (sc I b n g h i j - lse I b n g h i) else 0

theorem zz_pos (b n g h i : ℕ) : 0 < zz I b n g h i :=
  add_pos_of_nonneg_of_pos (Finset.sum_nonneg fun j _ => by split <;> positivity) (Real.exp_pos _)

theorem exp_lse (b n g h i : ℕ) : Real.exp (lse I b n g h i) = zz I b n g h i := Real.exp_log (zz_pos b n g h i)

theorem pr_sum (b n g h i : ℕ) :
    (∑ j ∈ Finset.range 256, pr I b n g h i j) + Real.exp (I.SK (4 * g + h) - lse I b n g h i) = 1 := by
  have hz := zz_pos (I := I) b n g h i
  have e : ∀ j, pr I b n g h i j = (if msk n i j then Real.exp (sc I b n g h i j) else 0) * (zz I b n g h i)⁻¹ := fun j => by
    unfold pr
    split
    · rw [Real.exp_sub, exp_lse, div_eq_mul_inv]
    · rw [zero_mul]
  rw [Finset.sum_congr rfl fun j _ => e j, ← Finset.sum_mul, Real.exp_sub, exp_lse, div_eq_mul_inv, ← add_mul]
  exact mul_inv_cancel₀ hz.ne'

include H

theorem r136 : RN (s := S2x16x2x4x128x1) (val_main_v136 (F := Ideal) x0 x1 x3)
    fun i => mx x0 x1 x3 (i 0).val (i 1).val (i 2).val (i 3).val (i 4).val := fun i => by
  have b0 : (i 0).val < 2 := (i 0).isLt
  have b1 : (i 1).val < 16 := (i 1).isLt
  have b2 : (i 2).val < 2 := (i 2).isLt
  have b3 : (i 3).val < 4 := (i 3).isLt
  have b4 : (i 4).val < 128 := (i 4).isLt
  have b5 : (i 5).val < 1 := (i 5).isLt
  have e : ∃ r : ℝ, val_main_v136 (F := Ideal) x0 x1 x3 i = r := by
    rw [val_main_v136_apply, val_main_v134_apply, val_main_v135_apply, r127 H]
    obtain ⟨r, hr⟩ := r128 H (idx_main_v134 i)
    rw [hr]
    exact ⟨_, ((EReal.coe_strictMono.monotone.map_max (a := r)).symm)⟩
  obtain ⟨r, hr⟩ := e
  have ei : i = ValueIdx.ix6 (n0 := 2) (n1 := 16) (n2 := 2) (n3 := 4) (n4 := 128) (n5 := 1) ⟨(i 0).val, b0⟩ ⟨(i 1).val, b1⟩ ⟨(i 2).val, b2⟩ ⟨(i 3).val, b3⟩ ⟨(i 4).val, b4⟩ ⟨0, Nat.one_pos⟩ :=
    funext fun a => match a with
      | ⟨0, _⟩ => rfl | ⟨1, _⟩ => rfl | ⟨2, _⟩ => rfl | ⟨3, _⟩ => rfl | ⟨4, _⟩ => rfl
      | ⟨5, _⟩ => Fin.ext (show (i 5).val = 0 by omega)
  unfold mx
  beta_reduce
  rw [dif_pos ⟨b0, b1, b2, b3, b4⟩, ← ei, hr, EReal.toReal_coe]

theorem r157 : RN (s := S2x16x2x4x128x256) (val_main_v157 (F := Ideal) x0 x1 x3)
    fun i => if msk (i 1).val (i 4).val (i 5).val then
      Real.exp (sc I (i 0).val (i 1).val (i 2).val (i 3).val (i 4).val (i 5).val
        - mx x0 x1 x3 (i 0).val (i 1).val (i 2).val (i 3).val (i 4).val) else 0 := fun i => by
  rw [val_main_v157_apply, val_main_v156_apply, val_main_v155_apply, r136 H, r125 H]
  dsimp only [idx_main_v155, Ideal.hostUnary_exp_def, Ideal.subf_def]
  split
  · rw [← EReal.coe_sub, Ideal.exp_coe]
  · rw [EReal.bot_sub, Ideal.exp_bot]; rfl

theorem r158 : RN (s := S2x16x2x4x128) (val_main_v158 (F := Ideal) x0 x1 x3)
    fun i => ∑ j ∈ Finset.range 256, if msk (i 1).val (i 4).val j then
      Real.exp (sc I (i 0).val (i 1).val (i 2).val (i 3).val (i 4).val j
        - mx x0 x1 x3 (i 0).val (i 1).val (i 2).val (i 3).val (i 4).val) else 0 := fun i => by
  rw [val_main_v158_apply, sum_fin _ (fun j => if msk (i 1).val (i 4).val j then
      Real.exp (sc I (i 0).val (i 1).val (i 2).val (i 3).val (i 4).val j
        - mx x0 x1 x3 (i 0).val (i 1).val (i 2).val (i 3).val (i 4).val) else 0) (fun k => r157 H (idx_main_v158 i k))]
  show Ideal.ofBits .f32 0x00000000#32 + _ = _
  rw [k0, ← EReal.coe_add, zero_add]

theorem r162 : RN (s := S2x16x2x4x128x1) (val_main_v162 (F := Ideal) x0 x1 x3)
    fun i => Real.exp (I.SK (4 * (i 2).val + (i 3).val) - mx x0 x1 x3 (i 0).val (i 1).val (i 2).val (i 3).val (i 4).val) := fun i => by
  rw [val_main_v162_apply, val_main_v161_apply, val_main_v160_apply, r136 H, r127 H]
  dsimp only [idx_main_v160, Ideal.hostUnary_exp_def, Ideal.subf_def]
  rw [← EReal.coe_sub, Ideal.exp_coe]

theorem r163 : RN (s := S2x16x2x4x128x1) (val_main_v163 (F := Ideal) x0 x1 x3)
    fun i => Real.exp (lse I (i 0).val (i 1).val (i 2).val (i 3).val (i 4).val
      - mx x0 x1 x3 (i 0).val (i 1).val (i 2).val (i 3).val (i 4).val) := fun i => by
  rw [val_main_v163_apply, val_main_v159_apply, r158 H, r162 H]
  dsimp only [idx_main_v159, Ideal.addf_def]
  rw [← EReal.coe_add]
  refine congrArg _ ?_
  rw [Real.exp_sub (lse _ _ _ _ _ _), exp_lse, Real.exp_sub, zz, add_div]
  refine congrArg (· + _) ?_
  rw [Finset.sum_div]
  refine Finset.sum_congr rfl fun j _ => ?_
  split
  · rw [Real.exp_sub]
  · rw [zero_div]

theorem r165 : RN (s := S2x16x2x4x128x256) (val_main_v165 (F := Ideal) x0 x1 x3)
    fun i => pr I (i 0).val (i 1).val (i 2).val (i 3).val (i 4).val (i 5).val := fun i => by
  rw [val_main_v165_apply, val_main_v164_apply, r157 H, r163 H]
  dsimp only [idx_main_v164, Ideal.hostDivf_def]
  rw [Ideal.div_coe (Real.exp_pos _).ne', ← EReal.coe_mul]
  refine congrArg _ ?_
  unfold pr
  split
  · rw [mul_one_div, ← Real.exp_sub]; congr 1; ring
  · rw [zero_mul]

theorem r173 : RN (s := S2x16x2x4x128x1) (val_main_v173 (F := Ideal) x0 x1 x3)
    fun i => lse I (i 0).val (i 1).val (i 2).val (i 3).val (i 4).val := fun i => by
  rw [val_main_v173_apply, val_main_v172_apply, r163 H, r136 H]
  dsimp only [Ideal.hostUnary_log_def, Ideal.addf_def]
  rw [Ideal.log_coe, if_neg (not_le.mpr (Real.exp_pos _)), Real.log_exp, ← EReal.coe_add]
  refine congrArg _ ?_
  ring

end Cert.Ref
-- ==== Proof.Ref3.lean ====
/-
  The reference's attention output, its norm and the norm's backward.
-/
module

public import proofs.«01_k».proof.Proof.Ref2
public import proofs.«01_k».proof.Proof.Spec
public import Idealize.ShloMosaic.Lib.Pointwise.Reduce

@[expose] public section

set_option maxRecDepth 16384

noncomputable section

namespace Cert.Ref

open Idealize.ShloMosaic Idealize.ShloMosaic.TcCoe Idealize.SL.Sem
open Cert.ReferenceIdeal Cert.ReferenceIdeal.Gen Cert.ReferenceIdeal.Read Cert.Re
open scoped BigOperators

variable {x0 : T0} {x1 x2 : T1} {x3 : T3} {x4 : T4} {x5 : T5} {I : In} (H : ArgR x0 x1 x2 x3 x4 x5 I)

/-- The attention's output before its norm. -/
def raw (I : In) (b t c : ℕ) : ℝ :=
  ∑ j ∈ Finset.range 256, vc I b (t / 128) j (c / 256) (c % 64) * pr I b (t / 128) (c / 256) (c / 64 % 4) (t % 128) j
def ms (I : In) (b t : ℕ) : ℝ := (∑ c ∈ Finset.range 512, raw I b t c * raw I b t c) / 512 + Spec.eps
def rs (I : In) (b t : ℕ) : ℝ := Spec.rstd (raw I b) t
def on (I : In) (b t c : ℕ) : ℝ := Spec.on (raw I b) t c
/-- The gradient of the attention's output before its norm. -/
def dO (I : In) (b t c : ℕ) : ℝ := Spec.gdo I.W (raw I b) (I.DA b) t c
def dwr (I : In) (c : ℕ) : ℝ := ∑ b ∈ Finset.range 2, ∑ t ∈ Finset.range 2048, on I b t c * I.DA b t c

/-- A sum over the axes a reduction drops, through any numbering of them. -/
theorem hred {s t : Shape} {axes : List (Fin s.rank)} (h : s.ReducesTo axes t) {K : Type} [Fintype K] (f : K → s.Idx)
    (hf : Function.Injective f) (j : t.Idx) (hj : ∀ i, h.drop i = j ↔ ∃ k, f k = i) (x : s.Idx → EReal) (r : EReal) :
    Ideal.hostReduceAdd h x r j = r + ∑ k, x (f k) := by
  classical
  unfold Ideal.hostReduceAdd
  refine congrArg (r + ·) ?_
  rw [← Finset.sum_filter_eq_sum_of_fiber (fun i => h.drop i = j) f hf hj x]

theorem keps : Ideal.ofBits .f32 0x358637BD#32 = ((Spec.eps : ℝ) : EReal) ∧ 0 < Spec.eps := by
  have h : Ideal.ofBits .f32 0x358637BD#32 = (((2 ^ 23 + 407485 : ℕ) * (2 : ℝ) ^ (-43 : ℤ) : ℝ) : EReal) := by
    simp [Ideal.ofBits, Ideal.ieee]
  unfold Spec.eps
  rw [h, EReal.toReal_coe]
  exact ⟨rfl, by positivity⟩
theorem k512 : Ideal.ofBits .f32 0x44000000#32 = ((512 : ℝ) : EReal) := by
  simp [Ideal.ofBits, Ideal.ieee]; rw [← EReal.coe_mul]; norm_num
theorem kmh : Ideal.ofBits .f32 0xBF000000#32 = ((-(1 / 2) : ℝ) : EReal) := by
  simp [Ideal.ofBits, Ideal.ieee]; rw [← EReal.coe_mul]; norm_num
theorem k1 : Ideal.ofBits .f32 0x3F800000#32 = ((1 : ℝ) : EReal) := by
  simp [Ideal.ofBits, Ideal.ieee]; rw [← EReal.coe_mul]; norm_num

theorem ms_pos (b t : ℕ) : 0 < ms I b t :=
  add_pos_of_nonneg_of_pos (div_nonneg (Finset.sum_nonneg fun c _ => mul_self_nonneg _) (by norm_num)) keps.2
theorem rs_sq (b t : ℕ) : 1 / ms I b t = rs I b t * rs I b t := by
  have h : rs I b t = (Real.sqrt (ms I b t))⁻¹ := rfl
  rw [h, ← mul_inv, Real.mul_self_sqrt (ms_pos b t).le, one_div]

include H

theorem r171 : RN (s := S2x2048x512) (val_main_v171 (F := Ideal) x0 x1 x2 x3)
    fun i => raw I (i 0).val (i 1).val (i 2).val := fun i => by
  have b0 : (i 0).val < 2 := (i 0).isLt
  have b1 : (i 1).val < 2048 := (i 1).isLt
  have b2 : (i 2).val < 512 := (i 2).isLt
  unfold val_main_v171
  rw [shapeCast_apply _ _ i (ValueIdx.ix6 (n0 := 2) (n1 := 16) (n2 := 128) (n3 := 2) (n4 := 4) (n5 := 64) ⟨(i 0).val, b0⟩
      ⟨(i 1).val / 128, by omega⟩ ⟨(i 1).val % 128, by omega⟩ ⟨(i 2).val / 256, by omega⟩ ⟨(i 2).val / 64 % 4, by omega⟩ ⟨(i 2).val % 64, by omega⟩)
    (by
      rewrite [Shape.rowMajor_val_three, Shape.rowMajor_val_six]
      show (((((i 0).val * 16 + (i 1).val / 128) * 128 + (i 1).val % 128) * 2 + (i 2).val / 256) * 4 + (i 2).val / 64 % 4) * 64 + (i 2).val % 64
        = ((i 0).val * 2048 + (i 1).val) * 512 + (i 2).val
      omega), val_main_v170_apply, val_main_v169_apply,
    sum_fin _ (fun j => vc I (i 0).val ((i 1).val / 128) j ((i 2).val / 256) ((i 2).val % 64)
      * pr I (i 0).val ((i 1).val / 128) ((i 2).val / 256) ((i 2).val / 64 % 4) ((i 1).val % 128) j)
      (fun k => by rw [r86 H, r165 H, ← EReal.coe_mul])]
  rfl

theorem r181 : RN (s := S2x2048x1) (val_main_v181 (F := Ideal) x0 x1 x2 x3) fun i => ms I (i 0).val (i 1).val := fun i => by
  rw [val_main_v181_apply, val_main_v180_apply, val_main_v179_apply, val_main_v177_apply, val_main_v178_apply, val_main_v176_apply,
    sum_fin _ (fun c => raw I (i 0).val (i 1).val c * raw I (i 0).val (i 1).val c)
      (fun k => by rw [val_main_v175_apply, r171 H, Ideal.mulf_def, ← EReal.coe_mul])]
  show Ideal.div (Ideal.ofBits .f32 0x00000000#32 + _) (Ideal.ofBits .f32 0x44000000#32) + Ideal.ofBits .f32 0x358637BD#32 = _
  rw [k0, k512, keps.1, ← EReal.coe_add, zero_add, Ideal.div_coe (by norm_num), ← EReal.coe_mul, ← EReal.coe_add, mul_one_div]
  rfl

theorem r182 : RN (s := S2x2048x1) (val_main_v182 (F := Ideal) x0 x1 x2 x3) fun i => rs I (i 0).val (i 1).val := fun i => by
  rw [val_main_v182_apply, r181 H, Ideal.hostUnary_rsqrt_def, Ideal.rsqrt_coe, if_neg (not_lt.mpr (ms_pos _ _).le), if_neg (ms_pos _ _).ne']
  rfl

theorem r185 : RN (s := S2x2048x1) (val_main_v185 (F := Ideal) x0 x1 x2 x3)
    fun i => -(1 / 2) * (rs I (i 0).val (i 1).val * (rs I (i 0).val (i 1).val * rs I (i 0).val (i 1).val)) := fun i => by
  rw [val_main_v185_apply, val_main_v184_apply, val_main_v183_apply, r182 H, r181 H]
  show Ideal.ofBits .f32 0xBF000000#32 * Ideal.div _ _ = _
  rw [kmh, Ideal.div_coe (ms_pos _ _).ne', rs_sq, ← EReal.coe_mul, ← EReal.coe_mul]

theorem r187 : RN (s := S2x2048x512) (val_main_v187 (F := Ideal) x0 x1 x2 x3) fun i => on I (i 0).val (i 1).val (i 2).val := fun i => by
  rw [val_main_v187_apply, val_main_v186_apply, r171 H, r182 H, Ideal.mulf_def, ← EReal.coe_mul]
  rfl

theorem r191 : RN (s := S2x2048x512) (val_main_v191 (F := Ideal) x5) fun i => I.DA (i 0).val (i 1).val (i 2).val := fun i => by
  rw [val_main_v191_apply, H.da]

theorem r193 : RN (s := S512) (val_main_v193 (F := Ideal) x0 x1 x2 x3 x5) fun i => dwr I (i 0).val := fun i => by
  unfold val_main_v193
  have e : ∀ y : FVec Ideal S2x2048x512 .f32, Host.reduceAdd y (val_main_cst_32 (F := Ideal)) reducesTo_S2x2048x512_S512_d0_1 h_S_ i
      = (val_main_cst_32 (F := Ideal)) (Shape.Idx.first h_S_)
        + ∑ k0 : Fin 2, ∑ k1 : Fin 2048, y (ValueIdx.ix3 k0 k1 (i 0)) := fun y => by
    simp only [Host.reduceAdd, Ideal.hostReduceAdd_def]
    rw [hred reducesTo_S2x2048x512_S512_d0_1 (fun k : Fin 2 × Fin 2048 => ValueIdx.ix3 k.1 k.2 (i 0)) (fun _ _ e => Prod.ext (congrFun e 0) (congrFun e 1)) i
      (fun q => ⟨fun e => ⟨(q 0, q 1), funext fun a => match a with
          | ⟨0, _⟩ => rfl | ⟨1, _⟩ => rfl | ⟨2, _⟩ => Fin.ext (congrArg Fin.val (congrFun e 0)).symm⟩,
        fun ⟨k, e⟩ => e ▸ (funext fun a => match a with | ⟨0, _⟩ => rfl)⟩), Fintype.sum_prod_type]
  rw [e, sum_fin _ (fun b => ∑ t ∈ Finset.range 2048, on I b t (i 0).val * I.DA b t (i 0).val)
    (fun k => sum_fin _ _ (fun l => by rw [val_main_v192_apply, r187 H, r191 H, Ideal.mulf_def, ← EReal.coe_mul]))]
  show Ideal.ofBits .f32 0x00000000#32 + _ = _
  rw [k0, ← EReal.coe_add, zero_add]
  rfl

theorem r212 : RN (s := S1x512) (val_main_v212 (F := Ideal) x0 x1 x2 x3 x5) fun i => dwr I (i 1).val := fun i => by
  rw [val_main_v212_apply]
  unfold val_main_v197
  have e : ∀ (y : FVec Ideal S1x1x512 .f32) (i : S512.Idx), Host.reduceAdd y (val_main_cst_33 (F := Ideal)) reducesTo_S1x1x512_S512_d0_1 h_S_ i
      = (val_main_cst_33 (F := Ideal)) (Shape.Idx.first h_S_) + y (ValueIdx.ix3 0 0 (i 0)) := fun y i => by
    simp only [Host.reduceAdd, Ideal.hostReduceAdd_def]
    rw [hred reducesTo_S1x1x512_S512_d0_1 (fun _ : Unit => ValueIdx.ix3 0 0 (i 0)) (fun _ _ _ => rfl) i
      (fun q => ⟨fun e => ⟨(), funext fun a => match a with
          | ⟨0, _⟩ => Subsingleton.elim (α := Fin 1) _ _ | ⟨1, _⟩ => Subsingleton.elim (α := Fin 1) _ _
          | ⟨2, _⟩ => Fin.ext (congrArg Fin.val (congrFun e 0)).symm⟩,
        fun ⟨k, e⟩ => e ▸ (funext fun a => match a with | ⟨0, _⟩ => rfl)⟩), Fintype.sum_unique]
  have b1 : (i 1).val < 512 := (i 1).isLt
  have ea : idx_main_v194 (ValueIdx.ix3 0 0 ((idx_main_v212 i) 0)) = ValueIdx.ix1 ⟨(i 1).val, b1⟩ := funext fun a => match a with
    | ⟨0, _⟩ => Fin.ext (by show (0 * 1 + 0) * 512 + (i 1).val = (i 1).val; omega)
  rw [e, val_main_v194_apply, ea, r193 H]
  show Ideal.ofBits .f32 0x00000000#32 + _ = _
  rw [k0, ← EReal.coe_add, zero_add]

theorem r174 : RN (s := S512) (val_main_v174 (F := Ideal) x4) fun i => I.W (i 0).val := fun i => by
  have b0 : (i 0).val < 512 := (i 0).isLt
  rw [val_main_v174_apply, H.w]
  dsimp only [idx_main_v174]
  congr 2; omega

theorem r196 : RN (s := S2x2048x512) (val_main_v196 (F := Ideal) x4 x5)
    fun i => I.DA (i 0).val (i 1).val (i 2).val * I.W (i 2).val := fun i => by
  rw [val_main_v196_apply, val_main_v195_apply, val_main_v188_apply, r191 H, r174 H, Ideal.mulf_def, ← EReal.coe_mul]

theorem r207 : RN (s := S2x2048x512) (val_main_v207 (F := Ideal) x0 x1 x2 x3 x4 x5)
    fun i => (∑ c ∈ Finset.range 512, raw I (i 0).val (i 1).val c * (I.DA (i 0).val (i 1).val c * I.W c))
      * (-(1 / 2) * (rs I (i 0).val (i 1).val * (rs I (i 0).val (i 1).val * rs I (i 0).val (i 1).val))) / 512 := fun i => by
  have b0 : (i 0).val < 2 := (i 0).isLt
  have b1 : (i 1).val < 2048 := (i 1).isLt
  have ea : ∀ k : Fin 1, idx_main_v200 (idx_main_v206 (idx_main_v207 i) k) = ValueIdx.ix2 (n0 := 2) (n1 := 2048) ⟨(i 0).val, b0⟩ ⟨(i 1).val, b1⟩ := fun k =>
    funext fun a => match a with
    | ⟨0, _⟩ => Fin.ext (by have := k.isLt; show (((i 0).val * 2048 + (i 1).val) * 1 + k.val) / 2048 = (i 0).val; omega)
    | ⟨1, _⟩ => Fin.ext (by have := k.isLt; show (((i 0).val * 2048 + (i 1).val) * 1 + k.val) % 2048 = (i 1).val; omega)
  have e : ∀ k : Fin 1, val_main_v205 (F := Ideal) x0 x1 x2 x3 x4 x5 (idx_main_v206 (idx_main_v207 i) k)
      = (((∑ c ∈ Finset.range 512, raw I (i 0).val (i 1).val c * (I.DA (i 0).val (i 1).val c * I.W c))
      * (-(1 / 2) * (rs I (i 0).val (i 1).val * (rs I (i 0).val (i 1).val * rs I (i 0).val (i 1).val))) / 512 : ℝ) : EReal) := fun k => by
    rw [val_main_v205_apply, val_main_v203_apply, val_main_v204_apply, val_main_v200_apply, ea, val_main_v199_apply, r185 H,
      sum_fin _ (fun c => raw I (i 0).val (i 1).val c * (I.DA (i 0).val (i 1).val c * I.W c))
      (fun l => by
        rw [val_main_v198_apply, r171 H, r196 H, Ideal.mulf_def, ← EReal.coe_mul])]
    show Ideal.div ((Ideal.ofBits .f32 0x00000000#32 + _) * _) (Ideal.ofBits .f32 0x44000000#32) = _
    rw [k0, k512, ← EReal.coe_add, zero_add, Ideal.div_coe (by norm_num), ← EReal.coe_mul, ← EReal.coe_mul, mul_one_div]
  rw [val_main_v207_apply, val_main_v206_apply, Fintype.sum_unique, e]
  show Ideal.ofBits .f32 0x00000000#32 + _ = _
  rw [k0, ← EReal.coe_add, zero_add]

theorem r211 : RN (s := S2x2048x512) (val_main_v211 (F := Ideal) x0 x1 x2 x3 x4 x5)
    fun i => dO I (i 0).val (i 1).val (i 2).val := fun i => by
  rw [val_main_v211_apply, val_main_v210_apply, val_main_v209_apply, val_main_v208_apply, val_main_v202_apply, val_main_v201_apply,
    r207 H, r171 H, r196 H, r182 H]
  simp only [Ideal.addf_def, Ideal.mulf_def]
  rw [← EReal.coe_mul, ← EReal.coe_mul, ← EReal.coe_mul, ← EReal.coe_add, ← EReal.coe_add]
  refine congrArg _ ?_
  unfold dO Spec.gdo Spec.on
  rw [Finset.sum_congr rfl (fun c _ => (by ring : I.DA (i 0).val (i 1).val c * I.W c * (raw I (i 0).val (i 1).val c * Spec.rstd (raw I (i 0).val) (i 1).val)
    = (raw I (i 0).val (i 1).val c * (I.DA (i 0).val (i 1).val c * I.W c)) * Spec.rstd (raw I (i 0).val) (i 1).val)), ← Finset.sum_mul]
  unfold rs
  ring

theorem r214 : RN (s := S2x16x2x64x4x128) (val_main_v214 (F := Ideal) x0 x1 x2 x3 x4 x5)
    fun i => dO I (i 0).val (128 * (i 1).val + (i 5).val) (64 * (4 * (i 2).val + (i 4).val) + (i 3).val) := fun i => by
  have b0 : (i 0).val < 2 := (i 0).isLt
  have b1 : (i 1).val < 16 := (i 1).isLt
  have b2 : (i 2).val < 2 := (i 2).isLt
  have b3 : (i 3).val < 64 := (i 3).isLt
  have b4 : (i 4).val < 4 := (i 4).isLt
  have b5 : (i 5).val < 128 := (i 5).isLt
  rw [val_main_v214_apply]
  unfold val_main_v213
  rw [shapeCast_apply _ _ (idx_main_v214 i) (ValueIdx.ix3 (n0 := 2) (n1 := 2048) (n2 := 512) ⟨(i 0).val, b0⟩
      ⟨128 * (i 1).val + (i 5).val, by omega⟩ ⟨64 * (4 * (i 2).val + (i 4).val) + (i 3).val, by omega⟩)
    (by
      rewrite [Shape.rowMajor_val_three, Shape.rowMajor_val_six]
      show ((i 0).val * 2048 + (128 * (i 1).val + (i 5).val)) * 512 + (64 * (4 * (i 2).val + (i 4).val) + (i 3).val)
        = (((((i 0).val * 16 + (i 1).val) * 128 + (i 5).val) * 2 + (i 2).val) * 4 + (i 4).val) * 64 + (i 3).val
      omega), r211 H]

end Cert.Ref
-- ==== Proof.Ref4.lean ====
/-
  The backward pass of the reference's attention, up to the gradients of the scores and of the sinks.
-/
module

public import proofs.«01_k».proof.Proof.Ref3

@[expose] public section

set_option maxRecDepth 16384

noncomputable section

namespace Cert.Ref

open Idealize.ShloMosaic Idealize.ShloMosaic.TcCoe Idealize.SL.Sem
open Cert.ReferenceIdeal Cert.ReferenceIdeal.Gen Cert.ReferenceIdeal.Read Cert.Re
open scoped BigOperators

variable {x0 : T0} {x1 x2 : T1} {x3 : T3} {x4 : T4} {x5 : T5} {I : In} (H : ArgR x0 x1 x2 x3 x4 x5 I)

/-- The gradient of a weight. -/
def dp (I : In) (b n g h i j : ℕ) : ℝ :=
  ∑ d ∈ Finset.range 64, dO I b (128 * n + i) (64 * (4 * g + h) + d) * vc I b n j g d
def dsum (I : In) (b n g h i : ℕ) : ℝ := ∑ j ∈ Finset.range 256, dp I b n g h i j * pr I b n g h i j
/-- The weight of the sink. -/
def sp (I : In) (b n g h i : ℕ) : ℝ := Real.exp (I.SK (4 * g + h) - lse I b n g h i)
/-- The gradient of a score. -/
def ds (I : In) (b n g h i j : ℕ) : ℝ := pr I b n g h i j * (dp I b n g h i j - dsum I b n g h i) * (1 / 8)
def dn (x0 : T0) (x1 : T1) (x3 : T3) (I : In) (b n g h i : ℕ) : ℝ := Real.exp (lse I b n g h i - mx x0 x1 x3 b n g h i)

theorem dn_ne (b n g h i : ℕ) : dn x0 x1 x3 I b n g h i ≠ 0 := (Real.exp_pos _).ne'

theorem k1f : Ideal.ofBits .f32 0x3F800000#32 = ((1 : ℝ) : EReal) := k1

theorem zadd (x : ℝ) : Ideal.ofBits .f32 0x00000000#32 + (x : EReal) = x := by
  rw [k0, ← EReal.coe_add, zero_add]

include H

theorem r157p : RN (s := S2x16x2x4x128x256) (val_main_v157 (F := Ideal) x0 x1 x3)
    fun i => pr I (i 0).val (i 1).val (i 2).val (i 3).val (i 4).val (i 5).val
      * dn x0 x1 x3 I (i 0).val (i 1).val (i 2).val (i 3).val (i 4).val := fun i => by
  rw [r157 H]
  refine congrArg _ ?_
  unfold pr dn
  beta_reduce
  split
  · rw [← Real.exp_add]; congr 1; ring
  · rw [zero_mul]

theorem r162p : RN (s := S2x16x2x4x128x1) (val_main_v162 (F := Ideal) x0 x1 x3)
    fun i => sp I (i 0).val (i 1).val (i 2).val (i 3).val (i 4).val
      * dn x0 x1 x3 I (i 0).val (i 1).val (i 2).val (i 3).val (i 4).val := fun i => by
  rw [r162 H]
  refine congrArg _ ?_
  unfold sp dn
  beta_reduce
  rw [← Real.exp_add]; congr 1; ring

theorem r163p : RN (s := S2x16x2x4x128x1) (val_main_v163 (F := Ideal) x0 x1 x3)
    fun i => dn x0 x1 x3 I (i 0).val (i 1).val (i 2).val (i 3).val (i 4).val := fun i => r163 H i

theorem r215 : RN (s := S2x16x2x4x128x256) (val_main_v215 (F := Ideal) x0 x1 x2 x3 x4 x5)
    fun i => dp I (i 0).val (i 1).val (i 2).val (i 3).val (i 4).val (i 5).val := fun i => by
  rw [val_main_v215_apply, sum_fin _ (fun d => dO I (i 0).val (128 * (i 1).val + (i 4).val) (64 * (4 * (i 2).val + (i 3).val) + d)
      * vc I (i 0).val (i 1).val (i 5).val (i 2).val d)
    (fun k => by rw [r214 H, r86 H, ← EReal.coe_mul])]
  rfl

theorem r168 : RN (s := S2x16x2x4x128x1) (val_main_v168 (F := Ideal) x0 x1 x3)
    fun i => 1 / (dn x0 x1 x3 I (i 0).val (i 1).val (i 2).val (i 3).val (i 4).val
      * dn x0 x1 x3 I (i 0).val (i 1).val (i 2).val (i 3).val (i 4).val) := fun i => by
  rw [val_main_v168_apply, val_main_v166_apply, r163p H]
  show Ideal.div (Ideal.ofBits .f32 0x3F800000#32) (_ * _) = _
  rw [← EReal.coe_mul, Ideal.div_coe (mul_ne_zero (dn_ne _ _ _ _ _) (dn_ne _ _ _ _ _)), k1f, ← EReal.coe_mul, one_mul]

theorem r221 : RN (s := S2x16x2x4x128) (val_main_v221 (F := Ideal) x0 x1 x2 x3 x4 x5)
    fun i => dsum I (i 0).val (i 1).val (i 2).val (i 3).val (i 4).val
      * (1 / dn x0 x1 x3 I (i 0).val (i 1).val (i 2).val (i 3).val (i 4).val) := fun i => by
  rw [val_main_v221_apply, sum_fin _ (fun j => dp I (i 0).val (i 1).val (i 2).val (i 3).val (i 4).val j
      * (1 / (dn x0 x1 x3 I (i 0).val (i 1).val (i 2).val (i 3).val (i 4).val
      * dn x0 x1 x3 I (i 0).val (i 1).val (i 2).val (i 3).val (i 4).val)) * (pr I (i 0).val (i 1).val (i 2).val (i 3).val (i 4).val j
      * dn x0 x1 x3 I (i 0).val (i 1).val (i 2).val (i 3).val (i 4).val))
    (fun k => by
      rw [val_main_v220_apply, val_main_v219_apply, val_main_v218_apply, r215 H, r168 H, r157p H]
      simp only [Ideal.mulf_def, ← EReal.coe_mul])]
  show Ideal.ofBits .f32 0x00000000#32 + _ = _
  rw [zadd]
  refine congrArg _ ?_
  unfold dsum
  beta_reduce
  rw [Finset.sum_mul]
  refine Finset.sum_congr rfl fun j _ => ?_
  have := dn_ne (x0 := x0) (x1 := x1) (x3 := x3) (I := I) (i 0).val (i 1).val (i 2).val (i 3).val (i 4).val
  field_simp

omit H in
theorem e222 (y : FVec Ideal S2x16x2x4x128 .f32) (i : S2x16x2x4x128x1.Idx) :
    shapeCast S2x16x2x4x128x1 y shapeCasts_S2x16x2x4x128_S2x16x2x4x128x1 i = y (idx_main_v134 i) := by
  have b5 : (i 5).val < 1 := (i 5).isLt
  rw [shapeCast_apply _ _ i (idx_main_v134 i)]
  rewrite [Shape.rowMajor_val_five, Shape.rowMajor_val_six]
  show ((((i 0).val * 16 + (i 1).val) * 2 + (i 2).val) * 4 + (i 3).val) * 128 + (i 4).val
    = (((((i 0).val * 16 + (i 1).val) * 2 + (i 2).val) * 4 + (i 3).val) * 128 + (i 4).val) * 1 + (i 5).val
  omega

theorem r223 : RN (s := S2x16x2x4x128x1) (val_main_v223 (F := Ideal) x0 x1 x2 x3 x4 x5)
    fun i => -(dsum I (i 0).val (i 1).val (i 2).val (i 3).val (i 4).val
      * (1 / dn x0 x1 x3 I (i 0).val (i 1).val (i 2).val (i 3).val (i 4).val)) := fun i => by
  rw [val_main_v223_apply]
  unfold val_main_v222
  rw [e222, r221 H]
  rfl

theorem r226 : RN (s := S2x16x2x4x128x1) (val_main_v226 (F := Ideal) x0 x1 x2 x3 x4 x5)
    fun i => -(dsum I (i 0).val (i 1).val (i 2).val (i 3).val (i 4).val
      * sp I (i 0).val (i 1).val (i 2).val (i 3).val (i 4).val) := fun i => by
  rw [val_main_v226_apply, r223 H, r162p H, Ideal.mulf_def, ← EReal.coe_mul]
  refine congrArg _ ?_
  have := dn_ne (x0 := x0) (x1 := x1) (x3 := x3) (I := I) (i 0).val (i 1).val (i 2).val (i 3).val (i 4).val
  field_simp

theorem r233 : RN (s := S2x16x2x4x128x256) (val_main_v233 (F := Ideal) x0 x1 x2 x3 x4 x5)
    fun i => pr I (i 0).val (i 1).val (i 2).val (i 3).val (i 4).val (i 5).val
      * (dp I (i 0).val (i 1).val (i 2).val (i 3).val (i 4).val (i 5).val - dsum I (i 0).val (i 1).val (i 2).val (i 3).val (i 4).val) := fun i => by
  have e : val_main_v230 (F := Ideal) x0 x1 x2 x3 x4 x5 (idx_main_v231 i) = ((-(dsum I (i 0).val (i 1).val (i 2).val (i 3).val (i 4).val
      * (1 / dn x0 x1 x3 I (i 0).val (i 1).val (i 2).val (i 3).val (i 4).val)) : ℝ) : EReal) := by
    rw [val_main_v230_apply, Fintype.sum_unique, r223 H]
    exact zadd _
  rw [val_main_v233_apply, val_main_v232_apply, val_main_v225_apply, val_main_v224_apply, val_main_v231_apply, e, r215 H, r163p H, r157p H]
  simp only [Ideal.addf_def, Ideal.mulf_def, Ideal.hostDivf_def]
  rw [Ideal.div_coe (dn_ne _ _ _ _ _), ← EReal.coe_mul, ← EReal.coe_add, ← EReal.coe_mul]
  refine congrArg _ ?_
  have := dn_ne (x0 := x0) (x1 := x1) (x3 := x3) (I := I) (i 0).val (i 1).val (i 2).val (i 3).val (i 4).val
  field_simp
  ring

theorem r237 : RN (s := S2x16x2x4x128x1) (val_main_v237 (F := Ideal) x0 x1 x2 x3 x4 x5) fun _ => 0 := fun i => by
  rw [val_main_v237_apply, val_main_v229_apply, r226 H]
  unfold val_main_v236
  rw [e222, val_main_v235_apply, sum_fin _ (fun j => -(pr I (i 0).val (i 1).val (i 2).val (i 3).val (i 4).val j
      * (dp I (i 0).val (i 1).val (i 2).val (i 3).val (i 4).val j - dsum I (i 0).val (i 1).val (i 2).val (i 3).val (i 4).val)))
    (fun k => by rw [val_main_v234_apply, r233 H]; rfl)]
  show -_ + (Ideal.ofBits .f32 0x00000000#32 + _) = _
  rw [zadd, ← EReal.coe_neg, ← EReal.coe_add]
  refine congrArg _ ?_
  have e := pr_sum (I := I) (i 0).val (i 1).val (i 2).val (i 3).val (i 4).val
  rw [Finset.sum_neg_distrib, Finset.sum_congr rfl (fun j _ => (by ring : pr I (i 0).val (i 1).val (i 2).val (i 3).val (i 4).val j
      * (dp I (i 0).val (i 1).val (i 2).val (i 3).val (i 4).val j - dsum I (i 0).val (i 1).val (i 2).val (i 3).val (i 4).val)
      = dp I (i 0).val (i 1).val (i 2).val (i 3).val (i 4).val j * pr I (i 0).val (i 1).val (i 2).val (i 3).val (i 4).val j
        - pr I (i 0).val (i 1).val (i 2).val (i 3).val (i 4).val j * dsum I (i 0).val (i 1).val (i 2).val (i 3).val (i 4).val)),
    Finset.sum_sub_distrib, ← Finset.sum_mul]
  unfold sp
  change _ + -(dsum I (i 0).val (i 1).val (i 2).val (i 3).val (i 4).val - _) = 0
  linear_combination (dsum I (i 0).val (i 1).val (i 2).val (i 3).val (i 4).val) * e

omit H in
theorem ecmp (i : S2x16x2x4x128x256.Idx) : val_main_v132 (F := Ideal) x0 x1 i
    = ((if val_main_v125_0 (F := Ideal) x0 x1 i = val_main_v130 (F := Ideal) x0 x1 i then 1 else 0 : ℝ) : EReal) := by
  rw [val_main_v132_apply, val_main_v131_apply]
  show (((BitVec.ofBool (decide (val_main_v125_0 (F := Ideal) x0 x1 i = val_main_v130 (F := Ideal) x0 x1 i))).toNat : ℝ) : EReal) = _
  by_cases h : val_main_v125_0 (F := Ideal) x0 x1 i = val_main_v130 (F := Ideal) x0 x1 i
  · simp [h]
  · simp [h]

omit H in
theorem e130 (i : S2x16x2x4x128.Idx) (k : Fin 256) : val_main_v130 (F := Ideal) x0 x1 (idx_main_v133 i k) = val_main_v128 (F := Ideal) x0 x1 i := by
  rw [val_main_v130_apply]
  unfold val_main_v129
  rw [e222]
  refine congrArg _ (funext fun a => match a with
    | ⟨0, _⟩ => rfl | ⟨1, _⟩ => rfl | ⟨2, _⟩ => rfl | ⟨3, _⟩ => rfl | ⟨4, _⟩ => rfl)

theorem r133 (i : S2x16x2x4x128.Idx) : ∃ r : ℝ, r ≠ 0 ∧ val_main_v133 (F := Ideal) x0 x1 i = r := by
  obtain ⟨r, hr⟩ := r128 H i
  have hr' := hr
  rw [e128] at hr'
  obtain ⟨k, hk⟩ := fold_attained _ _ hr'
  refine ⟨∑ k : Fin 256, (if val_main_v125_0 (F := Ideal) x0 x1 (idx_main_v133 i k) = val_main_v130 (F := Ideal) x0 x1 (idx_main_v133 i k) then 1 else 0 : ℝ), ne_of_gt ?_, ?_⟩
  · refine Finset.sum_pos' (fun k _ => by split <;> norm_num) ⟨k, Finset.mem_univ _, ?_⟩
    rw [if_pos]
    · norm_num
    · rw [e130, e128]
      exact hk
  · rw [val_main_v133_apply, Finset.sum_congr rfl (fun k _ => ecmp (idx_main_v133 i k)), ← coe_sum]
    exact zadd _

theorem r246 : RN (s := S2x16x2x4x128x256) (val_main_v246 (F := Ideal) x0 x1 x2 x3 x4 x5) fun _ => 0 := fun i => by
  obtain ⟨r, h0, hr⟩ := r133 H (idx_main_v245 i)
  have e : val_main_v243 (F := Ideal) x0 x1 x2 x3 x4 x5 (idx_main_v245 i) = ((0 : ℝ) : EReal) := by
    rw [val_main_v243_apply, Fintype.sum_unique, val_main_v242_apply, r237 H, Ideal.mulf_def, EReal.coe_zero, zero_mul]
    exact zadd 0
  rw [val_main_v246_apply, val_main_v245_apply, val_main_v244_apply, e, hr, Ideal.hostDivf_def, Ideal.div_coe h0, Ideal.mulf_def,
    EReal.coe_zero, zero_mul, zero_mul]

theorem r252 : RN (s := S2x16x2x4x128x256) (val_main_v252 (F := Ideal) x0 x1 x2 x3 x4 x5)
    fun i => ds I (i 0).val (i 1).val (i 2).val (i 3).val (i 4).val (i 5).val := fun i => by
  rw [val_main_v252_apply, val_main_v250_apply, r125_1, val_main_v247_apply, r233 H, r246 H, val_main_call1_v0_apply, Ideal.addf_def,
    ← EReal.coe_add, add_zero]
  have e : ∀ x : ℝ, FloatOps.mulf (F := Ideal) (φ := .f32) (x : EReal) (val_main_v251 (F := Ideal) i) = ((x * (1 / 8) : ℝ) : EReal) := fun x => by
    show (x : EReal) * Ideal.ofBits .f32 0x3E000000#32 = _
    rw [k8, ← EReal.coe_mul]
  unfold ds
  by_cases h : msk (i 1).val (i 4).val (i 5).val
  · rw [decide_eq_true h]
    exact e _
  · rw [decide_eq_false h]
    have : pr I (i 0).val (i 1).val (i 2).val (i 3).val (i 4).val (i 5).val = 0 := by unfold pr; rw [if_neg h]
    beta_reduce
    rw [this, zero_mul, zero_mul]
    show FloatOps.mulf (F := Ideal) (φ := .f32) (Ideal.ofBits .f32 0x00000000#32) (val_main_v251 (F := Ideal) i) = _
    rw [k0, e, zero_mul]

omit H in
theorem e227 (y : FVec Ideal S2x16x2x4x128x1 .f32) (c : FVec Ideal S_ .f32) (i : S2x4x1.Idx) :
    Host.reduceAdd y c reducesTo_S2x16x2x4x128x1_S2x4x1_d0_1_4 h_S_ i
      = c (Shape.Idx.first h_S_) + ∑ b : Fin 2, ∑ n : Fin 16, ∑ r : Fin 128, y (ValueIdx.ix6 b n (i 0) (i 1) r 0) := by
  simp only [Host.reduceAdd, Ideal.hostReduceAdd_def]
  rw [hred reducesTo_S2x16x2x4x128x1_S2x4x1_d0_1_4 (fun k : Fin 2 × Fin 16 × Fin 128 => ValueIdx.ix6 k.1 k.2.1 (i 0) (i 1) k.2.2 0)
    (fun _ _ e => Prod.ext (congrFun e 0) (Prod.ext (congrFun e 1) (congrFun e 4))) i
    (fun q => ⟨fun e => ⟨(q 0, q 1, q 4), funext fun a => match a with
        | ⟨0, _⟩ => rfl | ⟨1, _⟩ => rfl
        | ⟨2, _⟩ => Fin.ext (congrArg Fin.val (congrFun e 0)).symm
        | ⟨3, _⟩ => Fin.ext (congrArg Fin.val (congrFun e 1)).symm
        | ⟨4, _⟩ => rfl
        | ⟨5, _⟩ => Subsingleton.elim (α := Fin 1) _ _⟩,
      fun ⟨k, e⟩ => e ▸ (funext fun a => match a with
        | ⟨0, _⟩ => rfl | ⟨1, _⟩ => rfl | ⟨2, _⟩ => Subsingleton.elim (α := Fin 1) _ _)⟩), Fintype.sum_prod_type]
  simp only [Fintype.sum_prod_type]

omit H in
theorem e248 (y : FVec Ideal S1x1x2x4x1x1 .f32) (c : FVec Ideal S_ .f32) (i : S2x4.Idx) :
    Host.reduceAdd y c reducesTo_S1x1x2x4x1x1_S2x4_d0_1_4_5 h_S_ i
      = c (Shape.Idx.first h_S_) + y (ValueIdx.ix6 0 0 (i 0) (i 1) 0 0) := by
  simp only [Host.reduceAdd, Ideal.hostReduceAdd_def]
  rw [hred reducesTo_S1x1x2x4x1x1_S2x4_d0_1_4_5 (fun _ : Unit => ValueIdx.ix6 0 0 (i 0) (i 1) 0 0)
    (fun _ _ _ => rfl) i
    (fun q => ⟨fun e => ⟨(), funext fun a => match a with
        | ⟨0, _⟩ => Subsingleton.elim (α := Fin 1) _ _ | ⟨1, _⟩ => Subsingleton.elim (α := Fin 1) _ _
        | ⟨2, _⟩ => Fin.ext (congrArg Fin.val (congrFun e 0)).symm
        | ⟨3, _⟩ => Fin.ext (congrArg Fin.val (congrFun e 1)).symm
        | ⟨4, _⟩ => Subsingleton.elim (α := Fin 1) _ _
        | ⟨5, _⟩ => Subsingleton.elim (α := Fin 1) _ _⟩,
      fun ⟨k, e⟩ => e ▸ (funext fun a => match a with | ⟨0, _⟩ => rfl | ⟨1, _⟩ => rfl)⟩), Fintype.sum_unique]

omit H in
theorem e228 (y : FVec Ideal S2x4x1 .f32) (i : S1x1x2x4x1x1.Idx) :
    shapeCast S1x1x2x4x1x1 y shapeCasts_S2x4x1_S1x1x2x4x1x1 i = y (ValueIdx.ix3 (i 2) (i 3) 0) := by
  have b0 : (i 0).val < 1 := (i 0).isLt
  have b1 : (i 1).val < 1 := (i 1).isLt
  have b4 : (i 4).val < 1 := (i 4).isLt
  have b5 : (i 5).val < 1 := (i 5).isLt
  rw [shapeCast_apply _ _ i (ValueIdx.ix3 (n0 := 2) (n1 := 4) (n2 := 1) (i 2) (i 3) 0)]
  rewrite [Shape.rowMajor_val_three, Shape.rowMajor_val_six]
  show ((i 2).val * 4 + (i 3).val) * 1 + 0
    = (((((i 0).val * 1 + (i 1).val) * 2 + (i 2).val) * 4 + (i 3).val) * 1 + (i 4).val) * 1 + (i 5).val
  omega

/-- The gradient of a head's sink. -/
def dskr (I : In) (h : ℕ) : ℝ :=
  ∑ b ∈ Finset.range 2, ∑ n ∈ Finset.range 16, ∑ r ∈ Finset.range 128,
    -(dsum I b n (h / 4) (h % 4) r * sp I b n (h / 4) (h % 4) r)

omit H in
theorem e241 (y w : FVec Ideal S2x16x2x4x128x1 .f32) (c d e : FVec Ideal S_ .f32) (j : S2x4.Idx) :
    Host.reduceAdd (addf (shapeCast S1x1x2x4x1x1 (Host.reduceAdd y c reducesTo_S2x16x2x4x128x1_S2x4x1_d0_1_4 h_S_) shapeCasts_S2x4x1_S1x1x2x4x1x1)
        (shapeCast S1x1x2x4x1x1 (Host.reduceAdd w d reducesTo_S2x16x2x4x128x1_S2x4x1_d0_1_4 h_S_) shapeCasts_S2x4x1_S1x1x2x4x1x1))
        e reducesTo_S1x1x2x4x1x1_S2x4_d0_1_4_5 h_S_ j
      = e (Shape.Idx.first h_S_)
        + ((c (Shape.Idx.first h_S_) + ∑ b : Fin 2, ∑ n : Fin 16, ∑ r : Fin 128, y (ValueIdx.ix6 b n (j 0) (j 1) r 0))
        + (d (Shape.Idx.first h_S_) + ∑ b : Fin 2, ∑ n : Fin 16, ∑ r : Fin 128, w (ValueIdx.ix6 b n (j 0) (j 1) r 0))) := by
  rw [e248]
  refine congrArg (_ + ·) ?_
  show FloatOps.addf (F := Ideal) (φ := .f32) (shapeCast S1x1x2x4x1x1 _ shapeCasts_S2x4x1_S1x1x2x4x1x1 _) (shapeCast S1x1x2x4x1x1 _ shapeCasts_S2x4x1_S1x1x2x4x1x1 _) = _
  rw [e228, e228, e227, e227]
  rfl

theorem r248 : RN (s := S2x4) (val_main_v248 (F := Ideal) x0 x1 x2 x3 x4 x5)
    fun j => ∑ b ∈ Finset.range 2, ∑ n ∈ Finset.range 16, ∑ r ∈ Finset.range 128,
      -(dsum I b n (j 0).val (j 1).val r * sp I b n (j 0).val (j 1).val r) := fun j => by
  have e1 : (∑ b : Fin 2, ∑ n : Fin 16, ∑ r : Fin 128, val_main_v226 (F := Ideal) x0 x1 x2 x3 x4 x5 (ValueIdx.ix6 b n (j 0) (j 1) r 0))
      = ((∑ b ∈ Finset.range 2, ∑ n ∈ Finset.range 16, ∑ r ∈ Finset.range 128,
      -(dsum I b n (j 0).val (j 1).val r * sp I b n (j 0).val (j 1).val r) : ℝ) : EReal) :=
    sum_fin _ _ (fun b => sum_fin _ _ (fun n => sum_fin _ _ (fun r => r226 H (ValueIdx.ix6 b n (j 0) (j 1) r 0))))
  have e0 : ∀ j, val_main_v238 (F := Ideal) x0 x1 x2 x3 x4 x5 j = 0 := fun j => by
    rw [val_main_v238_apply, r237 H, Ideal.mulf_def, EReal.coe_zero, zero_mul]
  have e2 : (∑ b : Fin 2, ∑ n : Fin 16, ∑ r : Fin 128, val_main_v238 (F := Ideal) x0 x1 x2 x3 x4 x5 (ValueIdx.ix6 b n (j 0) (j 1) r 0))
      = ((0 : ℝ) : EReal) := by
    simp only [e0, Finset.sum_const_zero, EReal.coe_zero]
  unfold val_main_v248 val_main_v241 val_main_v228 val_main_v227 val_main_v240 val_main_v239
  rw [e241, e1, e2]
  show Ideal.ofBits .f32 0x00000000#32 + ((Ideal.ofBits .f32 0x00000000#32 + _) + (Ideal.ofBits .f32 0x00000000#32 + _)) = _
  rw [zadd, zadd, ← EReal.coe_add, zadd, add_zero]

theorem r273 : RN (s := S1x8) (val_main_v273 (F := Ideal) x0 x1 x2 x3 x4 x5) fun i => dskr I (i 1).val := fun i => by
  rw [val_main_v273_apply, val_main_v249_apply, r248 H]
  rfl

end Cert.Ref
-- ==== Proof.Ref5.lean ====
/-
  The reference's gradients of the queries, the keys and the values, turned back through the rotation, and the array it returns.
-/
module

public import proofs.«01_k».proof.Proof.Ref4
public import Idealize.ShloMosaic.Lib.TwoAxisContraction
public import Idealize.ShloMosaic.Lib.KernelVsHost

@[expose] public section

set_option maxRecDepth 16384

noncomputable section

namespace Cert.Ref

open Idealize.ShloMosaic Idealize.ShloMosaic.TcCoe Idealize.SL.Sem
open Cert.ReferenceIdeal Cert.ReferenceIdeal.Gen Cert.ReferenceIdeal.Read Cert.Re
open scoped BigOperators

variable {x0 : T0} {x1 x2 : T1} {x3 : T3} {x4 : T4} {x5 : T5} {I : In} (H : ArgR x0 x1 x2 x3 x4 x5 I)

def dqr (I : In) (b n g i h d : ℕ) : ℝ := ∑ j ∈ Finset.range 256, ds I b n g h i j * kc I b n j g d
def dkr (I : In) (b n j g d : ℕ) : ℝ := ∑ i ∈ Finset.range 128, ∑ h ∈ Finset.range 4, ds I b n g h i j * qc I b n i g h d
def dvr (I : In) (b n j g d : ℕ) : ℝ :=
  ∑ h ∈ Finset.range 4, ∑ i ∈ Finset.range 128, dO I b (128 * n + i) (64 * (4 * g + h) + d) * pr I b n g h i j
/-- What the queries of a token's own block and those of the next block add to its key. -/
def kt (F : ℕ → ℕ → ℕ → ℕ → ℕ → ℝ) (b n j g d : ℕ) : ℝ :=
  F b n (128 + j) g d + if n < 15 then F b (n + 1) j g d else 0
def DQt (I : In) (b t h d : ℕ) : ℝ := dqr I b (t / 128) (h / 4) (t % 128) (h % 4) d
def DKt (I : In) (b t g d : ℕ) : ℝ := kt (dkr I) b (t / 128) (t % 128) g d
def DVt (I : In) (b t g d : ℕ) : ℝ := kt (dvr I) b (t / 128) (t % 128) g d
/-- The rotation's transpose. -/
def ur (X : ℕ → ℕ → ℕ → ℕ → ℝ) (b t h d : ℕ) : ℝ :=
  if d < 8 then X b t h (8 + d) * SN t d + X b t h d * CS t d
  else if d < 16 then X b t h d * CS t (d - 8) + -X b t h (d - 8) * SN t (d - 8)
  else X b t h d

include H

theorem r253 : RN (s := S2x16x2x256x128x4) (val_main_v253 (F := Ideal) x0 x1 x2 x3 x4 x5)
    fun i => ds I (i 0).val (i 1).val (i 2).val (i 5).val (i 4).val (i 3).val := fun i => by
  rw [val_main_v253_apply, r252 H]

theorem r272 : RN (s := S2x2048x8x64) (val_main_v272 (F := Ideal) x0 x1 x2 x3 x4 x5)
    fun i => DQt I (i 0).val (i 1).val (i 2).val (i 3).val := fun i => by
  have b0 : (i 0).val < 2 := (i 0).isLt
  have b1 : (i 1).val < 2048 := (i 1).isLt
  have b2 : (i 2).val < 8 := (i 2).isLt
  have b3 : (i 3).val < 64 := (i 3).isLt
  unfold val_main_v272
  rw [shapeCast_apply _ _ i (ValueIdx.ix6 (n0 := 2) (n1 := 16) (n2 := 128) (n3 := 2) (n4 := 4) (n5 := 64) ⟨(i 0).val, b0⟩
      ⟨(i 1).val / 128, by omega⟩ ⟨(i 1).val % 128, by omega⟩ ⟨(i 2).val / 4, by omega⟩ ⟨(i 2).val % 4, by omega⟩ ⟨(i 3).val, b3⟩)
    (by
      rewrite [Shape.rowMajor_val_six, Shape.rowMajor_val_four]
      show (((((i 0).val * 16 + (i 1).val / 128) * 128 + (i 1).val % 128) * 2 + (i 2).val / 4) * 4 + (i 2).val % 4) * 64 + (i 3).val
        = (((i 0).val * 2048 + (i 1).val) * 8 + (i 2).val) * 64 + (i 3).val
      omega), val_main_v255_apply, val_main_v254_apply,
    sum_fin _ (fun j => ds I (i 0).val ((i 1).val / 128) ((i 2).val / 4) ((i 2).val % 4) ((i 1).val % 128) j
      * kc I (i 0).val ((i 1).val / 128) j ((i 2).val / 4) (i 3).val) (fun k => by rw [r253 H, r79 H, ← EReal.coe_mul])]
  rfl

theorem r216 : RN (s := S2x16x2x64x256) (val_main_v216 (F := Ideal) x0 x1 x2 x3 x4 x5)
    fun i => dvr I (i 0).val (i 1).val (i 4).val (i 2).val (i 3).val := fun i => by
  unfold val_main_v216
  simp only [Host.dotGeneral]
  rw [Ideal.dotGeneral_apply, ValueIdx.sum_contr2 dot_S2x16x2x64x4x128_S2x16x2x4x128x256_S2x16x2x64x256_45_34_3_5_012_012 4 128 rfl rfl rfl]
  refine sum_fin _ (fun a => ∑ b ∈ Finset.range 128, dO I (i 0).val (128 * (i 1).val + b) (64 * (4 * (i 2).val + a) + (i 3).val) * pr I (i 0).val (i 1).val (i 2).val a b (i 4).val) (fun a => sum_fin _ (fun b => dO I (i 0).val (128 * (i 1).val + b) (64 * (4 * (i 2).val + a.val) + (i 3).val) * pr I (i 0).val (i 1).val (i 2).val a.val b (i 4).val) (fun b => ?_))
  have h0 := ValueIdx.contrEquiv2_symm_val0 dot_S2x16x2x64x4x128_S2x16x2x4x128x256_S2x16x2x64x256_45_34_3_5_012_012 4 128 rfl rfl rfl (a, b)
  have h1 := ValueIdx.contrEquiv2_symm_val1 dot_S2x16x2x64x4x128_S2x16x2x4x128x256_S2x16x2x64x256_45_34_3_5_012_012 4 128 rfl rfl rfl (a, b)
  have el : dot_S2x16x2x64x4x128_S2x16x2x4x128x256_S2x16x2x64x256_45_34_3_5_012_012.lhsIdx i ((ValueIdx.contrEquiv2 dot_S2x16x2x64x4x128_S2x16x2x4x128x256_S2x16x2x64x256_45_34_3_5_012_012 4 128 rfl rfl rfl).symm (a, b)) = ValueIdx.ix6 (n0 := 2) (n1 := 16) (n2 := 2) (n3 := 64) (n4 := 4) (n5 := 128) (i 0) (i 1) (i 2) (i 3) a b := by
    funext c; apply Fin.ext
    match c with
    | ⟨0, _⟩ => rfl
    | ⟨1, _⟩ => rfl
    | ⟨2, _⟩ => rfl
    | ⟨3, _⟩ => rfl
    | ⟨4, _⟩ => exact h0
    | ⟨5, _⟩ => exact h1
  have er : dot_S2x16x2x64x4x128_S2x16x2x4x128x256_S2x16x2x64x256_45_34_3_5_012_012.rhsIdx i ((ValueIdx.contrEquiv2 dot_S2x16x2x64x4x128_S2x16x2x4x128x256_S2x16x2x64x256_45_34_3_5_012_012 4 128 rfl rfl rfl).symm (a, b)) = ValueIdx.ix6 (n0 := 2) (n1 := 16) (n2 := 2) (n3 := 4) (n4 := 128) (n5 := 256) (i 0) (i 1) (i 2) a b (i 4) := by
    funext c; apply Fin.ext
    match c with
    | ⟨0, _⟩ => rfl
    | ⟨1, _⟩ => rfl
    | ⟨2, _⟩ => rfl
    | ⟨3, _⟩ => exact h0
    | ⟨4, _⟩ => exact h1
    | ⟨5, _⟩ => rfl
  rw [el, er, r214 H, r165 H, ← EReal.coe_mul]

theorem r256 : RN (s := S2x16x2x256x64) (val_main_v256 (F := Ideal) x0 x1 x2 x3 x4 x5)
    fun i => dkr I (i 0).val (i 1).val (i 3).val (i 2).val (i 4).val := fun i => by
  unfold val_main_v256
  simp only [Host.dotGeneral]
  rw [Ideal.dotGeneral_apply, ValueIdx.sum_contr2 dot_S2x16x2x256x128x4_S2x16x128x2x4x64_S2x16x2x256x64_45_24_3_5_012_013 128 4 rfl rfl rfl]
  refine sum_fin _ (fun a => ∑ b ∈ Finset.range 4, ds I (i 0).val (i 1).val (i 2).val b a (i 3).val * qc I (i 0).val (i 1).val a (i 2).val b (i 4).val) (fun a => sum_fin _ (fun b => ds I (i 0).val (i 1).val (i 2).val b a.val (i 3).val * qc I (i 0).val (i 1).val a.val (i 2).val b (i 4).val) (fun b => ?_))
  have h0 := ValueIdx.contrEquiv2_symm_val0 dot_S2x16x2x256x128x4_S2x16x128x2x4x64_S2x16x2x256x64_45_24_3_5_012_013 128 4 rfl rfl rfl (a, b)
  have h1 := ValueIdx.contrEquiv2_symm_val1 dot_S2x16x2x256x128x4_S2x16x128x2x4x64_S2x16x2x256x64_45_24_3_5_012_013 128 4 rfl rfl rfl (a, b)
  have el : dot_S2x16x2x256x128x4_S2x16x128x2x4x64_S2x16x2x256x64_45_24_3_5_012_013.lhsIdx i ((ValueIdx.contrEquiv2 dot_S2x16x2x256x128x4_S2x16x128x2x4x64_S2x16x2x256x64_45_24_3_5_012_013 128 4 rfl rfl rfl).symm (a, b)) = ValueIdx.ix6 (n0 := 2) (n1 := 16) (n2 := 2) (n3 := 256) (n4 := 128) (n5 := 4) (i 0) (i 1) (i 2) (i 3) a b := by
    funext c; apply Fin.ext
    match c with
    | ⟨0, _⟩ => rfl
    | ⟨1, _⟩ => rfl
    | ⟨2, _⟩ => rfl
    | ⟨3, _⟩ => rfl
    | ⟨4, _⟩ => exact h0
    | ⟨5, _⟩ => exact h1
  have er : dot_S2x16x2x256x128x4_S2x16x128x2x4x64_S2x16x2x256x64_45_24_3_5_012_013.rhsIdx i ((ValueIdx.contrEquiv2 dot_S2x16x2x256x128x4_S2x16x128x2x4x64_S2x16x2x256x64_45_24_3_5_012_013 128 4 rfl rfl rfl).symm (a, b)) = ValueIdx.ix6 (n0 := 2) (n1 := 16) (n2 := 128) (n3 := 2) (n4 := 4) (n5 := 64) (i 0) (i 1) a (i 2) b (i 4) := by
    funext c; apply Fin.ext
    match c with
    | ⟨0, _⟩ => rfl
    | ⟨1, _⟩ => rfl
    | ⟨2, _⟩ => exact h0
    | ⟨3, _⟩ => rfl
    | ⟨4, _⟩ => exact h1
    | ⟨5, _⟩ => rfl
  rw [el, er, r253 H, r72 H, ← EReal.coe_mul]

theorem r217 : RN (s := S2x16x256x2x64) (val_main_v217 (F := Ideal) x0 x1 x2 x3 x4 x5)
    fun i => dvr I (i 0).val (i 1).val (i 2).val (i 3).val (i 4).val := fun i => by
  rw [val_main_v217_apply, r216 H]

theorem r262 : RN (s := S2x16x128x2x64) (val_main_v262 (F := Ideal) x0 x1 x2 x3 x4 x5)
    fun i => if (i 1).val < 15 then dvr I (i 0).val ((i 1).val + 1) (i 2).val (i 3).val (i 4).val else 0 := fun i => by
  have b0 : (i 0).val < 2 := (i 0).isLt
  have b1 : (i 1).val < 16 := (i 1).isLt
  have b2 : (i 2).val < 128 := (i 2).isLt
  have b3 : (i 3).val < 2 := (i 3).isLt
  have b4 : (i 4).val < 64 := (i 4).isLt
  unfold val_main_v262
  beta_reduce
  by_cases h : (i 1).val < 15
  · rw [pad_apply_of_inside _ _ _ _ _ _ _ i (ValueIdx.ix5 (n0 := 2) (n1 := 15) (n2 := 128) (n3 := 2) (n4 := 64) ⟨(i 0).val, b0⟩ ⟨(i 1).val, h⟩ ⟨(i 2).val, b2⟩ ⟨(i 3).val, b3⟩ ⟨(i 4).val, b4⟩)
      (fun a => match a with
        | ⟨0, _⟩ => by show (i 0).val = 0 + (i 0).val * 1; omega
        | ⟨1, _⟩ => by show (i 1).val = 0 + (i 1).val * 1; omega
        | ⟨2, _⟩ => by show (i 2).val = 0 + (i 2).val * 1; omega
        | ⟨3, _⟩ => by show (i 3).val = 0 + (i 3).val * 1; omega
        | ⟨4, _⟩ => by show (i 4).val = 0 + (i 4).val * 1; omega), if_pos h, val_main_v261_apply, val_main_v258_apply, r217 H]
    show ((dvr I (i 0).val (1 + (i 1).val) (i 2).val (i 3).val (i 4).val : ℝ) : EReal) = _
    rw [Nat.add_comm 1]
  · rw [pad_apply_of_not_inside _ _ _ _ _ _ _ i 1 (fun hh => h (by
      have h2 : ((i 1).val - 0) / 1 < 15 := hh.2.2
      omega)), if_neg h]
    exact k0

theorem r264 : RN (s := S2x2048x2x64) (val_main_v264 (F := Ideal) x0 x1 x2 x3 x4 x5)
    fun i => DVt I (i 0).val (i 1).val (i 2).val (i 3).val := fun i => by
  have b0 : (i 0).val < 2 := (i 0).isLt
  have b1 : (i 1).val < 2048 := (i 1).isLt
  have b2 : (i 2).val < 2 := (i 2).isLt
  have b3 : (i 3).val < 64 := (i 3).isLt
  have ea : idx_main_v264 i = ValueIdx.ix5 (n0 := 2) (n1 := 16) (n2 := 128) (n3 := 2) (n4 := 64) ⟨(i 0).val, b0⟩ ⟨(i 1).val / 128, by omega⟩ ⟨(i 1).val % 128, by omega⟩ ⟨(i 2).val, b2⟩ ⟨(i 3).val, b3⟩ :=
    funext fun a => match a with
    | ⟨0, _⟩ => Fin.ext (by show ((((i 0).val * 2048 + (i 1).val) * 2 + (i 2).val) * 64 + (i 3).val) / 262144 = (i 0).val; omega)
    | ⟨1, _⟩ => Fin.ext (by show ((((i 0).val * 2048 + (i 1).val) * 2 + (i 2).val) * 64 + (i 3).val) / 16384 % 16 = (i 1).val / 128; omega)
    | ⟨2, _⟩ => Fin.ext (by show ((((i 0).val * 2048 + (i 1).val) * 2 + (i 2).val) * 64 + (i 3).val) / 128 % 128 = (i 1).val % 128; omega)
    | ⟨3, _⟩ => Fin.ext (by show ((((i 0).val * 2048 + (i 1).val) * 2 + (i 2).val) * 64 + (i 3).val) / 64 % 2 = (i 2).val; omega)
    | ⟨4, _⟩ => Fin.ext (by show ((((i 0).val * 2048 + (i 1).val) * 2 + (i 2).val) * 64 + (i 3).val) % 64 = (i 3).val; omega)
  rw [val_main_v264_apply, ea, val_main_v263_apply, val_main_v259_apply, r217 H, r262 H, Ideal.addf_def, ← EReal.coe_add]
  rfl

theorem r257 : RN (s := S2x16x256x2x64) (val_main_v257 (F := Ideal) x0 x1 x2 x3 x4 x5)
    fun i => dkr I (i 0).val (i 1).val (i 2).val (i 3).val (i 4).val := fun i => by
  rw [val_main_v257_apply, r256 H]

theorem r269 : RN (s := S2x16x128x2x64) (val_main_v269 (F := Ideal) x0 x1 x2 x3 x4 x5)
    fun i => if (i 1).val < 15 then dkr I (i 0).val ((i 1).val + 1) (i 2).val (i 3).val (i 4).val else 0 := fun i => by
  have b0 : (i 0).val < 2 := (i 0).isLt
  have b1 : (i 1).val < 16 := (i 1).isLt
  have b2 : (i 2).val < 128 := (i 2).isLt
  have b3 : (i 3).val < 2 := (i 3).isLt
  have b4 : (i 4).val < 64 := (i 4).isLt
  unfold val_main_v269
  beta_reduce
  by_cases h : (i 1).val < 15
  · rw [pad_apply_of_inside _ _ _ _ _ _ _ i (ValueIdx.ix5 (n0 := 2) (n1 := 15) (n2 := 128) (n3 := 2) (n4 := 64) ⟨(i 0).val, b0⟩ ⟨(i 1).val, h⟩ ⟨(i 2).val, b2⟩ ⟨(i 3).val, b3⟩ ⟨(i 4).val, b4⟩)
      (fun a => match a with
        | ⟨0, _⟩ => by show (i 0).val = 0 + (i 0).val * 1; omega
        | ⟨1, _⟩ => by show (i 1).val = 0 + (i 1).val * 1; omega
        | ⟨2, _⟩ => by show (i 2).val = 0 + (i 2).val * 1; omega
        | ⟨3, _⟩ => by show (i 3).val = 0 + (i 3).val * 1; omega
        | ⟨4, _⟩ => by show (i 4).val = 0 + (i 4).val * 1; omega), if_pos h, val_main_v268_apply, val_main_v265_apply, r257 H]
    show ((dkr I (i 0).val (1 + (i 1).val) (i 2).val (i 3).val (i 4).val : ℝ) : EReal) = _
    rw [Nat.add_comm 1]
  · rw [pad_apply_of_not_inside _ _ _ _ _ _ _ i 1 (fun hh => h (by
      have h2 : ((i 1).val - 0) / 1 < 15 := hh.2.2
      omega)), if_neg h]
    exact k0

theorem r271 : RN (s := S2x2048x2x64) (val_main_v271 (F := Ideal) x0 x1 x2 x3 x4 x5)
    fun i => DKt I (i 0).val (i 1).val (i 2).val (i 3).val := fun i => by
  have b0 : (i 0).val < 2 := (i 0).isLt
  have b1 : (i 1).val < 2048 := (i 1).isLt
  have b2 : (i 2).val < 2 := (i 2).isLt
  have b3 : (i 3).val < 64 := (i 3).isLt
  have ea : idx_main_v271 i = ValueIdx.ix5 (n0 := 2) (n1 := 16) (n2 := 128) (n3 := 2) (n4 := 64) ⟨(i 0).val, b0⟩ ⟨(i 1).val / 128, by omega⟩ ⟨(i 1).val % 128, by omega⟩ ⟨(i 2).val, b2⟩ ⟨(i 3).val, b3⟩ :=
    funext fun a => match a with
    | ⟨0, _⟩ => Fin.ext (by show ((((i 0).val * 2048 + (i 1).val) * 2 + (i 2).val) * 64 + (i 3).val) / 262144 = (i 0).val; omega)
    | ⟨1, _⟩ => Fin.ext (by show ((((i 0).val * 2048 + (i 1).val) * 2 + (i 2).val) * 64 + (i 3).val) / 16384 % 16 = (i 1).val / 128; omega)
    | ⟨2, _⟩ => Fin.ext (by show ((((i 0).val * 2048 + (i 1).val) * 2 + (i 2).val) * 64 + (i 3).val) / 128 % 128 = (i 1).val % 128; omega)
    | ⟨3, _⟩ => Fin.ext (by show ((((i 0).val * 2048 + (i 1).val) * 2 + (i 2).val) * 64 + (i 3).val) / 64 % 2 = (i 2).val; omega)
    | ⟨4, _⟩ => Fin.ext (by show ((((i 0).val * 2048 + (i 1).val) * 2 + (i 2).val) * 64 + (i 3).val) % 64 = (i 3).val; omega)
  rw [val_main_v271_apply, ea, val_main_v270_apply, val_main_v266_apply, r257 H, r269 H, Ideal.addf_def, ← EReal.coe_add]
  rfl

theorem r288 : RN (s := S2x2048x2x8) (val_main_v288 (F := Ideal) x0 x1 x2 x3 x4 x5)
    fun i => DKt I (i 0).val (i 1).val (i 2).val (8 + (i 3).val) * SN (i 1).val (i 3).val + DKt I (i 0).val (i 1).val (i 2).val (i 3).val * CS (i 1).val (i 3).val := fun i => by
  rw [val_main_v288_apply, val_main_v279_apply, val_main_v287_apply, val_main_v276_apply, val_main_v275_apply, val_main_v278_apply, val_main_v286_apply, val_main_v55_apply, val_main_v53_apply, e52, e54, r271 H, r271 H, r17, r19]
  simp only [Ideal.addf_def, Ideal.mulf_def]
  rw [← EReal.coe_mul, ← EReal.coe_mul, ← EReal.coe_add]

theorem r285 : RN (s := S2x2048x2x8) (val_main_v285 (F := Ideal) x0 x1 x2 x3 x4 x5)
    fun i => DKt I (i 0).val (i 1).val (i 2).val (8 + (i 3).val) * CS (i 1).val (i 3).val + -DKt I (i 0).val (i 1).val (i 2).val (i 3).val * SN (i 1).val (i 3).val := fun i => by
  rw [val_main_v285_apply, val_main_v281_apply, val_main_v284_apply, val_main_v282_apply, val_main_v276_apply, val_main_v275_apply, val_main_v280_apply, val_main_v283_apply, val_main_v53_apply, val_main_v55_apply, e52, e54, r271 H, r271 H, r17, r19]
  simp only [Ideal.addf_def, Ideal.mulf_def, Ideal.hostNegf_def, Ideal.negf_def]
  rw [← EReal.coe_neg, ← EReal.coe_mul, ← EReal.coe_mul, ← EReal.coe_add]

theorem r289 : RN (s := S2x2048x2x64) (val_main_v289 (F := Ideal) x0 x1 x2 x3 x4 x5)
    fun i => if (i 3).val < 16 then 0 else DKt I (i 0).val (i 1).val (i 2).val (i 3).val := fun i => by
  have b0 : (i 0).val < 2 := (i 0).isLt
  have b1 : (i 1).val < 2048 := (i 1).isLt
  have b2 : (i 2).val < 2 := (i 2).isLt
  have b3 : (i 3).val < 64 := (i 3).isLt
  unfold val_main_v289
  beta_reduce
  by_cases h : (i 3).val < 16
  · rw [pad_apply_of_not_inside _ _ _ _ _ _ _ i 3 (fun hh => by
      have h2 : 16 ≤ (i 3).val := hh.1
      omega), if_pos h]
    exact k0
  · rw [pad_apply_of_inside _ _ _ _ _ _ _ i (ValueIdx.ix4 (n0 := 2) (n1 := 2048) (n2 := 2) (n3 := 48) ⟨(i 0).val, b0⟩ ⟨(i 1).val, b1⟩ ⟨(i 2).val, b2⟩ ⟨(i 3).val - 16, (by omega : (i 3).val - 16 < 48)⟩)
      (fun a => match a with
        | ⟨0, _⟩ => by show (i 0).val = 0 + (i 0).val * 1; omega
        | ⟨1, _⟩ => by show (i 1).val = 0 + (i 1).val * 1; omega
        | ⟨2, _⟩ => by show (i 2).val = 0 + (i 2).val * 1; omega
        | ⟨3, _⟩ => by show (i 3).val = 16 + ((i 3).val - 16) * 1; omega), if_neg h, val_main_v277_apply, r271 H]
    show ((DKt I (i 0).val (i 1).val (i 2).val (16 + ((i 3).val - 16)) : ℝ) : EReal) = _
    rw [Nat.add_sub_cancel' (by omega)]

theorem r290 : RN (s := S2x2048x2x64) (val_main_v290 (F := Ideal) x0 x1 x2 x3 x4 x5)
    fun i => if 8 ≤ (i 3).val ∧ (i 3).val < 16 then DKt I (i 0).val (i 1).val (i 2).val (i 3).val * CS (i 1).val ((i 3).val - 8) + -DKt I (i 0).val (i 1).val (i 2).val ((i 3).val - 8) * SN (i 1).val ((i 3).val - 8) else 0 := fun i => by
  have b0 : (i 0).val < 2 := (i 0).isLt
  have b1 : (i 1).val < 2048 := (i 1).isLt
  have b2 : (i 2).val < 2 := (i 2).isLt
  have b3 : (i 3).val < 64 := (i 3).isLt
  unfold val_main_v290
  beta_reduce
  by_cases h : 8 ≤ (i 3).val ∧ (i 3).val < 16
  · rw [pad_apply_of_inside _ _ _ _ _ _ _ i (ValueIdx.ix4 (n0 := 2) (n1 := 2048) (n2 := 2) (n3 := 8) ⟨(i 0).val, b0⟩ ⟨(i 1).val, b1⟩ ⟨(i 2).val, b2⟩ ⟨(i 3).val - 8, (by omega : (i 3).val - 8 < 8)⟩)
      (fun a => match a with
        | ⟨0, _⟩ => by show (i 0).val = 0 + (i 0).val * 1; omega
        | ⟨1, _⟩ => by show (i 1).val = 0 + (i 1).val * 1; omega
        | ⟨2, _⟩ => by show (i 2).val = 0 + (i 2).val * 1; omega
        | ⟨3, _⟩ => by show (i 3).val = 8 + ((i 3).val - 8) * 1; omega), if_pos h, r285 H]
    show ((DKt I (i 0).val (i 1).val (i 2).val (8 + ((i 3).val - 8)) * _ + _ : ℝ) : EReal) = _
    rw [Nat.add_sub_cancel' h.1]
  · rw [pad_apply_of_not_inside _ _ _ _ _ _ _ i 3 (fun hh => h (by
      have h1 : 8 ≤ (i 3).val := hh.1
      have h2 : ((i 3).val - 8) / 1 < 8 := hh.2.2
      omega)), if_neg h]
    exact k0

theorem r292 : RN (s := S2x2048x2x64) (val_main_v292 (F := Ideal) x0 x1 x2 x3 x4 x5)
    fun i => if (i 3).val < 8 then DKt I (i 0).val (i 1).val (i 2).val (8 + (i 3).val) * SN (i 1).val (i 3).val + DKt I (i 0).val (i 1).val (i 2).val (i 3).val * CS (i 1).val (i 3).val else 0 := fun i => by
  have b0 : (i 0).val < 2 := (i 0).isLt
  have b1 : (i 1).val < 2048 := (i 1).isLt
  have b2 : (i 2).val < 2 := (i 2).isLt
  have b3 : (i 3).val < 64 := (i 3).isLt
  unfold val_main_v292
  beta_reduce
  by_cases h : (i 3).val < 8
  · rw [pad_apply_of_inside _ _ _ _ _ _ _ i (ValueIdx.ix4 (n0 := 2) (n1 := 2048) (n2 := 2) (n3 := 8) ⟨(i 0).val, b0⟩ ⟨(i 1).val, b1⟩ ⟨(i 2).val, b2⟩ ⟨(i 3).val - 0, (by omega : (i 3).val - 0 < 8)⟩)
      (fun a => match a with
        | ⟨0, _⟩ => by show (i 0).val = 0 + (i 0).val * 1; omega
        | ⟨1, _⟩ => by show (i 1).val = 0 + (i 1).val * 1; omega
        | ⟨2, _⟩ => by show (i 2).val = 0 + (i 2).val * 1; omega
        | ⟨3, _⟩ => by show (i 3).val = 0 + ((i 3).val - 0) * 1; omega), if_pos h, r288 H]
    rfl
  · rw [pad_apply_of_not_inside _ _ _ _ _ _ _ i 3 (fun hh => h (by
      have h2 : ((i 3).val - 0) / 1 < 8 := hh.2.2
      omega)), if_neg h]
    exact k0

theorem r293 : RN (s := S2x2048x2x64) (val_main_v293 (F := Ideal) x0 x1 x2 x3 x4 x5)
    fun i => ur (DKt I) (i 0).val (i 1).val (i 2).val (i 3).val := fun i => by
  rw [val_main_v293_apply, val_main_v291_apply, r289 H, r290 H, r292 H]
  simp only [Ideal.addf_def]
  rw [← EReal.coe_add, ← EReal.coe_add]
  refine congrArg _ ?_
  unfold ur
  beta_reduce
  by_cases h1 : (i 3).val < 8
  · rw [if_pos (by omega), if_neg (by omega), if_pos h1, if_pos h1, zero_add, zero_add]
  · by_cases h2 : (i 3).val < 16
    · rw [if_pos h2, if_pos ⟨by omega, h2⟩, if_neg h1, if_neg h1, if_pos h2, zero_add, add_zero]
    · rw [if_neg h2, if_neg (fun h => h2 h.2), if_neg h1, if_neg h1, if_neg h2, add_zero, add_zero]

theorem r294 : RN (s := S2x2048x128) (val_main_v294 (F := Ideal) x0 x1 x2 x3 x4 x5)
    fun i => ur (DKt I) (i 0).val (i 1).val ((i 2).val / 64) ((i 2).val % 64) := fun i => by
  have b0 : (i 0).val < 2 := (i 0).isLt
  have b1 : (i 1).val < 2048 := (i 1).isLt
  have b2 : (i 2).val < 128 := (i 2).isLt
  unfold val_main_v294
  rw [shapeCast_apply _ _ i (ValueIdx.ix4 (n0 := 2) (n1 := 2048) (n2 := 2) (n3 := 64) ⟨(i 0).val, b0⟩ ⟨(i 1).val, b1⟩ ⟨(i 2).val / 64, by omega⟩ ⟨(i 2).val % 64, by omega⟩)
    (by
      rewrite [Shape.rowMajor_val_four, Shape.rowMajor_val_three]
      show (((i 0).val * 2048 + (i 1).val) * 2 + (i 2).val / 64) * 64 + (i 2).val % 64 = ((i 0).val * 2048 + (i 1).val) * 128 + (i 2).val
      omega), r293 H]

theorem r308 : RN (s := S2x2048x8x8) (val_main_v308 (F := Ideal) x0 x1 x2 x3 x4 x5)
    fun i => DQt I (i 0).val (i 1).val (i 2).val (8 + (i 3).val) * SN (i 1).val (i 3).val + DQt I (i 0).val (i 1).val (i 2).val (i 3).val * CS (i 1).val (i 3).val := fun i => by
  rw [val_main_v308_apply, val_main_v299_apply, val_main_v307_apply, val_main_v296_apply, val_main_v295_apply, val_main_v298_apply, val_main_v306_apply, val_main_v20_apply, val_main_v18_apply, r272 H, r272 H, r17, r19]
  simp only [Ideal.addf_def, Ideal.mulf_def]
  rw [← EReal.coe_mul, ← EReal.coe_mul, ← EReal.coe_add]

theorem r305 : RN (s := S2x2048x8x8) (val_main_v305 (F := Ideal) x0 x1 x2 x3 x4 x5)
    fun i => DQt I (i 0).val (i 1).val (i 2).val (8 + (i 3).val) * CS (i 1).val (i 3).val + -DQt I (i 0).val (i 1).val (i 2).val (i 3).val * SN (i 1).val (i 3).val := fun i => by
  rw [val_main_v305_apply, val_main_v301_apply, val_main_v304_apply, val_main_v302_apply, val_main_v296_apply, val_main_v295_apply, val_main_v300_apply, val_main_v303_apply, val_main_v18_apply, val_main_v20_apply, r272 H, r272 H, r17, r19]
  simp only [Ideal.addf_def, Ideal.mulf_def, Ideal.hostNegf_def, Ideal.negf_def]
  rw [← EReal.coe_neg, ← EReal.coe_mul, ← EReal.coe_mul, ← EReal.coe_add]

theorem r309 : RN (s := S2x2048x8x64) (val_main_v309 (F := Ideal) x0 x1 x2 x3 x4 x5)
    fun i => if (i 3).val < 16 then 0 else DQt I (i 0).val (i 1).val (i 2).val (i 3).val := fun i => by
  have b0 : (i 0).val < 2 := (i 0).isLt
  have b1 : (i 1).val < 2048 := (i 1).isLt
  have b2 : (i 2).val < 8 := (i 2).isLt
  have b3 : (i 3).val < 64 := (i 3).isLt
  unfold val_main_v309
  beta_reduce
  by_cases h : (i 3).val < 16
  · rw [pad_apply_of_not_inside _ _ _ _ _ _ _ i 3 (fun hh => by
      have h2 : 16 ≤ (i 3).val := hh.1
      omega), if_pos h]
    exact k0
  · rw [pad_apply_of_inside _ _ _ _ _ _ _ i (ValueIdx.ix4 (n0 := 2) (n1 := 2048) (n2 := 8) (n3 := 48) ⟨(i 0).val, b0⟩ ⟨(i 1).val, b1⟩ ⟨(i 2).val, b2⟩ ⟨(i 3).val - 16, (by omega : (i 3).val - 16 < 48)⟩)
      (fun a => match a with
        | ⟨0, _⟩ => by show (i 0).val = 0 + (i 0).val * 1; omega
        | ⟨1, _⟩ => by show (i 1).val = 0 + (i 1).val * 1; omega
        | ⟨2, _⟩ => by show (i 2).val = 0 + (i 2).val * 1; omega
        | ⟨3, _⟩ => by show (i 3).val = 16 + ((i 3).val - 16) * 1; omega), if_neg h, val_main_v297_apply, r272 H]
    show ((DQt I (i 0).val (i 1).val (i 2).val (16 + ((i 3).val - 16)) : ℝ) : EReal) = _
    rw [Nat.add_sub_cancel' (by omega)]

theorem r310 : RN (s := S2x2048x8x64) (val_main_v310 (F := Ideal) x0 x1 x2 x3 x4 x5)
    fun i => if 8 ≤ (i 3).val ∧ (i 3).val < 16 then DQt I (i 0).val (i 1).val (i 2).val (i 3).val * CS (i 1).val ((i 3).val - 8) + -DQt I (i 0).val (i 1).val (i 2).val ((i 3).val - 8) * SN (i 1).val ((i 3).val - 8) else 0 := fun i => by
  have b0 : (i 0).val < 2 := (i 0).isLt
  have b1 : (i 1).val < 2048 := (i 1).isLt
  have b2 : (i 2).val < 8 := (i 2).isLt
  have b3 : (i 3).val < 64 := (i 3).isLt
  unfold val_main_v310
  beta_reduce
  by_cases h : 8 ≤ (i 3).val ∧ (i 3).val < 16
  · rw [pad_apply_of_inside _ _ _ _ _ _ _ i (ValueIdx.ix4 (n0 := 2) (n1 := 2048) (n2 := 8) (n3 := 8) ⟨(i 0).val, b0⟩ ⟨(i 1).val, b1⟩ ⟨(i 2).val, b2⟩ ⟨(i 3).val - 8, (by omega : (i 3).val - 8 < 8)⟩)
      (fun a => match a with
        | ⟨0, _⟩ => by show (i 0).val = 0 + (i 0).val * 1; omega
        | ⟨1, _⟩ => by show (i 1).val = 0 + (i 1).val * 1; omega
        | ⟨2, _⟩ => by show (i 2).val = 0 + (i 2).val * 1; omega
        | ⟨3, _⟩ => by show (i 3).val = 8 + ((i 3).val - 8) * 1; omega), if_pos h, r305 H]
    show ((DQt I (i 0).val (i 1).val (i 2).val (8 + ((i 3).val - 8)) * _ + _ : ℝ) : EReal) = _
    rw [Nat.add_sub_cancel' h.1]
  · rw [pad_apply_of_not_inside _ _ _ _ _ _ _ i 3 (fun hh => h (by
      have h1 : 8 ≤ (i 3).val := hh.1
      have h2 : ((i 3).val - 8) / 1 < 8 := hh.2.2
      omega)), if_neg h]
    exact k0

theorem r312 : RN (s := S2x2048x8x64) (val_main_v312 (F := Ideal) x0 x1 x2 x3 x4 x5)
    fun i => if (i 3).val < 8 then DQt I (i 0).val (i 1).val (i 2).val (8 + (i 3).val) * SN (i 1).val (i 3).val + DQt I (i 0).val (i 1).val (i 2).val (i 3).val * CS (i 1).val (i 3).val else 0 := fun i => by
  have b0 : (i 0).val < 2 := (i 0).isLt
  have b1 : (i 1).val < 2048 := (i 1).isLt
  have b2 : (i 2).val < 8 := (i 2).isLt
  have b3 : (i 3).val < 64 := (i 3).isLt
  unfold val_main_v312
  beta_reduce
  by_cases h : (i 3).val < 8
  · rw [pad_apply_of_inside _ _ _ _ _ _ _ i (ValueIdx.ix4 (n0 := 2) (n1 := 2048) (n2 := 8) (n3 := 8) ⟨(i 0).val, b0⟩ ⟨(i 1).val, b1⟩ ⟨(i 2).val, b2⟩ ⟨(i 3).val - 0, (by omega : (i 3).val - 0 < 8)⟩)
      (fun a => match a with
        | ⟨0, _⟩ => by show (i 0).val = 0 + (i 0).val * 1; omega
        | ⟨1, _⟩ => by show (i 1).val = 0 + (i 1).val * 1; omega
        | ⟨2, _⟩ => by show (i 2).val = 0 + (i 2).val * 1; omega
        | ⟨3, _⟩ => by show (i 3).val = 0 + ((i 3).val - 0) * 1; omega), if_pos h, r308 H]
    rfl
  · rw [pad_apply_of_not_inside _ _ _ _ _ _ _ i 3 (fun hh => h (by
      have h2 : ((i 3).val - 0) / 1 < 8 := hh.2.2
      omega)), if_neg h]
    exact k0

theorem r313 : RN (s := S2x2048x8x64) (val_main_v313 (F := Ideal) x0 x1 x2 x3 x4 x5)
    fun i => ur (DQt I) (i 0).val (i 1).val (i 2).val (i 3).val := fun i => by
  rw [val_main_v313_apply, val_main_v311_apply, r309 H, r310 H, r312 H]
  simp only [Ideal.addf_def]
  rw [← EReal.coe_add, ← EReal.coe_add]
  refine congrArg _ ?_
  unfold ur
  beta_reduce
  by_cases h1 : (i 3).val < 8
  · rw [if_pos (by omega), if_neg (by omega), if_pos h1, if_pos h1, zero_add, zero_add]
  · by_cases h2 : (i 3).val < 16
    · rw [if_pos h2, if_pos ⟨by omega, h2⟩, if_neg h1, if_neg h1, if_pos h2, zero_add, add_zero]
    · rw [if_neg h2, if_neg (fun h => h2 h.2), if_neg h1, if_neg h1, if_neg h2, add_zero, add_zero]

theorem r314 : RN (s := S2x2048x512) (val_main_v314 (F := Ideal) x0 x1 x2 x3 x4 x5)
    fun i => ur (DQt I) (i 0).val (i 1).val ((i 2).val / 64) ((i 2).val % 64) := fun i => by
  have b0 : (i 0).val < 2 := (i 0).isLt
  have b1 : (i 1).val < 2048 := (i 1).isLt
  have b2 : (i 2).val < 512 := (i 2).isLt
  unfold val_main_v314
  rw [shapeCast_apply _ _ i (ValueIdx.ix4 (n0 := 2) (n1 := 2048) (n2 := 8) (n3 := 64) ⟨(i 0).val, b0⟩ ⟨(i 1).val, b1⟩ ⟨(i 2).val / 64, by omega⟩ ⟨(i 2).val % 64, by omega⟩)
    (by
      rewrite [Shape.rowMajor_val_four, Shape.rowMajor_val_three]
      show (((i 0).val * 2048 + (i 1).val) * 8 + (i 2).val / 64) * 64 + (i 2).val % 64 = ((i 0).val * 2048 + (i 1).val) * 512 + (i 2).val
      omega), r313 H]

theorem r274 : RN (s := S2x2048x128) (val_main_v274 (F := Ideal) x0 x1 x2 x3 x4 x5)
    fun i => DVt I (i 0).val (i 1).val ((i 2).val / 64) ((i 2).val % 64) := fun i => by
  have b0 : (i 0).val < 2 := (i 0).isLt
  have b1 : (i 1).val < 2048 := (i 1).isLt
  have b2 : (i 2).val < 128 := (i 2).isLt
  unfold val_main_v274
  rw [shapeCast_apply _ _ i (ValueIdx.ix4 (n0 := 2) (n1 := 2048) (n2 := 2) (n3 := 64) ⟨(i 0).val, b0⟩ ⟨(i 1).val, b1⟩ ⟨(i 2).val / 64, by omega⟩ ⟨(i 2).val % 64, by omega⟩)
    (by
      rewrite [Shape.rowMajor_val_four, Shape.rowMajor_val_three]
      show (((i 0).val * 2048 + (i 1).val) * 2 + (i 2).val / 64) * 64 + (i 2).val % 64 = ((i 0).val * 2048 + (i 1).val) * 128 + (i 2).val
      omega), r264 H]

/-- The gradients of the queries, the keys and the values side by side. -/
def pj (I : In) (b t c : ℕ) : ℝ :=
  if c < 512 then ur (DQt I) b t (c / 64) (c % 64)
  else if c < 640 then ur (DKt I) b t ((c - 512) / 64) ((c - 512) % 64)
  else DVt I b t ((c - 640) / 64) ((c - 640) % 64)

theorem r315 : RN (s := S2x2048x768) (val_main_v315 (F := Ideal) x0 x1 x2 x3 x4 x5)
    fun i => pj I (i 0).val (i 1).val (i 2).val := fun i => by
  have b0 : (i 0).val < 2 := (i 0).isLt
  have b1 : (i 1).val < 2048 := (i 1).isLt
  have b2 : (i 2).val < 768 := (i 2).isLt
  unfold val_main_v315 pj
  beta_reduce
  by_cases h1 : (i 2).val < 512
  · rw [concatenate_apply_piece (t := S2x2048x768) 2 _ _ i 0 (of_decide_eq_true rfl) S2x2048x512 _ rfl rfl 0 rfl
      (ValueIdx.ix3 ⟨(i 0).val, b0⟩ ⟨(i 1).val, b1⟩ ⟨(i 2).val, h1⟩)
      (fun a => match a with | ⟨0, _⟩ => fun _ => rfl | ⟨1, _⟩ => fun _ => rfl | ⟨2, _⟩ => fun h => absurd rfl h)
      (Nat.zero_add _), if_pos h1, r314 H]
  · by_cases h2 : (i 2).val < 640
    · rw [concatenate_apply_piece (t := S2x2048x768) 2 _ _ i 1 (of_decide_eq_true rfl) S2x2048x128 _ rfl rfl 512 rfl
        (ValueIdx.ix3 ⟨(i 0).val, b0⟩ ⟨(i 1).val, b1⟩ ⟨(i 2).val - 512, (by omega : (i 2).val - 512 < 128)⟩)
        (fun a => match a with | ⟨0, _⟩ => fun _ => rfl | ⟨1, _⟩ => fun _ => rfl | ⟨2, _⟩ => fun h => absurd rfl h)
        (by show 512 + ((i 2).val - 512) = (i 2).val; omega), if_neg h1, if_pos h2, r294 H]
    · rw [concatenate_apply_piece (t := S2x2048x768) 2 _ _ i 2 (of_decide_eq_true rfl) S2x2048x128 _ rfl rfl 640 rfl
        (ValueIdx.ix3 ⟨(i 0).val, b0⟩ ⟨(i 1).val, b1⟩ ⟨(i 2).val - 640, (by omega : (i 2).val - 640 < 128)⟩)
        (fun a => match a with | ⟨0, _⟩ => fun _ => rfl | ⟨1, _⟩ => fun _ => rfl | ⟨2, _⟩ => fun h => absurd rfl h)
        (by show 640 + ((i 2).val - 640) = (i 2).val; omega), if_neg h1, if_neg h2, r274 H]

theorem r318 (x6 : (⟨S2x2048x2816, .bf16⟩ : BufTy).Contents (Elt Ideal)) (i : S2x2048x2816.Idx) :
    val_main_v318 (F := Ideal) x0 x1 x2 x3 x4 x5 x6 i
      = if (i 2).val < 768 then ((pj I (i 0).val (i 1).val (i 2).val : ℝ) : EReal) else x6 i := by
  have b0 : (i 0).val < 2 := (i 0).isLt
  have b1 : (i 1).val < 2048 := (i 1).isLt
  have b2 : (i 2).val < 2816 := (i 2).isLt
  unfold val_main_v318
  by_cases h1 : (i 2).val < 768
  · rw [concatenate_apply_piece (t := S2x2048x2816) 2 _ _ i 0 (of_decide_eq_true rfl) S2x2048x768 _ rfl rfl 0 rfl
      (ValueIdx.ix3 ⟨(i 0).val, b0⟩ ⟨(i 1).val, b1⟩ ⟨(i 2).val, h1⟩)
      (fun a => match a with | ⟨0, _⟩ => fun _ => rfl | ⟨1, _⟩ => fun _ => rfl | ⟨2, _⟩ => fun h => absurd rfl h)
      (Nat.zero_add _), if_pos h1, val_main_v316_apply, r315 H]
    rfl
  · rw [concatenate_apply_piece (t := S2x2048x2816) 2 _ _ i 1 (of_decide_eq_true rfl) S2x2048x2048 _ rfl rfl 768 rfl
      (ValueIdx.ix3 ⟨(i 0).val, b0⟩ ⟨(i 1).val, b1⟩ ⟨(i 2).val - 768, (by omega : (i 2).val - 768 < 2048)⟩)
      (fun a => match a with | ⟨0, _⟩ => fun _ => rfl | ⟨1, _⟩ => fun _ => rfl | ⟨2, _⟩ => fun h => absurd rfl h)
      (by show 768 + ((i 2).val - 768) = (i 2).val; omega), if_neg h1, val_main_v317_apply]
    refine congrArg x6 (funext fun a => match a with
      | ⟨0, _⟩ => rfl | ⟨1, _⟩ => rfl | ⟨2, _⟩ => Fin.ext (by show 768 + ((i 2).val - 768) = (i 2).val; omega))

end Cert.Ref
-- ==== Proof.KRead.lean ====
/-
  The arrays the kernel's program prepares, over real numbers.
-/
module

public import proofs.«01_k».proof.Proof.HostDefs
public import proofs.«01_k».proof.Proof.Ref2

@[expose] public section

set_option maxRecDepth 16384

noncomputable section

namespace Cert.Ref

open Idealize.ShloMosaic Idealize.ShloMosaic.TcCoe Idealize.SL.Sem
open Cert.KernelIdeal Cert.KernelIdeal.Gen Cert.Re Cert.Host
open scoped BigOperators

variable {x0 : T0} {x1 x2 : T1} {x3 : T3} {x4 : T4} {x5 : T5} {I : In} (H : ArgR x0 x1 x2 x3 x4 x5 I)

section Heads
include H

theorem kq : RN (s := S2x16x2x512x64) (kv_v177 (F := Ideal) x0)
    fun i => qc I (i 0).val (i 1).val ((i 3).val % 128) (i 2).val ((i 3).val / 128) (i 4).val := fun i => by
  have b0 : (i 0).val < 2 := (i 0).isLt
  have b1 : (i 1).val < 16 := (i 1).isLt
  have b2 : (i 2).val < 2 := (i 2).isLt
  have b3 : (i 3).val < 512 := (i 3).isLt
  have b4 : (i 4).val < 64 := (i 4).isLt
  unfold kv_v177
  rw [shapeCast_apply _ _ i (ValueIdx.ix6 (n0 := 2) (n1 := 16) (n2 := 2) (n3 := 4) (n4 := 128) (n5 := 64) ⟨(i 0).val, b0⟩ ⟨(i 1).val, b1⟩ ⟨(i 2).val, b2⟩
      ⟨(i 3).val / 128, by omega⟩ ⟨(i 3).val % 128, by omega⟩ ⟨(i 4).val, b4⟩)
    (by
      rewrite [Shape.rowMajor_val_six, Shape.rowMajor_val_five]
      show (((((i 0).val * 16 + (i 1).val) * 2 + (i 2).val) * 4 + (i 3).val / 128) * 128 + (i 3).val % 128) * 64 + (i 4).val
        = ((((i 0).val * 16 + (i 1).val) * 2 + (i 2).val) * 512 + (i 3).val) * 64 + (i 4).val
      omega)]
  unfold kv_v176
  beta_reduce
  rw [transpose_apply (t := S2x16x2x4x128x64) [0, 1, 3, 4, 2, 5] _ _ _ (ValueIdx.ix6 (n0 := 2) (n1 := 16) (n2 := 128) (n3 := 2) (n4 := 4) (n5 := 64) ⟨(i 0).val, b0⟩ ⟨(i 1).val, b1⟩
      ⟨(i 3).val % 128, by omega⟩ ⟨(i 2).val, b2⟩ ⟨(i 3).val / 128, by omega⟩ ⟨(i 4).val, b4⟩)
    (fun b => match b with | ⟨0, _⟩ => rfl | ⟨1, _⟩ => rfl | ⟨2, _⟩ => rfl | ⟨3, _⟩ => rfl | ⟨4, _⟩ => rfl | ⟨5, _⟩ => rfl)]
  unfold kv_v175
  rw [shapeCast_apply _ _ _ (ValueIdx.ix4 (n0 := 2) (n1 := 2048) (n2 := 8) (n3 := 64) ⟨(i 0).val, b0⟩ ⟨128 * (i 1).val + (i 3).val % 128, by omega⟩
      ⟨4 * (i 2).val + (i 3).val / 128, by omega⟩ ⟨(i 4).val, b4⟩)
    (by
      rewrite [Shape.rowMajor_val_four, Shape.rowMajor_val_six]
      show (((i 0).val * 2048 + (128 * (i 1).val + (i 3).val % 128)) * 8 + (4 * (i 2).val + (i 3).val / 128)) * 64 + (i 4).val
        = (((((i 0).val * 16 + (i 1).val) * 128 + (i 3).val % 128) * 2 + (i 2).val) * 4 + (i 3).val / 128) * 64 + (i 4).val
      omega)]
  exact r34 H _

theorem kk : RN (s := S2x2x2048x64) (kv_v179 (F := Ideal) x1)
    fun i => rp I.K (i 0).val (i 2).val (i 1).val (i 3).val := fun i => by
  unfold kv_v179
  beta_reduce
  rw [transpose_apply [0, 2, 1, 3] _ _ i (ValueIdx.ix4 (n0 := 2) (n1 := 2048) (n2 := 2) (n3 := 64) (i 0) (i 2) (i 1) (i 3))
    (fun b => match b with | ⟨0, _⟩ => rfl | ⟨1, _⟩ => rfl | ⟨2, _⟩ => rfl | ⟨3, _⟩ => rfl)]
  exact r69 H _

theorem kv : RN (s := S2x2x2048x64) (kv_v181 (F := Ideal) x2)
    fun i => vh I (i 0).val (i 2).val (i 1).val (i 3).val := fun i => by
  unfold kv_v181
  beta_reduce
  rw [transpose_apply [0, 2, 1, 3] _ _ i (ValueIdx.ix4 (n0 := 2) (n1 := 2048) (n2 := 2) (n3 := 64) (i 0) (i 2) (i 1) (i 3))
    (fun b => match b with | ⟨0, _⟩ => rfl | ⟨1, _⟩ => rfl | ⟨2, _⟩ => rfl | ⟨3, _⟩ => rfl)]
  exact r70 H _

/-- The logarithms of the sums, a token a row and a head a column. -/
def LS (I : In) (b t h : ℕ) : ℝ := if h < 8 then lse I b (t / 128) (h / 4) (h % 4) (t % 128) else 0

theorem kl : RN (s := S2x2048x128) (kv_v185 (F := Ideal) x0 x1 x3)
    fun i => LS I (i 0).val (i 1).val (i 2).val := fun i => by
  have b0 : (i 0).val < 2 := (i 0).isLt
  have b1 : (i 1).val < 2048 := (i 1).isLt
  have b2 : (i 2).val < 128 := (i 2).isLt
  unfold kv_v185 LS
  beta_reduce
  by_cases h : (i 2).val < 8
  · rw [concatenate_apply_piece (t := S2x2048x128) 2 _ _ i 0 (of_decide_eq_true rfl) S2x2048x8 _ rfl rfl 0 rfl
      (ValueIdx.ix3 ⟨(i 0).val, b0⟩ ⟨(i 1).val, b1⟩ ⟨(i 2).val, h⟩)
      (fun a => match a with | ⟨0, _⟩ => fun _ => rfl | ⟨1, _⟩ => fun _ => rfl | ⟨2, _⟩ => fun h => absurd rfl h)
      (Nat.zero_add _), if_pos h]
    unfold kv_v183
    rw [shapeCast_apply _ _ _ (ValueIdx.ix6 (n0 := 2) (n1 := 16) (n2 := 128) (n3 := 2) (n4 := 4) (n5 := 1) ⟨(i 0).val, b0⟩ ⟨(i 1).val / 128, by omega⟩
        ⟨(i 1).val % 128, by omega⟩ ⟨(i 2).val / 4, by omega⟩ ⟨(i 2).val % 4, by omega⟩ ⟨0, Nat.one_pos⟩)
      (by
        rewrite [Shape.rowMajor_val_six, Shape.rowMajor_val_three]
        show (((((i 0).val * 16 + (i 1).val / 128) * 128 + (i 1).val % 128) * 2 + (i 2).val / 4) * 4 + (i 2).val % 4) * 1 + 0
          = ((i 0).val * 2048 + (i 1).val) * 8 + (i 2).val
        omega)]
    unfold kv_v182
    beta_reduce
    rw [transpose_apply (t := S2x16x128x2x4x1) [0, 1, 4, 2, 3, 5] _ _ _ (ValueIdx.ix6 (n0 := 2) (n1 := 16) (n2 := 2) (n3 := 4) (n4 := 128) (n5 := 1) ⟨(i 0).val, b0⟩ ⟨(i 1).val / 128, by omega⟩
        ⟨(i 2).val / 4, by omega⟩ ⟨(i 2).val % 4, by omega⟩ ⟨(i 1).val % 128, by omega⟩ ⟨0, Nat.one_pos⟩)
      (fun b => match b with | ⟨0, _⟩ => rfl | ⟨1, _⟩ => rfl | ⟨2, _⟩ => rfl | ⟨3, _⟩ => rfl | ⟨4, _⟩ => rfl | ⟨5, _⟩ => rfl)]
    exact r173 H _
  · rw [concatenate_apply_piece (t := S2x2048x128) 2 _ _ i 1 (of_decide_eq_true rfl) S2x2048x120 _ rfl rfl 8 rfl
      (ValueIdx.ix3 ⟨(i 0).val, b0⟩ ⟨(i 1).val, b1⟩ ⟨(i 2).val - 8, (by omega : (i 2).val - 8 < 120)⟩)
      (fun a => match a with | ⟨0, _⟩ => fun _ => rfl | ⟨1, _⟩ => fun _ => rfl | ⟨2, _⟩ => fun h => absurd rfl h)
      (by show 8 + ((i 2).val - 8) = (i 2).val; omega), if_neg h]
    exact k0

end Heads

theorem k1o : Ideal.ofBits .f32 0x3F800000#32 = ((1 : ℝ) : EReal) := by
  simp [Ideal.ofBits, Ideal.ieee]; rw [← EReal.coe_mul]; norm_num

def tC (t d : ℕ) : ℝ := if d < 8 then CS t d else if d < 16 then CS t (d - 8) else 1

theorem kC0 : RN (s := S2048x64) (kv_v207 (F := Ideal)) fun i => tC (i 0).val (i 1).val := fun i => by
  have b0 : (i 0).val < 2048 := (i 0).isLt
  have b1 : (i 1).val < 64 := (i 1).isLt
  unfold kv_v207 tC
  beta_reduce
  by_cases h : (i 1).val < 8
  · rw [concatenate_apply_piece (t := S2048x64) 1 _ _ i 0 (of_decide_eq_true rfl) S2048x8 _ rfl rfl 0 rfl
      (ValueIdx.ix2 ⟨(i 0).val, b0⟩ ⟨(i 1).val, h⟩)
      (fun a => match a with | ⟨0, _⟩ => fun _ => rfl | ⟨1, _⟩ => fun h => absurd rfl h)
      (Nat.zero_add _), if_pos h]
    exact r17 _
  · by_cases h2 : (i 1).val < 16
    · rw [concatenate_apply_piece (t := S2048x64) 1 _ _ i 1 (of_decide_eq_true rfl) S2048x8 _ rfl rfl 8 rfl
        (ValueIdx.ix2 ⟨(i 0).val, b0⟩ ⟨(i 1).val - 8, (by omega : (i 1).val - 8 < 8)⟩)
        (fun a => match a with | ⟨0, _⟩ => fun _ => rfl | ⟨1, _⟩ => fun h => absurd rfl h)
        (by show 8 + ((i 1).val - 8) = (i 1).val; omega), if_neg h, if_pos h2]
      exact r17 _
    · rw [concatenate_apply_piece (t := S2048x64) 1 _ _ i 2 (of_decide_eq_true rfl) S2048x48 _ rfl rfl 16 rfl
        (ValueIdx.ix2 ⟨(i 0).val, b0⟩ ⟨(i 1).val - 16, (by omega : (i 1).val - 16 < 48)⟩)
        (fun a => match a with | ⟨0, _⟩ => fun _ => rfl | ⟨1, _⟩ => fun h => absurd rfl h)
        (by show 16 + ((i 1).val - 16) = (i 1).val; omega), if_neg h, if_neg h2]
      exact k1o

theorem kC : RN (s := S2048x128) (kv_v210 (F := Ideal)) fun i => tC (i 0).val ((i 1).val % 64) := fun i => by
  have b0 : (i 0).val < 2048 := (i 0).isLt
  have b1 : (i 1).val < 128 := (i 1).isLt
  unfold kv_v210
  rw [shapeCast_apply _ _ i (ValueIdx.ix4 (n0 := 1) (n1 := 2048) (n2 := 2) (n3 := 64) ⟨0, Nat.one_pos⟩ ⟨(i 0).val, b0⟩ ⟨(i 1).val / 64, by omega⟩ ⟨(i 1).val % 64, by omega⟩)
    (by
      rewrite [Shape.rowMajor_val_four, Shape.rowMajor_val_two]
      show ((0 * 2048 + (i 0).val) * 2 + (i 1).val / 64) * 64 + (i 1).val % 64 = (i 0).val * 128 + (i 1).val
      omega)]
  unfold kv_v209
  rw [broadcastInDim_apply _ _ _ _ (ValueIdx.ix4 (n0 := 1) (n1 := 2048) (n2 := 1) (n3 := 64) ⟨0, Nat.one_pos⟩ ⟨(i 0).val, b0⟩ ⟨0, Nat.one_pos⟩ ⟨(i 1).val % 64, by omega⟩)
    (fun a => match a with | ⟨0, _⟩ => rfl | ⟨1, _⟩ => rfl | ⟨2, _⟩ => rfl | ⟨3, _⟩ => rfl)]
  unfold kv_v208
  rw [shapeCast_apply _ _ _ (ValueIdx.ix2 (n0 := 2048) (n1 := 64) ⟨(i 0).val, b0⟩ ⟨(i 1).val % 64, by omega⟩)
    (by
      rewrite [Shape.rowMajor_val_two, Shape.rowMajor_val_four]
      show (i 0).val * 64 + (i 1).val % 64 = ((0 * 2048 + (i 0).val) * 1 + 0) * 64 + (i 1).val % 64
      omega)]
  exact kC0 _

def tU (t d : ℕ) : ℝ := if d < 8 then 0 else if d < 16 then SN t (d - 8) else 0

theorem kU0 : RN (s := S2048x64) (kv_v211 (F := Ideal)) fun i => tU (i 0).val (i 1).val := fun i => by
  have b0 : (i 0).val < 2048 := (i 0).isLt
  have b1 : (i 1).val < 64 := (i 1).isLt
  unfold kv_v211 tU
  beta_reduce
  by_cases h : (i 1).val < 8
  · rw [concatenate_apply_piece (t := S2048x64) 1 _ _ i 0 (of_decide_eq_true rfl) S2048x8 _ rfl rfl 0 rfl
      (ValueIdx.ix2 ⟨(i 0).val, b0⟩ ⟨(i 1).val, h⟩)
      (fun a => match a with | ⟨0, _⟩ => fun _ => rfl | ⟨1, _⟩ => fun h => absurd rfl h)
      (Nat.zero_add _), if_pos h]
    exact k0
  · by_cases h2 : (i 1).val < 16
    · rw [concatenate_apply_piece (t := S2048x64) 1 _ _ i 1 (of_decide_eq_true rfl) S2048x8 _ rfl rfl 8 rfl
        (ValueIdx.ix2 ⟨(i 0).val, b0⟩ ⟨(i 1).val - 8, (by omega : (i 1).val - 8 < 8)⟩)
        (fun a => match a with | ⟨0, _⟩ => fun _ => rfl | ⟨1, _⟩ => fun h => absurd rfl h)
        (by show 8 + ((i 1).val - 8) = (i 1).val; omega), if_neg h, if_pos h2]
      exact r19 _
    · rw [concatenate_apply_piece (t := S2048x64) 1 _ _ i 2 (of_decide_eq_true rfl) S2048x48 _ rfl rfl 16 rfl
        (ValueIdx.ix2 ⟨(i 0).val, b0⟩ ⟨(i 1).val - 16, (by omega : (i 1).val - 16 < 48)⟩)
        (fun a => match a with | ⟨0, _⟩ => fun _ => rfl | ⟨1, _⟩ => fun h => absurd rfl h)
        (by show 16 + ((i 1).val - 16) = (i 1).val; omega), if_neg h, if_neg h2]
      exact k0

theorem kU : RN (s := S2048x128) (kv_v214 (F := Ideal)) fun i => tU (i 0).val ((i 1).val % 64) := fun i => by
  have b0 : (i 0).val < 2048 := (i 0).isLt
  have b1 : (i 1).val < 128 := (i 1).isLt
  unfold kv_v214
  rw [shapeCast_apply _ _ i (ValueIdx.ix4 (n0 := 1) (n1 := 2048) (n2 := 2) (n3 := 64) ⟨0, Nat.one_pos⟩ ⟨(i 0).val, b0⟩ ⟨(i 1).val / 64, by omega⟩ ⟨(i 1).val % 64, by omega⟩)
    (by
      rewrite [Shape.rowMajor_val_four, Shape.rowMajor_val_two]
      show ((0 * 2048 + (i 0).val) * 2 + (i 1).val / 64) * 64 + (i 1).val % 64 = (i 0).val * 128 + (i 1).val
      omega)]
  unfold kv_v213
  rw [broadcastInDim_apply _ _ _ _ (ValueIdx.ix4 (n0 := 1) (n1 := 2048) (n2 := 1) (n3 := 64) ⟨0, Nat.one_pos⟩ ⟨(i 0).val, b0⟩ ⟨0, Nat.one_pos⟩ ⟨(i 1).val % 64, by omega⟩)
    (fun a => match a with | ⟨0, _⟩ => rfl | ⟨1, _⟩ => rfl | ⟨2, _⟩ => rfl | ⟨3, _⟩ => rfl)]
  unfold kv_v212
  rw [shapeCast_apply _ _ _ (ValueIdx.ix2 (n0 := 2048) (n1 := 64) ⟨(i 0).val, b0⟩ ⟨(i 1).val % 64, by omega⟩)
    (by
      rewrite [Shape.rowMajor_val_two, Shape.rowMajor_val_four]
      show (i 0).val * 64 + (i 1).val % 64 = ((0 * 2048 + (i 0).val) * 1 + 0) * 64 + (i 1).val % 64
      omega)]
  exact kU0 _

def tD (t d : ℕ) : ℝ := if d < 8 then -SN t d else if d < 16 then 0 else 0

theorem kD0 : RN (s := S2048x64) (kv_v216 (F := Ideal)) fun i => tD (i 0).val (i 1).val := fun i => by
  have b0 : (i 0).val < 2048 := (i 0).isLt
  have b1 : (i 1).val < 64 := (i 1).isLt
  unfold kv_v216 tD
  beta_reduce
  by_cases h : (i 1).val < 8
  · rw [concatenate_apply_piece (t := S2048x64) 1 _ _ i 0 (of_decide_eq_true rfl) S2048x8 _ rfl rfl 0 rfl
      (ValueIdx.ix2 ⟨(i 0).val, b0⟩ ⟨(i 1).val, h⟩)
      (fun a => match a with | ⟨0, _⟩ => fun _ => rfl | ⟨1, _⟩ => fun h => absurd rfl h)
      (Nat.zero_add _), if_pos h]
    unfold kv_v215; show -(Cert.ReferenceIdeal.Read.val_main_v19 (F := Ideal) _) = _; rw [r19]; rfl
  · by_cases h2 : (i 1).val < 16
    · rw [concatenate_apply_piece (t := S2048x64) 1 _ _ i 1 (of_decide_eq_true rfl) S2048x8 _ rfl rfl 8 rfl
        (ValueIdx.ix2 ⟨(i 0).val, b0⟩ ⟨(i 1).val - 8, (by omega : (i 1).val - 8 < 8)⟩)
        (fun a => match a with | ⟨0, _⟩ => fun _ => rfl | ⟨1, _⟩ => fun h => absurd rfl h)
        (by show 8 + ((i 1).val - 8) = (i 1).val; omega), if_neg h, if_pos h2]
      exact k0
    · rw [concatenate_apply_piece (t := S2048x64) 1 _ _ i 2 (of_decide_eq_true rfl) S2048x48 _ rfl rfl 16 rfl
        (ValueIdx.ix2 ⟨(i 0).val, b0⟩ ⟨(i 1).val - 16, (by omega : (i 1).val - 16 < 48)⟩)
        (fun a => match a with | ⟨0, _⟩ => fun _ => rfl | ⟨1, _⟩ => fun h => absurd rfl h)
        (by show 16 + ((i 1).val - 16) = (i 1).val; omega), if_neg h, if_neg h2]
      exact k0

theorem kD : RN (s := S2048x128) (kv_v219 (F := Ideal)) fun i => tD (i 0).val ((i 1).val % 64) := fun i => by
  have b0 : (i 0).val < 2048 := (i 0).isLt
  have b1 : (i 1).val < 128 := (i 1).isLt
  unfold kv_v219
  rw [shapeCast_apply _ _ i (ValueIdx.ix4 (n0 := 1) (n1 := 2048) (n2 := 2) (n3 := 64) ⟨0, Nat.one_pos⟩ ⟨(i 0).val, b0⟩ ⟨(i 1).val / 64, by omega⟩ ⟨(i 1).val % 64, by omega⟩)
    (by
      rewrite [Shape.rowMajor_val_four, Shape.rowMajor_val_two]
      show ((0 * 2048 + (i 0).val) * 2 + (i 1).val / 64) * 64 + (i 1).val % 64 = (i 0).val * 128 + (i 1).val
      omega)]
  unfold kv_v218
  rw [broadcastInDim_apply _ _ _ _ (ValueIdx.ix4 (n0 := 1) (n1 := 2048) (n2 := 1) (n3 := 64) ⟨0, Nat.one_pos⟩ ⟨(i 0).val, b0⟩ ⟨0, Nat.one_pos⟩ ⟨(i 1).val % 64, by omega⟩)
    (fun a => match a with | ⟨0, _⟩ => rfl | ⟨1, _⟩ => rfl | ⟨2, _⟩ => rfl | ⟨3, _⟩ => rfl)]
  unfold kv_v217
  rw [shapeCast_apply _ _ _ (ValueIdx.ix2 (n0 := 2048) (n1 := 64) ⟨(i 0).val, b0⟩ ⟨(i 1).val % 64, by omega⟩)
    (by
      rewrite [Shape.rowMajor_val_two, Shape.rowMajor_val_four]
      show (i 0).val * 64 + (i 1).val % 64 = ((0 * 2048 + (i 0).val) * 1 + 0) * 64 + (i 1).val % 64
      omega)]
  exact kD0 _

/-- Where a query of a block sees a key of the block before it or of its own; and of its own alone. -/
def mF (j r : ℕ) : Bool := decide (r % 128 < j ∧ j ≤ r % 128 + 128)
def m0 (j r : ℕ) : Bool := decide (128 ≤ j ∧ j ≤ r % 128 + 128)

theorem k222 : ∀ r : Fin 512, kv_v222 (F := Ideal) (ValueIdx.ix2 (n0 := 512) (n1 := 1) r 0) = BitVec.ofNat 32 (r.val % 128) := by
  decide +kernel

theorem we (r j : ℕ) (hr : r < 512) (hj : j < 256) :
    IntOp.andi (IntOp.cmpi .sge (BitVec.ofNat 32 j) 128#32)
      (IntOp.cmpi .sle (IntOp.subi (BitVec.ofNat 32 j) 128#32) (BitVec.ofNat 32 (r % 128)))
      = BitVec.ofBool (m0 j r) := by
  have e1 : (BitVec.ofNat 32 j).toInt = j := by
    rw [BitVec.toInt_eq_toNat_cond]; simp only [BitVec.toNat_ofNat]; split <;> omega
  have e2 : (BitVec.ofNat 32 (r % 128)).toInt = ((r % 128 : ℕ) : ℤ) := by
    rw [BitVec.toInt_eq_toNat_cond]; simp only [BitVec.toNat_ofNat]; split <;> omega
  have e3 : (IntOp.subi (BitVec.ofNat 32 j) 128#32).toInt = (j : ℤ) - 128 := by
    rw [BitVec.toInt_eq_toNat_cond]; simp only [IntOp.subi, BitVec.toNat_sub, BitVec.toNat_ofNat]; split <;> omega
  have z1 : (128#32).toInt = 128 := rfl
  rw [WordCmp.cmpi_sge_eq, WordCmp.cmpi_sle_eq, e1, e2, e3, z1, WordCmp.andi_ofBool, ← Bool.decide_and]
  refine congrArg BitVec.ofBool (decide_eq_decide.mpr ?_)
  omega

theorem wb (r j : ℕ) (hr : r < 512) (hj : j < 256) :
    IntOp.andi (IntOp.cmpi .slt (BitVec.ofNat 32 j) 128#32) (IntOp.cmpi .sgt (BitVec.ofNat 32 j) (BitVec.ofNat 32 (r % 128)))
      = BitVec.ofBool (decide (j < 128 ∧ r % 128 < j)) := by
  have e1 : (BitVec.ofNat 32 j).toInt = j := by
    rw [BitVec.toInt_eq_toNat_cond]; simp only [BitVec.toNat_ofNat]; split <;> omega
  have e2 : (BitVec.ofNat 32 (r % 128)).toInt = ((r % 128 : ℕ) : ℤ) := by
    rw [BitVec.toInt_eq_toNat_cond]; simp only [BitVec.toNat_ofNat]; split <;> omega
  have z1 : (128#32).toInt = 128 := rfl
  rw [WordCmp.cmpi_slt_eq, WordCmp.cmpi_sgt_eq, e1, e2, z1, WordCmp.andi_ofBool, ← Bool.decide_and]
  refine congrArg BitVec.ofBool (decide_eq_decide.mpr ?_)
  omega

theorem k105 (j : Fin 256) : Cert.ReferenceIdeal.Read.val_main_v105 (F := Ideal) (ValueIdx.ix2 (n0 := 1) (n1 := 256) 0 j) = BitVec.ofNat 32 j.val := by
  rw [Cert.ReferenceIdeal.Read.val_main_v105_apply]
  rfl

theorem bk {α : Type} (y : S1x256.Idx → α) (h) (i : S512x256.Idx) :
    broadcastInDim S512x256 ![0, 1] h y i = y (ValueIdx.ix2 (n0 := 1) (n1 := 256) 0 ⟨(i 1).val, show (i 1).val < 256 from (i 1).isLt⟩) :=
  broadcastInDim_apply _ h y i _ (fun a => match a with | ⟨0, _⟩ => rfl | ⟨1, _⟩ => rfl)

theorem br {α : Type} (y : S512x1.Idx → α) (h) (i : S512x256.Idx) :
    broadcastInDim S512x256 ![0, 1] h y i = y (ValueIdx.ix2 (n0 := 512) (n1 := 1) ⟨(i 0).val, show (i 0).val < 512 from (i 0).isLt⟩ 0) :=
  broadcastInDim_apply _ h y i _ (fun a => match a with | ⟨0, _⟩ => rfl | ⟨1, _⟩ => rfl)

theorem k233 (i : S512x256.Idx) : kv_v233 (F := Ideal) i = BitVec.ofBool (m0 (i 1).val (i 0).val) := by
  rw [← we (i 0).val (i 1).val (i 0).isLt (i 1).isLt]
  show IntOp.andi (kv_v232 (F := Ideal) i) (IntOp.cmpi .sle (kv_v229 (F := Ideal) i) (kv_v230 (F := Ideal) i)) = _
  unfold kv_v232 kv_v229 kv_v230
  rw [bk, bk, br, k222]
  show IntOp.andi (IntOp.cmpi .sge (Cert.ReferenceIdeal.Read.val_main_v105 (F := Ideal) _) 128#32)
    (IntOp.cmpi .sle (IntOp.subi (Cert.ReferenceIdeal.Read.val_main_v105 (F := Ideal) _) 128#32) _) = _
  rw [k105]

theorem k241 (i : S512x256.Idx) : kv_v241 (F := Ideal) i = BitVec.ofBool (mF (i 1).val (i 0).val) := by
  have b0 : (i 0).val < 512 := (i 0).isLt
  have b1 : (i 1).val < 256 := (i 1).isLt
  have e : kv_v240 (F := Ideal) i = BitVec.ofBool (decide ((i 1).val < 128 ∧ (i 0).val % 128 < (i 1).val)) := by
    rw [← wb (i 0).val (i 1).val (i 0).isLt (i 1).isLt]
    show IntOp.andi (kv_v239 (F := Ideal) i) (IntOp.cmpi .sgt (kv_v236 (F := Ideal) i) (kv_v237 (F := Ideal) i)) = _
    unfold kv_v239 kv_v236 kv_v237
    rw [bk, bk, br, k222]
    show IntOp.andi (IntOp.cmpi .slt (Cert.ReferenceIdeal.Read.val_main_v105 (F := Ideal) _) 128#32) _ = _
    rw [k105]
  show IntOp.ori (kv_v233 (F := Ideal) i) (kv_v240 (F := Ideal) i) = _
  rw [k233, e, WordCmp.ori_ofBool]
  refine congrArg BitVec.ofBool ?_
  unfold m0 mF
  rw [← Bool.decide_or]
  refine decide_eq_decide.mpr ?_
  omega

theorem ksel (b : Bool) (i : S512x256.Idx) :
    Scalar.select (BitVec.ofBool b) (kv_call2_v0 (F := Ideal) i) (kv_call2_v1 (F := Ideal) i) = (if b then (0 : EReal) else ⊥) := by
  have e0 : kv_call2_v0 (F := Ideal) i = (0 : EReal) := by
    show Ideal.ofBits .f32 0x00000000#32 = _
    rw [k0]; rfl
  have e1 : kv_call2_v1 (F := Ideal) i = (⊥ : EReal) := kbot
  rw [e0, e1]
  cases b <;> rfl

theorem kmF (j : Fin 256) (r : Fin 512) :
    kv_v246 (F := Ideal) (ValueIdx.ix2 (n0 := 256) (n1 := 512) j r) = (if mF j.val r.val then (0 : EReal) else ⊥) := by
  unfold kv_v246
  beta_reduce
  rw [transpose_apply [1, 0] _ _ _ (ValueIdx.ix2 (n0 := 512) (n1 := 256) r j) (fun b => match b with | ⟨0, _⟩ => rfl | ⟨1, _⟩ => rfl)]
  show Scalar.select (kv_v241 (F := Ideal) (ValueIdx.ix2 (n0 := 512) (n1 := 256) r j)) _ _ = _
  rw [k241]
  exact ksel _ _

theorem km0 (j : Fin 256) (r : Fin 512) :
    kv_v247 (F := Ideal) (ValueIdx.ix2 (n0 := 256) (n1 := 512) j r) = (if m0 j.val r.val then (0 : EReal) else ⊥) := by
  unfold kv_v247
  beta_reduce
  rw [transpose_apply [1, 0] _ _ _ (ValueIdx.ix2 (n0 := 512) (n1 := 256) r j) (fun b => match b with | ⟨0, _⟩ => rfl | ⟨1, _⟩ => rfl)]
  show Scalar.select (kv_v233 (F := Ideal) (ValueIdx.ix2 (n0 := 512) (n1 := 256) r j)) _ _ = _
  rw [k233]
  exact ksel _ _

end Cert.Ref
-- ==== Proof.Pts.lean ====
/-
  The real numbers of each grid point, and that what the points compute of them adds up to the attention's gradients.
-/
module

public import proofs.«01_k».proof.Proof.Spec
public import proofs.«01_k».proof.Proof.Ref5
public import proofs.«01_k».proof.Proof.KRead

@[expose] public section

noncomputable section

namespace Cert.Ref

open Idealize.ShloMosaic Cert.Spec
open scoped BigOperators

theorem sum_split (a b : ℕ) (f : ℕ → ℝ) :
    ∑ r ∈ Finset.range (a * b), f r = ∑ h ∈ Finset.range a, ∑ i ∈ Finset.range b, f (b * h + i) := by
  induction a with
  | zero => simp
  | succ a ih =>
    rw [Nat.succ_mul, Finset.sum_range_add, ih, Finset.sum_range_succ, Nat.mul_comm a b]

theorem sum_head (h : ℕ) (hh : h < 8) (f : ℕ → ℝ) :
    ∑ c ∈ Finset.range 512, (if c / 64 = h then 1 else 0) * f c = ∑ d ∈ Finset.range 64, f (64 * h + d) := by
  rw [show (512 : ℕ) = 8 * 64 from rfl, sum_split]
  rw [Finset.sum_eq_single h]
  · refine Finset.sum_congr rfl fun d hd => ?_
    have := Finset.mem_range.mp hd
    rw [if_pos (by omega), one_mul]
  · intro k _ hk
    refine Finset.sum_eq_zero fun d hd => ?_
    have := Finset.mem_range.mp hd
    rw [if_neg (by omega), zero_mul]
  · intro hk
    exact absurd (Finset.mem_range.mpr hh) hk

/-- The numbers of the grid point that takes the query blocks `2 (7 - i)` and `2 (7 - i) + 1` of sequence `b`. -/
def pt (I : In) (b i : ℕ) (CK CV : ℕ → ℕ → ℝ) (PW PS : ℕ → ℝ) : Pt where
  SK := I.SK
  DA j k := I.DA b (256 * (7 - i) + j) k
  RAW j k := raw I b (256 * (7 - i) + j) k
  W := I.W
  QH k g r d := qc I b (2 * (7 - i) + k) (r % 128) g (r / 128) d
  KC g j d := rp I.K b (256 * (7 - i) + j) g d
  KP g j d := rp I.K b (128 * (2 * (7 - i) - 1) + j) g d
  VC g j d := vh I b (256 * (7 - i) + j) g d
  VP g j d := vh I b (128 * (2 * (7 - i) - 1) + j) g d
  LSE j h := LS I b (256 * (7 - i) + j) h
  C j k := tC (256 * (7 - i) + j) (k % 64)
  U j k := tU (256 * (7 - i) + j) (k % 64)
  D j k := tD (256 * (7 - i) + j) (k % 64)
  MF := mF
  M0 := m0
  n := i
  CK := CK
  CV := CV
  PW := PW
  PS := PS

/-- The same without what the points before left. -/
abbrev bs (I : In) (b i : ℕ) : Pt := pt I b i (fun _ _ => 0) (fun _ _ => 0) (fun _ => 0) (fun _ => 0)

variable {I : In} {b i : ℕ} {CK CV : ℕ → ℕ → ℝ} {PW PS : ℕ → ℝ}

section
variable (hi : i < 8) {k : ℕ} (hk : k < 2)
include hi hk

theorem p_msk {j r : ℕ} : (pt I b i CK CV PW PS).msk k j r = true ↔ msk (2 * (7 - i) + k) (r % 128) j := by
  unfold Pt.msk msk
  show (if k = 1 then mF j r else if i < 7 then mF j r else m0 j r) = true ↔ _
  unfold mF m0
  split
  · rw [decide_eq_true_iff]; omega
  · split <;> rw [decide_eq_true_iff] <;> omega

theorem p_key {g j d : ℕ} (hj : j < 256) (h : 2 * (7 - i) + k ≠ 0 ∨ 128 ≤ j) :
    (pt I b i CK CV PW PS).key k g j d = kc I b (2 * (7 - i) + k) j g d := by
  unfold Pt.key kc two
  show (if k = 1 then rp I.K b (256 * (7 - i) + j) g d
    else if j / 128 = 0 then rp I.K b (128 * (2 * (7 - i) - 1) + j % 128) g d else rp I.K b (256 * (7 - i) + j % 128) g d) = _
  split
  · split
    · rw [if_neg (by omega)]; congr 1; omega
    · congr 1; omega
  · split
    · rw [if_pos (by omega), if_neg (by omega)]; congr 1; omega
    · rw [if_neg (by omega)]; congr 1; omega

theorem p_val {g j d : ℕ} (hj : j < 256) (h : 2 * (7 - i) + k ≠ 0 ∨ 128 ≤ j) :
    (pt I b i CK CV PW PS).val k g j d = vc I b (2 * (7 - i) + k) j g d := by
  unfold Pt.val vc two
  show (if k = 1 then vh I b (256 * (7 - i) + j) g d
    else if j / 128 = 0 then vh I b (128 * (2 * (7 - i) - 1) + j % 128) g d else vh I b (256 * (7 - i) + j % 128) g d) = _
  split
  · split
    · rw [if_neg (by omega)]; congr 1; omega
    · congr 1; omega
  · split
    · rw [if_pos (by omega), if_neg (by omega)]; congr 1; omega
    · rw [if_neg (by omega)]; congr 1; omega

theorem p_lse {g r : ℕ} (hg : g < 2) (hr : r < 512) :
    (pt I b i CK CV PW PS).lseb k g r = lse I b (2 * (7 - i) + k) g (r / 128) (r % 128) := by
  show LS I b (256 * (7 - i) + (128 * k + r % 128)) (4 * g + r / 128) = _
  unfold LS
  rw [if_pos (by omega), show (256 * (7 - i) + (128 * k + r % 128)) / 128 = 2 * (7 - i) + k by omega,
    show (4 * g + r / 128) / 4 = g by omega, show (4 * g + r / 128) % 4 = r / 128 by omega,
    show (256 * (7 - i) + (128 * k + r % 128)) % 128 = r % 128 by omega]

theorem p_dO {j c : ℕ} : (pt I b i CK CV PW PS).DO j c = dO I b (256 * (7 - i) + j) c := rfl

theorem p_dob {g r d : ℕ} :
    (pt I b i CK CV PW PS).dob k g r d = dO I b (128 * (2 * (7 - i) + k) + r % 128) (64 * (4 * g + r / 128) + d) := by
  show dO I b (256 * (7 - i) + (128 * k + r % 128)) _ = _
  rw [show 256 * (7 - i) + (128 * k + r % 128) = 128 * (2 * (7 - i) + k) + r % 128 by omega]

theorem p_dsb {g r : ℕ} (hg : g < 2) (hr : r < 512) :
    (pt I b i CK CV PW PS).dsb k g r = dsum I b (2 * (7 - i) + k) g (r / 128) (r % 128) := by
  show hsum (fun j c => dO I b (256 * (7 - i) + j) c) (fun j c => raw I b (256 * (7 - i) + j) c) (128 * k + r % 128) (4 * g + r / 128) = _
  unfold hsum
  rw [sum_head _ (by omega)]
  beta_reduce
  rw [show 256 * (7 - i) + (128 * k + r % 128) = 128 * (2 * (7 - i) + k) + r % 128 by omega]
  generalize 2 * (7 - i) + k = n
  unfold dsum dp
  simp only [Finset.sum_mul]
  rw [Finset.sum_comm]
  refine Finset.sum_congr rfl fun d hd => ?_
  have := Finset.mem_range.mp hd
  unfold raw
  rw [Finset.mul_sum]
  refine Finset.sum_congr rfl fun j _ => ?_
  rw [show (128 * n + r % 128) / 128 = n by omega, show (128 * n + r % 128) % 128 = r % 128 by omega,
    show (64 * (4 * g + r / 128) + d) / 256 = g by omega, show (64 * (4 * g + r / 128) + d) % 64 = d by omega,
    show (64 * (4 * g + r / 128) + d) / 64 % 4 = r / 128 by omega]
  ring

theorem p_P {g j r : ℕ} (hg : g < 2) (hj : j < 256) (hr : r < 512) :
    (pt I b i CK CV PW PS).P k g j r = pr I b (2 * (7 - i) + k) g (r / 128) (r % 128) j := by
  unfold Pt.P pr
  by_cases h : msk (2 * (7 - i) + k) (r % 128) j
  · rw [if_pos h, if_pos ((p_msk hi hk).mpr h), p_lse hi hk hg hr]
    unfold sc
    have h2 := h
    unfold msk at h2
    congr 3
    refine Finset.sum_congr rfl fun d _ => ?_
    rw [p_key hi hk hj (by omega)]
    rfl
  · rw [if_neg h, if_neg (fun e => h ((p_msk hi hk).mp e))]

theorem p_DS {g j r : ℕ} (hg : g < 2) (hj : j < 256) (hr : r < 512) :
    (pt I b i CK CV PW PS).DS k g j r = ds I b (2 * (7 - i) + k) g (r / 128) (r % 128) j := by
  unfold Pt.DS ds
  rw [p_P hi hk hg hj hr]
  by_cases h : msk (2 * (7 - i) + k) (r % 128) j
  · rw [p_dsb hi hk hg hr]
    have h2 := h
    unfold msk at h2
    congr 3
    unfold dp
    refine Finset.sum_congr rfl fun d _ => ?_
    rw [p_val hi hk hj (by omega), p_dob hi hk, mul_comm]
  · unfold pr
    rw [if_neg h]
    simp only [zero_mul]

theorem ds_zero {n g h r j : ℕ} (e : ¬ msk n r j) : ds I b n g h r j = 0 := by
  unfold ds pr
  rw [if_neg e, zero_mul, zero_mul]

theorem p_DQ {g r d : ℕ} (hg : g < 2) (hr : r < 512) :
    (pt I b i CK CV PW PS).DQ k g r d = dqr I b (2 * (7 - i) + k) g (r % 128) (r / 128) d := by
  unfold Pt.DQ dqr
  refine Finset.sum_congr rfl fun j hj => ?_
  have hj := Finset.mem_range.mp hj
  rw [p_DS hi hk hg hj hr]
  by_cases h : msk (2 * (7 - i) + k) (r % 128) j
  · have h2 := h
    unfold msk at h2
    rw [p_key hi hk hj (by omega)]
  · rw [ds_zero hi hk h, zero_mul, zero_mul]

theorem p_DK {g j d : ℕ} (hg : g < 2) (hj : j < 256) :
    (pt I b i CK CV PW PS).DK k g j d = dkr I b (2 * (7 - i) + k) j g d := by
  unfold Pt.DK dkr
  rw [show (512 : ℕ) = 4 * 128 from rfl, sum_split, Finset.sum_comm]
  refine Finset.sum_congr rfl fun r hr => Finset.sum_congr rfl fun h hh => ?_
  have hr := Finset.mem_range.mp hr
  have hh := Finset.mem_range.mp hh
  rw [p_DS hi hk hg hj (by omega)]
  show _ * qc I b (2 * (7 - i) + k) ((128 * h + r) % 128) g ((128 * h + r) / 128) d = _
  rw [show (128 * h + r) % 128 = r by omega, show (128 * h + r) / 128 = h by omega]

theorem p_DV {g j d : ℕ} (hg : g < 2) (hj : j < 256) :
    (pt I b i CK CV PW PS).DV k g j d = dvr I b (2 * (7 - i) + k) j g d := by
  unfold Pt.DV dvr
  rw [show (512 : ℕ) = 4 * 128 from rfl, sum_split]
  refine Finset.sum_congr rfl fun h hh => Finset.sum_congr rfl fun r hr => ?_
  have hr := Finset.mem_range.mp hr
  have hh := Finset.mem_range.mp hh
  rw [p_P hi hk hg hj (by omega), p_dob hi hk, show (128 * h + r) % 128 = r by omega, show (128 * h + r) / 128 = h by omega, mul_comm]

theorem p_SP {g r : ℕ} (hg : g < 2) (hr : r < 512) :
    (pt I b i CK CV PW PS).SP k g r
      = dsum I b (2 * (7 - i) + k) g (r / 128) (r % 128) * sp I b (2 * (7 - i) + k) g (r / 128) (r % 128) := by
  unfold Pt.SP sp
  rw [p_lse hi hk hg hr, p_dsb hi hk hg hr, mul_comm]
  rfl

/-- The rotation's transpose at a token, of two heads side by side. -/
theorem p_rope (X : ℕ → ℕ → ℝ) (G : ℕ → ℕ → ℝ) {r j : ℕ} (hr : r < 128) (hj : j < 128)
    (e : ∀ j < 128, X r j = G (j / 64) (j % 64)) :
    (pt I b i CK CV PW PS).rope k X r j = ur (fun _ _ => G) b (128 * (2 * (7 - i) + k) + r) (j / 64) (j % 64) := by
  unfold Pt.rope ur
  show X r j * tC (256 * (7 - i) + (128 * k + r)) (j % 64) + X r ((j + 8) % 128) * tU (256 * (7 - i) + (128 * k + r)) ((j + 8) % 128 % 64)
    + X r ((j + 120) % 128) * tD (256 * (7 - i) + (128 * k + r)) ((j + 120) % 128 % 64) = _
  rw [e _ hj, e _ (Nat.mod_lt (j + 8) (by omega)), e _ (Nat.mod_lt (j + 120) (by omega)),
    show 256 * (7 - i) + (128 * k + r) = 128 * (2 * (7 - i) + k) + r by omega]
  generalize 128 * (2 * (7 - i) + k) + r = t
  unfold tC tU tD
  by_cases h : j % 64 < 8
  · rw [if_pos h, if_pos h, if_neg (by omega : ¬ (j + 8) % 128 % 64 < 8), if_pos (by omega : (j + 8) % 128 % 64 < 16),
      if_neg (by omega : ¬ (j + 120) % 128 % 64 < 8), show (j + 8) % 128 / 64 = j / 64 by omega,
      show (j + 8) % 128 % 64 = 8 + j % 64 by omega, show 8 + j % 64 - 8 = j % 64 by omega, ite_self]
    ring
  · by_cases h2 : j % 64 < 16
    · rw [if_neg h, if_neg h, if_pos h2, if_pos h2, if_neg (by omega : ¬ (j + 8) % 128 % 64 < 8), if_neg (by omega : ¬ (j + 8) % 128 % 64 < 16),
        if_pos (by omega : (j + 120) % 128 % 64 < 8), show (j + 120) % 128 / 64 = j / 64 by omega,
        show (j + 120) % 128 % 64 = j % 64 - 8 by omega]
      ring
    · rw [if_neg h, if_neg h, if_neg h2, if_neg h2, if_neg (by omega : ¬ (j + 120) % 128 % 64 < 8), ite_self]
      by_cases h3 : (j + 8) % 128 % 64 < 8
      · rw [if_pos h3]; ring
      · rw [if_neg h3, if_neg (by omega : ¬ (j + 8) % 128 % 64 < 16)]; ring

end

/-- What the rows of two blocks add to the weights' gradient. -/
def wda (I : In) (c b q : ℕ) : ℝ := ∑ r ∈ Finset.range 256, on I b (256 * q + r) c * I.DA b (256 * q + r) c

theorem p_dw {c : ℕ} : (pt I b i CK CV PW PS).dw c = wda I c b (7 - i) := Finset.sum_congr rfl fun r _ => mul_comm _ _

theorem dw_sum (c : ℕ) : ∑ s ∈ Finset.range 16, (bs I (s / 8) (s % 8)).dw c = dwr I c := by
  rw [Finset.sum_congr rfl fun s _ => p_dw]
  have e : dwr I c = ∑ b ∈ Finset.range 2, ∑ q ∈ Finset.range 8, wda I c b q := by
    unfold dwr
    refine Finset.sum_congr rfl fun b _ => ?_
    rw [show (2048 : ℕ) = 8 * 256 from rfl, sum_split]
    rfl
  rw [e]
  generalize wda I c = f
  simp only [Finset.sum_range_succ, Finset.sum_range_zero]
  norm_num
  ring

/-- What a block's rows add to a sink's gradient. -/
def ska (I : In) (h b n : ℕ) : ℝ := ∑ r ∈ Finset.range 128, -(dsum I b n (h / 4) (h % 4) r * sp I b n (h / 4) (h % 4) r)

theorem p_dsk {h : ℕ} (hi : i < 8) (hh : h < 8) : (pt I b i CK CV PW PS).dsk h = ska I h b (2 * (7 - i) + 1) + ska I h b (2 * (7 - i) + 0) := by
  have e : ∀ k < 2, -(∑ r ∈ Finset.range 128, (pt I b i CK CV PW PS).SP k (h / 4) (128 * (h % 4) + r)) = ska I h b (2 * (7 - i) + k) := fun k hk => by
    unfold ska
    rw [← Finset.sum_neg_distrib]
    refine Finset.sum_congr rfl fun r hr => ?_
    have hr := Finset.mem_range.mp hr
    rw [p_SP hi hk (by omega) (by omega), show (128 * (h % 4) + r) / 128 = h % 4 by omega, show (128 * (h % 4) + r) % 128 = r by omega]
  unfold Pt.dsk
  rw [sub_eq_add_neg, e 1 (by omega), e 0 (by omega)]

theorem dsk_sum {h : ℕ} (hh : h < 8) : ∑ s ∈ Finset.range 16, (bs I (s / 8) (s % 8)).dsk h = dskr I h := by
  rw [Finset.sum_congr rfl fun s hs => p_dsk (Nat.mod_lt s (by omega)) hh]
  show _ = ∑ b ∈ Finset.range 2, ∑ n ∈ Finset.range 16, ska I h b n
  generalize ska I h = f
  simp only [Finset.sum_range_succ, Finset.sum_range_zero]
  norm_num
  ring

theorem ur_at (X : ℕ → ℕ → ℕ → ℕ → ℝ) (b t h d : ℕ) : ur (fun _ _ => X b t) b t h d = ur X b t h d := rfl

theorem pj_q {t s j : ℕ} (hs : s < 4) (hj : j < 128) : pj I b t (128 * s + j) = ur (DQt I) b t (2 * s + j / 64) (j % 64) := by
  unfold pj
  rw [if_pos (by omega), show (128 * s + j) / 64 = 2 * s + j / 64 by omega, show (128 * s + j) % 64 = j % 64 by omega]
theorem pj_k {t j : ℕ} (hj : j < 128) : pj I b t (512 + j) = ur (DKt I) b t (j / 64) (j % 64) := by
  unfold pj
  rw [if_neg (by omega : ¬ 512 + j < 512), if_pos (by omega : 512 + j < 640), Nat.add_sub_cancel_left]
theorem pj_v {t j : ℕ} : pj I b t (640 + j) = DVt I b t (j / 64) (j % 64) := by
  unfold pj
  rw [if_neg (by omega : ¬ 640 + j < 512), if_neg (by omega : ¬ 640 + j < 640), Nat.add_sub_cancel_left]

section
variable (hi : i < 8) {k : ℕ} (hk : k < 2)
include hi hk

theorem t_q {s r j : ℕ} (hs : s < 4) (hr : r < 128) (hj : j < 128) :
    (pt I b i CK CV PW PS).rope k ((pt I b i CK CV PW PS).dqs k s) r j = pj I b (128 * (2 * (7 - i) + k) + r) (128 * s + j) := by
  rw [p_rope hi hk _ (fun h d => DQt I b (128 * (2 * (7 - i) + k) + r) (2 * s + h) d) hr hj]
  · rw [pj_q hs hj]
    rfl
  · intro j hj
    unfold Pt.dqs DQt
    rw [p_DQ hi hk (by omega) (by omega), show (128 * (2 * (s % 2) + j / 64) + r) % 128 = r by omega,
      show (128 * (2 * (s % 2) + j / 64) + r) / 128 = 2 * (s % 2) + j / 64 by omega,
      show (128 * (2 * (7 - i) + k) + r) / 128 = 2 * (7 - i) + k by omega, show (128 * (2 * (7 - i) + k) + r) % 128 = r by omega,
      show (2 * s + j / 64) / 4 = s / 2 by omega, show (2 * s + j / 64) % 4 = 2 * (s % 2) + j / 64 by omega]

theorem p_dkb {r j : ℕ} (hr : r < 256) (hj : j < 128) :
    (pt I b i CK CV PW PS).dkb k r j = dkr I b (2 * (7 - i) + k) r (j / 64) (j % 64) := p_DK hi hk (by omega) hr

theorem p_dvb {r j : ℕ} (hr : r < 256) (hj : j < 128) :
    (pt I b i CK CV PW PS).dvb k r j = dvr I b (2 * (7 - i) + k) r (j / 64) (j % 64) := p_DV hi hk (by omega) hr

end

/-- What the keys of a point's last block get of the point before. -/
def ck (I : In) (b i : ℕ) (r j : ℕ) : ℝ := if i = 0 then 0 else dkr I b (2 * (7 - i) + 2) r (j / 64) (j % 64)
def cv (I : In) (b i : ℕ) (r j : ℕ) : ℝ := if i = 0 then 0 else dvr I b (2 * (7 - i) + 2) r (j / 64) (j % 64)

theorem ck_succ {r j : ℕ} (hi : i + 1 < 8) (hr : r < 128) (hj : j < 128) : (pt I b i CK CV PW PS).dkb 0 r j = ck I b (i + 1) r j := by
  unfold ck
  rw [p_dkb (by omega) (by omega) (by omega) hj, if_neg (by omega)]
  congr 1; omega
theorem cv_succ {r j : ℕ} (hi : i + 1 < 8) (hr : r < 128) (hj : j < 128) : (pt I b i CK CV PW PS).dvb 0 r j = cv I b (i + 1) r j := by
  unfold cv
  rw [p_dvb (by omega) (by omega) (by omega) hj, if_neg (by omega)]
  congr 1; omega

section
variable (hi : i < 8)
include hi

theorem kt1 (F : ℕ → ℕ → ℕ → ℕ → ℕ → ℝ) {r g d : ℕ} (hr : r < 128) :
    kt F b ((128 * (2 * (7 - i) + 1) + r) / 128) ((128 * (2 * (7 - i) + 1) + r) % 128) g d
      = F b (2 * (7 - i) + 1) (128 + r) g d + if i = 0 then 0 else F b (2 * (7 - i) + 2) r g d := by
  unfold kt
  rw [show (128 * (2 * (7 - i) + 1) + r) / 128 = 2 * (7 - i) + 1 by omega, show (128 * (2 * (7 - i) + 1) + r) % 128 = r by omega]
  by_cases h : i = 0
  · rw [if_pos h, if_neg (by omega)]
  · rw [if_neg h, if_pos (by omega)]

theorem kt0 (F : ℕ → ℕ → ℕ → ℕ → ℕ → ℝ) {r g d : ℕ} (hr : r < 128) :
    kt F b ((128 * (2 * (7 - i) + 0) + r) / 128) ((128 * (2 * (7 - i) + 0) + r) % 128) g d
      = F b (2 * (7 - i) + 0) (128 + r) g d + F b (2 * (7 - i) + 1) r g d := by
  unfold kt
  rw [show (128 * (2 * (7 - i) + 0) + r) / 128 = 2 * (7 - i) + 0 by omega, show (128 * (2 * (7 - i) + 0) + r) % 128 = r by omega,
    if_pos (by omega)]

theorem t_v1 {r j : ℕ} (hr : r < 128) (hj : j < 128) :
    (pt I b i CK CV PW PS).dvb 1 (128 + r) j + cv I b i r j = pj I b (128 * (2 * (7 - i) + 1) + r) (640 + j) := by
  rw [pj_v]
  unfold cv DVt
  rw [p_dvb hi (by omega) (by omega) hj, kt1 hi _ hr]

theorem t_v0 {r j : ℕ} (hr : r < 128) (hj : j < 128) :
    (pt I b i CK CV PW PS).dvb 0 (128 + r) j + (pt I b i CK CV PW PS).dvb 1 r j = pj I b (128 * (2 * (7 - i) + 0) + r) (640 + j) := by
  rw [pj_v]
  unfold DVt
  rw [p_dvb hi (by omega) (by omega) hj, p_dvb hi (by omega) (by omega) hj, kt0 hi _ hr]

theorem t_k1 {r j : ℕ} (hr : r < 128) (hj : j < 128) :
    (pt I b i (ck I b i) CV PW PS).rope 1 (fun r j => (pt I b i (ck I b i) CV PW PS).dkb 1 (128 + r) j + ck I b i r j) r j
      = pj I b (128 * (2 * (7 - i) + 1) + r) (512 + j) := by
  rw [p_rope hi (by omega) _ (DKt I b (128 * (2 * (7 - i) + 1) + r)) hr hj]
  · rw [pj_k hj, ur_at (DKt I)]
  · intro j hj
    unfold DKt ck
    rw [p_dkb hi (by omega) (by omega) hj, kt1 hi _ hr]

theorem t_k0 {r j : ℕ} (hr : r < 128) (hj : j < 128) :
    (pt I b i CK CV PW PS).rope 0 (fun r j => (pt I b i CK CV PW PS).dkb 0 (128 + r) j + (pt I b i CK CV PW PS).dkb 1 r j) r j
      = pj I b (128 * (2 * (7 - i) + 0) + r) (512 + j) := by
  rw [p_rope hi (by omega) _ (DKt I b (128 * (2 * (7 - i) + 0) + r)) hr hj]
  · rw [pj_k hj, ur_at (DKt I)]
  · intro j hj
    unfold DKt
    rw [p_dkb hi (by omega) (by omega) hj, p_dkb hi (by omega) (by omega) hj, kt0 hi _ hr]

end

end Cert.Ref
-- ==== Proof.Arr.lean ====
/-
  The blocks of every grid point hold the real numbers of the point, given what the point before left.
-/
module

public import proofs.«01_k».proof.Proof.HostA
public import proofs.«01_k».proof.Proof.Win
public import proofs.«01_k».proof.Proof.Blk
public import proofs.«01_k».proof.Proof.Pts

@[expose] public section

set_option maxRecDepth 16384

noncomputable section

namespace Cert.Body

open Idealize.ShloMosaic Idealize.ShloMosaic.TcCoe Idealize.SL.Sem
open Cert.KernelIdeal Cert.KernelIdeal.Gen Cert.Re Cert.Spec
open Cert.Ref (In ArgR pt raw qc rp vh LS tC tU tD mF m0)

variable (m : (ℓ : Loc nD τ sig) → Buf (Elt Ideal) ℓ) (c : Dev nD)

/-- The numbers core `c` is launched on. -/
abbrev Args (I : In) : Prop :=
  ArgR (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5)) I

variable {m c} {I : In} (H : Args m c I)
include H

theorem r_arg3 : R2 (a := 1) (b := 8) (a_arg3 m c) fun _ j => I.SK j := fun i j =>
  (congrFun (Cert.Host.w_arg3 m c) _).trans (H.sk (ValueIdx.ix2 i j))
theorem r_arg4 : R2 (a := 1) (b := 512) (a_arg4 m c) fun _ j => I.W j := fun i j =>
  (congrFun (Cert.Host.w_arg4 m c) _).trans (H.w (ValueIdx.ix2 i j))
theorem r_arg5 : R3 (a := 2) (b := 2048) (c := 1024) (a_arg5 m c) fun b t k => I.DA b t k := fun i j k =>
  (congrFun (Cert.Host.w_arg5 m c) _).trans (H.da (ValueIdx.ix3 i j k))
theorem r_v171 : R3 (a := 2) (b := 2048) (c := 512) (a_v171 m c) fun b t k => raw I b t k := fun i j k =>
  (congrFun (Cert.Host.w_v171 m c) _).trans (Cert.Ref.r171 H (ValueIdx.ix3 i j k))
theorem r_v177 : R5 (a := 2) (b := 16) (c := 2) (d := 512) (e := 64) (a_v177 m c)
    fun b n g r d => qc I b n (r % 128) g (r / 128) d := fun i j k l p =>
  (congrFun (Cert.Host.w_v177 m c) _).trans (Cert.Ref.kq H (ValueIdx.ix5 i j k l p))
theorem r_v179 : R4 (a := 2) (b := 2) (c := 2048) (d := 64) (a_v179 m c) fun b g t d => rp I.K b t g d := fun i j k l =>
  (congrFun (Cert.Host.w_v179 m c) _).trans (Cert.Ref.kk H (ValueIdx.ix4 i j k l))
theorem r_v181 : R4 (a := 2) (b := 2) (c := 2048) (d := 64) (a_v181 m c) fun b g t d => vh I b t g d := fun i j k l =>
  (congrFun (Cert.Host.w_v181 m c) _).trans (Cert.Ref.kv H (ValueIdx.ix4 i j k l))
theorem r_v185 : R3 (a := 2) (b := 2048) (c := 128) (a_v185 m c) fun b t h => LS I b t h := fun i j k =>
  (congrFun (Cert.Host.w_v185 m c) _).trans (Cert.Ref.kl H (ValueIdx.ix3 i j k))
omit H in
theorem r_v210 : R2 (a := 2048) (b := 128) (a_v210 m c) fun t j => tC t (j % 64) := fun i j =>
  (congrFun (Cert.Host.w_v210 m c) _).trans (Cert.Ref.kC (ValueIdx.ix2 i j))
omit H in
theorem r_v214 : R2 (a := 2048) (b := 128) (a_v214 m c) fun t j => tU t (j % 64) := fun i j =>
  (congrFun (Cert.Host.w_v214 m c) _).trans (Cert.Ref.kU (ValueIdx.ix2 i j))
omit H in
theorem r_v219 : R2 (a := 2048) (b := 128) (a_v219 m c) fun t j => tD t (j % 64) := fun i j =>
  (congrFun (Cert.Host.w_v219 m c) _).trans (Cert.Ref.kD (ValueIdx.ix2 i j))
omit H in
theorem r_v246 : B2 (a := 256) (b := 512) (a_v246 m c) mF := fun i j =>
  (congrFun (Cert.Host.w_v246 m c) _).trans (Cert.Ref.kmF i j)
omit H in
theorem r_v247 : B2 (a := 256) (b := 512) (a_v247 m c) m0 := fun i j =>
  (congrFun (Cert.Host.w_v247 m c) _).trans (Cert.Ref.km0 i j)

omit H in
theorem coord1 : ∀ t : Fin grid0.N, (grid0.coords t 1 : ℕ) = t.val % 8 := by decide +kernel

set_option maxHeartbeats 4000000 in
theorem reads (t : Fin cfg0.N) {ck cv : Vec Ideal S128x128 .f32} {pw : Vec Ideal S1x512 .f32} {ps : Vec Ideal S1x8 .f32}
    {CK CV : ℕ → ℕ → ℝ} {PW PS : ℕ → ℝ}
    (hck : R2 (a := 128) (b := 128) ck CK) (hcv : R2 (a := 128) (b := 128) cv CV)
    (hpw : R2 (a := 1) (b := 512) pw fun _ j => PW j) (hps : R2 (a := 1) (b := 8) ps fun _ j => PS j) :
    Reads (blkOf m c t ck cv pw ps) (pt I (t.val / 8) (t.val % 8) CK CV PW PS) where
  h0 := x0 m c t (r_arg3 H)
  h1 := x1 m c t (r_arg5 H)
  h2 := x2 m c t (r_v171 H)
  h3 := x3 m c t (r_arg4 H)
  h4 := x4 m c t (r_v177 H)
  h5 := x5 m c t (r_v179 H)
  h6 := x6 m c t (r_v179 H)
  h7 := x7 m c t (r_v181 H)
  h8 := x8 m c t (r_v181 H)
  h9 := x9 m c t (r_v185 H)
  h10 := x10 m c t r_v210
  h11 := x11 m c t r_v214
  h12 := x12 m c t r_v219
  h13 := x13 m c t r_v246
  h14 := x14 m c t r_v247
  hn := Nat.mod_lt _ (by omega)
  hi := congrArg (BitVec.ofNat 32) (coord1 t)
  hck := hck
  hcv := hcv
  hpw := hpw
  hps := hps

end Cert.Body
-- ==== Proof.Fact2.lean ====
/-
  The products, sums and turned slabs of a grid point read as real numbers.
-/
module

public import proofs.«01_k».proof.Proof.Fact

@[expose] public section

set_option maxRecDepth 16384

noncomputable section

namespace Cert.Body

open Idealize.ShloMosaic Idealize.ShloMosaic.TcCoe Idealize.SL.Sem Idealize.ShloMosaic.ValueIdx
open Cert.KernelIdeal Cert.KernelIdeal.Gen Cert.Re Cert.Spec

theorem ropeF {x c u d : FVec Ideal ⟨2, ![128, 128]⟩ .f32} {X C U D : ℕ → ℕ → ℝ} (hx : R2 x X) (hc : R2 c C) (hu : R2 u U)
    (hd : R2 d D) (h1 h2 : (⟨2, ![128, 128]⟩ : Shape).Rotates 1 none) :
    R2 (addf (addf (mulf x c) (dynamicRotate 1 120#32 none (mulf x u) h1)) (dynamicRotate 1 8#32 none (mulf x d) h2))
      fun i j => X i j * C i j + X i ((j + 8) % 128) * U i ((j + 8) % 128) + X i ((j + 120) % 128) * D i ((j + 120) % 128) :=
  R2.congr (((hx.mulf hc).addf ((hx.mulf hu).rot _ _)).addf ((hx.mulf hd).rot _ _)) fun i _ j _ => by
    have e1 : (j + 128 - (120#32).toNat % 128) % 128 = (j + 8) % 128 := by
      rw [show (120#32).toNat = 120 from rfl]; omega
    have e2 : (j + 128 - (8#32).toNat % 128) % 128 = (j + 120) % 128 := by
      rw [show (8#32).toNat = 8 from rfl]; omega
    simp only [e1, e2]

theorem hm (k : ℕ) (hk : k < 8) : M2 (a := 1) (b := 8)
    (cmpi .eq (iota .tc S1x8 32 [1] iota_S1x8_d1_w32) (broadcast S1x8 (BitVec.ofNat 32 k))) fun _ j => j = k := by
  unfold M2
  interval_cases k <;> decide

variable {b : Blk} {p : Pt} (H : Reads b p)
include H

theorem f16 : B2 (a := 256) (b := 512) (e16 b) p.MF := fun i j => by
  unfold e16 k0_pay16
  rw [shapeCast_self]
  exact H.h13 i j
theorem f84 : B2 (a := 256) (b := 512) (e84 b) fun j r => if p.n < 7 then p.MF j r else p.M0 j r := fun i j => by
  unfold e84 k0_pay84
  have hn := H.hn
  rw [shapeCast_self, shapeCast_self, H.hi]
  by_cases h : p.n < 7
  · rw [show Scalar.cmpi .slt (BitVec.ofNat 32 p.n) 7#32 = 1#1 by generalize p.n = n at *; interval_cases n <;> decide]
    simp only [h, if_true]
    exact H.h13 i j
  · rw [show p.n = 7 by omega]
    exact H.h14 i j
theorem f102 : R2 (e102 b) fun j r => ∑ d ∈ Finset.range 64, p.key 0 0 j d * p.QH 0 0 r d := by
  unfold e102 k0_pay102
  exact R2.matNT (f93 H) (f91 H) none
theorem f103 : R2 (e103 b) fun j r => ∑ d ∈ Finset.range 64, p.key 0 1 j d * p.QH 0 1 r d := by
  unfold e103 k0_pay103
  exact R2.matNT (f94 H) (f92 H) none
theorem g40 : R2 (k0_pay40 (e16 b) (e21 b) (e23 b) (e26 b)) (p.P 1 0) := by
  unfold k0_pay40
  exact R2.congr (pexp (R2.matNT (f26 H) (f23 H) none) (f16 H) (f38 H) c8 _) (by intros; simp [Pt.P, Pt.msk])
theorem g41 : R2 (k0_pay41 (e16 b) (e21 b) (e24 b) (e27 b)) (p.P 1 1) := by
  unfold k0_pay41
  exact R2.congr (pexp (R2.matNT (f27 H) (f24 H) none) (f16 H) (f39 H) c8 _) (by intros; simp [Pt.P, Pt.msk])
theorem g105 : R2 (k0_pay105 (e84 b) (e100 b) (e102 b)) (p.P 0 0) := by
  unfold k0_pay105
  exact R2.congr (pexp (f102 H) (f84 H) (f100 H) c8 _) (by intros; simp [Pt.P, Pt.msk])
theorem g106 : R2 (k0_pay106 (e84 b) (e101 b) (e103 b)) (p.P 0 1) := by
  unfold k0_pay106
  exact R2.congr (pexp (f103 H) (f84 H) (f101 H) c8 _) (by intros; simp [Pt.P, Pt.msk])
theorem f104 : R2 (e104 b) fun j r => ∑ d ∈ Finset.range 64, p.val 0 0 j d * p.dob 0 0 r d := by
  unfold e104 k0_pay104
  refine R2.matNT (R2.congr (R2.cat0_2 (fun k j d => if k = 0 then p.VP 0 j d else p.VC 0 j d) ?_ ?_ (by rfl) _) ?_)
    (R2.trunc (f96 H) _) none
  · exact R2.congr ((H.h8.ld _).drop _) (by intros; simp)
  · exact R2.congr ((H.h7.ld _).drop _) (by intros; simp)
  · intro j hj d hd; simp [Pt.val, Nat.div_add_mod]
theorem g42 : R2 (k0_pay42 (e16 b) (e21 b) (e23 b) (e26 b) (e28 b) (e30 b) (e32 b)) (p.DS 1 0) := by
  unfold k0_pay42
  exact R2.congr ((R2.mulf (g40 H) (R2.subf (R2.matNT (f28 H) (R2.trunc (f30 H) _) none) (R2.brow (f32 H) _))).mulf (R2.bcast c8)) (by intros; simp only [Pt.DS])
theorem g43 : R2 (k0_pay43 (e16 b) (e21 b) (e24 b) (e27 b) (e29 b) (e31 b) (e33 b) (e34 b) (e35 b) (e36 b)) (p.DS 1 1) := by
  unfold k0_pay43
  exact R2.congr ((R2.mulf (g41 H) (R2.subf (R2.matNT (f29 H) (R2.trunc (f31 H) _) none) (R2.brow (f37 H) _))).mulf (R2.bcast c8)) (by intros; simp only [Pt.DS])
theorem g107 : R2 (k0_pay107 (e84 b) (e98 b) (e100 b) (e102 b) (e104 b)) (p.DS 0 0) := by
  unfold k0_pay107
  exact R2.congr ((R2.mulf (g105 H) (R2.subf (f104 H) (R2.brow (f98 H) _))).mulf (R2.bcast c8)) (by intros; simp only [Pt.DS])
theorem g108 : R2 (k0_pay108 (e84 b) (e95 b) (e97 b) (e99 b) (e101 b) (e103 b)) (p.DS 0 1) := by
  unfold k0_pay108
  exact R2.congr ((R2.mulf (g106 H) (R2.subf (R2.matNT (f95 H) (R2.trunc (f97 H) _) none) (R2.brow (f99 H) _))).mulf (R2.bcast c8)) (by intros; simp only [Pt.DS])
theorem f44 : R2 (e44 b) (p.DQ 1 0) := by
  unfold e44 k0_pay44
  exact R2.matTN (R2.trunc (g42 H) _) (f26 H) none
theorem f45 : R2 (e45 b) (p.DQ 1 1) := by
  unfold e45 k0_pay45
  exact R2.matTN (R2.trunc (g43 H) _) (f27 H) none
theorem f109 : R2 (e109 b) (p.DQ 0 0) := by
  unfold e109 k0_pay109
  exact R2.matTN (R2.trunc (g107 H) _) (f93 H) none
theorem f110 : R2 (e110 b) (p.DQ 0 1) := by
  unfold e110 k0_pay110
  exact R2.matTN (R2.trunc (g108 H) _) (f94 H) none
theorem f46 : R2 (e46 b) (p.DK 1 0) := by
  unfold e46 k0_pay46
  exact R2.matNN (R2.trunc (g42 H) _) (f23 H) none
theorem f47 : R2 (e47 b) (p.DK 1 1) := by
  unfold e47 k0_pay47
  exact R2.matNN (R2.trunc (g43 H) _) (f24 H) none
theorem f111 : R2 (e111 b) (p.DK 0 0) := by
  unfold e111 k0_pay111
  exact R2.matNN (R2.trunc (g107 H) _) (f91 H) none
theorem f112 : R2 (e112 b) (p.DK 0 1) := by
  unfold e112 k0_pay112
  exact R2.matNN (R2.trunc (g108 H) _) (f92 H) none
theorem f48 : R2 (e48 b) (p.P 1 0) := by
  unfold e48 k0_pay48
  exact R2.trunc (g40 H) _
theorem f41 : R2 (e41 b) (p.P 1 1) := g41 H
theorem f49 : R2 (e49 b) (p.DV 1 0) := by
  unfold e49 k0_pay49
  exact R2.matNN (f48 H) (R2.trunc (f30 H) _) none
theorem f50 : R2 (e50 b) (p.DV 1 1) := by
  unfold e50 k0_pay50
  exact R2.matNN (R2.trunc (f41 H) _) (R2.trunc (f31 H) _) none
theorem f113 : R2 (e113 b) (p.DV 0 0) := by
  unfold e113 k0_pay113
  exact R2.matNN (R2.trunc (g105 H) _) (R2.trunc (f96 H) _) none
theorem f114 : R2 (e114 b) (p.DV 0 1) := by
  unfold e114 k0_pay114
  exact R2.matNN (R2.trunc (g106 H) _) (R2.trunc (f97 H) _) none
theorem f60 : R2 (e60 b) fun i d => p.DQ 1 0 (256 + i) d := by
  unfold e60 k0_pay60
  exact R2.congr (R2.slice (f44 H) _) (by intros; simp)
theorem f61 : R2 (e61 b) fun i d => p.DQ 1 0 (384 + i) d := by
  unfold e61 k0_pay61
  exact R2.congr (R2.slice (f44 H) _) (by intros; simp)
theorem f62 : R2 (e62 b) fun i d => p.DQ 1 1 (0 + i) d := by
  unfold e62 k0_pay62
  exact R2.congr (R2.slice (f45 H) _) (by intros; simp)
theorem f63 : R2 (e63 b) fun i d => p.DQ 1 1 (128 + i) d := by
  unfold e63 k0_pay63
  exact R2.congr (R2.slice (f45 H) _) (by intros; simp)
theorem f64 : R2 (e64 b) fun i d => p.DQ 1 1 (256 + i) d := by
  unfold e64 k0_pay64
  exact R2.congr (R2.slice (f45 H) _) (by intros; simp)
theorem f65 : R2 (e65 b) fun i d => p.DQ 1 1 (384 + i) d := by
  unfold e65 k0_pay65
  exact R2.congr (R2.slice (f45 H) _) (by intros; simp)
theorem f66 : R2 (e66 b) fun i d => p.DK 1 0 (0 + i) d := by
  unfold e66 k0_pay66
  exact R2.congr (R2.slice (f46 H) _) (by intros; simp)
theorem f67 : R2 (e67 b) fun i d => p.DK 1 1 (0 + i) d := by
  unfold e67 k0_pay67
  exact R2.congr (R2.slice (f47 H) _) (by intros; simp)
theorem f68 : R2 (e68 b) fun i d => p.DK 1 0 (128 + i) d := by
  unfold e68 k0_pay68
  exact R2.congr (R2.slice (f46 H) _) (by intros; simp)
theorem f69 : R2 (e69 b) fun i d => p.DK 1 1 (128 + i) d := by
  unfold e69 k0_pay69
  exact R2.congr (R2.slice (f47 H) _) (by intros; simp)
theorem f70 : R2 (e70 b) fun i d => p.DV 1 0 (0 + i) d := by
  unfold e70 k0_pay70
  exact R2.congr (R2.slice (f49 H) _) (by intros; simp)
theorem f71 : R2 (e71 b) fun i d => p.DV 1 1 (0 + i) d := by
  unfold e71 k0_pay71
  exact R2.congr (R2.slice (f50 H) _) (by intros; simp)
theorem f72 : R2 (e72 b) fun i d => p.DV 1 0 (128 + i) d := by
  unfold e72 k0_pay72
  exact R2.congr (R2.slice (f49 H) _) (by intros; simp)
theorem f73 : R2 (e73 b) fun i d => p.DV 1 1 (128 + i) d := by
  unfold e73 k0_pay73
  exact R2.congr (R2.slice (f50 H) _) (by intros; simp)
theorem f123 : R2 (e123 b) fun i d => p.DQ 0 1 (0 + i) d := by
  unfold e123 k0_pay123
  exact R2.congr (R2.slice (f110 H) _) (by intros; simp)
theorem f124 : R2 (e124 b) fun i d => p.DQ 0 1 (128 + i) d := by
  unfold e124 k0_pay124
  exact R2.congr (R2.slice (f110 H) _) (by intros; simp)
theorem f125 : R2 (e125 b) fun i d => p.DQ 0 1 (256 + i) d := by
  unfold e125 k0_pay125
  exact R2.congr (R2.slice (f110 H) _) (by intros; simp)
theorem f126 : R2 (e126 b) fun i d => p.DQ 0 1 (384 + i) d := by
  unfold e126 k0_pay126
  exact R2.congr (R2.slice (f110 H) _) (by intros; simp)
theorem f127 : R2 (e127 b) fun i d => p.DK 0 0 (0 + i) d := by
  unfold e127 k0_pay127
  exact R2.congr (R2.slice (f111 H) _) (by intros; simp)
theorem f128 : R2 (e128 b) fun i d => p.DK 0 1 (0 + i) d := by
  unfold e128 k0_pay128
  exact R2.congr (R2.slice (f112 H) _) (by intros; simp)
theorem f129 : R2 (e129 b) fun i d => p.DK 0 0 (128 + i) d := by
  unfold e129 k0_pay129
  exact R2.congr (R2.slice (f111 H) _) (by intros; simp)
theorem f130 : R2 (e130 b) fun i d => p.DK 0 1 (128 + i) d := by
  unfold e130 k0_pay130
  exact R2.congr (R2.slice (f112 H) _) (by intros; simp)
theorem f131 : R2 (e131 b) fun i d => p.DV 0 0 (0 + i) d := by
  unfold e131 k0_pay131
  exact R2.congr (R2.slice (f113 H) _) (by intros; simp)
theorem f132 : R2 (e132 b) fun i d => p.DV 0 1 (0 + i) d := by
  unfold e132 k0_pay132
  exact R2.congr (R2.slice (f114 H) _) (by intros; simp)
theorem f133 : R2 (e133 b) fun i d => p.DV 0 0 (128 + i) d := by
  unfold e133 k0_pay133
  exact R2.congr (R2.slice (f113 H) _) (by intros; simp)
theorem f134 : R2 (e134 b) fun i d => p.DV 0 1 (128 + i) d := by
  unfold e134 k0_pay134
  exact R2.congr (R2.slice (f114 H) _) (by intros; simp)
theorem f79 : R2 (e79 b) fun i j => p.dkb 1 (128 + i) j := by
  unfold e79 k0_pay79
  exact (R2.cat1_2 (fun k i d => p.DK 1 k (128 + i) d) (f68 H) (f69 H) (by rfl) _)
theorem f82 : R2 (e82 b) fun i j => p.dkb 1 (0 + i) j := by
  unfold e82 k0_pay82
  exact (R2.cat1_2 (fun k i d => p.DK 1 k (0 + i) d) (f66 H) (f67 H) (by rfl) _)
theorem f83 : R2 (e83 b) fun i j => p.dvb 1 (0 + i) j := by
  unfold e83 k0_pay83
  exact (R2.cat1_2 (fun k i d => p.DV 1 k (0 + i) d) (f70 H) (f71 H) (by rfl) _)
theorem f2 : R2 (e2 b) fun i j => p.dkb 0 i j := by
  unfold e2 k0_pay2
  exact R2.congr (R2.cast (R2.cat1_2 (fun k i d => p.DK 0 k (0 + i) d) (f127 H) (f128 H) (by rfl) _) _) (by intros; simp [Pt.dkb])
theorem f3 : R2 (e3 b) fun i j => p.dvb 0 i j := by
  unfold e3 k0_pay3
  exact R2.congr (R2.cast (R2.cat1_2 (fun k i d => p.DV 0 k (0 + i) d) (f131 H) (f132 H) (by rfl) _) _) (by intros; simp [Pt.dvb])
theorem f1 : R3 (e1 b) fun _ i j => p.dvb 0 (128 + i) j + p.dvb 1 i j := by
  unfold e1 k0_pay1
  exact R2.lift (R2.congr (R2.trunc (R2.addf (R2.cat1_2 (fun k i d => p.DV 0 k (128 + i) d) (f133 H) (f134 H) (by rfl) _) (f83 H)) _) (by intros; simp [Pt.dvb])) _
theorem f81 : R3 (e81 b) fun _ i j => p.dvb 1 (128 + i) j + p.CV i j := by
  unfold e81 k0_pay81
  exact R2.lift (R2.trunc (R2.addf (R2.cat1_2 (fun k i d => p.DV 1 k (128 + i) d) (f72 H) (f73 H) (by rfl) _) H.hcv) _) _
theorem f80 : R3 (e80 b) fun _ i j => p.rope 1 (fun i j => p.dkb 1 (128 + i) j + p.CK i j) i j := by
  unfold e80 k0_pay80
  exact R2.lift (R2.trunc (ropeF (R2.addf (f79 H) H.hck) (f18 H) (f19 H) (f20 H) _ _) _) _
theorem f140 : R3 (e140 b) fun _ i j => p.rope 0 (fun i j => p.dkb 0 (128 + i) j + p.dkb 1 i j) i j := by
  unfold e140 k0_pay140
  exact R2.lift (R2.trunc (ropeF (R2.congr (R2.addf (R2.cat1_2 (fun k i d => p.DK 0 k (128 + i) d) (f129 H) (f130 H) (by rfl) _) (f82 H)) (by intros; simp [Pt.dkb])) (f86 H) (f87 H) (f88 H) _ _) _) _
theorem f74 : R2 (e74 b) fun i j => p.rope 1 (p.dqs 1 0) i j := by
  unfold e74 k0_pay74
  refine R2.trunc (ropeF (R2.congr (Y := p.dqs 1 0) (R2.cat1_2 (fun k i d => p.DQ 1 0 (0 + 128 * k + i) d) ?_ ?_ (by rfl) _) ?_) (f18 H) (f19 H) (f20 H) _ _) _
  · exact R2.congr (R2.slice (f44 H) _) (by intros; simp)
  · exact R2.congr (R2.slice (f44 H) _) (by intros; simp)
  · intro i hi j hj; simp only [Pt.dqs]; congr 1; omega
theorem f76 : R3 (e76 b) fun _ i j => p.rope 1 (p.dqs 1 1) i j := by
  unfold e76 k0_pay76
  refine R2.lift (R2.trunc (ropeF (R2.congr (Y := p.dqs 1 1) (R2.cat1_2 (fun k i d => p.DQ 1 0 (256 + 128 * k + i) d) ?_ ?_ (by rfl) _) ?_) (f18 H) (f19 H) (f20 H) _ _) _) _
  · exact R2.congr (f60 H) (by intros; simp)
  · exact R2.congr (f61 H) (by intros; simp)
  · intro i hi j hj; simp only [Pt.dqs]; congr 1; omega
theorem f77 : R3 (e77 b) fun _ i j => p.rope 1 (p.dqs 1 2) i j := by
  unfold e77 k0_pay77
  refine R2.lift (R2.trunc (ropeF (R2.congr (Y := p.dqs 1 2) (R2.cat1_2 (fun k i d => p.DQ 1 1 (0 + 128 * k + i) d) ?_ ?_ (by rfl) _) ?_) (f18 H) (f19 H) (f20 H) _ _) _) _
  · exact R2.congr (f62 H) (by intros; simp)
  · exact R2.congr (f63 H) (by intros; simp)
  · intro i hi j hj; simp only [Pt.dqs]; congr 1; omega
theorem f78 : R3 (e78 b) fun _ i j => p.rope 1 (p.dqs 1 3) i j := by
  unfold e78 k0_pay78
  refine R2.lift (R2.trunc (ropeF (R2.congr (Y := p.dqs 1 3) (R2.cat1_2 (fun k i d => p.DQ 1 1 (256 + 128 * k + i) d) ?_ ?_ (by rfl) _) ?_) (f18 H) (f19 H) (f20 H) _ _) _) _
  · exact R2.congr (f64 H) (by intros; simp)
  · exact R2.congr (f65 H) (by intros; simp)
  · intro i hi j hj; simp only [Pt.dqs]; congr 1; omega
theorem f135 : R3 (e135 b) fun _ i j => p.rope 0 (p.dqs 0 0) i j := by
  unfold e135 k0_pay135
  refine R2.lift (R2.trunc (ropeF (R2.congr (Y := p.dqs 0 0) (R2.cat1_2 (fun k i d => p.DQ 0 0 (0 + 128 * k + i) d) ?_ ?_ (by rfl) _) ?_) (f86 H) (f87 H) (f88 H) _ _) _) _
  · exact R2.congr (R2.slice (f109 H) _) (by intros; simp)
  · exact R2.congr (R2.slice (f109 H) _) (by intros; simp)
  · intro i hi j hj; simp only [Pt.dqs]; congr 1; omega
theorem f136 : R2 (e136 b) fun i j => p.rope 0 (p.dqs 0 1) i j := by
  unfold e136 k0_pay136
  refine R2.trunc (ropeF (R2.congr (Y := p.dqs 0 1) (R2.cat1_2 (fun k i d => p.DQ 0 0 (256 + 128 * k + i) d) ?_ ?_ (by rfl) _) ?_) (f86 H) (f87 H) (f88 H) _ _) _
  · exact R2.congr (R2.slice (f109 H) _) (by intros; simp)
  · exact R2.congr (R2.slice (f109 H) _) (by intros; simp)
  · intro i hi j hj; simp only [Pt.dqs]; congr 1; omega
theorem f138 : R3 (e138 b) fun _ i j => p.rope 0 (p.dqs 0 2) i j := by
  unfold e138 k0_pay138
  refine R2.lift (R2.trunc (ropeF (R2.congr (Y := p.dqs 0 2) (R2.cat1_2 (fun k i d => p.DQ 0 1 (0 + 128 * k + i) d) ?_ ?_ (by rfl) _) ?_) (f86 H) (f87 H) (f88 H) _ _) _) _
  · exact R2.congr (f123 H) (by intros; simp)
  · exact R2.congr (f124 H) (by intros; simp)
  · intro i hi j hj; simp only [Pt.dqs]; congr 1; omega
theorem f139 : R3 (e139 b) fun _ i j => p.rope 0 (p.dqs 0 3) i j := by
  unfold e139 k0_pay139
  refine R2.lift (R2.trunc (ropeF (R2.congr (Y := p.dqs 0 3) (R2.cat1_2 (fun k i d => p.DQ 0 1 (256 + 128 * k + i) d) ?_ ?_ (by rfl) _) ?_) (f86 H) (f87 H) (f88 H) _ _) _) _
  · exact R2.congr (f125 H) (by intros; simp)
  · exact R2.congr (f126 H) (by intros; simp)
  · intro i hi j hj; simp only [Pt.dqs]; congr 1; omega
theorem f75 : R3 (e75 b) fun _ i j => p.rope 1 (p.dqs 1 0) i j := by
  unfold e75 k0_pay75
  exact R2.lift (f74 H) _
theorem f137 : R3 (e137 b) fun _ i j => p.rope 0 (p.dqs 0 1) i j := by
  unfold e137 k0_pay137
  exact R2.lift (f136 H) _

end Cert.Body
-- ==== Proof.Fact3.lean ====
/-
  The gradient of the sinks at a grid point read as real numbers.
-/
module

public import proofs.«01_k».proof.Proof.Fact2

@[expose] public section

set_option maxRecDepth 16384

noncomputable section

namespace Cert.Body

open Idealize.ShloMosaic Idealize.ShloMosaic.TcCoe Idealize.SL.Sem Idealize.ShloMosaic.ValueIdx
open Cert.KernelIdeal Cert.KernelIdeal.Gen Cert.Re Cert.Spec

variable {b : Blk} {p : Pt} (H : Reads b p)
include H

omit H in
theorem first11 (h : 0 < S1x1.numel) : (Shape.Idx.first h : S1x1.Idx) = ix2 (0 : Fin 1) (0 : Fin 1) := by
  funext a
  match a with
  | 0 => exact Subsingleton.elim (α := Fin 1) _ _
  | 1 => exact Subsingleton.elim (α := Fin 1) _ _
theorem sk0 : View.ld b.x0 (Rect.unit ![0, 0] ![1, 1] inb_S1x8_S1x1_0_0) (Shape.Idx.first (by decide)) = ((p.SK 0 : ℝ) : EReal) := by
  rw [first11]; exact H.h0.ld inb_S1x8_S1x1_0_0 0 0
theorem sk1 : View.ld b.x0 (Rect.unit ![0, 1] ![1, 1] inb_S1x8_S1x1_0_1) (Shape.Idx.first (by decide)) = ((p.SK 1 : ℝ) : EReal) := by
  rw [first11]; exact H.h0.ld inb_S1x8_S1x1_0_1 0 0
theorem sk2 : View.ld b.x0 (Rect.unit ![0, 2] ![1, 1] inb_S1x8_S1x1_0_2) (Shape.Idx.first (by decide)) = ((p.SK 2 : ℝ) : EReal) := by
  rw [first11]; exact H.h0.ld inb_S1x8_S1x1_0_2 0 0
theorem sk3 : View.ld b.x0 (Rect.unit ![0, 3] ![1, 1] inb_S1x8_S1x1_0_3) (Shape.Idx.first (by decide)) = ((p.SK 3 : ℝ) : EReal) := by
  rw [first11]; exact H.h0.ld inb_S1x8_S1x1_0_3 0 0
theorem sk4 : View.ld b.x0 (Rect.unit ![0, 4] ![1, 1] inb_S1x8_S1x1_0_4) (Shape.Idx.first (by decide)) = ((p.SK 4 : ℝ) : EReal) := by
  rw [first11]; exact H.h0.ld inb_S1x8_S1x1_0_4 0 0
theorem sk5 : View.ld b.x0 (Rect.unit ![0, 5] ![1, 1] inb_S1x8_S1x1_0_5) (Shape.Idx.first (by decide)) = ((p.SK 5 : ℝ) : EReal) := by
  rw [first11]; exact H.h0.ld inb_S1x8_S1x1_0_5 0 0
theorem sk6 : View.ld b.x0 (Rect.unit ![0, 6] ![1, 1] inb_S1x8_S1x1_0_6) (Shape.Idx.first (by decide)) = ((p.SK 6 : ℝ) : EReal) := by
  rw [first11]; exact H.h0.ld inb_S1x8_S1x1_0_6 0 0
theorem sk7 : View.ld b.x0 (Rect.unit ![0, 7] ![1, 1] inb_S1x8_S1x1_0_7) (Shape.Idx.first (by decide)) = ((p.SK 7 : ℝ) : EReal) := by
  rw [first11]; exact H.h0.ld inb_S1x8_S1x1_0_7 0 0
theorem f115 : R2 (e115 b) fun _ _ => p.SK 0 := by
  unfold e115 k0_pay115
  exact R2.bcast (sk0 H)
theorem f116 : R2 (e116 b) fun _ _ => p.SK 1 := by
  unfold e116 k0_pay116
  exact R2.bcast (sk1 H)
theorem f51 : R2 (e51 b) fun _ r => p.SP 1 0 r := by
  unfold e51 k0_pay51
  exact R2.congr (R2.mulf (R2.exp (R2.subf (R2.cat1_4 (fun k _ _ => p.SK (0 + k)) (R2.bcast (sk0 H)) (R2.bcast (sk1 H)) (R2.bcast (sk2 H)) (R2.bcast (sk3 H)) (by rfl) _) (f38 H))) (f32 H)) (by intros; simp [Pt.SP])
theorem f55 : R2 (e55 b) fun _ r => p.SP 1 1 r := by
  unfold e55 k0_pay55
  exact R2.congr (R2.mulf (R2.exp (R2.subf (R2.cat1_4 (fun k _ _ => p.SK (4 + k)) (R2.bcast (sk4 H)) (R2.bcast (sk5 H)) (R2.bcast (sk6 H)) (R2.bcast (sk7 H)) (by rfl) _) (f39 H))) (f37 H)) (by intros; simp [Pt.SP])
theorem g117 : R2 (k0_pay117 (e98 b) (e100 b) (e115 b) (e116 b) (View.ld b.x0 (Rect.unit ![0, 2] ![1, 1] inb_S1x8_S1x1_0_2) (Shape.Idx.first (by decide))) (View.ld b.x0 (Rect.unit ![0, 3] ![1, 1] inb_S1x8_S1x1_0_3) (Shape.Idx.first (by decide)))) fun _ r => p.SP 0 0 r := by
  unfold k0_pay117
  exact R2.congr (R2.mulf (R2.exp (R2.subf (R2.cat1_4 (fun k _ _ => p.SK (0 + k)) (f115 H) (f116 H) (R2.bcast (sk2 H)) (R2.bcast (sk3 H)) (by rfl) _) (f100 H))) (f98 H)) (by intros; simp [Pt.SP])
theorem f120 : R2 (e120 b) fun _ r => p.SP 0 1 r := by
  unfold e120 k0_pay120
  exact R2.congr (R2.mulf (R2.exp (R2.subf (R2.cat1_4 (fun k _ _ => p.SK (4 + k)) (R2.bcast (sk4 H)) (R2.bcast (sk5 H)) (R2.bcast (sk6 H)) (R2.bcast (sk7 H)) (by rfl) _) (f101 H))) (f99 H)) (by intros; simp [Pt.SP])
omit H in
theorem f14 : R2 (k0_pay14 (F := Ideal)) fun _ _ => 0 := R2.bcast c0
theorem f52 : R2 (e52 b) fun _ j => (((0 : ℝ) - (if j = 0 then (∑ r ∈ Finset.range 128, p.SP 1 0 (0 + r)) else 0)) - (if j = 1 then (∑ r ∈ Finset.range 128, p.SP 1 0 (128 + r)) else 0)) := by
  unfold e52 k0_pay52
  exact (R2.subf (R2.subf f14 (R2.select (hm 0 (by decide)) (R2.bcol (R2.cast (R1.col (R2.red1 (R2.slice (f51 H) _) _ _ _) _) _) _) (R2.bcast c0))) (R2.select (hm 1 (by decide)) (R2.bcol (R2.cast (R1.col (R2.red1 (R2.slice (f51 H) _) _ _ _) _) _) _) (R2.bcast c0)))
theorem f53 : R2 (e53 b) fun _ _ => (∑ r ∈ Finset.range 128, p.SP 1 0 (256 + r)) := by
  unfold e53 k0_pay53
  exact (R1.col (R2.red1 (R2.slice (f51 H) _) _ _ _) _)
omit H in
theorem f54 : M2 (a := 1) (b := 8) (e54 b) fun _ j => j = 2 := hm 2 (by decide)
omit H in
theorem f58 : M2 (a := 1) (b := 8) (e58 b) fun _ j => j = 5 := hm 5 (by decide)
theorem f56 : R2 (e56 b) fun _ j => ((((((0 : ℝ) - (if j = 0 then (∑ r ∈ Finset.range 128, p.SP 1 0 (0 + r)) else 0)) - (if j = 1 then (∑ r ∈ Finset.range 128, p.SP 1 0 (128 + r)) else 0)) - (if j = 2 then (∑ r ∈ Finset.range 128, p.SP 1 0 (256 + r)) else 0)) - (if j = 3 then (∑ r ∈ Finset.range 128, p.SP 1 0 (384 + r)) else 0)) - (if j = 4 then (∑ r ∈ Finset.range 128, p.SP 1 1 (0 + r)) else 0)) := by
  unfold e56 k0_pay56
  exact (R2.subf (R2.subf (R2.subf (f52 H) (R2.select f54 (R2.bcol (R2.cast (f53 H) _) _) (R2.bcast c0))) (R2.select (hm 3 (by decide)) (R2.bcol (R2.cast (R1.col (R2.red1 (R2.slice (f51 H) _) _ _ _) _) _) _) (R2.bcast c0))) (R2.select (hm 4 (by decide)) (R2.bcol (R2.cast (R1.col (R2.red1 (R2.slice (f55 H) _) _ _ _) _) _) _) (R2.bcast c0)))
theorem f57 : R2 (e57 b) fun _ _ => (∑ r ∈ Finset.range 128, p.SP 1 1 (128 + r)) := by
  unfold e57 k0_pay57
  exact (R1.col (R2.red1 (R2.slice (f55 H) _) _ _ _) _)
theorem f59 : R2 (e59 b) fun _ j => (((((((((0 : ℝ) - (if j = 0 then (∑ r ∈ Finset.range 128, p.SP 1 0 (0 + r)) else 0)) - (if j = 1 then (∑ r ∈ Finset.range 128, p.SP 1 0 (128 + r)) else 0)) - (if j = 2 then (∑ r ∈ Finset.range 128, p.SP 1 0 (256 + r)) else 0)) - (if j = 3 then (∑ r ∈ Finset.range 128, p.SP 1 0 (384 + r)) else 0)) - (if j = 4 then (∑ r ∈ Finset.range 128, p.SP 1 1 (0 + r)) else 0)) - (if j = 5 then (∑ r ∈ Finset.range 128, p.SP 1 1 (128 + r)) else 0)) - (if j = 6 then (∑ r ∈ Finset.range 128, p.SP 1 1 (256 + r)) else 0)) - (if j = 7 then (∑ r ∈ Finset.range 128, p.SP 1 1 (384 + r)) else 0)) := by
  unfold e59 k0_pay59
  exact (R2.subf (R2.subf (R2.subf (f56 H) (R2.select f58 (R2.bcol (R2.cast (f57 H) _) _) (R2.bcast c0))) (R2.select (hm 6 (by decide)) (R2.bcol (R2.cast (R1.col (R2.red1 (R2.slice (f55 H) _) _ _ _) _) _) _) (R2.bcast c0))) (R2.select (hm 7 (by decide)) (R2.bcol (R2.cast (R1.col (R2.red1 (R2.slice (f55 H) _) _ _ _) _) _) _) (R2.bcast c0)))
theorem f118 : R2 (e118 b) fun _ j => ((((((((((((0 : ℝ) - (if j = 0 then (∑ r ∈ Finset.range 128, p.SP 1 0 (0 + r)) else 0)) - (if j = 1 then (∑ r ∈ Finset.range 128, p.SP 1 0 (128 + r)) else 0)) - (if j = 2 then (∑ r ∈ Finset.range 128, p.SP 1 0 (256 + r)) else 0)) - (if j = 3 then (∑ r ∈ Finset.range 128, p.SP 1 0 (384 + r)) else 0)) - (if j = 4 then (∑ r ∈ Finset.range 128, p.SP 1 1 (0 + r)) else 0)) - (if j = 5 then (∑ r ∈ Finset.range 128, p.SP 1 1 (128 + r)) else 0)) - (if j = 6 then (∑ r ∈ Finset.range 128, p.SP 1 1 (256 + r)) else 0)) - (if j = 7 then (∑ r ∈ Finset.range 128, p.SP 1 1 (384 + r)) else 0)) - (if j = 0 then (∑ r ∈ Finset.range 128, p.SP 0 0 (0 + r)) else 0)) - (if j = 1 then (∑ r ∈ Finset.range 128, p.SP 0 0 (128 + r)) else 0)) - (if j = 2 then (∑ r ∈ Finset.range 128, p.SP 0 0 (256 + r)) else 0)) := by
  unfold e118 k0_pay118
  exact (R2.subf (R2.subf (R2.subf (f59 H) (R2.select (hm 0 (by decide)) (R2.bcol (R2.cast (R1.col (R2.red1 (R2.slice (g117 H) _) _ _ _) _) _) _) (R2.bcast c0))) (R2.select (hm 1 (by decide)) (R2.bcol (R2.cast (R1.col (R2.red1 (R2.slice (g117 H) _) _ _ _) _) _) _) (R2.bcast c0))) (R2.select (hm 2 (by decide)) (R2.bcol (R2.cast (R1.col (R2.red1 (R2.slice (g117 H) _) _ _ _) _) _) _) (R2.bcast c0)))
theorem f119 : R2 (e119 b) fun _ j => (if j = 3 then (∑ r ∈ Finset.range 128, p.SP 0 0 (384 + r)) else 0) := by
  unfold e119 k0_pay119
  exact (R2.select (hm 3 (by decide)) (R2.bcol (R2.cast (R1.col (R2.red1 (R2.slice (g117 H) _) _ _ _) _) _) _) (R2.bcast c0))
theorem f121 : R2 (e121 b) fun _ j => ((((((((((((((((0 : ℝ) - (if j = 0 then (∑ r ∈ Finset.range 128, p.SP 1 0 (0 + r)) else 0)) - (if j = 1 then (∑ r ∈ Finset.range 128, p.SP 1 0 (128 + r)) else 0)) - (if j = 2 then (∑ r ∈ Finset.range 128, p.SP 1 0 (256 + r)) else 0)) - (if j = 3 then (∑ r ∈ Finset.range 128, p.SP 1 0 (384 + r)) else 0)) - (if j = 4 then (∑ r ∈ Finset.range 128, p.SP 1 1 (0 + r)) else 0)) - (if j = 5 then (∑ r ∈ Finset.range 128, p.SP 1 1 (128 + r)) else 0)) - (if j = 6 then (∑ r ∈ Finset.range 128, p.SP 1 1 (256 + r)) else 0)) - (if j = 7 then (∑ r ∈ Finset.range 128, p.SP 1 1 (384 + r)) else 0)) - (if j = 0 then (∑ r ∈ Finset.range 128, p.SP 0 0 (0 + r)) else 0)) - (if j = 1 then (∑ r ∈ Finset.range 128, p.SP 0 0 (128 + r)) else 0)) - (if j = 2 then (∑ r ∈ Finset.range 128, p.SP 0 0 (256 + r)) else 0)) - (if j = 3 then (∑ r ∈ Finset.range 128, p.SP 0 0 (384 + r)) else 0)) - (if j = 4 then (∑ r ∈ Finset.range 128, p.SP 0 1 (0 + r)) else 0)) - (if j = 5 then (∑ r ∈ Finset.range 128, p.SP 0 1 (128 + r)) else 0)) - (if j = 6 then (∑ r ∈ Finset.range 128, p.SP 0 1 (256 + r)) else 0)) := by
  unfold e121 k0_pay121
  exact (R2.subf (R2.subf (R2.subf (R2.subf (f118 H) (f119 H)) (R2.select (hm 4 (by decide)) (R2.bcol (R2.cast (R1.col (R2.red1 (R2.slice (f120 H) _) _ _ _) _) _) _) (R2.bcast c0))) (R2.select (hm 5 (by decide)) (R2.bcol (R2.cast (R1.col (R2.red1 (R2.slice (f120 H) _) _ _ _) _) _) _) (R2.bcast c0))) (R2.select (hm 6 (by decide)) (R2.bcol (R2.cast (R1.col (R2.red1 (R2.slice (f120 H) _) _ _ _) _) _) _) (R2.bcast c0)))
theorem f122 : R2 (e122 b) fun _ j => p.dsk j := by
  unfold e122 k0_pay122
  refine R2.congr (R2.subf (f121 H) (R2.select (hm 7 (by decide)) (R2.bcol (R2.cast (R1.col (R2.red1 (R2.slice (f120 H) _) _ _ _) _) _) _) (R2.bcast c0))) ?_
  intro i _ j hj
  interval_cases j <;> simp [Pt.dsk]
theorem f4 : R2 (e4 b) fun _ j => p.PS j + p.dsk j := by
  unfold e4 k0_pay4
  exact R2.addf (R2.cast H.hps _) (f122 H)

end Cert.Body
-- ==== Proof.Out.lean ====
/-
  What each grid point of the kernel leaves in its outputs and in the arrays it carries, as the stages of `Blk`: the
  first point starts its sums, the others add to what the point before left, and the first point of each sequence starts
  from zero carries.
-/
module

public import proofs.«01_k».proof.Proof.Blk
public import Idealize.ShloMosaic.Lib.Pipeline.ValueKit
public import Idealize.ShloMosaic.Lib.Pipeline.ReadBack

@[expose] public section

set_option maxRecDepth 16384

noncomputable section

namespace Cert.Body

open Idealize.ShloMosaic Idealize.ShloMosaic.TcCoe Idealize.ShloMosaic.Tactic
open Idealize.SL Idealize.SL.RA Idealize.SL.BI Idealize.SL.Sem
open Cert.KernelIdeal Cert.KernelIdeal.Gen

variable (m : (ℓ : Loc nD τ sig) → Buf (Elt Ideal) ℓ) (c : Dev nD) (t : Fin cfg0.N)

theorem ldw1 (X : Vec Ideal S1x256x512 .f32) :
    View.ld X (Rect.unit ![0, 0, 0] ![1, 256, 512] inb_S1x256x512_S1x256x512_0_0_0) = X := View.ld_unit_lit _ X (by decide)
theorem ldw2 (X : Vec Ideal S1x512 .f32) : View.ld X (Rect.unit ![0, 0] ![1, 512] inb_S1x512_S1x512_0_0) = X :=
  View.ld_unit_lit _ X (by decide)
theorem ldw3 (X : Vec Ideal S256x512 .f32) : View.ld X (Rect.unit ![0, 0] ![256, 512] inb_S256x512_S256x512_0_0) = X :=
  View.ld_unit_lit _ X (by decide)
theorem ldw4 (X : Vec Ideal S1x8 .f32) : View.ld X (Rect.unit ![0, 0] ![1, 8] inb_S1x8_S1x8_0_0) = X :=
  View.ld_unit_lit _ X (by decide)
theorem ldw5 (X : Vec Ideal S128x128 .f32) : View.ld X (Rect.unit ![0, 0] ![128, 128] inb_S128x128_S128x128_0_0) = X :=
  View.ld_unit_lit _ X (by decide)
/-- The zero carry a sequence's first point reads back from scratch `0`. -/
def zk : Vec Ideal S128x128 .f32 := (View.whole cc0_scratch0).readCov
    [⟨(Rect.unit ![0, 0] ![128, 128] inb_S128x128_S128x128_0_0), k0_pay5 (F := Ideal)⟩]
    (Rect.unit ![0, 0] ![128, 128] inb_S128x128_S128x128_0_0).toLoadRect
/-- The zero carry a sequence's first point reads back from scratch `1`. -/
def zv : Vec Ideal S128x128 .f32 := (View.whole cc0_scratch1).readCov
    [⟨(Rect.unit ![0, 0] ![128, 128] inb_S128x128_S128x128_0_0), k0_pay6 (F := Ideal)⟩]
    (Rect.unit ![0, 0] ![128, 128] inb_S128x128_S128x128_0_0).toLoadRect
theorem zk_eq : zk = k0_pay5 (F := Ideal) := View.readCov_unit_lit _ _ _ (by decide)
theorem zv_eq : zv = k0_pay6 (F := Ideal) := View.readCov_unit_lit _ _ _ (by decide)

/-- The twelve tiles a point stores of its block of `dproj`. -/
def tiles15 (b : Blk) : List (View.Piece (Elt Ideal) S1x256x768 .bf16) :=
  [⟨(Rect.unit ![0, 0, 640] ![1, 128, 128] inb_S1x256x768_S1x128x128_0_0_640), e1 b⟩, ⟨(Rect.unit ![0, 0, 512] ![1, 128, 128] inb_S1x256x768_S1x128x128_0_0_512), e140 b⟩, ⟨(Rect.unit ![0, 0, 384] ![1, 128, 128] inb_S1x256x768_S1x128x128_0_0_384), e139 b⟩, ⟨(Rect.unit ![0, 0, 256] ![1, 128, 128] inb_S1x256x768_S1x128x128_0_0_256), e138 b⟩, ⟨(Rect.unit ![0, 0, 128] ![1, 128, 128] inb_S1x256x768_S1x128x128_0_0_128), e137 b⟩, ⟨(Rect.unit ![0, 0, 0] ![1, 128, 128] inb_S1x256x768_S1x128x128_0_0_0), e135 b⟩, ⟨(Rect.unit ![0, 128, 640] ![1, 128, 128] inb_S1x256x768_S1x128x128_0_128_640), e81 b⟩, ⟨(Rect.unit ![0, 128, 512] ![1, 128, 128] inb_S1x256x768_S1x128x128_0_128_512), e80 b⟩, ⟨(Rect.unit ![0, 128, 384] ![1, 128, 128] inb_S1x256x768_S1x128x128_0_128_384), e78 b⟩, ⟨(Rect.unit ![0, 128, 256] ![1, 128, 128] inb_S1x256x768_S1x128x128_0_128_256), e77 b⟩, ⟨(Rect.unit ![0, 128, 128] ![1, 128, 128] inb_S1x256x768_S1x128x128_0_128_128), e76 b⟩, ⟨(Rect.unit ![0, 128, 0] ![1, 128, 128] inb_S1x256x768_S1x128x128_0_128_0), e75 b⟩]

set_option maxHeartbeats 1000000 in
theorem o15_A (h0 : t.val % 8 = 0) (h1 : t.val % 16 = 0) (h2 : ¬ 1 ≤ t.val) (h3 : t.val % 16 = 0) (h4 : ¬ 1 ≤ t.val) :
    (outsAt0 m c t.val t.isLt).1 = View.canon (tiles15 (blkOf m c t zk zv (fun _ => (0 : EReal)) (fun _ => (0 : EReal)))) := by
  rw [outsAt0_A m c t h0 h1 h2 h3 h4]; dsimp only
  unfold out0_A_15
  rw [View.read_writes_junk_eq_canon]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, read_unread_whole, ldw1, ldw2, ldw3, ldw4, ldw5, zk, zv, blkOf, tiles15, e12, e13, e11, e85, e90, e99, e89, e101, e120, e17, e22, e33, e34, e35, e36, e37, e21, e39, e55, e32, e38, e51, e52, e53, e54, e56, e57, e58, e59, e98, e100, e115, e116, e118, e119, e121, e122, e4, e84, e91, e93, e102, e104, e111, e127, e92, e95, e97, e94, e103, e112, e128, e2, e96, e113, e131, e114, e132, e3, e30, e16, e23, e25, e26, e48, e49, e70, e31, e24, e27, e41, e50, e71, e83, e133, e134, e1, e28, e46, e66, e29, e47, e67, e82, e86, e87, e88, e129, e130, e140, e110, e125, e126, e139, e123, e124, e138, e109, e136, e137, e135, e72, e73, e81, e18, e19, e20, e68, e69, e79, e80, e45, e64, e65, e78, e62, e63, e77, e44, e60, e61, e76, e74, e75]

set_option maxHeartbeats 1000000 in
theorem o16_A (h0 : t.val % 8 = 0) (h1 : t.val % 16 = 0) (h2 : ¬ 1 ≤ t.val) (h3 : t.val % 16 = 0) (h4 : ¬ 1 ≤ t.val) :
    (outsAt0 m c t.val t.isLt).2.1 = View.canon ([⟨(Rect.unit ![0, 0] ![1, 512] inb_S1x512_S1x512_0_0), e12 (blkOf m c t zk zv (fun _ => (0 : EReal)) (fun _ => (0 : EReal)))⟩]) := by
  rw [outsAt0_A m c t h0 h1 h2 h3 h4]; dsimp only
  unfold out0_A_16
  rw [View.read_writes_junk_eq_canon]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, read_unread_whole, ldw1, ldw2, ldw3, ldw4, ldw5, zk, zv, blkOf, tiles15, e12, e13, e11, e85, e90, e99, e89, e101, e120, e17, e22, e33, e34, e35, e36, e37, e21, e39, e55, e32, e38, e51, e52, e53, e54, e56, e57, e58, e59, e98, e100, e115, e116, e118, e119, e121, e122, e4, e84, e91, e93, e102, e104, e111, e127, e92, e95, e97, e94, e103, e112, e128, e2, e96, e113, e131, e114, e132, e3, e30, e16, e23, e25, e26, e48, e49, e70, e31, e24, e27, e41, e50, e71, e83, e133, e134, e1, e28, e46, e66, e29, e47, e67, e82, e86, e87, e88, e129, e130, e140, e110, e125, e126, e139, e123, e124, e138, e109, e136, e137, e135, e72, e73, e81, e18, e19, e20, e68, e69, e79, e80, e45, e64, e65, e78, e62, e63, e77, e44, e60, e61, e76, e74, e75]

set_option maxHeartbeats 1000000 in
theorem o17_A (h0 : t.val % 8 = 0) (h1 : t.val % 16 = 0) (h2 : ¬ 1 ≤ t.val) (h3 : t.val % 16 = 0) (h4 : ¬ 1 ≤ t.val) :
    (outsAt0 m c t.val t.isLt).2.2.1 = View.canon ([⟨(Rect.unit ![0, 0] ![1, 8] inb_S1x8_S1x8_0_0), e122 (blkOf m c t zk zv (fun _ => (0 : EReal)) (fun _ => (0 : EReal)))⟩]) := by
  rw [outsAt0_A m c t h0 h1 h2 h3 h4]; dsimp only
  unfold out0_A_17
  rw [View.read_writes_junk_eq_canon]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, read_unread_whole, ldw1, ldw2, ldw3, ldw4, ldw5, zk, zv, blkOf, tiles15, e12, e13, e11, e85, e90, e99, e89, e101, e120, e17, e22, e33, e34, e35, e36, e37, e21, e39, e55, e32, e38, e51, e52, e53, e54, e56, e57, e58, e59, e98, e100, e115, e116, e118, e119, e121, e122, e4, e84, e91, e93, e102, e104, e111, e127, e92, e95, e97, e94, e103, e112, e128, e2, e96, e113, e131, e114, e132, e3, e30, e16, e23, e25, e26, e48, e49, e70, e31, e24, e27, e41, e50, e71, e83, e133, e134, e1, e28, e46, e66, e29, e47, e67, e82, e86, e87, e88, e129, e130, e140, e110, e125, e126, e139, e123, e124, e138, e109, e136, e137, e135, e72, e73, e81, e18, e19, e20, e68, e69, e79, e80, e45, e64, e65, e78, e62, e63, e77, e44, e60, e61, e76, e74, e75]

set_option maxHeartbeats 1000000 in
theorem oS0_A (h0 : t.val % 8 = 0) (h1 : t.val % 16 = 0) (h2 : ¬ 1 ≤ t.val) (h3 : t.val % 16 = 0) (h4 : ¬ 1 ≤ t.val) :
    (outsAt0 m c t.val t.isLt).2.2.2.1 = View.canon ([⟨(Rect.unit ![0, 0] ![128, 128] inb_S128x128_S128x128_0_0), e2 (blkOf m c t zk zv (fun _ => (0 : EReal)) (fun _ => (0 : EReal)))⟩, ⟨(Rect.unit ![0, 0] ![128, 128] inb_S128x128_S128x128_0_0), (k0_pay5 (F := Ideal))⟩]) := by
  rw [outsAt0_A m c t h0 h1 h2 h3 h4]; dsimp only
  unfold sout0_A_0
  rw [View.read_writes_junk_eq_canon]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, read_unread_whole, ldw1, ldw2, ldw3, ldw4, ldw5, zk, zv, blkOf, tiles15, e12, e13, e11, e85, e90, e99, e89, e101, e120, e17, e22, e33, e34, e35, e36, e37, e21, e39, e55, e32, e38, e51, e52, e53, e54, e56, e57, e58, e59, e98, e100, e115, e116, e118, e119, e121, e122, e4, e84, e91, e93, e102, e104, e111, e127, e92, e95, e97, e94, e103, e112, e128, e2, e96, e113, e131, e114, e132, e3, e30, e16, e23, e25, e26, e48, e49, e70, e31, e24, e27, e41, e50, e71, e83, e133, e134, e1, e28, e46, e66, e29, e47, e67, e82, e86, e87, e88, e129, e130, e140, e110, e125, e126, e139, e123, e124, e138, e109, e136, e137, e135, e72, e73, e81, e18, e19, e20, e68, e69, e79, e80, e45, e64, e65, e78, e62, e63, e77, e44, e60, e61, e76, e74, e75]

set_option maxHeartbeats 1000000 in
theorem oS1_A (h0 : t.val % 8 = 0) (h1 : t.val % 16 = 0) (h2 : ¬ 1 ≤ t.val) (h3 : t.val % 16 = 0) (h4 : ¬ 1 ≤ t.val) :
    (outsAt0 m c t.val t.isLt).2.2.2.2 = View.canon ([⟨(Rect.unit ![0, 0] ![128, 128] inb_S128x128_S128x128_0_0), e3 (blkOf m c t zk zv (fun _ => (0 : EReal)) (fun _ => (0 : EReal)))⟩, ⟨(Rect.unit ![0, 0] ![128, 128] inb_S128x128_S128x128_0_0), (k0_pay6 (F := Ideal))⟩]) := by
  rw [outsAt0_A m c t h0 h1 h2 h3 h4]; dsimp only
  unfold sout0_A_1
  rw [View.read_writes_junk_eq_canon]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, read_unread_whole, ldw1, ldw2, ldw3, ldw4, ldw5, zk, zv, blkOf, tiles15, e12, e13, e11, e85, e90, e99, e89, e101, e120, e17, e22, e33, e34, e35, e36, e37, e21, e39, e55, e32, e38, e51, e52, e53, e54, e56, e57, e58, e59, e98, e100, e115, e116, e118, e119, e121, e122, e4, e84, e91, e93, e102, e104, e111, e127, e92, e95, e97, e94, e103, e112, e128, e2, e96, e113, e131, e114, e132, e3, e30, e16, e23, e25, e26, e48, e49, e70, e31, e24, e27, e41, e50, e71, e83, e133, e134, e1, e28, e46, e66, e29, e47, e67, e82, e86, e87, e88, e129, e130, e140, e110, e125, e126, e139, e123, e124, e138, e109, e136, e137, e135, e72, e73, e81, e18, e19, e20, e68, e69, e79, e80, e45, e64, e65, e78, e62, e63, e77, e44, e60, e61, e76, e74, e75]

set_option maxHeartbeats 1000000 in
theorem o15_B (h0 : ¬ t.val % 8 = 0) (h1 : ¬ t.val % 16 = 0) (h2 : 1 ≤ t.val) (h3 : ¬ t.val % 16 = 0) (h4 : 1 ≤ t.val) :
    (outsAt0 m c t.val t.isLt).1 = View.canon (tiles15 (blkOf m c t (outsAt0 m c (t.val - 1) (Nat.lt_of_le_of_lt (Nat.sub_le _ _) t.isLt)).2.2.2.1 (outsAt0 m c (t.val - 1) (Nat.lt_of_le_of_lt (Nat.sub_le _ _) t.isLt)).2.2.2.2 (outsAt0 m c (t.val - 1) (Nat.lt_of_le_of_lt (Nat.sub_le _ _) t.isLt)).2.1 (outsAt0 m c (t.val - 1) (Nat.lt_of_le_of_lt (Nat.sub_le _ _) t.isLt)).2.2.1)) := by
  rw [outsAt0_B m c t h0 h1 h2 h3 h4]; dsimp only
  unfold out0_B_15
  rw [View.read_writes_junk_eq_canon]
  unfold kernelRun0_B; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, read_unread_whole, ldw1, ldw2, ldw3, ldw4, ldw5, zk, zv, blkOf, tiles15, e12, e13, e11, e85, e90, e99, e89, e101, e120, e17, e22, e33, e34, e35, e36, e37, e21, e39, e55, e32, e38, e51, e52, e53, e54, e56, e57, e58, e59, e98, e100, e115, e116, e118, e119, e121, e122, e4, e84, e91, e93, e102, e104, e111, e127, e92, e95, e97, e94, e103, e112, e128, e2, e96, e113, e131, e114, e132, e3, e30, e16, e23, e25, e26, e48, e49, e70, e31, e24, e27, e41, e50, e71, e83, e133, e134, e1, e28, e46, e66, e29, e47, e67, e82, e86, e87, e88, e129, e130, e140, e110, e125, e126, e139, e123, e124, e138, e109, e136, e137, e135, e72, e73, e81, e18, e19, e20, e68, e69, e79, e80, e45, e64, e65, e78, e62, e63, e77, e44, e60, e61, e76, e74, e75]

set_option maxHeartbeats 1000000 in
theorem o16_B (h0 : ¬ t.val % 8 = 0) (h1 : ¬ t.val % 16 = 0) (h2 : 1 ≤ t.val) (h3 : ¬ t.val % 16 = 0) (h4 : 1 ≤ t.val) :
    (outsAt0 m c t.val t.isLt).2.1 = View.canon ([⟨(Rect.unit ![0, 0] ![1, 512] inb_S1x512_S1x512_0_0), e13 (blkOf m c t (outsAt0 m c (t.val - 1) (Nat.lt_of_le_of_lt (Nat.sub_le _ _) t.isLt)).2.2.2.1 (outsAt0 m c (t.val - 1) (Nat.lt_of_le_of_lt (Nat.sub_le _ _) t.isLt)).2.2.2.2 (outsAt0 m c (t.val - 1) (Nat.lt_of_le_of_lt (Nat.sub_le _ _) t.isLt)).2.1 (outsAt0 m c (t.val - 1) (Nat.lt_of_le_of_lt (Nat.sub_le _ _) t.isLt)).2.2.1)⟩]) := by
  rw [outsAt0_B m c t h0 h1 h2 h3 h4]; dsimp only
  unfold out0_B_16
  rw [View.read_writes_junk_eq_canon]
  unfold kernelRun0_B; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, read_unread_whole, ldw1, ldw2, ldw3, ldw4, ldw5, zk, zv, blkOf, tiles15, e12, e13, e11, e85, e90, e99, e89, e101, e120, e17, e22, e33, e34, e35, e36, e37, e21, e39, e55, e32, e38, e51, e52, e53, e54, e56, e57, e58, e59, e98, e100, e115, e116, e118, e119, e121, e122, e4, e84, e91, e93, e102, e104, e111, e127, e92, e95, e97, e94, e103, e112, e128, e2, e96, e113, e131, e114, e132, e3, e30, e16, e23, e25, e26, e48, e49, e70, e31, e24, e27, e41, e50, e71, e83, e133, e134, e1, e28, e46, e66, e29, e47, e67, e82, e86, e87, e88, e129, e130, e140, e110, e125, e126, e139, e123, e124, e138, e109, e136, e137, e135, e72, e73, e81, e18, e19, e20, e68, e69, e79, e80, e45, e64, e65, e78, e62, e63, e77, e44, e60, e61, e76, e74, e75]

set_option maxHeartbeats 1000000 in
theorem o17_B (h0 : ¬ t.val % 8 = 0) (h1 : ¬ t.val % 16 = 0) (h2 : 1 ≤ t.val) (h3 : ¬ t.val % 16 = 0) (h4 : 1 ≤ t.val) :
    (outsAt0 m c t.val t.isLt).2.2.1 = View.canon ([⟨(Rect.unit ![0, 0] ![1, 8] inb_S1x8_S1x8_0_0), e4 (blkOf m c t (outsAt0 m c (t.val - 1) (Nat.lt_of_le_of_lt (Nat.sub_le _ _) t.isLt)).2.2.2.1 (outsAt0 m c (t.val - 1) (Nat.lt_of_le_of_lt (Nat.sub_le _ _) t.isLt)).2.2.2.2 (outsAt0 m c (t.val - 1) (Nat.lt_of_le_of_lt (Nat.sub_le _ _) t.isLt)).2.1 (outsAt0 m c (t.val - 1) (Nat.lt_of_le_of_lt (Nat.sub_le _ _) t.isLt)).2.2.1)⟩]) := by
  rw [outsAt0_B m c t h0 h1 h2 h3 h4]; dsimp only
  unfold out0_B_17
  rw [View.read_writes_junk_eq_canon]
  unfold kernelRun0_B; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, read_unread_whole, ldw1, ldw2, ldw3, ldw4, ldw5, zk, zv, blkOf, tiles15, e12, e13, e11, e85, e90, e99, e89, e101, e120, e17, e22, e33, e34, e35, e36, e37, e21, e39, e55, e32, e38, e51, e52, e53, e54, e56, e57, e58, e59, e98, e100, e115, e116, e118, e119, e121, e122, e4, e84, e91, e93, e102, e104, e111, e127, e92, e95, e97, e94, e103, e112, e128, e2, e96, e113, e131, e114, e132, e3, e30, e16, e23, e25, e26, e48, e49, e70, e31, e24, e27, e41, e50, e71, e83, e133, e134, e1, e28, e46, e66, e29, e47, e67, e82, e86, e87, e88, e129, e130, e140, e110, e125, e126, e139, e123, e124, e138, e109, e136, e137, e135, e72, e73, e81, e18, e19, e20, e68, e69, e79, e80, e45, e64, e65, e78, e62, e63, e77, e44, e60, e61, e76, e74, e75]

set_option maxHeartbeats 1000000 in
theorem oS0_B (h0 : ¬ t.val % 8 = 0) (h1 : ¬ t.val % 16 = 0) (h2 : 1 ≤ t.val) (h3 : ¬ t.val % 16 = 0) (h4 : 1 ≤ t.val) :
    (outsAt0 m c t.val t.isLt).2.2.2.1 = View.canon ([⟨(Rect.unit ![0, 0] ![128, 128] inb_S128x128_S128x128_0_0), e2 (blkOf m c t (outsAt0 m c (t.val - 1) (Nat.lt_of_le_of_lt (Nat.sub_le _ _) t.isLt)).2.2.2.1 (outsAt0 m c (t.val - 1) (Nat.lt_of_le_of_lt (Nat.sub_le _ _) t.isLt)).2.2.2.2 (outsAt0 m c (t.val - 1) (Nat.lt_of_le_of_lt (Nat.sub_le _ _) t.isLt)).2.1 (outsAt0 m c (t.val - 1) (Nat.lt_of_le_of_lt (Nat.sub_le _ _) t.isLt)).2.2.1)⟩]) := by
  rw [outsAt0_B m c t h0 h1 h2 h3 h4]; dsimp only
  unfold sout0_B_0
  rw [View.read_writes_junk_eq_canon]
  unfold kernelRun0_B; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, read_unread_whole, ldw1, ldw2, ldw3, ldw4, ldw5, zk, zv, blkOf, tiles15, e12, e13, e11, e85, e90, e99, e89, e101, e120, e17, e22, e33, e34, e35, e36, e37, e21, e39, e55, e32, e38, e51, e52, e53, e54, e56, e57, e58, e59, e98, e100, e115, e116, e118, e119, e121, e122, e4, e84, e91, e93, e102, e104, e111, e127, e92, e95, e97, e94, e103, e112, e128, e2, e96, e113, e131, e114, e132, e3, e30, e16, e23, e25, e26, e48, e49, e70, e31, e24, e27, e41, e50, e71, e83, e133, e134, e1, e28, e46, e66, e29, e47, e67, e82, e86, e87, e88, e129, e130, e140, e110, e125, e126, e139, e123, e124, e138, e109, e136, e137, e135, e72, e73, e81, e18, e19, e20, e68, e69, e79, e80, e45, e64, e65, e78, e62, e63, e77, e44, e60, e61, e76, e74, e75]

set_option maxHeartbeats 1000000 in
theorem oS1_B (h0 : ¬ t.val % 8 = 0) (h1 : ¬ t.val % 16 = 0) (h2 : 1 ≤ t.val) (h3 : ¬ t.val % 16 = 0) (h4 : 1 ≤ t.val) :
    (outsAt0 m c t.val t.isLt).2.2.2.2 = View.canon ([⟨(Rect.unit ![0, 0] ![128, 128] inb_S128x128_S128x128_0_0), e3 (blkOf m c t (outsAt0 m c (t.val - 1) (Nat.lt_of_le_of_lt (Nat.sub_le _ _) t.isLt)).2.2.2.1 (outsAt0 m c (t.val - 1) (Nat.lt_of_le_of_lt (Nat.sub_le _ _) t.isLt)).2.2.2.2 (outsAt0 m c (t.val - 1) (Nat.lt_of_le_of_lt (Nat.sub_le _ _) t.isLt)).2.1 (outsAt0 m c (t.val - 1) (Nat.lt_of_le_of_lt (Nat.sub_le _ _) t.isLt)).2.2.1)⟩]) := by
  rw [outsAt0_B m c t h0 h1 h2 h3 h4]; dsimp only
  unfold sout0_B_1
  rw [View.read_writes_junk_eq_canon]
  unfold kernelRun0_B; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, read_unread_whole, ldw1, ldw2, ldw3, ldw4, ldw5, zk, zv, blkOf, tiles15, e12, e13, e11, e85, e90, e99, e89, e101, e120, e17, e22, e33, e34, e35, e36, e37, e21, e39, e55, e32, e38, e51, e52, e53, e54, e56, e57, e58, e59, e98, e100, e115, e116, e118, e119, e121, e122, e4, e84, e91, e93, e102, e104, e111, e127, e92, e95, e97, e94, e103, e112, e128, e2, e96, e113, e131, e114, e132, e3, e30, e16, e23, e25, e26, e48, e49, e70, e31, e24, e27, e41, e50, e71, e83, e133, e134, e1, e28, e46, e66, e29, e47, e67, e82, e86, e87, e88, e129, e130, e140, e110, e125, e126, e139, e123, e124, e138, e109, e136, e137, e135, e72, e73, e81, e18, e19, e20, e68, e69, e79, e80, e45, e64, e65, e78, e62, e63, e77, e44, e60, e61, e76, e74, e75]

set_option maxHeartbeats 1000000 in
theorem o15_C (h0 : t.val % 8 = 0) (h1 : ¬ t.val % 16 = 0) (h2 : 1 ≤ t.val) (h3 : ¬ t.val % 16 = 0) (h4 : 1 ≤ t.val) :
    (outsAt0 m c t.val t.isLt).1 = View.canon (tiles15 (blkOf m c t zk zv (outsAt0 m c (t.val - 1) (Nat.lt_of_le_of_lt (Nat.sub_le _ _) t.isLt)).2.1 (outsAt0 m c (t.val - 1) (Nat.lt_of_le_of_lt (Nat.sub_le _ _) t.isLt)).2.2.1)) := by
  rw [outsAt0_C m c t h0 h1 h2 h3 h4]; dsimp only
  unfold out0_C_15
  rw [View.read_writes_junk_eq_canon]
  unfold kernelRun0_C; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, read_unread_whole, ldw1, ldw2, ldw3, ldw4, ldw5, zk, zv, blkOf, tiles15, e12, e13, e11, e85, e90, e99, e89, e101, e120, e17, e22, e33, e34, e35, e36, e37, e21, e39, e55, e32, e38, e51, e52, e53, e54, e56, e57, e58, e59, e98, e100, e115, e116, e118, e119, e121, e122, e4, e84, e91, e93, e102, e104, e111, e127, e92, e95, e97, e94, e103, e112, e128, e2, e96, e113, e131, e114, e132, e3, e30, e16, e23, e25, e26, e48, e49, e70, e31, e24, e27, e41, e50, e71, e83, e133, e134, e1, e28, e46, e66, e29, e47, e67, e82, e86, e87, e88, e129, e130, e140, e110, e125, e126, e139, e123, e124, e138, e109, e136, e137, e135, e72, e73, e81, e18, e19, e20, e68, e69, e79, e80, e45, e64, e65, e78, e62, e63, e77, e44, e60, e61, e76, e74, e75]

set_option maxHeartbeats 1000000 in
theorem o16_C (h0 : t.val % 8 = 0) (h1 : ¬ t.val % 16 = 0) (h2 : 1 ≤ t.val) (h3 : ¬ t.val % 16 = 0) (h4 : 1 ≤ t.val) :
    (outsAt0 m c t.val t.isLt).2.1 = View.canon ([⟨(Rect.unit ![0, 0] ![1, 512] inb_S1x512_S1x512_0_0), e13 (blkOf m c t zk zv (outsAt0 m c (t.val - 1) (Nat.lt_of_le_of_lt (Nat.sub_le _ _) t.isLt)).2.1 (outsAt0 m c (t.val - 1) (Nat.lt_of_le_of_lt (Nat.sub_le _ _) t.isLt)).2.2.1)⟩]) := by
  rw [outsAt0_C m c t h0 h1 h2 h3 h4]; dsimp only
  unfold out0_C_16
  rw [View.read_writes_junk_eq_canon]
  unfold kernelRun0_C; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, read_unread_whole, ldw1, ldw2, ldw3, ldw4, ldw5, zk, zv, blkOf, tiles15, e12, e13, e11, e85, e90, e99, e89, e101, e120, e17, e22, e33, e34, e35, e36, e37, e21, e39, e55, e32, e38, e51, e52, e53, e54, e56, e57, e58, e59, e98, e100, e115, e116, e118, e119, e121, e122, e4, e84, e91, e93, e102, e104, e111, e127, e92, e95, e97, e94, e103, e112, e128, e2, e96, e113, e131, e114, e132, e3, e30, e16, e23, e25, e26, e48, e49, e70, e31, e24, e27, e41, e50, e71, e83, e133, e134, e1, e28, e46, e66, e29, e47, e67, e82, e86, e87, e88, e129, e130, e140, e110, e125, e126, e139, e123, e124, e138, e109, e136, e137, e135, e72, e73, e81, e18, e19, e20, e68, e69, e79, e80, e45, e64, e65, e78, e62, e63, e77, e44, e60, e61, e76, e74, e75]

set_option maxHeartbeats 1000000 in
theorem o17_C (h0 : t.val % 8 = 0) (h1 : ¬ t.val % 16 = 0) (h2 : 1 ≤ t.val) (h3 : ¬ t.val % 16 = 0) (h4 : 1 ≤ t.val) :
    (outsAt0 m c t.val t.isLt).2.2.1 = View.canon ([⟨(Rect.unit ![0, 0] ![1, 8] inb_S1x8_S1x8_0_0), e4 (blkOf m c t zk zv (outsAt0 m c (t.val - 1) (Nat.lt_of_le_of_lt (Nat.sub_le _ _) t.isLt)).2.1 (outsAt0 m c (t.val - 1) (Nat.lt_of_le_of_lt (Nat.sub_le _ _) t.isLt)).2.2.1)⟩]) := by
  rw [outsAt0_C m c t h0 h1 h2 h3 h4]; dsimp only
  unfold out0_C_17
  rw [View.read_writes_junk_eq_canon]
  unfold kernelRun0_C; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, read_unread_whole, ldw1, ldw2, ldw3, ldw4, ldw5, zk, zv, blkOf, tiles15, e12, e13, e11, e85, e90, e99, e89, e101, e120, e17, e22, e33, e34, e35, e36, e37, e21, e39, e55, e32, e38, e51, e52, e53, e54, e56, e57, e58, e59, e98, e100, e115, e116, e118, e119, e121, e122, e4, e84, e91, e93, e102, e104, e111, e127, e92, e95, e97, e94, e103, e112, e128, e2, e96, e113, e131, e114, e132, e3, e30, e16, e23, e25, e26, e48, e49, e70, e31, e24, e27, e41, e50, e71, e83, e133, e134, e1, e28, e46, e66, e29, e47, e67, e82, e86, e87, e88, e129, e130, e140, e110, e125, e126, e139, e123, e124, e138, e109, e136, e137, e135, e72, e73, e81, e18, e19, e20, e68, e69, e79, e80, e45, e64, e65, e78, e62, e63, e77, e44, e60, e61, e76, e74, e75]

set_option maxHeartbeats 1000000 in
theorem oS0_C (h0 : t.val % 8 = 0) (h1 : ¬ t.val % 16 = 0) (h2 : 1 ≤ t.val) (h3 : ¬ t.val % 16 = 0) (h4 : 1 ≤ t.val) :
    (outsAt0 m c t.val t.isLt).2.2.2.1 = View.canon ([⟨(Rect.unit ![0, 0] ![128, 128] inb_S128x128_S128x128_0_0), e2 (blkOf m c t zk zv (outsAt0 m c (t.val - 1) (Nat.lt_of_le_of_lt (Nat.sub_le _ _) t.isLt)).2.1 (outsAt0 m c (t.val - 1) (Nat.lt_of_le_of_lt (Nat.sub_le _ _) t.isLt)).2.2.1)⟩, ⟨(Rect.unit ![0, 0] ![128, 128] inb_S128x128_S128x128_0_0), (k0_pay5 (F := Ideal))⟩]) := by
  rw [outsAt0_C m c t h0 h1 h2 h3 h4]; dsimp only
  unfold sout0_C_0
  rw [View.read_writes_junk_eq_canon]
  unfold kernelRun0_C; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, read_unread_whole, ldw1, ldw2, ldw3, ldw4, ldw5, zk, zv, blkOf, tiles15, e12, e13, e11, e85, e90, e99, e89, e101, e120, e17, e22, e33, e34, e35, e36, e37, e21, e39, e55, e32, e38, e51, e52, e53, e54, e56, e57, e58, e59, e98, e100, e115, e116, e118, e119, e121, e122, e4, e84, e91, e93, e102, e104, e111, e127, e92, e95, e97, e94, e103, e112, e128, e2, e96, e113, e131, e114, e132, e3, e30, e16, e23, e25, e26, e48, e49, e70, e31, e24, e27, e41, e50, e71, e83, e133, e134, e1, e28, e46, e66, e29, e47, e67, e82, e86, e87, e88, e129, e130, e140, e110, e125, e126, e139, e123, e124, e138, e109, e136, e137, e135, e72, e73, e81, e18, e19, e20, e68, e69, e79, e80, e45, e64, e65, e78, e62, e63, e77, e44, e60, e61, e76, e74, e75]

set_option maxHeartbeats 1000000 in
theorem oS1_C (h0 : t.val % 8 = 0) (h1 : ¬ t.val % 16 = 0) (h2 : 1 ≤ t.val) (h3 : ¬ t.val % 16 = 0) (h4 : 1 ≤ t.val) :
    (outsAt0 m c t.val t.isLt).2.2.2.2 = View.canon ([⟨(Rect.unit ![0, 0] ![128, 128] inb_S128x128_S128x128_0_0), e3 (blkOf m c t zk zv (outsAt0 m c (t.val - 1) (Nat.lt_of_le_of_lt (Nat.sub_le _ _) t.isLt)).2.1 (outsAt0 m c (t.val - 1) (Nat.lt_of_le_of_lt (Nat.sub_le _ _) t.isLt)).2.2.1)⟩, ⟨(Rect.unit ![0, 0] ![128, 128] inb_S128x128_S128x128_0_0), (k0_pay6 (F := Ideal))⟩]) := by
  rw [outsAt0_C m c t h0 h1 h2 h3 h4]; dsimp only
  unfold sout0_C_1
  rw [View.read_writes_junk_eq_canon]
  unfold kernelRun0_C; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, read_unread_whole, ldw1, ldw2, ldw3, ldw4, ldw5, zk, zv, blkOf, tiles15, e12, e13, e11, e85, e90, e99, e89, e101, e120, e17, e22, e33, e34, e35, e36, e37, e21, e39, e55, e32, e38, e51, e52, e53, e54, e56, e57, e58, e59, e98, e100, e115, e116, e118, e119, e121, e122, e4, e84, e91, e93, e102, e104, e111, e127, e92, e95, e97, e94, e103, e112, e128, e2, e96, e113, e131, e114, e132, e3, e30, e16, e23, e25, e26, e48, e49, e70, e31, e24, e27, e41, e50, e71, e83, e133, e134, e1, e28, e46, e66, e29, e47, e67, e82, e86, e87, e88, e129, e130, e140, e110, e125, e126, e139, e123, e124, e138, e109, e136, e137, e135, e72, e73, e81, e18, e19, e20, e68, e69, e79, e80, e45, e64, e65, e78, e62, e63, e77, e44, e60, e61, e76, e74, e75]

end Cert.Body
-- ==== Proof.Tile.lean ====
/-
  The block a grid point stores is its rows of the projections' gradient.
-/
module

public import proofs.«01_k».proof.Proof.Fact3
public import proofs.«01_k».proof.Proof.Out
public import proofs.«01_k».proof.Proof.Pts

@[expose] public section

set_option maxRecDepth 16384

noncomputable section

namespace Cert.Body

open Idealize.ShloMosaic Idealize.ShloMosaic.TcCoe Idealize.SL.Sem
open Cert.KernelIdeal Cert.KernelIdeal.Gen Cert.Re Cert.Spec
open Cert.Ref (In pt pj ck cv t_q t_v0 t_v1 t_k0 t_k1)

variable {b : Blk} {I : In} {bb i : ℕ} {PW PS : ℕ → ℝ} (H : Reads b (pt I bb i (ck I bb i) (cv I bb i) PW PS)) (hi : i < 8)
include H hi

set_option maxHeartbeats 1000000 in
theorem tile15 (y : S1x256x768.Idx) : View.canon (tiles15 b) y = ((pj I bb (256 * (7 - i) + (y 1).val) (y 2).val : ℝ) : EReal) := by
  refine View.canon_apply_of_pieces (fun y : S1x256x768.Idx => ((pj I bb (256 * (7 - i) + (y 1).val) (y 2).val : ℝ) : EReal)) (tiles15 b) ?_ y
    (View.cover_of_tiled (tiles15 b) ![1, 128, 128] (by rfl) y)
  unfold tiles15
  simp only [List.forall_mem_cons, List.not_mem_nil, false_imp_iff, implies_true, and_true]
  refine ⟨fun x => ?_, fun x => ?_, fun x => ?_, fun x => ?_, fun x => ?_, fun x => ?_, fun x => ?_, fun x => ?_, fun x => ?_, fun x => ?_, fun x => ?_, fun x => ?_⟩
  · have e := (f1 H (x 0) (x 1) (x 2)).trans (congrArg Real.toEReal (t_v0 hi (x 1).isLt (x 2).isLt))
    refine (congrArg (e1 b) (ValueIdx.eq_ix3 (n0 := 1) (n1 := 128) (n2 := 128) x)).trans (e.trans (congrArg Real.toEReal ?_))
    rw [Rect.emb_apply, Rect.emb_apply]
    show pj I bb (128 * (2 * (7 - i) + 0) + (x 1).val) _ = pj I bb (256 * (7 - i) + (0 + 1 * (x 1).val)) (640 + 1 * (x 2).val)
    congr 1 <;> omega
  · have e := (f140 H (x 0) (x 1) (x 2)).trans (congrArg Real.toEReal (t_k0 hi (x 1).isLt (x 2).isLt))
    refine (congrArg (e140 b) (ValueIdx.eq_ix3 (n0 := 1) (n1 := 128) (n2 := 128) x)).trans (e.trans (congrArg Real.toEReal ?_))
    rw [Rect.emb_apply, Rect.emb_apply]
    show pj I bb (128 * (2 * (7 - i) + 0) + (x 1).val) _ = pj I bb (256 * (7 - i) + (0 + 1 * (x 1).val)) (512 + 1 * (x 2).val)
    congr 1 <;> omega
  · have e := (f139 H (x 0) (x 1) (x 2)).trans (congrArg Real.toEReal (t_q (s := 3) hi (k := 0) (by omega) (by omega) (x 1).isLt (x 2).isLt))
    refine (congrArg (e139 b) (ValueIdx.eq_ix3 (n0 := 1) (n1 := 128) (n2 := 128) x)).trans (e.trans (congrArg Real.toEReal ?_))
    rw [Rect.emb_apply, Rect.emb_apply]
    show pj I bb (128 * (2 * (7 - i) + 0) + (x 1).val) _ = pj I bb (256 * (7 - i) + (0 + 1 * (x 1).val)) (384 + 1 * (x 2).val)
    congr 1 <;> omega
  · have e := (f138 H (x 0) (x 1) (x 2)).trans (congrArg Real.toEReal (t_q (s := 2) hi (k := 0) (by omega) (by omega) (x 1).isLt (x 2).isLt))
    refine (congrArg (e138 b) (ValueIdx.eq_ix3 (n0 := 1) (n1 := 128) (n2 := 128) x)).trans (e.trans (congrArg Real.toEReal ?_))
    rw [Rect.emb_apply, Rect.emb_apply]
    show pj I bb (128 * (2 * (7 - i) + 0) + (x 1).val) _ = pj I bb (256 * (7 - i) + (0 + 1 * (x 1).val)) (256 + 1 * (x 2).val)
    congr 1 <;> omega
  · have e := (f137 H (x 0) (x 1) (x 2)).trans (congrArg Real.toEReal (t_q (s := 1) hi (k := 0) (by omega) (by omega) (x 1).isLt (x 2).isLt))
    refine (congrArg (e137 b) (ValueIdx.eq_ix3 (n0 := 1) (n1 := 128) (n2 := 128) x)).trans (e.trans (congrArg Real.toEReal ?_))
    rw [Rect.emb_apply, Rect.emb_apply]
    show pj I bb (128 * (2 * (7 - i) + 0) + (x 1).val) _ = pj I bb (256 * (7 - i) + (0 + 1 * (x 1).val)) (128 + 1 * (x 2).val)
    congr 1 <;> omega
  · have e := (f135 H (x 0) (x 1) (x 2)).trans (congrArg Real.toEReal (t_q (s := 0) hi (k := 0) (by omega) (by omega) (x 1).isLt (x 2).isLt))
    refine (congrArg (e135 b) (ValueIdx.eq_ix3 (n0 := 1) (n1 := 128) (n2 := 128) x)).trans (e.trans (congrArg Real.toEReal ?_))
    rw [Rect.emb_apply, Rect.emb_apply]
    show pj I bb (128 * (2 * (7 - i) + 0) + (x 1).val) _ = pj I bb (256 * (7 - i) + (0 + 1 * (x 1).val)) (0 + 1 * (x 2).val)
    congr 1 <;> omega
  · have e := (f81 H (x 0) (x 1) (x 2)).trans (congrArg Real.toEReal (t_v1 hi (x 1).isLt (x 2).isLt))
    refine (congrArg (e81 b) (ValueIdx.eq_ix3 (n0 := 1) (n1 := 128) (n2 := 128) x)).trans (e.trans (congrArg Real.toEReal ?_))
    rw [Rect.emb_apply, Rect.emb_apply]
    show pj I bb (128 * (2 * (7 - i) + 1) + (x 1).val) _ = pj I bb (256 * (7 - i) + (128 + 1 * (x 1).val)) (640 + 1 * (x 2).val)
    congr 1 <;> omega
  · have e := (f80 H (x 0) (x 1) (x 2)).trans (congrArg Real.toEReal (t_k1 hi (x 1).isLt (x 2).isLt))
    refine (congrArg (e80 b) (ValueIdx.eq_ix3 (n0 := 1) (n1 := 128) (n2 := 128) x)).trans (e.trans (congrArg Real.toEReal ?_))
    rw [Rect.emb_apply, Rect.emb_apply]
    show pj I bb (128 * (2 * (7 - i) + 1) + (x 1).val) _ = pj I bb (256 * (7 - i) + (128 + 1 * (x 1).val)) (512 + 1 * (x 2).val)
    congr 1 <;> omega
  · have e := (f78 H (x 0) (x 1) (x 2)).trans (congrArg Real.toEReal (t_q (s := 3) hi (k := 1) (by omega) (by omega) (x 1).isLt (x 2).isLt))
    refine (congrArg (e78 b) (ValueIdx.eq_ix3 (n0 := 1) (n1 := 128) (n2 := 128) x)).trans (e.trans (congrArg Real.toEReal ?_))
    rw [Rect.emb_apply, Rect.emb_apply]
    show pj I bb (128 * (2 * (7 - i) + 1) + (x 1).val) _ = pj I bb (256 * (7 - i) + (128 + 1 * (x 1).val)) (384 + 1 * (x 2).val)
    congr 1 <;> omega
  · have e := (f77 H (x 0) (x 1) (x 2)).trans (congrArg Real.toEReal (t_q (s := 2) hi (k := 1) (by omega) (by omega) (x 1).isLt (x 2).isLt))
    refine (congrArg (e77 b) (ValueIdx.eq_ix3 (n0 := 1) (n1 := 128) (n2 := 128) x)).trans (e.trans (congrArg Real.toEReal ?_))
    rw [Rect.emb_apply, Rect.emb_apply]
    show pj I bb (128 * (2 * (7 - i) + 1) + (x 1).val) _ = pj I bb (256 * (7 - i) + (128 + 1 * (x 1).val)) (256 + 1 * (x 2).val)
    congr 1 <;> omega
  · have e := (f76 H (x 0) (x 1) (x 2)).trans (congrArg Real.toEReal (t_q (s := 1) hi (k := 1) (by omega) (by omega) (x 1).isLt (x 2).isLt))
    refine (congrArg (e76 b) (ValueIdx.eq_ix3 (n0 := 1) (n1 := 128) (n2 := 128) x)).trans (e.trans (congrArg Real.toEReal ?_))
    rw [Rect.emb_apply, Rect.emb_apply]
    show pj I bb (128 * (2 * (7 - i) + 1) + (x 1).val) _ = pj I bb (256 * (7 - i) + (128 + 1 * (x 1).val)) (128 + 1 * (x 2).val)
    congr 1 <;> omega
  · have e := (f75 H (x 0) (x 1) (x 2)).trans (congrArg Real.toEReal (t_q (s := 0) hi (k := 1) (by omega) (by omega) (x 1).isLt (x 2).isLt))
    refine (congrArg (e75 b) (ValueIdx.eq_ix3 (n0 := 1) (n1 := 128) (n2 := 128) x)).trans (e.trans (congrArg Real.toEReal ?_))
    rw [Rect.emb_apply, Rect.emb_apply]
    show pj I bb (128 * (2 * (7 - i) + 1) + (x 1).val) _ = pj I bb (256 * (7 - i) + (128 + 1 * (x 1).val)) (0 + 1 * (x 2).val)
    congr 1 <;> omega

end Cert.Body
-- ==== Proof.Step.lean ====
/-
  What the points of the grid leave, one after the other.
-/
module

public import proofs.«01_k».proof.Proof.Arr
public import proofs.«01_k».proof.Proof.Tile

@[expose] public section

set_option maxRecDepth 16384

noncomputable section

namespace Cert.Body

open Idealize.ShloMosaic Idealize.ShloMosaic.TcCoe Idealize.SL.Sem
open Cert.KernelIdeal Cert.KernelIdeal.Gen Cert.Re Cert.Spec
open Cert.Ref (In ArgR pt bs pj)
open scoped BigOperators

variable (m : (ℓ : Loc nD τ sig) → Buf (Elt Ideal) ℓ) (c : Dev nD)

/-- What is true after point `n`. -/
structure Inv (I : In) (n : ℕ) (hn : n < cfg0.N) : Prop where
  o : ∀ y : S1x256x768.Idx, (outsAt0 m c n hn).1 y = ((pj I (n / 8) (256 * (7 - n % 8) + (y 1).val) (y 2).val : ℝ) : EReal)
  w : R2 (a := 1) (b := 512) (outsAt0 m c n hn).2.1 fun _ j => ∑ s ∈ Finset.range (n + 1), (bs I (s / 8) (s % 8)).dw j
  k : R2 (a := 1) (b := 8) (outsAt0 m c n hn).2.2.1 fun _ j => ∑ s ∈ Finset.range (n + 1), (bs I (s / 8) (s % 8)).dsk j
  s0 : R2 (a := 128) (b := 128) (outsAt0 m c n hn).2.2.2.1 fun r j => (bs I (n / 8) (n % 8)).dkb 0 r j
  s1 : R2 (a := 128) (b := 128) (outsAt0 m c n hn).2.2.2.2 fun r j => (bs I (n / 8) (n % 8)).dvb 0 r j

variable {m c}

theorem cW {w : Vec Ideal S1x512 .f32} {L : List (View.Piece (Elt Ideal) S1x512 .f32)} :
    View.canon (⟨(Rect.unit ![0, 0] ![1, 512] inb_S1x512_S1x512_0_0), w⟩ :: L) = w := View.canon_cons_unit_lit' _ w L (by decide)
theorem cK {w : Vec Ideal S1x8 .f32} {L : List (View.Piece (Elt Ideal) S1x8 .f32)} :
    View.canon (⟨(Rect.unit ![0, 0] ![1, 8] inb_S1x8_S1x8_0_0), w⟩ :: L) = w := View.canon_cons_unit_lit' _ w L (by decide)
theorem cS {w : Vec Ideal S128x128 .f32} {L : List (View.Piece (Elt Ideal) S128x128 .f32)} :
    View.canon (⟨(Rect.unit ![0, 0] ![128, 128] inb_S128x128_S128x128_0_0), w⟩ :: L) = w := View.canon_cons_unit_lit' _ w L (by decide)

theorem zk_r {X : ℕ → ℕ → ℝ} (h : ∀ i < 128, ∀ j < 128, (0 : ℝ) = X i j) : R2 (a := 128) (b := 128) zk X := fun i j => by
  rw [zk_eq, ← h i i.isLt j j.isLt]
  exact Cert.Ref.k0
theorem zv_r {X : ℕ → ℕ → ℝ} (h : ∀ i < 128, ∀ j < 128, (0 : ℝ) = X i j) : R2 (a := 128) (b := 128) zv X := fun i j => by
  rw [zv_eq, ← h i i.isLt j j.isLt]
  exact Cert.Ref.k0

variable {I : In} (H : Args m c I)
include H

theorem inv0 (h : 0 < cfg0.N) : Inv m c I 0 h := by
  have R := reads H ⟨0, h⟩ (CK := Cert.Ref.ck I 0 0) (CV := Cert.Ref.cv I 0 0) (PW := fun _ => 0) (PS := fun _ => 0)
    (zk_r fun _ _ _ _ => by unfold Cert.Ref.ck; rw [if_pos rfl]) (zv_r fun _ _ _ _ => by unfold Cert.Ref.cv; rw [if_pos rfl])
    (pw := fun _ => (0 : EReal)) (ps := fun _ => (0 : EReal)) (fun _ _ => EReal.coe_zero.symm) (fun _ _ => EReal.coe_zero.symm)
  have a0 : (⟨0, h⟩ : Fin cfg0.N).val % 8 = 0 := rfl
  have a1 : (⟨0, h⟩ : Fin cfg0.N).val % 16 = 0 := rfl
  have a2 : ¬ 1 ≤ (⟨0, h⟩ : Fin cfg0.N).val := Nat.not_succ_le_zero 0
  refine ⟨fun y => ?_, ?_, ?_, ?_, ?_⟩
  · exact (congrFun (o15_A m c ⟨0, h⟩ a0 a1 a2 a1 a2) y).trans (tile15 R (by omega) y)
  · rw [show (outsAt0 m c 0 h).2.1 = _ from (o16_A m c ⟨0, h⟩ a0 a1 a2 a1 a2).trans cW]
    exact R2.congr (f12 R) fun _ _ j _ => (Finset.sum_range_one fun s => (bs I (s / 8) (s % 8)).dw j).symm
  · rw [show (outsAt0 m c 0 h).2.2.1 = _ from (o17_A m c ⟨0, h⟩ a0 a1 a2 a1 a2).trans cK]
    exact R2.congr (f122 R) fun _ _ j _ => (Finset.sum_range_one fun s => (bs I (s / 8) (s % 8)).dsk j).symm
  · rw [show (outsAt0 m c 0 h).2.2.2.1 = _ from (oS0_A m c ⟨0, h⟩ a0 a1 a2 a1 a2).trans cS]
    exact R2.congr (f2 R) fun _ _ _ _ => rfl
  · rw [show (outsAt0 m c 0 h).2.2.2.2 = _ from (oS1_A m c ⟨0, h⟩ a0 a1 a2 a1 a2).trans cS]
    exact R2.congr (f3 R) fun _ _ _ _ => rfl

theorem invB (n : ℕ) (h : n + 1 < cfg0.N) (g : ¬ (n + 1) % 8 = 0) (J : Inv m c I n (Nat.lt_of_succ_lt h)) : Inv m c I (n + 1) h := by
  have h16 : n + 1 < 16 := h
  have e8 : (n + 1) / 8 = n / 8 := by omega
  have em : (n + 1) % 8 = n % 8 + 1 := by omega
  have R := reads H ⟨n + 1, h⟩ (CK := Cert.Ref.ck I ((n + 1) / 8) ((n + 1) % 8)) (CV := Cert.Ref.cv I ((n + 1) / 8) ((n + 1) % 8))
    (PW := fun j => ∑ s ∈ Finset.range (n + 1), (bs I (s / 8) (s % 8)).dw j)
    (PS := fun j => ∑ s ∈ Finset.range (n + 1), (bs I (s / 8) (s % 8)).dsk j)
    (R2.congr J.s0 fun r hr j hj => by rw [e8, em]; exact Cert.Ref.ck_succ (by omega) hr hj)
    (R2.congr J.s1 fun r hr j hj => by rw [e8, em]; exact Cert.Ref.cv_succ (by omega) hr hj) J.w J.k
  have a0 : ¬ (⟨n + 1, h⟩ : Fin cfg0.N).val % 8 = 0 := g
  have a1 : ¬ (⟨n + 1, h⟩ : Fin cfg0.N).val % 16 = 0 := by show ¬ (n + 1) % 16 = 0; omega
  have a2 : 1 ≤ (⟨n + 1, h⟩ : Fin cfg0.N).val := Nat.succ_le_succ (Nat.zero_le n)
  refine ⟨fun y => ?_, ?_, ?_, ?_, ?_⟩
  · exact (congrFun (o15_B m c ⟨n + 1, h⟩ a0 a1 a2 a1 a2) y).trans (tile15 R (Nat.mod_lt _ (by omega)) y)
  · rw [show (outsAt0 m c (n + 1) h).2.1 = _ from (o16_B m c ⟨n + 1, h⟩ a0 a1 a2 a1 a2).trans cW]
    exact R2.congr (f13 R) fun _ _ _ _ => (Finset.sum_range_succ _ _).symm
  · rw [show (outsAt0 m c (n + 1) h).2.2.1 = _ from (o17_B m c ⟨n + 1, h⟩ a0 a1 a2 a1 a2).trans cK]
    exact R2.congr (f4 R) fun _ _ _ _ => (Finset.sum_range_succ _ _).symm
  · rw [show (outsAt0 m c (n + 1) h).2.2.2.1 = _ from (oS0_B m c ⟨n + 1, h⟩ a0 a1 a2 a1 a2).trans cS]
    exact R2.congr (f2 R) fun _ _ _ _ => rfl
  · rw [show (outsAt0 m c (n + 1) h).2.2.2.2 = _ from (oS1_B m c ⟨n + 1, h⟩ a0 a1 a2 a1 a2).trans cS]
    exact R2.congr (f3 R) fun _ _ _ _ => rfl

theorem invC (n : ℕ) (h : n + 1 < cfg0.N) (g : (n + 1) % 8 = 0) (J : Inv m c I n (Nat.lt_of_succ_lt h)) : Inv m c I (n + 1) h := by
  have h16 : n + 1 < 16 := h
  have R := reads H ⟨n + 1, h⟩ (CK := Cert.Ref.ck I ((n + 1) / 8) ((n + 1) % 8)) (CV := Cert.Ref.cv I ((n + 1) / 8) ((n + 1) % 8))
    (PW := fun j => ∑ s ∈ Finset.range (n + 1), (bs I (s / 8) (s % 8)).dw j)
    (PS := fun j => ∑ s ∈ Finset.range (n + 1), (bs I (s / 8) (s % 8)).dsk j)
    (zk_r fun _ _ _ _ => by unfold Cert.Ref.ck; rw [if_pos g]) (zv_r fun _ _ _ _ => by unfold Cert.Ref.cv; rw [if_pos g]) J.w J.k
  have a0 : (⟨n + 1, h⟩ : Fin cfg0.N).val % 8 = 0 := g
  have a1 : ¬ (⟨n + 1, h⟩ : Fin cfg0.N).val % 16 = 0 := by show ¬ (n + 1) % 16 = 0; omega
  have a2 : 1 ≤ (⟨n + 1, h⟩ : Fin cfg0.N).val := Nat.succ_le_succ (Nat.zero_le n)
  refine ⟨fun y => ?_, ?_, ?_, ?_, ?_⟩
  · exact (congrFun (o15_C m c ⟨n + 1, h⟩ a0 a1 a2 a1 a2) y).trans (tile15 R (Nat.mod_lt _ (by omega)) y)
  · rw [show (outsAt0 m c (n + 1) h).2.1 = _ from (o16_C m c ⟨n + 1, h⟩ a0 a1 a2 a1 a2).trans cW]
    exact R2.congr (f13 R) fun _ _ _ _ => (Finset.sum_range_succ _ _).symm
  · rw [show (outsAt0 m c (n + 1) h).2.2.1 = _ from (o17_C m c ⟨n + 1, h⟩ a0 a1 a2 a1 a2).trans cK]
    exact R2.congr (f4 R) fun _ _ _ _ => (Finset.sum_range_succ _ _).symm
  · rw [show (outsAt0 m c (n + 1) h).2.2.2.1 = _ from (oS0_C m c ⟨n + 1, h⟩ a0 a1 a2 a1 a2).trans cS]
    exact R2.congr (f2 R) fun _ _ _ _ => rfl
  · rw [show (outsAt0 m c (n + 1) h).2.2.2.2 = _ from (oS1_C m c ⟨n + 1, h⟩ a0 a1 a2 a1 a2).trans cS]
    exact R2.congr (f3 R) fun _ _ _ _ => rfl

theorem inv : ∀ (n : ℕ) (hn : n < cfg0.N), Inv m c I n hn
  | 0, hn => inv0 H hn
  | n + 1, hn => by
    by_cases g : (n + 1) % 8 = 0
    · exact invC H n hn g (inv n _)
    · exact invB H n hn g (inv n _)

end Cert.Body
-- ==== Proof.Last.lean ====
/-
  The arrays after the last point, and the numbers behind finite arguments.
-/
module

public import proofs.«01_k».proof.Proof.Step
public import proofs.«01_k».proof.Proof.Gen.KernelIdeal.Value
public import proofs.«01_k».proof.Defs
public import proofs.«01_k».proof.Proof.Gen.Pre_finite
public import Idealize.ShloMosaic.Lib.Pipeline.ValueKit.Partial

@[expose] public section

set_option maxRecDepth 16384

noncomputable section

namespace Cert.Body

open Idealize.ShloMosaic Idealize.ShloMosaic.TcCoe Idealize.SL.Sem
open Cert.KernelIdeal Cert.KernelIdeal.Gen Cert.Re Cert.Spec
open Cert.Ref (In ArgR pt bs pj dwr dskr RN)
open scoped BigOperators

variable {m : (ℓ : Loc nD τ sig) → Buf (Elt Ideal) ℓ} {c : Dev nD}

theorem i15 : ∀ t : Fin cfg0.N, win0_15.index t = ![t.val / 8, 7 - t.val % 8, 0] :=
  (by decide +kernel : ∀ t : Fin grid0.N, win0_15.index t = ![t.val / 8, 7 - t.val % 8, 0])

theorem i15_0 (t : Fin cfg0.N) (a : ℕ) (h : a < 1) : win0_15.index t 0 + a = t.val / 8 := by
  rw [i15]
  show t.val / 8 + a = t.val / 8
  omega
theorem i15_1 (t : Fin cfg0.N) (a : ℕ) : win0_15.index t 1 * 256 + a = 256 * (7 - t.val % 8) + a := by
  rw [i15]
  show (7 - t.val % 8) * 256 + a = 256 * (7 - t.val % 8) + a
  omega
theorem i15_2 (t : Fin cfg0.N) (a : ℕ) : win0_15.index t 2 * 768 + a = a := by
  rw [i15]
  show 0 * 768 + a = a
  omega

def tl : Fin cfg0.N := ⟨15, by decide⟩

theorem R2_at {a b : ℕ} {x : Vec Ideal ⟨2, ![a, b]⟩ .f32} {X : ℕ → ℕ → ℝ} (h : R2 (a := a) (b := b) x X)
    (i : Shape.Idx ⟨2, ![a, b]⟩) : x i = ((X (i 0).val (i 1).val : ℝ) : EReal) :=
  (congrArg x (ValueIdx.eq_ix2 i)).trans (h (i 0) (i 1))

variable {I : In} (H : Args m c I)
include H

theorem arr16 : (dats m 0 c).arrAt 16 cfg0.N = fun i : S1x512.Idx => ((dwr I (i 1).val : ℝ) : EReal) := by
  refine (dats m 0 c).arrAt_eq_of_after_last 16 tl (by decide +kernel) _ fun j => ?_
  blk_simp
  rw [after0_16]
  have k := (inv H tl.val tl.isLt).w
  generalize (outsAt0 m c tl.val tl.isLt).2.1 = o at k ⊢
  refine (R2_at k _).trans ?_
  exact congrArg (fun z : ℝ => (z : EReal)) (Cert.Ref.dw_sum _)

theorem arr17 : (dats m 0 c).arrAt 17 cfg0.N = fun i : S1x8.Idx => ((dskr I (i 1).val : ℝ) : EReal) := by
  refine (dats m 0 c).arrAt_eq_of_after_last 17 tl (by decide +kernel) _ fun j => ?_
  blk_simp
  rw [after0_17]
  have k := (inv H tl.val tl.isLt).k
  generalize (outsAt0 m c tl.val tl.isLt).2.2.1 = o at k ⊢
  refine (R2_at k _).trans ?_
  exact congrArg (fun z : ℝ => (z : EReal)) (Cert.Ref.dsk_sum (j 1).isLt)

set_option maxHeartbeats 2000000 in
theorem arr15 : (dats m 0 c).arrAt 15 cfg0.N = fun i : S2x2048x2816.Idx =>
    if (i 2).val < 768 then ((pj I (i 0).val (i 1).val (i 2).val : ℝ) : EReal) else m (c, Proc.devRef .tc main_arg6) i := by
  refine (dats m 0 c).arrAt_eq_of_coversWhere_of_agree 15 _ (fun β => β (2 : Fin _) = 0) (by decide +kernel) (fun t hf y => ?_) (fun j hj => ?_)
  · blk_simp
    rw [after0_15]
    have k := (inv H t.val t.isLt).o
    generalize (outsAt0 m c t.val t.isLt).1 = o at k ⊢
    have h2 : (y 2).val < 768 := ((cfg0.win 15).xinj (cfg0.grid.coords t) y 2).isLt
    have h0 : (y 0).val < 1 := ((cfg0.win 15).xinj (cfg0.grid.coords t) y 0).isLt
    rw [i15_0 t _ h0, i15_1, i15_2, if_pos h2]
    exact k _
  · blk_simp [Pipeline.Window.cell_apply] at hj
    have g : ¬ ((cfg0.win 15).arr.view.emb j 2).val < 768 := by
      blk_simp
      omega
    rw [if_neg g]
    exact congrFun ((A_eq m c 15).trans (Cert.Host.w_v248_0 m c)) _

omit H

/-- A number whose size is below infinity is a real number. -/
theorem real_of {x : EReal} (h : Ideal.cmp .olt (max x (-x)) (Ideal.ofBits .f32 0x7F800000#32) = 1#1) :
    x = ((x.toReal : ℝ) : EReal) := by
  have htop : Ideal.ofBits .f32 0x7F800000#32 = ⊤ := by simp [Ideal.ofBits, Ideal.ieee]
  rw [htop] at h
  have h2 : max x (-x) < ⊤ := by
    by_contra g
    unfold Ideal.cmp at h
    simp [g] at h
  refine (EReal.coe_toReal (fun e => ?_) (fun e => ?_)).symm
  · subst e; simp at h2
  · subst e; simp at h2

def g2 {a b : ℕ} (x : Vec Ideal ⟨2, ![a, b]⟩ .f32) (j : ℕ) : ℝ :=
  if h : 0 < a ∧ j < b then EReal.toReal (x (ValueIdx.ix2 ⟨0, h.1⟩ ⟨j, h.2⟩)) else 0
def g3 {a b d : ℕ} (x : Vec Ideal ⟨3, ![a, b, d]⟩ .f32) (i j k : ℕ) : ℝ :=
  if h : i < a ∧ j < b ∧ k < d then EReal.toReal (x (ValueIdx.ix3 ⟨i, h.1⟩ ⟨j, h.2.1⟩ ⟨k, h.2.2⟩)) else 0

theorem g3_r {a b d : ℕ} (x : Vec Ideal ⟨3, ![a, b, d]⟩ .f32) (h : ∀ i, x i = ((EReal.toReal (x i) : ℝ) : EReal)) :
    RN x fun i => g3 x (i 0).val (i 1).val (i 2).val := fun i => by
  beta_reduce
  unfold g3
  rw [dif_pos ⟨(i 0).isLt, (i 1).isLt, (i 2).isLt⟩]
  exact (h i).trans (congrArg (fun y => ((EReal.toReal (x y) : ℝ) : EReal)) (ValueIdx.eq_ix3 i))

theorem g2_r {b : ℕ} (x : Vec Ideal ⟨2, ![1, b]⟩ .f32) (h : ∀ i, x i = ((EReal.toReal (x i) : ℝ) : EReal)) :
    RN x fun i => g2 x (i 1).val := fun i => by
  beta_reduce
  unfold g2
  rw [dif_pos ⟨Nat.one_pos, (i 1).isLt⟩]
  refine (h i).trans (congrArg (fun y => ((EReal.toReal (x y) : ℝ) : EReal)) ((ValueIdx.eq_ix2 i).trans ?_))
  exact congrArg (fun u => ValueIdx.ix2 u (i 1)) (Subsingleton.elim (α := Fin 1) _ _)

variable (m c)

/-- The real numbers of core `c`. -/
def nums : In where
  Q := g3 (a := 2) (b := 2048) (d := 512) (m (c, Proc.devRef .tc main_arg0))
  K := g3 (a := 2) (b := 2048) (d := 128) (m (c, Proc.devRef .tc main_arg1))
  V := g3 (a := 2) (b := 2048) (d := 128) (m (c, Proc.devRef .tc main_arg2))
  SK := g2 (a := 1) (b := 8) (m (c, Proc.devRef .tc main_arg3))
  W := g2 (a := 1) (b := 512) (m (c, Proc.devRef .tc main_arg4))
  DA := g3 (a := 2) (b := 2048) (d := 1024) (m (c, Proc.devRef .tc main_arg5))

theorem nums_r (h : Cert.Pre_KernelIdeal_finite m) : Args m c (nums m c) where
  q := g3_r _ fun i => real_of (congrFun (h c).1 i)
  k := g3_r _ fun i => real_of (congrFun (h c).2.1 i)
  v := g3_r _ fun i => real_of (congrFun (h c).2.2.1 i)
  sk := g2_r _ fun i => real_of (congrFun (h c).2.2.2.1 i)
  w := g2_r _ fun i => real_of (congrFun (h c).2.2.2.2.1 i)
  da := g3_r _ fun i => real_of (congrFun (h c).2.2.2.2.2 i)

end Cert.Body
-- ==== Proof.Prod.lean ====
/-
  The three products a block can be, read at an index as a sum of extended reals: no order of summation is involved, so
  nothing needs to be finite.
-/
module

public import proofs.«01_k».proof.Proof.Re

@[expose] public section

namespace Cert.Prod

open Idealize.ShloMosaic Cert.Re
open Idealize.ShloMosaic.ValueIdx (contrEquiv1 contrEquiv1_symm_val)
open scoped BigOperators

variable {a b c n : ℕ} {φ ψ : FTy}

theorem dot_congr {f g f' g' : Fin n → EReal} (h : ∀ k, f k = f' k) (h' : ∀ k, g k = g' k) :
    ∑ k, f k * g k = ∑ k, f' k * g' k :=
  Finset.sum_congr rfl fun k _ => by rw [h k, h' k]

theorem dot_comm {f g f' g' : Fin n → EReal} (h : ∀ k, f k = g' k) (h' : ∀ k, g k = f' k) :
    ∑ k, f k * g k = ∑ k, f' k * g' k :=
  Finset.sum_congr rfl fun k _ => by rw [h k, h' k, mul_comm]

theorem nn (x : FVec Ideal ⟨2, ![a, b]⟩ φ) (y : FVec Ideal ⟨2, ![b, c]⟩ ψ) (prec : Option ContractPrecision)
    (i : Shape.Idx ⟨2, ![a, c]⟩) :
    FloatOps.matmul (DotDims.plain a b c) prec x y (constant ⟨2, ![a, c]⟩ .f32 0x00000000#32) i
      = ∑ k : Fin b, (x (ValueIdx.ix2 (i 0) k) : EReal) * y (ValueIdx.ix2 k (i 1)) := by
  refine (congrArg _ (ValueIdx.eq_ix2 i)).trans ?_
  refine (Ideal.matmul_plain_apply (M := a) (K := b) (N := c) prec x y _ (i 0) (i 1)).trans ?_
  exact (congrArg (· + _) (zero_acc _)).trans (zero_add _)

theorem nt (x : FVec Ideal ⟨2, ![a, b]⟩ φ) (y : FVec Ideal ⟨2, ![c, b]⟩ ψ) (prec : Option ContractPrecision)
    (i : Shape.Idx ⟨2, ![a, c]⟩) :
    FloatOps.matmul (DotDims.transposedRhs a b c) prec x y (constant ⟨2, ![a, c]⟩ .f32 0x00000000#32) i
      = ∑ k : Fin b, (x (ValueIdx.ix2 (i 0) k) : EReal) * y (ValueIdx.ix2 (i 1) k) := by
  refine (congrArg _ (ValueIdx.eq_ix2 i)).trans ?_
  refine (Ideal.matmul_transposedRhs_apply (M := a) (K := b) (N := c) prec x y _ (i 0) (i 1)).trans ?_
  exact (congrArg (· + _) (zero_acc _)).trans (zero_add _)

theorem tn (x : FVec Ideal ⟨2, ![b, a]⟩ φ) (y : FVec Ideal ⟨2, ![b, c]⟩ ψ) (prec : Option ContractPrecision)
    (i : Shape.Idx ⟨2, ![a, c]⟩) :
    FloatOps.matmul (lead a b c) prec x y (constant ⟨2, ![a, c]⟩ .f32 0x00000000#32) i
      = ∑ k : Fin b, (x (ValueIdx.ix2 k (i 0)) : EReal) * y (ValueIdx.ix2 k (i 1)) := by
  rw [Ideal.matmul_apply, zero_acc, zero_add,
    ← Equiv.sum_comp (contrEquiv1 (lead a b c) b rfl rfl).symm]
  refine Finset.sum_congr rfl fun l _ => ?_
  have hk := contrEquiv1_symm_val (lead a b c) b rfl rfl l
  have el : (lead a b c).lhsIdx i ((contrEquiv1 (lead a b c) b rfl rfl).symm l) = ValueIdx.ix2 l (i 0) := by
    funext ax; apply Fin.ext
    match ax with
    | ⟨0, _⟩ => exact hk
    | ⟨1, _⟩ => rfl
  have er : (lead a b c).rhsIdx i ((contrEquiv1 (lead a b c) b rfl rfl).symm l) = ValueIdx.ix2 l (i 1) := by
    funext ax; apply Fin.ext
    match ax with
    | ⟨0, _⟩ => exact hk
    | ⟨1, _⟩ => rfl
  rw [el, er]
  rfl

end Cert.Prod
-- ==== Proof.UpProjVal.lean ====
/-
  The first matrix of the mixer and its rectification: each block of the kernel's array is the reference's.
-/
module

public import proofs.«01_k».proof.Proof.Prod
public import proofs.«01_k».proof.Proof.Gen.UpProjIdeal.Value
public import proofs.«01_k».proof.Proof.Gen.UpProjRefIdeal.Read
public import proofs.«01_k».proof.Defs
public import Idealize.ShloMosaic.Lib.Pipeline.ValueKit

@[expose] public section

set_option maxRecDepth 16384

noncomputable section

namespace Cert.UpProjVal

open Idealize.ShloMosaic Idealize.ShloMosaic.TcCoe Idealize.SL.Sem
open Cert.UpProjIdeal Cert.UpProjIdeal.Gen
open scoped BigOperators

variable (m : (ℓ : Loc nD τ sig) → Buf (Elt Ideal) ℓ) (c : Dev nD)

theorem e0 : ∀ t : Fin cfg0.N, win0_0.index t = ![t.val / 4, 0] :=
  (by decide +kernel : ∀ t : Fin grid0.N, win0_0.index t = ![t.val / 4, 0])
theorem e1 : ∀ t : Fin cfg0.N, win0_1.index t = ![t.val % 4, 0, 0] :=
  (by decide +kernel : ∀ t : Fin grid0.N, win0_1.index t = ![t.val % 4, 0, 0])
theorem e2 : ∀ t : Fin cfg0.N, win0_2.index t = ![t.val / 4, t.val % 4] :=
  (by decide +kernel : ∀ t : Fin grid0.N, win0_2.index t = ![t.val / 4, t.val % 4])

theorem v3 (i : S4096x1024.Idx) : V m c main_v3 i = m (c, Proc.devRef .tc main_arg0) i := by
  entry_read
  rfl
/-- The column of the matrix an index of its four parts stands for. -/
def col (i : S4x1024x1024.Idx) : Fin 4096 := ⟨(i 0).val * 1024 + (i 2).val, by
  have h0 : (i 0).val < 4 := (i 0).isLt
  have h2 : (i 2).val < 1024 := (i 2).isLt
  omega⟩
theorem v2 (i : S4x1024x1024.Idx) : V m c main_v2 i = m (c, Proc.devRef .tc main_arg1) (ix2 (i 1) (col i) : S1024x4096.Idx) := by
  entry_read
  unfold col
  pointwise

theorem pay (x : Vec Ideal S2048x1024 .bf16) (y : Vec Ideal S1x1024x1024 .bf16) (i : S2048x1024.Idx) :
    k0_pay1 x y i = max (∑ k : Fin 1024, (x (ValueIdx.ix2 (i 0) k) : EReal) * y (ValueIdx.ix3 (0 : Fin 1) k (i 1))) (Ideal.ofBits .f32 0x00000000#32) := by
  unfold k0_pay1
  refine congrArg (fun z : EReal => max z (Ideal.ofBits .f32 0x00000000#32)) ?_
  refine (Prod.nn (a := 2048) (b := 1024) (c := 1024) _ _ none i).trans ?_
  refine Prod.dot_congr (fun k => shapeCast_apply _ _ _ _ rfl) (fun k => ?_)
  pointwise
  rfl

theorem arr : (dats m 0 c).arrAt 2 cfg0.N =
    Cert.UpProjRefIdeal.Read.val_main_v2 (F := Ideal) (m (c, Proc.devRef .tc main_arg0)) (m (c, Proc.devRef .tc main_arg1)) := by
  refine (dats m 0 c).arrAt_eq_of_covers 2 _ (by decide +kernel) fun t hf y => ?_
  blk_simp
  rw [after0_2]
  frame_out
  refine (pay _ _ _).trans ?_
  refine Eq.trans (congrArg (fun z : EReal => max z (Ideal.ofBits .f32 0x00000000#32)) ?_)
    (b := max (Cert.UpProjRefIdeal.Read.val_main_v0 (F := Ideal) (m (c, Proc.devRef .tc main_arg0)) (m (c, Proc.devRef .tc main_arg1))
      ((win0_2.blk t).view.emb y)) (Ideal.ofBits .f32 0x00000000#32)) rfl
  refine Eq.trans ?_ (Cert.UpProjRefIdeal.Read.val_main_v0_apply _ _ _).symm
  refine Prod.dot_congr (fun k => ?_) (fun k => ?_)
  · refine Eq.trans ?_ (v3 m c _)
    blk_simp [iblk]
    refine congrArg (V m c main_v3) ?_
    blk_ext [e0, e2]
  · refine Eq.trans (b := V m c main_v2 (ValueIdx.ix3 ⟨t.val % 4, Nat.mod_lt _ (by decide)⟩ k (y 1))) ?_
      ((v2 m c _).trans (congrArg (m (c, Proc.devRef .tc main_arg1)) ?_))
    rotate_left
    · blk_ext [e2, col]
    blk_simp [iblk]
    refine congrArg (V m c main_v2) ?_
    blk_ext [e1, e2]

end Cert.UpProjVal
-- ==== Proof.DownBwdVal.lean ====
/-
  The gradient before the rectification: each block of the kernel's array is the reference's product, scaled by twice the
  rectified value, which is zero where the reference selects zero.
-/
module

public import proofs.«01_k».proof.Proof.Prod
public import proofs.«01_k».proof.Proof.Gen.DownBwdIdeal.Value
public import proofs.«01_k».proof.Proof.Gen.DownBwdRefIdeal.Read
public import proofs.«01_k».proof.Defs
public import Idealize.ShloMosaic.Lib.Pipeline.ValueKit

@[expose] public section

set_option maxRecDepth 16384

noncomputable section

namespace Cert.DownBwdVal

open Idealize.ShloMosaic Idealize.ShloMosaic.TcCoe Idealize.SL.Sem
open Cert.DownBwdIdeal Cert.DownBwdIdeal.Gen
open scoped BigOperators

variable (m : (ℓ : Loc nD τ sig) → Buf (Elt Ideal) ℓ) (c : Dev nD)

theorem e0 : ∀ t : Fin cfg0.N, win0_0.index t = ![t.val / 4, 0] :=
  (by decide +kernel : ∀ t : Fin grid0.N, win0_0.index t = ![t.val / 4, 0])
theorem e1 : ∀ t : Fin cfg0.N, win0_1.index t = ![t.val % 4, 0] :=
  (by decide +kernel : ∀ t : Fin grid0.N, win0_1.index t = ![t.val % 4, 0])
theorem e2 : ∀ t : Fin cfg0.N, win0_2.index t = ![t.val / 4, t.val % 4] :=
  (by decide +kernel : ∀ t : Fin grid0.N, win0_2.index t = ![t.val / 4, t.val % 4])
theorem e3 : ∀ t : Fin cfg0.N, win0_3.index t = ![t.val / 4, t.val % 4] :=
  (by decide +kernel : ∀ t : Fin grid0.N, win0_3.index t = ![t.val / 4, t.val % 4])

theorem v1 (i : S4096x4096.Idx) : V m c main_v1 i = Cert.DownBwdRefIdeal.Read.val_main_v0 (F := Ideal) (m (c, Proc.devRef .tc main_arg0)) i := by
  entry_read
  rfl
theorem v2 (i : S4096x1024.Idx) : V m c main_v2 i = m (c, Proc.devRef .tc main_arg2) i := by
  entry_read
  rfl
theorem v3 (i : S4096x1024.Idx) : V m c main_v3 i = m (c, Proc.devRef .tc main_arg1) i := by
  entry_read
  rfl

theorem pay (x : Vec Ideal S2048x1024 .bf16) (y : Vec Ideal S1024x1024 .bf16) (z : Vec Ideal S2048x1024 .bf16) (i : S2048x1024.Idx) :
    k0_pay1 x y z i = (∑ k : Fin 1024, (x (ValueIdx.ix2 (i 0) k) : EReal) * y (ValueIdx.ix2 (i 1) k))
      * (Ideal.ofBits .f32 0x40000000#32 * z i) := by
  unfold k0_pay1
  refine congrArg₂ (fun u v : EReal => u * (Ideal.ofBits .f32 0x40000000#32 * v)) ?_ (shapeCast_apply z _ i i rfl)
  refine (Prod.nt (a := 2048) (b := 1024) (c := 1024) _ _ none i).trans ?_
  exact Prod.dot_congr (fun k => shapeCast_apply _ _ _ _ rfl) (fun k => shapeCast_apply _ _ _ _ rfl)

/-- Where the rectified value is not above zero, the product with it is the zero the reference selects. -/
theorem sel (x g : EReal) :
    g * (Ideal.ofBits .f32 0x40000000#32 * max x (Ideal.ofBits .f32 0x00000000#32))
      = Scalar.select (Ideal.cmp .ogt x (Ideal.ofBits .f32 0x00000000#32))
          (g * (Ideal.ofBits .f32 0x40000000#32 * max x (Ideal.ofBits .f32 0x00000000#32))) (Ideal.ofBits .f32 0x00000000#32) := by
  rw [Ideal.ofBits_zero_f32]
  unfold Ideal.cmp Scalar.select
  by_cases h : x > 0
  · simp [h]
  · rw [max_eq_right (not_lt.1 h)]
    simp [h]

theorem ref (i : S4096x4096.Idx) (x : (⟨S4096x4096, .f32⟩ : BufTy).Contents (Elt Ideal)) (w d : (⟨S4096x1024, .f32⟩ : BufTy).Contents (Elt Ideal)) :
    Cert.DownBwdRefIdeal.Read.val_main_v12 (F := Ideal) x w d i
      = (Cert.DownBwdRefIdeal.Read.val_main_v8 (F := Ideal) w d i : EReal)
        * (Ideal.ofBits .f32 0x40000000#32 * Cert.DownBwdRefIdeal.Read.val_main_v0 (F := Ideal) x i) :=
  (sel (x i) (Cert.DownBwdRefIdeal.Read.val_main_v8 (F := Ideal) w d i)).symm

theorem arr : (dats m 0 c).arrAt 3 cfg0.N =
    Cert.DownBwdRefIdeal.Read.val_main_v12 (F := Ideal) (m (c, Proc.devRef .tc main_arg0)) (m (c, Proc.devRef .tc main_arg1))
      (m (c, Proc.devRef .tc main_arg2)) := by
  refine (dats m 0 c).arrAt_eq_of_covers 3 _ (by decide +kernel) fun t hf y => ?_
  blk_simp
  rw [after0_3]
  frame_out
  refine (pay _ _ _ _).trans (Eq.trans ?_ (ref _ _ _ _).symm)
  refine congrArg₂ (fun u v : EReal => u * (Ideal.ofBits .f32 0x40000000#32 * v)) (Eq.trans ?_ (Cert.DownBwdRefIdeal.Read.val_main_v8_apply _ _ _).symm) ?_
  · refine Prod.dot_congr (fun k => ?_) (fun k => ?_)
    · refine Eq.trans ?_ (v2 m c _)
      blk_simp [iblk]
      refine congrArg (V m c main_v2) ?_
      blk_ext [e0, e3]
    · refine Eq.trans ?_ (v3 m c _)
      blk_simp [iblk]
      refine congrArg (V m c main_v3) ?_
      blk_ext [e1, e3]
  · refine Eq.trans ?_ (v1 m c _)
    blk_simp [iblk]
    refine congrArg (V m c main_v1) ?_
    blk_ext [e2, e3]

end Cert.DownBwdVal
-- ==== Proof.DownWgradVal.lean ====
/-
  The gradient of the second matrix of the mixer, laid out for the exchange: each block of the kernel's array is the reference's
  product with the squared activation.
-/
module

public import proofs.«01_k».proof.Proof.Prod
public import proofs.«01_k».proof.Proof.Gen.DownWgradIdeal.Value
public import proofs.«01_k».proof.Proof.Gen.DownWgradRefIdeal.Read
public import proofs.«01_k».proof.Defs
public import Idealize.ShloMosaic.Lib.Pipeline.ValueKit

@[expose] public section

set_option maxRecDepth 16384

noncomputable section

namespace Cert.DownWgradVal

open Idealize.ShloMosaic Idealize.ShloMosaic.TcCoe Idealize.SL.Sem
open Cert.DownWgradIdeal Cert.DownWgradIdeal.Gen
open scoped BigOperators

variable (m : (ℓ : Loc nD τ sig) → Buf (Elt Ideal) ℓ) (c : Dev nD)

theorem e0 : ∀ t : Fin cfg0.N, win0_0.index t = ![0, t.val] :=
  (by decide +kernel : ∀ t : Fin grid0.N, win0_0.index t = ![0, t.val])
theorem e1 : ∀ t : Fin cfg0.N, win0_1.index t = ![0, 0] :=
  (by decide +kernel : ∀ t : Fin grid0.N, win0_1.index t = ![0, 0])
theorem e2 : ∀ t : Fin cfg0.N, win0_2.index t = ![t.val % 2, t.val / 2, 0, 0] :=
  (by decide +kernel : ∀ t : Fin grid0.N, win0_2.index t = ![t.val % 2, t.val / 2, 0, 0])

theorem v1 (i : S4096x4096.Idx) : V m c main_v1 i = Cert.DownWgradRefIdeal.Read.val_main_v1 (F := Ideal) (m (c, Proc.devRef .tc main_arg0)) i := by
  entry_read
  rfl
theorem v2 (i : S4096x1024.Idx) : V m c main_v2 i = m (c, Proc.devRef .tc main_arg1) i := by
  entry_read
  rfl

theorem cut (v : FVec Ideal S512x1024 .f32) (i : S1x1x512x1024.Idx) :
    shapeCast S1x1x512x1024 v shapeCasts_S512x1024_S1x1x512x1024 i = v (ValueIdx.ix2 (i 2) (i 3)) := by
  pointwise
  rfl

theorem pay (x : Vec Ideal S4096x512 .bf16) (y : Vec Ideal S4096x1024 .bf16) (i : S1x1x512x1024.Idx) :
    k0_pay1 x y i = ∑ k : Fin 4096, ((x (ValueIdx.ix2 k (i 2)) : EReal) * x (ValueIdx.ix2 k (i 2))) * y (ValueIdx.ix2 k (i 3)) := by
  unfold k0_pay1
  refine (cut _ i).trans ((Prod.tn (a := 512) (b := 4096) (c := 1024) _ _ none (ValueIdx.ix2 (i 2) (i 3))).trans ?_)
  refine Prod.dot_congr (fun k => ?_) (fun k => shapeCast_apply _ _ _ _ rfl)
  exact congrArg (fun z : EReal => z * z) (shapeCast_apply x _ _ _ rfl)

theorem arr : (dats m 0 c).arrAt 2 cfg0.N =
    Cert.DownWgradRefIdeal.Read.val_main_v7 (F := Ideal) (m (c, Proc.devRef .tc main_arg0)) (m (c, Proc.devRef .tc main_arg1)) := by
  refine (dats m 0 c).arrAt_eq_of_covers 2 _ (by decide +kernel) fun t hf y => ?_
  blk_simp
  rw [after0_2]
  frame_out
  refine (pay _ _ _).trans (Eq.trans ?_ ((Cert.DownWgradRefIdeal.Read.val_main_v7_apply _ _ _).trans
    ((Cert.DownWgradRefIdeal.Read.val_main_v6_apply _ _ _).trans ((Cert.DownWgradRefIdeal.Read.val_main_v5_apply _ _ _).trans
    (Cert.DownWgradRefIdeal.Read.val_main_v4_apply _ _ _)))).symm)
  refine Prod.dot_comm (fun k => ?_) (fun k => ?_)
  · refine congrArg (fun z : EReal => z * z) ?_
    refine Eq.trans ?_ (v1 m c _)
    blk_simp [iblk]
    refine congrArg (V m c main_v1) ?_
    blk_ext [e0, e2]
    show t.val * 512 + (y 2).val = _
    omega
  · refine Eq.trans ?_ (v2 m c _)
    blk_simp [iblk]
    refine congrArg (V m c main_v2) ?_
    blk_ext [e1, e2]
    show (y 3).val = _
    omega

end Cert.DownWgradVal
-- ==== Proof.UpWgradVal.lean ====
/-
  The gradient of the first matrix of the mixer, laid out for the exchange: each block of the kernel's array is the reference's product.
-/
module

public import proofs.«01_k».proof.Proof.Prod
public import proofs.«01_k».proof.Proof.Gen.UpWgradIdeal.Value
public import proofs.«01_k».proof.Proof.Gen.UpWgradRefIdeal.Read
public import proofs.«01_k».proof.Defs
public import Idealize.ShloMosaic.Lib.Pipeline.ValueKit

@[expose] public section

set_option maxRecDepth 16384

noncomputable section

namespace Cert.UpWgradVal

open Idealize.ShloMosaic Idealize.ShloMosaic.TcCoe Idealize.SL.Sem
open Cert.UpWgradIdeal Cert.UpWgradIdeal.Gen
open scoped BigOperators

variable (m : (ℓ : Loc nD τ sig) → Buf (Elt Ideal) ℓ) (c : Dev nD)

theorem e0 : ∀ t : Fin cfg0.N, win0_0.index t = ![0, 0] :=
  (by decide +kernel : ∀ t : Fin grid0.N, win0_0.index t = ![0, 0])
theorem e1 : ∀ t : Fin cfg0.N, win0_1.index t = ![0, t.val] :=
  (by decide +kernel : ∀ t : Fin grid0.N, win0_1.index t = ![0, t.val])
theorem e2 : ∀ t : Fin cfg0.N, win0_2.index t = ![0, t.val / 2, 0, t.val % 2] :=
  (by decide +kernel : ∀ t : Fin grid0.N, win0_2.index t = ![0, t.val / 2, 0, t.val % 2])

theorem v0 (i : S4096x1024.Idx) : V m c main_v0 i = m (c, Proc.devRef .tc main_arg0) i := by
  entry_read
  rfl
theorem v1 (i : S4096x4096.Idx) : V m c main_v1 i = m (c, Proc.devRef .tc main_arg1) i := by
  entry_read
  rfl

/-- The row of the product an index of the block stands for. -/
def row (i : S2x1x512x512.Idx) : Fin 1024 := ⟨(i 0).val * 512 + (i 2).val, by
  have h0 : (i 0).val < 2 := (i 0).isLt
  have h1 : (i 1).val < 1 := (i 1).isLt
  have h2 : (i 2).val < 512 := (i 2).isLt
  omega⟩
/-- The column of the product an index of the block stands for. -/
def col (i : S2x1x512x512.Idx) : Fin 512 := ⟨(i 3).val, (i 3).isLt⟩
theorem cut (v : FVec Ideal S1024x512 .f32) (i : S2x1x512x512.Idx) :
    shapeCast S2x1x512x512 (shapeCast S2x512x512 v shapeCasts_S1024x512_S2x512x512) shapeCasts_S2x512x512_S2x1x512x512 i = v (ValueIdx.ix2 (row i) (col i)) := by
  unfold row col
  pointwise
  rfl

theorem pay (x : Vec Ideal S4096x1024 .bf16) (y : Vec Ideal S4096x512 .bf16) (i : S2x1x512x512.Idx) :
    k0_pay1 x y i = ∑ k : Fin 4096, (x (ValueIdx.ix2 k (row i)) : EReal) * y (ValueIdx.ix2 k (col i)) := by
  unfold k0_pay1
  refine (cut _ i).trans ((Prod.tn (a := 1024) (b := 4096) (c := 512) _ _ none (ValueIdx.ix2 (row i) (col i))).trans ?_)
  exact Prod.dot_congr (fun k => shapeCast_apply _ _ _ _ rfl) (fun k => shapeCast_apply _ _ _ _ rfl)

theorem arr : (dats m 0 c).arrAt 2 cfg0.N =
    Cert.UpWgradRefIdeal.Read.val_main_v5 (F := Ideal) (m (c, Proc.devRef .tc main_arg0)) (m (c, Proc.devRef .tc main_arg1)) := by
  refine (dats m 0 c).arrAt_eq_of_covers 2 _ (by decide +kernel) fun t hf y => ?_
  blk_simp
  rw [after0_2]
  frame_out
  refine (pay _ _ _).trans (Eq.trans ?_ ((Cert.UpWgradRefIdeal.Read.val_main_v5_apply _ _ _).trans ((Cert.UpWgradRefIdeal.Read.val_main_v4_apply _ _ _).trans ((Cert.UpWgradRefIdeal.Read.val_main_v3_apply _ _ _).trans (Cert.UpWgradRefIdeal.Read.val_main_v2_apply _ _ _)))).symm)
  refine Prod.dot_comm (fun k => ?_) (fun k => ?_)
  · refine Eq.trans ?_ (v0 m c _)
    blk_simp [iblk]
    refine congrArg (V m c main_v0) ?_
    blk_ext [e0, e2, row, col]
  · refine Eq.trans ?_ (v1 m c _)
    blk_simp [iblk]
    refine congrArg (V m c main_v1) ?_
    blk_ext [e1, e2, row, col]

end Cert.UpWgradVal
-- ==== Proof.OutBwdVal.lean ====
/-
  The gradient into the input of the output projection: each block of the kernel's array is the reference's product.
-/
module

public import proofs.«01_k».proof.Proof.Prod
public import proofs.«01_k».proof.Proof.Gen.OutBwdIdeal.Value
public import proofs.«01_k».proof.Proof.Gen.OutBwdRefIdeal.Read
public import proofs.«01_k».proof.Defs
public import Idealize.ShloMosaic.Lib.Pipeline.ValueKit

@[expose] public section

set_option maxRecDepth 16384

noncomputable section

namespace Cert.OutBwdVal

open Idealize.ShloMosaic Idealize.ShloMosaic.TcCoe Idealize.SL.Sem
open Cert.OutBwdIdeal Cert.OutBwdIdeal.Gen
open scoped BigOperators

variable (m : (ℓ : Loc nD τ sig) → Buf (Elt Ideal) ℓ) (c : Dev nD)

theorem e0 : ∀ t : Fin cfg0.N, win0_0.index t = ![t.val, 0] :=
  (by decide +kernel : ∀ t : Fin grid0.N, win0_0.index t = ![t.val, 0])
theorem e1 : ∀ t : Fin cfg0.N, win0_1.index t = ![0, 0] :=
  (by decide +kernel : ∀ t : Fin grid0.N, win0_1.index t = ![0, 0])
theorem e2 : ∀ t : Fin cfg0.N, win0_2.index t = ![t.val, 0] :=
  (by decide +kernel : ∀ t : Fin grid0.N, win0_2.index t = ![t.val, 0])

theorem v0 (i : S4096x1024.Idx) : V m c main_v0 i = m (c, Proc.devRef .tc main_arg0) i := by
  entry_read
  rfl
theorem v1 (i : S1024x1024.Idx) : V m c main_v1 i = m (c, Proc.devRef .tc main_arg1) i := by
  entry_read
  rfl

theorem pay (x : Vec Ideal S512x1024 .bf16) (y : Vec Ideal S1024x1024 .bf16) (i : S512x1024.Idx) :
    k0_pay1 x y i = ∑ k : Fin 1024, (x (ValueIdx.ix2 (i 0) k) : EReal) * y (ValueIdx.ix2 (i 1) k) := by
  unfold k0_pay1
  refine (Prod.nt (a := 512) (b := 1024) (c := 1024) _ _ none i).trans ?_
  exact Prod.dot_congr (fun k => shapeCast_apply _ _ _ _ rfl) (fun k => shapeCast_apply _ _ _ _ rfl)

theorem arr : (dats m 0 c).arrAt 2 cfg0.N =
    Cert.OutBwdRefIdeal.Read.val_main_v2 (F := Ideal) (m (c, Proc.devRef .tc main_arg0)) (m (c, Proc.devRef .tc main_arg1)) := by
  refine (dats m 0 c).arrAt_eq_of_covers 2 _ (by decide +kernel) fun t hf y => ?_
  blk_simp
  rw [after0_2]
  frame_out
  refine (pay _ _ _).trans (Eq.trans ?_ (Cert.OutBwdRefIdeal.Read.val_main_v2_apply _ _ _).symm)
  refine Prod.dot_congr (fun k => ?_) (fun k => ?_)
  · refine Eq.trans ?_ (v0 m c _)
    blk_simp [iblk]
    refine congrArg (V m c main_v0) ?_
    blk_ext [e0, e2]
  · refine Eq.trans ?_ (v1 m c _)
    blk_simp [iblk]
    refine congrArg (V m c main_v1) ?_
    blk_ext [e1, e2]

end Cert.OutBwdVal
-- ==== Proof.OutWgradVal.lean ====
/-
  The gradient of the output projection, laid out for the exchange: each block of the kernel's array is the reference's product.
-/
module

public import proofs.«01_k».proof.Proof.Prod
public import proofs.«01_k».proof.Proof.Gen.OutWgradIdeal.Value
public import proofs.«01_k».proof.Proof.Gen.OutWgradRefIdeal.Read
public import proofs.«01_k».proof.Defs
public import Idealize.ShloMosaic.Lib.Pipeline.ValueKit

@[expose] public section

set_option maxRecDepth 16384

noncomputable section

namespace Cert.OutWgradVal

open Idealize.ShloMosaic Idealize.ShloMosaic.TcCoe Idealize.SL.Sem
open Cert.OutWgradIdeal Cert.OutWgradIdeal.Gen
open scoped BigOperators

variable (m : (ℓ : Loc nD τ sig) → Buf (Elt Ideal) ℓ) (c : Dev nD)

theorem e0 : ∀ t : Fin cfg0.N, win0_0.index t = ![0, t.val / 2] :=
  (by decide +kernel : ∀ t : Fin grid0.N, win0_0.index t = ![0, t.val / 2])
theorem e1 : ∀ t : Fin cfg0.N, win0_1.index t = ![0, t.val % 2] :=
  (by decide +kernel : ∀ t : Fin grid0.N, win0_1.index t = ![0, t.val % 2])
theorem e2 : ∀ t : Fin cfg0.N, win0_2.index t = ![t.val % 2, t.val / 2, 0, 0] :=
  (by decide +kernel : ∀ t : Fin grid0.N, win0_2.index t = ![t.val % 2, t.val / 2, 0, 0])

theorem v0 (i : S4096x1024.Idx) : V m c main_v0 i = m (c, Proc.devRef .tc main_arg0) i := by
  entry_read
  rfl
theorem v1 (i : S4096x1024.Idx) : V m c main_v1 i = m (c, Proc.devRef .tc main_arg1) i := by
  entry_read
  rfl

/-- The row of the product an index of the block stands for. -/
def row (i : S1x2x256x512.Idx) : Fin 512 := ⟨(i 1).val * 256 + (i 2).val, by
  have h0 : (i 0).val < 1 := (i 0).isLt
  have h1 : (i 1).val < 2 := (i 1).isLt
  have h2 : (i 2).val < 256 := (i 2).isLt
  omega⟩
/-- The column of the product an index of the block stands for. -/
def col (i : S1x2x256x512.Idx) : Fin 512 := ⟨(i 3).val, (i 3).isLt⟩
theorem cut (v : FVec Ideal S512x512 .f32) (i : S1x2x256x512.Idx) :
    shapeCast S1x2x256x512 (shapeCast S2x256x512 v shapeCasts_S512x512_S2x256x512) shapeCasts_S2x256x512_S1x2x256x512 i = v (ValueIdx.ix2 (row i) (col i)) := by
  unfold row col
  pointwise
  rfl

theorem pay (x : Vec Ideal S4096x512 .bf16) (y : Vec Ideal S4096x512 .bf16) (i : S1x2x256x512.Idx) :
    k0_pay1 x y i = ∑ k : Fin 4096, (x (ValueIdx.ix2 k (row i)) : EReal) * y (ValueIdx.ix2 k (col i)) := by
  unfold k0_pay1
  refine (cut _ i).trans ((Prod.tn (a := 512) (b := 4096) (c := 512) _ _ none (ValueIdx.ix2 (row i) (col i))).trans ?_)
  exact Prod.dot_congr (fun k => shapeCast_apply _ _ _ _ rfl) (fun k => shapeCast_apply _ _ _ _ rfl)

theorem arr : (dats m 0 c).arrAt 2 cfg0.N =
    Cert.OutWgradRefIdeal.Read.val_main_v5 (F := Ideal) (m (c, Proc.devRef .tc main_arg0)) (m (c, Proc.devRef .tc main_arg1)) := by
  refine (dats m 0 c).arrAt_eq_of_covers 2 _ (by decide +kernel) fun t hf y => ?_
  blk_simp
  rw [after0_2]
  frame_out
  refine (pay _ _ _).trans (Eq.trans ?_ ((Cert.OutWgradRefIdeal.Read.val_main_v5_apply _ _ _).trans ((Cert.OutWgradRefIdeal.Read.val_main_v4_apply _ _ _).trans ((Cert.OutWgradRefIdeal.Read.val_main_v3_apply _ _ _).trans (Cert.OutWgradRefIdeal.Read.val_main_v2_apply _ _ _)))).symm)
  refine Prod.dot_comm (fun k => ?_) (fun k => ?_)
  · refine Eq.trans ?_ (v0 m c _)
    blk_simp [iblk]
    refine congrArg (V m c main_v0) ?_
    blk_ext [e0, e2, row, col]
  · refine Eq.trans ?_ (v1 m c _)
    blk_simp [iblk]
    refine congrArg (V m c main_v1) ?_
    blk_ext [e1, e2, row, col]

end Cert.OutWgradVal
-- ==== Proof.InWgradVal.lean ====
/-
  The gradient of the input projection, kept transposed: each block of the kernel's array is the reference's product.
-/
module

public import proofs.«01_k».proof.Proof.Prod
public import proofs.«01_k».proof.Proof.Gen.InWgradIdeal.Value
public import proofs.«01_k».proof.Proof.Gen.InWgradRefIdeal.Read
public import proofs.«01_k».proof.Defs
public import Idealize.ShloMosaic.Lib.Pipeline.ValueKit

@[expose] public section

set_option maxRecDepth 16384

noncomputable section

namespace Cert.InWgradVal

open Idealize.ShloMosaic Idealize.ShloMosaic.TcCoe Idealize.SL.Sem
open Cert.InWgradIdeal Cert.InWgradIdeal.Gen
open scoped BigOperators

variable (m : (ℓ : Loc nD τ sig) → Buf (Elt Ideal) ℓ) (c : Dev nD)

theorem e0 : ∀ t : Fin cfg0.N, win0_0.index t = ![0, t.val] :=
  (by decide +kernel : ∀ t : Fin grid0.N, win0_0.index t = ![0, t.val])
theorem e1 : ∀ t : Fin cfg0.N, win0_1.index t = ![0, 0] :=
  (by decide +kernel : ∀ t : Fin grid0.N, win0_1.index t = ![0, 0])
theorem e2 : ∀ t : Fin cfg0.N, win0_2.index t = ![t.val, 0] :=
  (by decide +kernel : ∀ t : Fin grid0.N, win0_2.index t = ![t.val, 0])

theorem v0 (i : S4096x2816.Idx) : V m c main_v0 i = m (c, Proc.devRef .tc main_arg1) i := by
  entry_read
  rfl
theorem v1 (i : S4096x1024.Idx) : V m c main_v1 i = m (c, Proc.devRef .tc main_arg0) i := by
  entry_read
  rfl

theorem pay (x : Vec Ideal S4096x256 .bf16) (y : Vec Ideal S4096x1024 .bf16) (i : S256x1024.Idx) :
    k0_pay1 x y i = ∑ k : Fin 4096, (x (ValueIdx.ix2 k (i 0)) : EReal) * y (ValueIdx.ix2 k (i 1)) := by
  unfold k0_pay1
  refine (Prod.tn (a := 256) (b := 4096) (c := 1024) _ _ none i).trans ?_
  exact Prod.dot_congr (fun k => shapeCast_apply _ _ _ _ rfl) (fun k => shapeCast_apply _ _ _ _ rfl)

theorem arr : (dats m 0 c).arrAt 2 cfg0.N =
    Cert.InWgradRefIdeal.Read.val_main_v4 (F := Ideal) (m (c, Proc.devRef .tc main_arg0)) (m (c, Proc.devRef .tc main_arg1)) := by
  refine (dats m 0 c).arrAt_eq_of_covers 2 _ (by decide +kernel) fun t hf y => ?_
  blk_simp
  rw [after0_2]
  frame_out
  refine (pay _ _ _).trans (Eq.trans ?_ ((Cert.InWgradRefIdeal.Read.val_main_v4_apply _ _ _).trans ((Cert.InWgradRefIdeal.Read.val_main_v3_apply _ _ _).trans (Cert.InWgradRefIdeal.Read.val_main_v2_apply _ _ _))).symm)
  refine Prod.dot_congr (fun k => ?_) (fun k => ?_)
  · refine Eq.trans ?_ (v0 m c _)
    blk_simp [iblk]
    refine congrArg (V m c main_v0) ?_
    blk_ext [e0, e2]
  · refine Eq.trans ?_ (v1 m c _)
    blk_simp [iblk]
    refine congrArg (V m c main_v1) ?_
    blk_ext [e1, e2]

end Cert.InWgradVal
-- ==== Proof.InBwdVal.lean ====
/-
  The gradient into the normalized input: each block of the kernel's array is the reference's product.
-/
module

public import proofs.«01_k».proof.Proof.Prod
public import proofs.«01_k».proof.Proof.Gen.InBwdIdeal.Value
public import proofs.«01_k».proof.Proof.Gen.InBwdRefIdeal.Read
public import proofs.«01_k».proof.Defs
public import Idealize.ShloMosaic.Lib.Pipeline.ValueKit

@[expose] public section

set_option maxRecDepth 16384

noncomputable section

namespace Cert.InBwdVal

open Idealize.ShloMosaic Idealize.ShloMosaic.TcCoe Idealize.SL.Sem
open Cert.InBwdIdeal Cert.InBwdIdeal.Gen
open scoped BigOperators

variable (m : (ℓ : Loc nD τ sig) → Buf (Elt Ideal) ℓ) (c : Dev nD)

theorem e0 : ∀ t : Fin cfg0.N, win0_0.index t = ![t.val, 0] :=
  (by decide +kernel : ∀ t : Fin grid0.N, win0_0.index t = ![t.val, 0])
theorem e1 : ∀ t : Fin cfg0.N, win0_1.index t = ![0, 0] :=
  (by decide +kernel : ∀ t : Fin grid0.N, win0_1.index t = ![0, 0])
theorem e2 : ∀ t : Fin cfg0.N, win0_2.index t = ![t.val, 0] :=
  (by decide +kernel : ∀ t : Fin grid0.N, win0_2.index t = ![t.val, 0])

theorem v0 (i : S4096x2816.Idx) : V m c main_v0 i = m (c, Proc.devRef .tc main_arg0) i := by
  entry_read
  rfl
theorem v2 (i : S2816x1024.Idx) : V m c main_v2 i = m (c, Proc.devRef .tc main_arg1) ((ix2 (i 1) (i 0) : S1024x2816.Idx)) := by
  entry_read
  pointwise

theorem pay (x : Vec Ideal S512x2816 .bf16) (y : Vec Ideal S2816x1024 .bf16) (i : S512x1024.Idx) :
    k0_pay1 x y i = ∑ k : Fin 2816, (x (ValueIdx.ix2 (i 0) k) : EReal) * y (ValueIdx.ix2 k (i 1)) := by
  unfold k0_pay1
  refine (Prod.nn (a := 512) (b := 2816) (c := 1024) _ _ none i).trans ?_
  exact Prod.dot_congr (fun k => shapeCast_apply _ _ _ _ rfl) (fun k => shapeCast_apply _ _ _ _ rfl)

theorem arr : (dats m 0 c).arrAt 2 cfg0.N =
    Cert.InBwdRefIdeal.Read.val_main_v2 (F := Ideal) (m (c, Proc.devRef .tc main_arg0)) (m (c, Proc.devRef .tc main_arg1)) := by
  refine (dats m 0 c).arrAt_eq_of_covers 2 _ (by decide +kernel) fun t hf y => ?_
  blk_simp
  rw [after0_2]
  frame_out
  refine (pay _ _ _).trans (Eq.trans ?_ (Cert.InBwdRefIdeal.Read.val_main_v2_apply _ _ _).symm)
  refine Prod.dot_congr (fun k => ?_) (fun k => ?_)
  · refine Eq.trans ?_ (v0 m c _)
    blk_simp [iblk]
    refine congrArg (V m c main_v0) ?_
    blk_ext [e0, e2]
  · refine Eq.trans (b := V m c main_v2 (ValueIdx.ix2 k (y 1))) ?_ ((v2 m c _).trans (congrArg (m (c, Proc.devRef .tc main_arg1)) ?_))
    rotate_left
    · blk_ext [e2]
    blk_simp [iblk]
    refine congrArg (V m c main_v2) ?_
    blk_ext [e1, e2]

end Cert.InBwdVal
-- ==== Proof.Calls.lean ====
/-
  The frames and the values of the eight calls that are products: each call's array is the one that the reference computes.
-/
module

public import proofs.«01_k».proof.Defs
public import proofs.«01_k».proof.Proof.Gen.UpProj
public import proofs.«01_k».proof.Proof.Gen.UpProjIdeal
public import proofs.«01_k».proof.Proof.Gen.UpProjRefIdeal
public import proofs.«01_k».proof.Proof.Gen.UpProj.Frame
public import proofs.«01_k».proof.Proof.Gen.UpProjIdeal.Frame
public import proofs.«01_k».proof.Proof.Gen.UpProjIdeal.Value
public import proofs.«01_k».proof.Proof.Gen.UpProjRefIdeal.Run
public import proofs.«01_k».proof.Proof.Gen.UpProjRefIdeal.Read
public import proofs.«01_k».proof.Proof.UpProjVal
public import proofs.«01_k».proof.Proof.Gen.DownBwd
public import proofs.«01_k».proof.Proof.Gen.DownBwdIdeal
public import proofs.«01_k».proof.Proof.Gen.DownBwdRefIdeal
public import proofs.«01_k».proof.Proof.Gen.DownBwd.Frame
public import proofs.«01_k».proof.Proof.Gen.DownBwdIdeal.Frame
public import proofs.«01_k».proof.Proof.Gen.DownBwdIdeal.Value
public import proofs.«01_k».proof.Proof.Gen.DownBwdRefIdeal.Run
public import proofs.«01_k».proof.Proof.Gen.DownBwdRefIdeal.Read
public import proofs.«01_k».proof.Proof.DownBwdVal
public import proofs.«01_k».proof.Proof.Gen.DownWgrad
public import proofs.«01_k».proof.Proof.Gen.DownWgradIdeal
public import proofs.«01_k».proof.Proof.Gen.DownWgradRefIdeal
public import proofs.«01_k».proof.Proof.Gen.DownWgrad.Frame
public import proofs.«01_k».proof.Proof.Gen.DownWgradIdeal.Frame
public import proofs.«01_k».proof.Proof.Gen.DownWgradIdeal.Value
public import proofs.«01_k».proof.Proof.Gen.DownWgradRefIdeal.Run
public import proofs.«01_k».proof.Proof.Gen.DownWgradRefIdeal.Read
public import proofs.«01_k».proof.Proof.DownWgradVal
public import proofs.«01_k».proof.Proof.Gen.UpWgrad
public import proofs.«01_k».proof.Proof.Gen.UpWgradIdeal
public import proofs.«01_k».proof.Proof.Gen.UpWgradRefIdeal
public import proofs.«01_k».proof.Proof.Gen.UpWgrad.Frame
public import proofs.«01_k».proof.Proof.Gen.UpWgradIdeal.Frame
public import proofs.«01_k».proof.Proof.Gen.UpWgradIdeal.Value
public import proofs.«01_k».proof.Proof.Gen.UpWgradRefIdeal.Run
public import proofs.«01_k».proof.Proof.Gen.UpWgradRefIdeal.Read
public import proofs.«01_k».proof.Proof.UpWgradVal
public import proofs.«01_k».proof.Proof.Gen.OutBwd
public import proofs.«01_k».proof.Proof.Gen.OutBwdIdeal
public import proofs.«01_k».proof.Proof.Gen.OutBwdRefIdeal
public import proofs.«01_k».proof.Proof.Gen.OutBwd.Frame
public import proofs.«01_k».proof.Proof.Gen.OutBwdIdeal.Frame
public import proofs.«01_k».proof.Proof.Gen.OutBwdIdeal.Value
public import proofs.«01_k».proof.Proof.Gen.OutBwdRefIdeal.Run
public import proofs.«01_k».proof.Proof.Gen.OutBwdRefIdeal.Read
public import proofs.«01_k».proof.Proof.OutBwdVal
public import proofs.«01_k».proof.Proof.Gen.OutWgrad
public import proofs.«01_k».proof.Proof.Gen.OutWgradIdeal
public import proofs.«01_k».proof.Proof.Gen.OutWgradRefIdeal
public import proofs.«01_k».proof.Proof.Gen.OutWgrad.Frame
public import proofs.«01_k».proof.Proof.Gen.OutWgradIdeal.Frame
public import proofs.«01_k».proof.Proof.Gen.OutWgradIdeal.Value
public import proofs.«01_k».proof.Proof.Gen.OutWgradRefIdeal.Run
public import proofs.«01_k».proof.Proof.Gen.OutWgradRefIdeal.Read
public import proofs.«01_k».proof.Proof.OutWgradVal
public import proofs.«01_k».proof.Proof.Gen.InWgrad
public import proofs.«01_k».proof.Proof.Gen.InWgradIdeal
public import proofs.«01_k».proof.Proof.Gen.InWgradRefIdeal
public import proofs.«01_k».proof.Proof.Gen.InWgrad.Frame
public import proofs.«01_k».proof.Proof.Gen.InWgradIdeal.Frame
public import proofs.«01_k».proof.Proof.Gen.InWgradIdeal.Value
public import proofs.«01_k».proof.Proof.Gen.InWgradRefIdeal.Run
public import proofs.«01_k».proof.Proof.Gen.InWgradRefIdeal.Read
public import proofs.«01_k».proof.Proof.InWgradVal
public import proofs.«01_k».proof.Proof.Gen.InBwd
public import proofs.«01_k».proof.Proof.Gen.InBwdIdeal
public import proofs.«01_k».proof.Proof.Gen.InBwdRefIdeal
public import proofs.«01_k».proof.Proof.Gen.InBwd.Frame
public import proofs.«01_k».proof.Proof.Gen.InBwdIdeal.Frame
public import proofs.«01_k».proof.Proof.Gen.InBwdIdeal.Value
public import proofs.«01_k».proof.Proof.Gen.InBwdRefIdeal.Run
public import proofs.«01_k».proof.Proof.Gen.InBwdRefIdeal.Read
public import proofs.«01_k».proof.Proof.InBwdVal
public import Idealize.ShloMosaic.Adequacy
public import Idealize.ShloMosaic.Init

@[expose] public section

noncomputable section

namespace Cert.Calls

open Idealize.ShloMosaic Idealize.SL.Sem

theorem frame_UpProj_p : Cert.quiescent_UpProj := fun m ρ _ => Cert.UpProj.Gen.frame m ρ

theorem frame_UpProj_pi : Cert.quiescent_UpProjIdeal := fun m ρ _ => Cert.UpProjIdeal.Gen.frame m ρ

theorem frame_UpProj_ri : Cert.quiescent_UpProjRefIdeal := fun m ρ _ =>
  (θ_run Cert.UpProjRefIdeal.defs _ _).mono
    (fun r h => ⟨fun c => (h c).2, Idealize.ShloMosaic.sem_eq_zero_of_no_sems (by decide) r.2⟩)
    (Cert.UpProjRefIdeal.Value.run (F := Ideal) m ρ)

theorem values_UpProj : Cert.algebraic_UpProjIdeal_UpProjRefIdeal := by
  intro m g m' g' _ ha
  refine ⟨fun c => Cert.UpProjRefIdeal.Read.val_main_v2 (F := Ideal) (m (c, Proc.devRef .tc Cert.UpProjIdeal.main_arg0)) (m (c, Proc.devRef .tc Cert.UpProjIdeal.main_arg1)), ?_, ?_⟩
  · exact (θ_run Cert.UpProjIdeal.defs _ _).mono (fun r h c => ⟨(h c).1.trans (Cert.UpProjVal.arr m c), (h c).2⟩)
      (Cert.UpProjIdeal.Value.run_blocks m g)
  · refine (θ_run Cert.UpProjRefIdeal.defs _ _).mono (fun r h c => ?_) (Cert.UpProjRefIdeal.Value.run (F := Ideal) m' g')
    obtain ⟨a0, a1⟩ := ha c
    exact ⟨((h c).1.trans (Cert.UpProjRefIdeal.Read.val_main_v2_eq _ _)).trans (congr (congrArg (Cert.UpProjRefIdeal.Read.val_main_v2 (F := Ideal)) a0) a1), (h c).2⟩

theorem frame_DownBwd_p : Cert.quiescent_DownBwd := fun m ρ _ => Cert.DownBwd.Gen.frame m ρ

theorem frame_DownBwd_pi : Cert.quiescent_DownBwdIdeal := fun m ρ _ => Cert.DownBwdIdeal.Gen.frame m ρ

theorem frame_DownBwd_ri : Cert.quiescent_DownBwdRefIdeal := fun m ρ _ =>
  (θ_run Cert.DownBwdRefIdeal.defs _ _).mono
    (fun r h => ⟨fun c => (h c).2, Idealize.ShloMosaic.sem_eq_zero_of_no_sems (by decide) r.2⟩)
    (Cert.DownBwdRefIdeal.Value.run (F := Ideal) m ρ)

theorem values_DownBwd : Cert.algebraic_DownBwdIdeal_DownBwdRefIdeal := by
  intro m g m' g' _ ha
  refine ⟨fun c => Cert.DownBwdRefIdeal.Read.val_main_v12 (F := Ideal) (m (c, Proc.devRef .tc Cert.DownBwdIdeal.main_arg0)) (m (c, Proc.devRef .tc Cert.DownBwdIdeal.main_arg1)) (m (c, Proc.devRef .tc Cert.DownBwdIdeal.main_arg2)), ?_, ?_⟩
  · exact (θ_run Cert.DownBwdIdeal.defs _ _).mono (fun r h c => ⟨(h c).1.trans (Cert.DownBwdVal.arr m c), (h c).2⟩)
      (Cert.DownBwdIdeal.Value.run_blocks m g)
  · refine (θ_run Cert.DownBwdRefIdeal.defs _ _).mono (fun r h c => ?_) (Cert.DownBwdRefIdeal.Value.run (F := Ideal) m' g')
    obtain ⟨a0, a1, a2⟩ := ha c
    exact ⟨((h c).1.trans (Cert.DownBwdRefIdeal.Read.val_main_v12_eq _ _ _)).trans (congr (congr (congrArg (Cert.DownBwdRefIdeal.Read.val_main_v12 (F := Ideal)) a0) a1) a2), (h c).2⟩

theorem frame_DownWgrad_p : Cert.quiescent_DownWgrad := fun m ρ _ => Cert.DownWgrad.Gen.frame m ρ

theorem frame_DownWgrad_pi : Cert.quiescent_DownWgradIdeal := fun m ρ _ => Cert.DownWgradIdeal.Gen.frame m ρ

theorem frame_DownWgrad_ri : Cert.quiescent_DownWgradRefIdeal := fun m ρ _ =>
  (θ_run Cert.DownWgradRefIdeal.defs _ _).mono
    (fun r h => ⟨fun c => (h c).2, Idealize.ShloMosaic.sem_eq_zero_of_no_sems (by decide) r.2⟩)
    (Cert.DownWgradRefIdeal.Value.run (F := Ideal) m ρ)

theorem values_DownWgrad : Cert.algebraic_DownWgradIdeal_DownWgradRefIdeal := by
  intro m g m' g' _ ha
  refine ⟨fun c => Cert.DownWgradRefIdeal.Read.val_main_v7 (F := Ideal) (m (c, Proc.devRef .tc Cert.DownWgradIdeal.main_arg0)) (m (c, Proc.devRef .tc Cert.DownWgradIdeal.main_arg1)), ?_, ?_⟩
  · exact (θ_run Cert.DownWgradIdeal.defs _ _).mono (fun r h c => ⟨(h c).1.trans (Cert.DownWgradVal.arr m c), (h c).2⟩)
      (Cert.DownWgradIdeal.Value.run_blocks m g)
  · refine (θ_run Cert.DownWgradRefIdeal.defs _ _).mono (fun r h c => ?_) (Cert.DownWgradRefIdeal.Value.run (F := Ideal) m' g')
    obtain ⟨a0, a1⟩ := ha c
    exact ⟨((h c).1.trans (Cert.DownWgradRefIdeal.Read.val_main_v7_eq _ _)).trans (congr (congrArg (Cert.DownWgradRefIdeal.Read.val_main_v7 (F := Ideal)) a0) a1), (h c).2⟩

theorem frame_UpWgrad_p : Cert.quiescent_UpWgrad := fun m ρ _ => Cert.UpWgrad.Gen.frame m ρ

theorem frame_UpWgrad_pi : Cert.quiescent_UpWgradIdeal := fun m ρ _ => Cert.UpWgradIdeal.Gen.frame m ρ

theorem frame_UpWgrad_ri : Cert.quiescent_UpWgradRefIdeal := fun m ρ _ =>
  (θ_run Cert.UpWgradRefIdeal.defs _ _).mono
    (fun r h => ⟨fun c => (h c).2, Idealize.ShloMosaic.sem_eq_zero_of_no_sems (by decide) r.2⟩)
    (Cert.UpWgradRefIdeal.Value.run (F := Ideal) m ρ)

theorem values_UpWgrad : Cert.algebraic_UpWgradIdeal_UpWgradRefIdeal := by
  intro m g m' g' _ ha
  refine ⟨fun c => Cert.UpWgradRefIdeal.Read.val_main_v5 (F := Ideal) (m (c, Proc.devRef .tc Cert.UpWgradIdeal.main_arg0)) (m (c, Proc.devRef .tc Cert.UpWgradIdeal.main_arg1)), ?_, ?_⟩
  · exact (θ_run Cert.UpWgradIdeal.defs _ _).mono (fun r h c => ⟨(h c).1.trans (Cert.UpWgradVal.arr m c), (h c).2⟩)
      (Cert.UpWgradIdeal.Value.run_blocks m g)
  · refine (θ_run Cert.UpWgradRefIdeal.defs _ _).mono (fun r h c => ?_) (Cert.UpWgradRefIdeal.Value.run (F := Ideal) m' g')
    obtain ⟨a0, a1⟩ := ha c
    exact ⟨((h c).1.trans (Cert.UpWgradRefIdeal.Read.val_main_v5_eq _ _)).trans (congr (congrArg (Cert.UpWgradRefIdeal.Read.val_main_v5 (F := Ideal)) a0) a1), (h c).2⟩

theorem frame_OutBwd_p : Cert.quiescent_OutBwd := fun m ρ _ => Cert.OutBwd.Gen.frame m ρ

theorem frame_OutBwd_pi : Cert.quiescent_OutBwdIdeal := fun m ρ _ => Cert.OutBwdIdeal.Gen.frame m ρ

theorem frame_OutBwd_ri : Cert.quiescent_OutBwdRefIdeal := fun m ρ _ =>
  (θ_run Cert.OutBwdRefIdeal.defs _ _).mono
    (fun r h => ⟨fun c => (h c).2, Idealize.ShloMosaic.sem_eq_zero_of_no_sems (by decide) r.2⟩)
    (Cert.OutBwdRefIdeal.Value.run (F := Ideal) m ρ)

theorem values_OutBwd : Cert.algebraic_OutBwdIdeal_OutBwdRefIdeal := by
  intro m g m' g' _ ha
  refine ⟨fun c => Cert.OutBwdRefIdeal.Read.val_main_v2 (F := Ideal) (m (c, Proc.devRef .tc Cert.OutBwdIdeal.main_arg0)) (m (c, Proc.devRef .tc Cert.OutBwdIdeal.main_arg1)), ?_, ?_⟩
  · exact (θ_run Cert.OutBwdIdeal.defs _ _).mono (fun r h c => ⟨(h c).1.trans (Cert.OutBwdVal.arr m c), (h c).2⟩)
      (Cert.OutBwdIdeal.Value.run_blocks m g)
  · refine (θ_run Cert.OutBwdRefIdeal.defs _ _).mono (fun r h c => ?_) (Cert.OutBwdRefIdeal.Value.run (F := Ideal) m' g')
    obtain ⟨a0, a1⟩ := ha c
    exact ⟨((h c).1.trans (Cert.OutBwdRefIdeal.Read.val_main_v2_eq _ _)).trans (congr (congrArg (Cert.OutBwdRefIdeal.Read.val_main_v2 (F := Ideal)) a0) a1), (h c).2⟩

theorem frame_OutWgrad_p : Cert.quiescent_OutWgrad := fun m ρ _ => Cert.OutWgrad.Gen.frame m ρ

theorem frame_OutWgrad_pi : Cert.quiescent_OutWgradIdeal := fun m ρ _ => Cert.OutWgradIdeal.Gen.frame m ρ

theorem frame_OutWgrad_ri : Cert.quiescent_OutWgradRefIdeal := fun m ρ _ =>
  (θ_run Cert.OutWgradRefIdeal.defs _ _).mono
    (fun r h => ⟨fun c => (h c).2, Idealize.ShloMosaic.sem_eq_zero_of_no_sems (by decide) r.2⟩)
    (Cert.OutWgradRefIdeal.Value.run (F := Ideal) m ρ)

theorem values_OutWgrad : Cert.algebraic_OutWgradIdeal_OutWgradRefIdeal := by
  intro m g m' g' _ ha
  refine ⟨fun c => Cert.OutWgradRefIdeal.Read.val_main_v5 (F := Ideal) (m (c, Proc.devRef .tc Cert.OutWgradIdeal.main_arg0)) (m (c, Proc.devRef .tc Cert.OutWgradIdeal.main_arg1)), ?_, ?_⟩
  · exact (θ_run Cert.OutWgradIdeal.defs _ _).mono (fun r h c => ⟨(h c).1.trans (Cert.OutWgradVal.arr m c), (h c).2⟩)
      (Cert.OutWgradIdeal.Value.run_blocks m g)
  · refine (θ_run Cert.OutWgradRefIdeal.defs _ _).mono (fun r h c => ?_) (Cert.OutWgradRefIdeal.Value.run (F := Ideal) m' g')
    obtain ⟨a0, a1⟩ := ha c
    exact ⟨((h c).1.trans (Cert.OutWgradRefIdeal.Read.val_main_v5_eq _ _)).trans (congr (congrArg (Cert.OutWgradRefIdeal.Read.val_main_v5 (F := Ideal)) a0) a1), (h c).2⟩

theorem frame_InWgrad_p : Cert.quiescent_InWgrad := fun m ρ _ => Cert.InWgrad.Gen.frame m ρ

theorem frame_InWgrad_pi : Cert.quiescent_InWgradIdeal := fun m ρ _ => Cert.InWgradIdeal.Gen.frame m ρ

theorem frame_InWgrad_ri : Cert.quiescent_InWgradRefIdeal := fun m ρ _ =>
  (θ_run Cert.InWgradRefIdeal.defs _ _).mono
    (fun r h => ⟨fun c => (h c).2, Idealize.ShloMosaic.sem_eq_zero_of_no_sems (by decide) r.2⟩)
    (Cert.InWgradRefIdeal.Value.run (F := Ideal) m ρ)

theorem values_InWgrad : Cert.algebraic_InWgradIdeal_InWgradRefIdeal := by
  intro m g m' g' _ ha
  refine ⟨fun c => Cert.InWgradRefIdeal.Read.val_main_v4 (F := Ideal) (m (c, Proc.devRef .tc Cert.InWgradIdeal.main_arg0)) (m (c, Proc.devRef .tc Cert.InWgradIdeal.main_arg1)), ?_, ?_⟩
  · exact (θ_run Cert.InWgradIdeal.defs _ _).mono (fun r h c => ⟨(h c).1.trans (Cert.InWgradVal.arr m c), (h c).2⟩)
      (Cert.InWgradIdeal.Value.run_blocks m g)
  · refine (θ_run Cert.InWgradRefIdeal.defs _ _).mono (fun r h c => ?_) (Cert.InWgradRefIdeal.Value.run (F := Ideal) m' g')
    obtain ⟨a0, a1⟩ := ha c
    exact ⟨((h c).1.trans (Cert.InWgradRefIdeal.Read.val_main_v4_eq _ _)).trans (congr (congrArg (Cert.InWgradRefIdeal.Read.val_main_v4 (F := Ideal)) a0) a1), (h c).2⟩

theorem frame_InBwd_p : Cert.quiescent_InBwd := fun m ρ _ => Cert.InBwd.Gen.frame m ρ

theorem frame_InBwd_pi : Cert.quiescent_InBwdIdeal := fun m ρ _ => Cert.InBwdIdeal.Gen.frame m ρ

theorem frame_InBwd_ri : Cert.quiescent_InBwdRefIdeal := fun m ρ _ =>
  (θ_run Cert.InBwdRefIdeal.defs _ _).mono
    (fun r h => ⟨fun c => (h c).2, Idealize.ShloMosaic.sem_eq_zero_of_no_sems (by decide) r.2⟩)
    (Cert.InBwdRefIdeal.Value.run (F := Ideal) m ρ)

theorem values_InBwd : Cert.algebraic_InBwdIdeal_InBwdRefIdeal := by
  intro m g m' g' _ ha
  refine ⟨fun c => Cert.InBwdRefIdeal.Read.val_main_v2 (F := Ideal) (m (c, Proc.devRef .tc Cert.InBwdIdeal.main_arg0)) (m (c, Proc.devRef .tc Cert.InBwdIdeal.main_arg1)), ?_, ?_⟩
  · exact (θ_run Cert.InBwdIdeal.defs _ _).mono (fun r h c => ⟨(h c).1.trans (Cert.InBwdVal.arr m c), (h c).2⟩)
      (Cert.InBwdIdeal.Value.run_blocks m g)
  · refine (θ_run Cert.InBwdRefIdeal.defs _ _).mono (fun r h c => ?_) (Cert.InBwdRefIdeal.Value.run (F := Ideal) m' g')
    obtain ⟨a0, a1⟩ := ha c
    exact ⟨((h c).1.trans (Cert.InBwdRefIdeal.Read.val_main_v2_eq _ _)).trans (congr (congrArg (Cert.InBwdRefIdeal.Read.val_main_v2 (F := Ideal)) a0) a1), (h c).2⟩

end Cert.Calls

end
-- ==== Proof.DownProjVal.lean ====
/-
  The gradient of the layer's output: each block of the kernel's array, written as two halves of its rows, is the
  reference's gradient of the loss there.
-/
module

public import proofs.«01_k».proof.Proof.Prod
public import proofs.«01_k».proof.Proof.Gen.DownProjIdeal.Value
public import proofs.«01_k».proof.Proof.Gen.DownProjRefIdeal.Read
public import proofs.«01_k».proof.Defs
public import Idealize.ShloMosaic.Lib.Pipeline.ValueKit
public import Idealize.ShloMosaic.Lib.Pipeline.ReadBack

@[expose] public section

set_option maxRecDepth 16384

noncomputable section

namespace Cert.DownProjVal

open Idealize.ShloMosaic Idealize.ShloMosaic.TcCoe Idealize.ShloMosaic.Tactic
open Idealize.SL Idealize.SL.RA Idealize.SL.BI Idealize.SL.Sem
open Cert.DownProjIdeal Cert.DownProjIdeal.Gen
open scoped BigOperators

section Mathematics

/-- The gradient at one place: the error times the weight of one square in the loss. -/
def D (d : Fin 1024 → EReal) (j : Fin 1024) (x g w t : EReal) : EReal :=
  ((x + (d j * Ideal.rsqrt (Ideal.div (∑ k, d k * d k) (Ideal.ofBits .f32 0x44800000#32) + Ideal.ofBits .f32 0x358637BD#32))
    * (g * w)) - t) * Ideal.ofBits .f32 0x3A800000#32

theorem scale (e : EReal) :
    Ideal.div (Ideal.ofBits .f32 0x3F000000#32 * Ideal.ofBits .f32 0x3F800000#32) (Ideal.ofBits .f32 0x44800000#32)
      * (Ideal.ofBits .f32 0x40000000#32 * e) = e * Ideal.ofBits .f32 0x3A800000#32 := by
  have h1 : Ideal.ofBits .f32 0x3F000000#32 = ((1 / 2 : ℝ) : EReal) := by
    simp [Ideal.ofBits, Ideal.ieee]; rw [← EReal.coe_mul]; norm_num
  have h2 : Ideal.ofBits .f32 0x44800000#32 = ((1024 : ℝ) : EReal) := by
    simp [Ideal.ofBits, Ideal.ieee]; rw [← EReal.coe_mul]; norm_num
  have h3 : Ideal.ofBits .f32 0x40000000#32 = ((2 : ℝ) : EReal) := by
    simp [Ideal.ofBits, Ideal.ieee]; rw [← EReal.coe_mul]; norm_num
  have h4 : Ideal.ofBits .f32 0x3A800000#32 = ((1 / 1024 : ℝ) : EReal) := by
    simp [Ideal.ofBits, Ideal.ieee]; rw [← EReal.coe_mul]; norm_num
  have h5 : Ideal.ofBits .f32 0x3F800000#32 = 1 := Ideal.ofBits_one_f32
  rw [h1, h2, h3, h4, h5, mul_one, Ideal.div_coe (by norm_num), ← EReal.coe_mul, ← mul_assoc, ← EReal.coe_mul, mul_comm]
  norm_num

end Mathematics

section Payloads

theorem sum1 {a b : ℕ} {φ : FTy} (x : FVec Ideal ⟨2, ![a, b]⟩ φ) {acc : BitVec φ.bits}
    (hr : (⟨2, ![a, b]⟩ : Shape).Reduces [1] ⟨1, ![a]⟩) (hφ : FKind.Formats φ) (hacc : acc = FKind.add.neutral φ hφ) (i : Fin a) :
    multiReduction .add [1] ⟨1, ![a]⟩ x acc hr hφ hacc (ValueIdx.ix1 i) = ∑ k : Fin b, (x (ValueIdx.ix2 i k) : EReal) := by
  rw [Ideal.multiReduction_add_single]
  refine Finset.sum_congr rfl fun k _ => ?_
  congr 1
  funext ax; apply Fin.ext
  match ax with | ⟨0, _⟩ => rfl | ⟨1, _⟩ => rfl

theorem cut (v : FVec Ideal S256x1024 .f32) (i : S1x256x1024.Idx) :
    shapeCast S1x256x1024 v shapeCasts_S256x1024_S1x256x1024 i = v (ValueIdx.ix2 (i 1) (i 2)) := by
  pointwise
  rfl

theorem drop (v : FVec Ideal S1x256x1024 .f32) (i : Fin 256) (j : Fin 1024) :
    shapeCast S256x1024 v shapeCasts_S1x256x1024_S256x1024 (ValueIdx.ix2 i j) = v (ValueIdx.ix3 0 i j) := by
  pointwise
  rfl

theorem pay8 (R : Vec Ideal S1x256x4096 .bf16) (W : Vec Ideal S4096x1024 .bf16) (i : Fin 256) (j : Fin 1024) :
    k0_pay8 R W (ValueIdx.ix2 i j) = ∑ k : Fin 4096, ((R (ValueIdx.ix3 0 i k) : EReal) * R (ValueIdx.ix3 0 i k)) * W (ValueIdx.ix2 k j) := by
  unfold k0_pay8
  refine (Prod.nn (a := 256) (b := 4096) (c := 1024) _ _ none (ValueIdx.ix2 i j)).trans ?_
  refine Prod.dot_congr (fun k => ?_) (fun k => shapeCast_apply _ _ _ _ rfl)
  refine congrArg (fun z : EReal => z * z) ?_
  pointwise
  rfl

theorem pay12 (R : Vec Ideal S1x256x4096 .bf16) (W : Vec Ideal S4096x1024 .bf16) (i : Fin 256) :
    k0_pay12 R W (ValueIdx.ix2 i 0) = Ideal.div (∑ k : Fin 1024, (k0_pay8 R W (ValueIdx.ix2 i k) : EReal) * k0_pay8 R W (ValueIdx.ix2 i k))
      (Ideal.ofBits .f32 0x44800000#32) + Ideal.ofBits .f32 0x358637BD#32 := by
  unfold k0_pay12
  refine congrArg (fun z : EReal => Ideal.div z (Ideal.ofBits .f32 0x44800000#32) + Ideal.ofBits .f32 0x358637BD#32) ?_
  refine (ValueIdx.shapeCast_a_a1_apply _ _ i 0).trans ?_
  exact sum1 (a := 256) (b := 1024) _ _ _ _ i

theorem pay18 (R : Vec Ideal S1x256x4096 .bf16) (W : Vec Ideal S4096x1024 .bf16) (P : Vec Ideal S1x1024 .f32)
    (G : Vec Ideal S1x1x1024 .f32) (X T : Vec Ideal S1x256x1024 .f32) (i : S1x256x1024.Idx) :
    k0_pay18 (k0_pay8 R W) (k0_pay11 P G) (k0_pay12 R W) X T i
      = D (fun j => ∑ k : Fin 4096, ((R (ValueIdx.ix3 0 (i 1) k) : EReal) * R (ValueIdx.ix3 0 (i 1) k)) * W (ValueIdx.ix2 k j)) (i 2)
          (X (ValueIdx.ix3 0 (i 1) (i 2))) (G (ValueIdx.ix3 0 0 (i 2))) (P (ValueIdx.ix2 0 (i 2))) (T (ValueIdx.ix3 0 (i 1) (i 2))) := by
  have hd : (fun j => ∑ k : Fin 4096, ((R (ValueIdx.ix3 0 (i 1) k) : EReal) * R (ValueIdx.ix3 0 (i 1) k)) * W (ValueIdx.ix2 k j))
      = fun j => k0_pay8 R W (ValueIdx.ix2 (i 1) j) := funext fun j => (pay8 R W (i 1) j).symm
  rw [hd]
  unfold k0_pay18
  refine (cut _ i).trans ?_
  unfold k0_pay17 k0_pay15
  refine congrArg (fun z : EReal => z * Ideal.ofBits .f32 0x3A800000#32) ?_
  refine congrArg₂ (fun u v : EReal => u - v) (congrArg₂ (fun u v : EReal => u + v) (drop X (i 1) (i 2)) ?_) (drop T (i 1) (i 2))
  refine congrArg₂ (fun u v : EReal => u * v) ?_ ?_
  · unfold k0_pay14
    refine congrArg (fun v : EReal => k0_pay8 R W (ValueIdx.ix2 (i 1) (i 2)) * v) ?_
    refine (broadcastTo_apply _ broadcasts_S256x1_S256x1024 _ (ValueIdx.ix2 (i 1) (0 : Fin 1)) fun ax => ?_).trans ?_
    · match ax with
      | ⟨0, _⟩ => rfl
      | ⟨1, _⟩ => rfl
    · exact congrArg Ideal.rsqrt (pay12 R W (i 1))
  · unfold k0_pay11 k0_pay10
    refine (broadcastTo_apply _ broadcasts_S1x1024_S256x1024 _ (ValueIdx.ix2 (0 : Fin 1) (i 2)) fun ax => ?_).trans ?_
    · match ax with
      | ⟨0, _⟩ => rfl
      | ⟨1, _⟩ => rfl
    · refine congrArg (fun v : EReal => v * P (ValueIdx.ix2 0 (i 2))) ?_
      pointwise
      rfl

theorem pay31 (R : Vec Ideal S1x256x4096 .bf16) (W : Vec Ideal S4096x1024 .bf16) (P : Vec Ideal S1x1024 .f32)
    (G : Vec Ideal S1x1x1024 .f32) (X T : Vec Ideal S1x256x1024 .f32) :
    k0_pay31 (k0_pay25 P G) (k0_pay27 (k0_pay9 R W)) X T = k0_pay18 (k0_pay8 R W) (k0_pay11 P G) (k0_pay12 R W) X T := rfl

end Payloads

variable (m : (ℓ : Loc nD τ sig) → Buf (Elt Ideal) ℓ) (c : Dev nD)

theorem ld1 (X : Vec Ideal S4096x1024 .bf16) :
    View.ld X (Rect.unit ![0, 0] ![4096, 1024] inb_S4096x1024_S4096x1024_0_0) = X := View.ld_unit_lit _ X (by decide)
theorem ld3 (X : Vec Ideal S1x1024 .f32) : View.ld X (Rect.unit ![0, 0] ![1, 1024] inb_S1x1024_S1x1024_0_0) = X :=
  View.ld_unit_lit _ X (by decide)
theorem ld4 (X : Vec Ideal S1x1x1024 .f32) : View.ld X (Rect.unit ![0, 0, 0] ![1, 1, 1024] inb_S1x1x1024_S1x1x1024_0_0_0) = X :=
  View.ld_unit_lit _ X (by decide)

section Block
variable (R : Vec Ideal S1x512x4096 .bf16) (W : Vec Ideal S4096x1024 .bf16) (X : Vec Ideal S1x512x1024 .f32)
  (P : Vec Ideal S1x1024 .f32) (G : Vec Ideal S1x1x1024 .f32) (T : Vec Ideal S1x512x1024 .f32)

/-- The two halves a grid point writes. -/
def halves : List (View.Piece (Elt Ideal) S1x512x1024 .f32) :=
  [⟨Rect.unit ![0, 256, 0] ![1, 256, 1024] inb_S1x512x1024_S1x256x1024_0_256_0,
      k0_pay31 (k0_pay25 P G)
        (k0_pay27 (k0_pay9 (View.ld R (Rect.unit ![0, 256, 0] ![1, 256, 4096] inb_S1x512x4096_S1x256x4096_0_256_0)) W))
        (View.ld X (Rect.unit ![0, 256, 0] ![1, 256, 1024] inb_S1x512x1024_S1x256x1024_0_256_0))
        (View.ld T (Rect.unit ![0, 256, 0] ![1, 256, 1024] inb_S1x512x1024_S1x256x1024_0_256_0))⟩,
    ⟨Rect.unit ![0, 0, 0] ![1, 256, 1024] inb_S1x512x1024_S1x256x1024_0_0_0,
      k0_pay18 (k0_pay8 (View.ld R (Rect.unit ![0, 0, 0] ![1, 256, 4096] inb_S1x512x4096_S1x256x4096_0_0_0)) W)
        (k0_pay11 P G)
        (k0_pay12 (View.ld R (Rect.unit ![0, 0, 0] ![1, 256, 4096] inb_S1x512x4096_S1x256x4096_0_0_0)) W)
        (View.ld X (Rect.unit ![0, 0, 0] ![1, 256, 1024] inb_S1x512x1024_S1x256x1024_0_0_0))
        (View.ld T (Rect.unit ![0, 0, 0] ![1, 256, 1024] inb_S1x512x1024_S1x256x1024_0_0_0))⟩]

/-- The gradient at one place of a block. -/
def DB (y : S1x512x1024.Idx) : EReal :=
  D (fun j => ∑ k : Fin 4096, ((R (ValueIdx.ix3 0 (y 1) k) : EReal) * R (ValueIdx.ix3 0 (y 1) k)) * W (ValueIdx.ix2 k j)) (y 2)
    (X y) (G (ValueIdx.ix3 0 0 (y 2))) (P (ValueIdx.ix2 0 (y 2))) (T y)

theorem D_congr {d d' : Fin 1024 → EReal} {j j' : Fin 1024} {x x' g g' w w' t t' : EReal} (hd : ∀ j, d j = d' j) (hj : j = j')
    (hx : x = x') (hg : g = g') (hw : w = w') (ht : t = t') : D d j x g w t = D d' j' x' g' w' t' := by
  obtain rfl : d = d' := funext hd
  subst hj hx hg hw ht
  rfl

/-- A half of the rows from row `o`. -/
theorem half (o : ℕ) (h1 : ∀ a, (![0, o, 0] : Fin 3 → Nat) a + S1x256x4096.size a ≤ S1x512x4096.size a)
    (h2 : ∀ a, (![0, o, 0] : Fin 3 → Nat) a + S1x256x1024.size a ≤ S1x512x1024.size a) (x : S1x256x1024.Idx) :
    k0_pay18 (k0_pay8 (View.ld R (Rect.unit ![0, o, 0] ![1, 256, 4096] h1)) W) (k0_pay11 P G)
        (k0_pay12 (View.ld R (Rect.unit ![0, o, 0] ![1, 256, 4096] h1)) W)
        (View.ld X (Rect.unit ![0, o, 0] ![1, 256, 1024] h2)) (View.ld T (Rect.unit ![0, o, 0] ![1, 256, 1024] h2)) x
      = DB R W X P G T ((Rect.unit (s := S1x512x1024) ![0, o, 0] ![1, 256, 1024] h2).emb x) := by
  refine (pay18 _ W P G _ _ x).trans ?_
  have hx : (Rect.unit (s := S1x512x1024) ![0, o, 0] ![1, 256, 1024] h2).emb (ValueIdx.ix3 0 (x 1) (x 2))
      = (Rect.unit (s := S1x512x1024) ![0, o, 0] ![1, 256, 1024] h2).emb x :=
    congrArg _ ((ValueIdx.eq_ix3 (n0 := 1) (n1 := 256) (n2 := 1024) x).trans
      (congrArg (fun a : Fin 1 => ValueIdx.ix3 a (x 1) (x 2)) (Subsingleton.elim (α := Fin 1) _ _))).symm
  have h2' : (x 2 : Fin 1024) = (Rect.unit (s := S1x512x1024) ![0, o, 0] ![1, 256, 1024] h2).emb x 2 := by
    apply Fin.ext; rw [Rect.emb_apply]
    show (x 2).val = 0 + 1 * (x 2).val
    omega
  refine D_congr (fun j => Finset.sum_congr rfl fun k _ => ?_) h2' (congrArg X hx) (congrArg (fun q : Fin 1024 => G (ValueIdx.ix3 0 0 q)) h2')
    (congrArg (fun q : Fin 1024 => P (ValueIdx.ix2 0 q)) h2') (congrArg T hx)
  refine congrArg (fun z : EReal => z * z * W (ValueIdx.ix2 k j)) ?_
  refine congrArg R ?_
  funext ax; apply Fin.ext
  match ax with
  | ⟨0, _⟩ => rfl
  | ⟨1, _⟩ => rfl
  | ⟨2, _⟩ => show 0 + 1 * k.val = k.val; omega

theorem whole (y : S1x512x1024.Idx) : View.canon (halves R W X P G T) y = DB R W X P G T y := by
  refine View.canon_apply_of_pieces (DB R W X P G T) (halves R W X P G T) ?_ y
    (View.cover_of_tiled (halves R W X P G T) ![1, 256, 1024] (by rfl) y)
  unfold halves
  simp only [List.forall_mem_cons, List.not_mem_nil, false_imp_iff, implies_true, and_true]
  exact ⟨fun x => half R W X P G T 256 _ _ x, fun x => half R W X P G T 0 _ _ x⟩

end Block

section Points
variable (t : Fin cfg0.N)

theorem o7_A (h0 : t.val % 4 = 0) (h1 : t.val % 8 = 0) : (outsAt0 m c t.val t.isLt).2.1
    = View.canon (halves (iblk m c 0 t) (iblk m c 1 t) (iblk m c 2 t) (iblk m c 3 t) (iblk m c 4 t) (iblk m c 5 t)) := by
  rw [outsAt0_A m c t h0 h1]; dsimp only
  unfold out0_A_7
  rw [View.read_writes_junk_eq_canon]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, read_unread_whole, ld1, ld3, ld4, halves]

theorem o7_B (h0 : ¬ t.val % 4 = 0) (h1 : ¬ t.val % 8 = 0) : (outsAt0 m c t.val t.isLt).2.1
    = View.canon (halves (iblk m c 0 t) (iblk m c 1 t) (iblk m c 2 t) (iblk m c 3 t) (iblk m c 4 t) (iblk m c 5 t)) := by
  rw [outsAt0_B m c t h0 h1]; dsimp only
  unfold out0_B_7
  rw [View.read_writes_junk_eq_canon]
  unfold kernelRun0_B; dsimp only; sl_unfold_words
  simp only [View.readAt_eq_ld, (hs0_0 t).read_unread, (hs0_1 t).read_unread, (hs0_2 t).read_unread, (hs0_3 t).read_unread, (hs0_4 t).read_unread, (hs0_5 t).read_unread, read_unread_whole, ld1, ld3, ld4, halves]

theorem o7_C (h0 : t.val % 4 = 0) (h1 : ¬ t.val % 8 = 0) : (outsAt0 m c t.val t.isLt).2.1
    = View.canon (halves (iblk m c 0 t) (iblk m c 1 t) (iblk m c 2 t) (iblk m c 3 t) (iblk m c 4 t) (iblk m c 5 t)) := by
  rw [outsAt0_C m c t h0 h1]; dsimp only
  unfold out0_C_7
  rw [View.read_writes_junk_eq_canon]
  unfold kernelRun0_C; dsimp only; sl_unfold_words
  simp only [View.readAt_eq_ld, (hs0_0 t).read_unread, (hs0_1 t).read_unread, (hs0_2 t).read_unread, (hs0_3 t).read_unread, (hs0_4 t).read_unread, (hs0_5 t).read_unread, read_unread_whole, ld1, ld3, ld4, halves]

theorem o7 (y : S1x512x1024.Idx) : (outsAt0 m c t.val t.isLt).2.1 y
    = DB (iblk m c 0 t) (iblk m c 1 t) (iblk m c 2 t) (iblk m c 3 t) (iblk m c 4 t) (iblk m c 5 t) y := by
  refine Eq.trans ?_ (whole _ _ _ _ _ _ y)
  by_cases h0 : t.val % 4 = 0
  · by_cases h1 : t.val % 8 = 0
    · exact congrFun (o7_A m c t h0 h1) y
    · exact congrFun (o7_C m c t h0 h1) y
  · exact congrFun (o7_B m c t h0 (by omega)) y

end Points

section Reference
variable (x0 : (⟨S2x2048x4096, .f32⟩ : BufTy).Contents (Elt Ideal)) (x1 : (⟨S4096x1024, .f32⟩ : BufTy).Contents (Elt Ideal))
  (x2 : (⟨S2x2048x1024, .f32⟩ : BufTy).Contents (Elt Ideal)) (x3 : (⟨S1x1024, .f32⟩ : BufTy).Contents (Elt Ideal))
  (x4 : (⟨S2x1x1024, .f32⟩ : BufTy).Contents (Elt Ideal)) (x5 : (⟨S2x2048x1024, .f32⟩ : BufTy).Contents (Elt Ideal))

open Cert.DownProjRefIdeal.Read in
/-- The reference's product, at one place. -/
theorem ref2 (b : Fin 2) (i : Fin 2048) (j : Fin 1024) : val_main_v2 (F := Ideal) x0 x1 (ValueIdx.ix3 b i j)
    = ∑ k : Fin 4096, (val_main_v0 (F := Ideal) x0 (ValueIdx.ix3 b i k) * val_main_v0 (F := Ideal) x0 (ValueIdx.ix3 b i k) : EReal)
        * x1 (ValueIdx.ix2 k j) := by
  refine (val_main_v2_apply _ _ _).trans (Prod.dot_congr (fun k => ?_) (fun k => ?_))
  · refine (val_main_v1_apply _ _).trans (congrArg (fun q => (val_main_v0 (F := Ideal) x0 q * val_main_v0 (F := Ideal) x0 q : EReal)) ?_)
    funext ax; apply Fin.ext
    match ax with | ⟨0, _⟩ => rfl | ⟨1, _⟩ => rfl | ⟨2, _⟩ => rfl
  · refine congrArg x1 ?_
    funext ax; apply Fin.ext
    match ax with | ⟨0, _⟩ => rfl | ⟨1, _⟩ => rfl

open Cert.DownProjRefIdeal.Read in
/-- The reference's gradient of the loss, at one place. -/
theorem ref34 (b : Fin 2) (i : Fin 2048) (j : Fin 1024) : val_main_v34 (F := Ideal) x0 x1 x2 x3 x4 x5 (ValueIdx.ix3 b i j)
    = D (fun j => ∑ k : Fin 4096, (val_main_v0 (F := Ideal) x0 (ValueIdx.ix3 b i k) * val_main_v0 (F := Ideal) x0 (ValueIdx.ix3 b i k) : EReal)
        * x1 (ValueIdx.ix2 k j)) j (x2 (ValueIdx.ix3 b i j)) (x4 (ValueIdx.ix3 b 0 j)) (x3 (ValueIdx.ix2 0 j)) (x5 (ValueIdx.ix3 b i j)) := by
  have hd : (fun j => ∑ k : Fin 4096, (val_main_v0 (F := Ideal) x0 (ValueIdx.ix3 b i k) * val_main_v0 (F := Ideal) x0 (ValueIdx.ix3 b i k) : EReal)
        * x1 (ValueIdx.ix2 k j)) = fun j => val_main_v2 (F := Ideal) x0 x1 (ValueIdx.ix3 b i j) := funext fun j => (ref2 x0 x1 b i j).symm
  rw [hd]
  have h5 : val_main_v5 (F := Ideal) x0 x1 (idx_main_v6 (idx_main_v12 (ValueIdx.ix3 b i j)))
      = ∑ k : Fin 1024, (val_main_v2 (F := Ideal) x0 x1 (ValueIdx.ix3 b i k) * val_main_v2 (F := Ideal) x0 x1 (ValueIdx.ix3 b i k) : EReal) := by
    refine (val_main_v5_apply _ _ _).trans ?_
    refine (congrArg (fun z : EReal => z + _) Ideal.ofBits_zero_f32).trans ((zero_add _).trans (Finset.sum_congr rfl fun k _ => ?_))
    refine (val_main_v4_apply _ _ _).trans (congrArg (fun q => (val_main_v2 (F := Ideal) x0 x1 q * val_main_v2 (F := Ideal) x0 x1 q : EReal)) ?_)
    funext ax; apply Fin.ext
    match ax with | ⟨0, _⟩ => rfl | ⟨1, _⟩ => rfl | ⟨2, _⟩ => rfl
  have h12 : val_main_v12 (F := Ideal) x0 x1 (ValueIdx.ix3 b i j)
      = Ideal.rsqrt (Ideal.div (∑ k : Fin 1024, (val_main_v2 (F := Ideal) x0 x1 (ValueIdx.ix3 b i k) * val_main_v2 (F := Ideal) x0 x1 (ValueIdx.ix3 b i k) : EReal))
          (Ideal.ofBits .f32 0x44800000#32) + Ideal.ofBits .f32 0x358637BD#32) := by
    rw [val_main_v12_apply, val_main_v11_apply, val_main_v10_apply, val_main_v8_apply, val_main_v9_apply, val_main_v7_apply, val_main_v6_apply, h5]
    rfl
  have h15 : val_main_v15 (F := Ideal) x3 (ValueIdx.ix3 b i j) = x3 (ValueIdx.ix2 0 j) := by
    rw [val_main_v15_apply, val_main_v14_apply, val_main_v3_apply]
    refine congrArg x3 ?_
    funext ax; apply Fin.ext
    match ax with
    | ⟨0, _⟩ => rfl
    | ⟨1, _⟩ => exact Nat.mod_eq_of_lt j.isLt
  have h17 : val_main_v17 (F := Ideal) x4 (ValueIdx.ix3 b i j) = x4 (ValueIdx.ix3 b 0 j) := by
    rw [val_main_v17_apply]
    refine congrArg x4 ?_
    funext ax; apply Fin.ext
    match ax with | ⟨0, _⟩ => rfl | ⟨1, _⟩ => rfl | ⟨2, _⟩ => rfl
  rw [val_main_v34_apply, val_main_v33_apply, val_main_v32_apply, val_main_v31_apply, val_main_v30_apply, val_main_v29_apply,
    val_main_v23_apply, val_main_v22_apply, val_main_v20_apply, val_main_v19_apply, val_main_v18_apply, val_main_v16_apply,
    val_main_v13_apply, h12, h15, h17]
  refine (scale _).trans (congrArg (fun z : EReal => z * Ideal.ofBits .f32 0x3A800000#32) ?_)
  refine congrArg (fun z : EReal => x2 (ValueIdx.ix3 b i j) + z - x5 (ValueIdx.ix3 b i j)) ?_
  refine Eq.trans (mul_left_comm _ _ _) ?_
  exact rfl

end Reference

theorem e0 : ∀ t : Fin cfg0.N, win0_0.index t = ![t.val / 4, t.val % 4, 0] :=
  (by decide +kernel : ∀ t : Fin grid0.N, win0_0.index t = ![t.val / 4, t.val % 4, 0])
theorem e1 : ∀ t : Fin cfg0.N, win0_1.index t = ![0, 0] :=
  (by decide +kernel : ∀ t : Fin grid0.N, win0_1.index t = ![0, 0])
theorem e2 : ∀ t : Fin cfg0.N, win0_2.index t = ![t.val / 4, t.val % 4, 0] :=
  (by decide +kernel : ∀ t : Fin grid0.N, win0_2.index t = ![t.val / 4, t.val % 4, 0])
theorem e3 : ∀ t : Fin cfg0.N, win0_3.index t = ![0, 0] :=
  (by decide +kernel : ∀ t : Fin grid0.N, win0_3.index t = ![0, 0])
theorem e4 : ∀ t : Fin cfg0.N, win0_4.index t = ![t.val / 4, 0, 0] :=
  (by decide +kernel : ∀ t : Fin grid0.N, win0_4.index t = ![t.val / 4, 0, 0])
theorem e5 : ∀ t : Fin cfg0.N, win0_5.index t = ![t.val / 4, t.val % 4, 0] :=
  (by decide +kernel : ∀ t : Fin grid0.N, win0_5.index t = ![t.val / 4, t.val % 4, 0])
theorem e7 : ∀ t : Fin cfg0.N, win0_7.index t = ![t.val / 4, t.val % 4, 0] :=
  (by decide +kernel : ∀ t : Fin grid0.N, win0_7.index t = ![t.val / 4, t.val % 4, 0])

theorem v1 (i : S2x2048x4096.Idx) : V m c main_v1 i = Cert.DownProjRefIdeal.Read.val_main_v0 (F := Ideal) (m (c, Proc.devRef .tc main_arg0)) i := by
  entry_read
  rfl
theorem v2 (i : S4096x1024.Idx) : V m c main_v2 i = m (c, Proc.devRef .tc main_arg1) i := by
  entry_read
  rfl
theorem w2 (i : S2x2048x1024.Idx) : V m c main_arg2 i = m (c, Proc.devRef .tc main_arg2) i := by
  entry_read
  rfl
theorem w3 (i : S1x1024.Idx) : V m c main_arg3 i = m (c, Proc.devRef .tc main_arg3) i := by
  entry_read
  rfl
theorem w4 (i : S2x1x1024.Idx) : V m c main_arg4 i = m (c, Proc.devRef .tc main_arg4) i := by
  entry_read
  rfl
theorem w5 (i : S2x2048x1024.Idx) : V m c main_arg5 i = m (c, Proc.devRef .tc main_arg5) i := by
  entry_read
  rfl

set_option maxHeartbeats 1000000 in
theorem arr : (dats m 0 c).arrAt 7 cfg0.N =
    Cert.DownProjRefIdeal.Read.val_main_v34 (F := Ideal) (m (c, Proc.devRef .tc main_arg0)) (m (c, Proc.devRef .tc main_arg1))
      (m (c, Proc.devRef .tc main_arg2)) (m (c, Proc.devRef .tc main_arg3)) (m (c, Proc.devRef .tc main_arg4))
      (m (c, Proc.devRef .tc main_arg5)) := by
  refine (dats m 0 c).arrAt_eq_of_covers 7 _ (by decide +kernel) fun t hf y => ?_
  blk_simp
  rw [after0_7]
  have q0 : ((((cfg0.win 7).blk t).view.emb y : S2x2048x1024.Idx) 0).val = t.val / 4 := by
    blk_simp [e7]
  have q1 : ((((cfg0.win 7).blk t).view.emb y : S2x2048x1024.Idx) 1).val = t.val % 4 * 512 + (y 1).val := by
    blk_simp [e7]
  have q2 : ((((cfg0.win 7).blk t).view.emb y : S2x2048x1024.Idx) 2).val = (y 2).val := by
    blk_simp [e7]
  refine (o7 m c t _).trans ?_
  refine Eq.trans ?_ (congrArg _ (ValueIdx.eq_ix3 (n0 := 2) (n1 := 2048) (n2 := 1024) _)).symm
  refine Eq.trans ?_ (ref34 _ _ _ _ _ _ _ _ _).symm
  refine D_congr (fun j => Prod.dot_congr (fun k => congrArg (fun z : EReal => z * z) ?_) (fun k => ?_)) ?_ ?_ ?_ ?_ ?_
  · refine Eq.trans ?_ (v1 m c _)
    blk_simp [iblk]
    refine congrArg (V m c main_v1) ?_
    blk_ext [e0, e7]
    all_goals first | exact q0.symm | exact q1.symm | exact q2.symm
  · refine Eq.trans ?_ (v2 m c _)
    blk_simp [iblk]
    refine congrArg (V m c main_v2) ?_
    blk_ext [e1, e7]
    all_goals first | exact q0.symm | exact q1.symm | exact q2.symm
  · apply Fin.ext
    blk_simp [e7]
  · refine Eq.trans ?_ (w2 m c _)
    blk_simp [iblk]
    refine congrArg (V m c main_arg2) ?_
    blk_ext [e2, e7]
    all_goals first | exact q0.symm | exact q1.symm | exact q2.symm
  · refine Eq.trans ?_ (w4 m c _)
    blk_simp [iblk]
    refine congrArg (V m c main_arg4) ?_
    blk_ext [e4, e7]
    all_goals first | exact q0.symm | exact q1.symm | exact q2.symm
  · refine Eq.trans ?_ (w3 m c _)
    blk_simp [iblk]
    refine congrArg (V m c main_arg3) ?_
    blk_ext [e3, e7]
    all_goals first | exact q0.symm | exact q1.symm | exact q2.symm
  · refine Eq.trans ?_ (w5 m c _)
    blk_simp [iblk]
    refine congrArg (V m c main_arg5) ?_
    blk_ext [e5, e7]
    all_goals first | exact q0.symm | exact q1.symm | exact q2.symm

end Cert.DownProjVal
-- ==== Proof.DownProjCall.lean ====
/-
  The frames and the value of the call that ends the mixer and begins the backward pass.
-/
module

public import proofs.«01_k».proof.Defs
public import proofs.«01_k».proof.Proof.Gen.DownProj
public import proofs.«01_k».proof.Proof.Gen.DownProjIdeal
public import proofs.«01_k».proof.Proof.Gen.DownProjRefIdeal
public import proofs.«01_k».proof.Proof.Gen.DownProj.Frame
public import proofs.«01_k».proof.Proof.Gen.DownProjIdeal.Frame
public import proofs.«01_k».proof.Proof.Gen.DownProjIdeal.Value
public import proofs.«01_k».proof.Proof.Gen.DownProjRefIdeal.Run
public import proofs.«01_k».proof.Proof.Gen.DownProjRefIdeal.Read
public import proofs.«01_k».proof.Proof.DownProjVal
public import Idealize.ShloMosaic.Adequacy
public import Idealize.ShloMosaic.Init

@[expose] public section

noncomputable section

namespace Cert.Calls

open Idealize.ShloMosaic Idealize.SL.Sem

theorem frame_DownProj_p : Cert.quiescent_DownProj := fun m ρ _ => Cert.DownProj.Gen.frame m ρ

theorem frame_DownProj_pi : Cert.quiescent_DownProjIdeal := fun m ρ _ => Cert.DownProjIdeal.Gen.frame m ρ

theorem frame_DownProj_ri : Cert.quiescent_DownProjRefIdeal := fun m ρ _ =>
  (θ_run Cert.DownProjRefIdeal.defs _ _).mono
    (fun r h => ⟨fun c => (h c).2, Idealize.ShloMosaic.sem_eq_zero_of_no_sems (by decide) r.2⟩)
    (Cert.DownProjRefIdeal.Value.run (F := Ideal) m ρ)

theorem values_DownProj : Cert.algebraic_DownProjIdeal_DownProjRefIdeal := by
  intro m g m' g' _ ha
  refine ⟨fun c => Cert.DownProjRefIdeal.Read.val_main_v34 (F := Ideal) (m (c, Proc.devRef .tc Cert.DownProjIdeal.main_arg0)) (m (c, Proc.devRef .tc Cert.DownProjIdeal.main_arg1)) (m (c, Proc.devRef .tc Cert.DownProjIdeal.main_arg2)) (m (c, Proc.devRef .tc Cert.DownProjIdeal.main_arg3)) (m (c, Proc.devRef .tc Cert.DownProjIdeal.main_arg4)) (m (c, Proc.devRef .tc Cert.DownProjIdeal.main_arg5)), ?_, ?_⟩
  · exact (θ_run Cert.DownProjIdeal.defs _ _).mono (fun r h c => ⟨(h c).2.1.trans (Cert.DownProjVal.arr m c), (h c).2.2.2.2.2⟩)
      (Cert.DownProjIdeal.Value.run_blocks m g)
  · refine (θ_run Cert.DownProjRefIdeal.defs _ _).mono (fun r h c => ?_) (Cert.DownProjRefIdeal.Value.run (F := Ideal) m' g')
    obtain ⟨a0, a1, a2, a3, a4, a5⟩ := ha c
    exact ⟨((h c).1.trans (Cert.DownProjRefIdeal.Read.val_main_v34_eq _ _ _ _ _ _)).trans
      (congr (congr (congr (congr (congr (congrArg (Cert.DownProjRefIdeal.Read.val_main_v34 (F := Ideal)) a0) a1) a2) a3) a4) a5), (h c).2⟩

end Cert.Calls

end
-- ==== Proof.Rms.lean ====
/-
  The normalisation of a row by its root mean square, as both programs compute it, and the row it is read from in a block.
-/
module

public import proofs.«01_k».proof.Proof.Prod

@[expose] public section

set_option maxRecDepth 16384

noncomputable section

namespace Cert.Rms

open Idealize.ShloMosaic Idealize.ShloMosaic.TcCoe
open scoped BigOperators

/-- A row over its root mean square, weighted. -/
def norm (d w : Fin 1024 → EReal) (j : Fin 1024) : EReal :=
  d j * Ideal.rsqrt (Ideal.div (∑ k, d k * d k) (Ideal.ofBits .f32 0x44800000#32) + Ideal.ofBits .f32 0x358637BD#32) * w j

/-- A residual row after a gated, normalised row has been added. -/
def resid (d x g w : Fin 1024 → EReal) (j : Fin 1024) : EReal := x j + g j * norm d w j

/-- A normalised row, scaled and shifted. -/
def mod (d w s h : Fin 1024 → EReal) (j : Fin 1024) : EReal :=
  norm d w j * (Ideal.ofBits .f32 0x3F800000#32 + s j) + h j

theorem resid_congr {d d' x x' g g' w w' : Fin 1024 → EReal} {j j' : Fin 1024} (hd : ∀ k, d k = d' k) (hx : ∀ k, x k = x' k)
    (hg : ∀ k, g k = g' k) (hw : ∀ k, w k = w' k) (hj : j = j') : resid d x g w j = resid d' x' g' w' j' := by
  obtain rfl : d = d' := funext hd
  obtain rfl : x = x' := funext hx
  obtain rfl : g = g' := funext hg
  obtain rfl : w = w' := funext hw
  subst hj
  rfl

theorem mod_congr {d d' w w' s s' h h' : Fin 1024 → EReal} {j j' : Fin 1024} (hd : ∀ k, d k = d' k) (hw : ∀ k, w k = w' k)
    (hs : ∀ k, s k = s' k) (hh : ∀ k, h k = h' k) (hj : j = j') : mod d w s h j = mod d' w' s' h' j' := by
  obtain rfl : d = d' := funext hd
  obtain rfl : w = w' := funext hw
  obtain rfl : s = s' := funext hs
  obtain rfl : h = h' := funext hh
  subst hj
  rfl

theorem sum1 {a b : ℕ} {φ : FTy} (x : FVec Ideal ⟨2, ![a, b]⟩ φ) {acc : BitVec φ.bits}
    (hr : (⟨2, ![a, b]⟩ : Shape).Reduces [1] ⟨1, ![a]⟩) (hφ : FKind.Formats φ) (hacc : acc = FKind.add.neutral φ hφ) (i : Fin a) :
    multiReduction .add [1] ⟨1, ![a]⟩ x acc hr hφ hacc (ValueIdx.ix1 i) = ∑ k : Fin b, (x (ValueIdx.ix2 i k) : EReal) := by
  rw [Ideal.multiReduction_add_single]
  refine Finset.sum_congr rfl fun k _ => ?_
  congr 1
  funext ax; apply Fin.ext
  match ax with | ⟨0, _⟩ => rfl | ⟨1, _⟩ => rfl

/-- One row broadcast down a block. -/
theorem rows {a b : ℕ} (w : FVec Ideal ⟨2, ![1, b]⟩ .f32) (h : (⟨2, ![1, b]⟩ : Shape).Broadcasts ⟨2, ![a, b]⟩) (hb : b ≠ 1) (i : Fin a) (j : Fin b) :
    broadcastTo ⟨2, ![a, b]⟩ w h (ValueIdx.ix2 i j) = w (ValueIdx.ix2 0 j) := by
  refine broadcastTo_apply _ h _ (ValueIdx.ix2 (0 : Fin 1) j) fun ax => ?_
  match ax with
  | ⟨0, _⟩ => rfl
  | ⟨1, _⟩ => exact (if_neg hb).symm

/-- A row cut out of a one-by-one stack of rows. -/
theorem row {b : ℕ} (v : FVec Ideal ⟨3, ![1, 1, b]⟩ .f32) (h : (⟨3, ![1, 1, b]⟩ : Shape).ShapeCasts ⟨2, ![1, b]⟩) (j : Fin b) :
    shapeCast ⟨2, ![1, b]⟩ v h (ValueIdx.ix2 0 j) = v (ValueIdx.ix3 0 0 j) :=
  ValueIdx.shapeCast_1ab_ab_apply _ _ _ _

/-- A block cut out of a stack of one. -/
theorem slab {a b : ℕ} {φ : FTy} (v : FVec Ideal ⟨3, ![1, a, b]⟩ φ) (h : (⟨3, ![1, a, b]⟩ : Shape).ShapeCasts ⟨2, ![a, b]⟩) (i : Fin a) (j : Fin b) :
    shapeCast ⟨2, ![a, b]⟩ v h (ValueIdx.ix2 i j) = v (ValueIdx.ix3 0 i j) :=
  ValueIdx.shapeCast_1ab_ab_apply _ _ _ _

theorem unslab {a b : ℕ} {φ : FTy} (v : FVec Ideal ⟨2, ![a, b]⟩ φ) (h : (⟨2, ![a, b]⟩ : Shape).ShapeCasts ⟨3, ![1, a, b]⟩)
    (i : (⟨3, ![1, a, b]⟩ : Shape).Idx) :
    shapeCast ⟨3, ![1, a, b]⟩ v h i = v (ValueIdx.ix2 (i 1) (i 2)) := by
  refine (congrArg _ (ValueIdx.eq_ix3 i)).trans ?_
  exact ValueIdx.shapeCast_ab_1ab_apply _ _ _ _ _

theorem pay {a : ℕ} (x : FVec Ideal ⟨2, ![a, 1024]⟩ .f32) (w : FVec Ideal ⟨2, ![1, 1024]⟩ .f32) {acc : BitVec (FTy.bits .f32)}
    (hr : (⟨2, ![a, 1024]⟩ : Shape).Reduces [1] ⟨1, ![a]⟩) (hφ : FKind.Formats .f32) (hacc : acc = FKind.add.neutral .f32 hφ)
    (h1 : (⟨1, ![a]⟩ : Shape).ShapeCasts ⟨2, ![a, 1]⟩) (h2 : (⟨2, ![a, 1]⟩ : Shape).Broadcasts ⟨2, ![a, 1024]⟩)
    (h3 : (⟨2, ![1, 1024]⟩ : Shape).Broadcasts ⟨2, ![a, 1024]⟩) (i : Fin a) (j : Fin 1024) :
    mulf (mulf x (broadcastTo ⟨2, ![a, 1024]⟩
        (rsqrt (addf (divf (shapeCast ⟨2, ![a, 1]⟩ (multiReduction .add [1] ⟨1, ![a]⟩ (mulf x x) acc hr hφ hacc) h1)
          (broadcast ⟨2, ![a, 1]⟩ (Scalar.ofBits (F := Ideal) .f32 0x44800000#32)))
          (broadcast ⟨2, ![a, 1]⟩ (Scalar.ofBits (F := Ideal) .f32 0x358637BD#32)))) h2))
      (broadcastTo ⟨2, ![a, 1024]⟩ w h3) (ValueIdx.ix2 i j)
      = norm (fun k => x (ValueIdx.ix2 i k)) (fun k => w (ValueIdx.ix2 0 k)) j := by
  refine congrArg₂ (fun u v : EReal => u * v) (congrArg (fun v : EReal => x (ValueIdx.ix2 i j) * v) ?_) (rows w h3 (by decide) i j)
  refine (broadcastTo_apply _ h2 _ (ValueIdx.ix2 i (0 : Fin 1)) fun ax => ?_).trans ?_
  · match ax with
    | ⟨0, _⟩ =>
      show i.val = if a = 1 then 0 else i.val
      split <;> omega
    | ⟨1, _⟩ => rfl
  · refine congrArg (fun z : EReal => Ideal.rsqrt (Ideal.div z (Ideal.ofBits .f32 0x44800000#32) + Ideal.ofBits .f32 0x358637BD#32)) ?_
    refine (ValueIdx.shapeCast_a_a1_apply _ _ i 0).trans ?_
    exact sum1 _ hr hφ hacc i

end Cert.Rms
-- ==== Proof.OutProjVal.lean ====
/-
  The projection out of the mixer: the product, the residual row and the normalised row of each block of the kernel's
  arrays are the reference's.
-/
module

public import proofs.«01_k».proof.Proof.Rms
public import proofs.«01_k».proof.Proof.Gen.OutProjIdeal.Value
public import proofs.«01_k».proof.Proof.Gen.OutProjRefIdeal.Read
public import proofs.«01_k».proof.Defs
public import Idealize.ShloMosaic.Lib.Pipeline.ValueKit

@[expose] public section

set_option maxRecDepth 16384

noncomputable section

namespace Cert.OutProjVal

open Idealize.ShloMosaic Idealize.ShloMosaic.TcCoe Idealize.SL.Sem
open Cert.OutProjIdeal Cert.OutProjIdeal.Gen
open scoped BigOperators

section Payloads

variable (A : Vec Ideal S1x512x1024 .bf16) (W : Vec Ideal S1024x1024 .bf16) (P : Vec Ideal S1x1024 .f32)
  (X : Vec Ideal S1x512x1024 .f32) (G : Vec Ideal S1x1x1024 .f32)

/-- A row of the product of two blocks. -/
def rowB (i : Fin 512) (j : Fin 1024) : EReal := ∑ k : Fin 1024, (A (ValueIdx.ix3 0 i k) : EReal) * W (ValueIdx.ix2 k j)

theorem pay2 (i : Fin 512) (j : Fin 1024) : k0_pay2 A W (ValueIdx.ix2 i j) = rowB A W i j := by
  unfold k0_pay2
  refine (Prod.nn (a := 512) (b := 1024) (c := 1024) _ _ none (ValueIdx.ix2 i j)).trans ?_
  exact Prod.dot_congr (fun k => Rms.slab (a := 512) (b := 1024) A _ i k) (fun k => shapeCast_apply _ _ _ _ rfl)

theorem pay3 (i : S1x512x1024.Idx) : k0_pay3 A W i = rowB A W (i 1) (i 2) := by
  unfold k0_pay3
  exact (Rms.unslab (a := 512) (b := 1024) _ _ i).trans (pay2 A W (i 1) (i 2))

theorem pay4 (i : Fin 512) (j : Fin 1024) : k0_pay4 A W P X G (ValueIdx.ix2 i j)
    = Rms.resid (rowB A W i) (fun k => X (ValueIdx.ix3 0 i k)) (fun k => G (ValueIdx.ix3 0 0 k)) (fun k => P (ValueIdx.ix2 0 k)) j := by
  have hd : rowB A W i = fun j => k0_pay2 A W (ValueIdx.ix2 i j) := funext fun j => (pay2 A W i j).symm
  rw [hd]
  unfold k0_pay4 Rms.resid
  refine congrArg₂ (fun u v : EReal => u + v) (Rms.slab (a := 512) (b := 1024) X _ i j) (congrArg₂ (fun u v : EReal => u * v) ?_ ?_)
  · exact (Rms.rows (a := 512) (b := 1024) _ _ (by decide) i j).trans (Rms.row G _ j)
  · exact Rms.pay (a := 512) (k0_pay2 A W) P _ _ _ _ _ _ i j

theorem pay5 (i : S1x512x1024.Idx) : k0_pay5 A W P X G i
    = Rms.resid (rowB A W (i 1)) (fun k => X (ValueIdx.ix3 0 (i 1) k)) (fun k => G (ValueIdx.ix3 0 0 k)) (fun k => P (ValueIdx.ix2 0 k)) (i 2) := by
  unfold k0_pay5
  exact (Rms.unslab (a := 512) (b := 1024) _ _ i).trans (pay4 A W P X G (i 1) (i 2))

theorem pay1 (Q : Vec Ideal S1x1024 .f32) (S H : Vec Ideal S1x1x1024 .f32) (i : S1x512x1024.Idx) :
    k0_pay1 (k0_pay4 A W P X G) Q S H i
      = Rms.mod (Rms.resid (rowB A W (i 1)) (fun k => X (ValueIdx.ix3 0 (i 1) k)) (fun k => G (ValueIdx.ix3 0 0 k)) (fun k => P (ValueIdx.ix2 0 k)))
          (fun k => Q (ValueIdx.ix2 0 k)) (fun k => S (ValueIdx.ix3 0 0 k)) (fun k => H (ValueIdx.ix3 0 0 k)) (i 2) := by
  have hd : Rms.resid (rowB A W (i 1)) (fun k => X (ValueIdx.ix3 0 (i 1) k)) (fun k => G (ValueIdx.ix3 0 0 k)) (fun k => P (ValueIdx.ix2 0 k))
      = fun j => k0_pay4 A W P X G (ValueIdx.ix2 (i 1) j) := funext fun j => (pay4 A W P X G (i 1) j).symm
  rw [hd]
  unfold k0_pay1 Rms.mod
  refine (Rms.unslab (a := 512) (b := 1024) _ _ i).trans ?_
  refine congrArg₂ (fun u v : EReal => u + v) (congrArg₂ (fun u v : EReal => u * v) ?_ ?_) ?_
  · exact Rms.pay (a := 512) (k0_pay4 A W P X G) Q _ _ _ _ _ _ (i 1) (i 2)
  · refine (Rms.rows (a := 512) (b := 1024) _ _ (by decide) (i 1) (i 2)).trans ?_
    exact congrArg (fun v : EReal => Ideal.ofBits .f32 0x3F800000#32 + v) (Rms.row S _ (i 2))
  · exact (Rms.rows (a := 512) (b := 1024) _ _ (by decide) (i 1) (i 2)).trans (Rms.row H _ (i 2))

end Payloads

section Reference
variable (x0 : (⟨S2x2048x1024, .f32⟩ : BufTy).Contents (Elt Ideal)) (x1 : (⟨S1024x1024, .f32⟩ : BufTy).Contents (Elt Ideal))
  (x2 : (⟨S2x2048x1024, .f32⟩ : BufTy).Contents (Elt Ideal)) (x3 : (⟨S1x1024, .f32⟩ : BufTy).Contents (Elt Ideal))
  (x4 : (⟨S2x1x1024, .f32⟩ : BufTy).Contents (Elt Ideal)) (x5 : (⟨S1x1024, .f32⟩ : BufTy).Contents (Elt Ideal))
  (x6 x7 : (⟨S2x1x1024, .f32⟩ : BufTy).Contents (Elt Ideal))

/-- A row of the product of the two matrices. -/
def rowA (b : Fin 2) (i : Fin 2048) (j : Fin 1024) : EReal := ∑ k : Fin 1024, (x0 (ValueIdx.ix3 b i k) : EReal) * x1 (ValueIdx.ix2 k j)

open Cert.OutProjRefIdeal.Read in
theorem ref0 (b : Fin 2) (i : Fin 2048) (j : Fin 1024) : val_main_v0 (F := Ideal) x0 x1 (ValueIdx.ix3 b i j) = rowA x0 x1 b i j := by
  refine (val_main_v0_apply _ _ _).trans (Prod.dot_congr (fun k => ?_) (fun k => ?_))
  · refine congrArg x0 ?_
    funext ax; apply Fin.ext
    match ax with | ⟨0, _⟩ => rfl | ⟨1, _⟩ => rfl | ⟨2, _⟩ => rfl
  · refine congrArg x1 ?_
    funext ax; apply Fin.ext
    match ax with | ⟨0, _⟩ => rfl | ⟨1, _⟩ => rfl

open Cert.OutProjRefIdeal.Read in
theorem ref17 (b : Fin 2) (i : Fin 2048) (j : Fin 1024) : val_main_v17 (F := Ideal) x0 x1 x2 x3 x4 (ValueIdx.ix3 b i j)
    = Rms.resid (rowA x0 x1 b i) (fun k => x2 (ValueIdx.ix3 b i k)) (fun k => x4 (ValueIdx.ix3 b 0 k)) (fun k => x3 (ValueIdx.ix2 0 k)) j := by
  have hd : rowA x0 x1 b i = fun j => val_main_v0 (F := Ideal) x0 x1 (ValueIdx.ix3 b i j) := funext fun j => (ref0 x0 x1 b i j).symm
  rw [hd]
  have h3 : val_main_v3 (F := Ideal) x0 x1 (idx_main_v4 (idx_main_v10 (ValueIdx.ix3 b i j)))
      = ∑ k : Fin 1024, (val_main_v0 (F := Ideal) x0 x1 (ValueIdx.ix3 b i k) * val_main_v0 (F := Ideal) x0 x1 (ValueIdx.ix3 b i k) : EReal) := by
    refine (val_main_v3_apply _ _ _).trans ?_
    refine (congrArg (fun z : EReal => z + _) Ideal.ofBits_zero_f32).trans ((zero_add _).trans (Finset.sum_congr rfl fun k _ => ?_))
    refine (val_main_v2_apply _ _ _).trans (congrArg (fun q => (val_main_v0 (F := Ideal) x0 x1 q * val_main_v0 (F := Ideal) x0 x1 q : EReal)) ?_)
    funext ax; apply Fin.ext
    match ax with | ⟨0, _⟩ => rfl | ⟨1, _⟩ => rfl | ⟨2, _⟩ => rfl
  have h13 : val_main_v13 (F := Ideal) x3 (ValueIdx.ix3 b i j) = x3 (ValueIdx.ix2 0 j) := by
    rw [val_main_v13_apply, val_main_v12_apply, val_main_v1_apply]
    refine congrArg x3 ?_
    funext ax; apply Fin.ext
    match ax with
    | ⟨0, _⟩ => rfl
    | ⟨1, _⟩ => exact Nat.mod_eq_of_lt j.isLt
  have h15 : val_main_v15 (F := Ideal) x4 (ValueIdx.ix3 b i j) = x4 (ValueIdx.ix3 b 0 j) := by
    rw [val_main_v15_apply]
    refine congrArg x4 ?_
    funext ax; apply Fin.ext
    match ax with | ⟨0, _⟩ => rfl | ⟨1, _⟩ => rfl | ⟨2, _⟩ => rfl
  rw [val_main_v17_apply, val_main_v16_apply, val_main_v14_apply, val_main_v11_apply, val_main_v10_apply, val_main_v9_apply, val_main_v8_apply,
    val_main_v6_apply, val_main_v7_apply, val_main_v5_apply, val_main_v4_apply, h3, h13, h15]
  rfl

open Cert.OutProjRefIdeal.Read in
theorem ref38 (b : Fin 2) (i : Fin 2048) (j : Fin 1024) : val_main_v38 (F := Ideal) x0 x1 x2 x3 x4 x5 x6 x7 (ValueIdx.ix3 b i j)
    = Rms.mod (Rms.resid (rowA x0 x1 b i) (fun k => x2 (ValueIdx.ix3 b i k)) (fun k => x4 (ValueIdx.ix3 b 0 k)) (fun k => x3 (ValueIdx.ix2 0 k)))
        (fun k => x5 (ValueIdx.ix2 0 k)) (fun k => x6 (ValueIdx.ix3 b 0 k)) (fun k => x7 (ValueIdx.ix3 b 0 k)) j := by
  have hd : Rms.resid (rowA x0 x1 b i) (fun k => x2 (ValueIdx.ix3 b i k)) (fun k => x4 (ValueIdx.ix3 b 0 k)) (fun k => x3 (ValueIdx.ix2 0 k))
      = fun j => val_main_v17 (F := Ideal) x0 x1 x2 x3 x4 (ValueIdx.ix3 b i j) := funext fun j => (ref17 x0 x1 x2 x3 x4 b i j).symm
  rw [hd]
  have h20 : val_main_v20 (F := Ideal) x0 x1 x2 x3 x4 (idx_main_v21 (idx_main_v27 (ValueIdx.ix3 b i j)))
      = ∑ k : Fin 1024, (val_main_v17 (F := Ideal) x0 x1 x2 x3 x4 (ValueIdx.ix3 b i k) * val_main_v17 (F := Ideal) x0 x1 x2 x3 x4 (ValueIdx.ix3 b i k) : EReal) := by
    refine (val_main_v20_apply _ _ _ _ _ _).trans ?_
    refine (congrArg (fun z : EReal => z + _) Ideal.ofBits_zero_f32).trans ((zero_add _).trans (Finset.sum_congr rfl fun k _ => ?_))
    refine (val_main_v19_apply _ _ _ _ _ _).trans
      (congrArg (fun q => (val_main_v17 (F := Ideal) x0 x1 x2 x3 x4 q * val_main_v17 (F := Ideal) x0 x1 x2 x3 x4 q : EReal)) ?_)
    funext ax; apply Fin.ext
    match ax with | ⟨0, _⟩ => rfl | ⟨1, _⟩ => rfl | ⟨2, _⟩ => rfl
  have h30 : val_main_v30 (F := Ideal) x5 (ValueIdx.ix3 b i j) = x5 (ValueIdx.ix2 0 j) := by
    rw [val_main_v30_apply, val_main_v29_apply, val_main_v18_apply]
    refine congrArg x5 ?_
    funext ax; apply Fin.ext
    match ax with
    | ⟨0, _⟩ => rfl
    | ⟨1, _⟩ => exact Nat.mod_eq_of_lt j.isLt
  have h36 : idx_main_v36 (ValueIdx.ix3 b i j) = ValueIdx.ix3 b 0 j := by
    funext ax; apply Fin.ext
    match ax with | ⟨0, _⟩ => rfl | ⟨1, _⟩ => rfl | ⟨2, _⟩ => rfl
  have h34 : idx_main_v34 (ValueIdx.ix3 b i j) = ValueIdx.ix3 b 0 j := by
    funext ax; apply Fin.ext
    match ax with | ⟨0, _⟩ => rfl | ⟨1, _⟩ => rfl | ⟨2, _⟩ => rfl
  rw [val_main_v38_apply, val_main_v37_apply, val_main_v36_apply, h36, val_main_v35_apply, val_main_v34_apply, val_main_v33_apply, h34, val_main_v32_apply,
    val_main_v31_apply, val_main_v28_apply, val_main_v27_apply, val_main_v26_apply, val_main_v25_apply,
    val_main_v23_apply, val_main_v24_apply, val_main_v22_apply, val_main_v21_apply, h20, h30]
  rfl

end Reference

theorem e0 : ∀ t : Fin cfg0.N, win0_0.index t = ![t.val / 4, t.val % 4, 0] :=
  (by decide +kernel : ∀ t : Fin grid0.N, win0_0.index t = ![t.val / 4, t.val % 4, 0])
theorem e1 : ∀ t : Fin cfg0.N, win0_1.index t = ![0, 0] :=
  (by decide +kernel : ∀ t : Fin grid0.N, win0_1.index t = ![0, 0])
theorem e2 : ∀ t : Fin cfg0.N, win0_2.index t = ![t.val / 4, t.val % 4, 0] :=
  (by decide +kernel : ∀ t : Fin grid0.N, win0_2.index t = ![t.val / 4, t.val % 4, 0])
theorem e3 : ∀ t : Fin cfg0.N, win0_3.index t = ![0, 0] :=
  (by decide +kernel : ∀ t : Fin grid0.N, win0_3.index t = ![0, 0])
theorem e4 : ∀ t : Fin cfg0.N, win0_4.index t = ![t.val / 4, 0, 0] :=
  (by decide +kernel : ∀ t : Fin grid0.N, win0_4.index t = ![t.val / 4, 0, 0])
theorem e5 : ∀ t : Fin cfg0.N, win0_5.index t = ![0, 0] :=
  (by decide +kernel : ∀ t : Fin grid0.N, win0_5.index t = ![0, 0])
theorem e6 : ∀ t : Fin cfg0.N, win0_6.index t = ![t.val / 4, 0, 0] :=
  (by decide +kernel : ∀ t : Fin grid0.N, win0_6.index t = ![t.val / 4, 0, 0])
theorem e7 : ∀ t : Fin cfg0.N, win0_7.index t = ![t.val / 4, 0, 0] :=
  (by decide +kernel : ∀ t : Fin grid0.N, win0_7.index t = ![t.val / 4, 0, 0])
theorem e8 : ∀ t : Fin cfg0.N, win0_8.index t = ![t.val / 4, t.val % 4, 0] :=
  (by decide +kernel : ∀ t : Fin grid0.N, win0_8.index t = ![t.val / 4, t.val % 4, 0])
theorem e9 : ∀ t : Fin cfg0.N, win0_9.index t = ![t.val / 4, t.val % 4, 0] :=
  (by decide +kernel : ∀ t : Fin grid0.N, win0_9.index t = ![t.val / 4, t.val % 4, 0])
theorem e10 : ∀ t : Fin cfg0.N, win0_10.index t = ![t.val / 4, t.val % 4, 0] :=
  (by decide +kernel : ∀ t : Fin grid0.N, win0_10.index t = ![t.val / 4, t.val % 4, 0])

variable (m : (ℓ : Loc nD τ sig) → Buf (Elt Ideal) ℓ) (c : Dev nD)

theorem v0 (i : S2x2048x1024.Idx) : V m c main_v0 i = m (c, Proc.devRef .tc main_arg0) i := by
  entry_read
  rfl
theorem v1 (i : S1024x1024.Idx) : V m c main_v1 i = m (c, Proc.devRef .tc main_arg1) i := by
  entry_read
  rfl
theorem w2 (i : S2x2048x1024.Idx) : V m c main_arg2 i = m (c, Proc.devRef .tc main_arg2) i := by
  entry_read
  rfl
theorem w3 (i : S1x1024.Idx) : V m c main_arg3 i = m (c, Proc.devRef .tc main_arg3) i := by
  entry_read
  rfl
theorem w4 (i : S2x1x1024.Idx) : V m c main_arg4 i = m (c, Proc.devRef .tc main_arg4) i := by
  entry_read
  rfl
theorem w5 (i : S1x1024.Idx) : V m c main_arg5 i = m (c, Proc.devRef .tc main_arg5) i := by
  entry_read
  rfl
theorem w6 (i : S2x1x1024.Idx) : V m c main_arg6 i = m (c, Proc.devRef .tc main_arg6) i := by
  entry_read
  rfl
theorem w7 (i : S2x1x1024.Idx) : V m c main_arg7 i = m (c, Proc.devRef .tc main_arg7) i := by
  entry_read
  rfl

section Rows
-- The stack and the row of an array that a row of a grid point's block is.
variable (t : Fin cfg0.N) (b : Fin 2) (r : Fin 2048) (i : Fin 512) (hb : b.val = t.val / 4) (hr : r.val = t.val % 4 * 512 + i.val)
include hb hr

theorem b0 (k : Fin 1024) : iblk m c 0 t (ValueIdx.ix3 0 i k) = m (c, Proc.devRef .tc main_arg0) (ValueIdx.ix3 b r k) := by
  refine Eq.trans ?_ (v0 m c _)
  blk_simp [iblk]
  refine congrArg (V m c main_v0) ?_
  blk_ext [e0]
  all_goals first | exact hb.symm | exact hr.symm
theorem b2 (k : Fin 1024) : iblk m c 2 t (ValueIdx.ix3 0 i k) = m (c, Proc.devRef .tc main_arg2) (ValueIdx.ix3 b r k) := by
  refine Eq.trans ?_ (w2 m c _)
  blk_simp [iblk]
  refine congrArg (V m c main_arg2) ?_
  blk_ext [e2]
  all_goals first | exact hb.symm | exact hr.symm
omit hr
theorem b4 (k : Fin 1024) : iblk m c 4 t (ValueIdx.ix3 0 0 k) = m (c, Proc.devRef .tc main_arg4) (ValueIdx.ix3 b 0 k) := by
  refine Eq.trans ?_ (w4 m c _)
  blk_simp [iblk]
  refine congrArg (V m c main_arg4) ?_
  blk_ext [e4]
  all_goals exact hb.symm
theorem b6 (k : Fin 1024) : iblk m c 6 t (ValueIdx.ix3 0 0 k) = m (c, Proc.devRef .tc main_arg6) (ValueIdx.ix3 b 0 k) := by
  refine Eq.trans ?_ (w6 m c _)
  blk_simp [iblk]
  refine congrArg (V m c main_arg6) ?_
  blk_ext [e6]
  all_goals exact hb.symm
theorem b7 (k : Fin 1024) : iblk m c 7 t (ValueIdx.ix3 0 0 k) = m (c, Proc.devRef .tc main_arg7) (ValueIdx.ix3 b 0 k) := by
  refine Eq.trans ?_ (w7 m c _)
  blk_simp [iblk]
  refine congrArg (V m c main_arg7) ?_
  blk_ext [e7]
  all_goals exact hb.symm
omit hb
theorem b3 (k : Fin 1024) : iblk m c 3 t (ValueIdx.ix2 0 k) = m (c, Proc.devRef .tc main_arg3) (ValueIdx.ix2 0 k) := by
  refine Eq.trans ?_ (w3 m c _)
  blk_simp [iblk]
  refine congrArg (V m c main_arg3) ?_
  blk_ext [e3]
theorem b5 (k : Fin 1024) : iblk m c 5 t (ValueIdx.ix2 0 k) = m (c, Proc.devRef .tc main_arg5) (ValueIdx.ix2 0 k) := by
  refine Eq.trans ?_ (w5 m c _)
  blk_simp [iblk]
  refine congrArg (V m c main_arg5) ?_
  blk_ext [e5]
theorem b1 (k j : Fin 1024) : iblk m c 1 t (ValueIdx.ix2 k j) = m (c, Proc.devRef .tc main_arg1) (ValueIdx.ix2 k j) := by
  refine Eq.trans ?_ (v1 m c _)
  blk_simp [iblk]
  refine congrArg (V m c main_v1) ?_
  blk_ext [e1]

include hb hr
theorem row (j : Fin 1024) : rowB (iblk m c 0 t) (iblk m c 1 t) i j
    = rowA (m (c, Proc.devRef .tc main_arg0)) (m (c, Proc.devRef .tc main_arg1)) b r j :=
  Prod.dot_congr (fun k => b0 m c t b r i hb hr k) (fun k => b1 m c t k j)

end Rows

theorem arr8 : (dats m 0 c).arrAt 8 cfg0.N =
    Cert.OutProjRefIdeal.Read.val_main_v0 (F := Ideal) (m (c, Proc.devRef .tc main_arg0)) (m (c, Proc.devRef .tc main_arg1)) := by
  refine (dats m 0 c).arrAt_eq_of_covers 8 _ (by decide +kernel) fun t hf y => ?_
  blk_simp
  rw [after0_8]
  have q0 : ((((cfg0.win 8).blk t).view.emb y : S2x2048x1024.Idx) 0).val = t.val / 4 := by
    blk_simp [e8]
  have q1 : ((((cfg0.win 8).blk t).view.emb y : S2x2048x1024.Idx) 1).val = t.val % 4 * 512 + (y 1).val := by
    blk_simp [e8]
  have q2 : (y 2 : Fin 1024) = (((cfg0.win 8).blk t).view.emb y : S2x2048x1024.Idx) 2 := by
    apply Fin.ext
    blk_simp [e8]
  frame_out
  refine (pay3 _ _ _).trans ?_
  refine Eq.trans ?_ (congrArg _ (ValueIdx.eq_ix3 (n0 := 2) (n1 := 2048) (n2 := 1024) _)).symm
  refine Eq.trans ?_ (ref0 _ _ _ _ _).symm
  exact (row m c t _ _ _ q0 q1 _).trans (congrArg _ q2)
theorem arr9 : (dats m 0 c).arrAt 9 cfg0.N =
    Cert.OutProjRefIdeal.Read.val_main_v17 (F := Ideal) (m (c, Proc.devRef .tc main_arg0)) (m (c, Proc.devRef .tc main_arg1)) (m (c, Proc.devRef .tc main_arg2)) (m (c, Proc.devRef .tc main_arg3)) (m (c, Proc.devRef .tc main_arg4)) := by
  refine (dats m 0 c).arrAt_eq_of_covers 9 _ (by decide +kernel) fun t hf y => ?_
  blk_simp
  rw [after0_9]
  have q0 : ((((cfg0.win 9).blk t).view.emb y : S2x2048x1024.Idx) 0).val = t.val / 4 := by
    blk_simp [e9]
  have q1 : ((((cfg0.win 9).blk t).view.emb y : S2x2048x1024.Idx) 1).val = t.val % 4 * 512 + (y 1).val := by
    blk_simp [e9]
  have q2 : (y 2 : Fin 1024) = (((cfg0.win 9).blk t).view.emb y : S2x2048x1024.Idx) 2 := by
    apply Fin.ext
    blk_simp [e9]
  frame_out
  refine (pay5 _ _ _ _ _ _).trans ?_
  refine Eq.trans ?_ (congrArg _ (ValueIdx.eq_ix3 (n0 := 2) (n1 := 2048) (n2 := 1024) _)).symm
  refine Eq.trans ?_ (ref17 _ _ _ _ _ _ _ _).symm
  exact Rms.resid_congr (fun k => row m c t _ _ _ q0 q1 k) (fun k => b2 m c t _ _ _ q0 q1 k) (fun k => b4 m c t _ q0 k) (fun k => b3 m c t k) q2
theorem arr10 : (dats m 0 c).arrAt 10 cfg0.N =
    Cert.OutProjRefIdeal.Read.val_main_v38 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) := by
  refine (dats m 0 c).arrAt_eq_of_covers 10 _ (by decide +kernel) fun t hf y => ?_
  blk_simp
  rw [after0_10]
  have q0 : ((((cfg0.win 10).blk t).view.emb y : S2x2048x1024.Idx) 0).val = t.val / 4 := by
    blk_simp [e10]
  have q1 : ((((cfg0.win 10).blk t).view.emb y : S2x2048x1024.Idx) 1).val = t.val % 4 * 512 + (y 1).val := by
    blk_simp [e10]
  have q2 : (y 2 : Fin 1024) = (((cfg0.win 10).blk t).view.emb y : S2x2048x1024.Idx) 2 := by
    apply Fin.ext
    blk_simp [e10]
  frame_out
  refine (pay1 _ _ _ _ _ _ _ _ _).trans ?_
  refine Eq.trans ?_ (congrArg _ (ValueIdx.eq_ix3 (n0 := 2) (n1 := 2048) (n2 := 1024) _)).symm
  refine Eq.trans ?_ (ref38 _ _ _ _ _ _ _ _ _ _ _).symm
  exact Rms.mod_congr (fun j => Rms.resid_congr (fun k => row m c t _ _ _ q0 q1 k) (fun k => b2 m c t _ _ _ q0 q1 k) (fun k => b4 m c t _ q0 k) (fun k => b3 m c t k) rfl)
    (fun k => b5 m c t k) (fun k => b6 m c t _ q0 k) (fun k => b7 m c t _ q0 k) q2

end Cert.OutProjVal
-- ==== Proof.OutProjCall.lean ====
/-
  The frames and the value of the call that projects out of the mixer.
-/
module

public import proofs.«01_k».proof.Defs
public import proofs.«01_k».proof.Proof.Gen.OutProj
public import proofs.«01_k».proof.Proof.Gen.OutProjIdeal
public import proofs.«01_k».proof.Proof.Gen.OutProjRefIdeal
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.OutProjVal
public import Idealize.ShloMosaic.Adequacy
public import Idealize.ShloMosaic.Init

@[expose] public section

noncomputable section

namespace Cert.Calls

open Idealize.ShloMosaic Idealize.SL.Sem

theorem frame_OutProj_p : Cert.quiescent_OutProj := fun m ρ _ => Cert.OutProj.Gen.frame m ρ

theorem frame_OutProj_pi : Cert.quiescent_OutProjIdeal := fun m ρ _ => Cert.OutProjIdeal.Gen.frame m ρ

theorem frame_OutProj_ri : Cert.quiescent_OutProjRefIdeal := fun m ρ _ =>
  (θ_run Cert.OutProjRefIdeal.defs _ _).mono
    (fun r h => ⟨fun c => (h c).2.2.2, Idealize.ShloMosaic.sem_eq_zero_of_no_sems (by decide) r.2⟩)
    (Cert.OutProjRefIdeal.Value.run (F := Ideal) m ρ)

theorem values_OutProj : Cert.algebraic_OutProjIdeal_OutProjRefIdeal := by
  intro m g m' g' _ ha
  refine ⟨fun c => Cert.OutProjRefIdeal.Read.val_main_v0 (F := Ideal) (m (c, Proc.devRef .tc Cert.OutProjIdeal.main_arg0)) (m (c, Proc.devRef .tc Cert.OutProjIdeal.main_arg1)),
    fun c => Cert.OutProjRefIdeal.Read.val_main_v17 (F := Ideal) (m (c, Proc.devRef .tc Cert.OutProjIdeal.main_arg0)) (m (c, Proc.devRef .tc Cert.OutProjIdeal.main_arg1)) (m (c, Proc.devRef .tc Cert.OutProjIdeal.main_arg2)) (m (c, Proc.devRef .tc Cert.OutProjIdeal.main_arg3)) (m (c, Proc.devRef .tc Cert.OutProjIdeal.main_arg4)),
    fun c => Cert.OutProjRefIdeal.Read.val_main_v38 (F := Ideal) (m (c, Proc.devRef .tc Cert.OutProjIdeal.main_arg0)) (m (c, Proc.devRef .tc Cert.OutProjIdeal.main_arg1)) (m (c, Proc.devRef .tc Cert.OutProjIdeal.main_arg2)) (m (c, Proc.devRef .tc Cert.OutProjIdeal.main_arg3)) (m (c, Proc.devRef .tc Cert.OutProjIdeal.main_arg4)) (m (c, Proc.devRef .tc Cert.OutProjIdeal.main_arg5)) (m (c, Proc.devRef .tc Cert.OutProjIdeal.main_arg6)) (m (c, Proc.devRef .tc Cert.OutProjIdeal.main_arg7)), ?_, ?_⟩
  · exact (θ_run Cert.OutProjIdeal.defs _ _).mono (fun r h c => ⟨(h c).1.trans (Cert.OutProjVal.arr8 m c),
      (h c).2.1.trans (Cert.OutProjVal.arr9 m c), (h c).2.2.1.trans (Cert.OutProjVal.arr10 m c), (h c).2.2.2⟩)
      (Cert.OutProjIdeal.Value.run_blocks m g)
  · refine (θ_run Cert.OutProjRefIdeal.defs _ _).mono (fun r h c => ?_) (Cert.OutProjRefIdeal.Value.run (F := Ideal) m' g')
    obtain ⟨a0, a1, a2, a3, a4, a5, a6, a7⟩ := ha c
    exact ⟨((h c).1.trans (Cert.OutProjRefIdeal.Read.val_main_v0_eq _ _)).trans
        (congr (congrArg (Cert.OutProjRefIdeal.Read.val_main_v0 (F := Ideal)) a0) a1),
      ((h c).2.1.trans (Cert.OutProjRefIdeal.Read.val_main_v17_eq _ _ _ _ _)).trans
        (congr (congr (congr (congr (congrArg (Cert.OutProjRefIdeal.Read.val_main_v17 (F := Ideal)) a0) a1) a2) a3) a4),
      ((h c).2.2.1.trans (Cert.OutProjRefIdeal.Read.val_main_v38_eq _ _)).trans
        (congr (congr (congr (congr (congr (congr (congr (congrArg (Cert.OutProjRefIdeal.Read.val_main_v38 (F := Ideal)) a0) a1) a2) a3) a4) a5) a6) a7),
      (h c).2.2.2⟩

end Cert.Calls

end
-- ==== Proof.InProjVal.lean ====
/-
  The projection into the mixer: the normalised row, the recurrent slabs and the values of each block of the kernel's arrays
  are the reference's.
-/
module

public import proofs.«01_k».proof.Proof.Rms
public import proofs.«01_k».proof.Proof.Gen.InProjIdeal.Value
public import proofs.«01_k».proof.Proof.Gen.InProjRefIdeal.Read
public import proofs.«01_k».proof.Defs
public import Idealize.ShloMosaic.Lib.Pipeline.ValueKit
public import Idealize.ShloMosaic.Lib.Pipeline.ReadBack

@[expose] public section

set_option maxRecDepth 16384

noncomputable section

namespace Cert.InProjVal

open Idealize.ShloMosaic Idealize.ShloMosaic.TcCoe Idealize.SL.Sem
open Cert.InProjIdeal Cert.InProjIdeal.Gen
open scoped BigOperators

section Payloads

variable (X : Vec Ideal S1x512x1024 .f32) (W : Vec Ideal S2816x1024 .bf16) (P : Vec Ideal S1x1024 .f32) (S H : Vec Ideal S1x1x1024 .f32)

/-- A normalised row of a block. -/
def hB (i : Fin 512) : Fin 1024 → EReal :=
  Rms.mod (fun k => X (ValueIdx.ix3 0 i k)) (fun k => P (ValueIdx.ix2 0 k)) (fun k => S (ValueIdx.ix3 0 0 k)) (fun k => H (ValueIdx.ix3 0 0 k))

/-- A row of the projection of a block. -/
def pB (i : Fin 512) (j : Fin 2816) : EReal := ∑ k : Fin 1024, hB X P S H i k * W (ValueIdx.ix2 j k)

theorem pay7 (i : Fin 512) (j : Fin 1024) : k0_pay7 X P S H (ValueIdx.ix2 i j) = hB X P S H i j := by
  unfold k0_pay7 hB Rms.mod
  refine congrArg₂ (fun u v : EReal => u + v) (congrArg₂ (fun u v : EReal => u * v) ?_ ?_) ?_
  · refine (Rms.pay (a := 512) (shapeCast S512x1024 X shapeCasts_S1x512x1024_S512x1024) P _ _ _ _ _ _ i j).trans ?_
    exact congrArg (fun d => Rms.norm d (fun k => P (ValueIdx.ix2 0 k)) j) (funext fun k => Rms.slab (a := 512) (b := 1024) X _ i k)
  · refine (Rms.rows (a := 512) (b := 1024) _ _ (by decide) i j).trans ?_
    exact congrArg (fun v : EReal => Ideal.ofBits .f32 0x3F800000#32 + v) (Rms.row S _ j)
  · exact (Rms.rows (a := 512) (b := 1024) _ _ (by decide) i j).trans (Rms.row H _ j)

theorem pay8 (i : S1x512x1024.Idx) : k0_pay8 X P S H i = hB X P S H (i 1) (i 2) := by
  unfold k0_pay8
  exact (Rms.unslab (a := 512) (b := 1024) _ _ i).trans (pay7 X P S H (i 1) (i 2))

theorem pay9 (i : Fin 512) (j : Fin 2816) : k0_pay9 X P S H W (ValueIdx.ix2 i j) = pB X W P S H i j := by
  unfold k0_pay9
  refine (Prod.nt (a := 512) (b := 1024) (c := 2816) _ _ none (ValueIdx.ix2 i j)).trans ?_
  exact Prod.dot_congr (fun k => pay7 X P S H i k) (fun k => shapeCast_apply _ _ _ _ rfl)

/-- A band of columns, as a stack of one by one. -/
theorem band {a b n : ℕ} {φ : FTy} (v : FVec Ideal ⟨2, ![a, n]⟩ φ) (o : ℕ) (hs : (⟨2, ![a, n]⟩ : Shape).Slices ![0, o] ⟨2, ![a, b]⟩)
    (hc : (⟨2, ![a, b]⟩ : Shape).ShapeCasts ⟨4, ![1, 1, a, b]⟩) (y : (⟨4, ![1, 1, a, b]⟩ : Shape).Idx) (j : Fin n) (hj : j.val = o + (y 3).val) :
    shapeCast ⟨4, ![1, 1, a, b]⟩ (extractStridedSlice ⟨2, ![a, b]⟩ ![0, o] v hs) hc y = v (ValueIdx.ix2 (y 2) j) := by
  have h0 : (y 0).val = 0 := Nat.lt_one_iff.1 (y 0).isLt
  have h1 : (y 1).val = 0 := Nat.lt_one_iff.1 (y 1).isLt
  refine (shapeCast_apply _ hc y (ValueIdx.ix2 (y 2) (y 3)) ?_).trans ?_
  · rw [Shape.rowMajor_val_two, Shape.rowMajor_val_four]
    show (y 2).val * b + (y 3).val = (((y 0).val * 1 + (y 1).val) * a + (y 2).val) * b + (y 3).val
    rw [h0, h1]
    simp
  · refine extractStridedSlice_apply _ v hs _ _ fun ax => ?_
    match ax with
    | ⟨0, _⟩ => show (y 2).val = 0 + (y 2).val; omega
    | ⟨1, _⟩ => exact hj

/-- The projection at one place of a block of slabs. -/
def recB (y : S1x4x512x512.Idx) : EReal := pB X W P S H (y 2) ⟨768 + ((y 1).val * 512 + (y 3).val), by
  have h1 : (y 1).val < 4 := (y 1).isLt
  have h3 : (y 3).val < 512 := (y 3).isLt
  omega⟩

/-- The projection at one place of a block of values. -/
def valB (y : S1x2x512x64.Idx) : EReal := pB X W P S H (y 2) ⟨640 + ((y 1).val * 64 + (y 3).val), by
  have h1 : (y 1).val < 2 := (y 1).isLt
  have h3 : (y 3).val < 64 := (y 3).isLt
  omega⟩

theorem recPiece (o s : ℕ) (ho : o = 768 + s * 512) (hs : S512x2816.Slices ![0, o] S512x512)
    (h : ∀ a, (![0, s, 0, 0] : Fin 4 → Nat) a + S1x1x512x512.size a ≤ S1x4x512x512.size a) (x : S1x1x512x512.Idx) :
    shapeCast S1x1x512x512 (extractStridedSlice S512x512 ![0, o] (k0_pay9 X P S H W) hs) shapeCasts_S512x512_S1x1x512x512 x
      = recB X W P S H ((Rect.unit (s := S1x4x512x512) ![0, s, 0, 0] S1x1x512x512.size h).emb x) := by
  have h1 : (x 1).val = 0 := Nat.lt_one_iff.1 (x 1).isLt
  have h3 : (x 3).val < 512 := (x 3).isLt
  have hs3 : s < 4 := by have := h 1; simpa using this
  refine (band (a := 512) (b := 512) (n := 2816) _ o hs _ x ⟨o + (x 3).val, by omega⟩ rfl).trans ((pay9 X W P S H _ _).trans ?_)
  unfold recB
  refine congrArg₂ (pB X W P S H) (Fin.ext ?_) (Fin.ext ?_)
  · rw [Rect.emb_apply]
    show (x 2).val = 0 + 1 * (x 2).val
    omega
  · show o + (x 3).val = 768 + ((s + 1 * (x 1).val) * 512 + (0 + 1 * (x 3).val))
    omega

theorem valPiece (o s : ℕ) (ho : o = s * 64) (hs : S512x128.Slices ![0, o] S512x64)
    (h : ∀ a, (![0, s, 0, 0] : Fin 4 → Nat) a + S1x1x512x64.size a ≤ S1x2x512x64.size a) (x : S1x1x512x64.Idx) :
    shapeCast S1x1x512x64 (extractStridedSlice S512x64 ![0, o] (k0_pay2 (k0_pay9 X P S H W)) hs) shapeCasts_S512x64_S1x1x512x64 x
      = valB X W P S H ((Rect.unit (s := S1x2x512x64) ![0, s, 0, 0] S1x1x512x64.size h).emb x) := by
  have h1 : (x 1).val = 0 := Nat.lt_one_iff.1 (x 1).isLt
  have h3 : (x 3).val < 64 := (x 3).isLt
  have hs3 : s < 2 := by have := h 1; simpa using this
  refine (band (a := 512) (b := 64) (n := 128) _ o hs _ x ⟨o + (x 3).val, by omega⟩ rfl).trans ?_
  unfold k0_pay2
  show (extractStridedSlice S512x128 ![0, 640] (k0_pay9 X P S H W) slices_S512x2816_o0_640_S512x128 (ValueIdx.ix2 (x 2) _) : EReal) = _
  refine (ValueIdx.slice2_axis1_apply (n0 := 512) (n1 := 2816) (m := 128) 640 (k0_pay9 X P S H W) slices_S512x2816_o0_640_S512x128 (x 2) ⟨o + (x 3).val, by omega⟩
    ⟨640 + (o + (x 3).val), by omega⟩ rfl).trans ((pay9 X W P S H _ _).trans ?_)
  unfold valB
  refine congrArg₂ (pB X W P S H) (Fin.ext ?_) (Fin.ext ?_)
  · rw [Rect.emb_apply]
    show (x 2).val = 0 + 1 * (x 2).val
    omega
  · show 640 + (o + (x 3).val) = 640 + ((s + 1 * (x 1).val) * 64 + (0 + 1 * (x 3).val))
    omega

variable (x5 x6 x7 : Vec Ideal S512x128 .f32)

theorem ld0 : View.ld X r0_0 = X := View.ld_unit_lit _ X (by decide)
theorem ld1 : View.ld P r0_1 = P := View.ld_unit_lit _ P (by decide)
theorem ld2 : View.ld S r0_2 = S := View.ld_unit_lit _ S (by decide)
theorem ld3 : View.ld W r0_3 = W := View.ld_unit_lit _ W (by decide)

theorem pay70 : k0_pay70 X W P S H x5 x6 x7 = k0_pay9 X P S H W := by
  unfold k0_pay70
  rw [ld0, ld1, ld2, ld2, ld3]

theorem rec (y : S1x4x512x512.Idx) : out0_9 X W P S H x5 x6 x7 y = recB X W P S H y := by
  unfold out0_9
  rw [pay70]
  refine View.canon_apply_of_pieces (Val := Elt Ideal) (recB X W P S H) _ ?_ y (cover0_9 _ _ _ _ y)
  simp only [List.forall_mem_cons, List.not_mem_nil, false_imp_iff, implies_true, and_true]
  exact ⟨fun x => recPiece X W P S H 2304 3 rfl _ _ x, fun x => recPiece X W P S H 1792 2 rfl _ _ x,
    fun x => recPiece X W P S H 1280 1 rfl _ _ x, fun x => recPiece X W P S H 768 0 rfl _ _ x⟩

theorem val (y : S1x2x512x64.Idx) : out0_12 X W P S H x5 x6 x7 y = valB X W P S H y := by
  unfold out0_12
  rw [pay70]
  refine View.canon_apply_of_pieces (Val := Elt Ideal) (valB X W P S H) _ ?_ y (cover0_12 _ _ y)
  simp only [List.forall_mem_cons, List.not_mem_nil, false_imp_iff, implies_true, and_true]
  exact ⟨fun x => valPiece X W P S H 64 1 rfl _ _ x, fun x => valPiece X W P S H 0 0 rfl _ _ x⟩

end Payloads

section Reference
variable (x0 : (⟨S2x2048x1024, .f32⟩ : BufTy).Contents (Elt Ideal)) (x1 : (⟨S1x1024, .f32⟩ : BufTy).Contents (Elt Ideal))
  (x2 x3 : (⟨S2x1x1024, .f32⟩ : BufTy).Contents (Elt Ideal)) (x4 : (⟨S1024x2816, .f32⟩ : BufTy).Contents (Elt Ideal))

/-- A normalised row. -/
def hA (b : Fin 2) (i : Fin 2048) : Fin 1024 → EReal :=
  Rms.mod (fun k => x0 (ValueIdx.ix3 b i k)) (fun k => x1 (ValueIdx.ix2 0 k)) (fun k => x2 (ValueIdx.ix3 b 0 k)) (fun k => x3 (ValueIdx.ix3 b 0 k))

/-- A row of the projection. -/
def pA (b : Fin 2) (i : Fin 2048) (j : Fin 2816) : EReal := ∑ k : Fin 1024, hA x0 x1 x2 x3 b i k * x4 (ValueIdx.ix2 k j)

open Cert.InProjRefIdeal.Read in
theorem ref19 (b : Fin 2) (i : Fin 2048) (j : Fin 1024) : val_main_v19 (F := Ideal) x0 x1 x2 x3 (ValueIdx.ix3 b i j) = hA x0 x1 x2 x3 b i j := by
  have h2 : val_main_v2 (F := Ideal) x0 (idx_main_v3 (idx_main_v9 (ValueIdx.ix3 b i j)))
      = ∑ k : Fin 1024, (x0 (ValueIdx.ix3 b i k) * x0 (ValueIdx.ix3 b i k) : EReal) := by
    refine (val_main_v2_apply _ _).trans ?_
    refine (congrArg (fun z : EReal => z + _) Ideal.ofBits_zero_f32).trans ((zero_add _).trans (Finset.sum_congr rfl fun k _ => ?_))
    refine (val_main_v1_apply _ _).trans (congrArg (fun q => (x0 q * x0 q : EReal)) ?_)
    funext ax; apply Fin.ext
    match ax with | ⟨0, _⟩ => rfl | ⟨1, _⟩ => rfl | ⟨2, _⟩ => rfl
  have h12 : val_main_v12 (F := Ideal) x1 (ValueIdx.ix3 b i j) = x1 (ValueIdx.ix2 0 j) := by
    rw [val_main_v12_apply, val_main_v11_apply, val_main_v0_apply]
    refine congrArg x1 ?_
    funext ax; apply Fin.ext
    match ax with
    | ⟨0, _⟩ => rfl
    | ⟨1, _⟩ => exact Nat.mod_eq_of_lt j.isLt
  have h18 : idx_main_v18 (ValueIdx.ix3 b i j) = ValueIdx.ix3 b 0 j := by
    funext ax; apply Fin.ext
    match ax with | ⟨0, _⟩ => rfl | ⟨1, _⟩ => rfl | ⟨2, _⟩ => rfl
  have h16 : idx_main_v16 (ValueIdx.ix3 b i j) = ValueIdx.ix3 b 0 j := by
    funext ax; apply Fin.ext
    match ax with | ⟨0, _⟩ => rfl | ⟨1, _⟩ => rfl | ⟨2, _⟩ => rfl
  rw [val_main_v19_apply, val_main_v18_apply, h18, val_main_v17_apply, val_main_v16_apply, val_main_v15_apply, h16, val_main_v14_apply,
    val_main_v13_apply, val_main_v10_apply, val_main_v9_apply, val_main_v8_apply, val_main_v7_apply,
    val_main_v5_apply, val_main_v6_apply, val_main_v4_apply, val_main_v3_apply, h2, h12]
  rfl

open Cert.InProjRefIdeal.Read in
theorem ref20 (i : Cert.InProjRefIdeal.S2x2048x2816.Idx) : val_main_v20 (F := Ideal) x0 x1 x2 x3 x4 i = pA x0 x1 x2 x3 x4 (i 0) (i 1) (i 2) := by
  refine (val_main_v20_apply _ _ _ _ _ _).trans (Prod.dot_congr (fun k => ?_) (fun k => ?_))
  · refine Eq.trans (congrArg _ ?_) (ref19 x0 x1 x2 x3 (i 0) (i 1) k)
    funext ax; apply Fin.ext
    match ax with | ⟨0, _⟩ => rfl | ⟨1, _⟩ => rfl | ⟨2, _⟩ => rfl
  · refine congrArg x4 ?_
    funext ax; apply Fin.ext
    match ax with | ⟨0, _⟩ => rfl | ⟨1, _⟩ => rfl

open Cert.InProjRefIdeal.Read in
theorem ref23 (i : S2x4x2048x512.Idx) (j : Fin 2816) (hj : j.val = 768 + ((i 1).val * 512 + (i 3).val)) :
    val_main_v23 (F := Ideal) x0 x1 x2 x3 x4 i = pA x0 x1 x2 x3 x4 (i 0) (i 2) j := by
  rw [val_main_v23_apply, val_main_v22_apply, val_main_v21_apply, ref20]
  have h0 : (i 0).val < 2 := (i 0).isLt
  have h1 : (i 1).val < 4 := (i 1).isLt
  have h2 : (i 2).val < 2048 := (i 2).isLt
  have h3 : (i 3).val < 512 := (i 3).isLt
  refine congr (congrArg₂ (pA x0 x1 x2 x3 x4) (Fin.ext ?_) (Fin.ext ?_)) (Fin.ext ?_)
  · show ((((i 0).val * 2048 + (i 2).val) * 4 + (i 1).val) * 512 + (i 3).val) / 4194304 = (i 0).val
    omega
  · show ((((i 0).val * 2048 + (i 2).val) * 4 + (i 1).val) * 512 + (i 3).val) / 2048 % 2048 = (i 2).val
    omega
  · show 768 + ((((i 0).val * 2048 + (i 2).val) * 4 + (i 1).val) * 512 + (i 3).val) % 2048 = j.val
    omega

open Cert.InProjRefIdeal.Read in
theorem ref28 (i : S2x2x2048x64.Idx) (j : Fin 2816) (hj : j.val = 640 + ((i 1).val * 64 + (i 3).val)) :
    val_main_v28 (F := Ideal) x0 x1 x2 x3 x4 i = pA x0 x1 x2 x3 x4 (i 0) (i 2) j := by
  refine Eq.trans (b := val_main_v26 (F := Ideal) x0 x1 x2 x3 x4 i) rfl ?_
  rw [val_main_v26_apply, val_main_v25_apply, val_main_v24_apply, ref20]
  have h0 : (i 0).val < 2 := (i 0).isLt
  have h1 : (i 1).val < 2 := (i 1).isLt
  have h2 : (i 2).val < 2048 := (i 2).isLt
  have h3 : (i 3).val < 64 := (i 3).isLt
  refine congr (congrArg₂ (pA x0 x1 x2 x3 x4) (Fin.ext ?_) (Fin.ext ?_)) (Fin.ext ?_)
  · show ((((i 0).val * 2048 + (i 2).val) * 2 + (i 1).val) * 64 + (i 3).val) / 262144 = (i 0).val
    omega
  · show ((((i 0).val * 2048 + (i 2).val) * 2 + (i 1).val) * 64 + (i 3).val) / 128 % 2048 = (i 2).val
    omega
  · show 640 + ((((i 0).val * 2048 + (i 2).val) * 2 + (i 1).val) * 64 + (i 3).val) % 128 = j.val
    omega

end Reference

theorem e0 : ∀ t : Fin cfg0.N, win0_0.index t = ![t.val / 4, t.val % 4, 0] :=
  (by decide +kernel : ∀ t : Fin grid0.N, win0_0.index t = ![t.val / 4, t.val % 4, 0])
theorem e1 : ∀ t : Fin cfg0.N, win0_1.index t = ![0, 0] :=
  (by decide +kernel : ∀ t : Fin grid0.N, win0_1.index t = ![0, 0])
theorem e2 : ∀ t : Fin cfg0.N, win0_2.index t = ![0, 0] :=
  (by decide +kernel : ∀ t : Fin grid0.N, win0_2.index t = ![0, 0])
theorem e3 : ∀ t : Fin cfg0.N, win0_3.index t = ![t.val / 4, 0, 0] :=
  (by decide +kernel : ∀ t : Fin grid0.N, win0_3.index t = ![t.val / 4, 0, 0])
theorem e4 : ∀ t : Fin cfg0.N, win0_4.index t = ![t.val / 4, 0, 0] :=
  (by decide +kernel : ∀ t : Fin grid0.N, win0_4.index t = ![t.val / 4, 0, 0])
theorem e8 : ∀ t : Fin cfg0.N, win0_8.index t = ![t.val / 4, t.val % 4, 0] :=
  (by decide +kernel : ∀ t : Fin grid0.N, win0_8.index t = ![t.val / 4, t.val % 4, 0])
theorem e9 : ∀ t : Fin cfg0.N, win0_9.index t = ![t.val / 4, 0, t.val % 4, 0] :=
  (by decide +kernel : ∀ t : Fin grid0.N, win0_9.index t = ![t.val / 4, 0, t.val % 4, 0])
theorem e12 : ∀ t : Fin cfg0.N, win0_12.index t = ![t.val / 4, 0, t.val % 4, 0] :=
  (by decide +kernel : ∀ t : Fin grid0.N, win0_12.index t = ![t.val / 4, 0, t.val % 4, 0])

variable (m : (ℓ : Loc nD τ sig) → Buf (Elt Ideal) ℓ) (c : Dev nD)

theorem v1 (j : Fin 2816) (k : Fin 1024) : V m c main_v1 (ValueIdx.ix2 j k) = m (c, Proc.devRef .tc main_arg4) (ValueIdx.ix2 k j) := by
  entry_read
  exact ValueIdx.transpose_ix2_apply (a := 1024) (b := 2816) _ _ _ _
theorem w0 (i : S2x2048x1024.Idx) : V m c main_arg0 i = m (c, Proc.devRef .tc main_arg0) i := by
  entry_read
  rfl
theorem w1 (i : S1x1024.Idx) : V m c main_arg1 i = m (c, Proc.devRef .tc main_arg1) i := by
  entry_read
  rfl
theorem w2 (i : S2x1x1024.Idx) : V m c main_arg2 i = m (c, Proc.devRef .tc main_arg2) i := by
  entry_read
  rfl
theorem w3 (i : S2x1x1024.Idx) : V m c main_arg3 i = m (c, Proc.devRef .tc main_arg3) i := by
  entry_read
  rfl

section Rows
-- The stack and the row of an array that a row of a grid point's block is.
variable (t : Fin cfg0.N) (b : Fin 2) (r : Fin 2048) (i : Fin 512) (hb : b.val = t.val / 4) (hr : r.val = t.val % 4 * 512 + i.val)
include hb hr

theorem b0 (k : Fin 1024) : iblk m c 0 t (ValueIdx.ix3 0 i k) = m (c, Proc.devRef .tc main_arg0) (ValueIdx.ix3 b r k) := by
  refine Eq.trans ?_ (w0 m c _)
  blk_simp [iblk]
  refine congrArg (V m c main_arg0) ?_
  blk_ext [e0]
  all_goals first | exact hb.symm | exact hr.symm
omit hr
theorem b3 (k : Fin 1024) : iblk m c 3 t (ValueIdx.ix3 0 0 k) = m (c, Proc.devRef .tc main_arg2) (ValueIdx.ix3 b 0 k) := by
  refine Eq.trans ?_ (w2 m c _)
  blk_simp [iblk]
  refine congrArg (V m c main_arg2) ?_
  blk_ext [e3]
  all_goals exact hb.symm
theorem b4 (k : Fin 1024) : iblk m c 4 t (ValueIdx.ix3 0 0 k) = m (c, Proc.devRef .tc main_arg3) (ValueIdx.ix3 b 0 k) := by
  refine Eq.trans ?_ (w3 m c _)
  blk_simp [iblk]
  refine congrArg (V m c main_arg3) ?_
  blk_ext [e4]
  all_goals exact hb.symm
omit hb
theorem b2 (k : Fin 1024) : iblk m c 2 t (ValueIdx.ix2 0 k) = m (c, Proc.devRef .tc main_arg1) (ValueIdx.ix2 0 k) := by
  refine Eq.trans ?_ (w1 m c _)
  blk_simp [iblk]
  refine congrArg (V m c main_arg1) ?_
  blk_ext [e2]
theorem b1 (j : Fin 2816) (k : Fin 1024) : iblk m c 1 t (ValueIdx.ix2 j k) = m (c, Proc.devRef .tc main_arg4) (ValueIdx.ix2 k j) := by
  refine Eq.trans ?_ (v1 m c _ _)
  blk_simp [iblk]
  refine congrArg (V m c main_v1) ?_
  blk_ext [e1]

include hb hr
theorem hrow (j : Fin 1024) : hB (iblk m c 0 t) (iblk m c 2 t) (iblk m c 3 t) (iblk m c 4 t) i j
    = hA (m (c, Proc.devRef .tc main_arg0)) (m (c, Proc.devRef .tc main_arg1)) (m (c, Proc.devRef .tc main_arg2))
        (m (c, Proc.devRef .tc main_arg3)) b r j :=
  Rms.mod_congr (fun k => b0 m c t b r i hb hr k) (fun k => b2 m c t k) (fun k => b3 m c t b hb k) (fun k => b4 m c t b hb k) rfl

theorem prow (j : Fin 2816) : pB (iblk m c 0 t) (iblk m c 1 t) (iblk m c 2 t) (iblk m c 3 t) (iblk m c 4 t) i j
    = pA (m (c, Proc.devRef .tc main_arg0)) (m (c, Proc.devRef .tc main_arg1)) (m (c, Proc.devRef .tc main_arg2))
        (m (c, Proc.devRef .tc main_arg3)) (m (c, Proc.devRef .tc main_arg4)) b r j :=
  Prod.dot_congr (fun k => hrow m c t b r i hb hr k) (fun k => b1 m c t j k)

end Rows

theorem arr8 : (dats m 0 c).arrAt 8 cfg0.N =
    Cert.InProjRefIdeal.Read.val_main_v27 (F := Ideal) (m (c, Proc.devRef .tc main_arg0)) (m (c, Proc.devRef .tc main_arg1)) (m (c, Proc.devRef .tc main_arg2)) (m (c, Proc.devRef .tc main_arg3)) := by
  refine (dats m 0 c).arrAt_eq_of_covers 8 _ (by decide +kernel) fun t hf y => ?_
  blk_simp
  rw [after0_8]
  have q0 : ((((cfg0.win 8).blk t).view.emb y : S2x2048x1024.Idx) 0).val = t.val / 4 := by
    blk_simp [e8]
  have q1 : ((((cfg0.win 8).blk t).view.emb y : S2x2048x1024.Idx) 1).val = t.val % 4 * 512 + (y 1).val := by
    blk_simp [e8]
  have q2 : ((((cfg0.win 8).blk t).view.emb y : S2x2048x1024.Idx) 2).val = (y 2).val := by
    blk_simp [e8]
  frame_out
  refine (pay8 _ _ _ _ _).trans ?_
  refine Eq.trans ?_ (congrArg _ (ValueIdx.eq_ix3 (n0 := 2) (n1 := 2048) (n2 := 1024) _)).symm
  refine Eq.trans ?_ (ref19 _ _ _ _ _ _ _).symm
  exact (hrow m c t _ _ _ q0 q1 _).trans (congrArg _ (Fin.ext q2.symm))

theorem arr9 : (dats m 0 c).arrAt 9 cfg0.N =
    Cert.InProjRefIdeal.Read.val_main_v23 (F := Ideal) (m (c, Proc.devRef .tc main_arg0)) (m (c, Proc.devRef .tc main_arg1)) (m (c, Proc.devRef .tc main_arg2)) (m (c, Proc.devRef .tc main_arg3)) (m (c, Proc.devRef .tc main_arg4)) := by
  refine (dats m 0 c).arrAt_eq_of_covers 9 _ (by decide +kernel) fun t hf y => ?_
  blk_simp
  rw [after0_9]
  have q0 : ((((cfg0.win 9).blk t).view.emb y : S2x4x2048x512.Idx) 0).val = t.val / 4 := by
    blk_simp [e9]
  have q1 : ((((cfg0.win 9).blk t).view.emb y : S2x4x2048x512.Idx) 2).val = t.val % 4 * 512 + (y 2).val := by
    blk_simp [e9]
  have q2 : ((((cfg0.win 9).blk t).view.emb y : S2x4x2048x512.Idx) 1).val = (y 1).val := by
    blk_simp [e9]
  have q3 : ((((cfg0.win 9).blk t).view.emb y : S2x4x2048x512.Idx) 3).val = (y 3).val := by
    blk_simp [e9]
  refine (rec _ _ _ _ _ _ _ _ _).trans ?_
  refine (prow m c t _ _ _ q0 q1 _).trans (ref23 _ _ _ _ _ _ _ ?_).symm
  rw [q2, q3]

theorem arr12 : (dats m 0 c).arrAt 12 cfg0.N =
    Cert.InProjRefIdeal.Read.val_main_v28 (F := Ideal) (m (c, Proc.devRef .tc main_arg0)) (m (c, Proc.devRef .tc main_arg1)) (m (c, Proc.devRef .tc main_arg2)) (m (c, Proc.devRef .tc main_arg3)) (m (c, Proc.devRef .tc main_arg4)) := by
  refine (dats m 0 c).arrAt_eq_of_covers 12 _ (by decide +kernel) fun t hf y => ?_
  blk_simp
  rw [after0_12]
  have q0 : ((((cfg0.win 12).blk t).view.emb y : S2x2x2048x64.Idx) 0).val = t.val / 4 := by
    blk_simp [e12]
  have q1 : ((((cfg0.win 12).blk t).view.emb y : S2x2x2048x64.Idx) 2).val = t.val % 4 * 512 + (y 2).val := by
    blk_simp [e12]
  have q2 : ((((cfg0.win 12).blk t).view.emb y : S2x2x2048x64.Idx) 1).val = (y 1).val := by
    blk_simp [e12]
  have q3 : ((((cfg0.win 12).blk t).view.emb y : S2x2x2048x64.Idx) 3).val = (y 3).val := by
    blk_simp [e12]
  refine (val _ _ _ _ _ _ _ _ _).trans ?_
  refine (prow m c t _ _ _ q0 q1 _).trans (ref28 _ _ _ _ _ _ _ ?_).symm
  rw [q2, q3]

end Cert.InProjVal
-- ==== Proof.InProjCall.lean ====
/-
  The frames and the value of the call that projects into the mixer.
-/
module

public import proofs.«01_k».proof.Defs
public import proofs.«01_k».proof.Proof.Gen.InProj
public import proofs.«01_k».proof.Proof.Gen.InProjIdeal
public import proofs.«01_k».proof.Proof.Gen.InProjRefIdeal
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.InProjVal
public import Idealize.ShloMosaic.Adequacy
public import Idealize.ShloMosaic.Init

@[expose] public section

noncomputable section

namespace Cert.Calls

open Idealize.ShloMosaic Idealize.SL.Sem

theorem frame_InProj_p : Cert.quiescent_InProj := fun m ρ _ => Cert.InProj.Gen.frame m ρ

theorem frame_InProj_pi : Cert.quiescent_InProjIdeal := fun m ρ _ => Cert.InProjIdeal.Gen.frame m ρ

theorem frame_InProj_ri : Cert.quiescent_InProjRefIdeal := fun m ρ _ =>
  (θ_run Cert.InProjRefIdeal.defs _ _).mono
    (fun r h => ⟨fun c => (h c).2.2.2, Idealize.ShloMosaic.sem_eq_zero_of_no_sems (by decide) r.2⟩)
    (Cert.InProjRefIdeal.Value.run (F := Ideal) m ρ)

theorem values_InProj : Cert.algebraic_InProjIdeal_InProjRefIdeal := by
  intro m g m' g' _ ha
  refine ⟨fun c => Cert.InProjRefIdeal.Read.val_main_v27 (F := Ideal) (m (c, Proc.devRef .tc Cert.InProjIdeal.main_arg0)) (m (c, Proc.devRef .tc Cert.InProjIdeal.main_arg1)) (m (c, Proc.devRef .tc Cert.InProjIdeal.main_arg2)) (m (c, Proc.devRef .tc Cert.InProjIdeal.main_arg3)),
    fun c => Cert.InProjRefIdeal.Read.val_main_v23 (F := Ideal) (m (c, Proc.devRef .tc Cert.InProjIdeal.main_arg0)) (m (c, Proc.devRef .tc Cert.InProjIdeal.main_arg1)) (m (c, Proc.devRef .tc Cert.InProjIdeal.main_arg2)) (m (c, Proc.devRef .tc Cert.InProjIdeal.main_arg3)) (m (c, Proc.devRef .tc Cert.InProjIdeal.main_arg4)),
    fun c => Cert.InProjRefIdeal.Read.val_main_v28 (F := Ideal) (m (c, Proc.devRef .tc Cert.InProjIdeal.main_arg0)) (m (c, Proc.devRef .tc Cert.InProjIdeal.main_arg1)) (m (c, Proc.devRef .tc Cert.InProjIdeal.main_arg2)) (m (c, Proc.devRef .tc Cert.InProjIdeal.main_arg3)) (m (c, Proc.devRef .tc Cert.InProjIdeal.main_arg4)), ?_, ?_⟩
  · exact (θ_run Cert.InProjIdeal.defs _ _).mono (fun r h c => ⟨(h c).1.trans (Cert.InProjVal.arr8 m c),
      (h c).2.1.trans (Cert.InProjVal.arr9 m c), (h c).2.2.2.2.1.trans (Cert.InProjVal.arr12 m c), (h c).2.2.2.2.2⟩)
      (Cert.InProjIdeal.Value.run_blocks m g)
  · refine (θ_run Cert.InProjRefIdeal.defs _ _).mono (fun r h c => ?_) (Cert.InProjRefIdeal.Value.run (F := Ideal) m' g')
    obtain ⟨a0, a1, a2, a3, a4⟩ := ha c
    exact ⟨((h c).1.trans (Cert.InProjRefIdeal.Read.val_main_v27_eq _ _ _ _)).trans
        (congr (congr (congr (congrArg (Cert.InProjRefIdeal.Read.val_main_v27 (F := Ideal)) a0) a1) a2) a3),
      ((h c).2.1.trans (Cert.InProjRefIdeal.Read.val_main_v23_eq _ _ _ _ _)).trans
        (congr (congr (congr (congr (congrArg (Cert.InProjRefIdeal.Read.val_main_v23 (F := Ideal)) a0) a1) a2) a3) a4),
      ((h c).2.2.1.trans (Cert.InProjRefIdeal.Read.val_main_v28_eq _ _ _ _ _)).trans
        (congr (congr (congr (congr (congrArg (Cert.InProjRefIdeal.Read.val_main_v28 (F := Ideal)) a0) a1) a2) a3) a4),
      (h c).2.2.2⟩

end Cert.Calls

end
-- ==== Proof.Act.lean ====
/-
  The product of a number and its logistic value, as both programs compute it.
-/
module

public import proofs.«01_k».proof.Proof.Prod

@[expose] public section

noncomputable section

namespace Cert.Act

open Idealize.ShloMosaic Idealize.ShloMosaic.TcCoe

/-- A number times its logistic value. -/
def silu (x : EReal) : EReal :=
  x * Ideal.div (Ideal.ofBits .f32 0x3F800000#32) (Ideal.ofBits .f32 0x3F800000#32 + Ideal.exp (-x))

/-- The same where the negation is a difference from zero. -/
theorem silu_sub (x : EReal) :
    x * Ideal.div (Ideal.ofBits .f32 0x3F800000#32) (Ideal.ofBits .f32 0x3F800000#32 + Ideal.exp (Ideal.ofBits .f32 0x00000000#32 - x)) = silu x := by
  rw [Ideal.ofBits_zero_f32, zero_sub]
  rfl

end Cert.Act
-- ==== Proof.AdaFwdVal.lean ====
/-
  The product that makes the modulation: each block of the kernel's array is the reference's.
-/
module

public import proofs.«01_k».proof.Proof.Act
public import proofs.«01_k».proof.Proof.Gen.AdaFwdIdeal.Value
public import proofs.«01_k».proof.Proof.Gen.AdaFwdRefIdeal.Read
public import proofs.«01_k».proof.Defs
public import Idealize.ShloMosaic.Lib.Pipeline.ValueKit

@[expose] public section

set_option maxRecDepth 16384

noncomputable section

namespace Cert.AdaFwdVal

open Idealize.ShloMosaic Idealize.ShloMosaic.TcCoe Idealize.SL.Sem
open Cert.AdaFwdIdeal Cert.AdaFwdIdeal.Gen
open scoped BigOperators

variable (m : (ℓ : Loc nD τ sig) → Buf (Elt Ideal) ℓ) (c : Dev nD)

theorem e0 : ∀ t : Fin cfg0.N, win0_0.index t = ![0, 0] :=
  (by decide +kernel : ∀ t : Fin grid0.N, win0_0.index t = ![0, 0])
theorem e1 : ∀ t : Fin cfg0.N, win0_1.index t = ![0, t.val] :=
  (by decide +kernel : ∀ t : Fin grid0.N, win0_1.index t = ![0, t.val])
theorem e2 : ∀ t : Fin cfg0.N, win0_2.index t = ![0, t.val] :=
  (by decide +kernel : ∀ t : Fin grid0.N, win0_2.index t = ![0, t.val])
theorem e3 : ∀ t : Fin cfg0.N, win0_3.index t = ![0, t.val] :=
  (by decide +kernel : ∀ t : Fin grid0.N, win0_3.index t = ![0, t.val])

theorem pay (x : Vec Ideal S16x1024 .f32) (y : Vec Ideal S1024x512 .f32) (b : Vec Ideal S1x512 .f32) (i : S16x512.Idx) :
    k0_pay1 x y b i = (∑ k : Fin 1024, Act.silu (x (ValueIdx.ix2 (i 0) k)) * y (ValueIdx.ix2 k (i 1))) + b (ValueIdx.ix2 (0 : Fin 1) (i 1)) := by
  unfold k0_pay1
  refine congrArg₂ (fun u v : EReal => u + v) ?_ ?_
  · refine (Prod.nn (a := 16) (b := 1024) (c := 512) _ _ none i).trans ?_
    exact Prod.dot_congr (fun k => Act.silu_sub _) (fun k => rfl)
  · refine congrArg b ?_
    funext ax; apply Fin.ext
    match ax with | ⟨0, _⟩ => rfl | ⟨1, _⟩ => rfl

theorem arr : (dats m 0 c).arrAt 3 cfg0.N =
    Cert.AdaFwdRefIdeal.Read.val_main_v3 (F := Ideal) (m (c, Proc.devRef .tc main_arg0)) (m (c, Proc.devRef .tc main_arg1)) (m (c, Proc.devRef .tc main_arg2)) := by
  refine (dats m 0 c).arrAt_eq_of_covers 3 _ (by decide +kernel) fun t hf y => ?_
  blk_simp
  rw [after0_3]
  frame_out
  refine (pay _ _ _ _).trans ?_
  rw [Cert.AdaFwdRefIdeal.Read.val_main_v3_apply, Cert.AdaFwdRefIdeal.Read.val_main_v1_apply, Cert.AdaFwdRefIdeal.Read.val_main_v2_apply]
  refine congrArg₂ (fun u v : EReal => u + v) (Prod.dot_congr (fun k => ?_) (fun k => ?_)) ?_
  · refine Eq.trans (congrArg Act.silu ?_) (b := Act.silu (m (c, Proc.devRef .tc main_arg0)
      (Cert.AdaFwdRefIdeal.Read.lidx_main_v1 ((win0_3.blk t).view.emb y) k))) rfl
    refine Eq.trans ?_ (congrFun (V_main_arg0 m c) _)
    blk_simp [iblk]
    refine congrArg (V m c main_arg0) ?_
    blk_ext [e0, e3]
  · refine Eq.trans ?_ (congrFun (V_main_arg1 m c) _)
    blk_simp [iblk]
    refine congrArg (V m c main_arg1) ?_
    blk_ext [e1, e3]
  · refine Eq.trans ?_ (congrFun (V_main_arg2 m c) _)
    blk_simp [iblk]
    refine congrArg (V m c main_arg2) ?_
    blk_ext [e2, e3]

end Cert.AdaFwdVal
-- ==== Proof.AdaFwdCall.lean ====
/-
  The frames and the value of the call that makes the modulation.
-/
module

public import proofs.«01_k».proof.Defs
public import proofs.«01_k».proof.Proof.Gen.AdaFwd
public import proofs.«01_k».proof.Proof.Gen.AdaFwdIdeal
public import proofs.«01_k».proof.Proof.Gen.AdaFwdRefIdeal
public import proofs.«01_k».proof.Proof.Gen.AdaFwd.Frame
public import proofs.«01_k».proof.Proof.Gen.AdaFwdIdeal.Frame
public import proofs.«01_k».proof.Proof.Gen.AdaFwdIdeal.Value
public import proofs.«01_k».proof.Proof.Gen.AdaFwdRefIdeal.Run
public import proofs.«01_k».proof.Proof.Gen.AdaFwdRefIdeal.Read
public import proofs.«01_k».proof.Proof.AdaFwdVal
public import Idealize.ShloMosaic.Adequacy
public import Idealize.ShloMosaic.Init

@[expose] public section

noncomputable section

namespace Cert.Calls

open Idealize.ShloMosaic Idealize.SL.Sem

theorem frame_AdaFwd_p : Cert.quiescent_AdaFwd := fun m ρ _ => Cert.AdaFwd.Gen.frame m ρ

theorem frame_AdaFwd_pi : Cert.quiescent_AdaFwdIdeal := fun m ρ _ => Cert.AdaFwdIdeal.Gen.frame m ρ

theorem frame_AdaFwd_ri : Cert.quiescent_AdaFwdRefIdeal := fun m ρ _ =>
  (θ_run Cert.AdaFwdRefIdeal.defs _ _).mono
    (fun r h => ⟨fun c => (h c).2, Idealize.ShloMosaic.sem_eq_zero_of_no_sems (by decide) r.2⟩)
    (Cert.AdaFwdRefIdeal.Value.run (F := Ideal) m ρ)

theorem values_AdaFwd : Cert.algebraic_AdaFwdIdeal_AdaFwdRefIdeal := by
  intro m g m' g' _ ha
  refine ⟨fun c => Cert.AdaFwdRefIdeal.Read.val_main_v3 (F := Ideal) (m (c, Proc.devRef .tc Cert.AdaFwdIdeal.main_arg0)) (m (c, Proc.devRef .tc Cert.AdaFwdIdeal.main_arg1)) (m (c, Proc.devRef .tc Cert.AdaFwdIdeal.main_arg2)), ?_, ?_⟩
  · exact (θ_run Cert.AdaFwdIdeal.defs _ _).mono (fun r h c => ⟨(h c).1.trans (Cert.AdaFwdVal.arr m c), (h c).2⟩)
      (Cert.AdaFwdIdeal.Value.run_blocks m g)
  · refine (θ_run Cert.AdaFwdRefIdeal.defs _ _).mono (fun r h c => ?_) (Cert.AdaFwdRefIdeal.Value.run (F := Ideal) m' g')
    obtain ⟨a0, a1, a2⟩ := ha c
    exact ⟨((h c).1.trans (Cert.AdaFwdRefIdeal.Read.val_main_v3_eq _ _ _)).trans
        (congr (congr (congrArg (Cert.AdaFwdRefIdeal.Read.val_main_v3 (F := Ideal)) a0) a1) a2),
      (h c).2⟩

end Cert.Calls

end
-- ==== Proof.AdaStepVal.lean ====
/-
  The gradient of the modulation's matrix and its step: each block of the kernel's four arrays is the reference's.
-/
module

public import proofs.«01_k».proof.Proof.Act
public import proofs.«01_k».proof.Proof.Gen.AdaStepIdeal.Value
public import proofs.«01_k».proof.Proof.Gen.AdaStepRefIdeal.Read
public import proofs.«01_k».proof.Defs
public import Idealize.ShloMosaic.Lib.Pipeline.ValueKit

@[expose] public section

set_option maxRecDepth 16384

noncomputable section

namespace Cert.AdaStepVal

open Idealize.ShloMosaic Idealize.ShloMosaic.TcCoe Idealize.SL.Sem
open Cert.AdaStepIdeal Cert.AdaStepIdeal.Gen
open scoped BigOperators

/-- The new mean of the gradient. -/
def mean (g m : EReal) : EReal := Ideal.ofBits .f32 0x3F666666#32 * m + Ideal.ofBits .f32 0x3DCCCCCD#32 * g
/-- The new mean of its square. -/
def sq (g v : EReal) : EReal := Ideal.ofBits .f32 0x3F7FBE77#32 * v + Ideal.ofBits .f32 0x3A83126F#32 * (g * g)
/-- The change of the weight. -/
def delta (g w m v : EReal) : EReal :=
  Ideal.ofBits .f32 0xBA83126F#32 * (Ideal.div (Ideal.div (mean g m) (Ideal.ofBits .f32 0x3F26BD02#32))
    (Ideal.sqrt (Ideal.div (sq g v) (Ideal.ofBits .f32 0x3C231ACC#32)) + Ideal.ofBits .f32 0x322BCC77#32)
    + Ideal.ofBits .f32 0x3C23D70A#32 * w)

section Payloads
variable (x : Vec Ideal S16x1024 .f32) (y : Vec Ideal S16x256 .f32) (w p q : Vec Ideal S1024x256 .f32) (i : S1024x256.Idx)

theorem pay2 : k0_pay2 x y i = ∑ k : Fin 16, Act.silu (x (ValueIdx.ix2 k (i 0))) * y (ValueIdx.ix2 k (i 1)) := by
  unfold k0_pay2
  refine (Prod.tn (a := 1024) (b := 16) (c := 256) _ _ none i).trans ?_
  exact Prod.dot_congr (fun k => Act.silu_sub _) (fun k => rfl)

theorem pay3 : k0_pay3 x y p i = mean (k0_pay2 x y i) (p i) := rfl
theorem pay4 : k0_pay4 x y q i = sq (k0_pay2 x y i) (q i) := rfl
theorem pay1 : k0_pay1 w (k0_pay5 x y p) (k0_pay6 x y q) i = delta (k0_pay2 x y i) (w i) (p i) (q i) := rfl

end Payloads

section Reference
variable (x0 : (⟨S16x1024, .f32⟩ : BufTy).Contents (Elt Ideal)) (x1 : (⟨S16x1536, .f32⟩ : BufTy).Contents (Elt Ideal))
  (x2 x3 x4 : (⟨S1024x1536, .f32⟩ : BufTy).Contents (Elt Ideal)) (i : S1024x1536.Idx)

open Cert.AdaStepRefIdeal.Read

theorem ref8 : val_main_v8 (F := Ideal) x0 x1 x3 i = mean (val_main_v3 (F := Ideal) x0 x1 i) (x3 i) := by
  rw [val_main_v8_apply, val_main_v5_apply, val_main_v7_apply, val_main_v4_apply, val_main_v6_apply]
  rfl
theorem ref14 : val_main_v14 (F := Ideal) x0 x1 x4 i = sq (val_main_v3 (F := Ideal) x0 x1 i) (x4 i) := by
  rw [val_main_v14_apply, val_main_v10_apply, val_main_v13_apply, val_main_v9_apply, val_main_v12_apply, val_main_v11_apply]
  rfl
theorem ref27 : val_main_v27 (F := Ideal) x0 x1 x2 x3 x4 i = delta (val_main_v3 (F := Ideal) x0 x1 i) (x2 i) (x3 i) (x4 i) := by
  rw [val_main_v27_apply, val_main_v26_apply, val_main_v25_apply, val_main_v24_apply, val_main_v23_apply, val_main_v22_apply, val_main_v21_apply,
    val_main_v20_apply, val_main_v19_apply, val_main_v18_apply, val_main_v17_apply, val_main_v16_apply, val_main_v15_apply, ref8, ref14]
  rfl

end Reference

variable (m : (ℓ : Loc nD τ sig) → Buf (Elt Ideal) ℓ) (c : Dev nD)

theorem e0 : ∀ t : Fin cfg0.N, win0_0.index t = ![0, 0] :=
  (by decide +kernel : ∀ t : Fin grid0.N, win0_0.index t = ![0, 0])
theorem e1 : ∀ t : Fin cfg0.N, win0_1.index t = ![0, t.val] :=
  (by decide +kernel : ∀ t : Fin grid0.N, win0_1.index t = ![0, t.val])
theorem e2 : ∀ t : Fin cfg0.N, win0_2.index t = ![0, t.val] :=
  (by decide +kernel : ∀ t : Fin grid0.N, win0_2.index t = ![0, t.val])
theorem e3 : ∀ t : Fin cfg0.N, win0_3.index t = ![0, t.val] :=
  (by decide +kernel : ∀ t : Fin grid0.N, win0_3.index t = ![0, t.val])
theorem e4 : ∀ t : Fin cfg0.N, win0_4.index t = ![0, t.val] :=
  (by decide +kernel : ∀ t : Fin grid0.N, win0_4.index t = ![0, t.val])
theorem e5 : ∀ t : Fin cfg0.N, win0_5.index t = ![0, t.val] :=
  (by decide +kernel : ∀ t : Fin grid0.N, win0_5.index t = ![0, t.val])
theorem e6 : ∀ t : Fin cfg0.N, win0_6.index t = ![0, t.val] :=
  (by decide +kernel : ∀ t : Fin grid0.N, win0_6.index t = ![0, t.val])
theorem e7 : ∀ t : Fin cfg0.N, win0_7.index t = ![0, t.val] :=
  (by decide +kernel : ∀ t : Fin grid0.N, win0_7.index t = ![0, t.val])
theorem e8 : ∀ t : Fin cfg0.N, win0_8.index t = ![0, t.val] :=
  (by decide +kernel : ∀ t : Fin grid0.N, win0_8.index t = ![0, t.val])

/-- The gradient's sum at a point of the grid is the reference's gradient at the place the block stands for. -/
theorem grad (t : Fin cfg0.N) (y : S1024x256.Idx) (i : S1024x1536.Idx) (h0 : (i 0).val = (y 0).val) (h1 : (i 1).val = t.val * 256 + (y 1).val) :
    k0_pay2 (iblk m c 0 t) (iblk m c 1 t) y = Cert.AdaStepRefIdeal.Read.val_main_v3 (F := Ideal) (m (c, Proc.devRef .tc main_arg0)) (m (c, Proc.devRef .tc main_arg1)) i := by
  refine (pay2 _ _ _).trans ?_
  rw [Cert.AdaStepRefIdeal.Read.val_main_v3_apply, Cert.AdaStepRefIdeal.Read.val_main_v2_apply]
  refine Prod.dot_comm (fun k => ?_) (fun k => ?_)
  · refine Eq.trans (congrArg Act.silu ?_) (b := Act.silu (m (c, Proc.devRef .tc main_arg0)
      (Cert.AdaStepRefIdeal.Read.ridx_main_v2 (Cert.AdaStepRefIdeal.Read.idx_main_v3 i) k))) rfl
    refine Eq.trans ?_ (congrFun (V_main_arg0 m c) _)
    blk_simp [iblk]
    refine congrArg (V m c main_arg0) ?_
    blk_ext [e0, h0]
  · refine Eq.trans ?_ (congrFun (V_main_arg1 m c) _)
    blk_simp [iblk]
    refine congrArg (V m c main_arg1) ?_
    blk_ext [e1, h1]

theorem b2 (t : Fin cfg0.N) (y : S1024x256.Idx) (i : S1024x1536.Idx) (h0 : (i 0).val = (y 0).val) (h1 : (i 1).val = t.val * 256 + (y 1).val) :
    iblk m c 2 t y = m (c, Proc.devRef .tc main_arg2) i := by
  refine Eq.trans ?_ (congrFun (V_main_arg2 m c) _)
  blk_simp [iblk]
  refine congrArg (V m c main_arg2) ?_
  blk_ext [e2, h0, h1]

theorem b3 (t : Fin cfg0.N) (y : S1024x256.Idx) (i : S1024x1536.Idx) (h0 : (i 0).val = (y 0).val) (h1 : (i 1).val = t.val * 256 + (y 1).val) :
    iblk m c 3 t y = m (c, Proc.devRef .tc main_arg3) i := by
  refine Eq.trans ?_ (congrFun (V_main_arg3 m c) _)
  blk_simp [iblk]
  refine congrArg (V m c main_arg3) ?_
  blk_ext [e3, h0, h1]

theorem b4 (t : Fin cfg0.N) (y : S1024x256.Idx) (i : S1024x1536.Idx) (h0 : (i 0).val = (y 0).val) (h1 : (i 1).val = t.val * 256 + (y 1).val) :
    iblk m c 4 t y = m (c, Proc.devRef .tc main_arg4) i := by
  refine Eq.trans ?_ (congrFun (V_main_arg4 m c) _)
  blk_simp [iblk]
  refine congrArg (V m c main_arg4) ?_
  blk_ext [e4, h0, h1]

theorem arr5 : (dats m 0 c).arrAt 5 cfg0.N =
    Cert.AdaStepRefIdeal.Read.val_main_v3 (F := Ideal) (m (c, Proc.devRef .tc main_arg0)) (m (c, Proc.devRef .tc main_arg1)) := by
  refine (dats m 0 c).arrAt_eq_of_covers 5 _ (by decide +kernel) fun t hf y => ?_
  blk_simp
  rw [after0_5]
  have q0 : ((((cfg0.win 5).blk t).view.emb y : S1024x1536.Idx) 0).val = (y 0).val := by
    blk_simp [e5]
  have q1 : ((((cfg0.win 5).blk t).view.emb y : S1024x1536.Idx) 1).val = t.val * 256 + (y 1).val := by
    blk_simp [e5]
  frame_out
  exact grad m c t _ _ q0 q1

theorem arr6 : (dats m 0 c).arrAt 6 cfg0.N =
    Cert.AdaStepRefIdeal.Read.val_main_v27 (F := Ideal) (m (c, Proc.devRef .tc main_arg0)) (m (c, Proc.devRef .tc main_arg1)) (m (c, Proc.devRef .tc main_arg2)) (m (c, Proc.devRef .tc main_arg3)) (m (c, Proc.devRef .tc main_arg4)) := by
  refine (dats m 0 c).arrAt_eq_of_covers 6 _ (by decide +kernel) fun t hf y => ?_
  blk_simp
  rw [after0_6]
  have q0 : ((((cfg0.win 6).blk t).view.emb y : S1024x1536.Idx) 0).val = (y 0).val := by
    blk_simp [e6]
  have q1 : ((((cfg0.win 6).blk t).view.emb y : S1024x1536.Idx) 1).val = t.val * 256 + (y 1).val := by
    blk_simp [e6]
  frame_out
  refine (pay1 _ _ _ _ _ _).trans (Eq.trans ?_ (ref27 _ _ _ _ _ _).symm)
  rw [grad m c t _ _ q0 q1, b2 m c t _ _ q0 q1, b3 m c t _ _ q0 q1, b4 m c t _ _ q0 q1]

theorem arr7 : (dats m 0 c).arrAt 7 cfg0.N =
    Cert.AdaStepRefIdeal.Read.val_main_v8 (F := Ideal) (m (c, Proc.devRef .tc main_arg0)) (m (c, Proc.devRef .tc main_arg1)) (m (c, Proc.devRef .tc main_arg3)) := by
  refine (dats m 0 c).arrAt_eq_of_covers 7 _ (by decide +kernel) fun t hf y => ?_
  blk_simp
  rw [after0_7]
  have q0 : ((((cfg0.win 7).blk t).view.emb y : S1024x1536.Idx) 0).val = (y 0).val := by
    blk_simp [e7]
  have q1 : ((((cfg0.win 7).blk t).view.emb y : S1024x1536.Idx) 1).val = t.val * 256 + (y 1).val := by
    blk_simp [e7]
  frame_out
  refine (pay3 _ _ _ _).trans (Eq.trans ?_ (ref8 _ _ _ _).symm)
  rw [grad m c t _ _ q0 q1, b3 m c t _ _ q0 q1]

theorem arr8 : (dats m 0 c).arrAt 8 cfg0.N =
    Cert.AdaStepRefIdeal.Read.val_main_v14 (F := Ideal) (m (c, Proc.devRef .tc main_arg0)) (m (c, Proc.devRef .tc main_arg1)) (m (c, Proc.devRef .tc main_arg4)) := by
  refine (dats m 0 c).arrAt_eq_of_covers 8 _ (by decide +kernel) fun t hf y => ?_
  blk_simp
  rw [after0_8]
  have q0 : ((((cfg0.win 8).blk t).view.emb y : S1024x1536.Idx) 0).val = (y 0).val := by
    blk_simp [e8]
  have q1 : ((((cfg0.win 8).blk t).view.emb y : S1024x1536.Idx) 1).val = t.val * 256 + (y 1).val := by
    blk_simp [e8]
  frame_out
  refine (pay4 _ _ _ _).trans (Eq.trans ?_ (ref14 _ _ _ _).symm)
  rw [grad m c t _ _ q0 q1, b4 m c t _ _ q0 q1]

end Cert.AdaStepVal
-- ==== Proof.AdaStepCall.lean ====
/-
  The frames and the values of the call that steps the matrix of the modulation.
-/
module

public import proofs.«01_k».proof.Defs
public import proofs.«01_k».proof.Proof.Gen.AdaStep
public import proofs.«01_k».proof.Proof.Gen.AdaStepIdeal
public import proofs.«01_k».proof.Proof.Gen.AdaStepRefIdeal
public import proofs.«01_k».proof.Proof.Gen.AdaStep.Frame
public import proofs.«01_k».proof.Proof.Gen.AdaStepIdeal.Frame
public import proofs.«01_k».proof.Proof.Gen.AdaStepIdeal.Value
public import proofs.«01_k».proof.Proof.Gen.AdaStepRefIdeal.Run
public import proofs.«01_k».proof.Proof.Gen.AdaStepRefIdeal.Read
public import proofs.«01_k».proof.Proof.AdaStepVal
public import Idealize.ShloMosaic.Adequacy
public import Idealize.ShloMosaic.Init

@[expose] public section

noncomputable section

namespace Cert.Calls

open Idealize.ShloMosaic Idealize.SL.Sem

theorem frame_AdaStep_p : Cert.quiescent_AdaStep := fun m ρ _ => Cert.AdaStep.Gen.frame m ρ

theorem frame_AdaStep_pi : Cert.quiescent_AdaStepIdeal := fun m ρ _ => Cert.AdaStepIdeal.Gen.frame m ρ

theorem frame_AdaStep_ri : Cert.quiescent_AdaStepRefIdeal := fun m ρ _ =>
  (θ_run Cert.AdaStepRefIdeal.defs _ _).mono
    (fun r h => ⟨fun c => (h c).2.2.2.2, Idealize.ShloMosaic.sem_eq_zero_of_no_sems (by decide) r.2⟩)
    (Cert.AdaStepRefIdeal.Value.run (F := Ideal) m ρ)

theorem values_AdaStep : Cert.algebraic_AdaStepIdeal_AdaStepRefIdeal := by
  intro m g m' g' _ ha
  refine ⟨fun c => Cert.AdaStepRefIdeal.Read.val_main_v3 (F := Ideal) (m (c, Proc.devRef .tc Cert.AdaStepIdeal.main_arg0)) (m (c, Proc.devRef .tc Cert.AdaStepIdeal.main_arg1)),
    fun c => Cert.AdaStepRefIdeal.Read.val_main_v27 (F := Ideal) (m (c, Proc.devRef .tc Cert.AdaStepIdeal.main_arg0)) (m (c, Proc.devRef .tc Cert.AdaStepIdeal.main_arg1)) (m (c, Proc.devRef .tc Cert.AdaStepIdeal.main_arg2)) (m (c, Proc.devRef .tc Cert.AdaStepIdeal.main_arg3)) (m (c, Proc.devRef .tc Cert.AdaStepIdeal.main_arg4)),
    fun c => Cert.AdaStepRefIdeal.Read.val_main_v8 (F := Ideal) (m (c, Proc.devRef .tc Cert.AdaStepIdeal.main_arg0)) (m (c, Proc.devRef .tc Cert.AdaStepIdeal.main_arg1)) (m (c, Proc.devRef .tc Cert.AdaStepIdeal.main_arg3)),
    fun c => Cert.AdaStepRefIdeal.Read.val_main_v14 (F := Ideal) (m (c, Proc.devRef .tc Cert.AdaStepIdeal.main_arg0)) (m (c, Proc.devRef .tc Cert.AdaStepIdeal.main_arg1)) (m (c, Proc.devRef .tc Cert.AdaStepIdeal.main_arg4)), ?_, ?_⟩
  · exact (θ_run Cert.AdaStepIdeal.defs _ _).mono (fun r h c => ⟨(h c).1.trans (Cert.AdaStepVal.arr5 m c), (h c).2.1.trans (Cert.AdaStepVal.arr6 m c), (h c).2.2.1.trans (Cert.AdaStepVal.arr7 m c), (h c).2.2.2.1.trans (Cert.AdaStepVal.arr8 m c), (h c).2.2.2.2⟩)
      (Cert.AdaStepIdeal.Value.run_blocks m g)
  · refine (θ_run Cert.AdaStepRefIdeal.defs _ _).mono (fun r h c => ?_) (Cert.AdaStepRefIdeal.Value.run (F := Ideal) m' g')
    obtain ⟨a0, a1, a2, a3, a4⟩ := ha c
    exact ⟨((h c).1.trans (Cert.AdaStepRefIdeal.Read.val_main_v3_eq _ _)).trans
        (congr (congrArg (Cert.AdaStepRefIdeal.Read.val_main_v3 (F := Ideal)) a0) a1),
      ((h c).2.1.trans (Cert.AdaStepRefIdeal.Read.val_main_v27_eq _ _ _ _ _)).trans
        (congr (congr (congr (congr (congrArg (Cert.AdaStepRefIdeal.Read.val_main_v27 (F := Ideal)) a0) a1) a2) a3) a4),
      ((h c).2.2.1.trans (Cert.AdaStepRefIdeal.Read.val_main_v8_eq _ _ _)).trans
        (congr (congr (congrArg (Cert.AdaStepRefIdeal.Read.val_main_v8 (F := Ideal)) a0) a1) a3),
      ((h c).2.2.2.1.trans (Cert.AdaStepRefIdeal.Read.val_main_v14_eq _ _ _)).trans
        (congr (congr (congrArg (Cert.AdaStepRefIdeal.Read.val_main_v14 (F := Ideal)) a0) a1) a4),
      (h c).2.2.2.2⟩

end Cert.Calls

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Last
public import proofs.«01_k».proof.Proof.Ref5
public import proofs.«01_k».proof.Proof.Calls
public import proofs.«01_k».proof.Proof.DownProjCall
public import proofs.«01_k».proof.Proof.OutProjCall
public import proofs.«01_k».proof.Proof.InProjCall
public import proofs.«01_k».proof.Proof.AdaFwdCall
public import proofs.«01_k».proof.Proof.AdaStepCall
public import Idealize.ShloMosaic.Adequacy
public import Idealize.ShloMosaic.Init

@[expose] public section

noncomputable section

namespace Cert.Proof

open Idealize.ShloMosaic Idealize.SL.Sem Cert.Kernel

/-- The kernel as printed runs and leaves its arguments. -/
theorem frame_p : Cert.quiescent_Kernel := fun m ρ _ => Cert.Kernel.Gen.frame m ρ

/-- The idealized kernel runs and leaves its arguments. -/
theorem frame_pi : Cert.quiescent_KernelIdeal := fun m ρ _ => Cert.KernelIdeal.Gen.frame m ρ

/-- The reference runs and leaves its arguments. -/
theorem frame_ri : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

open Cert.ReferenceIdeal.Read (val_main_v318 val_main_v212 val_main_v273 val_main_v318_eq val_main_v212_eq val_main_v273_eq) in
/-- At real numbers the kernel's three arrays are the gradients the reference takes. -/
theorem values : Cert.algebraic_KernelIdeal_ReferenceIdeal_pre_finite := by
  intro m g m' g' hp ha
  have H := fun c => Cert.Body.nums_r m c hp
  refine ⟨fun c => val_main_v318 (F := Ideal) (m (c, Proc.devRef .tc Cert.KernelIdeal.main_arg0)) (m (c, Proc.devRef .tc Cert.KernelIdeal.main_arg1))
      (m (c, Proc.devRef .tc Cert.KernelIdeal.main_arg2)) (m (c, Proc.devRef .tc Cert.KernelIdeal.main_arg3)) (m (c, Proc.devRef .tc Cert.KernelIdeal.main_arg4))
      (m (c, Proc.devRef .tc Cert.KernelIdeal.main_arg5)) (m (c, Proc.devRef .tc Cert.KernelIdeal.main_arg6)),
    fun c => val_main_v212 (F := Ideal) (m (c, Proc.devRef .tc Cert.KernelIdeal.main_arg0)) (m (c, Proc.devRef .tc Cert.KernelIdeal.main_arg1))
      (m (c, Proc.devRef .tc Cert.KernelIdeal.main_arg2)) (m (c, Proc.devRef .tc Cert.KernelIdeal.main_arg3))
      (m (c, Proc.devRef .tc Cert.KernelIdeal.main_arg5)),
    fun c => val_main_v273 (F := Ideal) (m (c, Proc.devRef .tc Cert.KernelIdeal.main_arg0)) (m (c, Proc.devRef .tc Cert.KernelIdeal.main_arg1))
      (m (c, Proc.devRef .tc Cert.KernelIdeal.main_arg2)) (m (c, Proc.devRef .tc Cert.KernelIdeal.main_arg3)) (m (c, Proc.devRef .tc Cert.KernelIdeal.main_arg4))
      (m (c, Proc.devRef .tc Cert.KernelIdeal.main_arg5)), ?_, ?_⟩
  · refine (θ_run Cert.KernelIdeal.defs _ _).mono (fun r h c => ?_) (Cert.KernelIdeal.Value.run_blocks m g)
    obtain ⟨h0, h1, h2, hk⟩ := h c
    refine ⟨h0.trans ?_, h1.trans ?_, h2.trans ?_, hk⟩
    · exact (Cert.Body.arr15 (H c)).trans (funext fun i => (Cert.Ref.r318 (H c) _ i).symm)
    · exact (Cert.Body.arr16 (H c)).trans (funext fun i => (Cert.Ref.r212 (H c) i).symm)
    · exact (Cert.Body.arr17 (H c)).trans (funext fun i => (Cert.Ref.r273 (H c) i).symm)
  · refine (θ_run Cert.ReferenceIdeal.defs _ _).mono (fun r h c => ?_) (Cert.ReferenceIdeal.Value.run (F := Ideal) m' g')
    obtain ⟨h0, h1, h2, hk⟩ := h c
    obtain ⟨a0, a1, a2, a3, a4, a5, a6⟩ := ha c
    refine ⟨(h0.trans (val_main_v318_eq _)).trans ?_, (h1.trans (val_main_v212_eq _)).trans ?_, (h2.trans (val_main_v273_eq _)).trans ?_, hk⟩
    · exact congr (congr (congr (congr (congr (congr (congrArg (val_main_v318 (F := Ideal)) a0) a1) a2) a3) a4) a5) a6
    · exact congr (congr (congr (congr (congrArg (val_main_v212 (F := Ideal)) a0) a1) a2) a3) a5
    · exact congr (congr (congr (congr (congr (congrArg (val_main_v273 (F := Ideal)) a0) a1) a2) a3) a4) a5

theorem claim : Cert.Claim :=
  ⟨Cert.Kernel.Gen.facts, Cert.KernelIdeal.Gen.facts, Cert.ReferenceIdeal.Gen.facts, Cert.UpProj.Gen.facts, Cert.UpProjIdeal.Gen.facts, Cert.UpProjRefIdeal.Gen.facts, Cert.DownBwd.Gen.facts, Cert.DownBwdIdeal.Gen.facts, Cert.DownBwdRefIdeal.Gen.facts, Cert.DownWgrad.Gen.facts, Cert.DownWgradIdeal.Gen.facts, Cert.DownWgradRefIdeal.Gen.facts, Cert.UpWgrad.Gen.facts, Cert.UpWgradIdeal.Gen.facts, Cert.UpWgradRefIdeal.Gen.facts, Cert.OutBwd.Gen.facts, Cert.OutBwdIdeal.Gen.facts, Cert.OutBwdRefIdeal.Gen.facts, Cert.OutWgrad.Gen.facts, Cert.OutWgradIdeal.Gen.facts, Cert.OutWgradRefIdeal.Gen.facts, Cert.InWgrad.Gen.facts, Cert.InWgradIdeal.Gen.facts, Cert.InWgradRefIdeal.Gen.facts, Cert.InBwd.Gen.facts, Cert.InBwdIdeal.Gen.facts, Cert.InBwdRefIdeal.Gen.facts, Cert.DownProj.Gen.facts, Cert.DownProjIdeal.Gen.facts, Cert.DownProjRefIdeal.Gen.facts, Cert.OutProj.Gen.facts, Cert.OutProjIdeal.Gen.facts, Cert.OutProjRefIdeal.Gen.facts, Cert.InProj.Gen.facts, Cert.InProjIdeal.Gen.facts, Cert.InProjRefIdeal.Gen.facts, Cert.AdaFwd.Gen.facts, Cert.AdaFwdIdeal.Gen.facts, Cert.AdaFwdRefIdeal.Gen.facts, Cert.AdaStep.Gen.facts, Cert.AdaStepIdeal.Gen.facts, Cert.AdaStepRefIdeal.Gen.facts, Cert.Pre_finite.Gen.facts,
    frame_p, frame_pi, fun m ρ _ => frame_pi m ρ trivial, frame_ri, fun m ρ _ => frame_ri m ρ trivial,
    Cert.Calls.frame_UpProj_p, Cert.Calls.frame_UpProj_pi, Cert.Calls.frame_UpProj_ri,
    Cert.Calls.frame_DownBwd_p, Cert.Calls.frame_DownBwd_pi, Cert.Calls.frame_DownBwd_ri,
    Cert.Calls.frame_DownWgrad_p, Cert.Calls.frame_DownWgrad_pi, Cert.Calls.frame_DownWgrad_ri,
    Cert.Calls.frame_UpWgrad_p, Cert.Calls.frame_UpWgrad_pi, Cert.Calls.frame_UpWgrad_ri,
    Cert.Calls.frame_OutBwd_p, Cert.Calls.frame_OutBwd_pi, Cert.Calls.frame_OutBwd_ri,
    Cert.Calls.frame_OutWgrad_p, Cert.Calls.frame_OutWgrad_pi, Cert.Calls.frame_OutWgrad_ri,
    Cert.Calls.frame_InWgrad_p, Cert.Calls.frame_InWgrad_pi, Cert.Calls.frame_InWgrad_ri,
    Cert.Calls.frame_InBwd_p, Cert.Calls.frame_InBwd_pi, Cert.Calls.frame_InBwd_ri,
    Cert.Calls.frame_DownProj_p, Cert.Calls.frame_DownProj_pi, Cert.Calls.frame_DownProj_ri,
    Cert.Calls.frame_OutProj_p, Cert.Calls.frame_OutProj_pi, Cert.Calls.frame_OutProj_ri,
    Cert.Calls.frame_InProj_p, Cert.Calls.frame_InProj_pi, Cert.Calls.frame_InProj_ri,
    Cert.Calls.frame_AdaFwd_p, Cert.Calls.frame_AdaFwd_pi, Cert.Calls.frame_AdaFwd_ri,
    Cert.Calls.frame_AdaStep_p, Cert.Calls.frame_AdaStep_pi, Cert.Calls.frame_AdaStep_ri,
    trivial, values, trivial, Cert.Calls.values_UpProj, trivial, Cert.Calls.values_DownBwd, trivial, Cert.Calls.values_DownWgrad, trivial, Cert.Calls.values_UpWgrad, trivial, Cert.Calls.values_OutBwd, trivial, Cert.Calls.values_OutWgrad, trivial, Cert.Calls.values_InWgrad, trivial, Cert.Calls.values_InBwd, trivial, Cert.Calls.values_DownProj, trivial, Cert.Calls.values_OutProj, trivial, Cert.Calls.values_InProj, trivial, Cert.Calls.values_AdaFwd, trivial, Cert.Calls.values_AdaStep⟩

end Cert.Proof

end
